-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_reach [hPre_within_reach : Cert.Pre_within_reach.Facts] (m : (ℓ : Loc Cert.KernelIdeal.nD Cert.KernelIdeal.τ Cert.KernelIdeal.sig) → Buf (Elt Ideal) ℓ) : Prop :=
  ∀ c : Dev Cert.KernelIdeal.nD,
    (Cert.Pre_within_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_reach [hPre_within_reach : Cert.Pre_within_reach.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_reach.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_within_reach [hKernelIdeal : Cert.KernelIdeal.Facts] [hPre_within_reach : Cert.Pre_within_reach.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_reach m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_within_reach [hReferenceIdeal : Cert.ReferenceIdeal.Facts] [hPre_within_reach : Cert.Pre_within_reach.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_reach m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "inv_ln10" .f32 0x3EDE5BD9#32 (((Real.log 10)⁻¹ : ℝ) : EReal)

def algebraic_KernelIdeal_ReferenceIdeal_pre_within_reach [hKernelIdeal : Cert.KernelIdeal.Facts] [hReferenceIdeal : Cert.ReferenceIdeal.Facts] [hPre_within_reach : Cert.Pre_within_reach.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_reach m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v96)) (v1 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_v97) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v217) = v0 c
          ∧ r.2.mem ((c.tc : Thread Cert.ReferenceIdeal.nD Cert.ReferenceIdeal.τ).loc Cert.ReferenceIdeal.main_v219) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_within_reach : Cert.Pre_within_reach.Facts),
    quiescent_Kernel (hKernel := hKernel)
    ∧ quiescent_KernelIdeal (hKernelIdeal := hKernelIdeal)
    ∧ quiescent_KernelIdeal_pre_within_reach (hKernelIdeal := hKernelIdeal) (hPre_within_reach := hPre_within_reach)
    ∧ quiescent_ReferenceIdeal (hReferenceIdeal := hReferenceIdeal)
    ∧ quiescent_ReferenceIdeal_pre_within_reach (hReferenceIdeal := hReferenceIdeal) (hPre_within_reach := hPre_within_reach)
    ∧ preserves_Kernel_KernelIdeal
    ∧ algebraic_KernelIdeal_ReferenceIdeal_pre_within_reach (hKernelIdeal := hKernelIdeal) (hReferenceIdeal := hReferenceIdeal) (hPre_within_reach := hPre_within_reach)
-- ==== Pre_within_reach.lean ====
abbrev S4x96000 : Shape := ⟨2, ![4, 96000]⟩
abbrev S512x128x3 : Shape := ⟨3, ![512, 128, 3]⟩
abbrev S512 : Shape := ⟨1, ![512]⟩
abbrev S512x512x3 : Shape := ⟨3, ![512, 512, 3]⟩
abbrev S1024x512x3 : Shape := ⟨3, ![1024, 512, 3]⟩
abbrev S1024 : Shape := ⟨1, ![1024]⟩
abbrev S1024x1024x3 : Shape := ⟨3, ![1024, 1024, 3]⟩
abbrev S6561x1024 : Shape := ⟨2, ![6561, 1024]⟩
abbrev S128x201 : Shape := ⟨2, ![128, 201]⟩
abbrev S400 : Shape := ⟨1, ![400]⟩
abbrev S1534 : Shape := ⟨1, ![1534]⟩
abbrev S2388 : Shape := ⟨1, ![2388]⟩
abbrev S400x1 : Shape := ⟨2, ![400, 1]⟩
abbrev S201 : Shape := ⟨1, ![201]⟩
abbrev S1x201 : Shape := ⟨2, ![1, 201]⟩
abbrev S400x201 : Shape := ⟨2, ![400, 201]⟩
abbrev S_ : Shape := ⟨0, ![]⟩
abbrev S400x201x1 : Shape := ⟨3, ![400, 201, 1]⟩
abbrev S1534x1 : Shape := ⟨2, ![1534, 1]⟩
abbrev S1534x2 : Shape := ⟨2, ![1534, 2]⟩
abbrev S2388x1 : Shape := ⟨2, ![2388, 1]⟩
abbrev S2388x2 : Shape := ⟨2, ![2388, 2]⟩
abbrev S4x1 : Shape := ⟨2, ![4, 1]⟩
abbrev S4x200 : Shape := ⟨2, ![4, 200]⟩
abbrev S4x96200 : Shape := ⟨2, ![4, 96200]⟩
abbrev S4x96400 : Shape := ⟨2, ![4, 96400]⟩
abbrev S601 : Shape := ⟨1, ![601]⟩
abbrev S601x1 : Shape := ⟨2, ![601, 1]⟩
abbrev S1x400 : Shape := ⟨2, ![1, 400]⟩
abbrev S601x400 : Shape := ⟨2, ![601, 400]⟩
abbrev S601x400x1 : Shape := ⟨3, ![601, 400, 1]⟩
abbrev S4x601x400 : Shape := ⟨3, ![4, 601, 400]⟩
abbrev S1x1x400 : Shape := ⟨3, ![1, 1, 400]⟩
abbrev S4x601x400x1 : Shape := ⟨4, ![4, 601, 400, 1]⟩
abbrev S1x1x400x201 : Shape := ⟨4, ![1, 1, 400, 201]⟩
abbrev S4x601x400x201 : Shape := ⟨4, ![4, 601, 400, 201]⟩
abbrev S4x601x201 : Shape := ⟨3, ![4, 601, 201]⟩
abbrev S4x201x601 : Shape := ⟨3, ![4, 201, 601]⟩
abbrev S4x201x600 : Shape := ⟨3, ![4, 201, 600]⟩
abbrev S4x600x128 : Shape := ⟨3, ![4, 600, 128]⟩
abbrev S4x128x600 : Shape := ⟨3, ![4, 128, 600]⟩
abbrev S4 : Shape := ⟨1, ![4]⟩
abbrev S4x1x1 : Shape := ⟨3, ![4, 1, 1]⟩
abbrev S4x128x602 : Shape := ⟨3, ![4, 128, 602]⟩
abbrev S512x128x1 : Shape := ⟨3, ![512, 128, 1]⟩
abbrev S512x128 : Shape := ⟨2, ![512, 128]⟩
abbrev S4x600x512 : Shape := ⟨3, ![4, 600, 512]⟩
abbrev S4x512x600 : Shape := ⟨3, ![4, 512, 600]⟩
abbrev S1x512x1 : Shape := ⟨3, ![1, 512, 1]⟩
abbrev S4x512x602 : Shape := ⟨3, ![4, 512, 602]⟩
abbrev S512x512x1 : Shape := ⟨3, ![512, 512, 1]⟩
abbrev S512x512 : Shape := ⟨2, ![512, 512]⟩
abbrev S4x512x300 : Shape := ⟨3, ![4, 512, 300]⟩
abbrev S4x300x512 : Shape := ⟨3, ![4, 300, 512]⟩
abbrev S4x512x302 : Shape := ⟨3, ![4, 512, 302]⟩
abbrev S1024x512x1 : Shape := ⟨3, ![1024, 512, 1]⟩
abbrev S1024x512 : Shape := ⟨2, ![1024, 512]⟩
abbrev S4x512x150 : Shape := ⟨3, ![4, 512, 150]⟩
abbrev S4x150x1024 : Shape := ⟨3, ![4, 150, 1024]⟩
abbrev S4x1024x150 : Shape := ⟨3, ![4, 1024, 150]⟩
abbrev S1x1024x1 : Shape := ⟨3, ![1, 1024, 1]⟩
abbrev S4x1024x152 : Shape := ⟨3, ![4, 1024, 152]⟩
abbrev S1024x1024x1 : Shape := ⟨3, ![1024, 1024, 1]⟩
abbrev S1024x1024 : Shape := ⟨2, ![1024, 1024]⟩
abbrev S600x1024 : Shape := ⟨2, ![600, 1024]⟩
abbrev S600 : Shape := ⟨1, ![600]⟩
abbrev S600x1 : Shape := ⟨2, ![600, 1]⟩
abbrev S6561 : Shape := ⟨1, ![6561]⟩
abbrev S1x6561 : Shape := ⟨2, ![1, 6561]⟩
abbrev S600x6561 : Shape := ⟨2, ![600, 6561]⟩
abbrev S1024x6561 : Shape := ⟨2, ![1024, 6561]⟩

class Facts : Prop where
  bcast_S400_S400x1_0 : S400.BroadcastsInDim S400x1 (![0] : Fin 1 → Fin S400x1.rank)
  bcast_S201_S1x201_1 : S201.BroadcastsInDim S1x201 (![1] : Fin 1 → Fin S1x201.rank)
  bcast_S400x1_S400x201_0_1 : S400x1.BroadcastsInDim S400x201 (![0, 1] : Fin 2 → Fin S400x201.rank)
  bcast_S1x201_S400x201_0_1 : S1x201.BroadcastsInDim S400x201 (![0, 1] : Fin 2 → Fin S400x201.rank)
  bcast_S_S400x201 : S_.BroadcastsInDim S400x201 (![] : Fin 0 → Fin S400x201.rank)
  bcast_S400x201_S400x201x1_0_1 : S400x201.BroadcastsInDim S400x201x1 (![0, 1] : Fin 2 → Fin S400x201x1.rank)
  bcast_S_S1534 : S_.BroadcastsInDim S1534 (![] : Fin 0 → Fin S1534.rank)
  bcast_S1534_S1534x1_0 : S1534.BroadcastsInDim S1534x1 (![0] : Fin 1 → Fin S1534x1.rank)
  concatenates_S1534x1_S1534x1_S1534x2_d1 : Shape.Concatenates [S1534x1, S1534x1] S1534x2 1
  bcast_S_S2388 : S_.BroadcastsInDim S2388 (![] : Fin 0 → Fin S2388.rank)
  bcast_S2388_S2388x1_0 : S2388.BroadcastsInDim S2388x1 (![0] : Fin 1 → Fin S2388x1.rank)
  concatenates_S2388x1_S2388x1_S2388x2_d1 : Shape.Concatenates [S2388x1, S2388x1] S2388x2 1
  slices_S4x96000_S4x1_0_0 : S4x96000.Slices ![0, 0] S4x1
  slices_S4x96000_S4x200_0_1 : S4x96000.Slices ![0, 1] S4x200
  concatenates_S4x200_S4x96000_S4x96200_d1 : Shape.Concatenates [S4x200, S4x96000] S4x96200 1
  slices_S4x96200_S4x1_0_96199 : S4x96200.Slices ![0, 96199] S4x1
  slices_S4x96200_S4x200_0_95999 : S4x96200.Slices ![0, 95999] S4x200
  concatenates_S4x96200_S4x200_S4x96400_d1 : Shape.Concatenates [S4x96200, S4x200] S4x96400 1
  bcast_S601_S601x1_0 : S601.BroadcastsInDim S601x1 (![0] : Fin 1 → Fin S601x1.rank)
  bcast_S_S601x1 : S_.BroadcastsInDim S601x1 (![] : Fin 0 → Fin S601x1.rank)
  bcast_S400_S1x400_1 : S400.BroadcastsInDim S1x400 (![1] : Fin 1 → Fin S1x400.rank)
  bcast_S601x1_S601x400_0_1 : S601x1.BroadcastsInDim S601x400 (![0, 1] : Fin 2 → Fin S601x400.rank)
  bcast_S1x400_S601x400_0_1 : S1x400.BroadcastsInDim S601x400 (![0, 1] : Fin 2 → Fin S601x400.rank)
  bcast_S_S601x400 : S_.BroadcastsInDim S601x400 (![] : Fin 0 → Fin S601x400.rank)
  bcast_S601x400_S601x400x1_0_1 : S601x400.BroadcastsInDim S601x400x1 (![0, 1] : Fin 2 → Fin S601x400x1.rank)
  bcast_S400_S1x1x400_2 : S400.BroadcastsInDim S1x1x400 (![2] : Fin 1 → Fin S1x1x400.rank)
  bcast_S1x1x400_S4x601x400_0_1_2 : S1x1x400.BroadcastsInDim S4x601x400 (![0, 1, 2] : Fin 3 → Fin S4x601x400.rank)
  bcast_S4x601x400_S4x601x400x1_0_1_2 : S4x601x400.BroadcastsInDim S4x601x400x1 (![0, 1, 2] : Fin 3 → Fin S4x601x400x1.rank)
  bcast_S400x201_S1x1x400x201_2_3 : S400x201.BroadcastsInDim S1x1x400x201 (![2, 3] : Fin 2 → Fin S1x1x400x201.rank)
  bcast_S4x601x400x1_S4x601x400x201_0_1_2_3 : S4x601x400x1.BroadcastsInDim S4x601x400x201 (![0, 1, 2, 3] : Fin 4 → Fin S4x601x400x201.rank)
  bcast_S1x1x400x201_S4x601x400x201_0_1_2_3 : S1x1x400x201.BroadcastsInDim S4x601x400x201 (![0, 1, 2, 3] : Fin 4 → Fin S4x601x400x201.rank)
  reducesTo_S4x601x400x201_S4x601x201_d2 : S4x601x400x201.ReducesTo [2] S4x601x201
  h_S_ : 0 < S_.numel
  transposes_S4x601x201_S4x201x601_0_2_1 : S4x601x201.Transposes [0, 2, 1] S4x201x601
  slices_S4x201x601_S4x201x600_0_0_0 : S4x201x601.Slices ![0, 0, 0] S4x201x600
  transposes_S4x600x128_S4x128x600_0_2_1 : S4x600x128.Transposes [0, 2, 1] S4x128x600
  bcast_S_S4x128x600 : S_.BroadcastsInDim S4x128x600 (![] : Fin 0 → Fin S4x128x600.rank)
  reducesTo_S4x128x600_S4_d1_2 : S4x128x600.ReducesTo [1, 2] S4
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S4x1x1_S4x128x600_0_1_2 : S4x1x1.BroadcastsInDim S4x128x600 (![0, 1, 2] : Fin 3 → Fin S4x128x600.rank)
  pads_S4x128x600_S4x128x602_000_000_110 : S4x128x600.Pads (![0, 0, 1] : Fin 3 → Nat) ![0, 0, 1] ![0, 0, 0] S4x128x602
  slices_S512x128x3_S512x128x1_0_0_0 : S512x128x3.Slices ![0, 0, 0] S512x128x1
  shapeCasts_S512x128x1_S512x128 : S512x128x1.ShapeCasts S512x128
  slices_S4x128x602_S4x128x600_0_0_0 : S4x128x602.Slices ![0, 0, 0] S4x128x600
  transposes_S4x600x512_S4x512x600_0_2_1 : S4x600x512.Transposes [0, 2, 1] S4x512x600
  slices_S512x128x3_S512x128x1_0_0_1 : S512x128x3.Slices ![0, 0, 1] S512x128x1
  slices_S4x128x602_S4x128x600_0_0_1 : S4x128x602.Slices ![0, 0, 1] S4x128x600
  slices_S512x128x3_S512x128x1_0_0_2 : S512x128x3.Slices ![0, 0, 2] S512x128x1
  slices_S4x128x602_S4x128x600_0_0_2 : S4x128x602.Slices ![0, 0, 2] S4x128x600
  bcast_S512_S1x512x1_1 : S512.BroadcastsInDim S1x512x1 (![1] : Fin 1 → Fin S1x512x1.rank)
  bcast_S1x512x1_S4x512x600_0_1_2 : S1x512x1.BroadcastsInDim S4x512x600 (![0, 1, 2] : Fin 3 → Fin S4x512x600.rank)
  bcast_S_S4x512x600 : S_.BroadcastsInDim S4x512x600 (![] : Fin 0 → Fin S4x512x600.rank)
  pads_S4x512x600_S4x512x602_000_000_110 : S4x512x600.Pads (![0, 0, 1] : Fin 3 → Nat) ![0, 0, 1] ![0, 0, 0] S4x512x602
  slices_S512x512x3_S512x512x1_0_0_0 : S512x512x3.Slices ![0, 0, 0] S512x512x1
  shapeCasts_S512x512x1_S512x512 : S512x512x1.ShapeCasts S512x512
  slicesBy_S4x512x602_S4x512x300_0s1_0s1_0s2 : S4x512x602.SlicesBy (![0, 0, 0] : Fin 3 → Nat) ![1, 1, 2] S4x512x300
  transposes_S4x300x512_S4x512x300_0_2_1 : S4x300x512.Transposes [0, 2, 1] S4x512x300
  slices_S512x512x3_S512x512x1_0_0_1 : S512x512x3.Slices ![0, 0, 1] S512x512x1
  slicesBy_S4x512x602_S4x512x300_0s1_0s1_1s2 : S4x512x602.SlicesBy (![0, 0, 1] : Fin 3 → Nat) ![1, 1, 2] S4x512x300
  slices_S512x512x3_S512x512x1_0_0_2 : S512x512x3.Slices ![0, 0, 2] S512x512x1
  slicesBy_S4x512x602_S4x512x300_0s1_0s1_2s2 : S4x512x602.SlicesBy (![0, 0, 2] : Fin 3 → Nat) ![1, 1, 2] S4x512x300
  bcast_S1x512x1_S4x512x300_0_1_2 : S1x512x1.BroadcastsInDim S4x512x300 (![0, 1, 2] : Fin 3 → Fin S4x512x300.rank)
  bcast_S_S4x512x300 : S_.BroadcastsInDim S4x512x300 (![] : Fin 0 → Fin S4x512x300.rank)
  pads_S4x512x300_S4x512x302_000_000_110 : S4x512x300.Pads (![0, 0, 1] : Fin 3 → Nat) ![0, 0, 1] ![0, 0, 0] S4x512x302
  slices_S1024x512x3_S1024x512x1_0_0_0 : S1024x512x3.Slices ![0, 0, 0] S1024x512x1
  shapeCasts_S1024x512x1_S1024x512 : S1024x512x1.ShapeCasts S1024x512
  slicesBy_S4x512x302_S4x512x150_0s1_0s1_0s2 : S4x512x302.SlicesBy (![0, 0, 0] : Fin 3 → Nat) ![1, 1, 2] S4x512x150
  transposes_S4x150x1024_S4x1024x150_0_2_1 : S4x150x1024.Transposes [0, 2, 1] S4x1024x150
  slices_S1024x512x3_S1024x512x1_0_0_1 : S1024x512x3.Slices ![0, 0, 1] S1024x512x1
  slicesBy_S4x512x302_S4x512x150_0s1_0s1_1s2 : S4x512x302.SlicesBy (![0, 0, 1] : Fin 3 → Nat) ![1, 1, 2] S4x512x150
  slices_S1024x512x3_S1024x512x1_0_0_2 : S1024x512x3.Slices ![0, 0, 2] S1024x512x1
  slicesBy_S4x512x302_S4x512x150_0s1_0s1_2s2 : S4x512x302.SlicesBy (![0, 0, 2] : Fin 3 → Nat) ![1, 1, 2] S4x512x150
  bcast_S1024_S1x1024x1_1 : S1024.BroadcastsInDim S1x1024x1 (![1] : Fin 1 → Fin S1x1024x1.rank)
  bcast_S1x1024x1_S4x1024x150_0_1_2 : S1x1024x1.BroadcastsInDim S4x1024x150 (![0, 1, 2] : Fin 3 → Fin S4x1024x150.rank)
  bcast_S_S4x1024x150 : S_.BroadcastsInDim S4x1024x150 (![] : Fin 0 → Fin S4x1024x150.rank)
  pads_S4x1024x150_S4x1024x152_000_000_110 : S4x1024x150.Pads (![0, 0, 1] : Fin 3 → Nat) ![0, 0, 1] ![0, 0, 0] S4x1024x152
  slices_S1024x1024x3_S1024x1024x1_0_0_0 : S1024x1024x3.Slices ![0, 0, 0] S1024x1024x1
  shapeCasts_S1024x1024x1_S1024x1024 : S1024x1024x1.ShapeCasts S1024x1024
  slices_S4x1024x152_S4x1024x150_0_0_0 : S4x1024x152.Slices ![0, 0, 0] S4x1024x150
  slices_S1024x1024x3_S1024x1024x1_0_0_1 : S1024x1024x3.Slices ![0, 0, 1] S1024x1024x1
  slices_S4x1024x152_S4x1024x150_0_0_1 : S4x1024x152.Slices ![0, 0, 1] S4x1024x150
  slices_S1024x1024x3_S1024x1024x1_0_0_2 : S1024x1024x3.Slices ![0, 0, 2] S1024x1024x1
  slices_S4x1024x152_S4x1024x150_0_0_2 : S4x1024x152.Slices ![0, 0, 2] S4x1024x150
  transposes_S4x1024x150_S4x150x1024_0_2_1 : S4x1024x150.Transposes [0, 2, 1] S4x150x1024
  shapeCasts_S4x150x1024_S600x1024 : S4x150x1024.ShapeCasts S600x1024
  reducesTo_S600x1024_S600_d1 : S600x1024.ReducesTo [1] S600
  bcast_S600_S600x1_0 : S600.BroadcastsInDim S600x1 (![0] : Fin 1 → Fin S600x1.rank)
  reducesTo_S6561x1024_S6561_d1 : S6561x1024.ReducesTo [1] S6561
  bcast_S6561_S1x6561_1 : S6561.BroadcastsInDim S1x6561 (![1] : Fin 1 → Fin S1x6561.rank)
  bcast_S600x1_S600x6561_0_1 : S600x1.BroadcastsInDim S600x6561 (![0, 1] : Fin 2 → Fin S600x6561.rank)
  bcast_S1x6561_S600x6561_0_1 : S1x6561.BroadcastsInDim S600x6561 (![0, 1] : Fin 2 → Fin S600x6561.rank)
  bcast_S_S600x1024 : S_.BroadcastsInDim S600x1024 (![] : Fin 0 → Fin S600x1024.rank)
  transposes_S6561x1024_S1024x6561_1_0 : S6561x1024.Transposes [1, 0] S1024x6561
  bcast_S_S600x6561 : S_.BroadcastsInDim S600x6561 (![] : Fin 0 → Fin S600x6561.rank)
  reducesTo_S600x6561_S600_d1 : S600x6561.ReducesTo [1] S600
  bcast_S_S600 : S_.BroadcastsInDim S600 (![] : Fin 0 → Fin S600.rank)
  gather_S400_S400x201x1_S400x201_n_0_n_n_0_2_1_wf : GatherDims.WF S400 S400x201x1 S400x201 [] [0] [] [0] [] 2 ![1]
  scatter_S400x201_S1534x2_S1534_n_01_01_1_wf : ScatterDims.WF S400x201 S1534x2 S1534 [] [0, 1] [0, 1] 1
  scatter_S400x201_S2388x2_S2388_n_01_01_1_wf : ScatterDims.WF S400x201 S2388x2 S2388 [] [0, 1] [0, 1] 1
  gather_S4x96400_S601x400x1_S4x601x400_0_1_n_n_1_2_41_wf : GatherDims.WF S4x96400 S601x400x1 S4x601x400 [0] [1] [] [1] [] 2 ![4, 1]
  dot_S4x201x600_S128x201_S4x600x128_1_1_02_0_n_n_wf : DotDims.WF S4x201x600 S128x201 S4x600x128 [1] [1] [0, 2] [0] [] []
  dot_S4x128x600_S512x128_S4x600x512_1_1_02_0_n_n_wf : DotDims.WF S4x128x600 S512x128 S4x600x512 [1] [1] [0, 2] [0] [] []
  dot_S4x512x300_S512x512_S4x300x512_1_1_02_0_n_n_wf : DotDims.WF S4x512x300 S512x512 S4x300x512 [1] [1] [0, 2] [0] [] []
  dot_S4x512x150_S1024x512_S4x150x1024_1_1_02_0_n_n_wf : DotDims.WF S4x512x150 S1024x512 S4x150x1024 [1] [1] [0, 2] [0] [] []
  dot_S4x1024x150_S1024x1024_S4x150x1024_1_1_02_0_n_n_wf : DotDims.WF S4x1024x150 S1024x1024 S4x150x1024 [1] [1] [0, 2] [0] [] []
  dot_S600x1024_S1024x6561_S600x6561_1_0_0_1_n_n_wf : DotDims.WF S600x1024 S1024x6561 S600x6561 [1] [0] [0] [1] [] []

variable [Facts]

def gather_S400_S400x201x1_S400x201_n_0_n_n_0_2_1 : GatherDims S400 S400x201x1 S400x201 where
  offsetDims := []
  collapsedSliceDims := [0]
  operandBatchingDims := []
  startIndicesBatchingDims := []
  startIndexMap := [0]
  indexVectorDim := 2
  sliceSizes := ![1]
  wf := gather_S400_S400x201x1_S400x201_n_0_n_n_0_2_1_wf
def scatter_S400x201_S1534x2_S1534_n_01_01_1 : ScatterDims S400x201 S1534x2 S1534 where
  updateWindowDims := []
  insertedWindowDims := [0, 1]
  scatterDimsToOperandDims := [0, 1]
  indexVectorDim := 1
  wf := scatter_S400x201_S1534x2_S1534_n_01_01_1_wf
def scatter_S400x201_S2388x2_S2388_n_01_01_1 : ScatterDims S400x201 S2388x2 S2388 where
  updateWindowDims := []
  insertedWindowDims := [0, 1]
  scatterDimsToOperandDims := [0, 1]
  indexVectorDim := 1
  wf := scatter_S400x201_S2388x2_S2388_n_01_01_1_wf
def gather_S4x96400_S601x400x1_S4x601x400_0_1_n_n_1_2_41 : GatherDims S4x96400 S601x400x1 S4x601x400 where
  offsetDims := [0]
  collapsedSliceDims := [1]
  operandBatchingDims := []
  startIndicesBatchingDims := []
  startIndexMap := [1]
  indexVectorDim := 2
  sliceSizes := ![4, 1]
  wf := gather_S4x96400_S601x400x1_S4x601x400_0_1_n_n_1_2_41_wf
def dot_S4x201x600_S128x201_S4x600x128_1_1_02_0_n_n : DotDims S4x201x600 S128x201 S4x600x128 where
  lhsContracting := [1]
  rhsContracting := [1]
  lhsNonContracting := [0, 2]
  rhsNonContracting := [0]
  lhsBatch := []
  rhsBatch := []
  wf := dot_S4x201x600_S128x201_S4x600x128_1_1_02_0_n_n_wf
def dot_S4x128x600_S512x128_S4x600x512_1_1_02_0_n_n : DotDims S4x128x600 S512x128 S4x600x512 where
  lhsContracting := [1]
  rhsContracting := [1]
  lhsNonContracting := [0, 2]
  rhsNonContracting := [0]
  lhsBatch := []
  rhsBatch := []
  wf := dot_S4x128x600_S512x128_S4x600x512_1_1_02_0_n_n_wf
def dot_S4x512x300_S512x512_S4x300x512_1_1_02_0_n_n : DotDims S4x512x300 S512x512 S4x300x512 where
  lhsContracting := [1]
  rhsContracting := [1]
  lhsNonContracting := [0, 2]
  rhsNonContracting := [0]
  lhsBatch := []
  rhsBatch := []
  wf := dot_S4x512x300_S512x512_S4x300x512_1_1_02_0_n_n_wf
def dot_S4x512x150_S1024x512_S4x150x1024_1_1_02_0_n_n : DotDims S4x512x150 S1024x512 S4x150x1024 where
  lhsContracting := [1]
  rhsContracting := [1]
  lhsNonContracting := [0, 2]
  rhsNonContracting := [0]
  lhsBatch := []
  rhsBatch := []
  wf := dot_S4x512x150_S1024x512_S4x150x1024_1_1_02_0_n_n_wf
def dot_S4x1024x150_S1024x1024_S4x150x1024_1_1_02_0_n_n : DotDims S4x1024x150 S1024x1024 S4x150x1024 where
  lhsContracting := [1]
  rhsContracting := [1]
  lhsNonContracting := [0, 2]
  rhsNonContracting := [0]
  lhsBatch := []
  rhsBatch := []
  wf := dot_S4x1024x150_S1024x1024_S4x150x1024_1_1_02_0_n_n_wf
def dot_S600x1024_S1024x6561_S600x6561_1_0_0_1_n_n : DotDims S600x1024 S1024x6561 S600x6561 where
  lhsContracting := [1]
  rhsContracting := [0]
  lhsNonContracting := [0]
  rhsNonContracting := [1]
  lhsBatch := []
  rhsBatch := []
  wf := dot_S600x1024_S1024x6561_S600x6561_1_0_0_1_n_n_wf

noncomputable abbrev lit0 : Fin 400 → BitVec 32 := fun
  | 0 => 0x3F800000#32 | 1 => 0x3F7FF7EA#32 | 2 => 0x3F7FDFA9#32 | 3 => 0x3F7FB73F#32 | 4 => 0x3F7F7EAE#32 | 5 => 0x3F7F35F9#32 | 6 => 0x3F7EDD26#32 | 7 => 0x3F7E743A#32
  | 8 => 0x3F7DFB3B#32 | 9 => 0x3F7D7231#32 | 10 => 0x3F7CD925#32 | 11 => 0x3F7C3020#32 | 12 => 0x3F7B772D#32 | 13 => 0x3F7AAE59#32 | 14 => 0x3F79D5AE#32 | 15 => 0x3F78ED3C#32
  | 16 => 0x3F77F511#32 | 17 => 0x3F76ED3C#32 | 18 => 0x3F75D5CF#32 | 19 => 0x3F74AEDA#32 | 20 => 0x3F737871#32 | 21 => 0x3F7232A6#32 | 22 => 0x3F70DD90#32 | 23 => 0x3F6F7943#32
  | 24 => 0x3F6E05D5#32 | 25 => 0x3F6C835E#32 | 26 => 0x3F6AF1F8#32 | 27 => 0x3F6951BA#32 | 28 => 0x3F67A2BF#32 | 29 => 0x3F65E523#32 | 30 => 0x3F641901#32 | 31 => 0x3F623E77#32
  | 32 => 0x3F6055A2#32 | 33 => 0x3F5E5EA3#32 | 34 => 0x3F5C5997#32 | 35 => 0x3F5A46A0#32 | 36 => 0x3F5825E0#32 | 37 => 0x3F55F779#32 | 38 => 0x3F53BB8D#32 | 39 => 0x3F517243#32
  | 40 => 0x3F4F1BBD#32 | 41 => 0x3F4CB822#32 | 42 => 0x3F4A4799#32 | 43 => 0x3F47CA4A#32 | 44 => 0x3F45405B#32 | 45 => 0x3F42A9F7#32 | 46 => 0x3F400747#32 | 47 => 0x3F3D5877#32
  | 48 => 0x3F3A9DB0#32 | 49 => 0x3F37D720#32 | 50 => 0x3F3504F3#32 | 51 => 0x3F322757#32 | 52 => 0x3F2F3E7B#32 | 53 => 0x3F2C4A8C#32 | 54 => 0x3F294BBC#32 | 55 => 0x3F26423A#32
  | 56 => 0x3F232E38#32 | 57 => 0x3F200FE7#32 | 58 => 0x3F1CE77A#32 | 59 => 0x3F19B524#32 | 60 => 0x3F167918#32 | 61 => 0x3F13338B#32 | 62 => 0x3F0FE4B2#32 | 63 => 0x3F0C8CC2#32
  | 64 => 0x3F092BF2#32 | 65 => 0x3F05C277#32 | 66 => 0x3F02508A#32 | 67 => 0x3EFDACC2#32 | 68 => 0x3EF6A86B#32 | 69 => 0x3EEF947F#32 | 70 => 0x3EE87171#32 | 71 => 0x3EE13FB5#32
  | 72 => 0x3ED9FFBE#32 | 73 => 0x3ED2B203#32 | 74 => 0x3ECB56F8#32 | 75 => 0x3EC3EF15#32 | 76 => 0x3EBC7AD2#32 | 77 => 0x3EB4FAA8#32 | 78 => 0x3EAD6F0F#32 | 79 => 0x3EA5D881#32
  | 80 => 0x3E9E377A#32 | 81 => 0x3E968C74#32 | 82 => 0x3E8ED7EC#32 | 83 => 0x3E871A5E#32 | 84 => 0x3E7EA890#32 | 85 => 0x3E6F0C4D#32 | 86 => 0x3E5F60F1#32 | 87 => 0x3E4FA779#32
  | 88 => 0x3E3FE0E3#32 | 89 => 0x3E300E2F#32 | 90 => 0x3E20305B#32 | 91 => 0x3E10486A#32 | 92 => 0x3E00575B#32 | 93 => 0x3DE0BC62#32 | 94 => 0x3DC0BBDC#32 | 95 => 0x3DA0AF2A#32
  | 96 => 0x3D809851#32 | 97 => 0x3D40F2B2#32 | 98 => 0x3D00A891#32 | 99 => 0x3C80ACA2#32 | 100 => 0x248D3132#32 | 101 => 0xBC80ACA2#32 | 102 => 0xBD00A891#32 | 103 => 0xBD40F2B2#32
  | 104 => 0xBD809851#32 | 105 => 0xBDA0AF2A#32 | 106 => 0xBDC0BBDC#32 | 107 => 0xBDE0BC62#32 | 108 => 0xBE00575B#32 | 109 => 0xBE10486A#32 | 110 => 0xBE20305B#32 | 111 => 0xBE300E2F#32
  | 112 => 0xBE3FE0E3#32 | 113 => 0xBE4FA779#32 | 114 => 0xBE5F60F1#32 | 115 => 0xBE6F0C4D#32 | 116 => 0xBE7EA890#32 | 117 => 0xBE871A5E#32 | 118 => 0xBE8ED7EC#32 | 119 => 0xBE968C74#32
  | 120 => 0xBE9E377A#32 | 121 => 0xBEA5D881#32 | 122 => 0xBEAD6F0F#32 | 123 => 0xBEB4FAA8#32 | 124 => 0xBEBC7AD2#32 | 125 => 0xBEC3EF15#32 | 126 => 0xBECB56F8#32 | 127 => 0xBED2B203#32
  | 128 => 0xBED9FFBE#32 | 129 => 0xBEE13FB5#32 | 130 => 0xBEE87171#32 | 131 => 0xBEEF947F#32 | 132 => 0xBEF6A86B#32 | 133 => 0xBEFDACC2#32 | 134 => 0xBF02508A#32 | 135 => 0xBF05C277#32
  | 136 => 0xBF092BF2#32 | 137 => 0xBF0C8CC2#32 | 138 => 0xBF0FE4B2#32 | 139 => 0xBF13338B#32 | 140 => 0xBF167918#32 | 141 => 0xBF19B524#32 | 142 => 0xBF1CE77A#32 | 143 => 0xBF200FE7#32
  | 144 => 0xBF232E38#32 | 145 => 0xBF26423A#32 | 146 => 0xBF294BBC#32 | 147 => 0xBF2C4A8C#32 | 148 => 0xBF2F3E7B#32 | 149 => 0xBF322757#32 | 150 => 0xBF3504F3#32 | 151 => 0xBF37D720#32
  | 152 => 0xBF3A9DB0#32 | 153 => 0xBF3D5877#32 | 154 => 0xBF400747#32 | 155 => 0xBF42A9F7#32 | 156 => 0xBF45405B#32 | 157 => 0xBF47CA4A#32 | 158 => 0xBF4A4799#32 | 159 => 0xBF4CB822#32
  | 160 => 0xBF4F1BBD#32 | 161 => 0xBF517243#32 | 162 => 0xBF53BB8D#32 | 163 => 0xBF55F779#32 | 164 => 0xBF5825E0#32 | 165 => 0xBF5A46A0#32 | 166 => 0xBF5C5997#32 | 167 => 0xBF5E5EA3#32
  | 168 => 0xBF6055A2#32 | 169 => 0xBF623E77#32 | 170 => 0xBF641901#32 | 171 => 0xBF65E523#32 | 172 => 0xBF67A2BF#32 | 173 => 0xBF6951BA#32 | 174 => 0xBF6AF1F8#32 | 175 => 0xBF6C835E#32
  | 176 => 0xBF6E05D5#32 | 177 => 0xBF6F7943#32 | 178 => 0xBF70DD90#32 | 179 => 0xBF7232A6#32 | 180 => 0xBF737871#32 | 181 => 0xBF74AEDA#32 | 182 => 0xBF75D5CF#32 | 183 => 0xBF76ED3C#32
  | 184 => 0xBF77F511#32 | 185 => 0xBF78ED3C#32 | 186 => 0xBF79D5AE#32 | 187 => 0xBF7AAE59#32 | 188 => 0xBF7B772D#32 | 189 => 0xBF7C3020#32 | 190 => 0xBF7CD925#32 | 191 => 0xBF7D7231#32
  | 192 => 0xBF7DFB3B#32 | 193 => 0xBF7E743A#32 | 194 => 0xBF7EDD26#32 | 195 => 0xBF7F35F9#32 | 196 => 0xBF7F7EAE#32 | 197 => 0xBF7FB73F#32 | 198 => 0xBF7FDFA9#32 | 199 => 0xBF7FF7EA#32
  | 200 => 0xBF800000#32 | 201 => 0xBF7FF7EA#32 | 202 => 0xBF7FDFA9#32 | 203 => 0xBF7FB73F#32 | 204 => 0xBF7F7EAE#32 | 205 => 0xBF7F35F9#32 | 206 => 0xBF7EDD26#32 | 207 => 0xBF7E743A#32
  | 208 => 0xBF7DFB3B#32 | 209 => 0xBF7D7231#32 | 210 => 0xBF7CD925#32 | 211 => 0xBF7C3020#32 | 212 => 0xBF7B772D#32 | 213 => 0xBF7AAE59#32 | 214 => 0xBF79D5AE#32 | 215 => 0xBF78ED3C#32
  | 216 => 0xBF77F511#32 | 217 => 0xBF76ED3C#32 | 218 => 0xBF75D5CF#32 | 219 => 0xBF74AEDA#32 | 220 => 0xBF737871#32 | 221 => 0xBF7232A6#32 | 222 => 0xBF70DD90#32 | 223 => 0xBF6F7943#32
  | 224 => 0xBF6E05D5#32 | 225 => 0xBF6C835E#32 | 226 => 0xBF6AF1F8#32 | 227 => 0xBF6951BA#32 | 228 => 0xBF67A2BF#32 | 229 => 0xBF65E523#32 | 230 => 0xBF641901#32 | 231 => 0xBF623E77#32
  | 232 => 0xBF6055A2#32 | 233 => 0xBF5E5EA3#32 | 234 => 0xBF5C5997#32 | 235 => 0xBF5A46A0#32 | 236 => 0xBF5825E0#32 | 237 => 0xBF55F779#32 | 238 => 0xBF53BB8D#32 | 239 => 0xBF517243#32
  | 240 => 0xBF4F1BBD#32 | 241 => 0xBF4CB822#32 | 242 => 0xBF4A4799#32 | 243 => 0xBF47CA4A#32 | 244 => 0xBF45405B#32 | 245 => 0xBF42A9F7#32 | 246 => 0xBF400747#32 | 247 => 0xBF3D5877#32
  | 248 => 0xBF3A9DB0#32 | 249 => 0xBF37D720#32 | 250 => 0xBF3504F3#32 | 251 => 0xBF322757#32 | 252 => 0xBF2F3E7B#32 | 253 => 0xBF2C4A8C#32 | 254 => 0xBF294BBC#32 | 255 => 0xBF26423A#32
  | 256 => 0xBF232E38#32 | 257 => 0xBF200FE7#32 | 258 => 0xBF1CE77A#32 | 259 => 0xBF19B524#32 | 260 => 0xBF167918#32 | 261 => 0xBF13338B#32 | 262 => 0xBF0FE4B2#32 | 263 => 0xBF0C8CC2#32
  | 264 => 0xBF092BF2#32 | 265 => 0xBF05C277#32 | 266 => 0xBF02508A#32 | 267 => 0xBEFDACC2#32 | 268 => 0xBEF6A86B#32 | 269 => 0xBEEF947F#32 | 270 => 0xBEE87171#32 | 271 => 0xBEE13FB5#32
  | 272 => 0xBED9FFBE#32 | 273 => 0xBED2B203#32 | 274 => 0xBECB56F8#32 | 275 => 0xBEC3EF15#32 | 276 => 0xBEBC7AD2#32 | 277 => 0xBEB4FAA8#32 | 278 => 0xBEAD6F0F#32 | 279 => 0xBEA5D881#32
  | 280 => 0xBE9E377A#32 | 281 => 0xBE968C74#32 | 282 => 0xBE8ED7EC#32 | 283 => 0xBE871A5E#32 | 284 => 0xBE7EA890#32 | 285 => 0xBE6F0C4D#32 | 286 => 0xBE5F60F1#32 | 287 => 0xBE4FA779#32
  | 288 => 0xBE3FE0E3#32 | 289 => 0xBE300E2F#32 | 290 => 0xBE20305B#32 | 291 => 0xBE10486A#32 | 292 => 0xBE00575B#32 | 293 => 0xBDE0BC62#32 | 294 => 0xBDC0BBDC#32 | 295 => 0xBDA0AF2A#32
  | 296 => 0xBD809851#32 | 297 => 0xBD40F2B2#32 | 298 => 0xBD00A891#32 | 299 => 0xBC80ACA2#32 | 300 => 0xA553C9CA#32 | 301 => 0x3C80ACA2#32 | 302 => 0x3D00A891#32 | 303 => 0x3D40F2B2#32
  | 304 => 0x3D809851#32 | 305 => 0x3DA0AF2A#32 | 306 => 0x3DC0BBDC#32 | 307 => 0x3DE0BC62#32 | 308 => 0x3E00575B#32 | 309 => 0x3E10486A#32 | 310 => 0x3E20305B#32 | 311 => 0x3E300E2F#32
  | 312 => 0x3E3FE0E3#32 | 313 => 0x3E4FA779#32 | 314 => 0x3E5F60F1#32 | 315 => 0x3E6F0C4D#32 | 316 => 0x3E7EA890#32 | 317 => 0x3E871A5E#32 | 318 => 0x3E8ED7EC#32 | 319 => 0x3E968C74#32
  | 320 => 0x3E9E377A#32 | 321 => 0x3EA5D881#32 | 322 => 0x3EAD6F0F#32 | 323 => 0x3EB4FAA8#32 | 324 => 0x3EBC7AD2#32 | 325 => 0x3EC3EF15#32 | 326 => 0x3ECB56F8#32 | 327 => 0x3ED2B203#32
  | 328 => 0x3ED9FFBE#32 | 329 => 0x3EE13FB5#32 | 330 => 0x3EE87171#32 | 331 => 0x3EEF947F#32 | 332 => 0x3EF6A86B#32 | 333 => 0x3EFDACC2#32 | 334 => 0x3F02508A#32 | 335 => 0x3F05C277#32
  | 336 => 0x3F092BF2#32 | 337 => 0x3F0C8CC2#32 | 338 => 0x3F0FE4B2#32 | 339 => 0x3F13338B#32 | 340 => 0x3F167918#32 | 341 => 0x3F19B524#32 | 342 => 0x3F1CE77A#32 | 343 => 0x3F200FE7#32
  | 344 => 0x3F232E38#32 | 345 => 0x3F26423A#32 | 346 => 0x3F294BBC#32 | 347 => 0x3F2C4A8C#32 | 348 => 0x3F2F3E7B#32 | 349 => 0x3F322757#32 | 350 => 0x3F3504F3#32 | 351 => 0x3F37D720#32
  | 352 => 0x3F3A9DB0#32 | 353 => 0x3F3D5877#32 | 354 => 0x3F400747#32 | 355 => 0x3F42A9F7#32 | 356 => 0x3F45405B#32 | 357 => 0x3F47CA4A#32 | 358 => 0x3F4A4799#32 | 359 => 0x3F4CB822#32
  | 360 => 0x3F4F1BBD#32 | 361 => 0x3F517243#32 | 362 => 0x3F53BB8D#32 | 363 => 0x3F55F779#32 | 364 => 0x3F5825E0#32 | 365 => 0x3F5A46A0#32 | 366 => 0x3F5C5997#32 | 367 => 0x3F5E5EA3#32
  | 368 => 0x3F6055A2#32 | 369 => 0x3F623E77#32 | 370 => 0x3F641901#32 | 371 => 0x3F65E523#32 | 372 => 0x3F67A2BF#32 | 373 => 0x3F6951BA#32 | 374 => 0x3F6AF1F8#32 | 375 => 0x3F6C835E#32
  | 376 => 0x3F6E05D5#32 | 377 => 0x3F6F7943#32 | 378 => 0x3F70DD90#32 | 379 => 0x3F7232A6#32 | 380 => 0x3F737871#32 | 381 => 0x3F74AEDA#32 | 382 => 0x3F75D5CF#32 | 383 => 0x3F76ED3C#32
  | 384 => 0x3F77F511#32 | 385 => 0x3F78ED3C#32 | 386 => 0x3F79D5AE#32 | 387 => 0x3F7AAE59#32 | 388 => 0x3F7B772D#32 | 389 => 0x3F7C3020#32 | 390 => 0x3F7CD925#32 | 391 => 0x3F7D7231#32
  | 392 => 0x3F7DFB3B#32 | 393 => 0x3F7E743A#32 | 394 => 0x3F7EDD26#32 | 395 => 0x3F7F35F9#32 | 396 => 0x3F7F7EAE#32 | 397 => 0x3F7FB73F#32 | 398 => 0x3F7FDFA9#32 | 399 => 0x3F7FF7EA#32
  | _ => 0#32

noncomputable abbrev lit1t0_0 (i : Nat) : BitVec 32 := match i % 128 with
  | 0 => 0x26AC1F5F#32
  | 1 => 0xA71EE2C3#32
  | 2 => 0x26AC1F5F#32
  | 3 => 0xA71EE2C3#32
  | 4 => 0x261ED758#32
  | 5 => 0x261ED758#32
  | 6 => 0xA71EE2C3#32
  | 7 => 0x261ED758#32
  | 8 => 0x26AC1F5F#32
  | 9 => 0xA71EE2C3#32
  | 10 => 0x261ED758#32
  | 11 => 0x269EEE2E#32
  | 12 => 0x27395BFC#32
  | 13 => 0xA7422F0F#32
  | 14 => 0x274B0222#32
  | 15 => 0x2630AB2A#32
  | 16 => 0xA73088E9#32
  | 17 => 0x261ED758#32
  | 18 => 0xA7422F0F#32
  | 19 => 0xA60D5EDE#32
  | 20 => 0xA68D4808#32
  | 21 => 0xA71EE2C3#32
  | 22 => 0xA60D5EDE#32
  | 23 => 0x261ED758#32
  | 24 => 0xA7422F0F#32
  | 25 => 0xA60D5EDE#32
  | 26 => 0xA7772182#32
  | 27 => 0xA653F777#32
  | 28 => 0x261ED758#32
  | 29 => 0x27846F3F#32
  | 30 => 0xA753D535#32
  | 31 => 0x26AC1F5F#32
  | 32 => 0xA71EE2C3#32
  | 33 => 0x261ED758#32
  | 34 => 0x269EEE2E#32
  | 35 => 0x27395BFC#32
  | 36 => 0xA7422F0F#32
  | 37 => 0x274B0222#32
  | 38 => 0x2630AB2A#32
  | 39 => 0xA60D5EDE#32
  | 40 => 0xA7657B5C#32
  | 41 => 0xA58D8C8A#32
  | 42 => 0x27846F3F#32
  | 43 => 0x27FFFA4A#32
  | 44 => 0xA78463D4#32
  | 45 => 0x258CD5D9#32
  | 46 => 0xA78D36E7#32
  | 47 => 0x260D0385#32
  | 48 => 0x2753EC0C#32
  | 49 => 0xA60D5EDE#32
  | 50 => 0xA73088E9#32
  | 51 => 0x280466AF#32
  | 52 => 0xA7657B5C#32
  | 53 => 0xA627C141#32
  | 54 => 0x26C23A7A#32
  | 55 => 0x261ED758#32
  | 56 => 0x269EEE2E#32
  | 57 => 0xA68D4808#32
  | 58 => 0xA7422F0F#32
  | 59 => 0xA653F777#32
  | 60 => 0x2630AB2A#32
  | 61 => 0xA60D5EDE#32
  | 62 => 0x278D4252#32
  | 63 => 0xA58D8C8A#32
  | 64 => 0x27846F3F#32
  | 65 => 0x27FFFA4A#32
  | 66 => 0xA78463D4#32
  | 67 => 0x258CD5D9#32
  | 68 => 0x27659232#32
  | 69 => 0x260D0385#32
  | 70 => 0x2753EC0C#32
  | 71 => 0xA7E58C7C#32
  | 72 => 0xA79EDD0D#32
  | 73 => 0x268D1A5B#32
  | 74 => 0x27309FBF#32
  | 75 => 0x28160CD5#32
  | 76 => 0xA68D4808#32
  | 77 => 0x2753EC0C#32
  | 78 => 0xA7772182#32
  | 79 => 0xA71EE2C3#32
  | 80 => 0xA60D5EDE#32
  | 81 => 0xA78D36E7#32
  | 82 => 0x28160CD5#32
  | 83 => 0x27FFFA4A#32
  | 84 => 0x261ED758#32
  | 85 => 0xA7422F0F#32
  | 86 => 0xA60D5EDE#32
  | 87 => 0xA7772182#32
  | 88 => 0x280466AF#32
  | 89 => 0xA84B04FD#32
  | 90 => 0x2888D1A6#32
  | 91 => 0xA7B08334#32
  | 92 => 0x281EDFE8#32
  | 93 => 0xA78463D4#32
  | 94 => 0x258CD5D9#32
  | 95 => 0xA653F777#32
  | 96 => 0xA7B08334#32
  | 97 => 0xA71EE2C3#32
  | 98 => 0xA60D5EDE#32
  | 99 => 0xA78D36E7#32
  | 100 => 0x28160CD5#32
  | 101 => 0x26D40E4D#32
  | 102 => 0x261ED758#32
  | 103 => 0x27846F3F#32
  | 104 => 0x268D1A5B#32
  | 105 => 0x26D40E4D#32
  | 106 => 0x260D0385#32
  | 107 => 0xA753D535#32
  | 108 => 0x281EDFE8#32
  | 109 => 0xA84B04FD#32
  | 110 => 0x280D39C2#32
  | 111 => 0xA60D5EDE#32
  | 112 => 0x26D40E4D#32
  | 113 => 0xA79EDD0D#32
  | 114 => 0xA73088E9#32
  | 115 => 0x280466AF#32
  | 116 => 0xA85CAB23#32
  | 117 => 0x289A77CC#32
  | 118 => 0x261ED758#32
  | 119 => 0x27846F3F#32
  | 120 => 0x268D1A5B#32
  | 121 => 0x26D40E4D#32
  | 122 => 0xA78D4DBD#32
  | 123 => 0xA7657B5C#32
  | 124 => 0x28960E42#32
  | 125 => 0x27309FBF#32
  | 126 => 0x28160CD5#32
  | 127 => 0xA627C141#32
  | _ => 0#32

noncomputable abbrev lit1t0_1 (i : Nat) : BitVec 32 := match i % 128 with
  | 0 => 0x26C23A7A#32
  | 1 => 0x261ED758#32
  | 2 => 0x269EEE2E#32
  | 3 => 0xA68D4808#32
  | 4 => 0xA7422F0F#32
  | 5 => 0xA653F777#32
  | 6 => 0x2630AB2A#32
  | 7 => 0xA60D5EDE#32
  | 8 => 0x278D4252#32
  | 9 => 0xA58D8C8A#32
  | 10 => 0x27846F3F#32
  | 11 => 0x27FFFA4A#32
  | 12 => 0xA78463D4#32
  | 13 => 0x258CD5D9#32
  | 14 => 0x27659232#32
  | 15 => 0x260D0385#32
  | 16 => 0x2753EC0C#32
  | 17 => 0xA7E58C7C#32
  | 18 => 0xA79EDD0D#32
  | 19 => 0x268D1A5B#32
  | 20 => 0x27309FBF#32
  | 21 => 0x28160CD5#32
  | 22 => 0xA7B08334#32
  | 23 => 0x26D3B2F4#32
  | 24 => 0x270D5373#32
  | 25 => 0xA7C24030#32
  | 26 => 0xA7C2295A#32
  | 27 => 0x270D25C7#32
  | 28 => 0x26D40E4D#32
  | 29 => 0xA7B09A0A#32
  | 30 => 0x28161840#32
  | 31 => 0xA853E37B#32
  | 32 => 0xA86E514A#32
  | 33 => 0x2830860E#32
  | 34 => 0xA7E575A6#32
  | 35 => 0x2753BE5F#32
  | 36 => 0x260DBA36#32
  | 37 => 0xA78D4DBD#32
  | 38 => 0x2804721A#32
  | 39 => 0x27770AAC#32
  | 40 => 0xA87FF770#32
  | 41 => 0xA7774F2E#32
  | 42 => 0xA80460F9#32
  | 43 => 0xA8396A42#32
  | 44 => 0xA60CA82D#32
  | 45 => 0x284AFF48#32
  | 46 => 0x27E597E7#32
  | 47 => 0xA7B08334#32
  | 48 => 0xA68D4808#32
  | 49 => 0x2753EC0C#32
  | 50 => 0xA7B09A0A#32
  | 51 => 0xA80460F9#32
  | 52 => 0x26D3B2F4#32
  | 53 => 0xA7772182#32
  | 54 => 0x28395921#32
  | 55 => 0x269EEE2E#32
  | 56 => 0x258CD5D9#32
  | 57 => 0x270D5373#32
  | 58 => 0x2753BE5F#32
  | 59 => 0x27E597E7#32
  | 60 => 0x281EDFE8#32
  | 61 => 0x27FFFA4A#32
  | 62 => 0xA87FF770#32
  | 63 => 0xA7C2295A#32
  | 64 => 0x261ED758#32
  | 65 => 0xA7422F0F#32
  | 66 => 0xA60D5EDE#32
  | 67 => 0xA7772182#32
  | 68 => 0x280466AF#32
  | 69 => 0xA84B04FD#32
  | 70 => 0x2888D1A6#32
  | 71 => 0xA7B08334#32
  | 72 => 0x281EDFE8#32
  | 73 => 0xA8657E36#32
  | 74 => 0x28960E42#32
  | 75 => 0xA8B95D6A#32
  | 76 => 0x28395921#32
  | 77 => 0xA87FF770#32
  | 78 => 0x28A34ADF#32
  | 79 => 0xA8C69A06#32
  | 80 => 0x28E9E92D#32
  | 81 => 0xA6D38548#32
  | 82 => 0x291843BE#32
  | 83 => 0x270D25C7#32
  | 84 => 0xA78463D4#32
  | 85 => 0x28A34ADF#32
  | 86 => 0x26D40E4D#32
  | 87 => 0x27395BFC#32
  | 88 => 0xA84B04FD#32
  | 89 => 0x2827B2FB#32
  | 90 => 0xA80460F9#32
  | 91 => 0x291843BE#32
  | 92 => 0x258CD5D9#32
  | 93 => 0x27E597E7#32
  | 94 => 0xA8B4F3E0#32
  | 95 => 0xA653F777#32
  | 96 => 0xA7B08334#32
  | 97 => 0xA8E11EAB#32
  | 98 => 0x285CBC44#32
  | 99 => 0x28960E42#32
  | 100 => 0xA71EE2C3#32
  | 101 => 0xA60D5EDE#32
  | 102 => 0xA78D36E7#32
  | 103 => 0x28160CD5#32
  | 104 => 0x26D40E4D#32
  | 105 => 0x289A77CC#32
  | 106 => 0xA80460F9#32
  | 107 => 0x28E9E92D#32
  | 108 => 0xA891A1DE#32
  | 109 => 0x27E56A3B#32
  | 110 => 0xA86E514A#32
  | 111 => 0x2830860E#32
  | 112 => 0x260D0385#32
  | 113 => 0xA6D38548#32
  | 114 => 0x261ED758#32
  | 115 => 0xA7422F0F#32
  | 116 => 0xA60D5EDE#32
  | 117 => 0x27846F3F#32
  | 118 => 0x280466AF#32
  | 119 => 0x2753EC0C#32
  | 120 => 0x2888D1A6#32
  | 121 => 0xA7B08334#32
  | 122 => 0x281EDFE8#32
  | 123 => 0x26D40E4D#32
  | 124 => 0x28960E42#32
  | 125 => 0xA7E575A6#32
  | 126 => 0x28395921#32
  | 127 => 0xA87FF770#32
  | _ => 0#32

noncomputable abbrev lit1t0_2 (i : Nat) : BitVec 32 := match i % 128 with
  | 0 => 0x28A34ADF#32
  | 1 => 0x27E597E7#32
  | 2 => 0x28E9E92D#32
  | 3 => 0xA6D38548#32
  | 4 => 0x27C21DEF#32
  | 5 => 0xA929EB51#32
  | 6 => 0x286E4B94#32
  | 7 => 0xA89A74F1#32
  | 8 => 0xA80477CF#32
  | 9 => 0xA8E1133F#32
  | 10 => 0xA753D535#32
  | 11 => 0x281EDFE8#32
  | 12 => 0xA60CA82D#32
  | 13 => 0x27E56A3B#32
  | 14 => 0x2753BE5F#32
  | 15 => 0xA84B04FD#32
  | 16 => 0x27C21DEF#32
  | 17 => 0x260DBA36#32
  | 18 => 0x28395921#32
  | 19 => 0x280D39C2#32
  | 20 => 0xA929EB51#32
  | 21 => 0x2804721A#32
  | 22 => 0xA60D5EDE#32
  | 23 => 0x26D40E4D#32
  | 24 => 0x28E9E92D#32
  | 25 => 0x27776604#32
  | 26 => 0x274B0222#32
  | 27 => 0xA7B08334#32
  | 28 => 0x27770AAC#32
  | 29 => 0x285CBC44#32
  | 30 => 0x29023133#32
  | 31 => 0xA79EDD0D#32
  | 32 => 0x286E4B94#32
  | 33 => 0xA87FF770#32
  | 34 => 0xA7774F2E#32
  | 35 => 0x261ED758#32
  | 36 => 0x27846F3F#32
  | 37 => 0x268D1A5B#32
  | 38 => 0x26D40E4D#32
  | 39 => 0xA78D4DBD#32
  | 40 => 0x27E597E7#32
  | 41 => 0x27C21DEF#32
  | 42 => 0xA89A74F1#32
  | 43 => 0x29023133#32
  | 44 => 0xA85C9FB8#32
  | 45 => 0xA80460F9#32
  | 46 => 0xA7657B5C#32
  | 47 => 0x28960E42#32
  | 48 => 0x27C24B9B#32
  | 49 => 0x2888CBF0#32
  | 50 => 0x28A34ADF#32
  | 51 => 0x27309FBF#32
  | 52 => 0xA80477CF#32
  | 53 => 0x2630AB2A#32
  | 54 => 0x281EDFE8#32
  | 55 => 0xA60CA82D#32
  | 56 => 0x27E56A3B#32
  | 57 => 0xA85C9FB8#32
  | 58 => 0x284AFF48#32
  | 59 => 0x28160CD5#32
  | 60 => 0xA8E1133F#32
  | 61 => 0x27E597E7#32
  | 62 => 0xA627C141#32
  | 63 => 0x26C23A7A#32
  | 64 => 0x261ED758#32
  | 65 => 0x269EEE2E#32
  | 66 => 0xA68D4808#32
  | 67 => 0xA7422F0F#32
  | 68 => 0xA653F777#32
  | 69 => 0x2630AB2A#32
  | 70 => 0xA60D5EDE#32
  | 71 => 0x278D4252#32
  | 72 => 0xA58D8C8A#32
  | 73 => 0x27846F3F#32
  | 74 => 0x27FFFA4A#32
  | 75 => 0xA78463D4#32
  | 76 => 0x258CD5D9#32
  | 77 => 0x27659232#32
  | 78 => 0x260D0385#32
  | 79 => 0x2753EC0C#32
  | 80 => 0xA7E58C7C#32
  | 81 => 0xA79EDD0D#32
  | 82 => 0x268D1A5B#32
  | 83 => 0x27309FBF#32
  | 84 => 0x28160CD5#32
  | 85 => 0xA7B08334#32
  | 86 => 0x26D3B2F4#32
  | 87 => 0x270D5373#32
  | 88 => 0xA7C24030#32
  | 89 => 0xA7C2295A#32
  | 90 => 0x270D25C7#32
  | 91 => 0x26D40E4D#32
  | 92 => 0xA7B09A0A#32
  | 93 => 0x28161840#32
  | 94 => 0xA853E37B#32
  | 95 => 0xA86E514A#32
  | 96 => 0x2830860E#32
  | 97 => 0xA7E575A6#32
  | 98 => 0x2753BE5F#32
  | 99 => 0x260DBA36#32
  | 100 => 0xA78D4DBD#32
  | 101 => 0x2804721A#32
  | 102 => 0x27770AAC#32
  | 103 => 0xA87FF770#32
  | 104 => 0xA7774F2E#32
  | 105 => 0xA80460F9#32
  | 106 => 0xA8396A42#32
  | 107 => 0xA60CA82D#32
  | 108 => 0x284AFF48#32
  | 109 => 0x27E597E7#32
  | 110 => 0x279ED1A2#32
  | 111 => 0x286E626A#32
  | 112 => 0x28E9E92D#32
  | 113 => 0xA816071F#32
  | 114 => 0x28AC1DF2#32
  | 115 => 0xA6D38548#32
  | 116 => 0x285CA56E#32
  | 117 => 0x27C24B9B#32
  | 118 => 0x27C21DEF#32
  | 119 => 0x285CBC44#32
  | 120 => 0xA6D43BF9#32
  | 121 => 0x28AC295D#32
  | 122 => 0xA8161DF6#32
  | 123 => 0x28E9F498#32
  | 124 => 0x286E4B94#32
  | 125 => 0xA8D8402C#32
  | 126 => 0x27E56A3B#32
  | 127 => 0xA89A74F1#32
  | _ => 0#32

noncomputable abbrev lit1t0_3 (i : Nat) : BitVec 32 := match i % 128 with
  | 0 => 0xA60E158F#32
  | 1 => 0xA839536C#32
  | 2 => 0xA80477CF#32
  | 3 => 0xA776F3D6#32
  | 4 => 0xA8800723#32
  | 5 => 0x27776604#32
  | 6 => 0xA8BDD25E#32
  | 7 => 0x28396FF7#32
  | 8 => 0xA8FB9D99#32
  | 9 => 0xA84AF992#32
  | 10 => 0x28C6972B#32
  | 11 => 0xA79EC637#32
  | 12 => 0x2888CBF0#32
  | 13 => 0xA8E9E653#32
  | 14 => 0xA8B4FF4B#32
  | 15 => 0x2827C9D1#32
  | 16 => 0x26D3579C#32
  | 17 => 0xA85C9FB8#32
  | 18 => 0xA9184AE1#32
  | 19 => 0x28CF7B5F#32
  | 20 => 0xA85CC1F9#32
  | 21 => 0x26D469A5#32
  | 22 => 0x2827A790#32
  | 23 => 0xA8B4EE2A#32
  | 24 => 0x290B0446#32
  | 25 => 0x2888DD11#32
  | 26 => 0xA79F0ABA#32
  | 27 => 0xA7E55ED0#32
  | 28 => 0x289A7216#32
  | 29 => 0x290239C4#32
  | 30 => 0xA8A35925#32
  | 31 => 0x28047D85#32
  | 32 => 0x279ED1A2#32
  | 33 => 0xA7B08334#32
  | 34 => 0x29023133#32
  | 35 => 0xA888CECB#32
  | 36 => 0xA60D5EDE#32
  | 37 => 0x26D40E4D#32
  | 38 => 0x28E9E92D#32
  | 39 => 0x27776604#32
  | 40 => 0xA79F0ABA#32
  | 41 => 0x26D3B2F4#32
  | 42 => 0xA79EC637#32
  | 43 => 0xA816071F#32
  | 44 => 0xA7772182#32
  | 45 => 0x28395921#32
  | 46 => 0xA89A74F1#32
  | 47 => 0x296C1EA9#32
  | 48 => 0x28AC1DF2#32
  | 49 => 0x269EEE2E#32
  | 50 => 0x258CD5D9#32
  | 51 => 0x270D5373#32
  | 52 => 0x2753BE5F#32
  | 53 => 0x27E597E7#32
  | 54 => 0xA6D43BF9#32
  | 55 => 0xA776F3D6#32
  | 56 => 0xA8B4FF4B#32
  | 57 => 0x2888DD11#32
  | 58 => 0xA83975AD#32
  | 59 => 0xA6D38548#32
  | 60 => 0x285CA56E#32
  | 61 => 0x281EDFE8#32
  | 62 => 0xA85C9FB8#32
  | 63 => 0x278D4252#32
  | 64 => 0xA853E37B#32
  | 65 => 0x27C24B9B#32
  | 66 => 0x2888CBF0#32
  | 67 => 0x28BDD539#32
  | 68 => 0x27FFFA4A#32
  | 69 => 0xA87FF770#32
  | 70 => 0xA8800723#32
  | 71 => 0x294004FF#32
  | 72 => 0x27C21DEF#32
  | 73 => 0xA7C2295A#32
  | 74 => 0x2948CF82#32
  | 75 => 0xA891A1DE#32
  | 76 => 0xA6D43BF9#32
  | 77 => 0x270D25C7#32
  | 78 => 0xA8B4EE2A#32
  | 79 => 0xA929EB51#32
  | 80 => 0xA78463D4#32
  | 81 => 0x28A34ADF#32
  | 82 => 0xA84AF992#32
  | 83 => 0xA8D8514D#32
  | 84 => 0x26AC1F5F#32
  | 85 => 0xA7422F0F#32
  | 86 => 0x27F72737#32
  | 87 => 0xA78D36E7#32
  | 88 => 0x2888D1A6#32
  | 89 => 0xA85CAB23#32
  | 90 => 0x2827B2FB#32
  | 91 => 0xA8B95D6A#32
  | 92 => 0x27770AAC#32
  | 93 => 0xA60CA82D#32
  | 94 => 0x28E9E92D#32
  | 95 => 0xA8CF6D19#32
  | 96 => 0x28B4F105#32
  | 97 => 0xA89A74F1#32
  | 98 => 0x293FFC6F#32
  | 99 => 0xA84AF992#32
  | 100 => 0x2925805A#32
  | 101 => 0xA9184250#32
  | 102 => 0x290B0446#32
  | 103 => 0xA8FB8C79#32
  | 104 => 0x28E11065#32
  | 105 => 0xA8C69451#32
  | 106 => 0x29AB060F#32
  | 107 => 0xA8919C29#32
  | 108 => 0x286E4029#32
  | 109 => 0x26D40E4D#32
  | 110 => 0xA79F0ABA#32
  | 111 => 0xA90B05B4#32
  | 112 => 0x286E4B94#32
  | 113 => 0x27395BFC#32
  | 114 => 0xA84B04FD#32
  | 115 => 0x2827B2FB#32
  | 116 => 0xA80460F9#32
  | 117 => 0x291843BE#32
  | 118 => 0xA90F6F3D#32
  | 119 => 0x29834D5E#32
  | 120 => 0xA8FB8C79#32
  | 121 => 0x2974F1BC#32
  | 122 => 0xA9B60E9E#32
  | 123 => 0xA8D8402C#32
  | 124 => 0x258CD5D9#32
  | 125 => 0x27E597E7#32
  | 126 => 0xA8B4FF4B#32
  | 127 => 0x27C26271#32
  | _ => 0#32

noncomputable abbrev lit1t0_4 (i : Nat) : BitVec 32 := match i % 128 with
  | 0 => 0x27E56A3B#32
  | 1 => 0xA8B4F3E0#32
  | 2 => 0x2776DD00#32
  | 3 => 0xA7772182#32
  | 4 => 0x28395921#32
  | 5 => 0xA89A74F1#32
  | 6 => 0x296C1EA9#32
  | 7 => 0xA7302D91#32
  | 8 => 0xA60E158F#32
  | 9 => 0x28960E42#32
  | 10 => 0xA9211564#32
  | 11 => 0xA839536C#32
  | 12 => 0xA71EE2C3#32
  | 13 => 0xA60D5EDE#32
  | 14 => 0xA78D36E7#32
  | 15 => 0x28160CD5#32
  | 16 => 0x26D40E4D#32
  | 17 => 0x289A77CC#32
  | 18 => 0xA80460F9#32
  | 19 => 0x28E9E92D#32
  | 20 => 0xA891A1DE#32
  | 21 => 0x27E56A3B#32
  | 22 => 0xA8E1133F#32
  | 23 => 0x2888CBF0#32
  | 24 => 0xA9184250#32
  | 25 => 0x296C1EA9#32
  | 26 => 0xA87FEC05#32
  | 27 => 0xA8D8514D#32
  | 28 => 0x27C26271#32
  | 29 => 0x286E4029#32
  | 30 => 0xA90F6C63#32
  | 31 => 0x296348BB#32
  | 32 => 0x28BDC418#32
  | 33 => 0xA86E514A#32
  | 34 => 0x284AF3DD#32
  | 35 => 0xA776F3D6#32
  | 36 => 0x27FFFA4A#32
  | 37 => 0xA87FF770#32
  | 38 => 0x293FFC6F#32
  | 39 => 0xA87FEC05#32
  | 40 => 0xA8800CD8#32
  | 41 => 0x2830860E#32
  | 42 => 0xA944648B#32
  | 43 => 0x27776604#32
  | 44 => 0x260D0385#32
  | 45 => 0xA6D38548#32
  | 46 => 0x290B0446#32
  | 47 => 0x28E1273B#32
  | 48 => 0x292116D1#32
  | 49 => 0x261ED758#32
  | 50 => 0xA7422F0F#32
  | 51 => 0xA60D5EDE#32
  | 52 => 0x27846F3F#32
  | 53 => 0x280466AF#32
  | 54 => 0x2753EC0C#32
  | 55 => 0x2888D1A6#32
  | 56 => 0xA7B08334#32
  | 57 => 0x281EDFE8#32
  | 58 => 0x26D40E4D#32
  | 59 => 0x28960E42#32
  | 60 => 0xA7E575A6#32
  | 61 => 0x28395921#32
  | 62 => 0xA87FF770#32
  | 63 => 0x28A34ADF#32
  | 64 => 0x27E597E7#32
  | 65 => 0x28E9E92D#32
  | 66 => 0xA6D38548#32
  | 67 => 0x27C21DEF#32
  | 68 => 0xA929EB51#32
  | 69 => 0x286E4B94#32
  | 70 => 0xA89A74F1#32
  | 71 => 0xA80477CF#32
  | 72 => 0xA8E1133F#32
  | 73 => 0x29023133#32
  | 74 => 0xA79EC637#32
  | 75 => 0xA8B4FF4B#32
  | 76 => 0xA85C9FB8#32
  | 77 => 0x2948CF82#32
  | 78 => 0xA8B4EE2A#32
  | 79 => 0xA79F0ABA#32
  | 80 => 0xA8FB8C79#32
  | 81 => 0x2776DD00#32
  | 82 => 0xA9211564#32
  | 83 => 0x284AF3DD#32
  | 84 => 0xA944648B#32
  | 85 => 0xA929F3E2#32
  | 86 => 0x27C26271#32
  | 87 => 0x28F2B68B#32
  | 88 => 0xA7302D91#32
  | 89 => 0x291CAA6D#32
  | 90 => 0xA9972900#32
  | 91 => 0xA8800CD8#32
  | 92 => 0xA8A3424F#32
  | 93 => 0xA7E5BA28#32
  | 94 => 0xA8E9E09D#32
  | 95 => 0x29834BF1#32
  | 96 => 0x28CF8115#32
  | 97 => 0x28279C25#32
  | 98 => 0xA8A34804#32
  | 99 => 0x29023133#32
  | 100 => 0x2753BE5F#32
  | 101 => 0x27C26271#32
  | 102 => 0xA78463D4#32
  | 103 => 0x28A34ADF#32
  | 104 => 0xA84AF992#32
  | 105 => 0xA8D8514D#32
  | 106 => 0xA8E9E09D#32
  | 107 => 0xA84B04FD#32
  | 108 => 0x27C21DEF#32
  | 109 => 0xA8FB8C79#32
  | 110 => 0x296348BB#32
  | 111 => 0x28C6972B#32
  | 112 => 0x260DBA36#32
  | 113 => 0xA906A4BB#32
  | 114 => 0xA79EC637#32
  | 115 => 0x2888CBF0#32
  | 116 => 0x28395921#32
  | 117 => 0xA7302D91#32
  | 118 => 0xA8E9E653#32
  | 119 => 0x280D39C2#32
  | 120 => 0xA929EB51#32
  | 121 => 0x28E11065#32
  | 122 => 0xA99B928A#32
  | 123 => 0x280466AF#32
  | 124 => 0xA8C69A06#32
  | 125 => 0x2925805A#32
  | 126 => 0x27C26271#32
  | 127 => 0x2A0A79C2#32
  | _ => 0#32

noncomputable abbrev lit1t0_5 (i : Nat) : BitVec 32 := match i % 128 with
  | 0 => 0x2804721A#32
  | 1 => 0xA8C6AB27#32
  | 2 => 0x2827C9D1#32
  | 3 => 0x26D3579C#32
  | 4 => 0x274B0222#32
  | 5 => 0xA7B08334#32
  | 6 => 0x27770AAC#32
  | 7 => 0x285CBC44#32
  | 8 => 0x29023133#32
  | 9 => 0x2888DD11#32
  | 10 => 0xA730E441#32
  | 11 => 0x2951AE00#32
  | 12 => 0x28CF6489#32
  | 13 => 0xA9211289#32
  | 14 => 0xA85C9FB8#32
  | 15 => 0xA79EDD0D#32
  | 16 => 0x286E4B94#32
  | 17 => 0xA8C69451#32
  | 18 => 0x290B016C#32
  | 19 => 0x28CF6A3F#32
  | 20 => 0xA87FF770#32
  | 21 => 0xA8800CD8#32
  | 22 => 0xA71EE2C3#32
  | 23 => 0x27EE5424#32
  | 24 => 0xA78D36E7#32
  | 25 => 0x28160CD5#32
  | 26 => 0xA8657E36#32
  | 27 => 0x289A77CC#32
  | 28 => 0xA80460F9#32
  | 29 => 0x28E9E92D#32
  | 30 => 0xA891A1DE#32
  | 31 => 0x27E56A3B#32
  | 32 => 0xA8E1133F#32
  | 33 => 0x294465F8#32
  | 34 => 0xA9184250#32
  | 35 => 0x296C1EA9#32
  | 36 => 0xA99FFD81#32
  | 37 => 0x29C9EBAD#32
  | 38 => 0x27C26271#32
  | 39 => 0x286E4029#32
  | 40 => 0xA90F6C63#32
  | 41 => 0x296348BB#32
  | 42 => 0xA99B928A#32
  | 43 => 0x290B016C#32
  | 44 => 0xA95EDDC4#32
  | 45 => 0x284AE871#32
  | 46 => 0xA9C34B3A#32
  | 47 => 0xA85CC1F9#32
  | 48 => 0xA7774F2E#32
  | 49 => 0x292E5ED9#32
  | 50 => 0x26D469A5#32
  | 51 => 0x261ED758#32
  | 52 => 0x27846F3F#32
  | 53 => 0x268D1A5B#32
  | 54 => 0x26D40E4D#32
  | 55 => 0xA78D4DBD#32
  | 56 => 0x27E597E7#32
  | 57 => 0x27C21DEF#32
  | 58 => 0xA89A74F1#32
  | 59 => 0x29023133#32
  | 60 => 0xA85C9FB8#32
  | 61 => 0xA79F0ABA#32
  | 62 => 0xA9211564#32
  | 63 => 0xA929F3E2#32
  | 64 => 0xA7302D91#32
  | 65 => 0xA8800CD8#32
  | 66 => 0xA8E9E09D#32
  | 67 => 0x28279C25#32
  | 68 => 0xA95EDDC4#32
  | 69 => 0x2913D47F#32
  | 70 => 0xA8919673#32
  | 71 => 0x2827A790#32
  | 72 => 0xA80460F9#32
  | 73 => 0xA7E5BA28#32
  | 74 => 0xA8B4EE2A#32
  | 75 => 0x260D0385#32
  | 76 => 0xA6D38548#32
  | 77 => 0x290B0446#32
  | 78 => 0xA90F6C63#32
  | 79 => 0x2913D47F#32
  | 80 => 0x28A34ADF#32
  | 81 => 0xA8E9E09D#32
  | 82 => 0x2888DD11#32
  | 83 => 0x27309FBF#32
  | 84 => 0xA80477CF#32
  | 85 => 0xA8919C29#32
  | 86 => 0x284AE871#32
  | 87 => 0xA79F0ABA#32
  | 88 => 0x2630AB2A#32
  | 89 => 0x281EDFE8#32
  | 90 => 0xA60CA82D#32
  | 91 => 0x27E56A3B#32
  | 92 => 0xA85C9FB8#32
  | 93 => 0xA83975AD#32
  | 94 => 0x2913E2C5#32
  | 95 => 0x26D2FC43#32
  | 96 => 0xA9211289#32
  | 97 => 0xA94472D1#32
  | 98 => 0xA7E55ED0#32
  | 99 => 0x289A7216#32
  | 100 => 0x284AFF48#32
  | 101 => 0x28CF8115#32
  | 102 => 0xA84B04FD#32
  | 103 => 0x291843BE#32
  | 104 => 0xA8FB8C79#32
  | 105 => 0x296348BB#32
  | 106 => 0xA8919673#32
  | 107 => 0x28160CD5#32
  | 108 => 0xA8E1133F#32
  | 109 => 0x286E4029#32
  | 110 => 0xA9C34B3A#32
  | 111 => 0x292E536E#32
  | 112 => 0x27E597E7#32
  | 113 => 0xA95618F7#32
  | 114 => 0x28047D85#32
  | 115 => 0x2776DD00#32
  | 116 => 0x279ED1A2#32
  | 117 => 0x2888E2C6#32
  | 118 => 0xA87FEC05#32
  | 119 => 0xA7B08334#32
  | 120 => 0x29023133#32
  | 121 => 0xA9972900#32
  | 122 => 0x295A72CD#32
  | 123 => 0x280D39C2#32
  | 124 => 0xA929EB51#32
  | 125 => 0x28E11065#32
  | 126 => 0xA85C944D#32
  | 127 => 0x29FEE0FA#32
  | _ => 0#32

noncomputable abbrev lit1t0_6 (i : Nat) : BitVec 32 := match i % 128 with
  | 0 => 0xA888CECB#32
  | 1 => 0x289A6C61#32
  | 2 => 0xA9211564#32
  | 3 => 0xA83975AD#32
  | 4 => 0xA60D5EDE#32
  | 5 => 0x26D40E4D#32
  | 6 => 0x28E9E92D#32
  | 7 => 0x27776604#32
  | 8 => 0xA79F0ABA#32
  | 9 => 0x27C26271#32
  | 10 => 0xA7E5BA28#32
  | 11 => 0x280488F0#32
  | 12 => 0x295A72CD#32
  | 13 => 0xA95607D6#32
  | 14 => 0x297DD03A#32
  | 15 => 0x26D3B2F4#32
  | 16 => 0xA79EC637#32
  | 17 => 0x28044FD9#32
  | 18 => 0xA8393C96#32
  | 19 => 0x284AF3DD#32
  | 20 => 0xA816071F#32
  | 21 => 0xA90F7AA8#32
  | 22 => 0xA79EDD0D#32
  | 23 => 0x286E4B94#32
  | 24 => 0xA8C69451#32
  | 25 => 0x290B016C#32
  | 26 => 0x289A8EA2#32
  | 27 => 0xA8D8514D#32
  | 28 => 0x28AC1DF2#32
  | 29 => 0xA60B3ACB#32
  | 30 => 0x286E6DD5#32
  | 31 => 0x269EEE2E#32
  | 32 => 0x258CD5D9#32
  | 33 => 0x270D5373#32
  | 34 => 0x2753BE5F#32
  | 35 => 0x27E597E7#32
  | 36 => 0xA6D43BF9#32
  | 37 => 0xA776F3D6#32
  | 38 => 0xA8B4FF4B#32
  | 39 => 0x2888DD11#32
  | 40 => 0xA83975AD#32
  | 41 => 0x27C26271#32
  | 42 => 0xA60ECC40#32
  | 43 => 0xA79EAF61#32
  | 44 => 0xA95618F7#32
  | 45 => 0x294007DA#32
  | 46 => 0xA929F6BC#32
  | 47 => 0x2913E59F#32
  | 48 => 0xA8FBA904#32
  | 49 => 0x28CF86CA#32
  | 50 => 0xA8A36490#32
  | 51 => 0xA730E441#32
  | 52 => 0xA6D38548#32
  | 53 => 0x2913D47F#32
  | 54 => 0xA815FBB4#32
  | 55 => 0x261ED758#32
  | 56 => 0x27846F3F#32
  | 57 => 0x2888D1A6#32
  | 58 => 0x26D40E4D#32
  | 59 => 0x28395921#32
  | 60 => 0x27E597E7#32
  | 61 => 0x27C21DEF#32
  | 62 => 0xA89A74F1#32
  | 63 => 0x29023133#32
  | 64 => 0xA85C9FB8#32
  | 65 => 0xA79F0ABA#32
  | 66 => 0xA9211564#32
  | 67 => 0xA929F3E2#32
  | 68 => 0xA7302D91#32
  | 69 => 0xA8800CD8#32
  | 70 => 0xA8E9E09D#32
  | 71 => 0x28279C25#32
  | 72 => 0xA95EDDC4#32
  | 73 => 0x2913D47F#32
  | 74 => 0xA8919673#32
  | 75 => 0xA60F82F0#32
  | 76 => 0x289A8EA2#32
  | 77 => 0xA9185096#32
  | 78 => 0xA98E5312#32
  | 79 => 0x29519CDF#32
  | 80 => 0x285CA56E#32
  | 81 => 0x295A83EE#32
  | 82 => 0xA906994F#32
  | 83 => 0x281EDFE8#32
  | 84 => 0xA85C9FB8#32
  | 85 => 0x29834BF1#32
  | 86 => 0xA95607D6#32
  | 87 => 0x29372681#32
  | 88 => 0x278D4252#32
  | 89 => 0xA853E37B#32
  | 90 => 0x27C24B9B#32
  | 91 => 0x2888CBF0#32
  | 92 => 0x28BDD539#32
  | 93 => 0xA60ECC40#32
  | 94 => 0x29258BC6#32
  | 95 => 0xA891B8B4#32
  | 96 => 0xA79E988B#32
  | 97 => 0x28E104FA#32
  | 98 => 0x27C26271#32
  | 99 => 0xA967BF1D#32
  | 100 => 0x27C21DEF#32
  | 101 => 0xA8919673#32
  | 102 => 0xA853D810#32
  | 103 => 0xA80477CF#32
  | 104 => 0xA8919C29#32
  | 105 => 0x284AE871#32
  | 106 => 0xA98E5312#32
  | 107 => 0xA7C2295A#32
  | 108 => 0x2948CF82#32
  | 109 => 0x26D4C4FE#32
  | 110 => 0x282790BA#32
  | 111 => 0x28F2B68B#32
  | 112 => 0xA891A1DE#32
  | 113 => 0x295A72CD#32
  | 114 => 0x28AC2F13#32
  | 115 => 0xA8162961#32
  | 116 => 0xA6D43BF9#32
  | 117 => 0x2913E59F#32
  | 118 => 0xA7302D91#32
  | 119 => 0x270D25C7#32
  | 120 => 0xA8B4EE2A#32
  | 121 => 0xA79F2190#32
  | 122 => 0x29023F79#32
  | 123 => 0x28160CD5#32
  | 124 => 0x27776604#32
  | 125 => 0x286E4029#32
  | 126 => 0x28F2D317#32
  | 127 => 0x29519CDF#32
  | _ => 0#32

noncomputable abbrev lit1t0_7 (i : Nat) : BitVec 32 := match i % 128 with
  | 0 => 0xA929EB51#32
  | 1 => 0xA60F82F0#32
  | 2 => 0x2913E2C5#32
  | 3 => 0x291CAA6D#32
  | 4 => 0x26AC1F5F#32
  | 5 => 0xA7422F0F#32
  | 6 => 0x27F72737#32
  | 7 => 0xA78D36E7#32
  | 8 => 0x2888D1A6#32
  | 9 => 0xA85CAB23#32
  | 10 => 0x2827B2FB#32
  | 11 => 0xA8B95D6A#32
  | 12 => 0x27770AAC#32
  | 13 => 0xA60CA82D#32
  | 14 => 0x28E9E92D#32
  | 15 => 0xA8CF6D19#32
  | 16 => 0x28B4F105#32
  | 17 => 0xA89A74F1#32
  | 18 => 0x293FFC6F#32
  | 19 => 0xA84AF992#32
  | 20 => 0x2925805A#32
  | 21 => 0xA9184250#32
  | 22 => 0x290B0446#32
  | 23 => 0xA8FB8C79#32
  | 24 => 0x28E11065#32
  | 25 => 0xA8C69451#32
  | 26 => 0x29AB060F#32
  | 27 => 0xA8919C29#32
  | 28 => 0x286E4029#32
  | 29 => 0xA9972900#32
  | 30 => 0x299089FB#32
  | 31 => 0xA79EAF61#32
  | 32 => 0x29834BF1#32
  | 33 => 0xA97959D8#32
  | 34 => 0xA79F2190#32
  | 35 => 0xA95EDDC4#32
  | 36 => 0x29519FBA#32
  | 37 => 0xA94461B0#32
  | 38 => 0xA891B8B4#32
  | 39 => 0xA929E59C#32
  | 40 => 0x29CE53C9#32
  | 41 => 0xA90F6988#32
  | 42 => 0x29C115BF#32
  | 43 => 0xA8E9DAE8#32
  | 44 => 0x29B3D7B5#32
  | 45 => 0xA8B4E2BF#32
  | 46 => 0x29A699AB#32
  | 47 => 0xAA0FFD53#32
  | 48 => 0x29995BA1#32
  | 49 => 0xAA095E4E#32
  | 50 => 0x298C1D97#32
  | 51 => 0xA72FD238#32
  | 52 => 0x297DBF19#32
  | 53 => 0xA9F84088#32
  | 54 => 0x284B2189#32
  | 55 => 0x26D40E4D#32
  | 56 => 0xA79F0ABA#32
  | 57 => 0x280488F0#32
  | 58 => 0x29519CDF#32
  | 59 => 0xA60ECC40#32
  | 60 => 0xA90B05B4#32
  | 61 => 0xA95EEEE5#32
  | 62 => 0xA7B08334#32
  | 63 => 0x29023133#32
  | 64 => 0x2951AE00#32
  | 65 => 0x295A72CD#32
  | 66 => 0xA906939A#32
  | 67 => 0x28BDBE63#32
  | 68 => 0x286E4B94#32
  | 69 => 0x289A8EA2#32
  | 70 => 0xA90F6C63#32
  | 71 => 0x27395BFC#32
  | 72 => 0xA84B04FD#32
  | 73 => 0x2827B2FB#32
  | 74 => 0xA80460F9#32
  | 75 => 0x291843BE#32
  | 76 => 0xA90F6F3D#32
  | 77 => 0x29834D5E#32
  | 78 => 0xA8FB8C79#32
  | 79 => 0x2974F1BC#32
  | 80 => 0xA9B60E9E#32
  | 81 => 0x296348BB#32
  | 82 => 0xA9AD3A1D#32
  | 83 => 0x29519FBA#32
  | 84 => 0xA8919673#32
  | 85 => 0x293FF6B9#32
  | 86 => 0xA99B911C#32
  | 87 => 0x29D726DC#32
  | 88 => 0xAA095E4E#32
  | 89 => 0x2A27292E#32
  | 90 => 0xAA44F40E#32
  | 91 => 0xA8800CD8#32
  | 92 => 0xA8D8402C#32
  | 93 => 0x2888C085#32
  | 94 => 0x277793B0#32
  | 95 => 0x26D3B2F4#32
  | 96 => 0xA79EC637#32
  | 97 => 0x28044FD9#32
  | 98 => 0xA8393C96#32
  | 99 => 0x286E2953#32
  | 100 => 0x27E56A3B#32
  | 101 => 0xA95607D6#32
  | 102 => 0xA8A3424F#32
  | 103 => 0xA8B4F3E0#32
  | 104 => 0x2776DD00#32
  | 105 => 0xA94461B0#32
  | 106 => 0x29BCAAC8#32
  | 107 => 0xA8FBA34F#32
  | 108 => 0xA7772182#32
  | 109 => 0x28395921#32
  | 110 => 0xA89A74F1#32
  | 111 => 0x296C1EA9#32
  | 112 => 0xA7302D91#32
  | 113 => 0x28279C25#32
  | 114 => 0xA8919673#32
  | 115 => 0xA9185096#32
  | 116 => 0xA906939A#32
  | 117 => 0x29D2BBE5#32
  | 118 => 0xA932BB8A#32
  | 119 => 0xA7E5BA28#32
  | 120 => 0xA60E158F#32
  | 121 => 0x26D52056#32
  | 122 => 0x269EEE2E#32
  | 123 => 0x258CD5D9#32
  | 124 => 0x270D5373#32
  | 125 => 0x2753BE5F#32
  | 126 => 0x27E597E7#32
  | 127 => 0xA6D43BF9#32
  | _ => 0#32

noncomputable abbrev lit1t0_8 (i : Nat) : BitVec 32 := match i % 128 with
  | 0 => 0xA776F3D6#32
  | 1 => 0xA8B4FF4B#32
  | 2 => 0x2888DD11#32
  | 3 => 0xA83975AD#32
  | 4 => 0x27C26271#32
  | 5 => 0xA60ECC40#32
  | 6 => 0xA79EAF61#32
  | 7 => 0x28279C25#32
  | 8 => 0xA87FE09A#32
  | 9 => 0x29AB04A2#32
  | 10 => 0x2913E59F#32
  | 11 => 0xA8FBA904#32
  | 12 => 0x28CF86CA#32
  | 13 => 0xA8A36490#32
  | 14 => 0xA9E22F6B#32
  | 15 => 0xA8164037#32
  | 16 => 0xA9F84088#32
  | 17 => 0x26D24593#32
  | 18 => 0x29F1AE5B#32
  | 19 => 0x28960E42#32
  | 20 => 0xA9211564#32
  | 21 => 0xA891B8B4#32
  | 22 => 0xA94D31E8#32
  | 23 => 0xA93B9CE3#32
  | 24 => 0xA839536C#32
  | 25 => 0x290AFE91#32
  | 26 => 0xA8E9E09D#32
  | 27 => 0x29257D80#32
  | 28 => 0x28BDC418#32
  | 29 => 0xA98E5312#32
  | 30 => 0x2827D53C#32
  | 31 => 0xA86E514A#32
  | 32 => 0x284AF3DD#32
  | 33 => 0xA929E59C#32
  | 34 => 0x28043903#32
  | 35 => 0x281EDFE8#32
  | 36 => 0xA85C9FB8#32
  | 37 => 0x26D2FC43#32
  | 38 => 0xA95607D6#32
  | 39 => 0xA8B5106C#32
  | 40 => 0xA776F3D6#32
  | 41 => 0xA8A36490#32
  | 42 => 0xA85C944D#32
  | 43 => 0x28CF6489#32
  | 44 => 0x27FFFA4A#32
  | 45 => 0xA87FF770#32
  | 46 => 0x293FFC6F#32
  | 47 => 0xA87FEC05#32
  | 48 => 0xA8800CD8#32
  | 49 => 0xA87FE09A#32
  | 50 => 0x293FF6B9#32
  | 51 => 0xAA0FFD53#32
  | 52 => 0xA8801843#32
  | 53 => 0x29400D8F#32
  | 54 => 0x28CF8115#32
  | 55 => 0x2830860E#32
  | 56 => 0xA944648B#32
  | 57 => 0x29CE53C9#32
  | 58 => 0xA9BA754C#32
  | 59 => 0x2948CCA7#32
  | 60 => 0x27776604#32
  | 61 => 0x29519CDF#32
  | 62 => 0xA7C2295A#32
  | 63 => 0xA85CC1F9#32
  | 64 => 0x26D4C4FE#32
  | 65 => 0x282790BA#32
  | 66 => 0x2925917B#32
  | 67 => 0x28279C25#32
  | 68 => 0x292116D1#32
  | 69 => 0x291CBB8D#32
  | 70 => 0x29258BC6#32
  | 71 => 0x261ED758#32
  | 72 => 0xA7422F0F#32
  | 73 => 0xA60D5EDE#32
  | 74 => 0x27846F3F#32
  | 75 => 0x280466AF#32
  | 76 => 0x2753EC0C#32
  | 77 => 0x2888D1A6#32
  | 78 => 0xA7B08334#32
  | 79 => 0x281EDFE8#32
  | 80 => 0x26D40E4D#32
  | 81 => 0x28960E42#32
  | 82 => 0xA7E575A6#32
  | 83 => 0x28395921#32
  | 84 => 0xA87FF770#32
  | 85 => 0x28A34ADF#32
  | 86 => 0x27E597E7#32
  | 87 => 0x28E9E92D#32
  | 88 => 0xA6D38548#32
  | 89 => 0x27C21DEF#32
  | 90 => 0xA929EB51#32
  | 91 => 0x286E4B94#32
  | 92 => 0xA89A74F1#32
  | 93 => 0xA80477CF#32
  | 94 => 0xA8E1133F#32
  | 95 => 0x29023133#32
  | 96 => 0xA79EC637#32
  | 97 => 0xA8B4FF4B#32
  | 98 => 0xA85C9FB8#32
  | 99 => 0x2948CF82#32
  | 100 => 0xA8B4EE2A#32
  | 101 => 0xA79F0ABA#32
  | 102 => 0xA8FB8C79#32
  | 103 => 0x2776DD00#32
  | 104 => 0xA9211564#32
  | 105 => 0x284AF3DD#32
  | 106 => 0xA944648B#32
  | 107 => 0xA929F3E2#32
  | 108 => 0x27C26271#32
  | 109 => 0x28F2B68B#32
  | 110 => 0xA7302D91#32
  | 111 => 0x291CAA6D#32
  | 112 => 0xA9972900#32
  | 113 => 0xA8800CD8#32
  | 114 => 0xA8A3424F#32
  | 115 => 0xA7E5BA28#32
  | 116 => 0xA8E9E09D#32
  | 117 => 0x29834BF1#32
  | 118 => 0x28CF8115#32
  | 119 => 0x28279C25#32
  | 120 => 0xA93B8E9D#32
  | 121 => 0x289A6C61#32
  | 122 => 0xA95EDDC4#32
  | 123 => 0xA90F7AA8#32
  | 124 => 0xA60B3ACB#32
  | 125 => 0x2913D47F#32
  | 126 => 0x295A83EE#32
  | 127 => 0xA891B8B4#32
  | _ => 0#32

noncomputable abbrev lit1t0_9 (i : Nat) : BitVec 32 := match i % 128 with
  | 0 => 0xA8919673#32
  | 1 => 0x295A72CD#32
  | 2 => 0xA9B60D30#32
  | 3 => 0xA60F82F0#32
  | 4 => 0xA90F6988#32
  | 5 => 0x2990888E#32
  | 6 => 0x289A8EA2#32
  | 7 => 0x2888C085#32
  | 8 => 0xA95607D6#32
  | 9 => 0xA9185096#32
  | 10 => 0x26D52056#32
  | 11 => 0x290AFE91#32
  | 12 => 0xA98E5312#32
  | 13 => 0xA8A36490#32
  | 14 => 0xAA0FFD53#32
  | 15 => 0x29519CDF#32
  | 16 => 0x291CBB8D#32
  | 17 => 0x29FA7603#32
  | 18 => 0xA906939A#32
  | 19 => 0x298C1D97#32
  | 20 => 0xA9D4F161#32
  | 21 => 0x286E2953#32
  | 22 => 0xA94D31E8#32
  | 23 => 0xA9212684#32
  | 24 => 0xA9F84088#32
  | 25 => 0x290228A3#32
  | 26 => 0x296C2FC9#32
  | 27 => 0x29D2BBE5#32
  | 28 => 0xA85C7D77#32
  | 29 => 0x2948C6F1#32
  | 30 => 0xA9AD3742#32
  | 31 => 0xA79F4F3C#32
  | 32 => 0xA8FB7B58#32
  | 33 => 0x2987B2A0#32
  | 34 => 0xA9D0866A#32
  | 35 => 0x284AD19B#32
  | 36 => 0xAA3116FF#32
  | 37 => 0x29AB01C7#32
  | 38 => 0x27C2A6F3#32
  | 39 => 0x28F2A56A#32
  | 40 => 0xA9857D24#32
  | 41 => 0x29CE50EE#32
  | 42 => 0x290B016C#32
  | 43 => 0xA8A34804#32
  | 44 => 0x29FA7603#32
  | 45 => 0xA93B8E9D#32
  | 46 => 0x270D25C7#32
  | 47 => 0xA8B4EE2A#32
  | 48 => 0xA79F2190#32
  | 49 => 0x29023F79#32
  | 50 => 0xA9709AC0#32
  | 51 => 0x29023133#32
  | 52 => 0xA906939A#32
  | 53 => 0xA7E547FA#32
  | 54 => 0x2753BE5F#32
  | 55 => 0x27C26271#32
  | 56 => 0x29C115BF#32
  | 57 => 0xAA0728D2#32
  | 58 => 0x289A6C61#32
  | 59 => 0xA78463D4#32
  | 60 => 0x28A34ADF#32
  | 61 => 0xA84AF992#32
  | 62 => 0xA8D8514D#32
  | 63 => 0xA8E9E09D#32
  | 64 => 0x29AB04A2#32
  | 65 => 0xA99B911C#32
  | 66 => 0x298C1D97#32
  | 67 => 0xA9795423#32
  | 68 => 0x295A6D18#32
  | 69 => 0xA8FB86C3#32
  | 70 => 0xA8A35EDA#32
  | 71 => 0x28C6972B#32
  | 72 => 0xA9D4F161#32
  | 73 => 0x26D40E4D#32
  | 74 => 0xA79F0ABA#32
  | 75 => 0x280488F0#32
  | 76 => 0x29519CDF#32
  | 77 => 0x299DD203#32
  | 78 => 0x260DBA36#32
  | 79 => 0xA906A4BB#32
  | 80 => 0xA8E9DAE8#32
  | 81 => 0x29B83FD1#32
  | 82 => 0x2776AF53#32
  | 83 => 0xA79EC637#32
  | 84 => 0x286E2953#32
  | 85 => 0xA87FE09A#32
  | 86 => 0xA90F7AA8#32
  | 87 => 0x2888CBF0#32
  | 88 => 0xA94D31E8#32
  | 89 => 0xA9211289#32
  | 90 => 0x28395921#32
  | 91 => 0xA7302D91#32
  | 92 => 0xA9185096#32
  | 93 => 0xAA3116FF#32
  | 94 => 0x27395BFC#32
  | 95 => 0xA84B04FD#32
  | 96 => 0x2827B2FB#32
  | 97 => 0xA80460F9#32
  | 98 => 0x291843BE#32
  | 99 => 0xA90F6F3D#32
  | 100 => 0x29834D5E#32
  | 101 => 0xA8FB8C79#32
  | 102 => 0x2974F1BC#32
  | 103 => 0xA9B60E9E#32
  | 104 => 0x296348BB#32
  | 105 => 0xA9AD3A1D#32
  | 106 => 0x29519FBA#32
  | 107 => 0xA8919673#32
  | 108 => 0x293FF6B9#32
  | 109 => 0xA99B911C#32
  | 110 => 0x29D726DC#32
  | 111 => 0xAA095E4E#32
  | 112 => 0x2A27292E#32
  | 113 => 0xAA44F40E#32
  | 114 => 0x29C57DDB#32
  | 115 => 0xAA0089CD#32
  | 116 => 0x2A1E54AD#32
  | 117 => 0xAA3C1F8D#32
  | 118 => 0x29B3D4DA#32
  | 119 => 0xA8E9E653#32
  | 120 => 0x29AF6CBE#32
  | 121 => 0xA60B3ACB#32
  | 122 => 0x284AE871#32
  | 123 => 0x280466AF#32
  | 124 => 0xA8C69A06#32
  | 125 => 0x2925805A#32
  | 126 => 0x27C26271#32
  | 127 => 0x2A0A79C2#32
  | _ => 0#32

noncomputable abbrev lit1t0_10 (i : Nat) : BitVec 32 := match i % 128 with
  | 0 => 0xA9B60D30#32
  | 1 => 0x29D726DC#32
  | 2 => 0xA9F84088#32
  | 3 => 0x2A0CAD1A#32
  | 4 => 0xAA1D39F0#32
  | 5 => 0xA8C68E9B#32
  | 6 => 0x2804721A#32
  | 7 => 0xA8C6AB27#32
  | 8 => 0xA8B4E2BF#32
  | 9 => 0xA9F3E3D7#32
  | 10 => 0x2913D47F#32
  | 11 => 0x2827C9D1#32
  | 12 => 0x290228A3#32
  | 13 => 0xA8B4F3E0#32
  | 14 => 0x2776DD00#32
  | 15 => 0xA94461B0#32
  | 16 => 0x29BCAAC8#32
  | 17 => 0xAA0B925C#32
  | 18 => 0x2974EEE1#32
  | 19 => 0x26D3579C#32
  | 20 => 0x296C2FC9#32
  | 21 => 0xA992BE09#32
  | 22 => 0x274B0222#32
  | 23 => 0xA7B08334#32
  | 24 => 0x27770AAC#32
  | 25 => 0x285CBC44#32
  | 26 => 0x29023133#32
  | 27 => 0x2888DD11#32
  | 28 => 0xA730E441#32
  | 29 => 0x2951AE00#32
  | 30 => 0x28CF6489#32
  | 31 => 0xA9211289#32
  | 32 => 0x295A72CD#32
  | 33 => 0xA79E988B#32
  | 34 => 0x29A699AB#32
  | 35 => 0xA906939A#32
  | 36 => 0xA8801843#32
  | 37 => 0xA9795423#32
  | 38 => 0x284AD19B#32
  | 39 => 0x2913EB55#32
  | 40 => 0x292574EF#32
  | 41 => 0x2A084AB3#32
  | 42 => 0x29AB04A2#32
  | 43 => 0xA85C9FB8#32
  | 44 => 0x29D2BBE5#32
  | 45 => 0x28F2D317#32
  | 46 => 0xA853E37B#32
  | 47 => 0x28BDD539#32
  | 48 => 0xA891B8B4#32
  | 49 => 0xA94D31E8#32
  | 50 => 0xA7E5FEAB#32
  | 51 => 0x28CF6A3F#32
  | 52 => 0xA85C7D77#32
  | 53 => 0x27C27947#32
  | 54 => 0xA87FF770#32
  | 55 => 0xA8800CD8#32
  | 56 => 0xAA0FFD53#32
  | 57 => 0x293FF103#32
  | 58 => 0x27C1F042#32
  | 59 => 0xA71EE2C3#32
  | 60 => 0x27EE5424#32
  | 61 => 0xA78D36E7#32
  | 62 => 0x28160CD5#32
  | 63 => 0xA8657E36#32
  | 64 => 0x289A77CC#32
  | 65 => 0xA80460F9#32
  | 66 => 0x28E9E92D#32
  | 67 => 0xA891A1DE#32
  | 68 => 0x27E56A3B#32
  | 69 => 0xA8E1133F#32
  | 70 => 0x294465F8#32
  | 71 => 0xA9184250#32
  | 72 => 0x296C1EA9#32
  | 73 => 0xA99FFD81#32
  | 74 => 0x29C9EBAD#32
  | 75 => 0x27C26271#32
  | 76 => 0x286E4029#32
  | 77 => 0xA90F6C63#32
  | 78 => 0x296348BB#32
  | 79 => 0xA99B928A#32
  | 80 => 0x290B016C#32
  | 81 => 0xA95EDDC4#32
  | 82 => 0x284AE871#32
  | 83 => 0xA9C34B3A#32
  | 84 => 0x295A72CD#32
  | 85 => 0xAA0B93C9#32
  | 86 => 0x29C115BF#32
  | 87 => 0xA95607D6#32
  | 88 => 0x2A0A790C#32
  | 89 => 0xA9BEE043#32
  | 90 => 0x29519CDF#32
  | 91 => 0xAA095E4E#32
  | 92 => 0x29BCAAC8#32
  | 93 => 0xAA334C7A#32
  | 94 => 0x2A084390#32
  | 95 => 0xA9BA754C#32
  | 96 => 0x2A3231BC#32
  | 97 => 0xAA0728D2#32
  | 98 => 0x2A5C1FE9#32
  | 99 => 0xAA3116FF#32
  | 100 => 0x27C1C296#32
  | 101 => 0xAA5B052B#32
  | 102 => 0x293FF103#32
  | 103 => 0xAA8279AB#32
  | 104 => 0x29B3D4DA#32
  | 105 => 0xA93B860D#32
  | 106 => 0x2A81EC4D#32
  | 107 => 0xAA58CFAF#32
  | 108 => 0x2A2DC6C5#32
  | 109 => 0xA8919673#32
  | 110 => 0x28F2B0D5#32
  | 111 => 0xA85CC1F9#32
  | 112 => 0x2925917B#32
  | 113 => 0xA86E514A#32
  | 114 => 0x284AF3DD#32
  | 115 => 0xA929E59C#32
  | 116 => 0x2A084390#32
  | 117 => 0x28CF9235#32
  | 118 => 0xA7774F2E#32
  | 119 => 0x292E5ED9#32
  | 120 => 0xA94D48BE#32
  | 121 => 0xA79E6ADF#32
  | 122 => 0x295A72CD#32
  | 123 => 0x26D469A5#32
  | 124 => 0xA79F4F3C#32
  | 125 => 0xA9857FFF#32
  | 126 => 0x299DC698#32
  | 127 => 0x2827A790#32
  | _ => 0#32

noncomputable abbrev lit1t0_11 (i : Nat) : BitVec 32 := match i % 128 with
  | 0 => 0xA8FB7B58#32
  | 1 => 0x2913E59F#32
  | 2 => 0xA80460F9#32
  | 3 => 0xA7E5BA28#32
  | 4 => 0xA815E4DE#32
  | 5 => 0xA918564C#32
  | 6 => 0xA8A7BCF9#32
  | 7 => 0x286E6DD5#32
  | 8 => 0xA8C6B0DC#32
  | 9 => 0x2A22C55A#32
  | 10 => 0xA932D260#32
  | 11 => 0xA8B4EE2A#32
  | 12 => 0x2987B2A0#32
  | 13 => 0x284B2CF4#32
  | 14 => 0xA60F82F0#32
  | 15 => 0x260D0385#32
  | 16 => 0xA6D38548#32
  | 17 => 0x290B0446#32
  | 18 => 0xA90F6C63#32
  | 19 => 0x2913D47F#32
  | 20 => 0xA9CC1E4D#32
  | 21 => 0x2A27292E#32
  | 22 => 0xA9D0866A#32
  | 23 => 0x2A295D3C#32
  | 24 => 0xA9D4EE86#32
  | 25 => 0xA8393C96#32
  | 26 => 0x28A34ADF#32
  | 27 => 0xA8E9E09D#32
  | 28 => 0x2A460ECB#32
  | 29 => 0xA93B860D#32
  | 30 => 0x28BDB8AD#32
  | 31 => 0x2888DD11#32
  | 32 => 0x284AD19B#32
  | 33 => 0xA7422F0F#32
  | 34 => 0x2888D1A6#32
  | 35 => 0xA7E575A6#32
  | 36 => 0x28E9E92D#32
  | 37 => 0xA89A74F1#32
  | 38 => 0xA8B4FF4B#32
  | 39 => 0xA8FB8C79#32
  | 40 => 0xA929F3E2#32
  | 41 => 0xA9972900#32
  | 42 => 0x29834BF1#32
  | 43 => 0xA95EDDC4#32
  | 44 => 0xA891B8B4#32
  | 45 => 0xA90F6988#32
  | 46 => 0xA9185096#32
  | 47 => 0xAA0FFD53#32
  | 48 => 0x298C1D97#32
  | 49 => 0xA9F84088#32
  | 50 => 0x2948C6F1#32
  | 51 => 0xA9D0866A#32
  | 52 => 0x28F2A56A#32
  | 53 => 0xA9A8CC4C#32
  | 54 => 0x2A0A779E#32
  | 55 => 0x297DDBA5#32
  | 56 => 0xA816570D#32
  | 57 => 0xA932B01F#32
  | 58 => 0x293FF6B9#32
  | 59 => 0xA79F0ABA#32
  | 60 => 0x299DD203#32
  | 61 => 0xA97083EA#32
  | 62 => 0x2630AB2A#32
  | 63 => 0x281EDFE8#32
  | 64 => 0xA60CA82D#32
  | 65 => 0x27E56A3B#32
  | 66 => 0xA85C9FB8#32
  | 67 => 0xA83975AD#32
  | 68 => 0x2913E2C5#32
  | 69 => 0x26D2FC43#32
  | 70 => 0xA9211289#32
  | 71 => 0xA94472D1#32
  | 72 => 0xA95607D6#32
  | 73 => 0x28E104FA#32
  | 74 => 0xA72FD238#32
  | 75 => 0xA8B5106C#32
  | 76 => 0x29400D8F#32
  | 77 => 0x295A6D18#32
  | 78 => 0x29C58C21#32
  | 79 => 0x2776264F#32
  | 80 => 0xA9D4EE86#32
  | 81 => 0xA93BA84E#32
  | 82 => 0x2990888E#32
  | 83 => 0xA7E55ED0#32
  | 84 => 0x29AB01C7#32
  | 85 => 0xA9A8CF26#32
  | 86 => 0x2753BE5F#32
  | 87 => 0x27C26271#32
  | 88 => 0xA8FBA904#32
  | 89 => 0x29F1AE5B#32
  | 90 => 0xA9A47275#32
  | 91 => 0x289A7216#32
  | 92 => 0x27C2A6F3#32
  | 93 => 0x289A8EA2#32
  | 94 => 0x284AFF48#32
  | 95 => 0x28CF8115#32
  | 96 => 0x297DBF19#32
  | 97 => 0xAA58CFAF#32
  | 98 => 0xA7E5D0FF#32
  | 99 => 0xA84B04FD#32
  | 100 => 0x291843BE#32
  | 101 => 0xA8FB8C79#32
  | 102 => 0x296348BB#32
  | 103 => 0xA8919673#32
  | 104 => 0x29D726DC#32
  | 105 => 0xAA44F40E#32
  | 106 => 0x2A1E54AD#32
  | 107 => 0xA9EF6A9A#32
  | 108 => 0x2A5115ED#32
  | 109 => 0xA79E988B#32
  | 110 => 0x2888C085#32
  | 111 => 0x292E536E#32
  | 112 => 0xA9857D24#32
  | 113 => 0xA877245D#32
  | 114 => 0x28F2B68B#32
  | 115 => 0xA8E9DAE8#32
  | 116 => 0x29B83FD1#32
  | 117 => 0xAA1B0474#32
  | 118 => 0x27E597E7#32
  | 119 => 0xA95618F7#32
  | 120 => 0x2A03DFBC#32
  | 121 => 0xA9A47275#32
  | 122 => 0x29257AA5#32
  | 123 => 0x28047D85#32
  | 124 => 0x29CE50EE#32
  | 125 => 0xA95607D6#32
  | _ => 0#32

noncomputable abbrev lit1t (i : Nat) : BitVec 32 := match i / 128 with
  | 0 => lit1t0_0 i
  | 1 => lit1t0_1 i
  | 2 => lit1t0_2 i
  | 3 => lit1t0_3 i
  | 4 => lit1t0_4 i
  | 5 => lit1t0_5 i
  | 6 => lit1t0_6 i
  | 7 => lit1t0_7 i
  | 8 => lit1t0_8 i
  | 9 => lit1t0_9 i
  | 10 => lit1t0_10 i
  | 11 => lit1t0_11 i
  | _ => 0#32

noncomputable abbrev lit1 : Fin 1534 → BitVec 32 := fun ⟨i, _⟩ => lit1t i

noncomputable abbrev lit2t0_0 (i : Nat) : BitVec 32 := match i % 128 with
  | 0 => 4#32
  | 1 => 4#32
  | 2 => 5#32
  | 3 => 5#32
  | 4 => 5#32
  | 5 => 6#32
  | 6 => 7#32
  | 7 => 9#32
  | 8 => 10#32
  | 9 => 10#32
  | 10 => 10#32
  | 11 => 10#32
  | 12 => 10#32
  | 13 => 10#32
  | 14 => 10#32
  | 15 => 10#32
  | 16 => 11#32
  | 17 => 12#32
  | 18 => 12#32
  | 19 => 12#32
  | 20 => 13#32
  | 21 => 14#32
  | 22 => 14#32
  | 23 => 15#32
  | 24 => 15#32
  | 25 => 15#32
  | 26 => 15#32
  | 27 => 17#32
  | 28 => 18#32
  | 29 => 18#32
  | 30 => 19#32
  | 31 => 20#32
  | 32 => 20#32
  | 33 => 20#32
  | 34 => 20#32
  | 35 => 20#32
  | 36 => 20#32
  | 37 => 20#32
  | 38 => 20#32
  | 39 => 20#32
  | 40 => 20#32
  | 41 => 20#32
  | 42 => 20#32
  | 43 => 20#32
  | 44 => 20#32
  | 45 => 20#32
  | 46 => 20#32
  | 47 => 20#32
  | 48 => 20#32
  | 49 => 21#32
  | 50 => 22#32
  | 51 => 22#32
  | 52 => 23#32
  | 53 => 25#32
  | 54 => 25#32
  | 55 => 25#32
  | 56 => 25#32
  | 57 => 25#32
  | 58 => 25#32
  | 59 => 25#32
  | 60 => 25#32
  | 61 => 25#32
  | 62 => 25#32
  | 63 => 25#32
  | 64 => 25#32
  | 65 => 25#32
  | 66 => 25#32
  | 67 => 25#32
  | 68 => 25#32
  | 69 => 25#32
  | 70 => 25#32
  | 71 => 25#32
  | 72 => 25#32
  | 73 => 25#32
  | 74 => 25#32
  | 75 => 25#32
  | 76 => 26#32
  | 77 => 26#32
  | 78 => 27#32
  | 79 => 28#32
  | 80 => 28#32
  | 81 => 28#32
  | 82 => 28#32
  | 83 => 29#32
  | 84 => 30#32
  | 85 => 30#32
  | 86 => 30#32
  | 87 => 30#32
  | 88 => 30#32
  | 89 => 30#32
  | 90 => 30#32
  | 91 => 30#32
  | 92 => 30#32
  | 93 => 31#32
  | 94 => 33#32
  | 95 => 34#32
  | 96 => 34#32
  | 97 => 35#32
  | 98 => 35#32
  | 99 => 35#32
  | 100 => 35#32
  | 101 => 35#32
  | 102 => 36#32
  | 103 => 36#32
  | 104 => 36#32
  | 105 => 36#32
  | 106 => 37#32
  | 107 => 38#32
  | 108 => 38#32
  | 109 => 39#32
  | 110 => 41#32
  | 111 => 42#32
  | 112 => 42#32
  | 113 => 43#32
  | 114 => 44#32
  | 115 => 44#32
  | 116 => 44#32
  | 117 => 44#32
  | 118 => 45#32
  | 119 => 45#32
  | 120 => 45#32
  | 121 => 45#32
  | 122 => 45#32
  | 123 => 46#32
  | 124 => 46#32
  | 125 => 47#32
  | 126 => 49#32
  | 127 => 50#32
  | _ => 0#32

noncomputable abbrev lit2t0_1 (i : Nat) : BitVec 32 := match i % 128 with
  | 0 => 50#32
  | 1 => 50#32
  | 2 => 50#32
  | 3 => 50#32
  | 4 => 50#32
  | 5 => 50#32
  | 6 => 50#32
  | 7 => 50#32
  | 8 => 50#32
  | 9 => 50#32
  | 10 => 50#32
  | 11 => 50#32
  | 12 => 50#32
  | 13 => 50#32
  | 14 => 50#32
  | 15 => 50#32
  | 16 => 50#32
  | 17 => 50#32
  | 18 => 50#32
  | 19 => 50#32
  | 20 => 50#32
  | 21 => 50#32
  | 22 => 50#32
  | 23 => 50#32
  | 24 => 50#32
  | 25 => 50#32
  | 26 => 50#32
  | 27 => 50#32
  | 28 => 50#32
  | 29 => 50#32
  | 30 => 50#32
  | 31 => 50#32
  | 32 => 50#32
  | 33 => 50#32
  | 34 => 50#32
  | 35 => 50#32
  | 36 => 50#32
  | 37 => 50#32
  | 38 => 50#32
  | 39 => 50#32
  | 40 => 50#32
  | 41 => 50#32
  | 42 => 50#32
  | 43 => 50#32
  | 44 => 50#32
  | 45 => 50#32
  | 46 => 50#32
  | 47 => 51#32
  | 48 => 52#32
  | 49 => 52#32
  | 50 => 52#32
  | 51 => 52#32
  | 52 => 53#32
  | 53 => 54#32
  | 54 => 54#32
  | 55 => 55#32
  | 56 => 55#32
  | 57 => 55#32
  | 58 => 55#32
  | 59 => 55#32
  | 60 => 57#32
  | 61 => 58#32
  | 62 => 58#32
  | 63 => 59#32
  | 64 => 60#32
  | 65 => 60#32
  | 66 => 60#32
  | 67 => 60#32
  | 68 => 60#32
  | 69 => 60#32
  | 70 => 60#32
  | 71 => 60#32
  | 72 => 60#32
  | 73 => 60#32
  | 74 => 60#32
  | 75 => 60#32
  | 76 => 60#32
  | 77 => 60#32
  | 78 => 60#32
  | 79 => 60#32
  | 80 => 60#32
  | 81 => 60#32
  | 82 => 60#32
  | 83 => 61#32
  | 84 => 62#32
  | 85 => 62#32
  | 86 => 63#32
  | 87 => 65#32
  | 88 => 65#32
  | 89 => 65#32
  | 90 => 65#32
  | 91 => 65#32
  | 92 => 66#32
  | 93 => 66#32
  | 94 => 67#32
  | 95 => 68#32
  | 96 => 68#32
  | 97 => 68#32
  | 98 => 68#32
  | 99 => 69#32
  | 100 => 70#32
  | 101 => 70#32
  | 102 => 70#32
  | 103 => 70#32
  | 104 => 70#32
  | 105 => 70#32
  | 106 => 70#32
  | 107 => 70#32
  | 108 => 70#32
  | 109 => 70#32
  | 110 => 71#32
  | 111 => 73#32
  | 112 => 74#32
  | 113 => 74#32
  | 114 => 75#32
  | 115 => 75#32
  | 116 => 75#32
  | 117 => 75#32
  | 118 => 75#32
  | 119 => 75#32
  | 120 => 75#32
  | 121 => 75#32
  | 122 => 75#32
  | 123 => 75#32
  | 124 => 75#32
  | 125 => 75#32
  | 126 => 75#32
  | 127 => 75#32
  | _ => 0#32

noncomputable abbrev lit2t0_2 (i : Nat) : BitVec 32 := match i % 128 with
  | 0 => 75#32
  | 1 => 75#32
  | 2 => 75#32
  | 3 => 75#32
  | 4 => 75#32
  | 5 => 75#32
  | 6 => 75#32
  | 7 => 75#32
  | 8 => 75#32
  | 9 => 75#32
  | 10 => 76#32
  | 11 => 76#32
  | 12 => 76#32
  | 13 => 76#32
  | 14 => 77#32
  | 15 => 78#32
  | 16 => 78#32
  | 17 => 79#32
  | 18 => 81#32
  | 19 => 82#32
  | 20 => 82#32
  | 21 => 83#32
  | 22 => 84#32
  | 23 => 84#32
  | 24 => 84#32
  | 25 => 84#32
  | 26 => 85#32
  | 27 => 85#32
  | 28 => 85#32
  | 29 => 85#32
  | 30 => 85#32
  | 31 => 86#32
  | 32 => 86#32
  | 33 => 87#32
  | 34 => 89#32
  | 35 => 90#32
  | 36 => 90#32
  | 37 => 90#32
  | 38 => 90#32
  | 39 => 90#32
  | 40 => 90#32
  | 41 => 90#32
  | 42 => 90#32
  | 43 => 90#32
  | 44 => 90#32
  | 45 => 91#32
  | 46 => 92#32
  | 47 => 92#32
  | 48 => 92#32
  | 49 => 92#32
  | 50 => 93#32
  | 51 => 94#32
  | 52 => 94#32
  | 53 => 95#32
  | 54 => 95#32
  | 55 => 95#32
  | 56 => 95#32
  | 57 => 95#32
  | 58 => 97#32
  | 59 => 98#32
  | 60 => 98#32
  | 61 => 99#32
  | 62 => 100#32
  | 63 => 100#32
  | 64 => 100#32
  | 65 => 100#32
  | 66 => 100#32
  | 67 => 100#32
  | 68 => 100#32
  | 69 => 100#32
  | 70 => 100#32
  | 71 => 100#32
  | 72 => 100#32
  | 73 => 100#32
  | 74 => 100#32
  | 75 => 100#32
  | 76 => 100#32
  | 77 => 100#32
  | 78 => 100#32
  | 79 => 100#32
  | 80 => 100#32
  | 81 => 100#32
  | 82 => 100#32
  | 83 => 100#32
  | 84 => 100#32
  | 85 => 100#32
  | 86 => 100#32
  | 87 => 100#32
  | 88 => 100#32
  | 89 => 100#32
  | 90 => 100#32
  | 91 => 100#32
  | 92 => 100#32
  | 93 => 100#32
  | 94 => 100#32
  | 95 => 100#32
  | 96 => 100#32
  | 97 => 100#32
  | 98 => 100#32
  | 99 => 100#32
  | 100 => 100#32
  | 101 => 100#32
  | 102 => 100#32
  | 103 => 100#32
  | 104 => 100#32
  | 105 => 100#32
  | 106 => 100#32
  | 107 => 100#32
  | 108 => 100#32
  | 109 => 100#32
  | 110 => 100#32
  | 111 => 100#32
  | 112 => 100#32
  | 113 => 100#32
  | 114 => 100#32
  | 115 => 100#32
  | 116 => 100#32
  | 117 => 100#32
  | 118 => 100#32
  | 119 => 100#32
  | 120 => 100#32
  | 121 => 100#32
  | 122 => 100#32
  | 123 => 100#32
  | 124 => 100#32
  | 125 => 100#32
  | 126 => 100#32
  | 127 => 100#32
  | _ => 0#32

noncomputable abbrev lit2t0_3 (i : Nat) : BitVec 32 := match i % 128 with
  | 0 => 100#32
  | 1 => 100#32
  | 2 => 100#32
  | 3 => 100#32
  | 4 => 100#32
  | 5 => 100#32
  | 6 => 100#32
  | 7 => 100#32
  | 8 => 100#32
  | 9 => 100#32
  | 10 => 100#32
  | 11 => 100#32
  | 12 => 100#32
  | 13 => 100#32
  | 14 => 100#32
  | 15 => 100#32
  | 16 => 100#32
  | 17 => 100#32
  | 18 => 100#32
  | 19 => 100#32
  | 20 => 100#32
  | 21 => 100#32
  | 22 => 100#32
  | 23 => 100#32
  | 24 => 100#32
  | 25 => 100#32
  | 26 => 100#32
  | 27 => 100#32
  | 28 => 100#32
  | 29 => 100#32
  | 30 => 100#32
  | 31 => 100#32
  | 32 => 101#32
  | 33 => 102#32
  | 34 => 102#32
  | 35 => 103#32
  | 36 => 105#32
  | 37 => 105#32
  | 38 => 105#32
  | 39 => 105#32
  | 40 => 105#32
  | 41 => 106#32
  | 42 => 106#32
  | 43 => 107#32
  | 44 => 108#32
  | 45 => 108#32
  | 46 => 108#32
  | 47 => 108#32
  | 48 => 109#32
  | 49 => 110#32
  | 50 => 110#32
  | 51 => 110#32
  | 52 => 110#32
  | 53 => 110#32
  | 54 => 110#32
  | 55 => 110#32
  | 56 => 110#32
  | 57 => 110#32
  | 58 => 110#32
  | 59 => 111#32
  | 60 => 113#32
  | 61 => 114#32
  | 62 => 114#32
  | 63 => 115#32
  | 64 => 115#32
  | 65 => 115#32
  | 66 => 115#32
  | 67 => 115#32
  | 68 => 116#32
  | 69 => 116#32
  | 70 => 116#32
  | 71 => 116#32
  | 72 => 117#32
  | 73 => 118#32
  | 74 => 118#32
  | 75 => 119#32
  | 76 => 121#32
  | 77 => 122#32
  | 78 => 122#32
  | 79 => 123#32
  | 80 => 124#32
  | 81 => 124#32
  | 82 => 124#32
  | 83 => 124#32
  | 84 => 125#32
  | 85 => 125#32
  | 86 => 125#32
  | 87 => 125#32
  | 88 => 125#32
  | 89 => 125#32
  | 90 => 125#32
  | 91 => 125#32
  | 92 => 125#32
  | 93 => 125#32
  | 94 => 125#32
  | 95 => 125#32
  | 96 => 125#32
  | 97 => 125#32
  | 98 => 125#32
  | 99 => 125#32
  | 100 => 125#32
  | 101 => 125#32
  | 102 => 125#32
  | 103 => 125#32
  | 104 => 125#32
  | 105 => 125#32
  | 106 => 125#32
  | 107 => 125#32
  | 108 => 125#32
  | 109 => 126#32
  | 110 => 126#32
  | 111 => 127#32
  | 112 => 129#32
  | 113 => 130#32
  | 114 => 130#32
  | 115 => 130#32
  | 116 => 130#32
  | 117 => 130#32
  | 118 => 130#32
  | 119 => 130#32
  | 120 => 130#32
  | 121 => 130#32
  | 122 => 130#32
  | 123 => 131#32
  | 124 => 132#32
  | 125 => 132#32
  | 126 => 132#32
  | 127 => 132#32
  | _ => 0#32

noncomputable abbrev lit2t0_4 (i : Nat) : BitVec 32 := match i % 128 with
  | 0 => 133#32
  | 1 => 134#32
  | 2 => 134#32
  | 3 => 135#32
  | 4 => 135#32
  | 5 => 135#32
  | 6 => 135#32
  | 7 => 135#32
  | 8 => 137#32
  | 9 => 138#32
  | 10 => 138#32
  | 11 => 139#32
  | 12 => 140#32
  | 13 => 140#32
  | 14 => 140#32
  | 15 => 140#32
  | 16 => 140#32
  | 17 => 140#32
  | 18 => 140#32
  | 19 => 140#32
  | 20 => 140#32
  | 21 => 140#32
  | 22 => 140#32
  | 23 => 140#32
  | 24 => 140#32
  | 25 => 140#32
  | 26 => 140#32
  | 27 => 140#32
  | 28 => 140#32
  | 29 => 140#32
  | 30 => 140#32
  | 31 => 140#32
  | 32 => 141#32
  | 33 => 142#32
  | 34 => 142#32
  | 35 => 143#32
  | 36 => 145#32
  | 37 => 145#32
  | 38 => 145#32
  | 39 => 145#32
  | 40 => 145#32
  | 41 => 146#32
  | 42 => 146#32
  | 43 => 147#32
  | 44 => 148#32
  | 45 => 148#32
  | 46 => 148#32
  | 47 => 148#32
  | 48 => 149#32
  | 49 => 150#32
  | 50 => 150#32
  | 51 => 150#32
  | 52 => 150#32
  | 53 => 150#32
  | 54 => 150#32
  | 55 => 150#32
  | 56 => 150#32
  | 57 => 150#32
  | 58 => 150#32
  | 59 => 150#32
  | 60 => 150#32
  | 61 => 150#32
  | 62 => 150#32
  | 63 => 150#32
  | 64 => 150#32
  | 65 => 150#32
  | 66 => 150#32
  | 67 => 150#32
  | 68 => 150#32
  | 69 => 150#32
  | 70 => 150#32
  | 71 => 150#32
  | 72 => 150#32
  | 73 => 150#32
  | 74 => 150#32
  | 75 => 150#32
  | 76 => 150#32
  | 77 => 150#32
  | 78 => 150#32
  | 79 => 150#32
  | 80 => 150#32
  | 81 => 150#32
  | 82 => 150#32
  | 83 => 150#32
  | 84 => 150#32
  | 85 => 150#32
  | 86 => 150#32
  | 87 => 150#32
  | 88 => 150#32
  | 89 => 150#32
  | 90 => 150#32
  | 91 => 150#32
  | 92 => 150#32
  | 93 => 150#32
  | 94 => 150#32
  | 95 => 150#32
  | 96 => 150#32
  | 97 => 150#32
  | 98 => 151#32
  | 99 => 153#32
  | 100 => 154#32
  | 101 => 154#32
  | 102 => 155#32
  | 103 => 155#32
  | 104 => 155#32
  | 105 => 155#32
  | 106 => 155#32
  | 107 => 156#32
  | 108 => 156#32
  | 109 => 156#32
  | 110 => 156#32
  | 111 => 157#32
  | 112 => 158#32
  | 113 => 158#32
  | 114 => 159#32
  | 115 => 161#32
  | 116 => 162#32
  | 117 => 162#32
  | 118 => 163#32
  | 119 => 164#32
  | 120 => 164#32
  | 121 => 164#32
  | 122 => 164#32
  | 123 => 165#32
  | 124 => 165#32
  | 125 => 165#32
  | 126 => 165#32
  | 127 => 165#32
  | _ => 0#32

noncomputable abbrev lit2t0_5 (i : Nat) : BitVec 32 := match i % 128 with
  | 0 => 166#32
  | 1 => 166#32
  | 2 => 167#32
  | 3 => 169#32
  | 4 => 170#32
  | 5 => 170#32
  | 6 => 170#32
  | 7 => 170#32
  | 8 => 170#32
  | 9 => 170#32
  | 10 => 170#32
  | 11 => 170#32
  | 12 => 170#32
  | 13 => 170#32
  | 14 => 171#32
  | 15 => 172#32
  | 16 => 172#32
  | 17 => 172#32
  | 18 => 172#32
  | 19 => 173#32
  | 20 => 174#32
  | 21 => 174#32
  | 22 => 175#32
  | 23 => 175#32
  | 24 => 175#32
  | 25 => 175#32
  | 26 => 175#32
  | 27 => 175#32
  | 28 => 175#32
  | 29 => 175#32
  | 30 => 175#32
  | 31 => 175#32
  | 32 => 175#32
  | 33 => 175#32
  | 34 => 175#32
  | 35 => 175#32
  | 36 => 175#32
  | 37 => 175#32
  | 38 => 175#32
  | 39 => 175#32
  | 40 => 175#32
  | 41 => 175#32
  | 42 => 175#32
  | 43 => 175#32
  | 44 => 175#32
  | 45 => 175#32
  | 46 => 175#32
  | 47 => 177#32
  | 48 => 178#32
  | 49 => 178#32
  | 50 => 179#32
  | 51 => 180#32
  | 52 => 180#32
  | 53 => 180#32
  | 54 => 180#32
  | 55 => 180#32
  | 56 => 180#32
  | 57 => 180#32
  | 58 => 180#32
  | 59 => 180#32
  | 60 => 180#32
  | 61 => 180#32
  | 62 => 180#32
  | 63 => 180#32
  | 64 => 180#32
  | 65 => 180#32
  | 66 => 180#32
  | 67 => 180#32
  | 68 => 180#32
  | 69 => 180#32
  | 70 => 180#32
  | 71 => 181#32
  | 72 => 182#32
  | 73 => 182#32
  | 74 => 183#32
  | 75 => 185#32
  | 76 => 185#32
  | 77 => 185#32
  | 78 => 185#32
  | 79 => 185#32
  | 80 => 186#32
  | 81 => 186#32
  | 82 => 187#32
  | 83 => 188#32
  | 84 => 188#32
  | 85 => 188#32
  | 86 => 188#32
  | 87 => 189#32
  | 88 => 190#32
  | 89 => 190#32
  | 90 => 190#32
  | 91 => 190#32
  | 92 => 190#32
  | 93 => 190#32
  | 94 => 190#32
  | 95 => 190#32
  | 96 => 190#32
  | 97 => 190#32
  | 98 => 191#32
  | 99 => 193#32
  | 100 => 194#32
  | 101 => 194#32
  | 102 => 195#32
  | 103 => 195#32
  | 104 => 195#32
  | 105 => 195#32
  | 106 => 195#32
  | 107 => 196#32
  | 108 => 196#32
  | 109 => 196#32
  | 110 => 196#32
  | 111 => 197#32
  | 112 => 198#32
  | 113 => 198#32
  | 114 => 199#32
  | 115 => 201#32
  | 116 => 202#32
  | 117 => 202#32
  | 118 => 203#32
  | 119 => 204#32
  | 120 => 204#32
  | 121 => 204#32
  | 122 => 204#32
  | 123 => 205#32
  | 124 => 205#32
  | 125 => 205#32
  | 126 => 205#32
  | 127 => 205#32
  | _ => 0#32

noncomputable abbrev lit2t0_6 (i : Nat) : BitVec 32 := match i % 128 with
  | 0 => 206#32
  | 1 => 206#32
  | 2 => 207#32
  | 3 => 209#32
  | 4 => 210#32
  | 5 => 210#32
  | 6 => 210#32
  | 7 => 210#32
  | 8 => 210#32
  | 9 => 210#32
  | 10 => 210#32
  | 11 => 210#32
  | 12 => 210#32
  | 13 => 210#32
  | 14 => 211#32
  | 15 => 212#32
  | 16 => 212#32
  | 17 => 212#32
  | 18 => 212#32
  | 19 => 213#32
  | 20 => 214#32
  | 21 => 214#32
  | 22 => 215#32
  | 23 => 215#32
  | 24 => 215#32
  | 25 => 215#32
  | 26 => 215#32
  | 27 => 217#32
  | 28 => 218#32
  | 29 => 218#32
  | 30 => 219#32
  | 31 => 220#32
  | 32 => 220#32
  | 33 => 220#32
  | 34 => 220#32
  | 35 => 220#32
  | 36 => 220#32
  | 37 => 220#32
  | 38 => 220#32
  | 39 => 220#32
  | 40 => 220#32
  | 41 => 220#32
  | 42 => 220#32
  | 43 => 220#32
  | 44 => 220#32
  | 45 => 220#32
  | 46 => 220#32
  | 47 => 220#32
  | 48 => 220#32
  | 49 => 220#32
  | 50 => 220#32
  | 51 => 221#32
  | 52 => 222#32
  | 53 => 222#32
  | 54 => 223#32
  | 55 => 225#32
  | 56 => 225#32
  | 57 => 225#32
  | 58 => 225#32
  | 59 => 225#32
  | 60 => 225#32
  | 61 => 225#32
  | 62 => 225#32
  | 63 => 225#32
  | 64 => 225#32
  | 65 => 225#32
  | 66 => 225#32
  | 67 => 225#32
  | 68 => 225#32
  | 69 => 225#32
  | 70 => 225#32
  | 71 => 225#32
  | 72 => 225#32
  | 73 => 225#32
  | 74 => 225#32
  | 75 => 225#32
  | 76 => 225#32
  | 77 => 225#32
  | 78 => 225#32
  | 79 => 225#32
  | 80 => 226#32
  | 81 => 226#32
  | 82 => 227#32
  | 83 => 228#32
  | 84 => 228#32
  | 85 => 228#32
  | 86 => 228#32
  | 87 => 229#32
  | 88 => 230#32
  | 89 => 230#32
  | 90 => 230#32
  | 91 => 230#32
  | 92 => 230#32
  | 93 => 230#32
  | 94 => 230#32
  | 95 => 230#32
  | 96 => 230#32
  | 97 => 230#32
  | 98 => 231#32
  | 99 => 233#32
  | 100 => 234#32
  | 101 => 234#32
  | 102 => 235#32
  | 103 => 235#32
  | 104 => 235#32
  | 105 => 235#32
  | 106 => 235#32
  | 107 => 236#32
  | 108 => 236#32
  | 109 => 236#32
  | 110 => 236#32
  | 111 => 237#32
  | 112 => 238#32
  | 113 => 238#32
  | 114 => 239#32
  | 115 => 241#32
  | 116 => 242#32
  | 117 => 242#32
  | 118 => 243#32
  | 119 => 244#32
  | 120 => 244#32
  | 121 => 244#32
  | 122 => 244#32
  | 123 => 245#32
  | 124 => 245#32
  | 125 => 245#32
  | 126 => 245#32
  | 127 => 245#32
  | _ => 0#32

noncomputable abbrev lit2t0_7 (i : Nat) : BitVec 32 := match i % 128 with
  | 0 => 246#32
  | 1 => 246#32
  | 2 => 247#32
  | 3 => 249#32
  | 4 => 250#32
  | 5 => 250#32
  | 6 => 250#32
  | 7 => 250#32
  | 8 => 250#32
  | 9 => 250#32
  | 10 => 250#32
  | 11 => 250#32
  | 12 => 250#32
  | 13 => 250#32
  | 14 => 250#32
  | 15 => 250#32
  | 16 => 250#32
  | 17 => 250#32
  | 18 => 250#32
  | 19 => 250#32
  | 20 => 250#32
  | 21 => 250#32
  | 22 => 250#32
  | 23 => 250#32
  | 24 => 250#32
  | 25 => 250#32
  | 26 => 250#32
  | 27 => 250#32
  | 28 => 250#32
  | 29 => 250#32
  | 30 => 250#32
  | 31 => 250#32
  | 32 => 250#32
  | 33 => 250#32
  | 34 => 250#32
  | 35 => 250#32
  | 36 => 250#32
  | 37 => 250#32
  | 38 => 250#32
  | 39 => 250#32
  | 40 => 250#32
  | 41 => 250#32
  | 42 => 250#32
  | 43 => 250#32
  | 44 => 250#32
  | 45 => 250#32
  | 46 => 250#32
  | 47 => 250#32
  | 48 => 250#32
  | 49 => 250#32
  | 50 => 250#32
  | 51 => 250#32
  | 52 => 250#32
  | 53 => 250#32
  | 54 => 251#32
  | 55 => 252#32
  | 56 => 252#32
  | 57 => 252#32
  | 58 => 252#32
  | 59 => 253#32
  | 60 => 254#32
  | 61 => 254#32
  | 62 => 255#32
  | 63 => 255#32
  | 64 => 255#32
  | 65 => 255#32
  | 66 => 255#32
  | 67 => 257#32
  | 68 => 258#32
  | 69 => 258#32
  | 70 => 259#32
  | 71 => 260#32
  | 72 => 260#32
  | 73 => 260#32
  | 74 => 260#32
  | 75 => 260#32
  | 76 => 260#32
  | 77 => 260#32
  | 78 => 260#32
  | 79 => 260#32
  | 80 => 260#32
  | 81 => 260#32
  | 82 => 260#32
  | 83 => 260#32
  | 84 => 260#32
  | 85 => 260#32
  | 86 => 260#32
  | 87 => 260#32
  | 88 => 260#32
  | 89 => 260#32
  | 90 => 260#32
  | 91 => 261#32
  | 92 => 262#32
  | 93 => 262#32
  | 94 => 263#32
  | 95 => 265#32
  | 96 => 265#32
  | 97 => 265#32
  | 98 => 265#32
  | 99 => 265#32
  | 100 => 266#32
  | 101 => 266#32
  | 102 => 267#32
  | 103 => 268#32
  | 104 => 268#32
  | 105 => 268#32
  | 106 => 268#32
  | 107 => 269#32
  | 108 => 270#32
  | 109 => 270#32
  | 110 => 270#32
  | 111 => 270#32
  | 112 => 270#32
  | 113 => 270#32
  | 114 => 270#32
  | 115 => 270#32
  | 116 => 270#32
  | 117 => 270#32
  | 118 => 271#32
  | 119 => 273#32
  | 120 => 274#32
  | 121 => 274#32
  | 122 => 275#32
  | 123 => 275#32
  | 124 => 275#32
  | 125 => 275#32
  | 126 => 275#32
  | 127 => 275#32
  | _ => 0#32

noncomputable abbrev lit2t0_8 (i : Nat) : BitVec 32 := match i % 128 with
  | 0 => 275#32
  | 1 => 275#32
  | 2 => 275#32
  | 3 => 275#32
  | 4 => 275#32
  | 5 => 275#32
  | 6 => 275#32
  | 7 => 275#32
  | 8 => 275#32
  | 9 => 275#32
  | 10 => 275#32
  | 11 => 275#32
  | 12 => 275#32
  | 13 => 275#32
  | 14 => 275#32
  | 15 => 275#32
  | 16 => 275#32
  | 17 => 275#32
  | 18 => 275#32
  | 19 => 276#32
  | 20 => 276#32
  | 21 => 276#32
  | 22 => 276#32
  | 23 => 277#32
  | 24 => 278#32
  | 25 => 278#32
  | 26 => 279#32
  | 27 => 281#32
  | 28 => 282#32
  | 29 => 282#32
  | 30 => 283#32
  | 31 => 284#32
  | 32 => 284#32
  | 33 => 284#32
  | 34 => 284#32
  | 35 => 285#32
  | 36 => 285#32
  | 37 => 285#32
  | 38 => 285#32
  | 39 => 285#32
  | 40 => 286#32
  | 41 => 286#32
  | 42 => 287#32
  | 43 => 289#32
  | 44 => 290#32
  | 45 => 290#32
  | 46 => 290#32
  | 47 => 290#32
  | 48 => 290#32
  | 49 => 290#32
  | 50 => 290#32
  | 51 => 290#32
  | 52 => 290#32
  | 53 => 290#32
  | 54 => 291#32
  | 55 => 292#32
  | 56 => 292#32
  | 57 => 292#32
  | 58 => 292#32
  | 59 => 293#32
  | 60 => 294#32
  | 61 => 294#32
  | 62 => 295#32
  | 63 => 295#32
  | 64 => 295#32
  | 65 => 295#32
  | 66 => 295#32
  | 67 => 297#32
  | 68 => 298#32
  | 69 => 298#32
  | 70 => 299#32
  | 71 => 300#32
  | 72 => 300#32
  | 73 => 300#32
  | 74 => 300#32
  | 75 => 300#32
  | 76 => 300#32
  | 77 => 300#32
  | 78 => 300#32
  | 79 => 300#32
  | 80 => 300#32
  | 81 => 300#32
  | 82 => 300#32
  | 83 => 300#32
  | 84 => 300#32
  | 85 => 300#32
  | 86 => 300#32
  | 87 => 300#32
  | 88 => 300#32
  | 89 => 300#32
  | 90 => 300#32
  | 91 => 300#32
  | 92 => 300#32
  | 93 => 300#32
  | 94 => 300#32
  | 95 => 300#32
  | 96 => 300#32
  | 97 => 300#32
  | 98 => 300#32
  | 99 => 300#32
  | 100 => 300#32
  | 101 => 300#32
  | 102 => 300#32
  | 103 => 300#32
  | 104 => 300#32
  | 105 => 300#32
  | 106 => 300#32
  | 107 => 300#32
  | 108 => 300#32
  | 109 => 300#32
  | 110 => 300#32
  | 111 => 300#32
  | 112 => 300#32
  | 113 => 300#32
  | 114 => 300#32
  | 115 => 300#32
  | 116 => 300#32
  | 117 => 300#32
  | 118 => 300#32
  | 119 => 300#32
  | 120 => 300#32
  | 121 => 300#32
  | 122 => 300#32
  | 123 => 300#32
  | 124 => 300#32
  | 125 => 300#32
  | 126 => 300#32
  | 127 => 300#32
  | _ => 0#32

noncomputable abbrev lit2t0_9 (i : Nat) : BitVec 32 := match i % 128 with
  | 0 => 300#32
  | 1 => 300#32
  | 2 => 300#32
  | 3 => 300#32
  | 4 => 300#32
  | 5 => 300#32
  | 6 => 300#32
  | 7 => 300#32
  | 8 => 300#32
  | 9 => 300#32
  | 10 => 300#32
  | 11 => 300#32
  | 12 => 300#32
  | 13 => 300#32
  | 14 => 300#32
  | 15 => 300#32
  | 16 => 300#32
  | 17 => 300#32
  | 18 => 300#32
  | 19 => 300#32
  | 20 => 300#32
  | 21 => 300#32
  | 22 => 300#32
  | 23 => 300#32
  | 24 => 300#32
  | 25 => 300#32
  | 26 => 300#32
  | 27 => 300#32
  | 28 => 300#32
  | 29 => 300#32
  | 30 => 300#32
  | 31 => 300#32
  | 32 => 300#32
  | 33 => 300#32
  | 34 => 300#32
  | 35 => 300#32
  | 36 => 300#32
  | 37 => 300#32
  | 38 => 300#32
  | 39 => 300#32
  | 40 => 300#32
  | 41 => 300#32
  | 42 => 301#32
  | 43 => 302#32
  | 44 => 302#32
  | 45 => 303#32
  | 46 => 305#32
  | 47 => 305#32
  | 48 => 305#32
  | 49 => 305#32
  | 50 => 305#32
  | 51 => 306#32
  | 52 => 306#32
  | 53 => 307#32
  | 54 => 308#32
  | 55 => 308#32
  | 56 => 308#32
  | 57 => 308#32
  | 58 => 309#32
  | 59 => 310#32
  | 60 => 310#32
  | 61 => 310#32
  | 62 => 310#32
  | 63 => 310#32
  | 64 => 310#32
  | 65 => 310#32
  | 66 => 310#32
  | 67 => 310#32
  | 68 => 310#32
  | 69 => 311#32
  | 70 => 313#32
  | 71 => 314#32
  | 72 => 314#32
  | 73 => 315#32
  | 74 => 315#32
  | 75 => 315#32
  | 76 => 315#32
  | 77 => 315#32
  | 78 => 316#32
  | 79 => 316#32
  | 80 => 316#32
  | 81 => 316#32
  | 82 => 317#32
  | 83 => 318#32
  | 84 => 318#32
  | 85 => 319#32
  | 86 => 321#32
  | 87 => 322#32
  | 88 => 322#32
  | 89 => 323#32
  | 90 => 324#32
  | 91 => 324#32
  | 92 => 324#32
  | 93 => 324#32
  | 94 => 325#32
  | 95 => 325#32
  | 96 => 325#32
  | 97 => 325#32
  | 98 => 325#32
  | 99 => 325#32
  | 100 => 325#32
  | 101 => 325#32
  | 102 => 325#32
  | 103 => 325#32
  | 104 => 325#32
  | 105 => 325#32
  | 106 => 325#32
  | 107 => 325#32
  | 108 => 325#32
  | 109 => 325#32
  | 110 => 325#32
  | 111 => 325#32
  | 112 => 325#32
  | 113 => 325#32
  | 114 => 325#32
  | 115 => 325#32
  | 116 => 325#32
  | 117 => 325#32
  | 118 => 325#32
  | 119 => 326#32
  | 120 => 326#32
  | 121 => 327#32
  | 122 => 329#32
  | 123 => 330#32
  | 124 => 330#32
  | 125 => 330#32
  | 126 => 330#32
  | 127 => 330#32
  | _ => 0#32

noncomputable abbrev lit2t0_10 (i : Nat) : BitVec 32 := match i % 128 with
  | 0 => 330#32
  | 1 => 330#32
  | 2 => 330#32
  | 3 => 330#32
  | 4 => 330#32
  | 5 => 331#32
  | 6 => 332#32
  | 7 => 332#32
  | 8 => 332#32
  | 9 => 332#32
  | 10 => 333#32
  | 11 => 334#32
  | 12 => 334#32
  | 13 => 335#32
  | 14 => 335#32
  | 15 => 335#32
  | 16 => 335#32
  | 17 => 335#32
  | 18 => 337#32
  | 19 => 338#32
  | 20 => 338#32
  | 21 => 339#32
  | 22 => 340#32
  | 23 => 340#32
  | 24 => 340#32
  | 25 => 340#32
  | 26 => 340#32
  | 27 => 340#32
  | 28 => 340#32
  | 29 => 340#32
  | 30 => 340#32
  | 31 => 340#32
  | 32 => 340#32
  | 33 => 340#32
  | 34 => 340#32
  | 35 => 340#32
  | 36 => 340#32
  | 37 => 340#32
  | 38 => 340#32
  | 39 => 340#32
  | 40 => 340#32
  | 41 => 340#32
  | 42 => 341#32
  | 43 => 342#32
  | 44 => 342#32
  | 45 => 343#32
  | 46 => 345#32
  | 47 => 345#32
  | 48 => 345#32
  | 49 => 345#32
  | 50 => 345#32
  | 51 => 346#32
  | 52 => 346#32
  | 53 => 347#32
  | 54 => 348#32
  | 55 => 348#32
  | 56 => 348#32
  | 57 => 348#32
  | 58 => 349#32
  | 59 => 350#32
  | 60 => 350#32
  | 61 => 350#32
  | 62 => 350#32
  | 63 => 350#32
  | 64 => 350#32
  | 65 => 350#32
  | 66 => 350#32
  | 67 => 350#32
  | 68 => 350#32
  | 69 => 350#32
  | 70 => 350#32
  | 71 => 350#32
  | 72 => 350#32
  | 73 => 350#32
  | 74 => 350#32
  | 75 => 350#32
  | 76 => 350#32
  | 77 => 350#32
  | 78 => 350#32
  | 79 => 350#32
  | 80 => 350#32
  | 81 => 350#32
  | 82 => 350#32
  | 83 => 350#32
  | 84 => 350#32
  | 85 => 350#32
  | 86 => 350#32
  | 87 => 350#32
  | 88 => 350#32
  | 89 => 350#32
  | 90 => 350#32
  | 91 => 350#32
  | 92 => 350#32
  | 93 => 350#32
  | 94 => 350#32
  | 95 => 350#32
  | 96 => 350#32
  | 97 => 350#32
  | 98 => 350#32
  | 99 => 350#32
  | 100 => 350#32
  | 101 => 350#32
  | 102 => 350#32
  | 103 => 350#32
  | 104 => 350#32
  | 105 => 350#32
  | 106 => 350#32
  | 107 => 350#32
  | 108 => 350#32
  | 109 => 351#32
  | 110 => 353#32
  | 111 => 354#32
  | 112 => 354#32
  | 113 => 355#32
  | 114 => 355#32
  | 115 => 355#32
  | 116 => 355#32
  | 117 => 355#32
  | 118 => 356#32
  | 119 => 356#32
  | 120 => 356#32
  | 121 => 356#32
  | 122 => 357#32
  | 123 => 358#32
  | 124 => 358#32
  | 125 => 359#32
  | 126 => 361#32
  | 127 => 362#32
  | _ => 0#32

noncomputable abbrev lit2t0_11 (i : Nat) : BitVec 32 := match i % 128 with
  | 0 => 362#32
  | 1 => 363#32
  | 2 => 364#32
  | 3 => 364#32
  | 4 => 364#32
  | 5 => 364#32
  | 6 => 365#32
  | 7 => 365#32
  | 8 => 365#32
  | 9 => 365#32
  | 10 => 365#32
  | 11 => 366#32
  | 12 => 366#32
  | 13 => 367#32
  | 14 => 369#32
  | 15 => 370#32
  | 16 => 370#32
  | 17 => 370#32
  | 18 => 370#32
  | 19 => 370#32
  | 20 => 370#32
  | 21 => 370#32
  | 22 => 370#32
  | 23 => 370#32
  | 24 => 370#32
  | 25 => 371#32
  | 26 => 372#32
  | 27 => 372#32
  | 28 => 372#32
  | 29 => 372#32
  | 30 => 373#32
  | 31 => 374#32
  | 32 => 374#32
  | 33 => 375#32
  | 34 => 375#32
  | 35 => 375#32
  | 36 => 375#32
  | 37 => 375#32
  | 38 => 375#32
  | 39 => 375#32
  | 40 => 375#32
  | 41 => 375#32
  | 42 => 375#32
  | 43 => 375#32
  | 44 => 375#32
  | 45 => 375#32
  | 46 => 375#32
  | 47 => 375#32
  | 48 => 375#32
  | 49 => 375#32
  | 50 => 375#32
  | 51 => 375#32
  | 52 => 375#32
  | 53 => 375#32
  | 54 => 375#32
  | 55 => 375#32
  | 56 => 375#32
  | 57 => 375#32
  | 58 => 377#32
  | 59 => 378#32
  | 60 => 378#32
  | 61 => 379#32
  | 62 => 380#32
  | 63 => 380#32
  | 64 => 380#32
  | 65 => 380#32
  | 66 => 380#32
  | 67 => 380#32
  | 68 => 380#32
  | 69 => 380#32
  | 70 => 380#32
  | 71 => 380#32
  | 72 => 380#32
  | 73 => 380#32
  | 74 => 380#32
  | 75 => 380#32
  | 76 => 380#32
  | 77 => 380#32
  | 78 => 380#32
  | 79 => 380#32
  | 80 => 380#32
  | 81 => 380#32
  | 82 => 381#32
  | 83 => 382#32
  | 84 => 382#32
  | 85 => 383#32
  | 86 => 385#32
  | 87 => 385#32
  | 88 => 385#32
  | 89 => 385#32
  | 90 => 385#32
  | 91 => 386#32
  | 92 => 386#32
  | 93 => 387#32
  | 94 => 388#32
  | 95 => 388#32
  | 96 => 388#32
  | 97 => 388#32
  | 98 => 389#32
  | 99 => 390#32
  | 100 => 390#32
  | 101 => 390#32
  | 102 => 390#32
  | 103 => 390#32
  | 104 => 390#32
  | 105 => 390#32
  | 106 => 390#32
  | 107 => 390#32
  | 108 => 390#32
  | 109 => 391#32
  | 110 => 393#32
  | 111 => 394#32
  | 112 => 394#32
  | 113 => 395#32
  | 114 => 395#32
  | 115 => 395#32
  | 116 => 395#32
  | 117 => 395#32
  | 118 => 396#32
  | 119 => 396#32
  | 120 => 396#32
  | 121 => 396#32
  | 122 => 397#32
  | 123 => 398#32
  | 124 => 398#32
  | 125 => 399#32
  | _ => 0#32

noncomputable abbrev lit2t (i : Nat) : BitVec 32 := match i / 128 with
  | 0 => lit2t0_0 i
  | 1 => lit2t0_1 i
  | 2 => lit2t0_2 i
  | 3 => lit2t0_3 i
  | 4 => lit2t0_4 i
  | 5 => lit2t0_5 i
  | 6 => lit2t0_6 i
  | 7 => lit2t0_7 i
  | 8 => lit2t0_8 i
  | 9 => lit2t0_9 i
  | 10 => lit2t0_10 i
  | 11 => lit2t0_11 i
  | _ => 0#32

noncomputable abbrev lit2 : Fin 1534 → BitVec 32 := fun ⟨i, _⟩ => lit2t i

noncomputable abbrev lit3t0_0 (i : Nat) : BitVec 32 := match i % 128 with
  | 0 => 125#32
  | 1 => 175#32
  | 2 => 100#32
  | 3 => 140#32
  | 4 => 180#32
  | 5 => 150#32
  | 6 => 100#32
  | 7 => 100#32
  | 8 => 50#32
  | 9 => 70#32
  | 10 => 90#32
  | 11 => 110#32
  | 12 => 130#32
  | 13 => 150#32
  | 14 => 170#32
  | 15 => 190#32
  | 16 => 100#32
  | 17 => 75#32
  | 18 => 125#32
  | 19 => 175#32
  | 20 => 100#32
  | 21 => 50#32
  | 22 => 150#32
  | 23 => 60#32
  | 24 => 100#32
  | 25 => 140#32
  | 26 => 180#32
  | 27 => 100#32
  | 28 => 50#32
  | 29 => 150#32
  | 30 => 100#32
  | 31 => 25#32
  | 32 => 35#32
  | 33 => 45#32
  | 34 => 55#32
  | 35 => 65#32
  | 36 => 75#32
  | 37 => 85#32
  | 38 => 95#32
  | 39 => 105#32
  | 40 => 115#32
  | 41 => 125#32
  | 42 => 135#32
  | 43 => 145#32
  | 44 => 155#32
  | 45 => 165#32
  | 46 => 175#32
  | 47 => 185#32
  | 48 => 195#32
  | 49 => 100#32
  | 50 => 50#32
  | 51 => 150#32
  | 52 => 100#32
  | 53 => 20#32
  | 54 => 28#32
  | 55 => 36#32
  | 56 => 44#32
  | 57 => 52#32
  | 58 => 60#32
  | 59 => 68#32
  | 60 => 76#32
  | 61 => 84#32
  | 62 => 92#32
  | 63 => 100#32
  | 64 => 108#32
  | 65 => 116#32
  | 66 => 124#32
  | 67 => 132#32
  | 68 => 140#32
  | 69 => 148#32
  | 70 => 156#32
  | 71 => 164#32
  | 72 => 172#32
  | 73 => 180#32
  | 74 => 188#32
  | 75 => 196#32
  | 76 => 50#32
  | 77 => 150#32
  | 78 => 100#32
  | 79 => 25#32
  | 80 => 75#32
  | 81 => 125#32
  | 82 => 175#32
  | 83 => 100#32
  | 84 => 30#32
  | 85 => 50#32
  | 86 => 70#32
  | 87 => 90#32
  | 88 => 110#32
  | 89 => 130#32
  | 90 => 150#32
  | 91 => 170#32
  | 92 => 190#32
  | 93 => 100#32
  | 94 => 100#32
  | 95 => 50#32
  | 96 => 150#32
  | 97 => 20#32
  | 98 => 60#32
  | 99 => 100#32
  | 100 => 140#32
  | 101 => 180#32
  | 102 => 25#32
  | 103 => 75#32
  | 104 => 125#32
  | 105 => 175#32
  | 106 => 100#32
  | 107 => 50#32
  | 108 => 150#32
  | 109 => 100#32
  | 110 => 100#32
  | 111 => 50#32
  | 112 => 150#32
  | 113 => 100#32
  | 114 => 25#32
  | 115 => 75#32
  | 116 => 125#32
  | 117 => 175#32
  | 118 => 20#32
  | 119 => 60#32
  | 120 => 100#32
  | 121 => 140#32
  | 122 => 180#32
  | 123 => 50#32
  | 124 => 150#32
  | 125 => 100#32
  | 126 => 100#32
  | 127 => 10#32
  | _ => 0#32

noncomputable abbrev lit3t0_1 (i : Nat) : BitVec 32 := match i % 128 with
  | 0 => 14#32
  | 1 => 18#32
  | 2 => 22#32
  | 3 => 26#32
  | 4 => 30#32
  | 5 => 34#32
  | 6 => 38#32
  | 7 => 42#32
  | 8 => 46#32
  | 9 => 50#32
  | 10 => 54#32
  | 11 => 58#32
  | 12 => 62#32
  | 13 => 66#32
  | 14 => 70#32
  | 15 => 74#32
  | 16 => 78#32
  | 17 => 82#32
  | 18 => 86#32
  | 19 => 90#32
  | 20 => 94#32
  | 21 => 98#32
  | 22 => 102#32
  | 23 => 106#32
  | 24 => 110#32
  | 25 => 114#32
  | 26 => 118#32
  | 27 => 122#32
  | 28 => 126#32
  | 29 => 130#32
  | 30 => 134#32
  | 31 => 138#32
  | 32 => 142#32
  | 33 => 146#32
  | 34 => 150#32
  | 35 => 154#32
  | 36 => 158#32
  | 37 => 162#32
  | 38 => 166#32
  | 39 => 170#32
  | 40 => 174#32
  | 41 => 178#32
  | 42 => 182#32
  | 43 => 186#32
  | 44 => 190#32
  | 45 => 194#32
  | 46 => 198#32
  | 47 => 100#32
  | 48 => 25#32
  | 49 => 75#32
  | 50 => 125#32
  | 51 => 175#32
  | 52 => 100#32
  | 53 => 50#32
  | 54 => 150#32
  | 55 => 20#32
  | 56 => 60#32
  | 57 => 100#32
  | 58 => 140#32
  | 59 => 180#32
  | 60 => 100#32
  | 61 => 50#32
  | 62 => 150#32
  | 63 => 100#32
  | 64 => 15#32
  | 65 => 25#32
  | 66 => 35#32
  | 67 => 45#32
  | 68 => 55#32
  | 69 => 65#32
  | 70 => 75#32
  | 71 => 85#32
  | 72 => 95#32
  | 73 => 105#32
  | 74 => 115#32
  | 75 => 125#32
  | 76 => 135#32
  | 77 => 145#32
  | 78 => 155#32
  | 79 => 165#32
  | 80 => 175#32
  | 81 => 185#32
  | 82 => 195#32
  | 83 => 100#32
  | 84 => 50#32
  | 85 => 150#32
  | 86 => 100#32
  | 87 => 20#32
  | 88 => 60#32
  | 89 => 100#32
  | 90 => 140#32
  | 91 => 180#32
  | 92 => 50#32
  | 93 => 150#32
  | 94 => 100#32
  | 95 => 25#32
  | 96 => 75#32
  | 97 => 125#32
  | 98 => 175#32
  | 99 => 100#32
  | 100 => 10#32
  | 101 => 30#32
  | 102 => 50#32
  | 103 => 70#32
  | 104 => 90#32
  | 105 => 110#32
  | 106 => 130#32
  | 107 => 150#32
  | 108 => 170#32
  | 109 => 190#32
  | 110 => 100#32
  | 111 => 100#32
  | 112 => 50#32
  | 113 => 150#32
  | 114 => 12#32
  | 115 => 20#32
  | 116 => 28#32
  | 117 => 36#32
  | 118 => 44#32
  | 119 => 52#32
  | 120 => 60#32
  | 121 => 68#32
  | 122 => 76#32
  | 123 => 84#32
  | 124 => 92#32
  | 125 => 100#32
  | 126 => 108#32
  | 127 => 116#32
  | _ => 0#32

noncomputable abbrev lit3t0_2 (i : Nat) : BitVec 32 := match i % 128 with
  | 0 => 124#32
  | 1 => 132#32
  | 2 => 140#32
  | 3 => 148#32
  | 4 => 156#32
  | 5 => 164#32
  | 6 => 172#32
  | 7 => 180#32
  | 8 => 188#32
  | 9 => 196#32
  | 10 => 25#32
  | 11 => 75#32
  | 12 => 125#32
  | 13 => 175#32
  | 14 => 100#32
  | 15 => 50#32
  | 16 => 150#32
  | 17 => 100#32
  | 18 => 100#32
  | 19 => 50#32
  | 20 => 150#32
  | 21 => 100#32
  | 22 => 25#32
  | 23 => 75#32
  | 24 => 125#32
  | 25 => 175#32
  | 26 => 20#32
  | 27 => 60#32
  | 28 => 100#32
  | 29 => 140#32
  | 30 => 180#32
  | 31 => 50#32
  | 32 => 150#32
  | 33 => 100#32
  | 34 => 100#32
  | 35 => 10#32
  | 36 => 30#32
  | 37 => 50#32
  | 38 => 70#32
  | 39 => 90#32
  | 40 => 110#32
  | 41 => 130#32
  | 42 => 150#32
  | 43 => 170#32
  | 44 => 190#32
  | 45 => 100#32
  | 46 => 25#32
  | 47 => 75#32
  | 48 => 125#32
  | 49 => 175#32
  | 50 => 100#32
  | 51 => 50#32
  | 52 => 150#32
  | 53 => 20#32
  | 54 => 60#32
  | 55 => 100#32
  | 56 => 140#32
  | 57 => 180#32
  | 58 => 100#32
  | 59 => 50#32
  | 60 => 150#32
  | 61 => 100#32
  | 62 => 5#32
  | 63 => 7#32
  | 64 => 9#32
  | 65 => 11#32
  | 66 => 13#32
  | 67 => 15#32
  | 68 => 17#32
  | 69 => 19#32
  | 70 => 21#32
  | 71 => 23#32
  | 72 => 25#32
  | 73 => 27#32
  | 74 => 29#32
  | 75 => 31#32
  | 76 => 33#32
  | 77 => 35#32
  | 78 => 37#32
  | 79 => 39#32
  | 80 => 41#32
  | 81 => 43#32
  | 82 => 45#32
  | 83 => 47#32
  | 84 => 49#32
  | 85 => 51#32
  | 86 => 53#32
  | 87 => 55#32
  | 88 => 57#32
  | 89 => 59#32
  | 90 => 61#32
  | 91 => 63#32
  | 92 => 65#32
  | 93 => 67#32
  | 94 => 69#32
  | 95 => 71#32
  | 96 => 73#32
  | 97 => 75#32
  | 98 => 77#32
  | 99 => 79#32
  | 100 => 81#32
  | 101 => 83#32
  | 102 => 85#32
  | 103 => 87#32
  | 104 => 89#32
  | 105 => 91#32
  | 106 => 93#32
  | 107 => 95#32
  | 108 => 97#32
  | 109 => 99#32
  | 110 => 101#32
  | 111 => 103#32
  | 112 => 105#32
  | 113 => 107#32
  | 114 => 109#32
  | 115 => 111#32
  | 116 => 113#32
  | 117 => 115#32
  | 118 => 117#32
  | 119 => 119#32
  | 120 => 121#32
  | 121 => 123#32
  | 122 => 125#32
  | 123 => 127#32
  | 124 => 129#32
  | 125 => 131#32
  | 126 => 133#32
  | 127 => 135#32
  | _ => 0#32

noncomputable abbrev lit3t0_3 (i : Nat) : BitVec 32 := match i % 128 with
  | 0 => 137#32
  | 1 => 139#32
  | 2 => 141#32
  | 3 => 143#32
  | 4 => 145#32
  | 5 => 147#32
  | 6 => 149#32
  | 7 => 151#32
  | 8 => 153#32
  | 9 => 155#32
  | 10 => 157#32
  | 11 => 159#32
  | 12 => 161#32
  | 13 => 163#32
  | 14 => 165#32
  | 15 => 167#32
  | 16 => 169#32
  | 17 => 171#32
  | 18 => 173#32
  | 19 => 175#32
  | 20 => 177#32
  | 21 => 179#32
  | 22 => 181#32
  | 23 => 183#32
  | 24 => 185#32
  | 25 => 187#32
  | 26 => 189#32
  | 27 => 191#32
  | 28 => 193#32
  | 29 => 195#32
  | 30 => 197#32
  | 31 => 199#32
  | 32 => 100#32
  | 33 => 50#32
  | 34 => 150#32
  | 35 => 100#32
  | 36 => 20#32
  | 37 => 60#32
  | 38 => 100#32
  | 39 => 140#32
  | 40 => 180#32
  | 41 => 50#32
  | 42 => 150#32
  | 43 => 100#32
  | 44 => 25#32
  | 45 => 75#32
  | 46 => 125#32
  | 47 => 175#32
  | 48 => 100#32
  | 49 => 10#32
  | 50 => 30#32
  | 51 => 50#32
  | 52 => 70#32
  | 53 => 90#32
  | 54 => 110#32
  | 55 => 130#32
  | 56 => 150#32
  | 57 => 170#32
  | 58 => 190#32
  | 59 => 100#32
  | 60 => 100#32
  | 61 => 50#32
  | 62 => 150#32
  | 63 => 20#32
  | 64 => 60#32
  | 65 => 100#32
  | 66 => 140#32
  | 67 => 180#32
  | 68 => 25#32
  | 69 => 75#32
  | 70 => 125#32
  | 71 => 175#32
  | 72 => 100#32
  | 73 => 50#32
  | 74 => 150#32
  | 75 => 100#32
  | 76 => 100#32
  | 77 => 50#32
  | 78 => 150#32
  | 79 => 100#32
  | 80 => 25#32
  | 81 => 75#32
  | 82 => 125#32
  | 83 => 175#32
  | 84 => 4#32
  | 85 => 12#32
  | 86 => 20#32
  | 87 => 28#32
  | 88 => 36#32
  | 89 => 44#32
  | 90 => 52#32
  | 91 => 60#32
  | 92 => 68#32
  | 93 => 76#32
  | 94 => 84#32
  | 95 => 92#32
  | 96 => 100#32
  | 97 => 108#32
  | 98 => 116#32
  | 99 => 124#32
  | 100 => 132#32
  | 101 => 140#32
  | 102 => 148#32
  | 103 => 156#32
  | 104 => 164#32
  | 105 => 172#32
  | 106 => 180#32
  | 107 => 188#32
  | 108 => 196#32
  | 109 => 50#32
  | 110 => 150#32
  | 111 => 100#32
  | 112 => 100#32
  | 113 => 10#32
  | 114 => 30#32
  | 115 => 50#32
  | 116 => 70#32
  | 117 => 90#32
  | 118 => 110#32
  | 119 => 130#32
  | 120 => 150#32
  | 121 => 170#32
  | 122 => 190#32
  | 123 => 100#32
  | 124 => 25#32
  | 125 => 75#32
  | 126 => 125#32
  | 127 => 175#32
  | _ => 0#32

noncomputable abbrev lit3t0_4 (i : Nat) : BitVec 32 := match i % 128 with
  | 0 => 100#32
  | 1 => 50#32
  | 2 => 150#32
  | 3 => 20#32
  | 4 => 60#32
  | 5 => 100#32
  | 6 => 140#32
  | 7 => 180#32
  | 8 => 100#32
  | 9 => 50#32
  | 10 => 150#32
  | 11 => 100#32
  | 12 => 5#32
  | 13 => 15#32
  | 14 => 25#32
  | 15 => 35#32
  | 16 => 45#32
  | 17 => 55#32
  | 18 => 65#32
  | 19 => 75#32
  | 20 => 85#32
  | 21 => 95#32
  | 22 => 105#32
  | 23 => 115#32
  | 24 => 125#32
  | 25 => 135#32
  | 26 => 145#32
  | 27 => 155#32
  | 28 => 165#32
  | 29 => 175#32
  | 30 => 185#32
  | 31 => 195#32
  | 32 => 100#32
  | 33 => 50#32
  | 34 => 150#32
  | 35 => 100#32
  | 36 => 20#32
  | 37 => 60#32
  | 38 => 100#32
  | 39 => 140#32
  | 40 => 180#32
  | 41 => 50#32
  | 42 => 150#32
  | 43 => 100#32
  | 44 => 25#32
  | 45 => 75#32
  | 46 => 125#32
  | 47 => 175#32
  | 48 => 100#32
  | 49 => 6#32
  | 50 => 10#32
  | 51 => 14#32
  | 52 => 18#32
  | 53 => 22#32
  | 54 => 26#32
  | 55 => 30#32
  | 56 => 34#32
  | 57 => 38#32
  | 58 => 42#32
  | 59 => 46#32
  | 60 => 50#32
  | 61 => 54#32
  | 62 => 58#32
  | 63 => 62#32
  | 64 => 66#32
  | 65 => 70#32
  | 66 => 74#32
  | 67 => 78#32
  | 68 => 82#32
  | 69 => 86#32
  | 70 => 90#32
  | 71 => 94#32
  | 72 => 98#32
  | 73 => 102#32
  | 74 => 106#32
  | 75 => 110#32
  | 76 => 114#32
  | 77 => 118#32
  | 78 => 122#32
  | 79 => 126#32
  | 80 => 130#32
  | 81 => 134#32
  | 82 => 138#32
  | 83 => 142#32
  | 84 => 146#32
  | 85 => 150#32
  | 86 => 154#32
  | 87 => 158#32
  | 88 => 162#32
  | 89 => 166#32
  | 90 => 170#32
  | 91 => 174#32
  | 92 => 178#32
  | 93 => 182#32
  | 94 => 186#32
  | 95 => 190#32
  | 96 => 194#32
  | 97 => 198#32
  | 98 => 100#32
  | 99 => 100#32
  | 100 => 50#32
  | 101 => 150#32
  | 102 => 20#32
  | 103 => 60#32
  | 104 => 100#32
  | 105 => 140#32
  | 106 => 180#32
  | 107 => 25#32
  | 108 => 75#32
  | 109 => 125#32
  | 110 => 175#32
  | 111 => 100#32
  | 112 => 50#32
  | 113 => 150#32
  | 114 => 100#32
  | 115 => 100#32
  | 116 => 50#32
  | 117 => 150#32
  | 118 => 100#32
  | 119 => 25#32
  | 120 => 75#32
  | 121 => 125#32
  | 122 => 175#32
  | 123 => 20#32
  | 124 => 60#32
  | 125 => 100#32
  | 126 => 140#32
  | 127 => 180#32
  | _ => 0#32

noncomputable abbrev lit3t0_5 (i : Nat) : BitVec 32 := match i % 128 with
  | 0 => 50#32
  | 1 => 150#32
  | 2 => 100#32
  | 3 => 100#32
  | 4 => 10#32
  | 5 => 30#32
  | 6 => 50#32
  | 7 => 70#32
  | 8 => 90#32
  | 9 => 110#32
  | 10 => 130#32
  | 11 => 150#32
  | 12 => 170#32
  | 13 => 190#32
  | 14 => 100#32
  | 15 => 25#32
  | 16 => 75#32
  | 17 => 125#32
  | 18 => 175#32
  | 19 => 100#32
  | 20 => 50#32
  | 21 => 150#32
  | 22 => 4#32
  | 23 => 12#32
  | 24 => 20#32
  | 25 => 28#32
  | 26 => 36#32
  | 27 => 44#32
  | 28 => 52#32
  | 29 => 60#32
  | 30 => 68#32
  | 31 => 76#32
  | 32 => 84#32
  | 33 => 92#32
  | 34 => 100#32
  | 35 => 108#32
  | 36 => 116#32
  | 37 => 124#32
  | 38 => 132#32
  | 39 => 140#32
  | 40 => 148#32
  | 41 => 156#32
  | 42 => 164#32
  | 43 => 172#32
  | 44 => 180#32
  | 45 => 188#32
  | 46 => 196#32
  | 47 => 100#32
  | 48 => 50#32
  | 49 => 150#32
  | 50 => 100#32
  | 51 => 5#32
  | 52 => 15#32
  | 53 => 25#32
  | 54 => 35#32
  | 55 => 45#32
  | 56 => 55#32
  | 57 => 65#32
  | 58 => 75#32
  | 59 => 85#32
  | 60 => 95#32
  | 61 => 105#32
  | 62 => 115#32
  | 63 => 125#32
  | 64 => 135#32
  | 65 => 145#32
  | 66 => 155#32
  | 67 => 165#32
  | 68 => 175#32
  | 69 => 185#32
  | 70 => 195#32
  | 71 => 100#32
  | 72 => 50#32
  | 73 => 150#32
  | 74 => 100#32
  | 75 => 20#32
  | 76 => 60#32
  | 77 => 100#32
  | 78 => 140#32
  | 79 => 180#32
  | 80 => 50#32
  | 81 => 150#32
  | 82 => 100#32
  | 83 => 25#32
  | 84 => 75#32
  | 85 => 125#32
  | 86 => 175#32
  | 87 => 100#32
  | 88 => 10#32
  | 89 => 30#32
  | 90 => 50#32
  | 91 => 70#32
  | 92 => 90#32
  | 93 => 110#32
  | 94 => 130#32
  | 95 => 150#32
  | 96 => 170#32
  | 97 => 190#32
  | 98 => 100#32
  | 99 => 100#32
  | 100 => 50#32
  | 101 => 150#32
  | 102 => 20#32
  | 103 => 60#32
  | 104 => 100#32
  | 105 => 140#32
  | 106 => 180#32
  | 107 => 25#32
  | 108 => 75#32
  | 109 => 125#32
  | 110 => 175#32
  | 111 => 100#32
  | 112 => 50#32
  | 113 => 150#32
  | 114 => 100#32
  | 115 => 100#32
  | 116 => 50#32
  | 117 => 150#32
  | 118 => 100#32
  | 119 => 25#32
  | 120 => 75#32
  | 121 => 125#32
  | 122 => 175#32
  | 123 => 20#32
  | 124 => 60#32
  | 125 => 100#32
  | 126 => 140#32
  | 127 => 180#32
  | _ => 0#32

noncomputable abbrev lit3t0_6 (i : Nat) : BitVec 32 := match i % 128 with
  | 0 => 50#32
  | 1 => 150#32
  | 2 => 100#32
  | 3 => 100#32
  | 4 => 10#32
  | 5 => 30#32
  | 6 => 50#32
  | 7 => 70#32
  | 8 => 90#32
  | 9 => 110#32
  | 10 => 130#32
  | 11 => 150#32
  | 12 => 170#32
  | 13 => 190#32
  | 14 => 100#32
  | 15 => 25#32
  | 16 => 75#32
  | 17 => 125#32
  | 18 => 175#32
  | 19 => 100#32
  | 20 => 50#32
  | 21 => 150#32
  | 22 => 20#32
  | 23 => 60#32
  | 24 => 100#32
  | 25 => 140#32
  | 26 => 180#32
  | 27 => 100#32
  | 28 => 50#32
  | 29 => 150#32
  | 30 => 100#32
  | 31 => 5#32
  | 32 => 15#32
  | 33 => 25#32
  | 34 => 35#32
  | 35 => 45#32
  | 36 => 55#32
  | 37 => 65#32
  | 38 => 75#32
  | 39 => 85#32
  | 40 => 95#32
  | 41 => 105#32
  | 42 => 115#32
  | 43 => 125#32
  | 44 => 135#32
  | 45 => 145#32
  | 46 => 155#32
  | 47 => 165#32
  | 48 => 175#32
  | 49 => 185#32
  | 50 => 195#32
  | 51 => 100#32
  | 52 => 50#32
  | 53 => 150#32
  | 54 => 100#32
  | 55 => 4#32
  | 56 => 12#32
  | 57 => 20#32
  | 58 => 28#32
  | 59 => 36#32
  | 60 => 44#32
  | 61 => 52#32
  | 62 => 60#32
  | 63 => 68#32
  | 64 => 76#32
  | 65 => 84#32
  | 66 => 92#32
  | 67 => 100#32
  | 68 => 108#32
  | 69 => 116#32
  | 70 => 124#32
  | 71 => 132#32
  | 72 => 140#32
  | 73 => 148#32
  | 74 => 156#32
  | 75 => 164#32
  | 76 => 172#32
  | 77 => 180#32
  | 78 => 188#32
  | 79 => 196#32
  | 80 => 50#32
  | 81 => 150#32
  | 82 => 100#32
  | 83 => 25#32
  | 84 => 75#32
  | 85 => 125#32
  | 86 => 175#32
  | 87 => 100#32
  | 88 => 10#32
  | 89 => 30#32
  | 90 => 50#32
  | 91 => 70#32
  | 92 => 90#32
  | 93 => 110#32
  | 94 => 130#32
  | 95 => 150#32
  | 96 => 170#32
  | 97 => 190#32
  | 98 => 100#32
  | 99 => 100#32
  | 100 => 50#32
  | 101 => 150#32
  | 102 => 20#32
  | 103 => 60#32
  | 104 => 100#32
  | 105 => 140#32
  | 106 => 180#32
  | 107 => 25#32
  | 108 => 75#32
  | 109 => 125#32
  | 110 => 175#32
  | 111 => 100#32
  | 112 => 50#32
  | 113 => 150#32
  | 114 => 100#32
  | 115 => 100#32
  | 116 => 50#32
  | 117 => 150#32
  | 118 => 100#32
  | 119 => 25#32
  | 120 => 75#32
  | 121 => 125#32
  | 122 => 175#32
  | 123 => 20#32
  | 124 => 60#32
  | 125 => 100#32
  | 126 => 140#32
  | 127 => 180#32
  | _ => 0#32

noncomputable abbrev lit3t0_7 (i : Nat) : BitVec 32 := match i % 128 with
  | 0 => 50#32
  | 1 => 150#32
  | 2 => 100#32
  | 3 => 100#32
  | 4 => 2#32
  | 5 => 6#32
  | 6 => 10#32
  | 7 => 14#32
  | 8 => 18#32
  | 9 => 22#32
  | 10 => 26#32
  | 11 => 30#32
  | 12 => 34#32
  | 13 => 38#32
  | 14 => 42#32
  | 15 => 46#32
  | 16 => 50#32
  | 17 => 54#32
  | 18 => 58#32
  | 19 => 62#32
  | 20 => 66#32
  | 21 => 70#32
  | 22 => 74#32
  | 23 => 78#32
  | 24 => 82#32
  | 25 => 86#32
  | 26 => 90#32
  | 27 => 94#32
  | 28 => 98#32
  | 29 => 102#32
  | 30 => 106#32
  | 31 => 110#32
  | 32 => 114#32
  | 33 => 118#32
  | 34 => 122#32
  | 35 => 126#32
  | 36 => 130#32
  | 37 => 134#32
  | 38 => 138#32
  | 39 => 142#32
  | 40 => 146#32
  | 41 => 150#32
  | 42 => 154#32
  | 43 => 158#32
  | 44 => 162#32
  | 45 => 166#32
  | 46 => 170#32
  | 47 => 174#32
  | 48 => 178#32
  | 49 => 182#32
  | 50 => 186#32
  | 51 => 190#32
  | 52 => 194#32
  | 53 => 198#32
  | 54 => 100#32
  | 55 => 25#32
  | 56 => 75#32
  | 57 => 125#32
  | 58 => 175#32
  | 59 => 100#32
  | 60 => 50#32
  | 61 => 150#32
  | 62 => 20#32
  | 63 => 60#32
  | 64 => 100#32
  | 65 => 140#32
  | 66 => 180#32
  | 67 => 100#32
  | 68 => 50#32
  | 69 => 150#32
  | 70 => 100#32
  | 71 => 5#32
  | 72 => 15#32
  | 73 => 25#32
  | 74 => 35#32
  | 75 => 45#32
  | 76 => 55#32
  | 77 => 65#32
  | 78 => 75#32
  | 79 => 85#32
  | 80 => 95#32
  | 81 => 105#32
  | 82 => 115#32
  | 83 => 125#32
  | 84 => 135#32
  | 85 => 145#32
  | 86 => 155#32
  | 87 => 165#32
  | 88 => 175#32
  | 89 => 185#32
  | 90 => 195#32
  | 91 => 100#32
  | 92 => 50#32
  | 93 => 150#32
  | 94 => 100#32
  | 95 => 20#32
  | 96 => 60#32
  | 97 => 100#32
  | 98 => 140#32
  | 99 => 180#32
  | 100 => 50#32
  | 101 => 150#32
  | 102 => 100#32
  | 103 => 25#32
  | 104 => 75#32
  | 105 => 125#32
  | 106 => 175#32
  | 107 => 100#32
  | 108 => 10#32
  | 109 => 30#32
  | 110 => 50#32
  | 111 => 70#32
  | 112 => 90#32
  | 113 => 110#32
  | 114 => 130#32
  | 115 => 150#32
  | 116 => 170#32
  | 117 => 190#32
  | 118 => 100#32
  | 119 => 100#32
  | 120 => 50#32
  | 121 => 150#32
  | 122 => 4#32
  | 123 => 12#32
  | 124 => 20#32
  | 125 => 28#32
  | 126 => 36#32
  | 127 => 44#32
  | _ => 0#32

noncomputable abbrev lit3t0_8 (i : Nat) : BitVec 32 := match i % 128 with
  | 0 => 52#32
  | 1 => 60#32
  | 2 => 68#32
  | 3 => 76#32
  | 4 => 84#32
  | 5 => 92#32
  | 6 => 100#32
  | 7 => 108#32
  | 8 => 116#32
  | 9 => 124#32
  | 10 => 132#32
  | 11 => 140#32
  | 12 => 148#32
  | 13 => 156#32
  | 14 => 164#32
  | 15 => 172#32
  | 16 => 180#32
  | 17 => 188#32
  | 18 => 196#32
  | 19 => 25#32
  | 20 => 75#32
  | 21 => 125#32
  | 22 => 175#32
  | 23 => 100#32
  | 24 => 50#32
  | 25 => 150#32
  | 26 => 100#32
  | 27 => 100#32
  | 28 => 50#32
  | 29 => 150#32
  | 30 => 100#32
  | 31 => 25#32
  | 32 => 75#32
  | 33 => 125#32
  | 34 => 175#32
  | 35 => 20#32
  | 36 => 60#32
  | 37 => 100#32
  | 38 => 140#32
  | 39 => 180#32
  | 40 => 50#32
  | 41 => 150#32
  | 42 => 100#32
  | 43 => 100#32
  | 44 => 10#32
  | 45 => 30#32
  | 46 => 50#32
  | 47 => 70#32
  | 48 => 90#32
  | 49 => 110#32
  | 50 => 130#32
  | 51 => 150#32
  | 52 => 170#32
  | 53 => 190#32
  | 54 => 100#32
  | 55 => 25#32
  | 56 => 75#32
  | 57 => 125#32
  | 58 => 175#32
  | 59 => 100#32
  | 60 => 50#32
  | 61 => 150#32
  | 62 => 20#32
  | 63 => 60#32
  | 64 => 100#32
  | 65 => 140#32
  | 66 => 180#32
  | 67 => 100#32
  | 68 => 50#32
  | 69 => 150#32
  | 70 => 100#32
  | 71 => 3#32
  | 72 => 5#32
  | 73 => 7#32
  | 74 => 9#32
  | 75 => 11#32
  | 76 => 13#32
  | 77 => 15#32
  | 78 => 17#32
  | 79 => 19#32
  | 80 => 21#32
  | 81 => 23#32
  | 82 => 25#32
  | 83 => 27#32
  | 84 => 29#32
  | 85 => 31#32
  | 86 => 33#32
  | 87 => 35#32
  | 88 => 37#32
  | 89 => 39#32
  | 90 => 41#32
  | 91 => 43#32
  | 92 => 45#32
  | 93 => 47#32
  | 94 => 49#32
  | 95 => 51#32
  | 96 => 53#32
  | 97 => 55#32
  | 98 => 57#32
  | 99 => 59#32
  | 100 => 61#32
  | 101 => 63#32
  | 102 => 65#32
  | 103 => 67#32
  | 104 => 69#32
  | 105 => 71#32
  | 106 => 73#32
  | 107 => 75#32
  | 108 => 77#32
  | 109 => 79#32
  | 110 => 81#32
  | 111 => 83#32
  | 112 => 85#32
  | 113 => 87#32
  | 114 => 89#32
  | 115 => 91#32
  | 116 => 93#32
  | 117 => 95#32
  | 118 => 97#32
  | 119 => 99#32
  | 120 => 101#32
  | 121 => 103#32
  | 122 => 105#32
  | 123 => 107#32
  | 124 => 109#32
  | 125 => 111#32
  | 126 => 113#32
  | 127 => 115#32
  | _ => 0#32

noncomputable abbrev lit3t0_9 (i : Nat) : BitVec 32 := match i % 128 with
  | 0 => 117#32
  | 1 => 119#32
  | 2 => 121#32
  | 3 => 123#32
  | 4 => 125#32
  | 5 => 127#32
  | 6 => 129#32
  | 7 => 131#32
  | 8 => 133#32
  | 9 => 135#32
  | 10 => 137#32
  | 11 => 139#32
  | 12 => 141#32
  | 13 => 143#32
  | 14 => 145#32
  | 15 => 147#32
  | 16 => 149#32
  | 17 => 151#32
  | 18 => 153#32
  | 19 => 155#32
  | 20 => 157#32
  | 21 => 159#32
  | 22 => 161#32
  | 23 => 163#32
  | 24 => 165#32
  | 25 => 167#32
  | 26 => 169#32
  | 27 => 171#32
  | 28 => 173#32
  | 29 => 175#32
  | 30 => 177#32
  | 31 => 179#32
  | 32 => 181#32
  | 33 => 183#32
  | 34 => 185#32
  | 35 => 187#32
  | 36 => 189#32
  | 37 => 191#32
  | 38 => 193#32
  | 39 => 195#32
  | 40 => 197#32
  | 41 => 199#32
  | 42 => 100#32
  | 43 => 50#32
  | 44 => 150#32
  | 45 => 100#32
  | 46 => 20#32
  | 47 => 60#32
  | 48 => 100#32
  | 49 => 140#32
  | 50 => 180#32
  | 51 => 50#32
  | 52 => 150#32
  | 53 => 100#32
  | 54 => 25#32
  | 55 => 75#32
  | 56 => 125#32
  | 57 => 175#32
  | 58 => 100#32
  | 59 => 10#32
  | 60 => 30#32
  | 61 => 50#32
  | 62 => 70#32
  | 63 => 90#32
  | 64 => 110#32
  | 65 => 130#32
  | 66 => 150#32
  | 67 => 170#32
  | 68 => 190#32
  | 69 => 100#32
  | 70 => 100#32
  | 71 => 50#32
  | 72 => 150#32
  | 73 => 20#32
  | 74 => 60#32
  | 75 => 100#32
  | 76 => 140#32
  | 77 => 180#32
  | 78 => 25#32
  | 79 => 75#32
  | 80 => 125#32
  | 81 => 175#32
  | 82 => 100#32
  | 83 => 50#32
  | 84 => 150#32
  | 85 => 100#32
  | 86 => 100#32
  | 87 => 50#32
  | 88 => 150#32
  | 89 => 100#32
  | 90 => 25#32
  | 91 => 75#32
  | 92 => 125#32
  | 93 => 175#32
  | 94 => 4#32
  | 95 => 12#32
  | 96 => 20#32
  | 97 => 28#32
  | 98 => 36#32
  | 99 => 44#32
  | 100 => 52#32
  | 101 => 60#32
  | 102 => 68#32
  | 103 => 76#32
  | 104 => 84#32
  | 105 => 92#32
  | 106 => 100#32
  | 107 => 108#32
  | 108 => 116#32
  | 109 => 124#32
  | 110 => 132#32
  | 111 => 140#32
  | 112 => 148#32
  | 113 => 156#32
  | 114 => 164#32
  | 115 => 172#32
  | 116 => 180#32
  | 117 => 188#32
  | 118 => 196#32
  | 119 => 50#32
  | 120 => 150#32
  | 121 => 100#32
  | 122 => 100#32
  | 123 => 10#32
  | 124 => 30#32
  | 125 => 50#32
  | 126 => 70#32
  | 127 => 90#32
  | _ => 0#32

noncomputable abbrev lit3t0_10 (i : Nat) : BitVec 32 := match i % 128 with
  | 0 => 110#32
  | 1 => 130#32
  | 2 => 150#32
  | 3 => 170#32
  | 4 => 190#32
  | 5 => 100#32
  | 6 => 25#32
  | 7 => 75#32
  | 8 => 125#32
  | 9 => 175#32
  | 10 => 100#32
  | 11 => 50#32
  | 12 => 150#32
  | 13 => 20#32
  | 14 => 60#32
  | 15 => 100#32
  | 16 => 140#32
  | 17 => 180#32
  | 18 => 100#32
  | 19 => 50#32
  | 20 => 150#32
  | 21 => 100#32
  | 22 => 5#32
  | 23 => 15#32
  | 24 => 25#32
  | 25 => 35#32
  | 26 => 45#32
  | 27 => 55#32
  | 28 => 65#32
  | 29 => 75#32
  | 30 => 85#32
  | 31 => 95#32
  | 32 => 105#32
  | 33 => 115#32
  | 34 => 125#32
  | 35 => 135#32
  | 36 => 145#32
  | 37 => 155#32
  | 38 => 165#32
  | 39 => 175#32
  | 40 => 185#32
  | 41 => 195#32
  | 42 => 100#32
  | 43 => 50#32
  | 44 => 150#32
  | 45 => 100#32
  | 46 => 20#32
  | 47 => 60#32
  | 48 => 100#32
  | 49 => 140#32
  | 50 => 180#32
  | 51 => 50#32
  | 52 => 150#32
  | 53 => 100#32
  | 54 => 25#32
  | 55 => 75#32
  | 56 => 125#32
  | 57 => 175#32
  | 58 => 100#32
  | 59 => 2#32
  | 60 => 6#32
  | 61 => 10#32
  | 62 => 14#32
  | 63 => 18#32
  | 64 => 22#32
  | 65 => 26#32
  | 66 => 30#32
  | 67 => 34#32
  | 68 => 38#32
  | 69 => 42#32
  | 70 => 46#32
  | 71 => 50#32
  | 72 => 54#32
  | 73 => 58#32
  | 74 => 62#32
  | 75 => 66#32
  | 76 => 70#32
  | 77 => 74#32
  | 78 => 78#32
  | 79 => 82#32
  | 80 => 86#32
  | 81 => 90#32
  | 82 => 94#32
  | 83 => 98#32
  | 84 => 102#32
  | 85 => 106#32
  | 86 => 110#32
  | 87 => 114#32
  | 88 => 118#32
  | 89 => 122#32
  | 90 => 126#32
  | 91 => 130#32
  | 92 => 134#32
  | 93 => 138#32
  | 94 => 142#32
  | 95 => 146#32
  | 96 => 150#32
  | 97 => 154#32
  | 98 => 158#32
  | 99 => 162#32
  | 100 => 166#32
  | 101 => 170#32
  | 102 => 174#32
  | 103 => 178#32
  | 104 => 182#32
  | 105 => 186#32
  | 106 => 190#32
  | 107 => 194#32
  | 108 => 198#32
  | 109 => 100#32
  | 110 => 100#32
  | 111 => 50#32
  | 112 => 150#32
  | 113 => 20#32
  | 114 => 60#32
  | 115 => 100#32
  | 116 => 140#32
  | 117 => 180#32
  | 118 => 25#32
  | 119 => 75#32
  | 120 => 125#32
  | 121 => 175#32
  | 122 => 100#32
  | 123 => 50#32
  | 124 => 150#32
  | 125 => 100#32
  | 126 => 100#32
  | 127 => 50#32
  | _ => 0#32

noncomputable abbrev lit3t0_11 (i : Nat) : BitVec 32 := match i % 128 with
  | 0 => 150#32
  | 1 => 100#32
  | 2 => 25#32
  | 3 => 75#32
  | 4 => 125#32
  | 5 => 175#32
  | 6 => 20#32
  | 7 => 60#32
  | 8 => 100#32
  | 9 => 140#32
  | 10 => 180#32
  | 11 => 50#32
  | 12 => 150#32
  | 13 => 100#32
  | 14 => 100#32
  | 15 => 10#32
  | 16 => 30#32
  | 17 => 50#32
  | 18 => 70#32
  | 19 => 90#32
  | 20 => 110#32
  | 21 => 130#32
  | 22 => 150#32
  | 23 => 170#32
  | 24 => 190#32
  | 25 => 100#32
  | 26 => 25#32
  | 27 => 75#32
  | 28 => 125#32
  | 29 => 175#32
  | 30 => 100#32
  | 31 => 50#32
  | 32 => 150#32
  | 33 => 4#32
  | 34 => 12#32
  | 35 => 20#32
  | 36 => 28#32
  | 37 => 36#32
  | 38 => 44#32
  | 39 => 52#32
  | 40 => 60#32
  | 41 => 68#32
  | 42 => 76#32
  | 43 => 84#32
  | 44 => 92#32
  | 45 => 100#32
  | 46 => 108#32
  | 47 => 116#32
  | 48 => 124#32
  | 49 => 132#32
  | 50 => 140#32
  | 51 => 148#32
  | 52 => 156#32
  | 53 => 164#32
  | 54 => 172#32
  | 55 => 180#32
  | 56 => 188#32
  | 57 => 196#32
  | 58 => 100#32
  | 59 => 50#32
  | 60 => 150#32
  | 61 => 100#32
  | 62 => 5#32
  | 63 => 15#32
  | 64 => 25#32
  | 65 => 35#32
  | 66 => 45#32
  | 67 => 55#32
  | 68 => 65#32
  | 69 => 75#32
  | 70 => 85#32
  | 71 => 95#32
  | 72 => 105#32
  | 73 => 115#32
  | 74 => 125#32
  | 75 => 135#32
  | 76 => 145#32
  | 77 => 155#32
  | 78 => 165#32
  | 79 => 175#32
  | 80 => 185#32
  | 81 => 195#32
  | 82 => 100#32
  | 83 => 50#32
  | 84 => 150#32
  | 85 => 100#32
  | 86 => 20#32
  | 87 => 60#32
  | 88 => 100#32
  | 89 => 140#32
  | 90 => 180#32
  | 91 => 50#32
  | 92 => 150#32
  | 93 => 100#32
  | 94 => 25#32
  | 95 => 75#32
  | 96 => 125#32
  | 97 => 175#32
  | 98 => 100#32
  | 99 => 10#32
  | 100 => 30#32
  | 101 => 50#32
  | 102 => 70#32
  | 103 => 90#32
  | 104 => 110#32
  | 105 => 130#32
  | 106 => 150#32
  | 107 => 170#32
  | 108 => 190#32
  | 109 => 100#32
  | 110 => 100#32
  | 111 => 50#32
  | 112 => 150#32
  | 113 => 20#32
  | 114 => 60#32
  | 115 => 100#32
  | 116 => 140#32
  | 117 => 180#32
  | 118 => 25#32
  | 119 => 75#32
  | 120 => 125#32
  | 121 => 175#32
  | 122 => 100#32
  | 123 => 50#32
  | 124 => 150#32
  | 125 => 100#32
  | _ => 0#32

noncomputable abbrev lit3t (i : Nat) : BitVec 32 := match i / 128 with
  | 0 => lit3t0_0 i
  | 1 => lit3t0_1 i
  | 2 => lit3t0_2 i
  | 3 => lit3t0_3 i
  | 4 => lit3t0_4 i
  | 5 => lit3t0_5 i
  | 6 => lit3t0_6 i
  | 7 => lit3t0_7 i
  | 8 => lit3t0_8 i
  | 9 => lit3t0_9 i
  | 10 => lit3t0_10 i
  | 11 => lit3t0_11 i
  | _ => 0#32

noncomputable abbrev lit3 : Fin 1534 → BitVec 32 := fun ⟨i, _⟩ => lit3t i

noncomputable abbrev lit4 : Fin 400 → BitVec 32 := fun
  | 0 => 0x00000000#32 | 1 => 0x3C80ACA2#32 | 2 => 0x3D00A891#32 | 3 => 0x3D40F2B2#32 | 4 => 0x3D809851#32 | 5 => 0x3DA0AF2A#32 | 6 => 0x3DC0BBDC#32 | 7 => 0x3DE0BC62#32
  | 8 => 0x3E00575B#32 | 9 => 0x3E10486A#32 | 10 => 0x3E20305B#32 | 11 => 0x3E300E2F#32 | 12 => 0x3E3FE0E3#32 | 13 => 0x3E4FA779#32 | 14 => 0x3E5F60F1#32 | 15 => 0x3E6F0C4D#32
  | 16 => 0x3E7EA890#32 | 17 => 0x3E871A5E#32 | 18 => 0x3E8ED7EC#32 | 19 => 0x3E968C74#32 | 20 => 0x3E9E377A#32 | 21 => 0x3EA5D881#32 | 22 => 0x3EAD6F0F#32 | 23 => 0x3EB4FAA8#32
  | 24 => 0x3EBC7AD2#32 | 25 => 0x3EC3EF15#32 | 26 => 0x3ECB56F8#32 | 27 => 0x3ED2B203#32 | 28 => 0x3ED9FFBE#32 | 29 => 0x3EE13FB5#32 | 30 => 0x3EE87171#32 | 31 => 0x3EEF947F#32
  | 32 => 0x3EF6A86B#32 | 33 => 0x3EFDACC2#32 | 34 => 0x3F02508A#32 | 35 => 0x3F05C277#32 | 36 => 0x3F092BF2#32 | 37 => 0x3F0C8CC2#32 | 38 => 0x3F0FE4B2#32 | 39 => 0x3F13338B#32
  | 40 => 0x3F167918#32 | 41 => 0x3F19B524#32 | 42 => 0x3F1CE77A#32 | 43 => 0x3F200FE7#32 | 44 => 0x3F232E38#32 | 45 => 0x3F26423A#32 | 46 => 0x3F294BBC#32 | 47 => 0x3F2C4A8C#32
  | 48 => 0x3F2F3E7B#32 | 49 => 0x3F322757#32 | 50 => 0x3F3504F3#32 | 51 => 0x3F37D720#32 | 52 => 0x3F3A9DB0#32 | 53 => 0x3F3D5877#32 | 54 => 0x3F400747#32 | 55 => 0x3F42A9F7#32
  | 56 => 0x3F45405B#32 | 57 => 0x3F47CA4A#32 | 58 => 0x3F4A4799#32 | 59 => 0x3F4CB822#32 | 60 => 0x3F4F1BBD#32 | 61 => 0x3F517243#32 | 62 => 0x3F53BB8D#32 | 63 => 0x3F55F779#32
  | 64 => 0x3F5825E0#32 | 65 => 0x3F5A46A0#32 | 66 => 0x3F5C5997#32 | 67 => 0x3F5E5EA3#32 | 68 => 0x3F6055A2#32 | 69 => 0x3F623E77#32 | 70 => 0x3F641901#32 | 71 => 0x3F65E523#32
  | 72 => 0x3F67A2BF#32 | 73 => 0x3F6951BA#32 | 74 => 0x3F6AF1F8#32 | 75 => 0x3F6C835E#32 | 76 => 0x3F6E05D5#32 | 77 => 0x3F6F7943#32 | 78 => 0x3F70DD90#32 | 79 => 0x3F7232A6#32
  | 80 => 0x3F737871#32 | 81 => 0x3F74AEDA#32 | 82 => 0x3F75D5CF#32 | 83 => 0x3F76ED3C#32 | 84 => 0x3F77F511#32 | 85 => 0x3F78ED3C#32 | 86 => 0x3F79D5AE#32 | 87 => 0x3F7AAE59#32
  | 88 => 0x3F7B772D#32 | 89 => 0x3F7C3020#32 | 90 => 0x3F7CD925#32 | 91 => 0x3F7D7231#32 | 92 => 0x3F7DFB3B#32 | 93 => 0x3F7E743A#32 | 94 => 0x3F7EDD26#32 | 95 => 0x3F7F35F9#32
  | 96 => 0x3F7F7EAE#32 | 97 => 0x3F7FB73F#32 | 98 => 0x3F7FDFA9#32 | 99 => 0x3F7FF7EA#32 | 100 => 0x3F800000#32 | 101 => 0x3F7FF7EA#32 | 102 => 0x3F7FDFA9#32 | 103 => 0x3F7FB73F#32
  | 104 => 0x3F7F7EAE#32 | 105 => 0x3F7F35F9#32 | 106 => 0x3F7EDD26#32 | 107 => 0x3F7E743A#32 | 108 => 0x3F7DFB3B#32 | 109 => 0x3F7D7231#32 | 110 => 0x3F7CD925#32 | 111 => 0x3F7C3020#32
  | 112 => 0x3F7B772D#32 | 113 => 0x3F7AAE59#32 | 114 => 0x3F79D5AE#32 | 115 => 0x3F78ED3C#32 | 116 => 0x3F77F511#32 | 117 => 0x3F76ED3C#32 | 118 => 0x3F75D5CF#32 | 119 => 0x3F74AEDA#32
  | 120 => 0x3F737871#32 | 121 => 0x3F7232A6#32 | 122 => 0x3F70DD90#32 | 123 => 0x3F6F7943#32 | 124 => 0x3F6E05D5#32 | 125 => 0x3F6C835E#32 | 126 => 0x3F6AF1F8#32 | 127 => 0x3F6951BA#32
  | 128 => 0x3F67A2BF#32 | 129 => 0x3F65E523#32 | 130 => 0x3F641901#32 | 131 => 0x3F623E77#32 | 132 => 0x3F6055A2#32 | 133 => 0x3F5E5EA3#32 | 134 => 0x3F5C5997#32 | 135 => 0x3F5A46A0#32
  | 136 => 0x3F5825E0#32 | 137 => 0x3F55F779#32 | 138 => 0x3F53BB8D#32 | 139 => 0x3F517243#32 | 140 => 0x3F4F1BBD#32 | 141 => 0x3F4CB822#32 | 142 => 0x3F4A4799#32 | 143 => 0x3F47CA4A#32
  | 144 => 0x3F45405B#32 | 145 => 0x3F42A9F7#32 | 146 => 0x3F400747#32 | 147 => 0x3F3D5877#32 | 148 => 0x3F3A9DB0#32 | 149 => 0x3F37D720#32 | 150 => 0x3F3504F3#32 | 151 => 0x3F322757#32
  | 152 => 0x3F2F3E7B#32 | 153 => 0x3F2C4A8C#32 | 154 => 0x3F294BBC#32 | 155 => 0x3F26423A#32 | 156 => 0x3F232E38#32 | 157 => 0x3F200FE7#32 | 158 => 0x3F1CE77A#32 | 159 => 0x3F19B524#32
  | 160 => 0x3F167918#32 | 161 => 0x3F13338B#32 | 162 => 0x3F0FE4B2#32 | 163 => 0x3F0C8CC2#32 | 164 => 0x3F092BF2#32 | 165 => 0x3F05C277#32 | 166 => 0x3F02508A#32 | 167 => 0x3EFDACC2#32
  | 168 => 0x3EF6A86B#32 | 169 => 0x3EEF947F#32 | 170 => 0x3EE87171#32 | 171 => 0x3EE13FB5#32 | 172 => 0x3ED9FFBE#32 | 173 => 0x3ED2B203#32 | 174 => 0x3ECB56F8#32 | 175 => 0x3EC3EF15#32
  | 176 => 0x3EBC7AD2#32 | 177 => 0x3EB4FAA8#32 | 178 => 0x3EAD6F0F#32 | 179 => 0x3EA5D881#32 | 180 => 0x3E9E377A#32 | 181 => 0x3E968C74#32 | 182 => 0x3E8ED7EC#32 | 183 => 0x3E871A5E#32
  | 184 => 0x3E7EA890#32 | 185 => 0x3E6F0C4D#32 | 186 => 0x3E5F60F1#32 | 187 => 0x3E4FA779#32 | 188 => 0x3E3FE0E3#32 | 189 => 0x3E300E2F#32 | 190 => 0x3E20305B#32 | 191 => 0x3E10486A#32
  | 192 => 0x3E00575B#32 | 193 => 0x3DE0BC62#32 | 194 => 0x3DC0BBDC#32 | 195 => 0x3DA0AF2A#32 | 196 => 0x3D809851#32 | 197 => 0x3D40F2B2#32 | 198 => 0x3D00A891#32 | 199 => 0x3C80ACA2#32
  | 200 => 0x250D3132#32 | 201 => 0xBC80ACA2#32 | 202 => 0xBD00A891#32 | 203 => 0xBD40F2B2#32 | 204 => 0xBD809851#32 | 205 => 0xBDA0AF2A#32 | 206 => 0xBDC0BBDC#32 | 207 => 0xBDE0BC62#32
  | 208 => 0xBE00575B#32 | 209 => 0xBE10486A#32 | 210 => 0xBE20305B#32 | 211 => 0xBE300E2F#32 | 212 => 0xBE3FE0E3#32 | 213 => 0xBE4FA779#32 | 214 => 0xBE5F60F1#32 | 215 => 0xBE6F0C4D#32
  | 216 => 0xBE7EA890#32 | 217 => 0xBE871A5E#32 | 218 => 0xBE8ED7EC#32 | 219 => 0xBE968C74#32 | 220 => 0xBE9E377A#32 | 221 => 0xBEA5D881#32 | 222 => 0xBEAD6F0F#32 | 223 => 0xBEB4FAA8#32
  | 224 => 0xBEBC7AD2#32 | 225 => 0xBEC3EF15#32 | 226 => 0xBECB56F8#32 | 227 => 0xBED2B203#32 | 228 => 0xBED9FFBE#32 | 229 => 0xBEE13FB5#32 | 230 => 0xBEE87171#32 | 231 => 0xBEEF947F#32
  | 232 => 0xBEF6A86B#32 | 233 => 0xBEFDACC2#32 | 234 => 0xBF02508A#32 | 235 => 0xBF05C277#32 | 236 => 0xBF092BF2#32 | 237 => 0xBF0C8CC2#32 | 238 => 0xBF0FE4B2#32 | 239 => 0xBF13338B#32
  | 240 => 0xBF167918#32 | 241 => 0xBF19B524#32 | 242 => 0xBF1CE77A#32 | 243 => 0xBF200FE7#32 | 244 => 0xBF232E38#32 | 245 => 0xBF26423A#32 | 246 => 0xBF294BBC#32 | 247 => 0xBF2C4A8C#32
  | 248 => 0xBF2F3E7B#32 | 249 => 0xBF322757#32 | 250 => 0xBF3504F3#32 | 251 => 0xBF37D720#32 | 252 => 0xBF3A9DB0#32 | 253 => 0xBF3D5877#32 | 254 => 0xBF400747#32 | 255 => 0xBF42A9F7#32
  | 256 => 0xBF45405B#32 | 257 => 0xBF47CA4A#32 | 258 => 0xBF4A4799#32 | 259 => 0xBF4CB822#32 | 260 => 0xBF4F1BBD#32 | 261 => 0xBF517243#32 | 262 => 0xBF53BB8D#32 | 263 => 0xBF55F779#32
  | 264 => 0xBF5825E0#32 | 265 => 0xBF5A46A0#32 | 266 => 0xBF5C5997#32 | 267 => 0xBF5E5EA3#32 | 268 => 0xBF6055A2#32 | 269 => 0xBF623E77#32 | 270 => 0xBF641901#32 | 271 => 0xBF65E523#32
  | 272 => 0xBF67A2BF#32 | 273 => 0xBF6951BA#32 | 274 => 0xBF6AF1F8#32 | 275 => 0xBF6C835E#32 | 276 => 0xBF6E05D5#32 | 277 => 0xBF6F7943#32 | 278 => 0xBF70DD90#32 | 279 => 0xBF7232A6#32
  | 280 => 0xBF737871#32 | 281 => 0xBF74AEDA#32 | 282 => 0xBF75D5CF#32 | 283 => 0xBF76ED3C#32 | 284 => 0xBF77F511#32 | 285 => 0xBF78ED3C#32 | 286 => 0xBF79D5AE#32 | 287 => 0xBF7AAE59#32
  | 288 => 0xBF7B772D#32 | 289 => 0xBF7C3020#32 | 290 => 0xBF7CD925#32 | 291 => 0xBF7D7231#32 | 292 => 0xBF7DFB3B#32 | 293 => 0xBF7E743A#32 | 294 => 0xBF7EDD26#32 | 295 => 0xBF7F35F9#32
  | 296 => 0xBF7F7EAE#32 | 297 => 0xBF7FB73F#32 | 298 => 0xBF7FDFA9#32 | 299 => 0xBF7FF7EA#32 | 300 => 0xBF800000#32 | 301 => 0xBF7FF7EA#32 | 302 => 0xBF7FDFA9#32 | 303 => 0xBF7FB73F#32
  | 304 => 0xBF7F7EAE#32 | 305 => 0xBF7F35F9#32 | 306 => 0xBF7EDD26#32 | 307 => 0xBF7E743A#32 | 308 => 0xBF7DFB3B#32 | 309 => 0xBF7D7231#32 | 310 => 0xBF7CD925#32 | 311 => 0xBF7C3020#32
  | 312 => 0xBF7B772D#32 | 313 => 0xBF7AAE59#32 | 314 => 0xBF79D5AE#32 | 315 => 0xBF78ED3C#32 | 316 => 0xBF77F511#32 | 317 => 0xBF76ED3C#32 | 318 => 0xBF75D5CF#32 | 319 => 0xBF74AEDA#32
  | 320 => 0xBF737871#32 | 321 => 0xBF7232A6#32 | 322 => 0xBF70DD90#32 | 323 => 0xBF6F7943#32 | 324 => 0xBF6E05D5#32 | 325 => 0xBF6C835E#32 | 326 => 0xBF6AF1F8#32 | 327 => 0xBF6951BA#32
  | 328 => 0xBF67A2BF#32 | 329 => 0xBF65E523#32 | 330 => 0xBF641901#32 | 331 => 0xBF623E77#32 | 332 => 0xBF6055A2#32 | 333 => 0xBF5E5EA3#32 | 334 => 0xBF5C5997#32 | 335 => 0xBF5A46A0#32
  | 336 => 0xBF5825E0#32 | 337 => 0xBF55F779#32 | 338 => 0xBF53BB8D#32 | 339 => 0xBF517243#32 | 340 => 0xBF4F1BBD#32 | 341 => 0xBF4CB822#32 | 342 => 0xBF4A4799#32 | 343 => 0xBF47CA4A#32
  | 344 => 0xBF45405B#32 | 345 => 0xBF42A9F7#32 | 346 => 0xBF400747#32 | 347 => 0xBF3D5877#32 | 348 => 0xBF3A9DB0#32 | 349 => 0xBF37D720#32 | 350 => 0xBF3504F3#32 | 351 => 0xBF322757#32
  | 352 => 0xBF2F3E7B#32 | 353 => 0xBF2C4A8C#32 | 354 => 0xBF294BBC#32 | 355 => 0xBF26423A#32 | 356 => 0xBF232E38#32 | 357 => 0xBF200FE7#32 | 358 => 0xBF1CE77A#32 | 359 => 0xBF19B524#32
  | 360 => 0xBF167918#32 | 361 => 0xBF13338B#32 | 362 => 0xBF0FE4B2#32 | 363 => 0xBF0C8CC2#32 | 364 => 0xBF092BF2#32 | 365 => 0xBF05C277#32 | 366 => 0xBF02508A#32 | 367 => 0xBEFDACC2#32
  | 368 => 0xBEF6A86B#32 | 369 => 0xBEEF947F#32 | 370 => 0xBEE87171#32 | 371 => 0xBEE13FB5#32 | 372 => 0xBED9FFBE#32 | 373 => 0xBED2B203#32 | 374 => 0xBECB56F8#32 | 375 => 0xBEC3EF15#32
  | 376 => 0xBEBC7AD2#32 | 377 => 0xBEB4FAA8#32 | 378 => 0xBEAD6F0F#32 | 379 => 0xBEA5D881#32 | 380 => 0xBE9E377A#32 | 381 => 0xBE968C74#32 | 382 => 0xBE8ED7EC#32 | 383 => 0xBE871A5E#32
  | 384 => 0xBE7EA890#32 | 385 => 0xBE6F0C4D#32 | 386 => 0xBE5F60F1#32 | 387 => 0xBE4FA779#32 | 388 => 0xBE3FE0E3#32 | 389 => 0xBE300E2F#32 | 390 => 0xBE20305B#32 | 391 => 0xBE10486A#32
  | 392 => 0xBE00575B#32 | 393 => 0xBDE0BC62#32 | 394 => 0xBDC0BBDC#32 | 395 => 0xBDA0AF2A#32 | 396 => 0xBD809851#32 | 397 => 0xBD40F2B2#32 | 398 => 0xBD00A891#32 | 399 => 0xBC80ACA2#32
  | _ => 0#32

noncomputable abbrev lit5t0_0 (i : Nat) : BitVec 32 := match i % 128 with
  | 0 => 0xA58D3132#32
  | 1 => 0x25D3C9CA#32
  | 2 => 0xA58D3132#32
  | 3 => 0x25D3C9CA#32
  | 4 => 0xA60D3132#32
  | 5 => 0xA58D3132#32
  | 6 => 0x25D3C9CA#32
  | 7 => 0xA60D3132#32
  | 8 => 0x272C1F5F#32
  | 9 => 0x25D3C9CA#32
  | 10 => 0xA653C9CA#32
  | 11 => 0x279EE2C3#32
  | 12 => 0xA58D3132#32
  | 13 => 0x25D3C9CA#32
  | 14 => 0xA60D3132#32
  | 15 => 0x272C1F5F#32
  | 16 => 0xA653C9CA#32
  | 17 => 0x279EE2C3#32
  | 18 => 0xA68D3132#32
  | 19 => 0x269ED758#32
  | 20 => 0xA58D3132#32
  | 21 => 0x25D3C9CA#32
  | 22 => 0xA60D3132#32
  | 23 => 0x272C1F5F#32
  | 24 => 0xA653C9CA#32
  | 25 => 0x279EE2C3#32
  | 26 => 0xA68D3132#32
  | 27 => 0x269ED758#32
  | 28 => 0xA7AC1F5F#32
  | 29 => 0x27B088E9#32
  | 30 => 0x25D3C9CA#32
  | 31 => 0xA653C9CA#32
  | 32 => 0x269ED758#32
  | 33 => 0xA6D3C9CA#32
  | 34 => 0xA70D4808#32
  | 35 => 0x279EE2C3#32
  | 36 => 0xA81EE2C3#32
  | 37 => 0x25D3C9CA#32
  | 38 => 0xA653C9CA#32
  | 39 => 0x269ED758#32
  | 40 => 0xA6D3C9CA#32
  | 41 => 0x27C22F0F#32
  | 42 => 0xA58D3132#32
  | 43 => 0xA60D3132#32
  | 44 => 0xA653C9CA#32
  | 45 => 0xA68D3132#32
  | 46 => 0xA7AC1F5F#32
  | 47 => 0xA6D3C9CA#32
  | 48 => 0xA81EE2C3#32
  | 49 => 0xA70D3132#32
  | 50 => 0xA6D3F777#32
  | 51 => 0x269ED758#32
  | 52 => 0xA71ED758#32
  | 53 => 0x27D3D535#32
  | 54 => 0xA58D3132#32
  | 55 => 0x25D3C9CA#32
  | 56 => 0xA60D3132#32
  | 57 => 0x272C1F5F#32
  | 58 => 0xA653C9CA#32
  | 59 => 0x279EE2C3#32
  | 60 => 0xA68D3132#32
  | 61 => 0x269ED758#32
  | 62 => 0xA7AC1F5F#32
  | 63 => 0xA71EEE2E#32
  | 64 => 0xA6D3C9CA#32
  | 65 => 0x27B95BFC#32
  | 66 => 0xA81EE2C3#32
  | 67 => 0x27C22F0F#32
  | 68 => 0xA70D3132#32
  | 69 => 0x27CB0222#32
  | 70 => 0xA71ED758#32
  | 71 => 0xA6B0AB2A#32
  | 72 => 0xA82C1F5F#32
  | 73 => 0xA68D5EDE#32
  | 74 => 0x27B088E9#32
  | 75 => 0xA83088E9#32
  | 76 => 0x27E57B5C#32
  | 77 => 0x25D3C9CA#32
  | 78 => 0xA653C9CA#32
  | 79 => 0x269ED758#32
  | 80 => 0xA6D3C9CA#32
  | 81 => 0x27C22F0F#32
  | 82 => 0xA71ED758#32
  | 83 => 0xA68D5EDE#32
  | 84 => 0xA753C9CA#32
  | 85 => 0xA58D3132#32
  | 86 => 0x25D3C9CA#32
  | 87 => 0xA60D3132#32
  | 88 => 0xA6A7C141#32
  | 89 => 0xA653C9CA#32
  | 90 => 0xA7423A7A#32
  | 91 => 0xA68D3132#32
  | 92 => 0x269ED758#32
  | 93 => 0x2727C141#32
  | 94 => 0xA71EEE2E#32
  | 95 => 0xA6D3C9CA#32
  | 96 => 0xA70D4808#32
  | 97 => 0x27C23A7A#32
  | 98 => 0x27C22F0F#32
  | 99 => 0xA70D3132#32
  | 100 => 0xA6D3F777#32
  | 101 => 0xA71ED758#32
  | 102 => 0xA6B0AB2A#32
  | 103 => 0x27A7C141#32
  | 104 => 0xA68D5EDE#32
  | 105 => 0x279EEE2E#32
  | 106 => 0xA80D4252#32
  | 107 => 0xA753C9CA#32
  | 108 => 0xA60D8C8A#32
  | 109 => 0xA70D4808#32
  | 110 => 0x278D4808#32
  | 111 => 0x27F72182#32
  | 112 => 0x279EE2C3#32
  | 113 => 0xA81EE2C3#32
  | 114 => 0xA68D5EDE#32
  | 115 => 0xA89EE2C3#32
  | 116 => 0x287FFA4A#32
  | 117 => 0x25D3C9CA#32
  | 118 => 0xA653C9CA#32
  | 119 => 0x269ED758#32
  | 120 => 0xA6D3C9CA#32
  | 121 => 0x27C22F0F#32
  | 122 => 0xA71ED758#32
  | 123 => 0xA68D5EDE#32
  | 124 => 0xA753C9CA#32
  | 125 => 0x27F72182#32
  | 126 => 0xA8422F0F#32
  | 127 => 0x280463D4#32
  | _ => 0#32

noncomputable abbrev lit5t0_1 (i : Nat) : BitVec 32 := match i % 128 with
  | 0 => 0xA60D3132#32
  | 1 => 0xA68D3132#32
  | 2 => 0xA6D3C9CA#32
  | 3 => 0xA70D3132#32
  | 4 => 0xA82C1F5F#32
  | 5 => 0xA753C9CA#32
  | 6 => 0xA89EE2C3#32
  | 7 => 0xA78D3132#32
  | 8 => 0x260CD5D9#32
  | 9 => 0xA6D3F777#32
  | 10 => 0x2753F777#32
  | 11 => 0x279EE2C3#32
  | 12 => 0xA81EE2C3#32
  | 13 => 0xA68D5EDE#32
  | 14 => 0xA89EE2C3#32
  | 15 => 0x280D36E7#32
  | 16 => 0x269ED758#32
  | 17 => 0xA71ED758#32
  | 18 => 0xA8046F3F#32
  | 19 => 0xA79ED758#32
  | 20 => 0x268D0385#32
  | 21 => 0x27D3D535#32
  | 22 => 0xA853D535#32
  | 23 => 0x28CB04FD#32
  | 24 => 0xA58D3132#32
  | 25 => 0x25D3C9CA#32
  | 26 => 0xA60D3132#32
  | 27 => 0x272C1F5F#32
  | 28 => 0xA653C9CA#32
  | 29 => 0x279EE2C3#32
  | 30 => 0xA68D3132#32
  | 31 => 0x269ED758#32
  | 32 => 0xA7AC1F5F#32
  | 33 => 0xA71EEE2E#32
  | 34 => 0xA6D3C9CA#32
  | 35 => 0x27B95BFC#32
  | 36 => 0xA81EE2C3#32
  | 37 => 0x27C22F0F#32
  | 38 => 0xA70D3132#32
  | 39 => 0x27CB0222#32
  | 40 => 0xA71ED758#32
  | 41 => 0xA6B0AB2A#32
  | 42 => 0xA82C1F5F#32
  | 43 => 0xA68D5EDE#32
  | 44 => 0x279EEE2E#32
  | 45 => 0x27E57B5C#32
  | 46 => 0xA753C9CA#32
  | 47 => 0xA60D8C8A#32
  | 48 => 0xA8395BFC#32
  | 49 => 0xA8046F3F#32
  | 50 => 0xA89EE2C3#32
  | 51 => 0x287FFA4A#32
  | 52 => 0xA8422F0F#32
  | 53 => 0x280463D4#32
  | 54 => 0xA78D3132#32
  | 55 => 0x260CD5D9#32
  | 56 => 0xA84B0222#32
  | 57 => 0x280D36E7#32
  | 58 => 0xA79ED758#32
  | 59 => 0x268D0385#32
  | 60 => 0x2730AB2A#32
  | 61 => 0xA7D3EC0C#32
  | 62 => 0xA8AC1F5F#32
  | 63 => 0x288D39C2#32
  | 64 => 0xA68D5EDE#32
  | 65 => 0x270D5EDE#32
  | 66 => 0x281EDD0D#32
  | 67 => 0x27B088E9#32
  | 68 => 0xA83088E9#32
  | 69 => 0x288466AF#32
  | 70 => 0xA8B088E9#32
  | 71 => 0x269ED758#32
  | 72 => 0xA71ED758#32
  | 73 => 0xA8046F3F#32
  | 74 => 0xA79ED758#32
  | 75 => 0x270D1A5B#32
  | 76 => 0x27E57B5C#32
  | 77 => 0xA8657B5C#32
  | 78 => 0xA7B09FBF#32
  | 79 => 0xA653C9CA#32
  | 80 => 0xA6D3C9CA#32
  | 81 => 0xA71ED758#32
  | 82 => 0xA753C9CA#32
  | 83 => 0xA8422F0F#32
  | 84 => 0xA79ED758#32
  | 85 => 0x270D5EDE#32
  | 86 => 0xA7D3C9CA#32
  | 87 => 0x28960CD5#32
  | 88 => 0xA58D3132#32
  | 89 => 0x25D3C9CA#32
  | 90 => 0xA60D3132#32
  | 91 => 0xA6A7C141#32
  | 92 => 0xA653C9CA#32
  | 93 => 0xA7423A7A#32
  | 94 => 0xA68D3132#32
  | 95 => 0x269ED758#32
  | 96 => 0x2727C141#32
  | 97 => 0xA71EEE2E#32
  | 98 => 0xA6D3C9CA#32
  | 99 => 0xA70D4808#32
  | 100 => 0x27C23A7A#32
  | 101 => 0x27C22F0F#32
  | 102 => 0xA70D3132#32
  | 103 => 0xA6D3F777#32
  | 104 => 0xA71ED758#32
  | 105 => 0xA6B0AB2A#32
  | 106 => 0x27A7C141#32
  | 107 => 0xA68D5EDE#32
  | 108 => 0x279EEE2E#32
  | 109 => 0xA80D4252#32
  | 110 => 0xA753C9CA#32
  | 111 => 0xA60D8C8A#32
  | 112 => 0x278D4808#32
  | 113 => 0xA8046F3F#32
  | 114 => 0x28423A7A#32
  | 115 => 0x287FFA4A#32
  | 116 => 0xA8422F0F#32
  | 117 => 0x280463D4#32
  | 118 => 0xA78D3132#32
  | 119 => 0x260CD5D9#32
  | 120 => 0x2753F777#32
  | 121 => 0xA7E59232#32
  | 122 => 0xA79ED758#32
  | 123 => 0x268D0385#32
  | 124 => 0x2730AB2A#32
  | 125 => 0xA7D3EC0C#32
  | 126 => 0x2827C141#32
  | 127 => 0xA8658C7C#32
  | _ => 0#32

noncomputable abbrev lit5t0_2 (i : Nat) : BitVec 32 := match i % 128 with
  | 0 => 0x270D5EDE#32
  | 1 => 0x281EDD0D#32
  | 2 => 0x281EEE2E#32
  | 3 => 0x270D1A5B#32
  | 4 => 0x288D4252#32
  | 5 => 0xA7B09FBF#32
  | 6 => 0xA7D3C9CA#32
  | 7 => 0x28960CD5#32
  | 8 => 0x268D8C8A#32
  | 9 => 0x28308334#32
  | 10 => 0xA70D4808#32
  | 11 => 0x278D4808#32
  | 12 => 0xA7D3EC0C#32
  | 13 => 0x280D4808#32
  | 14 => 0x2753B2F4#32
  | 15 => 0x27F72182#32
  | 16 => 0xA8772182#32
  | 17 => 0xA71EEE2E#32
  | 18 => 0x279EEE2E#32
  | 19 => 0x260CD5D9#32
  | 20 => 0x281EEE2E#32
  | 21 => 0xA78D5373#32
  | 22 => 0x279EE2C3#32
  | 23 => 0xA81EE2C3#32
  | 24 => 0xA68D5EDE#32
  | 25 => 0xA89EE2C3#32
  | 26 => 0x280D36E7#32
  | 27 => 0x270D5EDE#32
  | 28 => 0x28960CD5#32
  | 29 => 0xA91EE2C3#32
  | 30 => 0x289EDFE8#32
  | 31 => 0x287FFA4A#32
  | 32 => 0xA8FFFA4A#32
  | 33 => 0x2842295A#32
  | 34 => 0x25D3C9CA#32
  | 35 => 0xA653C9CA#32
  | 36 => 0x269ED758#32
  | 37 => 0xA6D3C9CA#32
  | 38 => 0x27C22F0F#32
  | 39 => 0xA71ED758#32
  | 40 => 0xA68D5EDE#32
  | 41 => 0xA753C9CA#32
  | 42 => 0x27F72182#32
  | 43 => 0xA8422F0F#32
  | 44 => 0x288466AF#32
  | 45 => 0xA79ED758#32
  | 46 => 0x28CB04FD#32
  | 47 => 0x270D5EDE#32
  | 48 => 0x2908D1A6#32
  | 49 => 0xA7D3C9CA#32
  | 50 => 0x28308334#32
  | 51 => 0xA8772182#32
  | 52 => 0x289EDFE8#32
  | 53 => 0xA8C22F0F#32
  | 54 => 0x278D25C7#32
  | 55 => 0x280463D4#32
  | 56 => 0xA88463D4#32
  | 57 => 0xA7540E4D#32
  | 58 => 0xA68D3132#32
  | 59 => 0xA70D3132#32
  | 60 => 0xA753C9CA#32
  | 61 => 0xA78D3132#32
  | 62 => 0xA8AC1F5F#32
  | 63 => 0xA7D3C9CA#32
  | 64 => 0xA91EE2C3#32
  | 65 => 0xA80D3132#32
  | 66 => 0x27B95BFC#32
  | 67 => 0xA8395BFC#32
  | 68 => 0x28CB04FD#32
  | 69 => 0xA8B95BFC#32
  | 70 => 0x28A7B2FB#32
  | 71 => 0x260CD5D9#32
  | 72 => 0xA68CD5D9#32
  | 73 => 0x2934F3E0#32
  | 74 => 0xA6D3F777#32
  | 75 => 0x2753F777#32
  | 76 => 0x28308334#32
  | 77 => 0x27D3F777#32
  | 78 => 0x29160E42#32
  | 79 => 0x279EE2C3#32
  | 80 => 0xA81EE2C3#32
  | 81 => 0xA68D5EDE#32
  | 82 => 0xA89EE2C3#32
  | 83 => 0x280D36E7#32
  | 84 => 0x270D5EDE#32
  | 85 => 0x28960CD5#32
  | 86 => 0xA91EE2C3#32
  | 87 => 0xA7540E4D#32
  | 88 => 0xA88D36E7#32
  | 89 => 0x28EE514A#32
  | 90 => 0x269ED758#32
  | 91 => 0xA71ED758#32
  | 92 => 0xA8046F3F#32
  | 93 => 0xA79ED758#32
  | 94 => 0x270D1A5B#32
  | 95 => 0x28846F3F#32
  | 96 => 0xA7540E4D#32
  | 97 => 0xA81ED758#32
  | 98 => 0x28B0860E#32
  | 99 => 0x268D0385#32
  | 100 => 0xA70D0385#32
  | 101 => 0x25D3C9CA#32
  | 102 => 0xA653C9CA#32
  | 103 => 0x269ED758#32
  | 104 => 0xA6D3C9CA#32
  | 105 => 0x27C22F0F#32
  | 106 => 0xA71ED758#32
  | 107 => 0xA68D5EDE#32
  | 108 => 0xA753C9CA#32
  | 109 => 0xA8046F3F#32
  | 110 => 0xA8422F0F#32
  | 111 => 0x288466AF#32
  | 112 => 0xA79ED758#32
  | 113 => 0xA7D3EC0C#32
  | 114 => 0x270D5EDE#32
  | 115 => 0x2908D1A6#32
  | 116 => 0xA7D3C9CA#32
  | 117 => 0x28308334#32
  | 118 => 0x28846F3F#32
  | 119 => 0x289EDFE8#32
  | 120 => 0xA8C22F0F#32
  | 121 => 0xA7540E4D#32
  | 122 => 0xA90466AF#32
  | 123 => 0x29160E42#32
  | 124 => 0xA81ED758#32
  | 125 => 0x286575A6#32
  | 126 => 0x27D3D535#32
  | 127 => 0xA853D535#32
  | _ => 0#32

noncomputable abbrev lit5t0_3 (i : Nat) : BitVec 32 := match i % 128 with
  | 0 => 0x289EDFE8#32
  | 1 => 0xA8D3D535#32
  | 2 => 0x27D3BE5F#32
  | 3 => 0x28CB04FD#32
  | 4 => 0xA94B04FD#32
  | 5 => 0xA68DBA36#32
  | 6 => 0xA58D3132#32
  | 7 => 0xA60D3132#32
  | 8 => 0xA653C9CA#32
  | 9 => 0xA68D3132#32
  | 10 => 0xA7AC1F5F#32
  | 11 => 0xA6D3C9CA#32
  | 12 => 0xA81EE2C3#32
  | 13 => 0xA70D3132#32
  | 14 => 0xA71ED758#32
  | 15 => 0xA82C1F5F#32
  | 16 => 0x279EEE2E#32
  | 17 => 0xA753C9CA#32
  | 18 => 0xA8395BFC#32
  | 19 => 0xA89EE2C3#32
  | 20 => 0xA8422F0F#32
  | 21 => 0xA78D3132#32
  | 22 => 0xA84B0222#32
  | 23 => 0xA79ED758#32
  | 24 => 0x2730AB2A#32
  | 25 => 0xA8AC1F5F#32
  | 26 => 0x270D5EDE#32
  | 27 => 0x281EEE2E#32
  | 28 => 0xA8657B5C#32
  | 29 => 0xA7D3C9CA#32
  | 30 => 0x268D8C8A#32
  | 31 => 0xA8B95BFC#32
  | 32 => 0x28846F3F#32
  | 33 => 0xA91EE2C3#32
  | 34 => 0xA8FFFA4A#32
  | 35 => 0xA8C22F0F#32
  | 36 => 0xA88463D4#32
  | 37 => 0xA80D3132#32
  | 38 => 0xA68CD5D9#32
  | 39 => 0xA8CB0222#32
  | 40 => 0xA88D36E7#32
  | 41 => 0xA81ED758#32
  | 42 => 0xA70D0385#32
  | 43 => 0x27B0AB2A#32
  | 44 => 0x2853EC0C#32
  | 45 => 0xA92C1F5F#32
  | 46 => 0x28B95921#32
  | 47 => 0x288D39C2#32
  | 48 => 0xA90D39C2#32
  | 49 => 0xA884721A#32
  | 50 => 0xA68D5EDE#32
  | 51 => 0x270D5EDE#32
  | 52 => 0xA7540E4D#32
  | 53 => 0x278D5EDE#32
  | 54 => 0x27CB0222#32
  | 55 => 0xA84B0222#32
  | 56 => 0x28308334#32
  | 57 => 0xA8CB0222#32
  | 58 => 0x27F70AAC#32
  | 59 => 0x281EDD0D#32
  | 60 => 0xA89EDD0D#32
  | 61 => 0x28FFF770#32
  | 62 => 0x27B088E9#32
  | 63 => 0xA83088E9#32
  | 64 => 0x288466AF#32
  | 65 => 0xA8B088E9#32
  | 66 => 0x28DCAB23#32
  | 67 => 0xA90466AF#32
  | 68 => 0x291A77CC#32
  | 69 => 0xA93088E9#32
  | 70 => 0xA7F74F2E#32
  | 71 => 0x269ED758#32
  | 72 => 0xA71ED758#32
  | 73 => 0xA8046F3F#32
  | 74 => 0xA79ED758#32
  | 75 => 0x270D1A5B#32
  | 76 => 0x28846F3F#32
  | 77 => 0xA7540E4D#32
  | 78 => 0xA81ED758#32
  | 79 => 0xA80D4DBD#32
  | 80 => 0xA78D1A5B#32
  | 81 => 0x288460F9#32
  | 82 => 0x27E57B5C#32
  | 83 => 0xA8657B5C#32
  | 84 => 0x29160E42#32
  | 85 => 0xA8E57B5C#32
  | 86 => 0x29234ADF#32
  | 87 => 0xA7B09FBF#32
  | 88 => 0x28309FBF#32
  | 89 => 0xA6B0AB2A#32
  | 90 => 0x2730AB2A#32
  | 91 => 0x289EDFE8#32
  | 92 => 0x27B0AB2A#32
  | 93 => 0x268CA82D#32
  | 94 => 0xA6D3C9CA#32
  | 95 => 0xA753C9CA#32
  | 96 => 0xA79ED758#32
  | 97 => 0xA7D3C9CA#32
  | 98 => 0xA8C22F0F#32
  | 99 => 0xA81ED758#32
  | 100 => 0x278D5EDE#32
  | 101 => 0xA853C9CA#32
  | 102 => 0x28CAFF48#32
  | 103 => 0x28960CD5#32
  | 104 => 0xA9160CD5#32
  | 105 => 0xA86597E7#32
  | 106 => 0xA58D3132#32
  | 107 => 0x25D3C9CA#32
  | 108 => 0xA60D3132#32
  | 109 => 0xA6A7C141#32
  | 110 => 0xA653C9CA#32
  | 111 => 0xA7423A7A#32
  | 112 => 0xA68D3132#32
  | 113 => 0x269ED758#32
  | 114 => 0x2727C141#32
  | 115 => 0xA71EEE2E#32
  | 116 => 0xA6D3C9CA#32
  | 117 => 0xA70D4808#32
  | 118 => 0x27C23A7A#32
  | 119 => 0x27C22F0F#32
  | 120 => 0xA70D3132#32
  | 121 => 0xA6D3F777#32
  | 122 => 0xA71ED758#32
  | 123 => 0xA6B0AB2A#32
  | 124 => 0x27A7C141#32
  | 125 => 0xA68D5EDE#32
  | 126 => 0x279EEE2E#32
  | 127 => 0xA80D4252#32
  | _ => 0#32

noncomputable abbrev lit5t0_4 (i : Nat) : BitVec 32 := match i % 128 with
  | 0 => 0xA753C9CA#32
  | 1 => 0xA60D8C8A#32
  | 2 => 0x278D4808#32
  | 3 => 0xA8046F3F#32
  | 4 => 0x28423A7A#32
  | 5 => 0x287FFA4A#32
  | 6 => 0xA8422F0F#32
  | 7 => 0x280463D4#32
  | 8 => 0xA78D3132#32
  | 9 => 0x260CD5D9#32
  | 10 => 0x2753F777#32
  | 11 => 0xA7E59232#32
  | 12 => 0xA79ED758#32
  | 13 => 0x268D0385#32
  | 14 => 0x2730AB2A#32
  | 15 => 0xA7D3EC0C#32
  | 16 => 0x2827C141#32
  | 17 => 0xA8658C7C#32
  | 18 => 0x270D5EDE#32
  | 19 => 0x281EDD0D#32
  | 20 => 0x281EEE2E#32
  | 21 => 0x270D1A5B#32
  | 22 => 0x288D4252#32
  | 23 => 0xA7B09FBF#32
  | 24 => 0xA7D3C9CA#32
  | 25 => 0x28960CD5#32
  | 26 => 0x268D8C8A#32
  | 27 => 0x28308334#32
  | 28 => 0x280D4808#32
  | 29 => 0x2753B2F4#32
  | 30 => 0x28846F3F#32
  | 31 => 0xA78D5373#32
  | 32 => 0x28C23A7A#32
  | 33 => 0xA8424030#32
  | 34 => 0xA8FFFA4A#32
  | 35 => 0x2842295A#32
  | 36 => 0xA8C22F0F#32
  | 37 => 0x278D25C7#32
  | 38 => 0xA88463D4#32
  | 39 => 0xA7540E4D#32
  | 40 => 0xA80D3132#32
  | 41 => 0xA8309A0A#32
  | 42 => 0xA68CD5D9#32
  | 43 => 0xA8961840#32
  | 44 => 0x27D3F777#32
  | 45 => 0xA8D3E37B#32
  | 46 => 0x28659232#32
  | 47 => 0x28EE514A#32
  | 48 => 0xA81ED758#32
  | 49 => 0x28B0860E#32
  | 50 => 0xA70D0385#32
  | 51 => 0x286575A6#32
  | 52 => 0x27B0AB2A#32
  | 53 => 0x27D3BE5F#32
  | 54 => 0x2853EC0C#32
  | 55 => 0xA68DBA36#32
  | 56 => 0x28A7C141#32
  | 57 => 0xA80D4DBD#32
  | 58 => 0x28E58C7C#32
  | 59 => 0xA884721A#32
  | 60 => 0x278D5EDE#32
  | 61 => 0x27F70AAC#32
  | 62 => 0xA89EDD0D#32
  | 63 => 0x28FFF770#32
  | 64 => 0x289EEE2E#32
  | 65 => 0xA7F74F2E#32
  | 66 => 0xA78D1A5B#32
  | 67 => 0x288460F9#32
  | 68 => 0x290D4252#32
  | 69 => 0xA8B96A42#32
  | 70 => 0x28309FBF#32
  | 71 => 0x268CA82D#32
  | 72 => 0xA853C9CA#32
  | 73 => 0x28CAFF48#32
  | 74 => 0xA9160CD5#32
  | 75 => 0xA86597E7#32
  | 76 => 0x270D8C8A#32
  | 77 => 0x281ED1A2#32
  | 78 => 0x28308334#32
  | 79 => 0xA8B08334#32
  | 80 => 0x2908CECB#32
  | 81 => 0xA70D4808#32
  | 82 => 0x278D4808#32
  | 83 => 0xA7D3EC0C#32
  | 84 => 0x280D4808#32
  | 85 => 0xA8309A0A#32
  | 86 => 0x2853EC0C#32
  | 87 => 0x288460F9#32
  | 88 => 0x288D4808#32
  | 89 => 0xA68D5EDE#32
  | 90 => 0x270D5EDE#32
  | 91 => 0xA7540E4D#32
  | 92 => 0x278D5EDE#32
  | 93 => 0x2969E92D#32
  | 94 => 0x2753B2F4#32
  | 95 => 0xA7D3B2F4#32
  | 96 => 0x2896071F#32
  | 97 => 0x27F72182#32
  | 98 => 0xA8772182#32
  | 99 => 0x28B95921#32
  | 100 => 0xA8F72182#32
  | 101 => 0x292C1DF2#32
  | 102 => 0xA71EEE2E#32
  | 103 => 0x279EEE2E#32
  | 104 => 0x260CD5D9#32
  | 105 => 0x281EEE2E#32
  | 106 => 0xA78D5373#32
  | 107 => 0xA68CD5D9#32
  | 108 => 0x27D3BE5F#32
  | 109 => 0x289EEE2E#32
  | 110 => 0xA86597E7#32
  | 111 => 0x280D5373#32
  | 112 => 0x27538548#32
  | 113 => 0xA81EE2C3#32
  | 114 => 0xA89EE2C3#32
  | 115 => 0x270D5EDE#32
  | 116 => 0xA91EE2C3#32
  | 117 => 0xA88D36E7#32
  | 118 => 0x278D5EDE#32
  | 119 => 0xA9160CD5#32
  | 120 => 0xA99EE2C3#32
  | 121 => 0x28DCA56E#32
  | 122 => 0x289EDFE8#32
  | 123 => 0xA91EDFE8#32
  | 124 => 0xA80D4252#32
  | 125 => 0x288D4252#32
  | 126 => 0xA8D3E37B#32
  | 127 => 0x290D4252#32
  | _ => 0#32

noncomputable abbrev lit5t0_5 (i : Nat) : BitVec 32 := match i % 128 with
  | 0 => 0xA8424B9B#32
  | 1 => 0x287FFA4A#32
  | 2 => 0xA8FFFA4A#32
  | 3 => 0x28FFF770#32
  | 4 => 0xA97FFA4A#32
  | 5 => 0x28421DEF#32
  | 6 => 0x2842295A#32
  | 7 => 0xA8C2295A#32
  | 8 => 0x2911A1DE#32
  | 9 => 0x25D3C9CA#32
  | 10 => 0xA653C9CA#32
  | 11 => 0x269ED758#32
  | 12 => 0xA6D3C9CA#32
  | 13 => 0x27C22F0F#32
  | 14 => 0xA71ED758#32
  | 15 => 0xA68D5EDE#32
  | 16 => 0xA753C9CA#32
  | 17 => 0x27F72182#32
  | 18 => 0xA8422F0F#32
  | 19 => 0x288466AF#32
  | 20 => 0xA79ED758#32
  | 21 => 0x28CB04FD#32
  | 22 => 0x270D5EDE#32
  | 23 => 0x2908D1A6#32
  | 24 => 0xA7D3C9CA#32
  | 25 => 0x28308334#32
  | 26 => 0xA8772182#32
  | 27 => 0x289EDFE8#32
  | 28 => 0xA8C22F0F#32
  | 29 => 0x28E57E36#32
  | 30 => 0xA90466AF#32
  | 31 => 0x29160E42#32
  | 32 => 0xA81ED758#32
  | 33 => 0x29395D6A#32
  | 34 => 0xA94B04FD#32
  | 35 => 0x28B95921#32
  | 36 => 0x278D5EDE#32
  | 37 => 0x28FFF770#32
  | 38 => 0xA988D1A6#32
  | 39 => 0x29234ADF#32
  | 40 => 0xA853C9CA#32
  | 41 => 0x29469A06#32
  | 42 => 0xA8B08334#32
  | 43 => 0x2969E92D#32
  | 44 => 0xA8F72182#32
  | 45 => 0x27538548#32
  | 46 => 0xA91EDFE8#32
  | 47 => 0x299843BE#32
  | 48 => 0xA9422F0F#32
  | 49 => 0xA7543BF9#32
  | 50 => 0x278D25C7#32
  | 51 => 0xA80D25C7#32
  | 52 => 0x29A9EB51#32
  | 53 => 0x280463D4#32
  | 54 => 0xA88463D4#32
  | 55 => 0x29234ADF#32
  | 56 => 0xA90463D4#32
  | 57 => 0x272C1F5F#32
  | 58 => 0xA7AC1F5F#32
  | 59 => 0x27C22F0F#32
  | 60 => 0xA82C1F5F#32
  | 61 => 0x28772737#32
  | 62 => 0xA8422F0F#32
  | 63 => 0x280D36E7#32
  | 64 => 0xA8AC1F5F#32
  | 65 => 0x2908D1A6#32
  | 66 => 0xA8F72737#32
  | 67 => 0x28DCAB23#32
  | 68 => 0xA8C22F0F#32
  | 69 => 0x28A7B2FB#32
  | 70 => 0xA88D36E7#32
  | 71 => 0x29395D6A#32
  | 72 => 0xA92C1F5F#32
  | 73 => 0x27F70AAC#32
  | 74 => 0xA988D1A6#32
  | 75 => 0x268CA82D#32
  | 76 => 0xA9772737#32
  | 77 => 0x2969E92D#32
  | 78 => 0xA95CAB23#32
  | 79 => 0x294F6D19#32
  | 80 => 0xA9422F0F#32
  | 81 => 0x2934F105#32
  | 82 => 0xA7540E4D#32
  | 83 => 0x27D40E4D#32
  | 84 => 0x298B05B4#32
  | 85 => 0xA70D3132#32
  | 86 => 0xA78D3132#32
  | 87 => 0xA7D3C9CA#32
  | 88 => 0xA80D3132#32
  | 89 => 0xA92C1F5F#32
  | 90 => 0xA853C9CA#32
  | 91 => 0xA99EE2C3#32
  | 92 => 0xA88D3132#32
  | 93 => 0x28EE4B94#32
  | 94 => 0x27B95BFC#32
  | 95 => 0xA8395BFC#32
  | 96 => 0x28CB04FD#32
  | 97 => 0xA8B95BFC#32
  | 98 => 0x28A7B2FB#32
  | 99 => 0xA94B04FD#32
  | 100 => 0x288460F9#32
  | 101 => 0xA9395BFC#32
  | 102 => 0x299843BE#32
  | 103 => 0xA927B2FB#32
  | 104 => 0x2958402C#32
  | 105 => 0x260CD5D9#32
  | 106 => 0xA68CD5D9#32
  | 107 => 0xA86597E7#32
  | 108 => 0xA70CD5D9#32
  | 109 => 0x28656A3B#32
  | 110 => 0x2934F3E0#32
  | 111 => 0xA9B4F3E0#32
  | 112 => 0x27F72182#32
  | 113 => 0xA8772182#32
  | 114 => 0x28B95921#32
  | 115 => 0xA8F72182#32
  | 116 => 0x291A74F1#32
  | 117 => 0xA6D3F777#32
  | 118 => 0x2753F777#32
  | 119 => 0x28308334#32
  | 120 => 0x27D3F777#32
  | 121 => 0xA9611EAB#32
  | 122 => 0xA8B08334#32
  | 123 => 0xA8DCBC44#32
  | 124 => 0x2853F777#32
  | 125 => 0xA68E158F#32
  | 126 => 0x29160E42#32
  | 127 => 0xA9960E42#32
  | _ => 0#32

noncomputable abbrev lit5t0_6 (i : Nat) : BitVec 32 := match i % 128 with
  | 0 => 0x28B9536C#32
  | 1 => 0x279EE2C3#32
  | 2 => 0xA81EE2C3#32
  | 3 => 0xA68D5EDE#32
  | 4 => 0xA89EE2C3#32
  | 5 => 0x280D36E7#32
  | 6 => 0x270D5EDE#32
  | 7 => 0x28960CD5#32
  | 8 => 0xA91EE2C3#32
  | 9 => 0xA7540E4D#32
  | 10 => 0xA88D36E7#32
  | 11 => 0x291A77CC#32
  | 12 => 0x278D5EDE#32
  | 13 => 0x288460F9#32
  | 14 => 0xA9160CD5#32
  | 15 => 0x2969E92D#32
  | 16 => 0xA99EE2C3#32
  | 17 => 0x2911A1DE#32
  | 18 => 0x27D40E4D#32
  | 19 => 0x28656A3B#32
  | 20 => 0xA90D36E7#32
  | 21 => 0x293DC418#32
  | 22 => 0x28EE514A#32
  | 23 => 0xA96E514A#32
  | 24 => 0x27F6F3D6#32
  | 25 => 0xA71ED758#32
  | 26 => 0xA79ED758#32
  | 27 => 0x28846F3F#32
  | 28 => 0xA81ED758#32
  | 29 => 0xA78D1A5B#32
  | 30 => 0x29046F3F#32
  | 31 => 0x27D40E4D#32
  | 32 => 0xA89ED758#32
  | 33 => 0x287FFA4A#32
  | 34 => 0xA8FFFA4A#32
  | 35 => 0x28FFF770#32
  | 36 => 0xA97FFA4A#32
  | 37 => 0x29BFFC6F#32
  | 38 => 0x28B0860E#32
  | 39 => 0xA930860E#32
  | 40 => 0xA7F76604#32
  | 41 => 0x268D0385#32
  | 42 => 0xA70D0385#32
  | 43 => 0x27538548#32
  | 44 => 0xA78D0385#32
  | 45 => 0x29A116D1#32
  | 46 => 0x25D3C9CA#32
  | 47 => 0xA653C9CA#32
  | 48 => 0x269ED758#32
  | 49 => 0xA6D3C9CA#32
  | 50 => 0x27C22F0F#32
  | 51 => 0xA71ED758#32
  | 52 => 0xA68D5EDE#32
  | 53 => 0xA753C9CA#32
  | 54 => 0xA8046F3F#32
  | 55 => 0xA8422F0F#32
  | 56 => 0x288466AF#32
  | 57 => 0xA79ED758#32
  | 58 => 0xA7D3EC0C#32
  | 59 => 0x270D5EDE#32
  | 60 => 0x2908D1A6#32
  | 61 => 0xA7D3C9CA#32
  | 62 => 0x28308334#32
  | 63 => 0x28846F3F#32
  | 64 => 0x289EDFE8#32
  | 65 => 0xA8C22F0F#32
  | 66 => 0xA7540E4D#32
  | 67 => 0xA90466AF#32
  | 68 => 0x29160E42#32
  | 69 => 0xA81ED758#32
  | 70 => 0x286575A6#32
  | 71 => 0x2853EC0C#32
  | 72 => 0x28B95921#32
  | 73 => 0x278D5EDE#32
  | 74 => 0x28FFF770#32
  | 75 => 0xA988D1A6#32
  | 76 => 0x29234ADF#32
  | 77 => 0xA853C9CA#32
  | 78 => 0xA86597E7#32
  | 79 => 0xA8B08334#32
  | 80 => 0x2969E92D#32
  | 81 => 0x29046F3F#32
  | 82 => 0x27538548#32
  | 83 => 0xA91EDFE8#32
  | 84 => 0x28421DEF#32
  | 85 => 0xA9422F0F#32
  | 86 => 0x29A9EB51#32
  | 87 => 0x27D40E4D#32
  | 88 => 0x28EE4B94#32
  | 89 => 0xA98466AF#32
  | 90 => 0x291A74F1#32
  | 91 => 0xA9960E42#32
  | 92 => 0xA88477CF#32
  | 93 => 0xA89ED758#32
  | 94 => 0x2961133F#32
  | 95 => 0xA8E575A6#32
  | 96 => 0x29234804#32
  | 97 => 0x27D3D535#32
  | 98 => 0xA853D535#32
  | 99 => 0x289EDFE8#32
  | 100 => 0xA8D3D535#32
  | 101 => 0x268CA82D#32
  | 102 => 0xA91EDFE8#32
  | 103 => 0x28656A3B#32
  | 104 => 0xA953D535#32
  | 105 => 0x29823133#32
  | 106 => 0x27D3BE5F#32
  | 107 => 0xA853BE5F#32
  | 108 => 0x280463D4#32
  | 109 => 0xA88463D4#32
  | 110 => 0x29234ADF#32
  | 111 => 0xA90463D4#32
  | 112 => 0x28CAF992#32
  | 113 => 0x28CB04FD#32
  | 114 => 0xA94B04FD#32
  | 115 => 0x28421DEF#32
  | 116 => 0xA9CB04FD#32
  | 117 => 0x2946972B#32
  | 118 => 0xA68DBA36#32
  | 119 => 0x270DBA36#32
  | 120 => 0x281EC637#32
  | 121 => 0xA60D3132#32
  | 122 => 0xA68D3132#32
  | 123 => 0xA6D3C9CA#32
  | 124 => 0xA70D3132#32
  | 125 => 0xA82C1F5F#32
  | 126 => 0xA753C9CA#32
  | 127 => 0xA89EE2C3#32
  | _ => 0#32

noncomputable abbrev lit5t0_7 (i : Nat) : BitVec 32 := match i % 128 with
  | 0 => 0xA78D3132#32
  | 1 => 0xA79ED758#32
  | 2 => 0xA8AC1F5F#32
  | 3 => 0x281EEE2E#32
  | 4 => 0xA7D3C9CA#32
  | 5 => 0xA8B95BFC#32
  | 6 => 0xA91EE2C3#32
  | 7 => 0xA8C22F0F#32
  | 8 => 0xA80D3132#32
  | 9 => 0xA8CB0222#32
  | 10 => 0xA81ED758#32
  | 11 => 0x27B0AB2A#32
  | 12 => 0xA92C1F5F#32
  | 13 => 0x278D5EDE#32
  | 14 => 0x289EEE2E#32
  | 15 => 0xA8E57B5C#32
  | 16 => 0xA853C9CA#32
  | 17 => 0x270D8C8A#32
  | 18 => 0xA9395BFC#32
  | 19 => 0x29046F3F#32
  | 20 => 0xA99EE2C3#32
  | 21 => 0xA97FFA4A#32
  | 22 => 0xA9422F0F#32
  | 23 => 0xA90463D4#32
  | 24 => 0xA88D3132#32
  | 25 => 0xA70CD5D9#32
  | 26 => 0xA94B0222#32
  | 27 => 0xA90D36E7#32
  | 28 => 0xA89ED758#32
  | 29 => 0xA78D0385#32
  | 30 => 0x2830AB2A#32
  | 31 => 0x28D3EC0C#32
  | 32 => 0xA9AC1F5F#32
  | 33 => 0x2908CBF0#32
  | 34 => 0x28B95921#32
  | 35 => 0xA9395921#32
  | 36 => 0x2969E653#32
  | 37 => 0x288D39C2#32
  | 38 => 0xA90D39C2#32
  | 39 => 0x29A9EB51#32
  | 40 => 0xA98D39C2#32
  | 41 => 0x288466AF#32
  | 42 => 0xA90466AF#32
  | 43 => 0x29469A06#32
  | 44 => 0xA98466AF#32
  | 45 => 0x29A5805A#32
  | 46 => 0xA884721A#32
  | 47 => 0x2904721A#32
  | 48 => 0xA8A7C9D1#32
  | 49 => 0xA68D5EDE#32
  | 50 => 0x270D5EDE#32
  | 51 => 0xA7540E4D#32
  | 52 => 0x278D5EDE#32
  | 53 => 0x2969E92D#32
  | 54 => 0x27D40E4D#32
  | 55 => 0xA7F76604#32
  | 56 => 0x280D5EDE#32
  | 57 => 0x2753579C#32
  | 58 => 0x27CB0222#32
  | 59 => 0xA84B0222#32
  | 60 => 0x28308334#32
  | 61 => 0xA8CB0222#32
  | 62 => 0x27F70AAC#32
  | 63 => 0xA8B08334#32
  | 64 => 0xA8DCBC44#32
  | 65 => 0xA94B0222#32
  | 66 => 0x29823133#32
  | 67 => 0xA8770AAC#32
  | 68 => 0x28DC9FB8#32
  | 69 => 0x281EDD0D#32
  | 70 => 0xA89EDD0D#32
  | 71 => 0x28EE4B94#32
  | 72 => 0xA91EDD0D#32
  | 73 => 0x294F6A3F#32
  | 74 => 0x28FFF770#32
  | 75 => 0xA97FF770#32
  | 76 => 0x279EE2C3#32
  | 77 => 0xA81EE2C3#32
  | 78 => 0x286E5424#32
  | 79 => 0xA89EE2C3#32
  | 80 => 0x280D36E7#32
  | 81 => 0xA8EE5424#32
  | 82 => 0x28960CD5#32
  | 83 => 0xA91EE2C3#32
  | 84 => 0x28E57E36#32
  | 85 => 0xA88D36E7#32
  | 86 => 0x291A77CC#32
  | 87 => 0xA96E5424#32
  | 88 => 0x288460F9#32
  | 89 => 0xA9160CD5#32
  | 90 => 0x2969E92D#32
  | 91 => 0xA99EE2C3#32
  | 92 => 0x2911A1DE#32
  | 93 => 0xA9657E36#32
  | 94 => 0x28656A3B#32
  | 95 => 0xA90D36E7#32
  | 96 => 0x2961133F#32
  | 97 => 0xA99A77CC#32
  | 98 => 0x29C465F8#32
  | 99 => 0xA9EE5424#32
  | 100 => 0x29984250#32
  | 101 => 0xA83088E9#32
  | 102 => 0xA8B088E9#32
  | 103 => 0xA90466AF#32
  | 104 => 0xA93088E9#32
  | 105 => 0xA95CAB23#32
  | 106 => 0xA98466AF#32
  | 107 => 0xA99A77CC#32
  | 108 => 0xA9B088E9#32
  | 109 => 0xA8DCC1F9#32
  | 110 => 0xA7F74F2E#32
  | 111 => 0x28774F2E#32
  | 112 => 0xA75469A5#32
  | 113 => 0x269ED758#32
  | 114 => 0xA71ED758#32
  | 115 => 0xA8046F3F#32
  | 116 => 0xA79ED758#32
  | 117 => 0x270D1A5B#32
  | 118 => 0x28846F3F#32
  | 119 => 0xA7540E4D#32
  | 120 => 0xA81ED758#32
  | 121 => 0xA80D4DBD#32
  | 122 => 0xA78D1A5B#32
  | 123 => 0xA86597E7#32
  | 124 => 0x29046F3F#32
  | 125 => 0x28421DEF#32
  | 126 => 0x27D40E4D#32
  | 127 => 0x291A74F1#32
  | _ => 0#32

noncomputable abbrev lit5t0_8 (i : Nat) : BitVec 32 := match i % 128 with
  | 0 => 0xA89ED758#32
  | 1 => 0x29823133#32
  | 2 => 0x288D4DBD#32
  | 3 => 0x28DC9FB8#32
  | 4 => 0xA80D1A5B#32
  | 5 => 0x28A7A790#32
  | 6 => 0x288460F9#32
  | 7 => 0xA90460F9#32
  | 8 => 0x2934EE2A#32
  | 9 => 0x27E57B5C#32
  | 10 => 0xA8657B5C#32
  | 11 => 0x29160E42#32
  | 12 => 0xA8E57B5C#32
  | 13 => 0xA8424B9B#32
  | 14 => 0xA9960E42#32
  | 15 => 0x2908CBF0#32
  | 16 => 0xA9657B5C#32
  | 17 => 0x268D0385#32
  | 18 => 0xA70D0385#32
  | 19 => 0x27538548#32
  | 20 => 0xA78D0385#32
  | 21 => 0x298B0446#32
  | 22 => 0x29234ADF#32
  | 23 => 0xA9A34ADF#32
  | 24 => 0xA908DD11#32
  | 25 => 0xA7B09FBF#32
  | 26 => 0x28309FBF#32
  | 27 => 0xA88477CF#32
  | 28 => 0x28B09FBF#32
  | 29 => 0xA81F0ABA#32
  | 30 => 0xA6B0AB2A#32
  | 31 => 0x2730AB2A#32
  | 32 => 0x289EDFE8#32
  | 33 => 0x27B0AB2A#32
  | 34 => 0x268CA82D#32
  | 35 => 0xA91EDFE8#32
  | 36 => 0x28656A3B#32
  | 37 => 0x2830AB2A#32
  | 38 => 0x28DC9FB8#32
  | 39 => 0xA70CA82D#32
  | 40 => 0x28655ED0#32
  | 41 => 0xA753C9CA#32
  | 42 => 0xA7D3C9CA#32
  | 43 => 0xA81ED758#32
  | 44 => 0xA853C9CA#32
  | 45 => 0xA9422F0F#32
  | 46 => 0xA89ED758#32
  | 47 => 0x280D5EDE#32
  | 48 => 0xA8D3C9CA#32
  | 49 => 0x291A7216#32
  | 50 => 0x28CAFF48#32
  | 51 => 0xA94AFF48#32
  | 52 => 0x28CB04FD#32
  | 53 => 0xA94B04FD#32
  | 54 => 0x299843BE#32
  | 55 => 0xA9CB04FD#32
  | 56 => 0x297B8C79#32
  | 57 => 0x28960CD5#32
  | 58 => 0xA9160CD5#32
  | 59 => 0x2961133F#32
  | 60 => 0xA9960CD5#32
  | 61 => 0x29AE536E#32
  | 62 => 0xA86597E7#32
  | 63 => 0x28E597E7#32
  | 64 => 0xA8847D85#32
  | 65 => 0xA58D3132#32
  | 66 => 0x25D3C9CA#32
  | 67 => 0xA60D3132#32
  | 68 => 0xA6A7C141#32
  | 69 => 0xA653C9CA#32
  | 70 => 0xA7423A7A#32
  | 71 => 0xA68D3132#32
  | 72 => 0x269ED758#32
  | 73 => 0x2727C141#32
  | 74 => 0xA71EEE2E#32
  | 75 => 0xA6D3C9CA#32
  | 76 => 0xA70D4808#32
  | 77 => 0x27C23A7A#32
  | 78 => 0x27C22F0F#32
  | 79 => 0xA70D3132#32
  | 80 => 0xA6D3F777#32
  | 81 => 0xA71ED758#32
  | 82 => 0xA6B0AB2A#32
  | 83 => 0x27A7C141#32
  | 84 => 0xA68D5EDE#32
  | 85 => 0x279EEE2E#32
  | 86 => 0xA80D4252#32
  | 87 => 0xA753C9CA#32
  | 88 => 0xA60D8C8A#32
  | 89 => 0x278D4808#32
  | 90 => 0xA8046F3F#32
  | 91 => 0x28423A7A#32
  | 92 => 0x287FFA4A#32
  | 93 => 0xA8422F0F#32
  | 94 => 0x280463D4#32
  | 95 => 0xA78D3132#32
  | 96 => 0x260CD5D9#32
  | 97 => 0x2753F777#32
  | 98 => 0xA7E59232#32
  | 99 => 0xA79ED758#32
  | 100 => 0x268D0385#32
  | 101 => 0x2730AB2A#32
  | 102 => 0xA7D3EC0C#32
  | 103 => 0x2827C141#32
  | 104 => 0xA8658C7C#32
  | 105 => 0x270D5EDE#32
  | 106 => 0x281EDD0D#32
  | 107 => 0x281EEE2E#32
  | 108 => 0x270D1A5B#32
  | 109 => 0x288D4252#32
  | 110 => 0xA7B09FBF#32
  | 111 => 0xA7D3C9CA#32
  | 112 => 0x28960CD5#32
  | 113 => 0x268D8C8A#32
  | 114 => 0x28308334#32
  | 115 => 0x280D4808#32
  | 116 => 0x2753B2F4#32
  | 117 => 0x28846F3F#32
  | 118 => 0xA78D5373#32
  | 119 => 0x28C23A7A#32
  | 120 => 0xA8424030#32
  | 121 => 0xA8FFFA4A#32
  | 122 => 0x2842295A#32
  | 123 => 0xA8C22F0F#32
  | 124 => 0x278D25C7#32
  | 125 => 0xA88463D4#32
  | 126 => 0xA7540E4D#32
  | 127 => 0xA80D3132#32
  | _ => 0#32

noncomputable abbrev lit5t0_9 (i : Nat) : BitVec 32 := match i % 128 with
  | 0 => 0xA8309A0A#32
  | 1 => 0xA68CD5D9#32
  | 2 => 0xA8961840#32
  | 3 => 0x27D3F777#32
  | 4 => 0xA8D3E37B#32
  | 5 => 0x28659232#32
  | 6 => 0x28EE514A#32
  | 7 => 0xA81ED758#32
  | 8 => 0x28B0860E#32
  | 9 => 0xA70D0385#32
  | 10 => 0x286575A6#32
  | 11 => 0x27B0AB2A#32
  | 12 => 0x27D3BE5F#32
  | 13 => 0x2853EC0C#32
  | 14 => 0xA68DBA36#32
  | 15 => 0x28A7C141#32
  | 16 => 0xA80D4DBD#32
  | 17 => 0x28E58C7C#32
  | 18 => 0xA884721A#32
  | 19 => 0x278D5EDE#32
  | 20 => 0x27F70AAC#32
  | 21 => 0xA89EDD0D#32
  | 22 => 0x28FFF770#32
  | 23 => 0x289EEE2E#32
  | 24 => 0xA7F74F2E#32
  | 25 => 0xA78D1A5B#32
  | 26 => 0x288460F9#32
  | 27 => 0x290D4252#32
  | 28 => 0xA8B96A42#32
  | 29 => 0x28309FBF#32
  | 30 => 0x268CA82D#32
  | 31 => 0xA853C9CA#32
  | 32 => 0x28CAFF48#32
  | 33 => 0xA9160CD5#32
  | 34 => 0xA86597E7#32
  | 35 => 0x270D8C8A#32
  | 36 => 0x281ED1A2#32
  | 37 => 0xA8B08334#32
  | 38 => 0xA8EE626A#32
  | 39 => 0x288D4808#32
  | 40 => 0x2969E92D#32
  | 41 => 0xA7D3B2F4#32
  | 42 => 0x2896071F#32
  | 43 => 0x29046F3F#32
  | 44 => 0x292C1DF2#32
  | 45 => 0x280D5373#32
  | 46 => 0x27538548#32
  | 47 => 0x29423A7A#32
  | 48 => 0x28DCA56E#32
  | 49 => 0x28C24030#32
  | 50 => 0xA8424B9B#32
  | 51 => 0xA97FFA4A#32
  | 52 => 0x28421DEF#32
  | 53 => 0xA8C2295A#32
  | 54 => 0xA8DCBC44#32
  | 55 => 0xA9422F0F#32
  | 56 => 0xA7543BF9#32
  | 57 => 0xA80D25C7#32
  | 58 => 0xA92C295D#32
  | 59 => 0xA90463D4#32
  | 60 => 0xA8961DF6#32
  | 61 => 0x27D40E4D#32
  | 62 => 0xA969F498#32
  | 63 => 0xA88D3132#32
  | 64 => 0x28EE4B94#32
  | 65 => 0x28B09A0A#32
  | 66 => 0x2958402C#32
  | 67 => 0xA70CD5D9#32
  | 68 => 0x28656A3B#32
  | 69 => 0x29161840#32
  | 70 => 0x291A74F1#32
  | 71 => 0x2853F777#32
  | 72 => 0xA68E158F#32
  | 73 => 0x2953E37B#32
  | 74 => 0x28B9536C#32
  | 75 => 0x28E59232#32
  | 76 => 0xA88477CF#32
  | 77 => 0xA96E514A#32
  | 78 => 0x27F6F3D6#32
  | 79 => 0xA89ED758#32
  | 80 => 0xA9000723#32
  | 81 => 0xA930860E#32
  | 82 => 0xA7F76604#32
  | 83 => 0xA78D0385#32
  | 84 => 0xA93DD25E#32
  | 85 => 0xA8E575A6#32
  | 86 => 0xA8B96FF7#32
  | 87 => 0x2830AB2A#32
  | 88 => 0xA97B9D99#32
  | 89 => 0xA853BE5F#32
  | 90 => 0x28CAF992#32
  | 91 => 0x28D3EC0C#32
  | 92 => 0x2946972B#32
  | 93 => 0x270DBA36#32
  | 94 => 0x281EC637#32
  | 95 => 0x2927C141#32
  | 96 => 0x2908CBF0#32
  | 97 => 0x288D4DBD#32
  | 98 => 0x2969E653#32
  | 99 => 0x29658C7C#32
  | 100 => 0xA934FF4B#32
  | 101 => 0x2904721A#32
  | 102 => 0xA8A7C9D1#32
  | 103 => 0x280D5EDE#32
  | 104 => 0x2753579C#32
  | 105 => 0xA8770AAC#32
  | 106 => 0x28DC9FB8#32
  | 107 => 0xA91EDD0D#32
  | 108 => 0xA9984AE1#32
  | 109 => 0xA97FF770#32
  | 110 => 0xA94F7B5F#32
  | 111 => 0x291EEE2E#32
  | 112 => 0xA8DCC1F9#32
  | 113 => 0x28774F2E#32
  | 114 => 0xA75469A5#32
  | 115 => 0xA80D1A5B#32
  | 116 => 0x28A7A790#32
  | 117 => 0xA90460F9#32
  | 118 => 0x2934EE2A#32
  | 119 => 0x298D4252#32
  | 120 => 0x298B0446#32
  | 121 => 0x29396A42#32
  | 122 => 0xA908DD11#32
  | 123 => 0x28B09FBF#32
  | 124 => 0xA81F0ABA#32
  | 125 => 0xA70CA82D#32
  | 126 => 0x28655ED0#32
  | 127 => 0xA8D3C9CA#32
  | _ => 0#32

noncomputable abbrev lit5t0_10 (i : Nat) : BitVec 32 := match i % 128 with
  | 0 => 0x291A7216#32
  | 1 => 0xA94AFF48#32
  | 2 => 0xA98239C4#32
  | 3 => 0xA9960CD5#32
  | 4 => 0xA9235925#32
  | 5 => 0x28E597E7#32
  | 6 => 0xA8847D85#32
  | 7 => 0x278D8C8A#32
  | 8 => 0x27F6DD00#32
  | 9 => 0x281ED1A2#32
  | 10 => 0xA89ED1A2#32
  | 11 => 0x28FFEC05#32
  | 12 => 0x28308334#32
  | 13 => 0xA8B08334#32
  | 14 => 0x29823133#32
  | 15 => 0xA9308334#32
  | 16 => 0x288D39C2#32
  | 17 => 0xA90D39C2#32
  | 18 => 0x29A9EB51#32
  | 19 => 0xA98D39C2#32
  | 20 => 0x29611065#32
  | 21 => 0x2908CECB#32
  | 22 => 0xA988CECB#32
  | 23 => 0x29A11564#32
  | 24 => 0x278D4808#32
  | 25 => 0x280D4808#32
  | 26 => 0x2853EC0C#32
  | 27 => 0x288D4808#32
  | 28 => 0x28B09A0A#32
  | 29 => 0x28D3EC0C#32
  | 30 => 0xA90460F9#32
  | 31 => 0x290D4808#32
  | 32 => 0xA8B975AD#32
  | 33 => 0xA68D5EDE#32
  | 34 => 0x270D5EDE#32
  | 35 => 0xA7540E4D#32
  | 36 => 0x278D5EDE#32
  | 37 => 0x2969E92D#32
  | 38 => 0x27D40E4D#32
  | 39 => 0xA7F76604#32
  | 40 => 0x280D5EDE#32
  | 41 => 0xA81F0ABA#32
  | 42 => 0xA9E9E92D#32
  | 43 => 0xA9FDD03A#32
  | 44 => 0x2753B2F4#32
  | 45 => 0xA7D3B2F4#32
  | 46 => 0x281EC637#32
  | 47 => 0xA853B2F4#32
  | 48 => 0x28CAF3DD#32
  | 49 => 0x2896071F#32
  | 50 => 0xA916071F#32
  | 51 => 0x281EDD0D#32
  | 52 => 0xA89EDD0D#32
  | 53 => 0x28EE4B94#32
  | 54 => 0xA91EDD0D#32
  | 55 => 0x29469451#32
  | 56 => 0x27F72182#32
  | 57 => 0xA8772182#32
  | 58 => 0x28B95921#32
  | 59 => 0xA8F72182#32
  | 60 => 0x291A74F1#32
  | 61 => 0xA9395921#32
  | 62 => 0x29EC1EA9#32
  | 63 => 0xA9772182#32
  | 64 => 0xA958514D#32
  | 65 => 0x292C1DF2#32
  | 66 => 0xA9AC1DF2#32
  | 67 => 0xA8EE6DD5#32
  | 68 => 0xA71EEE2E#32
  | 69 => 0x279EEE2E#32
  | 70 => 0x260CD5D9#32
  | 71 => 0x281EEE2E#32
  | 72 => 0xA78D5373#32
  | 73 => 0xA68CD5D9#32
  | 74 => 0x27D3BE5F#32
  | 75 => 0x289EEE2E#32
  | 76 => 0xA86597E7#32
  | 77 => 0x280D5373#32
  | 78 => 0xA7543BF9#32
  | 79 => 0xA70CD5D9#32
  | 80 => 0x27F6F3D6#32
  | 81 => 0xA853BE5F#32
  | 82 => 0xA934FF4B#32
  | 83 => 0x291EEE2E#32
  | 84 => 0xA908DD11#32
  | 85 => 0x28E597E7#32
  | 86 => 0xA8B975AD#32
  | 87 => 0x288D5373#32
  | 88 => 0xA7B0E441#32
  | 89 => 0x27538548#32
  | 90 => 0xA7D38548#32
  | 91 => 0x2895FBB4#32
  | 92 => 0xA89EE2C3#32
  | 93 => 0xA91EE2C3#32
  | 94 => 0x278D5EDE#32
  | 95 => 0xA99EE2C3#32
  | 96 => 0xA90D36E7#32
  | 97 => 0x280D5EDE#32
  | 98 => 0xA9960CD5#32
  | 99 => 0xAA1EE2C3#32
  | 100 => 0x269ED758#32
  | 101 => 0xA71ED758#32
  | 102 => 0xA8046F3F#32
  | 103 => 0xA79ED758#32
  | 104 => 0x2908D1A6#32
  | 105 => 0x28846F3F#32
  | 106 => 0xA7540E4D#32
  | 107 => 0xA81ED758#32
  | 108 => 0x28B95921#32
  | 109 => 0xA988D1A6#32
  | 110 => 0xA86597E7#32
  | 111 => 0x29046F3F#32
  | 112 => 0x28421DEF#32
  | 113 => 0x27D40E4D#32
  | 114 => 0x291A74F1#32
  | 115 => 0xA89ED758#32
  | 116 => 0x29823133#32
  | 117 => 0xA9395921#32
  | 118 => 0x28DC9FB8#32
  | 119 => 0xAA08D1A6#32
  | 120 => 0xA81F0ABA#32
  | 121 => 0x28E597E7#32
  | 122 => 0x29A11564#32
  | 123 => 0x29846F3F#32
  | 124 => 0xA9A9F3E2#32
  | 125 => 0x28DCA56E#32
  | 126 => 0xA95CA56E#32
  | 127 => 0x2986994F#32
  | _ => 0#32

noncomputable abbrev lit5t0_11 (i : Nat) : BitVec 32 := match i % 128 with
  | 0 => 0x289EDFE8#32
  | 1 => 0xA91EDFE8#32
  | 2 => 0x28DC9FB8#32
  | 3 => 0xA99EDFE8#32
  | 4 => 0x29B72681#32
  | 5 => 0xA80D4252#32
  | 6 => 0x288D4252#32
  | 7 => 0xA8D3E37B#32
  | 8 => 0x290D4252#32
  | 9 => 0xA8424B9B#32
  | 10 => 0x2953E37B#32
  | 11 => 0x2908CBF0#32
  | 12 => 0x298D4252#32
  | 13 => 0xA93DD539#32
  | 14 => 0x28C24B9B#32
  | 15 => 0xA8426271#32
  | 16 => 0x287FFA4A#32
  | 17 => 0xA8FFFA4A#32
  | 18 => 0x28FFF770#32
  | 19 => 0xA97FFA4A#32
  | 20 => 0xA9000723#32
  | 21 => 0xA97FF770#32
  | 22 => 0xA9C004FF#32
  | 23 => 0xA9FFFA4A#32
  | 24 => 0xA9E7BF1D#32
  | 25 => 0x28421DEF#32
  | 26 => 0xA8C21DEF#32
  | 27 => 0x28D3D810#32
  | 28 => 0xA953D810#32
  | 29 => 0xA88477CF#32
  | 30 => 0xA9D3D810#32
  | 31 => 0x29119C29#32
  | 32 => 0x2842295A#32
  | 33 => 0xA8C2295A#32
  | 34 => 0x29C8CF82#32
  | 35 => 0xA942295A#32
  | 36 => 0x2972B68B#32
  | 37 => 0x2911A1DE#32
  | 38 => 0xA991A1DE#32
  | 39 => 0xA92C2F13#32
  | 40 => 0xA653C9CA#32
  | 41 => 0xA6D3C9CA#32
  | 42 => 0xA71ED758#32
  | 43 => 0xA753C9CA#32
  | 44 => 0xA8422F0F#32
  | 45 => 0xA79ED758#32
  | 46 => 0x270D5EDE#32
  | 47 => 0xA7D3C9CA#32
  | 48 => 0xA8772182#32
  | 49 => 0xA8C22F0F#32
  | 50 => 0xA90466AF#32
  | 51 => 0xA81ED758#32
  | 52 => 0xA94B04FD#32
  | 53 => 0x278D5EDE#32
  | 54 => 0xA988D1A6#32
  | 55 => 0xA853C9CA#32
  | 56 => 0xA8B08334#32
  | 57 => 0xA8F72182#32
  | 58 => 0xA91EDFE8#32
  | 59 => 0xA9422F0F#32
  | 60 => 0xA9657E36#32
  | 61 => 0xA98466AF#32
  | 62 => 0xA9960E42#32
  | 63 => 0xA89ED758#32
  | 64 => 0xA9B95D6A#32
  | 65 => 0xA9CB04FD#32
  | 66 => 0xA9395921#32
  | 67 => 0x280D5EDE#32
  | 68 => 0xA97FF770#32
  | 69 => 0xAA08D1A6#32
  | 70 => 0xA9A34ADF#32
  | 71 => 0xA8D3C9CA#32
  | 72 => 0xA9C69A06#32
  | 73 => 0xA9308334#32
  | 74 => 0xA9E9E92D#32
  | 75 => 0xA9772182#32
  | 76 => 0xA7D38548#32
  | 77 => 0xA99EDFE8#32
  | 78 => 0xAA1843BE#32
  | 79 => 0xA9C22F0F#32
  | 80 => 0xA8962961#32
  | 81 => 0xA7543BF9#32
  | 82 => 0x27D43BF9#32
  | 83 => 0x27B02D91#32
  | 84 => 0x278D25C7#32
  | 85 => 0xA80D25C7#32
  | 86 => 0x2934EE2A#32
  | 87 => 0xA88D25C7#32
  | 88 => 0x28960CD5#32
  | 89 => 0xA9160CD5#32
  | 90 => 0xA7F76604#32
  | 91 => 0xA9960CD5#32
  | 92 => 0x28EE4029#32
  | 93 => 0x29A9EB51#32
  | 94 => 0xAA29EB51#32
  | 95 => 0xA993E2C5#32
  | 96 => 0x280463D4#32
  | 97 => 0xA88463D4#32
  | 98 => 0x29234ADF#32
  | 99 => 0xA90463D4#32
  | 100 => 0x28CAF992#32
  | 101 => 0xA9A34ADF#32
  | 102 => 0xA958514D#32
  | 103 => 0xA98463D4#32
  | 104 => 0x299CAA6D#32
  | 105 => 0x272C1F5F#32
  | 106 => 0xA7AC1F5F#32
  | 107 => 0x27C22F0F#32
  | 108 => 0xA82C1F5F#32
  | 109 => 0x28772737#32
  | 110 => 0xA8422F0F#32
  | 111 => 0x280D36E7#32
  | 112 => 0xA8AC1F5F#32
  | 113 => 0x2908D1A6#32
  | 114 => 0xA8F72737#32
  | 115 => 0x28DCAB23#32
  | 116 => 0xA8C22F0F#32
  | 117 => 0x28A7B2FB#32
  | 118 => 0xA88D36E7#32
  | 119 => 0x29395D6A#32
  | 120 => 0xA92C1F5F#32
  | 121 => 0x27F70AAC#32
  | 122 => 0xA988D1A6#32
  | 123 => 0x268CA82D#32
  | 124 => 0xA9772737#32
  | 125 => 0x2969E92D#32
  | 126 => 0xA95CAB23#32
  | 127 => 0x294F6D19#32
  | _ => 0#32

noncomputable abbrev lit5t0_12 (i : Nat) : BitVec 32 := match i % 128 with
  | 0 => 0xA9422F0F#32
  | 1 => 0x2934F105#32
  | 2 => 0xA927B2FB#32
  | 3 => 0x291A74F1#32
  | 4 => 0xA90D36E7#32
  | 5 => 0x29BFFC6F#32
  | 6 => 0xA9B95D6A#32
  | 7 => 0x28CAF992#32
  | 8 => 0xA9AC1F5F#32
  | 9 => 0x29A5805A#32
  | 10 => 0xA8770AAC#32
  | 11 => 0x29984250#32
  | 12 => 0xAA08D1A6#32
  | 13 => 0x298B0446#32
  | 14 => 0xA70CA82D#32
  | 15 => 0x297B8C79#32
  | 16 => 0xA9F72737#32
  | 17 => 0x29611065#32
  | 18 => 0xA9E9E92D#32
  | 19 => 0x29469451#32
  | 20 => 0xA9DCAB23#32
  | 21 => 0x2A2B060F#32
  | 22 => 0xA9CF6D19#32
  | 23 => 0x29119C29#32
  | 24 => 0xA9C22F0F#32
  | 25 => 0x28EE4029#32
  | 26 => 0xA9B4F105#32
  | 27 => 0xA8CB2189#32
  | 28 => 0xA7540E4D#32
  | 29 => 0x27D40E4D#32
  | 30 => 0xA81F0ABA#32
  | 31 => 0x28540E4D#32
  | 32 => 0xA68ECC40#32
  | 33 => 0x298B05B4#32
  | 34 => 0xAA0B05B4#32
  | 35 => 0x28308334#32
  | 36 => 0xA8B08334#32
  | 37 => 0x29823133#32
  | 38 => 0xA9308334#32
  | 39 => 0xA9D1AE00#32
  | 40 => 0xA78D3132#32
  | 41 => 0xA80D3132#32
  | 42 => 0xA853C9CA#32
  | 43 => 0xA88D3132#32
  | 44 => 0xA9AC1F5F#32
  | 45 => 0xA8D3C9CA#32
  | 46 => 0xAA1EE2C3#32
  | 47 => 0xA90D3132#32
  | 48 => 0x293DBE63#32
  | 49 => 0x28EE4B94#32
  | 50 => 0xA96E4B94#32
  | 51 => 0x298F6C63#32
  | 52 => 0x27B95BFC#32
  | 53 => 0xA8395BFC#32
  | 54 => 0x28CB04FD#32
  | 55 => 0xA8B95BFC#32
  | 56 => 0x28A7B2FB#32
  | 57 => 0xA94B04FD#32
  | 58 => 0x288460F9#32
  | 59 => 0xA9395BFC#32
  | 60 => 0x299843BE#32
  | 61 => 0xA927B2FB#32
  | 62 => 0x298F6F3D#32
  | 63 => 0xA9CB04FD#32
  | 64 => 0x2A034D5E#32
  | 65 => 0xA90460F9#32
  | 66 => 0x297B8C79#32
  | 67 => 0xA9B95BFC#32
  | 68 => 0x29F4F1BC#32
  | 69 => 0xAA1843BE#32
  | 70 => 0x2A360E9E#32
  | 71 => 0xA9A7B2FB#32
  | 72 => 0xA9000CD8#32
  | 73 => 0x2958402C#32
  | 74 => 0xA9D8402C#32
  | 75 => 0xA7F793B0#32
  | 76 => 0x260CD5D9#32
  | 77 => 0xA68CD5D9#32
  | 78 => 0xA86597E7#32
  | 79 => 0xA70CD5D9#32
  | 80 => 0xA934FF4B#32
  | 81 => 0x28E597E7#32
  | 82 => 0xA8426271#32
  | 83 => 0xA78CD5D9#32
  | 84 => 0x2753B2F4#32
  | 85 => 0xA7D3B2F4#32
  | 86 => 0x281EC637#32
  | 87 => 0xA853B2F4#32
  | 88 => 0x28844FD9#32
  | 89 => 0x28656A3B#32
  | 90 => 0xA8E56A3B#32
  | 91 => 0x2923424F#32
  | 92 => 0x2934F3E0#32
  | 93 => 0xA9B4F3E0#32
  | 94 => 0x27F6DD00#32
  | 95 => 0xAA34F3E0#32
  | 96 => 0xA97BA34F#32
  | 97 => 0x27F72182#32
  | 98 => 0xA8772182#32
  | 99 => 0x28B95921#32
  | 100 => 0xA8F72182#32
  | 101 => 0x291A74F1#32
  | 102 => 0xA9395921#32
  | 103 => 0x29EC1EA9#32
  | 104 => 0xA9772182#32
  | 105 => 0x27B02D91#32
  | 106 => 0xA99A74F1#32
  | 107 => 0x29B2BB8A#32
  | 108 => 0x2753F777#32
  | 109 => 0x27D3F777#32
  | 110 => 0xA8B08334#32
  | 111 => 0x2853F777#32
  | 112 => 0x29E11EAB#32
  | 113 => 0xA9308334#32
  | 114 => 0x295CBC44#32
  | 115 => 0x28D3F777#32
  | 116 => 0xA865BA28#32
  | 117 => 0xA68E158F#32
  | 118 => 0x270E158F#32
  | 119 => 0xA71EEE2E#32
  | 120 => 0x279EEE2E#32
  | 121 => 0x260CD5D9#32
  | 122 => 0x281EEE2E#32
  | 123 => 0xA78D5373#32
  | 124 => 0xA68CD5D9#32
  | 125 => 0x27D3BE5F#32
  | 126 => 0x289EEE2E#32
  | 127 => 0xA86597E7#32
  | _ => 0#32

noncomputable abbrev lit5t0_13 (i : Nat) : BitVec 32 := match i % 128 with
  | 0 => 0x280D5373#32
  | 1 => 0xA7543BF9#32
  | 2 => 0xA70CD5D9#32
  | 3 => 0x27F6F3D6#32
  | 4 => 0xA853BE5F#32
  | 5 => 0xA934FF4B#32
  | 6 => 0x291EEE2E#32
  | 7 => 0xA908DD11#32
  | 8 => 0x28E597E7#32
  | 9 => 0xA8B975AD#32
  | 10 => 0x288D5373#32
  | 11 => 0xA8426271#32
  | 12 => 0x27D43BF9#32
  | 13 => 0xA68ECC40#32
  | 14 => 0xA78CD5D9#32
  | 15 => 0x281EAF61#32
  | 16 => 0x29160E42#32
  | 17 => 0xA9960E42#32
  | 18 => 0x29A11564#32
  | 19 => 0xAA160E42#32
  | 20 => 0xA9BB9CE3#32
  | 21 => 0x28B9536C#32
  | 22 => 0xA939536C#32
  | 23 => 0x2969E09D#32
  | 24 => 0x279EE2C3#32
  | 25 => 0xA81EE2C3#32
  | 26 => 0xA68D5EDE#32
  | 27 => 0xA89EE2C3#32
  | 28 => 0x280D36E7#32
  | 29 => 0x270D5EDE#32
  | 30 => 0x28960CD5#32
  | 31 => 0xA91EE2C3#32
  | 32 => 0xA7540E4D#32
  | 33 => 0xA88D36E7#32
  | 34 => 0x291A77CC#32
  | 35 => 0x278D5EDE#32
  | 36 => 0x288460F9#32
  | 37 => 0xA9160CD5#32
  | 38 => 0x2969E92D#32
  | 39 => 0xA99EE2C3#32
  | 40 => 0x2911A1DE#32
  | 41 => 0x27D40E4D#32
  | 42 => 0x28656A3B#32
  | 43 => 0xA90D36E7#32
  | 44 => 0x2961133F#32
  | 45 => 0xA99A77CC#32
  | 46 => 0x2908CBF0#32
  | 47 => 0x280D5EDE#32
  | 48 => 0x29984250#32
  | 49 => 0xA90460F9#32
  | 50 => 0x29EC1EA9#32
  | 51 => 0xA9960CD5#32
  | 52 => 0x28FFEC05#32
  | 53 => 0xA9E9E92D#32
  | 54 => 0xA958514D#32
  | 55 => 0xAA1EE2C3#32
  | 56 => 0xA8426271#32
  | 57 => 0xA991A1DE#32
  | 58 => 0x28EE4029#32
  | 59 => 0x28540E4D#32
  | 60 => 0x298F6C63#32
  | 61 => 0xA8E56A3B#32
  | 62 => 0x29E348BB#32
  | 63 => 0xA98D36E7#32
  | 64 => 0x29A57D80#32
  | 65 => 0x293DC418#32
  | 66 => 0xA9BDC418#32
  | 67 => 0xA8A7D53C#32
  | 68 => 0x28EE514A#32
  | 69 => 0xA96E514A#32
  | 70 => 0x28CAF3DD#32
  | 71 => 0xA9EE514A#32
  | 72 => 0x289EDFE8#32
  | 73 => 0xA91EDFE8#32
  | 74 => 0x28DC9FB8#32
  | 75 => 0xA99EDFE8#32
  | 76 => 0x2752FC43#32
  | 77 => 0x27F6F3D6#32
  | 78 => 0xA876F3D6#32
  | 79 => 0x28DC944D#32
  | 80 => 0xA79ED758#32
  | 81 => 0xA81ED758#32
  | 82 => 0x29046F3F#32
  | 83 => 0xA89ED758#32
  | 84 => 0xA80D1A5B#32
  | 85 => 0x29846F3F#32
  | 86 => 0x28540E4D#32
  | 87 => 0xA91ED758#32
  | 88 => 0x294F6489#32
  | 89 => 0x287FFA4A#32
  | 90 => 0xA8FFFA4A#32
  | 91 => 0x28FFF770#32
  | 92 => 0xA97FFA4A#32
  | 93 => 0x29BFFC6F#32
  | 94 => 0xA97FF770#32
  | 95 => 0x28FFEC05#32
  | 96 => 0xA9FFFA4A#32
  | 97 => 0xA9000CD8#32
  | 98 => 0xAA3FFC6F#32
  | 99 => 0xA94F8115#32
  | 100 => 0x28B0860E#32
  | 101 => 0xA930860E#32
  | 102 => 0x29C4648B#32
  | 103 => 0xA9B0860E#32
  | 104 => 0x29C8CCA7#32
  | 105 => 0xA7F76604#32
  | 106 => 0x28776604#32
  | 107 => 0x2842295A#32
  | 108 => 0xA8C2295A#32
  | 109 => 0xA8DCC1F9#32
  | 110 => 0xA942295A#32
  | 111 => 0xA754C4FE#32
  | 112 => 0x268D0385#32
  | 113 => 0xA70D0385#32
  | 114 => 0x27538548#32
  | 115 => 0xA78D0385#32
  | 116 => 0x298B0446#32
  | 117 => 0xA7D38548#32
  | 118 => 0xA961273B#32
  | 119 => 0xA80D0385#32
  | 120 => 0x28A79C25#32
  | 121 => 0x29A116D1#32
  | 122 => 0xAA2116D1#32
  | 123 => 0xA9A58BC6#32
  | 124 => 0x25D3C9CA#32
  | 125 => 0xA653C9CA#32
  | 126 => 0x269ED758#32
  | 127 => 0xA6D3C9CA#32
  | _ => 0#32

noncomputable abbrev lit5t0_14 (i : Nat) : BitVec 32 := match i % 128 with
  | 0 => 0x27C22F0F#32
  | 1 => 0xA71ED758#32
  | 2 => 0xA68D5EDE#32
  | 3 => 0xA753C9CA#32
  | 4 => 0xA8046F3F#32
  | 5 => 0xA8422F0F#32
  | 6 => 0x288466AF#32
  | 7 => 0xA79ED758#32
  | 8 => 0xA7D3EC0C#32
  | 9 => 0x270D5EDE#32
  | 10 => 0x2908D1A6#32
  | 11 => 0xA7D3C9CA#32
  | 12 => 0x28308334#32
  | 13 => 0x28846F3F#32
  | 14 => 0x289EDFE8#32
  | 15 => 0xA8C22F0F#32
  | 16 => 0xA7540E4D#32
  | 17 => 0xA90466AF#32
  | 18 => 0x29160E42#32
  | 19 => 0xA81ED758#32
  | 20 => 0x286575A6#32
  | 21 => 0x2853EC0C#32
  | 22 => 0x28B95921#32
  | 23 => 0x278D5EDE#32
  | 24 => 0x28FFF770#32
  | 25 => 0xA988D1A6#32
  | 26 => 0x29234ADF#32
  | 27 => 0xA853C9CA#32
  | 28 => 0xA86597E7#32
  | 29 => 0xA8B08334#32
  | 30 => 0x2969E92D#32
  | 31 => 0x29046F3F#32
  | 32 => 0x27538548#32
  | 33 => 0xA91EDFE8#32
  | 34 => 0x28421DEF#32
  | 35 => 0xA9422F0F#32
  | 36 => 0x29A9EB51#32
  | 37 => 0x27D40E4D#32
  | 38 => 0x28EE4B94#32
  | 39 => 0xA98466AF#32
  | 40 => 0x291A74F1#32
  | 41 => 0xA9960E42#32
  | 42 => 0xA88477CF#32
  | 43 => 0xA89ED758#32
  | 44 => 0x2961133F#32
  | 45 => 0xA8E575A6#32
  | 46 => 0x29823133#32
  | 47 => 0x28D3EC0C#32
  | 48 => 0x281EC637#32
  | 49 => 0xA9395921#32
  | 50 => 0xA934FF4B#32
  | 51 => 0x280D5EDE#32
  | 52 => 0x28DC9FB8#32
  | 53 => 0xA97FF770#32
  | 54 => 0x29C8CF82#32
  | 55 => 0xAA08D1A6#32
  | 56 => 0x2934EE2A#32
  | 57 => 0xA9A34ADF#32
  | 58 => 0xA81F0ABA#32
  | 59 => 0xA8D3C9CA#32
  | 60 => 0x297B8C79#32
  | 61 => 0x28E597E7#32
  | 62 => 0x27F6DD00#32
  | 63 => 0xA9308334#32
  | 64 => 0x29A11564#32
  | 65 => 0xA9E9E92D#32
  | 66 => 0x28CAF3DD#32
  | 67 => 0x29846F3F#32
  | 68 => 0x29C4648B#32
  | 69 => 0xA7D38548#32
  | 70 => 0xA9A9F3E2#32
  | 71 => 0xA99EDFE8#32
  | 72 => 0xA8426271#32
  | 73 => 0xA8C21DEF#32
  | 74 => 0x2972B68B#32
  | 75 => 0xA9C22F0F#32
  | 76 => 0x27B02D91#32
  | 77 => 0xAA29EB51#32
  | 78 => 0x299CAA6D#32
  | 79 => 0x28540E4D#32
  | 80 => 0x2A172900#32
  | 81 => 0xA96E4B94#32
  | 82 => 0xA9000CD8#32
  | 83 => 0xAA0466AF#32
  | 84 => 0x2923424F#32
  | 85 => 0xA99A74F1#32
  | 86 => 0xA865BA28#32
  | 87 => 0xAA160E42#32
  | 88 => 0x2969E09D#32
  | 89 => 0x290477CF#32
  | 90 => 0x2A034BF1#32
  | 91 => 0xA91ED758#32
  | 92 => 0xA94F8115#32
  | 93 => 0xA9E1133F#32
  | 94 => 0x28A79C25#32
  | 95 => 0xA96575A6#32
  | 96 => 0x298B016C#32
  | 97 => 0x29234804#32
  | 98 => 0xA9A34804#32
  | 99 => 0x29BB8E9D#32
  | 100 => 0xA853D535#32
  | 101 => 0xA8D3D535#32
  | 102 => 0xA91EDFE8#32
  | 103 => 0xA953D535#32
  | 104 => 0xA70CA82D#32
  | 105 => 0xA99EDFE8#32
  | 106 => 0xA8E56A3B#32
  | 107 => 0xA9D3D535#32
  | 108 => 0x278D25C7#32
  | 109 => 0xA80D25C7#32
  | 110 => 0x2934EE2A#32
  | 111 => 0xA88D25C7#32
  | 112 => 0xA81F2190#32
  | 113 => 0x29823133#32
  | 114 => 0xAA023133#32
  | 115 => 0x286547FA#32
  | 116 => 0x27D3BE5F#32
  | 117 => 0xA853BE5F#32
  | 118 => 0xA8426271#32
  | 119 => 0xA8D3BE5F#32
  | 120 => 0x291A6C61#32
  | 121 => 0x280463D4#32
  | 122 => 0xA88463D4#32
  | 123 => 0x29234ADF#32
  | 124 => 0xA90463D4#32
  | 125 => 0x28CAF992#32
  | 126 => 0xA9A34ADF#32
  | 127 => 0xA958514D#32
  | _ => 0#32

noncomputable abbrev lit5t0_15 (i : Nat) : BitVec 32 := match i % 128 with
  | 0 => 0xA98463D4#32
  | 1 => 0x2969E09D#32
  | 2 => 0xA94AF992#32
  | 3 => 0x297B86C3#32
  | 4 => 0x28CB04FD#32
  | 5 => 0xA94B04FD#32
  | 6 => 0x28421DEF#32
  | 7 => 0xA9CB04FD#32
  | 8 => 0x297B8C79#32
  | 9 => 0xA8C21DEF#32
  | 10 => 0x29E348BB#32
  | 11 => 0xAA4B04FD#32
  | 12 => 0xA9235EDA#32
  | 13 => 0x2946972B#32
  | 14 => 0xA9C6972B#32
  | 15 => 0xA7540E4D#32
  | 16 => 0x27D40E4D#32
  | 17 => 0xA81F0ABA#32
  | 18 => 0x28540E4D#32
  | 19 => 0xA88488F0#32
  | 20 => 0xA68DBA36#32
  | 21 => 0x270DBA36#32
  | 22 => 0xA986A4BB#32
  | 23 => 0x278DBA36#32
  | 24 => 0x27F6AF53#32
  | 25 => 0x281EC637#32
  | 26 => 0xA89EC637#32
  | 27 => 0x28FFE09A#32
  | 28 => 0xA68D3132#32
  | 29 => 0xA70D3132#32
  | 30 => 0xA753C9CA#32
  | 31 => 0xA78D3132#32
  | 32 => 0xA8AC1F5F#32
  | 33 => 0xA7D3C9CA#32
  | 34 => 0xA91EE2C3#32
  | 35 => 0xA80D3132#32
  | 36 => 0xA81ED758#32
  | 37 => 0xA92C1F5F#32
  | 38 => 0x289EEE2E#32
  | 39 => 0xA853C9CA#32
  | 40 => 0xA9395BFC#32
  | 41 => 0xA99EE2C3#32
  | 42 => 0xA9422F0F#32
  | 43 => 0xA88D3132#32
  | 44 => 0xA94B0222#32
  | 45 => 0xA89ED758#32
  | 46 => 0x2830AB2A#32
  | 47 => 0xA9AC1F5F#32
  | 48 => 0x280D5EDE#32
  | 49 => 0x291EEE2E#32
  | 50 => 0xA9657B5C#32
  | 51 => 0xA8D3C9CA#32
  | 52 => 0x278D8C8A#32
  | 53 => 0xA9B95BFC#32
  | 54 => 0x29846F3F#32
  | 55 => 0xAA1EE2C3#32
  | 56 => 0xA9FFFA4A#32
  | 57 => 0xA9C22F0F#32
  | 58 => 0xA98463D4#32
  | 59 => 0xA90D3132#32
  | 60 => 0xA78CD5D9#32
  | 61 => 0xA9CB0222#32
  | 62 => 0xA98D36E7#32
  | 63 => 0xA91ED758#32
  | 64 => 0xA80D0385#32
  | 65 => 0x28B0AB2A#32
  | 66 => 0x2953EC0C#32
  | 67 => 0xAA2C1F5F#32
  | 68 => 0xA98F7AA8#32
  | 69 => 0x2908CBF0#32
  | 70 => 0xA988CBF0#32
  | 71 => 0x29A11289#32
  | 72 => 0x28B95921#32
  | 73 => 0xA9395921#32
  | 74 => 0x27B02D91#32
  | 75 => 0xA9B95921#32
  | 76 => 0x27B95BFC#32
  | 77 => 0xA8395BFC#32
  | 78 => 0x28CB04FD#32
  | 79 => 0xA8B95BFC#32
  | 80 => 0x28A7B2FB#32
  | 81 => 0xA94B04FD#32
  | 82 => 0x288460F9#32
  | 83 => 0xA9395BFC#32
  | 84 => 0x299843BE#32
  | 85 => 0xA927B2FB#32
  | 86 => 0x298F6F3D#32
  | 87 => 0xA9CB04FD#32
  | 88 => 0x2A034D5E#32
  | 89 => 0xA90460F9#32
  | 90 => 0x297B8C79#32
  | 91 => 0xA9B95BFC#32
  | 92 => 0x29F4F1BC#32
  | 93 => 0xAA1843BE#32
  | 94 => 0x2A360E9E#32
  | 95 => 0xA9A7B2FB#32
  | 96 => 0x29E348BB#32
  | 97 => 0xAA0F6F3D#32
  | 98 => 0x2A2D3A1D#32
  | 99 => 0xAA4B04FD#32
  | 100 => 0x29D19FBA#32
  | 101 => 0x2969E653#32
  | 102 => 0xA9E9E653#32
  | 103 => 0x268B3ACB#32
  | 104 => 0x288D39C2#32
  | 105 => 0xA90D39C2#32
  | 106 => 0x29A9EB51#32
  | 107 => 0xA98D39C2#32
  | 108 => 0x29611065#32
  | 109 => 0xAA29EB51#32
  | 110 => 0x2A1B928A#32
  | 111 => 0xAA0D39C2#32
  | 112 => 0x28CAE871#32
  | 113 => 0x288466AF#32
  | 114 => 0xA90466AF#32
  | 115 => 0x29469A06#32
  | 116 => 0xA98466AF#32
  | 117 => 0x29A5805A#32
  | 118 => 0xA9C69A06#32
  | 119 => 0xA8426271#32
  | 120 => 0xAA0466AF#32
  | 121 => 0x2A8A79C2#32
  | 122 => 0xAA25805A#32
  | 123 => 0x29468E9B#32
  | 124 => 0xA884721A#32
  | 125 => 0x2904721A#32
  | 126 => 0xA946AB27#32
  | 127 => 0x2984721A#32
  | _ => 0#32

noncomputable abbrev lit5t0_16 (i : Nat) : BitVec 32 := match i % 128 with
  | 0 => 0x2993D47F#32
  | 1 => 0xA8A7C9D1#32
  | 2 => 0x2927C9D1#32
  | 3 => 0x2934F3E0#32
  | 4 => 0xA9B4F3E0#32
  | 5 => 0x27F6DD00#32
  | 6 => 0xAA34F3E0#32
  | 7 => 0x29C461B0#32
  | 8 => 0x270D5EDE#32
  | 9 => 0x278D5EDE#32
  | 10 => 0x27D40E4D#32
  | 11 => 0x280D5EDE#32
  | 12 => 0xA9E9E92D#32
  | 13 => 0x28540E4D#32
  | 14 => 0x28776604#32
  | 15 => 0x288D5EDE#32
  | 16 => 0x29F4EEE1#32
  | 17 => 0x2753579C#32
  | 18 => 0xA7D3579C#32
  | 19 => 0x2A12BE09#32
  | 20 => 0x27CB0222#32
  | 21 => 0xA84B0222#32
  | 22 => 0x28308334#32
  | 23 => 0xA8CB0222#32
  | 24 => 0x27F70AAC#32
  | 25 => 0xA8B08334#32
  | 26 => 0xA8DCBC44#32
  | 27 => 0xA94B0222#32
  | 28 => 0x29823133#32
  | 29 => 0xA8770AAC#32
  | 30 => 0xA908DD11#32
  | 31 => 0xA9308334#32
  | 32 => 0xA7B0E441#32
  | 33 => 0x295CBC44#32
  | 34 => 0xA9D1AE00#32
  | 35 => 0xA9CB0222#32
  | 36 => 0x294F6489#32
  | 37 => 0xAA023133#32
  | 38 => 0x29A11289#32
  | 39 => 0xA8F70AAC#32
  | 40 => 0x2A2B04A2#32
  | 41 => 0x28DC9FB8#32
  | 42 => 0xA95C9FB8#32
  | 43 => 0xA972D317#32
  | 44 => 0x281EDD0D#32
  | 45 => 0xA89EDD0D#32
  | 46 => 0x28EE4B94#32
  | 47 => 0xA91EDD0D#32
  | 48 => 0x29469451#32
  | 49 => 0xA96E4B94#32
  | 50 => 0x298B016C#32
  | 51 => 0xA99EDD0D#32
  | 52 => 0xA8D3E37B#32
  | 53 => 0x2953E37B#32
  | 54 => 0xA93DD539#32
  | 55 => 0x29D3E37B#32
  | 56 => 0xA911B8B4#32
  | 57 => 0x294F6A3F#32
  | 58 => 0xA9CF6A3F#32
  | 59 => 0xA8427947#32
  | 60 => 0x28FFF770#32
  | 61 => 0xA97FF770#32
  | 62 => 0xA9000CD8#32
  | 63 => 0xA9FFF770#32
  | 64 => 0x2841F042#32
  | 65 => 0x279EE2C3#32
  | 66 => 0xA81EE2C3#32
  | 67 => 0x286E5424#32
  | 68 => 0xA89EE2C3#32
  | 69 => 0x280D36E7#32
  | 70 => 0xA8EE5424#32
  | 71 => 0x28960CD5#32
  | 72 => 0xA91EE2C3#32
  | 73 => 0x28E57E36#32
  | 74 => 0xA88D36E7#32
  | 75 => 0x291A77CC#32
  | 76 => 0xA96E5424#32
  | 77 => 0x288460F9#32
  | 78 => 0xA9160CD5#32
  | 79 => 0x2969E92D#32
  | 80 => 0xA99EE2C3#32
  | 81 => 0x2911A1DE#32
  | 82 => 0xA9657E36#32
  | 83 => 0x28656A3B#32
  | 84 => 0xA90D36E7#32
  | 85 => 0x2961133F#32
  | 86 => 0xA99A77CC#32
  | 87 => 0x29C465F8#32
  | 88 => 0xA9EE5424#32
  | 89 => 0x29984250#32
  | 90 => 0xA90460F9#32
  | 91 => 0x29EC1EA9#32
  | 92 => 0xA9960CD5#32
  | 93 => 0x2A1FFD81#32
  | 94 => 0xA9E9E92D#32
  | 95 => 0x2A49EBAD#32
  | 96 => 0xAA1EE2C3#32
  | 97 => 0xA8426271#32
  | 98 => 0xA991A1DE#32
  | 99 => 0x28EE4029#32
  | 100 => 0xA9E57E36#32
  | 101 => 0x298F6C63#32
  | 102 => 0xA8E56A3B#32
  | 103 => 0x29E348BB#32
  | 104 => 0xA98D36E7#32
  | 105 => 0x2A1B928A#32
  | 106 => 0xA9E1133F#32
  | 107 => 0x298B016C#32
  | 108 => 0xAA1A77CC#32
  | 109 => 0x29DEDDC4#32
  | 110 => 0xAA4465F8#32
  | 111 => 0x28CAE871#32
  | 112 => 0xAA6E5424#32
  | 113 => 0x2A434B3A#32
  | 114 => 0xAA184250#32
  | 115 => 0x29119673#32
  | 116 => 0xA8B088E9#32
  | 117 => 0xA93088E9#32
  | 118 => 0xA98466AF#32
  | 119 => 0xA9B088E9#32
  | 120 => 0xA9DCAB23#32
  | 121 => 0xAA0466AF#32
  | 122 => 0xAA1A77CC#32
  | 123 => 0xAA3088E9#32
  | 124 => 0x2972B0D5#32
  | 125 => 0xA8DCC1F9#32
  | 126 => 0x295CC1F9#32
  | 127 => 0x28EE514A#32
  | _ => 0#32

noncomputable abbrev lit5t0_17 (i : Nat) : BitVec 32 := match i % 128 with
  | 0 => 0xA96E514A#32
  | 1 => 0x28CAF3DD#32
  | 2 => 0xA9EE514A#32
  | 3 => 0x29A9E59C#32
  | 4 => 0xA7F74F2E#32
  | 5 => 0x28774F2E#32
  | 6 => 0xA9AE5ED9#32
  | 7 => 0x28F74F2E#32
  | 8 => 0x29DA72CD#32
  | 9 => 0xA75469A5#32
  | 10 => 0x27D469A5#32
  | 11 => 0x2A057FFF#32
  | 12 => 0x269ED758#32
  | 13 => 0xA71ED758#32
  | 14 => 0xA8046F3F#32
  | 15 => 0xA79ED758#32
  | 16 => 0x270D1A5B#32
  | 17 => 0x28846F3F#32
  | 18 => 0xA7540E4D#32
  | 19 => 0xA81ED758#32
  | 20 => 0xA80D4DBD#32
  | 21 => 0xA78D1A5B#32
  | 22 => 0xA86597E7#32
  | 23 => 0x29046F3F#32
  | 24 => 0x28421DEF#32
  | 25 => 0x27D40E4D#32
  | 26 => 0x291A74F1#32
  | 27 => 0xA89ED758#32
  | 28 => 0x29823133#32
  | 29 => 0x288D4DBD#32
  | 30 => 0x28DC9FB8#32
  | 31 => 0xA80D1A5B#32
  | 32 => 0xA81F0ABA#32
  | 33 => 0x28E597E7#32
  | 34 => 0x29A11564#32
  | 35 => 0x29846F3F#32
  | 36 => 0xA9A9F3E2#32
  | 37 => 0xA8C21DEF#32
  | 38 => 0x27B02D91#32
  | 39 => 0x28540E4D#32
  | 40 => 0xA9000CD8#32
  | 41 => 0xA99A74F1#32
  | 42 => 0x2969E09D#32
  | 43 => 0xA91ED758#32
  | 44 => 0x28A79C25#32
  | 45 => 0xAA023133#32
  | 46 => 0x29DEDDC4#32
  | 47 => 0x290D4DBD#32
  | 48 => 0x2993D47F#32
  | 49 => 0xA95C9FB8#32
  | 50 => 0x29119673#32
  | 51 => 0xA88D1A5B#32
  | 52 => 0x2A1DC698#32
  | 53 => 0x28A7A790#32
  | 54 => 0xA927A790#32
  | 55 => 0xA993E59F#32
  | 56 => 0x288460F9#32
  | 57 => 0xA90460F9#32
  | 58 => 0xA865BA28#32
  | 59 => 0xA98460F9#32
  | 60 => 0xA927BCF9#32
  | 61 => 0x29A7BCF9#32
  | 62 => 0xA8EE6DD5#32
  | 63 => 0x2A27BCF9#32
  | 64 => 0xA946B0DC#32
  | 65 => 0x2934EE2A#32
  | 66 => 0xA9B4EE2A#32
  | 67 => 0xA8CB2CF4#32
  | 68 => 0xA8657B5C#32
  | 69 => 0xA8E57B5C#32
  | 70 => 0xA9960E42#32
  | 71 => 0xA9657B5C#32
  | 72 => 0x28C24B9B#32
  | 73 => 0xAA160E42#32
  | 74 => 0xA988CBF0#32
  | 75 => 0xA9E57B5C#32
  | 76 => 0xA68F82F0#32
  | 77 => 0x268D0385#32
  | 78 => 0xA70D0385#32
  | 79 => 0x27538548#32
  | 80 => 0xA78D0385#32
  | 81 => 0x298B0446#32
  | 82 => 0xA7D38548#32
  | 83 => 0x298F6C63#32
  | 84 => 0xA80D0385#32
  | 85 => 0x2993D47F#32
  | 86 => 0xAA0B0446#32
  | 87 => 0x28B93C96#32
  | 88 => 0x29234ADF#32
  | 89 => 0xA9A34ADF#32
  | 90 => 0x2969E09D#32
  | 91 => 0xAA234ADF#32
  | 92 => 0x293DB8AD#32
  | 93 => 0xA908DD11#32
  | 94 => 0x2988DD11#32
  | 95 => 0x27C22F0F#32
  | 96 => 0xA8422F0F#32
  | 97 => 0x2908D1A6#32
  | 98 => 0xA8C22F0F#32
  | 99 => 0x286575A6#32
  | 100 => 0xA988D1A6#32
  | 101 => 0x2969E92D#32
  | 102 => 0xA9422F0F#32
  | 103 => 0x291A74F1#32
  | 104 => 0xA8E575A6#32
  | 105 => 0xA934FF4B#32
  | 106 => 0xAA08D1A6#32
  | 107 => 0x297B8C79#32
  | 108 => 0xA9E9E92D#32
  | 109 => 0xA9A9F3E2#32
  | 110 => 0xA9C22F0F#32
  | 111 => 0x2A172900#32
  | 112 => 0xA99A74F1#32
  | 113 => 0x2A034BF1#32
  | 114 => 0xA96575A6#32
  | 115 => 0x29DEDDC4#32
  | 116 => 0x29B4FF4B#32
  | 117 => 0xA911B8B4#32
  | 118 => 0xAA88D1A6#32
  | 119 => 0x298F6988#32
  | 120 => 0xA7B09FBF#32
  | 121 => 0x28309FBF#32
  | 122 => 0xA88477CF#32
  | 123 => 0x28B09FBF#32
  | 124 => 0x29119C29#32
  | 125 => 0x290477CF#32
  | 126 => 0x28CAE871#32
  | 127 => 0x29309FBF#32
  | _ => 0#32

noncomputable abbrev lit5t0_18 (i : Nat) : BitVec 32 := match i % 128 with
  | 0 => 0x29BFF6B9#32
  | 1 => 0xA81F0ABA#32
  | 2 => 0x289F0ABA#32
  | 3 => 0x29F083EA#32
  | 4 => 0xA6B0AB2A#32
  | 5 => 0x2730AB2A#32
  | 6 => 0x289EDFE8#32
  | 7 => 0x27B0AB2A#32
  | 8 => 0x268CA82D#32
  | 9 => 0xA91EDFE8#32
  | 10 => 0x28656A3B#32
  | 11 => 0x2830AB2A#32
  | 12 => 0x28DC9FB8#32
  | 13 => 0xA70CA82D#32
  | 14 => 0xA8B975AD#32
  | 15 => 0xA99EDFE8#32
  | 16 => 0xA993E2C5#32
  | 17 => 0xA8E56A3B#32
  | 18 => 0x2752FC43#32
  | 19 => 0x28B0AB2A#32
  | 20 => 0x29A11289#32
  | 21 => 0xA95C9FB8#32
  | 22 => 0xA9C472D1#32
  | 23 => 0xA78CA82D#32
  | 24 => 0x2A10888E#32
  | 25 => 0x28655ED0#32
  | 26 => 0xA8E55ED0#32
  | 27 => 0x2A28CF26#32
  | 28 => 0xA7D3C9CA#32
  | 29 => 0xA853C9CA#32
  | 30 => 0xA89ED758#32
  | 31 => 0xA8D3C9CA#32
  | 32 => 0xA9C22F0F#32
  | 33 => 0xA91ED758#32
  | 34 => 0x288D5EDE#32
  | 35 => 0xA953C9CA#32
  | 36 => 0x27D3BE5F#32
  | 37 => 0xA853BE5F#32
  | 38 => 0xA8426271#32
  | 39 => 0xA8D3BE5F#32
  | 40 => 0xA97BA904#32
  | 41 => 0x291A7216#32
  | 42 => 0xA99A7216#32
  | 43 => 0xA91A8EA2#32
  | 44 => 0x28CAFF48#32
  | 45 => 0xA94AFF48#32
  | 46 => 0xA94F8115#32
  | 47 => 0xA9CAFF48#32
  | 48 => 0xA865D0FF#32
  | 49 => 0x28CB04FD#32
  | 50 => 0xA94B04FD#32
  | 51 => 0x299843BE#32
  | 52 => 0xA9CB04FD#32
  | 53 => 0x297B8C79#32
  | 54 => 0xAA1843BE#32
  | 55 => 0x29E348BB#32
  | 56 => 0xAA4B04FD#32
  | 57 => 0x29119673#32
  | 58 => 0xA9FB8C79#32
  | 59 => 0x281E988B#32
  | 60 => 0x28960CD5#32
  | 61 => 0xA9160CD5#32
  | 62 => 0x2961133F#32
  | 63 => 0xA9960CD5#32
  | 64 => 0x28EE4029#32
  | 65 => 0xA9E1133F#32
  | 66 => 0x2A434B3A#32
  | 67 => 0xAA160CD5#32
  | 68 => 0x2908C085#32
  | 69 => 0x29AE536E#32
  | 70 => 0xAA2E536E#32
  | 71 => 0x28F7245D#32
  | 72 => 0xA977245D#32
  | 73 => 0x2972B68B#32
  | 74 => 0xA9F7245D#32
  | 75 => 0x2969DAE8#32
  | 76 => 0xA86597E7#32
  | 77 => 0x28E597E7#32
  | 78 => 0xA9D618F7#32
  | 79 => 0x296597E7#32
  | 80 => 0x29A57AA5#32
  | 81 => 0xA8847D85#32
  | 82 => 0x29047D85#32
  | 83 => 0x29D607D6#32
  | _ => 0#32

noncomputable abbrev lit5t (i : Nat) : BitVec 32 := match i / 128 with
  | 0 => lit5t0_0 i
  | 1 => lit5t0_1 i
  | 2 => lit5t0_2 i
  | 3 => lit5t0_3 i
  | 4 => lit5t0_4 i
  | 5 => lit5t0_5 i
  | 6 => lit5t0_6 i
  | 7 => lit5t0_7 i
  | 8 => lit5t0_8 i
  | 9 => lit5t0_9 i
  | 10 => lit5t0_10 i
  | 11 => lit5t0_11 i
  | 12 => lit5t0_12 i
  | 13 => lit5t0_13 i
  | 14 => lit5t0_14 i
  | 15 => lit5t0_15 i
  | 16 => lit5t0_16 i
  | 17 => lit5t0_17 i
  | 18 => lit5t0_18 i
  | _ => 0#32

noncomputable abbrev lit5 : Fin 2388 → BitVec 32 := fun ⟨i, _⟩ => lit5t i

noncomputable abbrev lit6t0_0 (i : Nat) : BitVec 32 := match i % 128 with
  | 0 => 2#32
  | 1 => 3#32
  | 2 => 4#32
  | 3 => 4#32
  | 4 => 4#32
  | 5 => 5#32
  | 6 => 5#32
  | 7 => 5#32
  | 8 => 5#32
  | 9 => 6#32
  | 10 => 6#32
  | 11 => 7#32
  | 12 => 8#32
  | 13 => 8#32
  | 14 => 8#32
  | 15 => 8#32
  | 16 => 8#32
  | 17 => 8#32
  | 18 => 8#32
  | 19 => 9#32
  | 20 => 10#32
  | 21 => 10#32
  | 22 => 10#32
  | 23 => 10#32
  | 24 => 10#32
  | 25 => 10#32
  | 26 => 10#32
  | 27 => 10#32
  | 28 => 10#32
  | 29 => 11#32
  | 30 => 12#32
  | 31 => 12#32
  | 32 => 12#32
  | 33 => 12#32
  | 34 => 13#32
  | 35 => 14#32
  | 36 => 14#32
  | 37 => 15#32
  | 38 => 15#32
  | 39 => 15#32
  | 40 => 15#32
  | 41 => 15#32
  | 42 => 16#32
  | 43 => 16#32
  | 44 => 16#32
  | 45 => 16#32
  | 46 => 16#32
  | 47 => 16#32
  | 48 => 16#32
  | 49 => 16#32
  | 50 => 17#32
  | 51 => 18#32
  | 52 => 18#32
  | 53 => 19#32
  | 54 => 20#32
  | 55 => 20#32
  | 56 => 20#32
  | 57 => 20#32
  | 58 => 20#32
  | 59 => 20#32
  | 60 => 20#32
  | 61 => 20#32
  | 62 => 20#32
  | 63 => 20#32
  | 64 => 20#32
  | 65 => 20#32
  | 66 => 20#32
  | 67 => 20#32
  | 68 => 20#32
  | 69 => 20#32
  | 70 => 20#32
  | 71 => 20#32
  | 72 => 20#32
  | 73 => 21#32
  | 74 => 22#32
  | 75 => 22#32
  | 76 => 23#32
  | 77 => 24#32
  | 78 => 24#32
  | 79 => 24#32
  | 80 => 24#32
  | 81 => 24#32
  | 82 => 24#32
  | 83 => 24#32
  | 84 => 24#32
  | 85 => 25#32
  | 86 => 25#32
  | 87 => 25#32
  | 88 => 25#32
  | 89 => 25#32
  | 90 => 25#32
  | 91 => 25#32
  | 92 => 25#32
  | 93 => 25#32
  | 94 => 25#32
  | 95 => 25#32
  | 96 => 25#32
  | 97 => 25#32
  | 98 => 25#32
  | 99 => 25#32
  | 100 => 25#32
  | 101 => 25#32
  | 102 => 25#32
  | 103 => 25#32
  | 104 => 25#32
  | 105 => 25#32
  | 106 => 25#32
  | 107 => 25#32
  | 108 => 25#32
  | 109 => 26#32
  | 110 => 26#32
  | 111 => 27#32
  | 112 => 28#32
  | 113 => 28#32
  | 114 => 28#32
  | 115 => 28#32
  | 116 => 29#32
  | 117 => 30#32
  | 118 => 30#32
  | 119 => 30#32
  | 120 => 30#32
  | 121 => 30#32
  | 122 => 30#32
  | 123 => 30#32
  | 124 => 30#32
  | 125 => 30#32
  | 126 => 30#32
  | 127 => 31#32
  | _ => 0#32

noncomputable abbrev lit6t0_1 (i : Nat) : BitVec 32 := match i % 128 with
  | 0 => 32#32
  | 1 => 32#32
  | 2 => 32#32
  | 3 => 32#32
  | 4 => 32#32
  | 5 => 32#32
  | 6 => 32#32
  | 7 => 32#32
  | 8 => 33#32
  | 9 => 34#32
  | 10 => 34#32
  | 11 => 35#32
  | 12 => 35#32
  | 13 => 35#32
  | 14 => 35#32
  | 15 => 35#32
  | 16 => 36#32
  | 17 => 36#32
  | 18 => 36#32
  | 19 => 36#32
  | 20 => 37#32
  | 21 => 38#32
  | 22 => 38#32
  | 23 => 39#32
  | 24 => 40#32
  | 25 => 40#32
  | 26 => 40#32
  | 27 => 40#32
  | 28 => 40#32
  | 29 => 40#32
  | 30 => 40#32
  | 31 => 40#32
  | 32 => 40#32
  | 33 => 40#32
  | 34 => 40#32
  | 35 => 40#32
  | 36 => 40#32
  | 37 => 40#32
  | 38 => 40#32
  | 39 => 40#32
  | 40 => 40#32
  | 41 => 40#32
  | 42 => 40#32
  | 43 => 40#32
  | 44 => 40#32
  | 45 => 40#32
  | 46 => 40#32
  | 47 => 40#32
  | 48 => 40#32
  | 49 => 40#32
  | 50 => 40#32
  | 51 => 40#32
  | 52 => 40#32
  | 53 => 40#32
  | 54 => 40#32
  | 55 => 40#32
  | 56 => 40#32
  | 57 => 40#32
  | 58 => 40#32
  | 59 => 40#32
  | 60 => 40#32
  | 61 => 40#32
  | 62 => 40#32
  | 63 => 41#32
  | 64 => 42#32
  | 65 => 42#32
  | 66 => 43#32
  | 67 => 44#32
  | 68 => 44#32
  | 69 => 44#32
  | 70 => 44#32
  | 71 => 45#32
  | 72 => 45#32
  | 73 => 45#32
  | 74 => 45#32
  | 75 => 45#32
  | 76 => 46#32
  | 77 => 46#32
  | 78 => 47#32
  | 79 => 48#32
  | 80 => 48#32
  | 81 => 48#32
  | 82 => 48#32
  | 83 => 48#32
  | 84 => 48#32
  | 85 => 48#32
  | 86 => 48#32
  | 87 => 49#32
  | 88 => 50#32
  | 89 => 50#32
  | 90 => 50#32
  | 91 => 50#32
  | 92 => 50#32
  | 93 => 50#32
  | 94 => 50#32
  | 95 => 50#32
  | 96 => 50#32
  | 97 => 50#32
  | 98 => 50#32
  | 99 => 50#32
  | 100 => 50#32
  | 101 => 50#32
  | 102 => 50#32
  | 103 => 50#32
  | 104 => 50#32
  | 105 => 50#32
  | 106 => 50#32
  | 107 => 50#32
  | 108 => 50#32
  | 109 => 50#32
  | 110 => 50#32
  | 111 => 50#32
  | 112 => 50#32
  | 113 => 50#32
  | 114 => 50#32
  | 115 => 50#32
  | 116 => 50#32
  | 117 => 50#32
  | 118 => 50#32
  | 119 => 50#32
  | 120 => 50#32
  | 121 => 50#32
  | 122 => 50#32
  | 123 => 50#32
  | 124 => 50#32
  | 125 => 50#32
  | 126 => 50#32
  | 127 => 50#32
  | _ => 0#32

noncomputable abbrev lit6t0_2 (i : Nat) : BitVec 32 := match i % 128 with
  | 0 => 50#32
  | 1 => 50#32
  | 2 => 50#32
  | 3 => 50#32
  | 4 => 50#32
  | 5 => 50#32
  | 6 => 50#32
  | 7 => 50#32
  | 8 => 50#32
  | 9 => 51#32
  | 10 => 52#32
  | 11 => 52#32
  | 12 => 52#32
  | 13 => 52#32
  | 14 => 53#32
  | 15 => 54#32
  | 16 => 54#32
  | 17 => 55#32
  | 18 => 55#32
  | 19 => 55#32
  | 20 => 55#32
  | 21 => 55#32
  | 22 => 56#32
  | 23 => 56#32
  | 24 => 56#32
  | 25 => 56#32
  | 26 => 56#32
  | 27 => 56#32
  | 28 => 56#32
  | 29 => 56#32
  | 30 => 57#32
  | 31 => 58#32
  | 32 => 58#32
  | 33 => 59#32
  | 34 => 60#32
  | 35 => 60#32
  | 36 => 60#32
  | 37 => 60#32
  | 38 => 60#32
  | 39 => 60#32
  | 40 => 60#32
  | 41 => 60#32
  | 42 => 60#32
  | 43 => 60#32
  | 44 => 60#32
  | 45 => 60#32
  | 46 => 60#32
  | 47 => 60#32
  | 48 => 60#32
  | 49 => 60#32
  | 50 => 60#32
  | 51 => 60#32
  | 52 => 60#32
  | 53 => 60#32
  | 54 => 61#32
  | 55 => 62#32
  | 56 => 62#32
  | 57 => 63#32
  | 58 => 64#32
  | 59 => 64#32
  | 60 => 64#32
  | 61 => 64#32
  | 62 => 64#32
  | 63 => 64#32
  | 64 => 64#32
  | 65 => 64#32
  | 66 => 65#32
  | 67 => 65#32
  | 68 => 65#32
  | 69 => 65#32
  | 70 => 65#32
  | 71 => 66#32
  | 72 => 66#32
  | 73 => 67#32
  | 74 => 68#32
  | 75 => 68#32
  | 76 => 68#32
  | 77 => 68#32
  | 78 => 69#32
  | 79 => 70#32
  | 80 => 70#32
  | 81 => 70#32
  | 82 => 70#32
  | 83 => 70#32
  | 84 => 70#32
  | 85 => 70#32
  | 86 => 70#32
  | 87 => 70#32
  | 88 => 70#32
  | 89 => 71#32
  | 90 => 72#32
  | 91 => 72#32
  | 92 => 72#32
  | 93 => 72#32
  | 94 => 72#32
  | 95 => 72#32
  | 96 => 72#32
  | 97 => 72#32
  | 98 => 73#32
  | 99 => 74#32
  | 100 => 74#32
  | 101 => 75#32
  | 102 => 75#32
  | 103 => 75#32
  | 104 => 75#32
  | 105 => 75#32
  | 106 => 75#32
  | 107 => 75#32
  | 108 => 75#32
  | 109 => 75#32
  | 110 => 75#32
  | 111 => 75#32
  | 112 => 75#32
  | 113 => 75#32
  | 114 => 75#32
  | 115 => 75#32
  | 116 => 75#32
  | 117 => 75#32
  | 118 => 75#32
  | 119 => 75#32
  | 120 => 75#32
  | 121 => 75#32
  | 122 => 75#32
  | 123 => 75#32
  | 124 => 75#32
  | 125 => 75#32
  | 126 => 76#32
  | 127 => 76#32
  | _ => 0#32

noncomputable abbrev lit6t0_3 (i : Nat) : BitVec 32 := match i % 128 with
  | 0 => 76#32
  | 1 => 76#32
  | 2 => 77#32
  | 3 => 78#32
  | 4 => 78#32
  | 5 => 79#32
  | 6 => 80#32
  | 7 => 80#32
  | 8 => 80#32
  | 9 => 80#32
  | 10 => 80#32
  | 11 => 80#32
  | 12 => 80#32
  | 13 => 80#32
  | 14 => 80#32
  | 15 => 80#32
  | 16 => 80#32
  | 17 => 80#32
  | 18 => 80#32
  | 19 => 80#32
  | 20 => 80#32
  | 21 => 80#32
  | 22 => 80#32
  | 23 => 80#32
  | 24 => 80#32
  | 25 => 80#32
  | 26 => 80#32
  | 27 => 80#32
  | 28 => 80#32
  | 29 => 80#32
  | 30 => 80#32
  | 31 => 80#32
  | 32 => 80#32
  | 33 => 80#32
  | 34 => 80#32
  | 35 => 80#32
  | 36 => 80#32
  | 37 => 80#32
  | 38 => 80#32
  | 39 => 80#32
  | 40 => 80#32
  | 41 => 80#32
  | 42 => 80#32
  | 43 => 80#32
  | 44 => 80#32
  | 45 => 80#32
  | 46 => 81#32
  | 47 => 82#32
  | 48 => 82#32
  | 49 => 83#32
  | 50 => 84#32
  | 51 => 84#32
  | 52 => 84#32
  | 53 => 84#32
  | 54 => 85#32
  | 55 => 85#32
  | 56 => 85#32
  | 57 => 85#32
  | 58 => 85#32
  | 59 => 86#32
  | 60 => 86#32
  | 61 => 87#32
  | 62 => 88#32
  | 63 => 88#32
  | 64 => 88#32
  | 65 => 88#32
  | 66 => 88#32
  | 67 => 88#32
  | 68 => 88#32
  | 69 => 88#32
  | 70 => 89#32
  | 71 => 90#32
  | 72 => 90#32
  | 73 => 90#32
  | 74 => 90#32
  | 75 => 90#32
  | 76 => 90#32
  | 77 => 90#32
  | 78 => 90#32
  | 79 => 90#32
  | 80 => 90#32
  | 81 => 91#32
  | 82 => 92#32
  | 83 => 92#32
  | 84 => 92#32
  | 85 => 92#32
  | 86 => 93#32
  | 87 => 94#32
  | 88 => 94#32
  | 89 => 95#32
  | 90 => 95#32
  | 91 => 95#32
  | 92 => 95#32
  | 93 => 95#32
  | 94 => 96#32
  | 95 => 96#32
  | 96 => 96#32
  | 97 => 96#32
  | 98 => 96#32
  | 99 => 96#32
  | 100 => 96#32
  | 101 => 96#32
  | 102 => 97#32
  | 103 => 98#32
  | 104 => 98#32
  | 105 => 99#32
  | 106 => 100#32
  | 107 => 100#32
  | 108 => 100#32
  | 109 => 100#32
  | 110 => 100#32
  | 111 => 100#32
  | 112 => 100#32
  | 113 => 100#32
  | 114 => 100#32
  | 115 => 100#32
  | 116 => 100#32
  | 117 => 100#32
  | 118 => 100#32
  | 119 => 100#32
  | 120 => 100#32
  | 121 => 100#32
  | 122 => 100#32
  | 123 => 100#32
  | 124 => 100#32
  | 125 => 100#32
  | 126 => 100#32
  | 127 => 100#32
  | _ => 0#32

noncomputable abbrev lit6t0_4 (i : Nat) : BitVec 32 := match i % 128 with
  | 0 => 100#32
  | 1 => 100#32
  | 2 => 100#32
  | 3 => 100#32
  | 4 => 100#32
  | 5 => 100#32
  | 6 => 100#32
  | 7 => 100#32
  | 8 => 100#32
  | 9 => 100#32
  | 10 => 100#32
  | 11 => 100#32
  | 12 => 100#32
  | 13 => 100#32
  | 14 => 100#32
  | 15 => 100#32
  | 16 => 100#32
  | 17 => 100#32
  | 18 => 100#32
  | 19 => 100#32
  | 20 => 100#32
  | 21 => 100#32
  | 22 => 100#32
  | 23 => 100#32
  | 24 => 100#32
  | 25 => 100#32
  | 26 => 100#32
  | 27 => 100#32
  | 28 => 100#32
  | 29 => 100#32
  | 30 => 100#32
  | 31 => 100#32
  | 32 => 100#32
  | 33 => 100#32
  | 34 => 100#32
  | 35 => 100#32
  | 36 => 100#32
  | 37 => 100#32
  | 38 => 100#32
  | 39 => 100#32
  | 40 => 100#32
  | 41 => 100#32
  | 42 => 100#32
  | 43 => 100#32
  | 44 => 100#32
  | 45 => 100#32
  | 46 => 100#32
  | 47 => 100#32
  | 48 => 100#32
  | 49 => 100#32
  | 50 => 100#32
  | 51 => 100#32
  | 52 => 100#32
  | 53 => 100#32
  | 54 => 100#32
  | 55 => 100#32
  | 56 => 100#32
  | 57 => 100#32
  | 58 => 100#32
  | 59 => 100#32
  | 60 => 100#32
  | 61 => 100#32
  | 62 => 100#32
  | 63 => 100#32
  | 64 => 100#32
  | 65 => 100#32
  | 66 => 100#32
  | 67 => 100#32
  | 68 => 100#32
  | 69 => 100#32
  | 70 => 100#32
  | 71 => 100#32
  | 72 => 100#32
  | 73 => 100#32
  | 74 => 100#32
  | 75 => 100#32
  | 76 => 100#32
  | 77 => 101#32
  | 78 => 102#32
  | 79 => 102#32
  | 80 => 103#32
  | 81 => 104#32
  | 82 => 104#32
  | 83 => 104#32
  | 84 => 104#32
  | 85 => 104#32
  | 86 => 104#32
  | 87 => 104#32
  | 88 => 104#32
  | 89 => 105#32
  | 90 => 105#32
  | 91 => 105#32
  | 92 => 105#32
  | 93 => 105#32
  | 94 => 106#32
  | 95 => 106#32
  | 96 => 107#32
  | 97 => 108#32
  | 98 => 108#32
  | 99 => 108#32
  | 100 => 108#32
  | 101 => 109#32
  | 102 => 110#32
  | 103 => 110#32
  | 104 => 110#32
  | 105 => 110#32
  | 106 => 110#32
  | 107 => 110#32
  | 108 => 110#32
  | 109 => 110#32
  | 110 => 110#32
  | 111 => 110#32
  | 112 => 111#32
  | 113 => 112#32
  | 114 => 112#32
  | 115 => 112#32
  | 116 => 112#32
  | 117 => 112#32
  | 118 => 112#32
  | 119 => 112#32
  | 120 => 112#32
  | 121 => 113#32
  | 122 => 114#32
  | 123 => 114#32
  | 124 => 115#32
  | 125 => 115#32
  | 126 => 115#32
  | 127 => 115#32
  | _ => 0#32

noncomputable abbrev lit6t0_5 (i : Nat) : BitVec 32 := match i % 128 with
  | 0 => 115#32
  | 1 => 116#32
  | 2 => 116#32
  | 3 => 116#32
  | 4 => 116#32
  | 5 => 117#32
  | 6 => 118#32
  | 7 => 118#32
  | 8 => 119#32
  | 9 => 120#32
  | 10 => 120#32
  | 11 => 120#32
  | 12 => 120#32
  | 13 => 120#32
  | 14 => 120#32
  | 15 => 120#32
  | 16 => 120#32
  | 17 => 120#32
  | 18 => 120#32
  | 19 => 120#32
  | 20 => 120#32
  | 21 => 120#32
  | 22 => 120#32
  | 23 => 120#32
  | 24 => 120#32
  | 25 => 120#32
  | 26 => 120#32
  | 27 => 120#32
  | 28 => 120#32
  | 29 => 120#32
  | 30 => 120#32
  | 31 => 120#32
  | 32 => 120#32
  | 33 => 120#32
  | 34 => 120#32
  | 35 => 120#32
  | 36 => 120#32
  | 37 => 120#32
  | 38 => 120#32
  | 39 => 120#32
  | 40 => 120#32
  | 41 => 120#32
  | 42 => 120#32
  | 43 => 120#32
  | 44 => 120#32
  | 45 => 120#32
  | 46 => 120#32
  | 47 => 120#32
  | 48 => 120#32
  | 49 => 121#32
  | 50 => 122#32
  | 51 => 122#32
  | 52 => 123#32
  | 53 => 124#32
  | 54 => 124#32
  | 55 => 124#32
  | 56 => 124#32
  | 57 => 125#32
  | 58 => 125#32
  | 59 => 125#32
  | 60 => 125#32
  | 61 => 125#32
  | 62 => 125#32
  | 63 => 125#32
  | 64 => 125#32
  | 65 => 125#32
  | 66 => 125#32
  | 67 => 125#32
  | 68 => 125#32
  | 69 => 125#32
  | 70 => 125#32
  | 71 => 125#32
  | 72 => 125#32
  | 73 => 125#32
  | 74 => 125#32
  | 75 => 125#32
  | 76 => 125#32
  | 77 => 125#32
  | 78 => 125#32
  | 79 => 125#32
  | 80 => 125#32
  | 81 => 125#32
  | 82 => 126#32
  | 83 => 126#32
  | 84 => 127#32
  | 85 => 128#32
  | 86 => 128#32
  | 87 => 128#32
  | 88 => 128#32
  | 89 => 128#32
  | 90 => 128#32
  | 91 => 128#32
  | 92 => 128#32
  | 93 => 129#32
  | 94 => 130#32
  | 95 => 130#32
  | 96 => 130#32
  | 97 => 130#32
  | 98 => 130#32
  | 99 => 130#32
  | 100 => 130#32
  | 101 => 130#32
  | 102 => 130#32
  | 103 => 130#32
  | 104 => 131#32
  | 105 => 132#32
  | 106 => 132#32
  | 107 => 132#32
  | 108 => 132#32
  | 109 => 133#32
  | 110 => 134#32
  | 111 => 134#32
  | 112 => 135#32
  | 113 => 135#32
  | 114 => 135#32
  | 115 => 135#32
  | 116 => 135#32
  | 117 => 136#32
  | 118 => 136#32
  | 119 => 136#32
  | 120 => 136#32
  | 121 => 136#32
  | 122 => 136#32
  | 123 => 136#32
  | 124 => 136#32
  | 125 => 137#32
  | 126 => 138#32
  | 127 => 138#32
  | _ => 0#32

noncomputable abbrev lit6t0_6 (i : Nat) : BitVec 32 := match i % 128 with
  | 0 => 139#32
  | 1 => 140#32
  | 2 => 140#32
  | 3 => 140#32
  | 4 => 140#32
  | 5 => 140#32
  | 6 => 140#32
  | 7 => 140#32
  | 8 => 140#32
  | 9 => 140#32
  | 10 => 140#32
  | 11 => 140#32
  | 12 => 140#32
  | 13 => 140#32
  | 14 => 140#32
  | 15 => 140#32
  | 16 => 140#32
  | 17 => 140#32
  | 18 => 140#32
  | 19 => 140#32
  | 20 => 140#32
  | 21 => 141#32
  | 22 => 142#32
  | 23 => 142#32
  | 24 => 143#32
  | 25 => 144#32
  | 26 => 144#32
  | 27 => 144#32
  | 28 => 144#32
  | 29 => 144#32
  | 30 => 144#32
  | 31 => 144#32
  | 32 => 144#32
  | 33 => 145#32
  | 34 => 145#32
  | 35 => 145#32
  | 36 => 145#32
  | 37 => 145#32
  | 38 => 146#32
  | 39 => 146#32
  | 40 => 147#32
  | 41 => 148#32
  | 42 => 148#32
  | 43 => 148#32
  | 44 => 148#32
  | 45 => 149#32
  | 46 => 150#32
  | 47 => 150#32
  | 48 => 150#32
  | 49 => 150#32
  | 50 => 150#32
  | 51 => 150#32
  | 52 => 150#32
  | 53 => 150#32
  | 54 => 150#32
  | 55 => 150#32
  | 56 => 150#32
  | 57 => 150#32
  | 58 => 150#32
  | 59 => 150#32
  | 60 => 150#32
  | 61 => 150#32
  | 62 => 150#32
  | 63 => 150#32
  | 64 => 150#32
  | 65 => 150#32
  | 66 => 150#32
  | 67 => 150#32
  | 68 => 150#32
  | 69 => 150#32
  | 70 => 150#32
  | 71 => 150#32
  | 72 => 150#32
  | 73 => 150#32
  | 74 => 150#32
  | 75 => 150#32
  | 76 => 150#32
  | 77 => 150#32
  | 78 => 150#32
  | 79 => 150#32
  | 80 => 150#32
  | 81 => 150#32
  | 82 => 150#32
  | 83 => 150#32
  | 84 => 150#32
  | 85 => 150#32
  | 86 => 150#32
  | 87 => 150#32
  | 88 => 150#32
  | 89 => 150#32
  | 90 => 150#32
  | 91 => 150#32
  | 92 => 150#32
  | 93 => 150#32
  | 94 => 150#32
  | 95 => 150#32
  | 96 => 151#32
  | 97 => 152#32
  | 98 => 152#32
  | 99 => 152#32
  | 100 => 152#32
  | 101 => 152#32
  | 102 => 152#32
  | 103 => 152#32
  | 104 => 152#32
  | 105 => 153#32
  | 106 => 154#32
  | 107 => 154#32
  | 108 => 155#32
  | 109 => 155#32
  | 110 => 155#32
  | 111 => 155#32
  | 112 => 155#32
  | 113 => 156#32
  | 114 => 156#32
  | 115 => 156#32
  | 116 => 156#32
  | 117 => 157#32
  | 118 => 158#32
  | 119 => 158#32
  | 120 => 159#32
  | 121 => 160#32
  | 122 => 160#32
  | 123 => 160#32
  | 124 => 160#32
  | 125 => 160#32
  | 126 => 160#32
  | 127 => 160#32
  | _ => 0#32

noncomputable abbrev lit6t0_7 (i : Nat) : BitVec 32 := match i % 128 with
  | 0 => 160#32
  | 1 => 160#32
  | 2 => 160#32
  | 3 => 160#32
  | 4 => 160#32
  | 5 => 160#32
  | 6 => 160#32
  | 7 => 160#32
  | 8 => 160#32
  | 9 => 160#32
  | 10 => 160#32
  | 11 => 160#32
  | 12 => 160#32
  | 13 => 160#32
  | 14 => 160#32
  | 15 => 160#32
  | 16 => 160#32
  | 17 => 160#32
  | 18 => 160#32
  | 19 => 160#32
  | 20 => 160#32
  | 21 => 160#32
  | 22 => 160#32
  | 23 => 160#32
  | 24 => 160#32
  | 25 => 160#32
  | 26 => 160#32
  | 27 => 160#32
  | 28 => 160#32
  | 29 => 160#32
  | 30 => 160#32
  | 31 => 160#32
  | 32 => 160#32
  | 33 => 161#32
  | 34 => 162#32
  | 35 => 162#32
  | 36 => 163#32
  | 37 => 164#32
  | 38 => 164#32
  | 39 => 164#32
  | 40 => 164#32
  | 41 => 165#32
  | 42 => 165#32
  | 43 => 165#32
  | 44 => 165#32
  | 45 => 165#32
  | 46 => 166#32
  | 47 => 166#32
  | 48 => 167#32
  | 49 => 168#32
  | 50 => 168#32
  | 51 => 168#32
  | 52 => 168#32
  | 53 => 168#32
  | 54 => 168#32
  | 55 => 168#32
  | 56 => 168#32
  | 57 => 169#32
  | 58 => 170#32
  | 59 => 170#32
  | 60 => 170#32
  | 61 => 170#32
  | 62 => 170#32
  | 63 => 170#32
  | 64 => 170#32
  | 65 => 170#32
  | 66 => 170#32
  | 67 => 170#32
  | 68 => 171#32
  | 69 => 172#32
  | 70 => 172#32
  | 71 => 172#32
  | 72 => 172#32
  | 73 => 173#32
  | 74 => 174#32
  | 75 => 174#32
  | 76 => 175#32
  | 77 => 175#32
  | 78 => 175#32
  | 79 => 175#32
  | 80 => 175#32
  | 81 => 175#32
  | 82 => 175#32
  | 83 => 175#32
  | 84 => 175#32
  | 85 => 175#32
  | 86 => 175#32
  | 87 => 175#32
  | 88 => 175#32
  | 89 => 175#32
  | 90 => 175#32
  | 91 => 175#32
  | 92 => 175#32
  | 93 => 175#32
  | 94 => 175#32
  | 95 => 175#32
  | 96 => 175#32
  | 97 => 175#32
  | 98 => 175#32
  | 99 => 175#32
  | 100 => 175#32
  | 101 => 176#32
  | 102 => 176#32
  | 103 => 176#32
  | 104 => 176#32
  | 105 => 176#32
  | 106 => 176#32
  | 107 => 176#32
  | 108 => 176#32
  | 109 => 177#32
  | 110 => 178#32
  | 111 => 178#32
  | 112 => 179#32
  | 113 => 180#32
  | 114 => 180#32
  | 115 => 180#32
  | 116 => 180#32
  | 117 => 180#32
  | 118 => 180#32
  | 119 => 180#32
  | 120 => 180#32
  | 121 => 180#32
  | 122 => 180#32
  | 123 => 180#32
  | 124 => 180#32
  | 125 => 180#32
  | 126 => 180#32
  | 127 => 180#32
  | _ => 0#32

noncomputable abbrev lit6t0_8 (i : Nat) : BitVec 32 := match i % 128 with
  | 0 => 180#32
  | 1 => 180#32
  | 2 => 180#32
  | 3 => 180#32
  | 4 => 180#32
  | 5 => 181#32
  | 6 => 182#32
  | 7 => 182#32
  | 8 => 183#32
  | 9 => 184#32
  | 10 => 184#32
  | 11 => 184#32
  | 12 => 184#32
  | 13 => 184#32
  | 14 => 184#32
  | 15 => 184#32
  | 16 => 184#32
  | 17 => 185#32
  | 18 => 185#32
  | 19 => 185#32
  | 20 => 185#32
  | 21 => 185#32
  | 22 => 186#32
  | 23 => 186#32
  | 24 => 187#32
  | 25 => 188#32
  | 26 => 188#32
  | 27 => 188#32
  | 28 => 188#32
  | 29 => 189#32
  | 30 => 190#32
  | 31 => 190#32
  | 32 => 190#32
  | 33 => 190#32
  | 34 => 190#32
  | 35 => 190#32
  | 36 => 190#32
  | 37 => 190#32
  | 38 => 190#32
  | 39 => 190#32
  | 40 => 191#32
  | 41 => 192#32
  | 42 => 192#32
  | 43 => 192#32
  | 44 => 192#32
  | 45 => 192#32
  | 46 => 192#32
  | 47 => 192#32
  | 48 => 192#32
  | 49 => 193#32
  | 50 => 194#32
  | 51 => 194#32
  | 52 => 195#32
  | 53 => 195#32
  | 54 => 195#32
  | 55 => 195#32
  | 56 => 195#32
  | 57 => 196#32
  | 58 => 196#32
  | 59 => 196#32
  | 60 => 196#32
  | 61 => 197#32
  | 62 => 198#32
  | 63 => 198#32
  | 64 => 199#32
  | 65 => 200#32
  | 66 => 200#32
  | 67 => 200#32
  | 68 => 200#32
  | 69 => 200#32
  | 70 => 200#32
  | 71 => 200#32
  | 72 => 200#32
  | 73 => 200#32
  | 74 => 200#32
  | 75 => 200#32
  | 76 => 200#32
  | 77 => 200#32
  | 78 => 200#32
  | 79 => 200#32
  | 80 => 200#32
  | 81 => 200#32
  | 82 => 200#32
  | 83 => 200#32
  | 84 => 200#32
  | 85 => 200#32
  | 86 => 200#32
  | 87 => 200#32
  | 88 => 200#32
  | 89 => 200#32
  | 90 => 200#32
  | 91 => 200#32
  | 92 => 200#32
  | 93 => 200#32
  | 94 => 200#32
  | 95 => 200#32
  | 96 => 200#32
  | 97 => 200#32
  | 98 => 200#32
  | 99 => 200#32
  | 100 => 200#32
  | 101 => 200#32
  | 102 => 200#32
  | 103 => 200#32
  | 104 => 200#32
  | 105 => 200#32
  | 106 => 200#32
  | 107 => 200#32
  | 108 => 200#32
  | 109 => 200#32
  | 110 => 200#32
  | 111 => 200#32
  | 112 => 200#32
  | 113 => 200#32
  | 114 => 200#32
  | 115 => 200#32
  | 116 => 200#32
  | 117 => 200#32
  | 118 => 200#32
  | 119 => 200#32
  | 120 => 200#32
  | 121 => 200#32
  | 122 => 200#32
  | 123 => 200#32
  | 124 => 200#32
  | 125 => 200#32
  | 126 => 200#32
  | 127 => 200#32
  | _ => 0#32

noncomputable abbrev lit6t0_9 (i : Nat) : BitVec 32 := match i % 128 with
  | 0 => 200#32
  | 1 => 200#32
  | 2 => 200#32
  | 3 => 200#32
  | 4 => 200#32
  | 5 => 200#32
  | 6 => 200#32
  | 7 => 200#32
  | 8 => 200#32
  | 9 => 200#32
  | 10 => 200#32
  | 11 => 200#32
  | 12 => 200#32
  | 13 => 200#32
  | 14 => 200#32
  | 15 => 200#32
  | 16 => 200#32
  | 17 => 200#32
  | 18 => 200#32
  | 19 => 200#32
  | 20 => 200#32
  | 21 => 200#32
  | 22 => 200#32
  | 23 => 200#32
  | 24 => 200#32
  | 25 => 200#32
  | 26 => 200#32
  | 27 => 200#32
  | 28 => 200#32
  | 29 => 200#32
  | 30 => 200#32
  | 31 => 200#32
  | 32 => 200#32
  | 33 => 200#32
  | 34 => 200#32
  | 35 => 200#32
  | 36 => 200#32
  | 37 => 200#32
  | 38 => 200#32
  | 39 => 200#32
  | 40 => 200#32
  | 41 => 200#32
  | 42 => 200#32
  | 43 => 200#32
  | 44 => 200#32
  | 45 => 200#32
  | 46 => 200#32
  | 47 => 200#32
  | 48 => 200#32
  | 49 => 200#32
  | 50 => 200#32
  | 51 => 200#32
  | 52 => 200#32
  | 53 => 200#32
  | 54 => 200#32
  | 55 => 200#32
  | 56 => 200#32
  | 57 => 200#32
  | 58 => 200#32
  | 59 => 200#32
  | 60 => 200#32
  | 61 => 200#32
  | 62 => 200#32
  | 63 => 200#32
  | 64 => 200#32
  | 65 => 200#32
  | 66 => 200#32
  | 67 => 200#32
  | 68 => 200#32
  | 69 => 200#32
  | 70 => 200#32
  | 71 => 200#32
  | 72 => 200#32
  | 73 => 200#32
  | 74 => 200#32
  | 75 => 200#32
  | 76 => 200#32
  | 77 => 200#32
  | 78 => 200#32
  | 79 => 200#32
  | 80 => 200#32
  | 81 => 200#32
  | 82 => 200#32
  | 83 => 200#32
  | 84 => 200#32
  | 85 => 200#32
  | 86 => 200#32
  | 87 => 200#32
  | 88 => 200#32
  | 89 => 200#32
  | 90 => 200#32
  | 91 => 200#32
  | 92 => 200#32
  | 93 => 200#32
  | 94 => 200#32
  | 95 => 200#32
  | 96 => 200#32
  | 97 => 200#32
  | 98 => 200#32
  | 99 => 200#32
  | 100 => 200#32
  | 101 => 200#32
  | 102 => 200#32
  | 103 => 200#32
  | 104 => 200#32
  | 105 => 200#32
  | 106 => 200#32
  | 107 => 200#32
  | 108 => 200#32
  | 109 => 200#32
  | 110 => 200#32
  | 111 => 200#32
  | 112 => 200#32
  | 113 => 200#32
  | 114 => 200#32
  | 115 => 200#32
  | 116 => 200#32
  | 117 => 200#32
  | 118 => 200#32
  | 119 => 200#32
  | 120 => 200#32
  | 121 => 200#32
  | 122 => 200#32
  | 123 => 200#32
  | 124 => 200#32
  | 125 => 200#32
  | 126 => 200#32
  | 127 => 200#32
  | _ => 0#32

noncomputable abbrev lit6t0_10 (i : Nat) : BitVec 32 := match i % 128 with
  | 0 => 200#32
  | 1 => 200#32
  | 2 => 200#32
  | 3 => 200#32
  | 4 => 200#32
  | 5 => 200#32
  | 6 => 200#32
  | 7 => 200#32
  | 8 => 201#32
  | 9 => 202#32
  | 10 => 202#32
  | 11 => 203#32
  | 12 => 204#32
  | 13 => 204#32
  | 14 => 204#32
  | 15 => 204#32
  | 16 => 205#32
  | 17 => 205#32
  | 18 => 205#32
  | 19 => 205#32
  | 20 => 205#32
  | 21 => 206#32
  | 22 => 206#32
  | 23 => 207#32
  | 24 => 208#32
  | 25 => 208#32
  | 26 => 208#32
  | 27 => 208#32
  | 28 => 208#32
  | 29 => 208#32
  | 30 => 208#32
  | 31 => 208#32
  | 32 => 209#32
  | 33 => 210#32
  | 34 => 210#32
  | 35 => 210#32
  | 36 => 210#32
  | 37 => 210#32
  | 38 => 210#32
  | 39 => 210#32
  | 40 => 210#32
  | 41 => 210#32
  | 42 => 210#32
  | 43 => 211#32
  | 44 => 212#32
  | 45 => 212#32
  | 46 => 212#32
  | 47 => 212#32
  | 48 => 213#32
  | 49 => 214#32
  | 50 => 214#32
  | 51 => 215#32
  | 52 => 215#32
  | 53 => 215#32
  | 54 => 215#32
  | 55 => 215#32
  | 56 => 216#32
  | 57 => 216#32
  | 58 => 216#32
  | 59 => 216#32
  | 60 => 216#32
  | 61 => 216#32
  | 62 => 216#32
  | 63 => 216#32
  | 64 => 217#32
  | 65 => 218#32
  | 66 => 218#32
  | 67 => 219#32
  | 68 => 220#32
  | 69 => 220#32
  | 70 => 220#32
  | 71 => 220#32
  | 72 => 220#32
  | 73 => 220#32
  | 74 => 220#32
  | 75 => 220#32
  | 76 => 220#32
  | 77 => 220#32
  | 78 => 220#32
  | 79 => 220#32
  | 80 => 220#32
  | 81 => 220#32
  | 82 => 220#32
  | 83 => 220#32
  | 84 => 220#32
  | 85 => 220#32
  | 86 => 220#32
  | 87 => 220#32
  | 88 => 221#32
  | 89 => 222#32
  | 90 => 222#32
  | 91 => 223#32
  | 92 => 224#32
  | 93 => 224#32
  | 94 => 224#32
  | 95 => 224#32
  | 96 => 224#32
  | 97 => 224#32
  | 98 => 224#32
  | 99 => 224#32
  | 100 => 225#32
  | 101 => 225#32
  | 102 => 225#32
  | 103 => 225#32
  | 104 => 225#32
  | 105 => 225#32
  | 106 => 225#32
  | 107 => 225#32
  | 108 => 225#32
  | 109 => 225#32
  | 110 => 225#32
  | 111 => 225#32
  | 112 => 225#32
  | 113 => 225#32
  | 114 => 225#32
  | 115 => 225#32
  | 116 => 225#32
  | 117 => 225#32
  | 118 => 225#32
  | 119 => 225#32
  | 120 => 225#32
  | 121 => 225#32
  | 122 => 225#32
  | 123 => 225#32
  | 124 => 225#32
  | 125 => 226#32
  | 126 => 226#32
  | 127 => 227#32
  | _ => 0#32

noncomputable abbrev lit6t0_11 (i : Nat) : BitVec 32 := match i % 128 with
  | 0 => 228#32
  | 1 => 228#32
  | 2 => 228#32
  | 3 => 228#32
  | 4 => 229#32
  | 5 => 230#32
  | 6 => 230#32
  | 7 => 230#32
  | 8 => 230#32
  | 9 => 230#32
  | 10 => 230#32
  | 11 => 230#32
  | 12 => 230#32
  | 13 => 230#32
  | 14 => 230#32
  | 15 => 231#32
  | 16 => 232#32
  | 17 => 232#32
  | 18 => 232#32
  | 19 => 232#32
  | 20 => 232#32
  | 21 => 232#32
  | 22 => 232#32
  | 23 => 232#32
  | 24 => 233#32
  | 25 => 234#32
  | 26 => 234#32
  | 27 => 235#32
  | 28 => 235#32
  | 29 => 235#32
  | 30 => 235#32
  | 31 => 235#32
  | 32 => 236#32
  | 33 => 236#32
  | 34 => 236#32
  | 35 => 236#32
  | 36 => 237#32
  | 37 => 238#32
  | 38 => 238#32
  | 39 => 239#32
  | 40 => 240#32
  | 41 => 240#32
  | 42 => 240#32
  | 43 => 240#32
  | 44 => 240#32
  | 45 => 240#32
  | 46 => 240#32
  | 47 => 240#32
  | 48 => 240#32
  | 49 => 240#32
  | 50 => 240#32
  | 51 => 240#32
  | 52 => 240#32
  | 53 => 240#32
  | 54 => 240#32
  | 55 => 240#32
  | 56 => 240#32
  | 57 => 240#32
  | 58 => 240#32
  | 59 => 240#32
  | 60 => 240#32
  | 61 => 240#32
  | 62 => 240#32
  | 63 => 240#32
  | 64 => 240#32
  | 65 => 240#32
  | 66 => 240#32
  | 67 => 240#32
  | 68 => 240#32
  | 69 => 240#32
  | 70 => 240#32
  | 71 => 240#32
  | 72 => 240#32
  | 73 => 240#32
  | 74 => 240#32
  | 75 => 240#32
  | 76 => 240#32
  | 77 => 240#32
  | 78 => 240#32
  | 79 => 240#32
  | 80 => 241#32
  | 81 => 242#32
  | 82 => 242#32
  | 83 => 243#32
  | 84 => 244#32
  | 85 => 244#32
  | 86 => 244#32
  | 87 => 244#32
  | 88 => 245#32
  | 89 => 245#32
  | 90 => 245#32
  | 91 => 245#32
  | 92 => 245#32
  | 93 => 246#32
  | 94 => 246#32
  | 95 => 247#32
  | 96 => 248#32
  | 97 => 248#32
  | 98 => 248#32
  | 99 => 248#32
  | 100 => 248#32
  | 101 => 248#32
  | 102 => 248#32
  | 103 => 248#32
  | 104 => 249#32
  | 105 => 250#32
  | 106 => 250#32
  | 107 => 250#32
  | 108 => 250#32
  | 109 => 250#32
  | 110 => 250#32
  | 111 => 250#32
  | 112 => 250#32
  | 113 => 250#32
  | 114 => 250#32
  | 115 => 250#32
  | 116 => 250#32
  | 117 => 250#32
  | 118 => 250#32
  | 119 => 250#32
  | 120 => 250#32
  | 121 => 250#32
  | 122 => 250#32
  | 123 => 250#32
  | 124 => 250#32
  | 125 => 250#32
  | 126 => 250#32
  | 127 => 250#32
  | _ => 0#32

noncomputable abbrev lit6t0_12 (i : Nat) : BitVec 32 := match i % 128 with
  | 0 => 250#32
  | 1 => 250#32
  | 2 => 250#32
  | 3 => 250#32
  | 4 => 250#32
  | 5 => 250#32
  | 6 => 250#32
  | 7 => 250#32
  | 8 => 250#32
  | 9 => 250#32
  | 10 => 250#32
  | 11 => 250#32
  | 12 => 250#32
  | 13 => 250#32
  | 14 => 250#32
  | 15 => 250#32
  | 16 => 250#32
  | 17 => 250#32
  | 18 => 250#32
  | 19 => 250#32
  | 20 => 250#32
  | 21 => 250#32
  | 22 => 250#32
  | 23 => 250#32
  | 24 => 250#32
  | 25 => 250#32
  | 26 => 250#32
  | 27 => 251#32
  | 28 => 252#32
  | 29 => 252#32
  | 30 => 252#32
  | 31 => 252#32
  | 32 => 253#32
  | 33 => 254#32
  | 34 => 254#32
  | 35 => 255#32
  | 36 => 255#32
  | 37 => 255#32
  | 38 => 255#32
  | 39 => 255#32
  | 40 => 256#32
  | 41 => 256#32
  | 42 => 256#32
  | 43 => 256#32
  | 44 => 256#32
  | 45 => 256#32
  | 46 => 256#32
  | 47 => 256#32
  | 48 => 257#32
  | 49 => 258#32
  | 50 => 258#32
  | 51 => 259#32
  | 52 => 260#32
  | 53 => 260#32
  | 54 => 260#32
  | 55 => 260#32
  | 56 => 260#32
  | 57 => 260#32
  | 58 => 260#32
  | 59 => 260#32
  | 60 => 260#32
  | 61 => 260#32
  | 62 => 260#32
  | 63 => 260#32
  | 64 => 260#32
  | 65 => 260#32
  | 66 => 260#32
  | 67 => 260#32
  | 68 => 260#32
  | 69 => 260#32
  | 70 => 260#32
  | 71 => 260#32
  | 72 => 261#32
  | 73 => 262#32
  | 74 => 262#32
  | 75 => 263#32
  | 76 => 264#32
  | 77 => 264#32
  | 78 => 264#32
  | 79 => 264#32
  | 80 => 264#32
  | 81 => 264#32
  | 82 => 264#32
  | 83 => 264#32
  | 84 => 265#32
  | 85 => 265#32
  | 86 => 265#32
  | 87 => 265#32
  | 88 => 265#32
  | 89 => 266#32
  | 90 => 266#32
  | 91 => 267#32
  | 92 => 268#32
  | 93 => 268#32
  | 94 => 268#32
  | 95 => 268#32
  | 96 => 269#32
  | 97 => 270#32
  | 98 => 270#32
  | 99 => 270#32
  | 100 => 270#32
  | 101 => 270#32
  | 102 => 270#32
  | 103 => 270#32
  | 104 => 270#32
  | 105 => 270#32
  | 106 => 270#32
  | 107 => 271#32
  | 108 => 272#32
  | 109 => 272#32
  | 110 => 272#32
  | 111 => 272#32
  | 112 => 272#32
  | 113 => 272#32
  | 114 => 272#32
  | 115 => 272#32
  | 116 => 273#32
  | 117 => 274#32
  | 118 => 274#32
  | 119 => 275#32
  | 120 => 275#32
  | 121 => 275#32
  | 122 => 275#32
  | 123 => 275#32
  | 124 => 275#32
  | 125 => 275#32
  | 126 => 275#32
  | 127 => 275#32
  | _ => 0#32

noncomputable abbrev lit6t0_13 (i : Nat) : BitVec 32 := match i % 128 with
  | 0 => 275#32
  | 1 => 275#32
  | 2 => 275#32
  | 3 => 275#32
  | 4 => 275#32
  | 5 => 275#32
  | 6 => 275#32
  | 7 => 275#32
  | 8 => 275#32
  | 9 => 275#32
  | 10 => 275#32
  | 11 => 275#32
  | 12 => 275#32
  | 13 => 275#32
  | 14 => 275#32
  | 15 => 275#32
  | 16 => 276#32
  | 17 => 276#32
  | 18 => 276#32
  | 19 => 276#32
  | 20 => 277#32
  | 21 => 278#32
  | 22 => 278#32
  | 23 => 279#32
  | 24 => 280#32
  | 25 => 280#32
  | 26 => 280#32
  | 27 => 280#32
  | 28 => 280#32
  | 29 => 280#32
  | 30 => 280#32
  | 31 => 280#32
  | 32 => 280#32
  | 33 => 280#32
  | 34 => 280#32
  | 35 => 280#32
  | 36 => 280#32
  | 37 => 280#32
  | 38 => 280#32
  | 39 => 280#32
  | 40 => 280#32
  | 41 => 280#32
  | 42 => 280#32
  | 43 => 280#32
  | 44 => 280#32
  | 45 => 280#32
  | 46 => 280#32
  | 47 => 280#32
  | 48 => 280#32
  | 49 => 280#32
  | 50 => 280#32
  | 51 => 280#32
  | 52 => 280#32
  | 53 => 280#32
  | 54 => 280#32
  | 55 => 280#32
  | 56 => 280#32
  | 57 => 280#32
  | 58 => 280#32
  | 59 => 280#32
  | 60 => 280#32
  | 61 => 280#32
  | 62 => 280#32
  | 63 => 280#32
  | 64 => 281#32
  | 65 => 282#32
  | 66 => 282#32
  | 67 => 283#32
  | 68 => 284#32
  | 69 => 284#32
  | 70 => 284#32
  | 71 => 284#32
  | 72 => 285#32
  | 73 => 285#32
  | 74 => 285#32
  | 75 => 285#32
  | 76 => 285#32
  | 77 => 286#32
  | 78 => 286#32
  | 79 => 287#32
  | 80 => 288#32
  | 81 => 288#32
  | 82 => 288#32
  | 83 => 288#32
  | 84 => 288#32
  | 85 => 288#32
  | 86 => 288#32
  | 87 => 288#32
  | 88 => 289#32
  | 89 => 290#32
  | 90 => 290#32
  | 91 => 290#32
  | 92 => 290#32
  | 93 => 290#32
  | 94 => 290#32
  | 95 => 290#32
  | 96 => 290#32
  | 97 => 290#32
  | 98 => 290#32
  | 99 => 291#32
  | 100 => 292#32
  | 101 => 292#32
  | 102 => 292#32
  | 103 => 292#32
  | 104 => 293#32
  | 105 => 294#32
  | 106 => 294#32
  | 107 => 295#32
  | 108 => 295#32
  | 109 => 295#32
  | 110 => 295#32
  | 111 => 295#32
  | 112 => 296#32
  | 113 => 296#32
  | 114 => 296#32
  | 115 => 296#32
  | 116 => 296#32
  | 117 => 296#32
  | 118 => 296#32
  | 119 => 296#32
  | 120 => 297#32
  | 121 => 298#32
  | 122 => 298#32
  | 123 => 299#32
  | 124 => 300#32
  | 125 => 300#32
  | 126 => 300#32
  | 127 => 300#32
  | _ => 0#32

noncomputable abbrev lit6t0_14 (i : Nat) : BitVec 32 := match i % 128 with
  | 0 => 300#32
  | 1 => 300#32
  | 2 => 300#32
  | 3 => 300#32
  | 4 => 300#32
  | 5 => 300#32
  | 6 => 300#32
  | 7 => 300#32
  | 8 => 300#32
  | 9 => 300#32
  | 10 => 300#32
  | 11 => 300#32
  | 12 => 300#32
  | 13 => 300#32
  | 14 => 300#32
  | 15 => 300#32
  | 16 => 300#32
  | 17 => 300#32
  | 18 => 300#32
  | 19 => 300#32
  | 20 => 300#32
  | 21 => 300#32
  | 22 => 300#32
  | 23 => 300#32
  | 24 => 300#32
  | 25 => 300#32
  | 26 => 300#32
  | 27 => 300#32
  | 28 => 300#32
  | 29 => 300#32
  | 30 => 300#32
  | 31 => 300#32
  | 32 => 300#32
  | 33 => 300#32
  | 34 => 300#32
  | 35 => 300#32
  | 36 => 300#32
  | 37 => 300#32
  | 38 => 300#32
  | 39 => 300#32
  | 40 => 300#32
  | 41 => 300#32
  | 42 => 300#32
  | 43 => 300#32
  | 44 => 300#32
  | 45 => 300#32
  | 46 => 300#32
  | 47 => 300#32
  | 48 => 300#32
  | 49 => 300#32
  | 50 => 300#32
  | 51 => 300#32
  | 52 => 300#32
  | 53 => 300#32
  | 54 => 300#32
  | 55 => 300#32
  | 56 => 300#32
  | 57 => 300#32
  | 58 => 300#32
  | 59 => 300#32
  | 60 => 300#32
  | 61 => 300#32
  | 62 => 300#32
  | 63 => 300#32
  | 64 => 300#32
  | 65 => 300#32
  | 66 => 300#32
  | 67 => 300#32
  | 68 => 300#32
  | 69 => 300#32
  | 70 => 300#32
  | 71 => 300#32
  | 72 => 300#32
  | 73 => 300#32
  | 74 => 300#32
  | 75 => 300#32
  | 76 => 300#32
  | 77 => 300#32
  | 78 => 300#32
  | 79 => 300#32
  | 80 => 300#32
  | 81 => 300#32
  | 82 => 300#32
  | 83 => 300#32
  | 84 => 300#32
  | 85 => 300#32
  | 86 => 300#32
  | 87 => 300#32
  | 88 => 300#32
  | 89 => 300#32
  | 90 => 300#32
  | 91 => 300#32
  | 92 => 300#32
  | 93 => 300#32
  | 94 => 300#32
  | 95 => 300#32
  | 96 => 301#32
  | 97 => 302#32
  | 98 => 302#32
  | 99 => 303#32
  | 100 => 304#32
  | 101 => 304#32
  | 102 => 304#32
  | 103 => 304#32
  | 104 => 304#32
  | 105 => 304#32
  | 106 => 304#32
  | 107 => 304#32
  | 108 => 305#32
  | 109 => 305#32
  | 110 => 305#32
  | 111 => 305#32
  | 112 => 305#32
  | 113 => 306#32
  | 114 => 306#32
  | 115 => 307#32
  | 116 => 308#32
  | 117 => 308#32
  | 118 => 308#32
  | 119 => 308#32
  | 120 => 309#32
  | 121 => 310#32
  | 122 => 310#32
  | 123 => 310#32
  | 124 => 310#32
  | 125 => 310#32
  | 126 => 310#32
  | 127 => 310#32
  | _ => 0#32

noncomputable abbrev lit6t0_15 (i : Nat) : BitVec 32 := match i % 128 with
  | 0 => 310#32
  | 1 => 310#32
  | 2 => 310#32
  | 3 => 311#32
  | 4 => 312#32
  | 5 => 312#32
  | 6 => 312#32
  | 7 => 312#32
  | 8 => 312#32
  | 9 => 312#32
  | 10 => 312#32
  | 11 => 312#32
  | 12 => 313#32
  | 13 => 314#32
  | 14 => 314#32
  | 15 => 315#32
  | 16 => 315#32
  | 17 => 315#32
  | 18 => 315#32
  | 19 => 315#32
  | 20 => 316#32
  | 21 => 316#32
  | 22 => 316#32
  | 23 => 316#32
  | 24 => 317#32
  | 25 => 318#32
  | 26 => 318#32
  | 27 => 319#32
  | 28 => 320#32
  | 29 => 320#32
  | 30 => 320#32
  | 31 => 320#32
  | 32 => 320#32
  | 33 => 320#32
  | 34 => 320#32
  | 35 => 320#32
  | 36 => 320#32
  | 37 => 320#32
  | 38 => 320#32
  | 39 => 320#32
  | 40 => 320#32
  | 41 => 320#32
  | 42 => 320#32
  | 43 => 320#32
  | 44 => 320#32
  | 45 => 320#32
  | 46 => 320#32
  | 47 => 320#32
  | 48 => 320#32
  | 49 => 320#32
  | 50 => 320#32
  | 51 => 320#32
  | 52 => 320#32
  | 53 => 320#32
  | 54 => 320#32
  | 55 => 320#32
  | 56 => 320#32
  | 57 => 320#32
  | 58 => 320#32
  | 59 => 320#32
  | 60 => 320#32
  | 61 => 320#32
  | 62 => 320#32
  | 63 => 320#32
  | 64 => 320#32
  | 65 => 320#32
  | 66 => 320#32
  | 67 => 320#32
  | 68 => 321#32
  | 69 => 322#32
  | 70 => 322#32
  | 71 => 323#32
  | 72 => 324#32
  | 73 => 324#32
  | 74 => 324#32
  | 75 => 324#32
  | 76 => 325#32
  | 77 => 325#32
  | 78 => 325#32
  | 79 => 325#32
  | 80 => 325#32
  | 81 => 325#32
  | 82 => 325#32
  | 83 => 325#32
  | 84 => 325#32
  | 85 => 325#32
  | 86 => 325#32
  | 87 => 325#32
  | 88 => 325#32
  | 89 => 325#32
  | 90 => 325#32
  | 91 => 325#32
  | 92 => 325#32
  | 93 => 325#32
  | 94 => 325#32
  | 95 => 325#32
  | 96 => 325#32
  | 97 => 325#32
  | 98 => 325#32
  | 99 => 325#32
  | 100 => 325#32
  | 101 => 326#32
  | 102 => 326#32
  | 103 => 327#32
  | 104 => 328#32
  | 105 => 328#32
  | 106 => 328#32
  | 107 => 328#32
  | 108 => 328#32
  | 109 => 328#32
  | 110 => 328#32
  | 111 => 328#32
  | 112 => 329#32
  | 113 => 330#32
  | 114 => 330#32
  | 115 => 330#32
  | 116 => 330#32
  | 117 => 330#32
  | 118 => 330#32
  | 119 => 330#32
  | 120 => 330#32
  | 121 => 330#32
  | 122 => 330#32
  | 123 => 331#32
  | 124 => 332#32
  | 125 => 332#32
  | 126 => 332#32
  | 127 => 332#32
  | _ => 0#32

noncomputable abbrev lit6t0_16 (i : Nat) : BitVec 32 := match i % 128 with
  | 0 => 333#32
  | 1 => 334#32
  | 2 => 334#32
  | 3 => 335#32
  | 4 => 335#32
  | 5 => 335#32
  | 6 => 335#32
  | 7 => 335#32
  | 8 => 336#32
  | 9 => 336#32
  | 10 => 336#32
  | 11 => 336#32
  | 12 => 336#32
  | 13 => 336#32
  | 14 => 336#32
  | 15 => 336#32
  | 16 => 337#32
  | 17 => 338#32
  | 18 => 338#32
  | 19 => 339#32
  | 20 => 340#32
  | 21 => 340#32
  | 22 => 340#32
  | 23 => 340#32
  | 24 => 340#32
  | 25 => 340#32
  | 26 => 340#32
  | 27 => 340#32
  | 28 => 340#32
  | 29 => 340#32
  | 30 => 340#32
  | 31 => 340#32
  | 32 => 340#32
  | 33 => 340#32
  | 34 => 340#32
  | 35 => 340#32
  | 36 => 340#32
  | 37 => 340#32
  | 38 => 340#32
  | 39 => 340#32
  | 40 => 341#32
  | 41 => 342#32
  | 42 => 342#32
  | 43 => 343#32
  | 44 => 344#32
  | 45 => 344#32
  | 46 => 344#32
  | 47 => 344#32
  | 48 => 344#32
  | 49 => 344#32
  | 50 => 344#32
  | 51 => 344#32
  | 52 => 345#32
  | 53 => 345#32
  | 54 => 345#32
  | 55 => 345#32
  | 56 => 345#32
  | 57 => 346#32
  | 58 => 346#32
  | 59 => 347#32
  | 60 => 348#32
  | 61 => 348#32
  | 62 => 348#32
  | 63 => 348#32
  | 64 => 349#32
  | 65 => 350#32
  | 66 => 350#32
  | 67 => 350#32
  | 68 => 350#32
  | 69 => 350#32
  | 70 => 350#32
  | 71 => 350#32
  | 72 => 350#32
  | 73 => 350#32
  | 74 => 350#32
  | 75 => 350#32
  | 76 => 350#32
  | 77 => 350#32
  | 78 => 350#32
  | 79 => 350#32
  | 80 => 350#32
  | 81 => 350#32
  | 82 => 350#32
  | 83 => 350#32
  | 84 => 350#32
  | 85 => 350#32
  | 86 => 350#32
  | 87 => 350#32
  | 88 => 350#32
  | 89 => 350#32
  | 90 => 350#32
  | 91 => 350#32
  | 92 => 350#32
  | 93 => 350#32
  | 94 => 350#32
  | 95 => 350#32
  | 96 => 350#32
  | 97 => 350#32
  | 98 => 350#32
  | 99 => 350#32
  | 100 => 350#32
  | 101 => 350#32
  | 102 => 350#32
  | 103 => 350#32
  | 104 => 350#32
  | 105 => 350#32
  | 106 => 350#32
  | 107 => 350#32
  | 108 => 350#32
  | 109 => 350#32
  | 110 => 350#32
  | 111 => 350#32
  | 112 => 350#32
  | 113 => 350#32
  | 114 => 350#32
  | 115 => 351#32
  | 116 => 352#32
  | 117 => 352#32
  | 118 => 352#32
  | 119 => 352#32
  | 120 => 352#32
  | 121 => 352#32
  | 122 => 352#32
  | 123 => 352#32
  | 124 => 353#32
  | 125 => 354#32
  | 126 => 354#32
  | 127 => 355#32
  | _ => 0#32

noncomputable abbrev lit6t0_17 (i : Nat) : BitVec 32 := match i % 128 with
  | 0 => 355#32
  | 1 => 355#32
  | 2 => 355#32
  | 3 => 355#32
  | 4 => 356#32
  | 5 => 356#32
  | 6 => 356#32
  | 7 => 356#32
  | 8 => 357#32
  | 9 => 358#32
  | 10 => 358#32
  | 11 => 359#32
  | 12 => 360#32
  | 13 => 360#32
  | 14 => 360#32
  | 15 => 360#32
  | 16 => 360#32
  | 17 => 360#32
  | 18 => 360#32
  | 19 => 360#32
  | 20 => 360#32
  | 21 => 360#32
  | 22 => 360#32
  | 23 => 360#32
  | 24 => 360#32
  | 25 => 360#32
  | 26 => 360#32
  | 27 => 360#32
  | 28 => 360#32
  | 29 => 360#32
  | 30 => 360#32
  | 31 => 360#32
  | 32 => 360#32
  | 33 => 360#32
  | 34 => 360#32
  | 35 => 360#32
  | 36 => 360#32
  | 37 => 360#32
  | 38 => 360#32
  | 39 => 360#32
  | 40 => 360#32
  | 41 => 360#32
  | 42 => 360#32
  | 43 => 360#32
  | 44 => 360#32
  | 45 => 360#32
  | 46 => 360#32
  | 47 => 360#32
  | 48 => 360#32
  | 49 => 360#32
  | 50 => 360#32
  | 51 => 360#32
  | 52 => 361#32
  | 53 => 362#32
  | 54 => 362#32
  | 55 => 363#32
  | 56 => 364#32
  | 57 => 364#32
  | 58 => 364#32
  | 59 => 364#32
  | 60 => 365#32
  | 61 => 365#32
  | 62 => 365#32
  | 63 => 365#32
  | 64 => 365#32
  | 65 => 366#32
  | 66 => 366#32
  | 67 => 367#32
  | 68 => 368#32
  | 69 => 368#32
  | 70 => 368#32
  | 71 => 368#32
  | 72 => 368#32
  | 73 => 368#32
  | 74 => 368#32
  | 75 => 368#32
  | 76 => 369#32
  | 77 => 370#32
  | 78 => 370#32
  | 79 => 370#32
  | 80 => 370#32
  | 81 => 370#32
  | 82 => 370#32
  | 83 => 370#32
  | 84 => 370#32
  | 85 => 370#32
  | 86 => 370#32
  | 87 => 371#32
  | 88 => 372#32
  | 89 => 372#32
  | 90 => 372#32
  | 91 => 372#32
  | 92 => 373#32
  | 93 => 374#32
  | 94 => 374#32
  | 95 => 375#32
  | 96 => 375#32
  | 97 => 375#32
  | 98 => 375#32
  | 99 => 375#32
  | 100 => 375#32
  | 101 => 375#32
  | 102 => 375#32
  | 103 => 375#32
  | 104 => 375#32
  | 105 => 375#32
  | 106 => 375#32
  | 107 => 375#32
  | 108 => 375#32
  | 109 => 375#32
  | 110 => 375#32
  | 111 => 375#32
  | 112 => 375#32
  | 113 => 375#32
  | 114 => 375#32
  | 115 => 375#32
  | 116 => 375#32
  | 117 => 375#32
  | 118 => 375#32
  | 119 => 375#32
  | 120 => 376#32
  | 121 => 376#32
  | 122 => 376#32
  | 123 => 376#32
  | 124 => 376#32
  | 125 => 376#32
  | 126 => 376#32
  | 127 => 376#32
  | _ => 0#32

noncomputable abbrev lit6t0_18 (i : Nat) : BitVec 32 := match i % 128 with
  | 0 => 377#32
  | 1 => 378#32
  | 2 => 378#32
  | 3 => 379#32
  | 4 => 380#32
  | 5 => 380#32
  | 6 => 380#32
  | 7 => 380#32
  | 8 => 380#32
  | 9 => 380#32
  | 10 => 380#32
  | 11 => 380#32
  | 12 => 380#32
  | 13 => 380#32
  | 14 => 380#32
  | 15 => 380#32
  | 16 => 380#32
  | 17 => 380#32
  | 18 => 380#32
  | 19 => 380#32
  | 20 => 380#32
  | 21 => 380#32
  | 22 => 380#32
  | 23 => 380#32
  | 24 => 381#32
  | 25 => 382#32
  | 26 => 382#32
  | 27 => 383#32
  | 28 => 384#32
  | 29 => 384#32
  | 30 => 384#32
  | 31 => 384#32
  | 32 => 384#32
  | 33 => 384#32
  | 34 => 384#32
  | 35 => 384#32
  | 36 => 385#32
  | 37 => 385#32
  | 38 => 385#32
  | 39 => 385#32
  | 40 => 385#32
  | 41 => 386#32
  | 42 => 386#32
  | 43 => 387#32
  | 44 => 388#32
  | 45 => 388#32
  | 46 => 388#32
  | 47 => 388#32
  | 48 => 389#32
  | 49 => 390#32
  | 50 => 390#32
  | 51 => 390#32
  | 52 => 390#32
  | 53 => 390#32
  | 54 => 390#32
  | 55 => 390#32
  | 56 => 390#32
  | 57 => 390#32
  | 58 => 390#32
  | 59 => 391#32
  | 60 => 392#32
  | 61 => 392#32
  | 62 => 392#32
  | 63 => 392#32
  | 64 => 392#32
  | 65 => 392#32
  | 66 => 392#32
  | 67 => 392#32
  | 68 => 393#32
  | 69 => 394#32
  | 70 => 394#32
  | 71 => 395#32
  | 72 => 395#32
  | 73 => 395#32
  | 74 => 395#32
  | 75 => 395#32
  | 76 => 396#32
  | 77 => 396#32
  | 78 => 396#32
  | 79 => 396#32
  | 80 => 397#32
  | 81 => 398#32
  | 82 => 398#32
  | 83 => 399#32
  | _ => 0#32

noncomputable abbrev lit6t (i : Nat) : BitVec 32 := match i / 128 with
  | 0 => lit6t0_0 i
  | 1 => lit6t0_1 i
  | 2 => lit6t0_2 i
  | 3 => lit6t0_3 i
  | 4 => lit6t0_4 i
  | 5 => lit6t0_5 i
  | 6 => lit6t0_6 i
  | 7 => lit6t0_7 i
  | 8 => lit6t0_8 i
  | 9 => lit6t0_9 i
  | 10 => lit6t0_10 i
  | 11 => lit6t0_11 i
  | 12 => lit6t0_12 i
  | 13 => lit6t0_13 i
  | 14 => lit6t0_14 i
  | 15 => lit6t0_15 i
  | 16 => lit6t0_16 i
  | 17 => lit6t0_17 i
  | 18 => lit6t0_18 i
  | _ => 0#32

noncomputable abbrev lit6 : Fin 2388 → BitVec 32 := fun ⟨i, _⟩ => lit6t i

noncomputable abbrev lit7t0_0 (i : Nat) : BitVec 32 := match i % 128 with
  | 0 => 200#32
  | 1 => 200#32
  | 2 => 100#32
  | 3 => 150#32
  | 4 => 200#32
  | 5 => 80#32
  | 6 => 120#32
  | 7 => 160#32
  | 8 => 200#32
  | 9 => 100#32
  | 10 => 200#32
  | 11 => 200#32
  | 12 => 50#32
  | 13 => 75#32
  | 14 => 100#32
  | 15 => 125#32
  | 16 => 150#32
  | 17 => 175#32
  | 18 => 200#32
  | 19 => 200#32
  | 20 => 40#32
  | 21 => 60#32
  | 22 => 80#32
  | 23 => 100#32
  | 24 => 120#32
  | 25 => 140#32
  | 26 => 160#32
  | 27 => 180#32
  | 28 => 200#32
  | 29 => 200#32
  | 30 => 50#32
  | 31 => 100#32
  | 32 => 150#32
  | 33 => 200#32
  | 34 => 200#32
  | 35 => 100#32
  | 36 => 200#32
  | 37 => 40#32
  | 38 => 80#32
  | 39 => 120#32
  | 40 => 160#32
  | 41 => 200#32
  | 42 => 25#32
  | 43 => 50#32
  | 44 => 75#32
  | 45 => 100#32
  | 46 => 125#32
  | 47 => 150#32
  | 48 => 175#32
  | 49 => 200#32
  | 50 => 200#32
  | 51 => 100#32
  | 52 => 200#32
  | 53 => 200#32
  | 54 => 20#32
  | 55 => 30#32
  | 56 => 40#32
  | 57 => 50#32
  | 58 => 60#32
  | 59 => 70#32
  | 60 => 80#32
  | 61 => 90#32
  | 62 => 100#32
  | 63 => 110#32
  | 64 => 120#32
  | 65 => 130#32
  | 66 => 140#32
  | 67 => 150#32
  | 68 => 160#32
  | 69 => 170#32
  | 70 => 180#32
  | 71 => 190#32
  | 72 => 200#32
  | 73 => 200#32
  | 74 => 100#32
  | 75 => 200#32
  | 76 => 200#32
  | 77 => 25#32
  | 78 => 50#32
  | 79 => 75#32
  | 80 => 100#32
  | 81 => 125#32
  | 82 => 150#32
  | 83 => 175#32
  | 84 => 200#32
  | 85 => 16#32
  | 86 => 24#32
  | 87 => 32#32
  | 88 => 40#32
  | 89 => 48#32
  | 90 => 56#32
  | 91 => 64#32
  | 92 => 72#32
  | 93 => 80#32
  | 94 => 88#32
  | 95 => 96#32
  | 96 => 104#32
  | 97 => 112#32
  | 98 => 120#32
  | 99 => 128#32
  | 100 => 136#32
  | 101 => 144#32
  | 102 => 152#32
  | 103 => 160#32
  | 104 => 168#32
  | 105 => 176#32
  | 106 => 184#32
  | 107 => 192#32
  | 108 => 200#32
  | 109 => 100#32
  | 110 => 200#32
  | 111 => 200#32
  | 112 => 50#32
  | 113 => 100#32
  | 114 => 150#32
  | 115 => 200#32
  | 116 => 200#32
  | 117 => 20#32
  | 118 => 40#32
  | 119 => 60#32
  | 120 => 80#32
  | 121 => 100#32
  | 122 => 120#32
  | 123 => 140#32
  | 124 => 160#32
  | 125 => 180#32
  | 126 => 200#32
  | 127 => 200#32
  | _ => 0#32

noncomputable abbrev lit7t0_1 (i : Nat) : BitVec 32 := match i % 128 with
  | 0 => 25#32
  | 1 => 50#32
  | 2 => 75#32
  | 3 => 100#32
  | 4 => 125#32
  | 5 => 150#32
  | 6 => 175#32
  | 7 => 200#32
  | 8 => 200#32
  | 9 => 100#32
  | 10 => 200#32
  | 11 => 40#32
  | 12 => 80#32
  | 13 => 120#32
  | 14 => 160#32
  | 15 => 200#32
  | 16 => 50#32
  | 17 => 100#32
  | 18 => 150#32
  | 19 => 200#32
  | 20 => 200#32
  | 21 => 100#32
  | 22 => 200#32
  | 23 => 200#32
  | 24 => 10#32
  | 25 => 15#32
  | 26 => 20#32
  | 27 => 25#32
  | 28 => 30#32
  | 29 => 35#32
  | 30 => 40#32
  | 31 => 45#32
  | 32 => 50#32
  | 33 => 55#32
  | 34 => 60#32
  | 35 => 65#32
  | 36 => 70#32
  | 37 => 75#32
  | 38 => 80#32
  | 39 => 85#32
  | 40 => 90#32
  | 41 => 95#32
  | 42 => 100#32
  | 43 => 105#32
  | 44 => 110#32
  | 45 => 115#32
  | 46 => 120#32
  | 47 => 125#32
  | 48 => 130#32
  | 49 => 135#32
  | 50 => 140#32
  | 51 => 145#32
  | 52 => 150#32
  | 53 => 155#32
  | 54 => 160#32
  | 55 => 165#32
  | 56 => 170#32
  | 57 => 175#32
  | 58 => 180#32
  | 59 => 185#32
  | 60 => 190#32
  | 61 => 195#32
  | 62 => 200#32
  | 63 => 200#32
  | 64 => 100#32
  | 65 => 200#32
  | 66 => 200#32
  | 67 => 50#32
  | 68 => 100#32
  | 69 => 150#32
  | 70 => 200#32
  | 71 => 40#32
  | 72 => 80#32
  | 73 => 120#32
  | 74 => 160#32
  | 75 => 200#32
  | 76 => 100#32
  | 77 => 200#32
  | 78 => 200#32
  | 79 => 25#32
  | 80 => 50#32
  | 81 => 75#32
  | 82 => 100#32
  | 83 => 125#32
  | 84 => 150#32
  | 85 => 175#32
  | 86 => 200#32
  | 87 => 200#32
  | 88 => 8#32
  | 89 => 12#32
  | 90 => 16#32
  | 91 => 20#32
  | 92 => 24#32
  | 93 => 28#32
  | 94 => 32#32
  | 95 => 36#32
  | 96 => 40#32
  | 97 => 44#32
  | 98 => 48#32
  | 99 => 52#32
  | 100 => 56#32
  | 101 => 60#32
  | 102 => 64#32
  | 103 => 68#32
  | 104 => 72#32
  | 105 => 76#32
  | 106 => 80#32
  | 107 => 84#32
  | 108 => 88#32
  | 109 => 92#32
  | 110 => 96#32
  | 111 => 100#32
  | 112 => 104#32
  | 113 => 108#32
  | 114 => 112#32
  | 115 => 116#32
  | 116 => 120#32
  | 117 => 124#32
  | 118 => 128#32
  | 119 => 132#32
  | 120 => 136#32
  | 121 => 140#32
  | 122 => 144#32
  | 123 => 148#32
  | 124 => 152#32
  | 125 => 156#32
  | 126 => 160#32
  | 127 => 164#32
  | _ => 0#32

noncomputable abbrev lit7t0_2 (i : Nat) : BitVec 32 := match i % 128 with
  | 0 => 168#32
  | 1 => 172#32
  | 2 => 176#32
  | 3 => 180#32
  | 4 => 184#32
  | 5 => 188#32
  | 6 => 192#32
  | 7 => 196#32
  | 8 => 200#32
  | 9 => 200#32
  | 10 => 50#32
  | 11 => 100#32
  | 12 => 150#32
  | 13 => 200#32
  | 14 => 200#32
  | 15 => 100#32
  | 16 => 200#32
  | 17 => 40#32
  | 18 => 80#32
  | 19 => 120#32
  | 20 => 160#32
  | 21 => 200#32
  | 22 => 25#32
  | 23 => 50#32
  | 24 => 75#32
  | 25 => 100#32
  | 26 => 125#32
  | 27 => 150#32
  | 28 => 175#32
  | 29 => 200#32
  | 30 => 200#32
  | 31 => 100#32
  | 32 => 200#32
  | 33 => 200#32
  | 34 => 10#32
  | 35 => 20#32
  | 36 => 30#32
  | 37 => 40#32
  | 38 => 50#32
  | 39 => 60#32
  | 40 => 70#32
  | 41 => 80#32
  | 42 => 90#32
  | 43 => 100#32
  | 44 => 110#32
  | 45 => 120#32
  | 46 => 130#32
  | 47 => 140#32
  | 48 => 150#32
  | 49 => 160#32
  | 50 => 170#32
  | 51 => 180#32
  | 52 => 190#32
  | 53 => 200#32
  | 54 => 200#32
  | 55 => 100#32
  | 56 => 200#32
  | 57 => 200#32
  | 58 => 25#32
  | 59 => 50#32
  | 60 => 75#32
  | 61 => 100#32
  | 62 => 125#32
  | 63 => 150#32
  | 64 => 175#32
  | 65 => 200#32
  | 66 => 40#32
  | 67 => 80#32
  | 68 => 120#32
  | 69 => 160#32
  | 70 => 200#32
  | 71 => 100#32
  | 72 => 200#32
  | 73 => 200#32
  | 74 => 50#32
  | 75 => 100#32
  | 76 => 150#32
  | 77 => 200#32
  | 78 => 200#32
  | 79 => 20#32
  | 80 => 40#32
  | 81 => 60#32
  | 82 => 80#32
  | 83 => 100#32
  | 84 => 120#32
  | 85 => 140#32
  | 86 => 160#32
  | 87 => 180#32
  | 88 => 200#32
  | 89 => 200#32
  | 90 => 25#32
  | 91 => 50#32
  | 92 => 75#32
  | 93 => 100#32
  | 94 => 125#32
  | 95 => 150#32
  | 96 => 175#32
  | 97 => 200#32
  | 98 => 200#32
  | 99 => 100#32
  | 100 => 200#32
  | 101 => 8#32
  | 102 => 16#32
  | 103 => 24#32
  | 104 => 32#32
  | 105 => 40#32
  | 106 => 48#32
  | 107 => 56#32
  | 108 => 64#32
  | 109 => 72#32
  | 110 => 80#32
  | 111 => 88#32
  | 112 => 96#32
  | 113 => 104#32
  | 114 => 112#32
  | 115 => 120#32
  | 116 => 128#32
  | 117 => 136#32
  | 118 => 144#32
  | 119 => 152#32
  | 120 => 160#32
  | 121 => 168#32
  | 122 => 176#32
  | 123 => 184#32
  | 124 => 192#32
  | 125 => 200#32
  | 126 => 50#32
  | 127 => 100#32
  | _ => 0#32

noncomputable abbrev lit7t0_3 (i : Nat) : BitVec 32 := match i % 128 with
  | 0 => 150#32
  | 1 => 200#32
  | 2 => 200#32
  | 3 => 100#32
  | 4 => 200#32
  | 5 => 200#32
  | 6 => 5#32
  | 7 => 10#32
  | 8 => 15#32
  | 9 => 20#32
  | 10 => 25#32
  | 11 => 30#32
  | 12 => 35#32
  | 13 => 40#32
  | 14 => 45#32
  | 15 => 50#32
  | 16 => 55#32
  | 17 => 60#32
  | 18 => 65#32
  | 19 => 70#32
  | 20 => 75#32
  | 21 => 80#32
  | 22 => 85#32
  | 23 => 90#32
  | 24 => 95#32
  | 25 => 100#32
  | 26 => 105#32
  | 27 => 110#32
  | 28 => 115#32
  | 29 => 120#32
  | 30 => 125#32
  | 31 => 130#32
  | 32 => 135#32
  | 33 => 140#32
  | 34 => 145#32
  | 35 => 150#32
  | 36 => 155#32
  | 37 => 160#32
  | 38 => 165#32
  | 39 => 170#32
  | 40 => 175#32
  | 41 => 180#32
  | 42 => 185#32
  | 43 => 190#32
  | 44 => 195#32
  | 45 => 200#32
  | 46 => 200#32
  | 47 => 100#32
  | 48 => 200#32
  | 49 => 200#32
  | 50 => 50#32
  | 51 => 100#32
  | 52 => 150#32
  | 53 => 200#32
  | 54 => 40#32
  | 55 => 80#32
  | 56 => 120#32
  | 57 => 160#32
  | 58 => 200#32
  | 59 => 100#32
  | 60 => 200#32
  | 61 => 200#32
  | 62 => 25#32
  | 63 => 50#32
  | 64 => 75#32
  | 65 => 100#32
  | 66 => 125#32
  | 67 => 150#32
  | 68 => 175#32
  | 69 => 200#32
  | 70 => 200#32
  | 71 => 20#32
  | 72 => 40#32
  | 73 => 60#32
  | 74 => 80#32
  | 75 => 100#32
  | 76 => 120#32
  | 77 => 140#32
  | 78 => 160#32
  | 79 => 180#32
  | 80 => 200#32
  | 81 => 200#32
  | 82 => 50#32
  | 83 => 100#32
  | 84 => 150#32
  | 85 => 200#32
  | 86 => 200#32
  | 87 => 100#32
  | 88 => 200#32
  | 89 => 40#32
  | 90 => 80#32
  | 91 => 120#32
  | 92 => 160#32
  | 93 => 200#32
  | 94 => 25#32
  | 95 => 50#32
  | 96 => 75#32
  | 97 => 100#32
  | 98 => 125#32
  | 99 => 150#32
  | 100 => 175#32
  | 101 => 200#32
  | 102 => 200#32
  | 103 => 100#32
  | 104 => 200#32
  | 105 => 200#32
  | 106 => 4#32
  | 107 => 6#32
  | 108 => 8#32
  | 109 => 10#32
  | 110 => 12#32
  | 111 => 14#32
  | 112 => 16#32
  | 113 => 18#32
  | 114 => 20#32
  | 115 => 22#32
  | 116 => 24#32
  | 117 => 26#32
  | 118 => 28#32
  | 119 => 30#32
  | 120 => 32#32
  | 121 => 34#32
  | 122 => 36#32
  | 123 => 38#32
  | 124 => 40#32
  | 125 => 42#32
  | 126 => 44#32
  | 127 => 46#32
  | _ => 0#32

noncomputable abbrev lit7t0_4 (i : Nat) : BitVec 32 := match i % 128 with
  | 0 => 48#32
  | 1 => 50#32
  | 2 => 52#32
  | 3 => 54#32
  | 4 => 56#32
  | 5 => 58#32
  | 6 => 60#32
  | 7 => 62#32
  | 8 => 64#32
  | 9 => 66#32
  | 10 => 68#32
  | 11 => 70#32
  | 12 => 72#32
  | 13 => 74#32
  | 14 => 76#32
  | 15 => 78#32
  | 16 => 80#32
  | 17 => 82#32
  | 18 => 84#32
  | 19 => 86#32
  | 20 => 88#32
  | 21 => 90#32
  | 22 => 92#32
  | 23 => 94#32
  | 24 => 96#32
  | 25 => 98#32
  | 26 => 100#32
  | 27 => 102#32
  | 28 => 104#32
  | 29 => 106#32
  | 30 => 108#32
  | 31 => 110#32
  | 32 => 112#32
  | 33 => 114#32
  | 34 => 116#32
  | 35 => 118#32
  | 36 => 120#32
  | 37 => 122#32
  | 38 => 124#32
  | 39 => 126#32
  | 40 => 128#32
  | 41 => 130#32
  | 42 => 132#32
  | 43 => 134#32
  | 44 => 136#32
  | 45 => 138#32
  | 46 => 140#32
  | 47 => 142#32
  | 48 => 144#32
  | 49 => 146#32
  | 50 => 148#32
  | 51 => 150#32
  | 52 => 152#32
  | 53 => 154#32
  | 54 => 156#32
  | 55 => 158#32
  | 56 => 160#32
  | 57 => 162#32
  | 58 => 164#32
  | 59 => 166#32
  | 60 => 168#32
  | 61 => 170#32
  | 62 => 172#32
  | 63 => 174#32
  | 64 => 176#32
  | 65 => 178#32
  | 66 => 180#32
  | 67 => 182#32
  | 68 => 184#32
  | 69 => 186#32
  | 70 => 188#32
  | 71 => 190#32
  | 72 => 192#32
  | 73 => 194#32
  | 74 => 196#32
  | 75 => 198#32
  | 76 => 200#32
  | 77 => 200#32
  | 78 => 100#32
  | 79 => 200#32
  | 80 => 200#32
  | 81 => 25#32
  | 82 => 50#32
  | 83 => 75#32
  | 84 => 100#32
  | 85 => 125#32
  | 86 => 150#32
  | 87 => 175#32
  | 88 => 200#32
  | 89 => 40#32
  | 90 => 80#32
  | 91 => 120#32
  | 92 => 160#32
  | 93 => 200#32
  | 94 => 100#32
  | 95 => 200#32
  | 96 => 200#32
  | 97 => 50#32
  | 98 => 100#32
  | 99 => 150#32
  | 100 => 200#32
  | 101 => 200#32
  | 102 => 20#32
  | 103 => 40#32
  | 104 => 60#32
  | 105 => 80#32
  | 106 => 100#32
  | 107 => 120#32
  | 108 => 140#32
  | 109 => 160#32
  | 110 => 180#32
  | 111 => 200#32
  | 112 => 200#32
  | 113 => 25#32
  | 114 => 50#32
  | 115 => 75#32
  | 116 => 100#32
  | 117 => 125#32
  | 118 => 150#32
  | 119 => 175#32
  | 120 => 200#32
  | 121 => 200#32
  | 122 => 100#32
  | 123 => 200#32
  | 124 => 40#32
  | 125 => 80#32
  | 126 => 120#32
  | 127 => 160#32
  | _ => 0#32

noncomputable abbrev lit7t0_5 (i : Nat) : BitVec 32 := match i % 128 with
  | 0 => 200#32
  | 1 => 50#32
  | 2 => 100#32
  | 3 => 150#32
  | 4 => 200#32
  | 5 => 200#32
  | 6 => 100#32
  | 7 => 200#32
  | 8 => 200#32
  | 9 => 5#32
  | 10 => 10#32
  | 11 => 15#32
  | 12 => 20#32
  | 13 => 25#32
  | 14 => 30#32
  | 15 => 35#32
  | 16 => 40#32
  | 17 => 45#32
  | 18 => 50#32
  | 19 => 55#32
  | 20 => 60#32
  | 21 => 65#32
  | 22 => 70#32
  | 23 => 75#32
  | 24 => 80#32
  | 25 => 85#32
  | 26 => 90#32
  | 27 => 95#32
  | 28 => 100#32
  | 29 => 105#32
  | 30 => 110#32
  | 31 => 115#32
  | 32 => 120#32
  | 33 => 125#32
  | 34 => 130#32
  | 35 => 135#32
  | 36 => 140#32
  | 37 => 145#32
  | 38 => 150#32
  | 39 => 155#32
  | 40 => 160#32
  | 41 => 165#32
  | 42 => 170#32
  | 43 => 175#32
  | 44 => 180#32
  | 45 => 185#32
  | 46 => 190#32
  | 47 => 195#32
  | 48 => 200#32
  | 49 => 200#32
  | 50 => 100#32
  | 51 => 200#32
  | 52 => 200#32
  | 53 => 50#32
  | 54 => 100#32
  | 55 => 150#32
  | 56 => 200#32
  | 57 => 8#32
  | 58 => 16#32
  | 59 => 24#32
  | 60 => 32#32
  | 61 => 40#32
  | 62 => 48#32
  | 63 => 56#32
  | 64 => 64#32
  | 65 => 72#32
  | 66 => 80#32
  | 67 => 88#32
  | 68 => 96#32
  | 69 => 104#32
  | 70 => 112#32
  | 71 => 120#32
  | 72 => 128#32
  | 73 => 136#32
  | 74 => 144#32
  | 75 => 152#32
  | 76 => 160#32
  | 77 => 168#32
  | 78 => 176#32
  | 79 => 184#32
  | 80 => 192#32
  | 81 => 200#32
  | 82 => 100#32
  | 83 => 200#32
  | 84 => 200#32
  | 85 => 25#32
  | 86 => 50#32
  | 87 => 75#32
  | 88 => 100#32
  | 89 => 125#32
  | 90 => 150#32
  | 91 => 175#32
  | 92 => 200#32
  | 93 => 200#32
  | 94 => 20#32
  | 95 => 40#32
  | 96 => 60#32
  | 97 => 80#32
  | 98 => 100#32
  | 99 => 120#32
  | 100 => 140#32
  | 101 => 160#32
  | 102 => 180#32
  | 103 => 200#32
  | 104 => 200#32
  | 105 => 50#32
  | 106 => 100#32
  | 107 => 150#32
  | 108 => 200#32
  | 109 => 200#32
  | 110 => 100#32
  | 111 => 200#32
  | 112 => 40#32
  | 113 => 80#32
  | 114 => 120#32
  | 115 => 160#32
  | 116 => 200#32
  | 117 => 25#32
  | 118 => 50#32
  | 119 => 75#32
  | 120 => 100#32
  | 121 => 125#32
  | 122 => 150#32
  | 123 => 175#32
  | 124 => 200#32
  | 125 => 200#32
  | 126 => 100#32
  | 127 => 200#32
  | _ => 0#32

noncomputable abbrev lit7t0_6 (i : Nat) : BitVec 32 := match i % 128 with
  | 0 => 200#32
  | 1 => 10#32
  | 2 => 20#32
  | 3 => 30#32
  | 4 => 40#32
  | 5 => 50#32
  | 6 => 60#32
  | 7 => 70#32
  | 8 => 80#32
  | 9 => 90#32
  | 10 => 100#32
  | 11 => 110#32
  | 12 => 120#32
  | 13 => 130#32
  | 14 => 140#32
  | 15 => 150#32
  | 16 => 160#32
  | 17 => 170#32
  | 18 => 180#32
  | 19 => 190#32
  | 20 => 200#32
  | 21 => 200#32
  | 22 => 100#32
  | 23 => 200#32
  | 24 => 200#32
  | 25 => 25#32
  | 26 => 50#32
  | 27 => 75#32
  | 28 => 100#32
  | 29 => 125#32
  | 30 => 150#32
  | 31 => 175#32
  | 32 => 200#32
  | 33 => 40#32
  | 34 => 80#32
  | 35 => 120#32
  | 36 => 160#32
  | 37 => 200#32
  | 38 => 100#32
  | 39 => 200#32
  | 40 => 200#32
  | 41 => 50#32
  | 42 => 100#32
  | 43 => 150#32
  | 44 => 200#32
  | 45 => 200#32
  | 46 => 4#32
  | 47 => 8#32
  | 48 => 12#32
  | 49 => 16#32
  | 50 => 20#32
  | 51 => 24#32
  | 52 => 28#32
  | 53 => 32#32
  | 54 => 36#32
  | 55 => 40#32
  | 56 => 44#32
  | 57 => 48#32
  | 58 => 52#32
  | 59 => 56#32
  | 60 => 60#32
  | 61 => 64#32
  | 62 => 68#32
  | 63 => 72#32
  | 64 => 76#32
  | 65 => 80#32
  | 66 => 84#32
  | 67 => 88#32
  | 68 => 92#32
  | 69 => 96#32
  | 70 => 100#32
  | 71 => 104#32
  | 72 => 108#32
  | 73 => 112#32
  | 74 => 116#32
  | 75 => 120#32
  | 76 => 124#32
  | 77 => 128#32
  | 78 => 132#32
  | 79 => 136#32
  | 80 => 140#32
  | 81 => 144#32
  | 82 => 148#32
  | 83 => 152#32
  | 84 => 156#32
  | 85 => 160#32
  | 86 => 164#32
  | 87 => 168#32
  | 88 => 172#32
  | 89 => 176#32
  | 90 => 180#32
  | 91 => 184#32
  | 92 => 188#32
  | 93 => 192#32
  | 94 => 196#32
  | 95 => 200#32
  | 96 => 200#32
  | 97 => 25#32
  | 98 => 50#32
  | 99 => 75#32
  | 100 => 100#32
  | 101 => 125#32
  | 102 => 150#32
  | 103 => 175#32
  | 104 => 200#32
  | 105 => 200#32
  | 106 => 100#32
  | 107 => 200#32
  | 108 => 40#32
  | 109 => 80#32
  | 110 => 120#32
  | 111 => 160#32
  | 112 => 200#32
  | 113 => 50#32
  | 114 => 100#32
  | 115 => 150#32
  | 116 => 200#32
  | 117 => 200#32
  | 118 => 100#32
  | 119 => 200#32
  | 120 => 200#32
  | 121 => 5#32
  | 122 => 10#32
  | 123 => 15#32
  | 124 => 20#32
  | 125 => 25#32
  | 126 => 30#32
  | 127 => 35#32
  | _ => 0#32

noncomputable abbrev lit7t0_7 (i : Nat) : BitVec 32 := match i % 128 with
  | 0 => 40#32
  | 1 => 45#32
  | 2 => 50#32
  | 3 => 55#32
  | 4 => 60#32
  | 5 => 65#32
  | 6 => 70#32
  | 7 => 75#32
  | 8 => 80#32
  | 9 => 85#32
  | 10 => 90#32
  | 11 => 95#32
  | 12 => 100#32
  | 13 => 105#32
  | 14 => 110#32
  | 15 => 115#32
  | 16 => 120#32
  | 17 => 125#32
  | 18 => 130#32
  | 19 => 135#32
  | 20 => 140#32
  | 21 => 145#32
  | 22 => 150#32
  | 23 => 155#32
  | 24 => 160#32
  | 25 => 165#32
  | 26 => 170#32
  | 27 => 175#32
  | 28 => 180#32
  | 29 => 185#32
  | 30 => 190#32
  | 31 => 195#32
  | 32 => 200#32
  | 33 => 200#32
  | 34 => 100#32
  | 35 => 200#32
  | 36 => 200#32
  | 37 => 50#32
  | 38 => 100#32
  | 39 => 150#32
  | 40 => 200#32
  | 41 => 40#32
  | 42 => 80#32
  | 43 => 120#32
  | 44 => 160#32
  | 45 => 200#32
  | 46 => 100#32
  | 47 => 200#32
  | 48 => 200#32
  | 49 => 25#32
  | 50 => 50#32
  | 51 => 75#32
  | 52 => 100#32
  | 53 => 125#32
  | 54 => 150#32
  | 55 => 175#32
  | 56 => 200#32
  | 57 => 200#32
  | 58 => 20#32
  | 59 => 40#32
  | 60 => 60#32
  | 61 => 80#32
  | 62 => 100#32
  | 63 => 120#32
  | 64 => 140#32
  | 65 => 160#32
  | 66 => 180#32
  | 67 => 200#32
  | 68 => 200#32
  | 69 => 50#32
  | 70 => 100#32
  | 71 => 150#32
  | 72 => 200#32
  | 73 => 200#32
  | 74 => 100#32
  | 75 => 200#32
  | 76 => 8#32
  | 77 => 16#32
  | 78 => 24#32
  | 79 => 32#32
  | 80 => 40#32
  | 81 => 48#32
  | 82 => 56#32
  | 83 => 64#32
  | 84 => 72#32
  | 85 => 80#32
  | 86 => 88#32
  | 87 => 96#32
  | 88 => 104#32
  | 89 => 112#32
  | 90 => 120#32
  | 91 => 128#32
  | 92 => 136#32
  | 93 => 144#32
  | 94 => 152#32
  | 95 => 160#32
  | 96 => 168#32
  | 97 => 176#32
  | 98 => 184#32
  | 99 => 192#32
  | 100 => 200#32
  | 101 => 25#32
  | 102 => 50#32
  | 103 => 75#32
  | 104 => 100#32
  | 105 => 125#32
  | 106 => 150#32
  | 107 => 175#32
  | 108 => 200#32
  | 109 => 200#32
  | 110 => 100#32
  | 111 => 200#32
  | 112 => 200#32
  | 113 => 10#32
  | 114 => 20#32
  | 115 => 30#32
  | 116 => 40#32
  | 117 => 50#32
  | 118 => 60#32
  | 119 => 70#32
  | 120 => 80#32
  | 121 => 90#32
  | 122 => 100#32
  | 123 => 110#32
  | 124 => 120#32
  | 125 => 130#32
  | 126 => 140#32
  | 127 => 150#32
  | _ => 0#32

noncomputable abbrev lit7t0_8 (i : Nat) : BitVec 32 := match i % 128 with
  | 0 => 160#32
  | 1 => 170#32
  | 2 => 180#32
  | 3 => 190#32
  | 4 => 200#32
  | 5 => 200#32
  | 6 => 100#32
  | 7 => 200#32
  | 8 => 200#32
  | 9 => 25#32
  | 10 => 50#32
  | 11 => 75#32
  | 12 => 100#32
  | 13 => 125#32
  | 14 => 150#32
  | 15 => 175#32
  | 16 => 200#32
  | 17 => 40#32
  | 18 => 80#32
  | 19 => 120#32
  | 20 => 160#32
  | 21 => 200#32
  | 22 => 100#32
  | 23 => 200#32
  | 24 => 200#32
  | 25 => 50#32
  | 26 => 100#32
  | 27 => 150#32
  | 28 => 200#32
  | 29 => 200#32
  | 30 => 20#32
  | 31 => 40#32
  | 32 => 60#32
  | 33 => 80#32
  | 34 => 100#32
  | 35 => 120#32
  | 36 => 140#32
  | 37 => 160#32
  | 38 => 180#32
  | 39 => 200#32
  | 40 => 200#32
  | 41 => 25#32
  | 42 => 50#32
  | 43 => 75#32
  | 44 => 100#32
  | 45 => 125#32
  | 46 => 150#32
  | 47 => 175#32
  | 48 => 200#32
  | 49 => 200#32
  | 50 => 100#32
  | 51 => 200#32
  | 52 => 40#32
  | 53 => 80#32
  | 54 => 120#32
  | 55 => 160#32
  | 56 => 200#32
  | 57 => 50#32
  | 58 => 100#32
  | 59 => 150#32
  | 60 => 200#32
  | 61 => 200#32
  | 62 => 100#32
  | 63 => 200#32
  | 64 => 200#32
  | 65 => 2#32
  | 66 => 3#32
  | 67 => 4#32
  | 68 => 5#32
  | 69 => 6#32
  | 70 => 7#32
  | 71 => 8#32
  | 72 => 9#32
  | 73 => 10#32
  | 74 => 11#32
  | 75 => 12#32
  | 76 => 13#32
  | 77 => 14#32
  | 78 => 15#32
  | 79 => 16#32
  | 80 => 17#32
  | 81 => 18#32
  | 82 => 19#32
  | 83 => 20#32
  | 84 => 21#32
  | 85 => 22#32
  | 86 => 23#32
  | 87 => 24#32
  | 88 => 25#32
  | 89 => 26#32
  | 90 => 27#32
  | 91 => 28#32
  | 92 => 29#32
  | 93 => 30#32
  | 94 => 31#32
  | 95 => 32#32
  | 96 => 33#32
  | 97 => 34#32
  | 98 => 35#32
  | 99 => 36#32
  | 100 => 37#32
  | 101 => 38#32
  | 102 => 39#32
  | 103 => 40#32
  | 104 => 41#32
  | 105 => 42#32
  | 106 => 43#32
  | 107 => 44#32
  | 108 => 45#32
  | 109 => 46#32
  | 110 => 47#32
  | 111 => 48#32
  | 112 => 49#32
  | 113 => 50#32
  | 114 => 51#32
  | 115 => 52#32
  | 116 => 53#32
  | 117 => 54#32
  | 118 => 55#32
  | 119 => 56#32
  | 120 => 57#32
  | 121 => 58#32
  | 122 => 59#32
  | 123 => 60#32
  | 124 => 61#32
  | 125 => 62#32
  | 126 => 63#32
  | 127 => 64#32
  | _ => 0#32

noncomputable abbrev lit7t0_9 (i : Nat) : BitVec 32 := match i % 128 with
  | 0 => 65#32
  | 1 => 66#32
  | 2 => 67#32
  | 3 => 68#32
  | 4 => 69#32
  | 5 => 70#32
  | 6 => 71#32
  | 7 => 72#32
  | 8 => 73#32
  | 9 => 74#32
  | 10 => 75#32
  | 11 => 76#32
  | 12 => 77#32
  | 13 => 78#32
  | 14 => 79#32
  | 15 => 80#32
  | 16 => 81#32
  | 17 => 82#32
  | 18 => 83#32
  | 19 => 84#32
  | 20 => 85#32
  | 21 => 86#32
  | 22 => 87#32
  | 23 => 88#32
  | 24 => 89#32
  | 25 => 90#32
  | 26 => 91#32
  | 27 => 92#32
  | 28 => 93#32
  | 29 => 94#32
  | 30 => 95#32
  | 31 => 96#32
  | 32 => 97#32
  | 33 => 98#32
  | 34 => 99#32
  | 35 => 100#32
  | 36 => 101#32
  | 37 => 102#32
  | 38 => 103#32
  | 39 => 104#32
  | 40 => 105#32
  | 41 => 106#32
  | 42 => 107#32
  | 43 => 108#32
  | 44 => 109#32
  | 45 => 110#32
  | 46 => 111#32
  | 47 => 112#32
  | 48 => 113#32
  | 49 => 114#32
  | 50 => 115#32
  | 51 => 116#32
  | 52 => 117#32
  | 53 => 118#32
  | 54 => 119#32
  | 55 => 120#32
  | 56 => 121#32
  | 57 => 122#32
  | 58 => 123#32
  | 59 => 124#32
  | 60 => 125#32
  | 61 => 126#32
  | 62 => 127#32
  | 63 => 128#32
  | 64 => 129#32
  | 65 => 130#32
  | 66 => 131#32
  | 67 => 132#32
  | 68 => 133#32
  | 69 => 134#32
  | 70 => 135#32
  | 71 => 136#32
  | 72 => 137#32
  | 73 => 138#32
  | 74 => 139#32
  | 75 => 140#32
  | 76 => 141#32
  | 77 => 142#32
  | 78 => 143#32
  | 79 => 144#32
  | 80 => 145#32
  | 81 => 146#32
  | 82 => 147#32
  | 83 => 148#32
  | 84 => 149#32
  | 85 => 150#32
  | 86 => 151#32
  | 87 => 152#32
  | 88 => 153#32
  | 89 => 154#32
  | 90 => 155#32
  | 91 => 156#32
  | 92 => 157#32
  | 93 => 158#32
  | 94 => 159#32
  | 95 => 160#32
  | 96 => 161#32
  | 97 => 162#32
  | 98 => 163#32
  | 99 => 164#32
  | 100 => 165#32
  | 101 => 166#32
  | 102 => 167#32
  | 103 => 168#32
  | 104 => 169#32
  | 105 => 170#32
  | 106 => 171#32
  | 107 => 172#32
  | 108 => 173#32
  | 109 => 174#32
  | 110 => 175#32
  | 111 => 176#32
  | 112 => 177#32
  | 113 => 178#32
  | 114 => 179#32
  | 115 => 180#32
  | 116 => 181#32
  | 117 => 182#32
  | 118 => 183#32
  | 119 => 184#32
  | 120 => 185#32
  | 121 => 186#32
  | 122 => 187#32
  | 123 => 188#32
  | 124 => 189#32
  | 125 => 190#32
  | 126 => 191#32
  | 127 => 192#32
  | _ => 0#32

noncomputable abbrev lit7t0_10 (i : Nat) : BitVec 32 := match i % 128 with
  | 0 => 193#32
  | 1 => 194#32
  | 2 => 195#32
  | 3 => 196#32
  | 4 => 197#32
  | 5 => 198#32
  | 6 => 199#32
  | 7 => 200#32
  | 8 => 200#32
  | 9 => 100#32
  | 10 => 200#32
  | 11 => 200#32
  | 12 => 50#32
  | 13 => 100#32
  | 14 => 150#32
  | 15 => 200#32
  | 16 => 40#32
  | 17 => 80#32
  | 18 => 120#32
  | 19 => 160#32
  | 20 => 200#32
  | 21 => 100#32
  | 22 => 200#32
  | 23 => 200#32
  | 24 => 25#32
  | 25 => 50#32
  | 26 => 75#32
  | 27 => 100#32
  | 28 => 125#32
  | 29 => 150#32
  | 30 => 175#32
  | 31 => 200#32
  | 32 => 200#32
  | 33 => 20#32
  | 34 => 40#32
  | 35 => 60#32
  | 36 => 80#32
  | 37 => 100#32
  | 38 => 120#32
  | 39 => 140#32
  | 40 => 160#32
  | 41 => 180#32
  | 42 => 200#32
  | 43 => 200#32
  | 44 => 50#32
  | 45 => 100#32
  | 46 => 150#32
  | 47 => 200#32
  | 48 => 200#32
  | 49 => 100#32
  | 50 => 200#32
  | 51 => 40#32
  | 52 => 80#32
  | 53 => 120#32
  | 54 => 160#32
  | 55 => 200#32
  | 56 => 25#32
  | 57 => 50#32
  | 58 => 75#32
  | 59 => 100#32
  | 60 => 125#32
  | 61 => 150#32
  | 62 => 175#32
  | 63 => 200#32
  | 64 => 200#32
  | 65 => 100#32
  | 66 => 200#32
  | 67 => 200#32
  | 68 => 10#32
  | 69 => 20#32
  | 70 => 30#32
  | 71 => 40#32
  | 72 => 50#32
  | 73 => 60#32
  | 74 => 70#32
  | 75 => 80#32
  | 76 => 90#32
  | 77 => 100#32
  | 78 => 110#32
  | 79 => 120#32
  | 80 => 130#32
  | 81 => 140#32
  | 82 => 150#32
  | 83 => 160#32
  | 84 => 170#32
  | 85 => 180#32
  | 86 => 190#32
  | 87 => 200#32
  | 88 => 200#32
  | 89 => 100#32
  | 90 => 200#32
  | 91 => 200#32
  | 92 => 25#32
  | 93 => 50#32
  | 94 => 75#32
  | 95 => 100#32
  | 96 => 125#32
  | 97 => 150#32
  | 98 => 175#32
  | 99 => 200#32
  | 100 => 8#32
  | 101 => 16#32
  | 102 => 24#32
  | 103 => 32#32
  | 104 => 40#32
  | 105 => 48#32
  | 106 => 56#32
  | 107 => 64#32
  | 108 => 72#32
  | 109 => 80#32
  | 110 => 88#32
  | 111 => 96#32
  | 112 => 104#32
  | 113 => 112#32
  | 114 => 120#32
  | 115 => 128#32
  | 116 => 136#32
  | 117 => 144#32
  | 118 => 152#32
  | 119 => 160#32
  | 120 => 168#32
  | 121 => 176#32
  | 122 => 184#32
  | 123 => 192#32
  | 124 => 200#32
  | 125 => 100#32
  | 126 => 200#32
  | 127 => 200#32
  | _ => 0#32

noncomputable abbrev lit7t0_11 (i : Nat) : BitVec 32 := match i % 128 with
  | 0 => 50#32
  | 1 => 100#32
  | 2 => 150#32
  | 3 => 200#32
  | 4 => 200#32
  | 5 => 20#32
  | 6 => 40#32
  | 7 => 60#32
  | 8 => 80#32
  | 9 => 100#32
  | 10 => 120#32
  | 11 => 140#32
  | 12 => 160#32
  | 13 => 180#32
  | 14 => 200#32
  | 15 => 200#32
  | 16 => 25#32
  | 17 => 50#32
  | 18 => 75#32
  | 19 => 100#32
  | 20 => 125#32
  | 21 => 150#32
  | 22 => 175#32
  | 23 => 200#32
  | 24 => 200#32
  | 25 => 100#32
  | 26 => 200#32
  | 27 => 40#32
  | 28 => 80#32
  | 29 => 120#32
  | 30 => 160#32
  | 31 => 200#32
  | 32 => 50#32
  | 33 => 100#32
  | 34 => 150#32
  | 35 => 200#32
  | 36 => 200#32
  | 37 => 100#32
  | 38 => 200#32
  | 39 => 200#32
  | 40 => 5#32
  | 41 => 10#32
  | 42 => 15#32
  | 43 => 20#32
  | 44 => 25#32
  | 45 => 30#32
  | 46 => 35#32
  | 47 => 40#32
  | 48 => 45#32
  | 49 => 50#32
  | 50 => 55#32
  | 51 => 60#32
  | 52 => 65#32
  | 53 => 70#32
  | 54 => 75#32
  | 55 => 80#32
  | 56 => 85#32
  | 57 => 90#32
  | 58 => 95#32
  | 59 => 100#32
  | 60 => 105#32
  | 61 => 110#32
  | 62 => 115#32
  | 63 => 120#32
  | 64 => 125#32
  | 65 => 130#32
  | 66 => 135#32
  | 67 => 140#32
  | 68 => 145#32
  | 69 => 150#32
  | 70 => 155#32
  | 71 => 160#32
  | 72 => 165#32
  | 73 => 170#32
  | 74 => 175#32
  | 75 => 180#32
  | 76 => 185#32
  | 77 => 190#32
  | 78 => 195#32
  | 79 => 200#32
  | 80 => 200#32
  | 81 => 100#32
  | 82 => 200#32
  | 83 => 200#32
  | 84 => 50#32
  | 85 => 100#32
  | 86 => 150#32
  | 87 => 200#32
  | 88 => 40#32
  | 89 => 80#32
  | 90 => 120#32
  | 91 => 160#32
  | 92 => 200#32
  | 93 => 100#32
  | 94 => 200#32
  | 95 => 200#32
  | 96 => 25#32
  | 97 => 50#32
  | 98 => 75#32
  | 99 => 100#32
  | 100 => 125#32
  | 101 => 150#32
  | 102 => 175#32
  | 103 => 200#32
  | 104 => 200#32
  | 105 => 4#32
  | 106 => 8#32
  | 107 => 12#32
  | 108 => 16#32
  | 109 => 20#32
  | 110 => 24#32
  | 111 => 28#32
  | 112 => 32#32
  | 113 => 36#32
  | 114 => 40#32
  | 115 => 44#32
  | 116 => 48#32
  | 117 => 52#32
  | 118 => 56#32
  | 119 => 60#32
  | 120 => 64#32
  | 121 => 68#32
  | 122 => 72#32
  | 123 => 76#32
  | 124 => 80#32
  | 125 => 84#32
  | 126 => 88#32
  | 127 => 92#32
  | _ => 0#32

noncomputable abbrev lit7t0_12 (i : Nat) : BitVec 32 := match i % 128 with
  | 0 => 96#32
  | 1 => 100#32
  | 2 => 104#32
  | 3 => 108#32
  | 4 => 112#32
  | 5 => 116#32
  | 6 => 120#32
  | 7 => 124#32
  | 8 => 128#32
  | 9 => 132#32
  | 10 => 136#32
  | 11 => 140#32
  | 12 => 144#32
  | 13 => 148#32
  | 14 => 152#32
  | 15 => 156#32
  | 16 => 160#32
  | 17 => 164#32
  | 18 => 168#32
  | 19 => 172#32
  | 20 => 176#32
  | 21 => 180#32
  | 22 => 184#32
  | 23 => 188#32
  | 24 => 192#32
  | 25 => 196#32
  | 26 => 200#32
  | 27 => 200#32
  | 28 => 50#32
  | 29 => 100#32
  | 30 => 150#32
  | 31 => 200#32
  | 32 => 200#32
  | 33 => 100#32
  | 34 => 200#32
  | 35 => 40#32
  | 36 => 80#32
  | 37 => 120#32
  | 38 => 160#32
  | 39 => 200#32
  | 40 => 25#32
  | 41 => 50#32
  | 42 => 75#32
  | 43 => 100#32
  | 44 => 125#32
  | 45 => 150#32
  | 46 => 175#32
  | 47 => 200#32
  | 48 => 200#32
  | 49 => 100#32
  | 50 => 200#32
  | 51 => 200#32
  | 52 => 10#32
  | 53 => 20#32
  | 54 => 30#32
  | 55 => 40#32
  | 56 => 50#32
  | 57 => 60#32
  | 58 => 70#32
  | 59 => 80#32
  | 60 => 90#32
  | 61 => 100#32
  | 62 => 110#32
  | 63 => 120#32
  | 64 => 130#32
  | 65 => 140#32
  | 66 => 150#32
  | 67 => 160#32
  | 68 => 170#32
  | 69 => 180#32
  | 70 => 190#32
  | 71 => 200#32
  | 72 => 200#32
  | 73 => 100#32
  | 74 => 200#32
  | 75 => 200#32
  | 76 => 25#32
  | 77 => 50#32
  | 78 => 75#32
  | 79 => 100#32
  | 80 => 125#32
  | 81 => 150#32
  | 82 => 175#32
  | 83 => 200#32
  | 84 => 40#32
  | 85 => 80#32
  | 86 => 120#32
  | 87 => 160#32
  | 88 => 200#32
  | 89 => 100#32
  | 90 => 200#32
  | 91 => 200#32
  | 92 => 50#32
  | 93 => 100#32
  | 94 => 150#32
  | 95 => 200#32
  | 96 => 200#32
  | 97 => 20#32
  | 98 => 40#32
  | 99 => 60#32
  | 100 => 80#32
  | 101 => 100#32
  | 102 => 120#32
  | 103 => 140#32
  | 104 => 160#32
  | 105 => 180#32
  | 106 => 200#32
  | 107 => 200#32
  | 108 => 25#32
  | 109 => 50#32
  | 110 => 75#32
  | 111 => 100#32
  | 112 => 125#32
  | 113 => 150#32
  | 114 => 175#32
  | 115 => 200#32
  | 116 => 200#32
  | 117 => 100#32
  | 118 => 200#32
  | 119 => 8#32
  | 120 => 16#32
  | 121 => 24#32
  | 122 => 32#32
  | 123 => 40#32
  | 124 => 48#32
  | 125 => 56#32
  | 126 => 64#32
  | 127 => 72#32
  | _ => 0#32

noncomputable abbrev lit7t0_13 (i : Nat) : BitVec 32 := match i % 128 with
  | 0 => 80#32
  | 1 => 88#32
  | 2 => 96#32
  | 3 => 104#32
  | 4 => 112#32
  | 5 => 120#32
  | 6 => 128#32
  | 7 => 136#32
  | 8 => 144#32
  | 9 => 152#32
  | 10 => 160#32
  | 11 => 168#32
  | 12 => 176#32
  | 13 => 184#32
  | 14 => 192#32
  | 15 => 200#32
  | 16 => 50#32
  | 17 => 100#32
  | 18 => 150#32
  | 19 => 200#32
  | 20 => 200#32
  | 21 => 100#32
  | 22 => 200#32
  | 23 => 200#32
  | 24 => 5#32
  | 25 => 10#32
  | 26 => 15#32
  | 27 => 20#32
  | 28 => 25#32
  | 29 => 30#32
  | 30 => 35#32
  | 31 => 40#32
  | 32 => 45#32
  | 33 => 50#32
  | 34 => 55#32
  | 35 => 60#32
  | 36 => 65#32
  | 37 => 70#32
  | 38 => 75#32
  | 39 => 80#32
  | 40 => 85#32
  | 41 => 90#32
  | 42 => 95#32
  | 43 => 100#32
  | 44 => 105#32
  | 45 => 110#32
  | 46 => 115#32
  | 47 => 120#32
  | 48 => 125#32
  | 49 => 130#32
  | 50 => 135#32
  | 51 => 140#32
  | 52 => 145#32
  | 53 => 150#32
  | 54 => 155#32
  | 55 => 160#32
  | 56 => 165#32
  | 57 => 170#32
  | 58 => 175#32
  | 59 => 180#32
  | 60 => 185#32
  | 61 => 190#32
  | 62 => 195#32
  | 63 => 200#32
  | 64 => 200#32
  | 65 => 100#32
  | 66 => 200#32
  | 67 => 200#32
  | 68 => 50#32
  | 69 => 100#32
  | 70 => 150#32
  | 71 => 200#32
  | 72 => 40#32
  | 73 => 80#32
  | 74 => 120#32
  | 75 => 160#32
  | 76 => 200#32
  | 77 => 100#32
  | 78 => 200#32
  | 79 => 200#32
  | 80 => 25#32
  | 81 => 50#32
  | 82 => 75#32
  | 83 => 100#32
  | 84 => 125#32
  | 85 => 150#32
  | 86 => 175#32
  | 87 => 200#32
  | 88 => 200#32
  | 89 => 20#32
  | 90 => 40#32
  | 91 => 60#32
  | 92 => 80#32
  | 93 => 100#32
  | 94 => 120#32
  | 95 => 140#32
  | 96 => 160#32
  | 97 => 180#32
  | 98 => 200#32
  | 99 => 200#32
  | 100 => 50#32
  | 101 => 100#32
  | 102 => 150#32
  | 103 => 200#32
  | 104 => 200#32
  | 105 => 100#32
  | 106 => 200#32
  | 107 => 40#32
  | 108 => 80#32
  | 109 => 120#32
  | 110 => 160#32
  | 111 => 200#32
  | 112 => 25#32
  | 113 => 50#32
  | 114 => 75#32
  | 115 => 100#32
  | 116 => 125#32
  | 117 => 150#32
  | 118 => 175#32
  | 119 => 200#32
  | 120 => 200#32
  | 121 => 100#32
  | 122 => 200#32
  | 123 => 200#32
  | 124 => 2#32
  | 125 => 4#32
  | 126 => 6#32
  | 127 => 8#32
  | _ => 0#32

noncomputable abbrev lit7t0_14 (i : Nat) : BitVec 32 := match i % 128 with
  | 0 => 10#32
  | 1 => 12#32
  | 2 => 14#32
  | 3 => 16#32
  | 4 => 18#32
  | 5 => 20#32
  | 6 => 22#32
  | 7 => 24#32
  | 8 => 26#32
  | 9 => 28#32
  | 10 => 30#32
  | 11 => 32#32
  | 12 => 34#32
  | 13 => 36#32
  | 14 => 38#32
  | 15 => 40#32
  | 16 => 42#32
  | 17 => 44#32
  | 18 => 46#32
  | 19 => 48#32
  | 20 => 50#32
  | 21 => 52#32
  | 22 => 54#32
  | 23 => 56#32
  | 24 => 58#32
  | 25 => 60#32
  | 26 => 62#32
  | 27 => 64#32
  | 28 => 66#32
  | 29 => 68#32
  | 30 => 70#32
  | 31 => 72#32
  | 32 => 74#32
  | 33 => 76#32
  | 34 => 78#32
  | 35 => 80#32
  | 36 => 82#32
  | 37 => 84#32
  | 38 => 86#32
  | 39 => 88#32
  | 40 => 90#32
  | 41 => 92#32
  | 42 => 94#32
  | 43 => 96#32
  | 44 => 98#32
  | 45 => 100#32
  | 46 => 102#32
  | 47 => 104#32
  | 48 => 106#32
  | 49 => 108#32
  | 50 => 110#32
  | 51 => 112#32
  | 52 => 114#32
  | 53 => 116#32
  | 54 => 118#32
  | 55 => 120#32
  | 56 => 122#32
  | 57 => 124#32
  | 58 => 126#32
  | 59 => 128#32
  | 60 => 130#32
  | 61 => 132#32
  | 62 => 134#32
  | 63 => 136#32
  | 64 => 138#32
  | 65 => 140#32
  | 66 => 142#32
  | 67 => 144#32
  | 68 => 146#32
  | 69 => 148#32
  | 70 => 150#32
  | 71 => 152#32
  | 72 => 154#32
  | 73 => 156#32
  | 74 => 158#32
  | 75 => 160#32
  | 76 => 162#32
  | 77 => 164#32
  | 78 => 166#32
  | 79 => 168#32
  | 80 => 170#32
  | 81 => 172#32
  | 82 => 174#32
  | 83 => 176#32
  | 84 => 178#32
  | 85 => 180#32
  | 86 => 182#32
  | 87 => 184#32
  | 88 => 186#32
  | 89 => 188#32
  | 90 => 190#32
  | 91 => 192#32
  | 92 => 194#32
  | 93 => 196#32
  | 94 => 198#32
  | 95 => 200#32
  | 96 => 200#32
  | 97 => 100#32
  | 98 => 200#32
  | 99 => 200#32
  | 100 => 25#32
  | 101 => 50#32
  | 102 => 75#32
  | 103 => 100#32
  | 104 => 125#32
  | 105 => 150#32
  | 106 => 175#32
  | 107 => 200#32
  | 108 => 40#32
  | 109 => 80#32
  | 110 => 120#32
  | 111 => 160#32
  | 112 => 200#32
  | 113 => 100#32
  | 114 => 200#32
  | 115 => 200#32
  | 116 => 50#32
  | 117 => 100#32
  | 118 => 150#32
  | 119 => 200#32
  | 120 => 200#32
  | 121 => 20#32
  | 122 => 40#32
  | 123 => 60#32
  | 124 => 80#32
  | 125 => 100#32
  | 126 => 120#32
  | 127 => 140#32
  | _ => 0#32

noncomputable abbrev lit7t0_15 (i : Nat) : BitVec 32 := match i % 128 with
  | 0 => 160#32
  | 1 => 180#32
  | 2 => 200#32
  | 3 => 200#32
  | 4 => 25#32
  | 5 => 50#32
  | 6 => 75#32
  | 7 => 100#32
  | 8 => 125#32
  | 9 => 150#32
  | 10 => 175#32
  | 11 => 200#32
  | 12 => 200#32
  | 13 => 100#32
  | 14 => 200#32
  | 15 => 40#32
  | 16 => 80#32
  | 17 => 120#32
  | 18 => 160#32
  | 19 => 200#32
  | 20 => 50#32
  | 21 => 100#32
  | 22 => 150#32
  | 23 => 200#32
  | 24 => 200#32
  | 25 => 100#32
  | 26 => 200#32
  | 27 => 200#32
  | 28 => 5#32
  | 29 => 10#32
  | 30 => 15#32
  | 31 => 20#32
  | 32 => 25#32
  | 33 => 30#32
  | 34 => 35#32
  | 35 => 40#32
  | 36 => 45#32
  | 37 => 50#32
  | 38 => 55#32
  | 39 => 60#32
  | 40 => 65#32
  | 41 => 70#32
  | 42 => 75#32
  | 43 => 80#32
  | 44 => 85#32
  | 45 => 90#32
  | 46 => 95#32
  | 47 => 100#32
  | 48 => 105#32
  | 49 => 110#32
  | 50 => 115#32
  | 51 => 120#32
  | 52 => 125#32
  | 53 => 130#32
  | 54 => 135#32
  | 55 => 140#32
  | 56 => 145#32
  | 57 => 150#32
  | 58 => 155#32
  | 59 => 160#32
  | 60 => 165#32
  | 61 => 170#32
  | 62 => 175#32
  | 63 => 180#32
  | 64 => 185#32
  | 65 => 190#32
  | 66 => 195#32
  | 67 => 200#32
  | 68 => 200#32
  | 69 => 100#32
  | 70 => 200#32
  | 71 => 200#32
  | 72 => 50#32
  | 73 => 100#32
  | 74 => 150#32
  | 75 => 200#32
  | 76 => 8#32
  | 77 => 16#32
  | 78 => 24#32
  | 79 => 32#32
  | 80 => 40#32
  | 81 => 48#32
  | 82 => 56#32
  | 83 => 64#32
  | 84 => 72#32
  | 85 => 80#32
  | 86 => 88#32
  | 87 => 96#32
  | 88 => 104#32
  | 89 => 112#32
  | 90 => 120#32
  | 91 => 128#32
  | 92 => 136#32
  | 93 => 144#32
  | 94 => 152#32
  | 95 => 160#32
  | 96 => 168#32
  | 97 => 176#32
  | 98 => 184#32
  | 99 => 192#32
  | 100 => 200#32
  | 101 => 100#32
  | 102 => 200#32
  | 103 => 200#32
  | 104 => 25#32
  | 105 => 50#32
  | 106 => 75#32
  | 107 => 100#32
  | 108 => 125#32
  | 109 => 150#32
  | 110 => 175#32
  | 111 => 200#32
  | 112 => 200#32
  | 113 => 20#32
  | 114 => 40#32
  | 115 => 60#32
  | 116 => 80#32
  | 117 => 100#32
  | 118 => 120#32
  | 119 => 140#32
  | 120 => 160#32
  | 121 => 180#32
  | 122 => 200#32
  | 123 => 200#32
  | 124 => 50#32
  | 125 => 100#32
  | 126 => 150#32
  | 127 => 200#32
  | _ => 0#32

noncomputable abbrev lit7t0_16 (i : Nat) : BitVec 32 := match i % 128 with
  | 0 => 200#32
  | 1 => 100#32
  | 2 => 200#32
  | 3 => 40#32
  | 4 => 80#32
  | 5 => 120#32
  | 6 => 160#32
  | 7 => 200#32
  | 8 => 25#32
  | 9 => 50#32
  | 10 => 75#32
  | 11 => 100#32
  | 12 => 125#32
  | 13 => 150#32
  | 14 => 175#32
  | 15 => 200#32
  | 16 => 200#32
  | 17 => 100#32
  | 18 => 200#32
  | 19 => 200#32
  | 20 => 10#32
  | 21 => 20#32
  | 22 => 30#32
  | 23 => 40#32
  | 24 => 50#32
  | 25 => 60#32
  | 26 => 70#32
  | 27 => 80#32
  | 28 => 90#32
  | 29 => 100#32
  | 30 => 110#32
  | 31 => 120#32
  | 32 => 130#32
  | 33 => 140#32
  | 34 => 150#32
  | 35 => 160#32
  | 36 => 170#32
  | 37 => 180#32
  | 38 => 190#32
  | 39 => 200#32
  | 40 => 200#32
  | 41 => 100#32
  | 42 => 200#32
  | 43 => 200#32
  | 44 => 25#32
  | 45 => 50#32
  | 46 => 75#32
  | 47 => 100#32
  | 48 => 125#32
  | 49 => 150#32
  | 50 => 175#32
  | 51 => 200#32
  | 52 => 40#32
  | 53 => 80#32
  | 54 => 120#32
  | 55 => 160#32
  | 56 => 200#32
  | 57 => 100#32
  | 58 => 200#32
  | 59 => 200#32
  | 60 => 50#32
  | 61 => 100#32
  | 62 => 150#32
  | 63 => 200#32
  | 64 => 200#32
  | 65 => 4#32
  | 66 => 8#32
  | 67 => 12#32
  | 68 => 16#32
  | 69 => 20#32
  | 70 => 24#32
  | 71 => 28#32
  | 72 => 32#32
  | 73 => 36#32
  | 74 => 40#32
  | 75 => 44#32
  | 76 => 48#32
  | 77 => 52#32
  | 78 => 56#32
  | 79 => 60#32
  | 80 => 64#32
  | 81 => 68#32
  | 82 => 72#32
  | 83 => 76#32
  | 84 => 80#32
  | 85 => 84#32
  | 86 => 88#32
  | 87 => 92#32
  | 88 => 96#32
  | 89 => 100#32
  | 90 => 104#32
  | 91 => 108#32
  | 92 => 112#32
  | 93 => 116#32
  | 94 => 120#32
  | 95 => 124#32
  | 96 => 128#32
  | 97 => 132#32
  | 98 => 136#32
  | 99 => 140#32
  | 100 => 144#32
  | 101 => 148#32
  | 102 => 152#32
  | 103 => 156#32
  | 104 => 160#32
  | 105 => 164#32
  | 106 => 168#32
  | 107 => 172#32
  | 108 => 176#32
  | 109 => 180#32
  | 110 => 184#32
  | 111 => 188#32
  | 112 => 192#32
  | 113 => 196#32
  | 114 => 200#32
  | 115 => 200#32
  | 116 => 25#32
  | 117 => 50#32
  | 118 => 75#32
  | 119 => 100#32
  | 120 => 125#32
  | 121 => 150#32
  | 122 => 175#32
  | 123 => 200#32
  | 124 => 200#32
  | 125 => 100#32
  | 126 => 200#32
  | 127 => 40#32
  | _ => 0#32

noncomputable abbrev lit7t0_17 (i : Nat) : BitVec 32 := match i % 128 with
  | 0 => 80#32
  | 1 => 120#32
  | 2 => 160#32
  | 3 => 200#32
  | 4 => 50#32
  | 5 => 100#32
  | 6 => 150#32
  | 7 => 200#32
  | 8 => 200#32
  | 9 => 100#32
  | 10 => 200#32
  | 11 => 200#32
  | 12 => 5#32
  | 13 => 10#32
  | 14 => 15#32
  | 15 => 20#32
  | 16 => 25#32
  | 17 => 30#32
  | 18 => 35#32
  | 19 => 40#32
  | 20 => 45#32
  | 21 => 50#32
  | 22 => 55#32
  | 23 => 60#32
  | 24 => 65#32
  | 25 => 70#32
  | 26 => 75#32
  | 27 => 80#32
  | 28 => 85#32
  | 29 => 90#32
  | 30 => 95#32
  | 31 => 100#32
  | 32 => 105#32
  | 33 => 110#32
  | 34 => 115#32
  | 35 => 120#32
  | 36 => 125#32
  | 37 => 130#32
  | 38 => 135#32
  | 39 => 140#32
  | 40 => 145#32
  | 41 => 150#32
  | 42 => 155#32
  | 43 => 160#32
  | 44 => 165#32
  | 45 => 170#32
  | 46 => 175#32
  | 47 => 180#32
  | 48 => 185#32
  | 49 => 190#32
  | 50 => 195#32
  | 51 => 200#32
  | 52 => 200#32
  | 53 => 100#32
  | 54 => 200#32
  | 55 => 200#32
  | 56 => 50#32
  | 57 => 100#32
  | 58 => 150#32
  | 59 => 200#32
  | 60 => 40#32
  | 61 => 80#32
  | 62 => 120#32
  | 63 => 160#32
  | 64 => 200#32
  | 65 => 100#32
  | 66 => 200#32
  | 67 => 200#32
  | 68 => 25#32
  | 69 => 50#32
  | 70 => 75#32
  | 71 => 100#32
  | 72 => 125#32
  | 73 => 150#32
  | 74 => 175#32
  | 75 => 200#32
  | 76 => 200#32
  | 77 => 20#32
  | 78 => 40#32
  | 79 => 60#32
  | 80 => 80#32
  | 81 => 100#32
  | 82 => 120#32
  | 83 => 140#32
  | 84 => 160#32
  | 85 => 180#32
  | 86 => 200#32
  | 87 => 200#32
  | 88 => 50#32
  | 89 => 100#32
  | 90 => 150#32
  | 91 => 200#32
  | 92 => 200#32
  | 93 => 100#32
  | 94 => 200#32
  | 95 => 8#32
  | 96 => 16#32
  | 97 => 24#32
  | 98 => 32#32
  | 99 => 40#32
  | 100 => 48#32
  | 101 => 56#32
  | 102 => 64#32
  | 103 => 72#32
  | 104 => 80#32
  | 105 => 88#32
  | 106 => 96#32
  | 107 => 104#32
  | 108 => 112#32
  | 109 => 120#32
  | 110 => 128#32
  | 111 => 136#32
  | 112 => 144#32
  | 113 => 152#32
  | 114 => 160#32
  | 115 => 168#32
  | 116 => 176#32
  | 117 => 184#32
  | 118 => 192#32
  | 119 => 200#32
  | 120 => 25#32
  | 121 => 50#32
  | 122 => 75#32
  | 123 => 100#32
  | 124 => 125#32
  | 125 => 150#32
  | 126 => 175#32
  | 127 => 200#32
  | _ => 0#32

noncomputable abbrev lit7t0_18 (i : Nat) : BitVec 32 := match i % 128 with
  | 0 => 200#32
  | 1 => 100#32
  | 2 => 200#32
  | 3 => 200#32
  | 4 => 10#32
  | 5 => 20#32
  | 6 => 30#32
  | 7 => 40#32
  | 8 => 50#32
  | 9 => 60#32
  | 10 => 70#32
  | 11 => 80#32
  | 12 => 90#32
  | 13 => 100#32
  | 14 => 110#32
  | 15 => 120#32
  | 16 => 130#32
  | 17 => 140#32
  | 18 => 150#32
  | 19 => 160#32
  | 20 => 170#32
  | 21 => 180#32
  | 22 => 190#32
  | 23 => 200#32
  | 24 => 200#32
  | 25 => 100#32
  | 26 => 200#32
  | 27 => 200#32
  | 28 => 25#32
  | 29 => 50#32
  | 30 => 75#32
  | 31 => 100#32
  | 32 => 125#32
  | 33 => 150#32
  | 34 => 175#32
  | 35 => 200#32
  | 36 => 40#32
  | 37 => 80#32
  | 38 => 120#32
  | 39 => 160#32
  | 40 => 200#32
  | 41 => 100#32
  | 42 => 200#32
  | 43 => 200#32
  | 44 => 50#32
  | 45 => 100#32
  | 46 => 150#32
  | 47 => 200#32
  | 48 => 200#32
  | 49 => 20#32
  | 50 => 40#32
  | 51 => 60#32
  | 52 => 80#32
  | 53 => 100#32
  | 54 => 120#32
  | 55 => 140#32
  | 56 => 160#32
  | 57 => 180#32
  | 58 => 200#32
  | 59 => 200#32
  | 60 => 25#32
  | 61 => 50#32
  | 62 => 75#32
  | 63 => 100#32
  | 64 => 125#32
  | 65 => 150#32
  | 66 => 175#32
  | 67 => 200#32
  | 68 => 200#32
  | 69 => 100#32
  | 70 => 200#32
  | 71 => 40#32
  | 72 => 80#32
  | 73 => 120#32
  | 74 => 160#32
  | 75 => 200#32
  | 76 => 50#32
  | 77 => 100#32
  | 78 => 150#32
  | 79 => 200#32
  | 80 => 200#32
  | 81 => 100#32
  | 82 => 200#32
  | 83 => 200#32
  | _ => 0#32

noncomputable abbrev lit7t (i : Nat) : BitVec 32 := match i / 128 with
  | 0 => lit7t0_0 i
  | 1 => lit7t0_1 i
  | 2 => lit7t0_2 i
  | 3 => lit7t0_3 i
  | 4 => lit7t0_4 i
  | 5 => lit7t0_5 i
  | 6 => lit7t0_6 i
  | 7 => lit7t0_7 i
  | 8 => lit7t0_8 i
  | 9 => lit7t0_9 i
  | 10 => lit7t0_10 i
  | 11 => lit7t0_11 i
  | 12 => lit7t0_12 i
  | 13 => lit7t0_13 i
  | 14 => lit7t0_14 i
  | 15 => lit7t0_15 i
  | 16 => lit7t0_16 i
  | 17 => lit7t0_17 i
  | 18 => lit7t0_18 i
  | _ => 0#32

noncomputable abbrev lit7 : Fin 2388 → BitVec 32 := fun ⟨i, _⟩ => lit7t i

def fn_flip {F : FTy → Type} [FloatOps F] (arg0 : FVec F S4x200 .f32) : FVec F S4x200 .f32 :=
  let v0 : FVec F S4x200 .f32 := Host.reverse [1] arg0
  v0

def fn_pad {F : FTy → Type} [FloatOps F] (arg0 : FVec F S4x96000 .f32) (arg1 : IVec S_ 32) : FVec F S4x96400 .f32 :=
  let v0 : FVec F S4x1 .f32 := (extractStridedSlice S4x1 ![0, 0] · slices_S4x96000_S4x1_0_0) arg0
  let v1 : FVec F S4x200 .f32 := (extractStridedSlice S4x200 ![0, 1] · slices_S4x96000_S4x200_0_1) arg0
  let v2 : FVec F S4x200 .f32 := fn_flip (F := F) v1
  let v3 : FVec F S4x96200 .f32 := (fun a b => concatenate S4x96200 1 [⟨S4x200, a⟩, ⟨S4x96000, b⟩] concatenates_S4x200_S4x96000_S4x96200_d1) v2 arg0
  let v4 : FVec F S4x1 .f32 := (extractStridedSlice S4x1 ![0, 96199] · slices_S4x96200_S4x1_0_96199) v3
  let v5 : FVec F S4x200 .f32 := (extractStridedSlice S4x200 ![0, 95999] · slices_S4x96200_S4x200_0_95999) v3
  let v6 : FVec F S4x200 .f32 := fn_flip (F := F) v5
  let v7 : FVec F S4x96400 .f32 := (fun a b => concatenate S4x96400 1 [⟨S4x96200, a⟩, ⟨S4x200, b⟩] concatenates_S4x96200_S4x200_S4x96400_d1) v3 v6
  v7

def fn_clip {F : FTy → Type} [FloatOps F] (arg0 : FVec F S4x128x600 .f32) (arg1 : FVec F S_ .f32) : FVec F S4x128x600 .f32 :=
  let v0 : FVec F S_ .f32 := id arg1
  let v1 : FVec F S4x128x600 .f32 := broadcastInDim S4x128x600 ![] bcast_S_S4x128x600 v0
  let v2 : FVec F S4x128x600 .f32 := maximumf v1 arg0
  v2

def fn_pad_0 {F : FTy → Type} [FloatOps F] (arg0 : FVec F S4x128x600 .f32) (arg1 : IVec S_ 32) : FVec F S4x128x602 .f32 :=
  let v0 : FVec F S_ .f32 := sitofp .f32 arg1
  let v1 : FVec F S4x128x602 .f32 := (fun x v => pad S4x128x602 ![0, 0, 1] ![0, 0, 1] ![0, 0, 0] x v pads_S4x128x600_S4x128x602_000_000_110 h_S_) arg0 v0
  v1

def fn_relu {F : FTy → Type} [FloatOps F] (arg0 : FVec F S4x512x600 .f32) : FVec F S4x512x600 .f32 :=
  let cst : FVec F S_ .f32 := constant S_ .f32 0x00000000#32
  let v0 : FVec F S4x512x600 .f32 := broadcastInDim S4x512x600 ![] bcast_S_S4x512x600 cst
  let v1 : FVec F S4x512x600 .f32 := maximumf arg0 v0
  v1

def fn_pad_1 {F : FTy → Type} [FloatOps F] (arg0 : FVec F S4x512x600 .f32) (arg1 : IVec S_ 32) : FVec F S4x512x602 .f32 :=
  let v0 : FVec F S_ .f32 := sitofp .f32 arg1
  let v1 : FVec F S4x512x602 .f32 := (fun x v => pad S4x512x602 ![0, 0, 1] ![0, 0, 1] ![0, 0, 0] x v pads_S4x512x600_S4x512x602_000_000_110 h_S_) arg0 v0
  v1

def fn_relu_2 {F : FTy → Type} [FloatOps F] (arg0 : FVec F S4x512x300 .f32) : FVec F S4x512x300 .f32 :=
  let cst : FVec F S_ .f32 := constant S_ .f32 0x00000000#32
  let v0 : FVec F S4x512x300 .f32 := broadcastInDim S4x512x300 ![] bcast_S_S4x512x300 cst
  let v1 : FVec F S4x512x300 .f32 := maximumf arg0 v0
  v1

def fn_pad_3 {F : FTy → Type} [FloatOps F] (arg0 : FVec F S4x512x300 .f32) (arg1 : IVec S_ 32) : FVec F S4x512x302 .f32 :=
  let v0 : FVec F S_ .f32 := sitofp .f32 arg1
  let v1 : FVec F S4x512x302 .f32 := (fun x v => pad S4x512x302 ![0, 0, 1] ![0, 0, 1] ![0, 0, 0] x v pads_S4x512x300_S4x512x302_000_000_110 h_S_) arg0 v0
  v1

def fn_relu_4 {F : FTy → Type} [FloatOps F] (arg0 : FVec F S4x1024x150 .f32) : FVec F S4x1024x150 .f32 :=
  let cst : FVec F S_ .f32 := constant S_ .f32 0x00000000#32
  let v0 : FVec F S4x1024x150 .f32 := broadcastInDim S4x1024x150 ![] bcast_S_S4x1024x150 cst
  let v1 : FVec F S4x1024x150 .f32 := maximumf arg0 v0
  v1

def fn_pad_5 {F : FTy → Type} [FloatOps F] (arg0 : FVec F S4x1024x150 .f32) (arg1 : IVec S_ 32) : FVec F S4x1024x152 .f32 :=
  let v0 : FVec F S_ .f32 := sitofp .f32 arg1
  let v1 : FVec F S4x1024x152 .f32 := (fun x v => pad S4x1024x152 ![0, 0, 1] ![0, 0, 1] ![0, 0, 0] x v pads_S4x1024x150_S4x1024x152_000_000_110 h_S_) arg0 v0
  v1

def fn_part10 {F : FTy → Type} [FloatOps F] (main_arg9 : FVec F S6561x1024 .f32) (main_v198 : FVec F S600x1024 .f32) (main_v200 : FVec F S600 .f32) : IVec S600 1 :=
  let main_v201 : FVec F S600x1 .f32 := broadcastInDim S600x1 ![0] bcast_S600_S600x1_0 main_v200
  let main_v202 : FVec F S6561x1024 .f32 := mulf main_arg9 main_arg9
  let main_cst_37 : FVec F S_ .f32 := constant S_ .f32 0x00000000#32
  let main_v203 : FVec F S6561 .f32 := (fun x v => Host.reduceAdd x v reducesTo_S6561x1024_S6561_d1 h_S_) main_v202 main_cst_37
  let main_v204 : FVec F S1x6561 .f32 := broadcastInDim S1x6561 ![1] bcast_S6561_S1x6561_1 main_v203
  let main_v205 : FVec F S600x6561 .f32 := broadcastInDim S600x6561 ![0, 1] bcast_S600x1_S600x6561_0_1 main_v201
  let main_v206 : FVec F S600x6561 .f32 := broadcastInDim S600x6561 ![0, 1] bcast_S1x6561_S600x6561_0_1 main_v204
  let main_v207 : FVec F S600x6561 .f32 := addf main_v205 main_v206
  let main_cst_38 : FVec F S_ .f32 := constant S_ .f32 0x40000000#32
  let main_v208 : FVec F S600x1024 .f32 := broadcastInDim S600x1024 ![] bcast_S_S600x1024 main_cst_38
  let main_v209 : FVec F S600x1024 .f32 := mulf main_v208 main_v198
  let main_v210 : FVec F S1024x6561 .f32 := (transpose S1024x6561 [1, 0] · transposes_S6561x1024_S1024x6561_1_0) main_arg9
  let main_v211 : FVec F S600x6561 .f32 := (fun l r => Host.dotGeneral dot_S600x1024_S1024x6561_S600x6561_1_0_0_1_n_n none l r) main_v209 main_v210
  let main_v212 : FVec F S600x6561 .f32 := subf main_v207 main_v211
  let main_cst_39 : FVec F S_ .f32 := constant S_ .f32 0x2B8CBCCC#32
  let main_v213 : FVec F S600x6561 .f32 := broadcastInDim S600x6561 ![] bcast_S_S600x6561 main_cst_39
  let main_v214 : FVec F S600x6561 .f32 := maximumf main_v212 main_v213
  let main_v215 : FVec F S600x6561 .f32 := Host.sqrt main_v214
  let main_cst_40 : FVec F S_ .f32 := constant S_ .f32 0x7F800000#32
  let main_v216 : FVec F S600 .f32 := (fun x v => Host.reduce FloatOps.minimumf x v reducesTo_S600x6561_S600_d1 h_S_) main_v215 main_cst_40
  let main_cst_41 : FVec F S_ .f32 := constant S_ .f32 0x58635FA9#32
  let main_v217 : FVec F S600 .f32 := broadcastInDim S600 ![] bcast_S_S600 main_cst_41
  let main_v218 : IVec S600 1 := cmpf .ole main_v216 main_v217
  main_v218

def fn_part9 {F : FTy → Type} [FloatOps F] (main_arg7 : FVec F S1024x1024x3 .f32) (main_arg8 : FVec F S1024 .f32) (main_arg9 : FVec F S6561x1024 .f32) (main_v176 : FVec F S4x1024x152 .f32) (main_v177 : FVec F S1024x1024x1 .f32) : IVec S600 1 :=
  let main_v178 : FVec F S1024x1024 .f32 := shapeCast S1024x1024 main_v177 shapeCasts_S1024x1024x1_S1024x1024
  let main_v179 : FVec F S4x1024x150 .f32 := (extractStridedSlice S4x1024x150 ![0, 0, 0] · slices_S4x1024x152_S4x1024x150_0_0_0) main_v176
  let main_v180 : FVec F S4x150x1024 .f32 := (fun l r => Host.dotGeneral dot_S4x1024x150_S1024x1024_S4x150x1024_1_1_02_0_n_n none l r) main_v179 main_v178
  let main_v181 : FVec F S4x1024x150 .f32 := (transpose S4x1024x150 [0, 2, 1] · transposes_S4x150x1024_S4x1024x150_0_2_1) main_v180
  let main_v182 : FVec F S1024x1024x1 .f32 := (extractStridedSlice S1024x1024x1 ![0, 0, 1] · slices_S1024x1024x3_S1024x1024x1_0_0_1) main_arg7
  let main_v183 : FVec F S1024x1024 .f32 := shapeCast S1024x1024 main_v182 shapeCasts_S1024x1024x1_S1024x1024
  let main_v184 : FVec F S4x1024x150 .f32 := (extractStridedSlice S4x1024x150 ![0, 0, 1] · slices_S4x1024x152_S4x1024x150_0_0_1) main_v176
  let main_v185 : FVec F S4x150x1024 .f32 := (fun l r => Host.dotGeneral dot_S4x1024x150_S1024x1024_S4x150x1024_1_1_02_0_n_n none l r) main_v184 main_v183
  let main_v186 : FVec F S4x1024x150 .f32 := (transpose S4x1024x150 [0, 2, 1] · transposes_S4x150x1024_S4x1024x150_0_2_1) main_v185
  let main_v187 : FVec F S4x1024x150 .f32 := addf main_v181 main_v186
  let main_v188 : FVec F S1024x1024x1 .f32 := (extractStridedSlice S1024x1024x1 ![0, 0, 2] · slices_S1024x1024x3_S1024x1024x1_0_0_2) main_arg7
  let main_v189 : FVec F S1024x1024 .f32 := shapeCast S1024x1024 main_v188 shapeCasts_S1024x1024x1_S1024x1024
  let main_v190 : FVec F S4x1024x150 .f32 := (extractStridedSlice S4x1024x150 ![0, 0, 2] · slices_S4x1024x152_S4x1024x150_0_0_2) main_v176
  let main_v191 : FVec F S4x150x1024 .f32 := (fun l r => Host.dotGeneral dot_S4x1024x150_S1024x1024_S4x150x1024_1_1_02_0_n_n none l r) main_v190 main_v189
  let main_v192 : FVec F S4x1024x150 .f32 := (transpose S4x1024x150 [0, 2, 1] · transposes_S4x150x1024_S4x1024x150_0_2_1) main_v191
  let main_v193 : FVec F S4x1024x150 .f32 := addf main_v187 main_v192
  let main_v194 : FVec F S1x1024x1 .f32 := broadcastInDim S1x1024x1 ![1] bcast_S1024_S1x1024x1_1 main_arg8
  let main_v195 : FVec F S4x1024x150 .f32 := broadcastInDim S4x1024x150 ![0, 1, 2] bcast_S1x1024x1_S4x1024x150_0_1_2 main_v194
  let main_v196 : FVec F S4x1024x150 .f32 := addf main_v193 main_v195
  let main_v197 : FVec F S4x150x1024 .f32 := (transpose S4x150x1024 [0, 2, 1] · transposes_S4x1024x150_S4x150x1024_0_2_1) main_v196
  let main_v198 : FVec F S600x1024 .f32 := shapeCast S600x1024 main_v197 shapeCasts_S4x150x1024_S600x1024
  let main_v199 : FVec F S600x1024 .f32 := mulf main_v198 main_v198
  let main_cst_36 : FVec F S_ .f32 := constant S_ .f32 0x00000000#32
  let main_v200 : FVec F S600 .f32 := (fun x v => Host.reduceAdd x v reducesTo_S600x1024_S600_d1 h_S_) main_v199 main_cst_36
  fn_part10 (F := F) main_arg9 main_v198 main_v200

def fn_part8 {F : FTy → Type} [FloatOps F] (main_arg5 : FVec F S1024x512x3 .f32) (main_arg6 : FVec F S1024 .f32) (main_arg7 : FVec F S1024x1024x3 .f32) (main_arg8 : FVec F S1024 .f32) (main_arg9 : FVec F S6561x1024 .f32) (main_v154 : FVec F S4x512x302 .f32) : IVec S600 1 :=
  let main_v155 : FVec F S1024x512x1 .f32 := (extractStridedSlice S1024x512x1 ![0, 0, 0] · slices_S1024x512x3_S1024x512x1_0_0_0) main_arg5
  let main_v156 : FVec F S1024x512 .f32 := shapeCast S1024x512 main_v155 shapeCasts_S1024x512x1_S1024x512
  let main_v157 : FVec F S4x512x150 .f32 := (Host.slice S4x512x150 ![0, 0, 0] ![1, 1, 2] · slicesBy_S4x512x302_S4x512x150_0s1_0s1_0s2) main_v154
  let main_v158 : FVec F S4x150x1024 .f32 := (fun l r => Host.dotGeneral dot_S4x512x150_S1024x512_S4x150x1024_1_1_02_0_n_n none l r) main_v157 main_v156
  let main_v159 : FVec F S4x1024x150 .f32 := (transpose S4x1024x150 [0, 2, 1] · transposes_S4x150x1024_S4x1024x150_0_2_1) main_v158
  let main_v160 : FVec F S1024x512x1 .f32 := (extractStridedSlice S1024x512x1 ![0, 0, 1] · slices_S1024x512x3_S1024x512x1_0_0_1) main_arg5
  let main_v161 : FVec F S1024x512 .f32 := shapeCast S1024x512 main_v160 shapeCasts_S1024x512x1_S1024x512
  let main_v162 : FVec F S4x512x150 .f32 := (Host.slice S4x512x150 ![0, 0, 1] ![1, 1, 2] · slicesBy_S4x512x302_S4x512x150_0s1_0s1_1s2) main_v154
  let main_v163 : FVec F S4x150x1024 .f32 := (fun l r => Host.dotGeneral dot_S4x512x150_S1024x512_S4x150x1024_1_1_02_0_n_n none l r) main_v162 main_v161
  let main_v164 : FVec F S4x1024x150 .f32 := (transpose S4x1024x150 [0, 2, 1] · transposes_S4x150x1024_S4x1024x150_0_2_1) main_v163
  let main_v165 : FVec F S4x1024x150 .f32 := addf main_v159 main_v164
  let main_v166 : FVec F S1024x512x1 .f32 := (extractStridedSlice S1024x512x1 ![0, 0, 2] · slices_S1024x512x3_S1024x512x1_0_0_2) main_arg5
  let main_v167 : FVec F S1024x512 .f32 := shapeCast S1024x512 main_v166 shapeCasts_S1024x512x1_S1024x512
  let main_v168 : FVec F S4x512x150 .f32 := (Host.slice S4x512x150 ![0, 0, 2] ![1, 1, 2] · slicesBy_S4x512x302_S4x512x150_0s1_0s1_2s2) main_v154
  let main_v169 : FVec F S4x150x1024 .f32 := (fun l r => Host.dotGeneral dot_S4x512x150_S1024x512_S4x150x1024_1_1_02_0_n_n none l r) main_v168 main_v167
  let main_v170 : FVec F S4x1024x150 .f32 := (transpose S4x1024x150 [0, 2, 1] · transposes_S4x150x1024_S4x1024x150_0_2_1) main_v169
  let main_v171 : FVec F S4x1024x150 .f32 := addf main_v165 main_v170
  let main_v172 : FVec F S1x1024x1 .f32 := broadcastInDim S1x1024x1 ![1] bcast_S1024_S1x1024x1_1 main_arg6
  let main_v173 : FVec F S4x1024x150 .f32 := broadcastInDim S4x1024x150 ![0, 1, 2] bcast_S1x1024x1_S4x1024x150_0_1_2 main_v172
  let main_v174 : FVec F S4x1024x150 .f32 := addf main_v171 main_v173
  let main_v175 : FVec F S4x1024x150 .f32 := fn_relu_4 (F := F) main_v174
  let main_c_35 : IVec S_ 32 := constantI S_ 32 0#32
  let main_v176 : FVec F S4x1024x152 .f32 := fn_pad_5 (F := F) main_v175 main_c_35
  let main_v177 : FVec F S1024x1024x1 .f32 := (extractStridedSlice S1024x1024x1 ![0, 0, 0] · slices_S1024x1024x3_S1024x1024x1_0_0_0) main_arg7
  fn_part9 (F := F) main_arg7 main_arg8 main_arg9 main_v176 main_v177

def fn_part7 {F : FTy → Type} [FloatOps F] (main_arg3 : FVec F S512x512x3 .f32) (main_arg4 : FVec F S512 .f32) (main_arg5 : FVec F S1024x512x3 .f32) (main_arg6 : FVec F S1024 .f32) (main_arg7 : FVec F S1024x1024x3 .f32) (main_arg8 : FVec F S1024 .f32) (main_arg9 : FVec F S6561x1024 .f32) (main_v131 : FVec F S4x512x600 .f32) (main_c_33 : IVec S_ 32) : IVec S600 1 :=
  let main_v132 : FVec F S4x512x602 .f32 := fn_pad_1 (F := F) main_v131 main_c_33
  let main_v133 : FVec F S512x512x1 .f32 := (extractStridedSlice S512x512x1 ![0, 0, 0] · slices_S512x512x3_S512x512x1_0_0_0) main_arg3
  let main_v134 : FVec F S512x512 .f32 := shapeCast S512x512 main_v133 shapeCasts_S512x512x1_S512x512
  let main_v135 : FVec F S4x512x300 .f32 := (Host.slice S4x512x300 ![0, 0, 0] ![1, 1, 2] · slicesBy_S4x512x602_S4x512x300_0s1_0s1_0s2) main_v132
  let main_v136 : FVec F S4x300x512 .f32 := (fun l r => Host.dotGeneral dot_S4x512x300_S512x512_S4x300x512_1_1_02_0_n_n none l r) main_v135 main_v134
  let main_v137 : FVec F S4x512x300 .f32 := (transpose S4x512x300 [0, 2, 1] · transposes_S4x300x512_S4x512x300_0_2_1) main_v136
  let main_v138 : FVec F S512x512x1 .f32 := (extractStridedSlice S512x512x1 ![0, 0, 1] · slices_S512x512x3_S512x512x1_0_0_1) main_arg3
  let main_v139 : FVec F S512x512 .f32 := shapeCast S512x512 main_v138 shapeCasts_S512x512x1_S512x512
  let main_v140 : FVec F S4x512x300 .f32 := (Host.slice S4x512x300 ![0, 0, 1] ![1, 1, 2] · slicesBy_S4x512x602_S4x512x300_0s1_0s1_1s2) main_v132
  let main_v141 : FVec F S4x300x512 .f32 := (fun l r => Host.dotGeneral dot_S4x512x300_S512x512_S4x300x512_1_1_02_0_n_n none l r) main_v140 main_v139
  let main_v142 : FVec F S4x512x300 .f32 := (transpose S4x512x300 [0, 2, 1] · transposes_S4x300x512_S4x512x300_0_2_1) main_v141
  let main_v143 : FVec F S4x512x300 .f32 := addf main_v137 main_v142
  let main_v144 : FVec F S512x512x1 .f32 := (extractStridedSlice S512x512x1 ![0, 0, 2] · slices_S512x512x3_S512x512x1_0_0_2) main_arg3
  let main_v145 : FVec F S512x512 .f32 := shapeCast S512x512 main_v144 shapeCasts_S512x512x1_S512x512
  let main_v146 : FVec F S4x512x300 .f32 := (Host.slice S4x512x300 ![0, 0, 2] ![1, 1, 2] · slicesBy_S4x512x602_S4x512x300_0s1_0s1_2s2) main_v132
  let main_v147 : FVec F S4x300x512 .f32 := (fun l r => Host.dotGeneral dot_S4x512x300_S512x512_S4x300x512_1_1_02_0_n_n none l r) main_v146 main_v145
  let main_v148 : FVec F S4x512x300 .f32 := (transpose S4x512x300 [0, 2, 1] · transposes_S4x300x512_S4x512x300_0_2_1) main_v147
  let main_v149 : FVec F S4x512x300 .f32 := addf main_v143 main_v148
  let main_v150 : FVec F S1x512x1 .f32 := broadcastInDim S1x512x1 ![1] bcast_S512_S1x512x1_1 main_arg4
  let main_v151 : FVec F S4x512x300 .f32 := broadcastInDim S4x512x300 ![0, 1, 2] bcast_S1x512x1_S4x512x300_0_1_2 main_v150
  let main_v152 : FVec F S4x512x300 .f32 := addf main_v149 main_v151
  let main_v153 : FVec F S4x512x300 .f32 := fn_relu_2 (F := F) main_v152
  let main_c_34 : IVec S_ 32 := constantI S_ 32 0#32
  let main_v154 : FVec F S4x512x302 .f32 := fn_pad_3 (F := F) main_v153 main_c_34
  fn_part8 (F := F) main_arg5 main_arg6 main_arg7 main_arg8 main_arg9 main_v154

def fn_part6 {F : FTy → Type} [FloatOps F] (main_arg1 : FVec F S512x128x3 .f32) (main_arg2 : FVec F S512 .f32) (main_arg3 : FVec F S512x512x3 .f32) (main_arg4 : FVec F S512 .f32) (main_arg5 : FVec F S1024x512x3 .f32) (main_arg6 : FVec F S1024 .f32) (main_arg7 : FVec F S1024x1024x3 .f32) (main_arg8 : FVec F S1024 .f32) (main_arg9 : FVec F S6561x1024 .f32) (main_v109 : FVec F S4x128x600 .f32) : IVec S600 1 :=
  let main_c_32 : IVec S_ 32 := constantI S_ 32 0#32
  let main_v110 : FVec F S4x128x602 .f32 := fn_pad_0 (F := F) main_v109 main_c_32
  let main_v111 : FVec F S512x128x1 .f32 := (extractStridedSlice S512x128x1 ![0, 0, 0] · slices_S512x128x3_S512x128x1_0_0_0) main_arg1
  let main_v112 : FVec F S512x128 .f32 := shapeCast S512x128 main_v111 shapeCasts_S512x128x1_S512x128
  let main_v113 : FVec F S4x128x600 .f32 := (extractStridedSlice S4x128x600 ![0, 0, 0] · slices_S4x128x602_S4x128x600_0_0_0) main_v110
  let main_v114 : FVec F S4x600x512 .f32 := (fun l r => Host.dotGeneral dot_S4x128x600_S512x128_S4x600x512_1_1_02_0_n_n none l r) main_v113 main_v112
  let main_v115 : FVec F S4x512x600 .f32 := (transpose S4x512x600 [0, 2, 1] · transposes_S4x600x512_S4x512x600_0_2_1) main_v114
  let main_v116 : FVec F S512x128x1 .f32 := (extractStridedSlice S512x128x1 ![0, 0, 1] · slices_S512x128x3_S512x128x1_0_0_1) main_arg1
  let main_v117 : FVec F S512x128 .f32 := shapeCast S512x128 main_v116 shapeCasts_S512x128x1_S512x128
  let main_v118 : FVec F S4x128x600 .f32 := (extractStridedSlice S4x128x600 ![0, 0, 1] · slices_S4x128x602_S4x128x600_0_0_1) main_v110
  let main_v119 : FVec F S4x600x512 .f32 := (fun l r => Host.dotGeneral dot_S4x128x600_S512x128_S4x600x512_1_1_02_0_n_n none l r) main_v118 main_v117
  let main_v120 : FVec F S4x512x600 .f32 := (transpose S4x512x600 [0, 2, 1] · transposes_S4x600x512_S4x512x600_0_2_1) main_v119
  let main_v121 : FVec F S4x512x600 .f32 := addf main_v115 main_v120
  let main_v122 : FVec F S512x128x1 .f32 := (extractStridedSlice S512x128x1 ![0, 0, 2] · slices_S512x128x3_S512x128x1_0_0_2) main_arg1
  let main_v123 : FVec F S512x128 .f32 := shapeCast S512x128 main_v122 shapeCasts_S512x128x1_S512x128
  let main_v124 : FVec F S4x128x600 .f32 := (extractStridedSlice S4x128x600 ![0, 0, 2] · slices_S4x128x602_S4x128x600_0_0_2) main_v110
  let main_v125 : FVec F S4x600x512 .f32 := (fun l r => Host.dotGeneral dot_S4x128x600_S512x128_S4x600x512_1_1_02_0_n_n none l r) main_v124 main_v123
  let main_v126 : FVec F S4x512x600 .f32 := (transpose S4x512x600 [0, 2, 1] · transposes_S4x600x512_S4x512x600_0_2_1) main_v125
  let main_v127 : FVec F S4x512x600 .f32 := addf main_v121 main_v126
  let main_v128 : FVec F S1x512x1 .f32 := broadcastInDim S1x512x1 ![1] bcast_S512_S1x512x1_1 main_arg2
  let main_v129 : FVec F S4x512x600 .f32 := broadcastInDim S4x512x600 ![0, 1, 2] bcast_S1x512x1_S4x512x600_0_1_2 main_v128
  let main_v130 : FVec F S4x512x600 .f32 := addf main_v127 main_v129
  let main_v131 : FVec F S4x512x600 .f32 := fn_relu (F := F) main_v130
  let main_c_33 : IVec S_ 32 := constantI S_ 32 0#32
  fn_part7 (F := F) main_arg3 main_arg4 main_arg5 main_arg6 main_arg7 main_arg8 main_arg9 main_v131 main_c_33

def fn_part5 {F : FTy → Type} [FloatOps F] (main_arg1 : FVec F S512x128x3 .f32) (main_arg2 : FVec F S512 .f32) (main_arg3 : FVec F S512x512x3 .f32) (main_arg4 : FVec F S512 .f32) (main_arg5 : FVec F S1024x512x3 .f32) (main_arg6 : FVec F S1024 .f32) (main_arg7 : FVec F S1024x1024x3 .f32) (main_arg8 : FVec F S1024 .f32) (main_arg9 : FVec F S6561x1024 .f32) (main_arg10 : FVec F S128x201 .f32) (main_v91 : FVec F S4x201x600 .f32) : IVec S600 1 :=
  let main_v92 : FVec F S4x600x128 .f32 := (fun l r => Host.dotGeneral dot_S4x201x600_S128x201_S4x600x128_1_1_02_0_n_n none l r) main_v91 main_arg10
  let main_v93 : FVec F S4x128x600 .f32 := (transpose S4x128x600 [0, 2, 1] · transposes_S4x600x128_S4x128x600_0_2_1) main_v92
  let main_cst_26 : FVec F S_ .f32 := constant S_ .f32 0x2EDBE6FF#32
  let main_v94 : FVec F S4x128x600 .f32 := fn_clip (F := F) main_v93 main_cst_26
  let main_v95 : FVec F S4x128x600 .f32 := Host.log main_v94
  let main_cst_27 : FVec F S_ .f32 := constant S_ .f32 0x41200000#32
  let main_v96 : FVec F S_ .f32 := Host.log main_cst_27
  let main_v97 : FVec F S_ .f32 := id main_v96
  let main_v98 : FVec F S4x128x600 .f32 := broadcastInDim S4x128x600 ![] bcast_S_S4x128x600 main_v97
  let main_v99 : FVec F S4x128x600 .f32 := Host.divf main_v95 main_v98
  let main_cst_28 : FVec F S_ .f32 := constant S_ .f32 0xFF800000#32
  let main_v100 : FVec F S4 .f32 := (fun x v => Host.reduce FloatOps.maximumf x v reducesTo_S4x128x600_S4_d1_2 h_S_) main_v99 main_cst_28
  let main_v101 : FVec F S4x1x1 .f32 := broadcastInDim S4x1x1 ![0] bcast_S4_S4x1x1_0 main_v100
  let main_cst_29 : FVec F S_ .f32 := constant S_ .f32 0x41000000#32
  let main_v102 : FVec F S4x1x1 .f32 := broadcastInDim S4x1x1 ![] bcast_S_S4x1x1 main_cst_29
  let main_v103 : FVec F S4x1x1 .f32 := subf main_v101 main_v102
  let main_v104 : FVec F S4x128x600 .f32 := broadcastInDim S4x128x600 ![0, 1, 2] bcast_S4x1x1_S4x128x600_0_1_2 main_v103
  let main_v105 : FVec F S4x128x600 .f32 := maximumf main_v99 main_v104
  let main_cst_30 : FVec F S_ .f32 := constant S_ .f32 0x40800000#32
  let main_v106 : FVec F S4x128x600 .f32 := broadcastInDim S4x128x600 ![] bcast_S_S4x128x600 main_cst_30
  let main_v107 : FVec F S4x128x600 .f32 := addf main_v105 main_v106
  let main_cst_31 : FVec F S_ .f32 := constant S_ .f32 0x40800000#32
  let main_v108 : FVec F S4x128x600 .f32 := broadcastInDim S4x128x600 ![] bcast_S_S4x128x600 main_cst_31
  let main_v109 : FVec F S4x128x600 .f32 := Host.divf main_v107 main_v108
  fn_part6 (F := F) main_arg1 main_arg2 main_arg3 main_arg4 main_arg5 main_arg6 main_arg7 main_arg8 main_arg9 main_v109

def fn_part4 {F : FTy → Type} [FloatOps F] (main_arg1 : FVec F S512x128x3 .f32) (main_arg2 : FVec F S512 .f32) (main_arg3 : FVec F S512x512x3 .f32) (main_arg4 : FVec F S512 .f32) (main_arg5 : FVec F S1024x512x3 .f32) (main_arg6 : FVec F S1024 .f32) (main_arg7 : FVec F S1024x1024x3 .f32) (main_arg8 : FVec F S1024 .f32) (main_arg9 : FVec F S6561x1024 .f32) (main_arg10 : FVec F S128x201 .f32) (main_v25 : FVec F S400x201 .f32) (main_v51 : FVec F S400x201 .f32) (main_v68 : FVec F S4x601x400 .f32) (main_v69 : FVec F S1x1x400 .f32) : IVec S600 1 :=
  let main_v70 : FVec F S4x601x400 .f32 := broadcastInDim S4x601x400 ![0, 1, 2] bcast_S1x1x400_S4x601x400_0_1_2 main_v69
  let main_v71 : FVec F S4x601x400 .f32 := mulf main_v68 main_v70
  let main_v72 : FVec F S4x601x400x1 .f32 := broadcastInDim S4x601x400x1 ![0, 1, 2] bcast_S4x601x400_S4x601x400x1_0_1_2 main_v71
  let main_v73 : FVec F S1x1x400x201 .f32 := broadcastInDim S1x1x400x201 ![2, 3] bcast_S400x201_S1x1x400x201_2_3 main_v25
  let main_v74 : FVec F S4x601x400x201 .f32 := broadcastInDim S4x601x400x201 ![0, 1, 2, 3] bcast_S4x601x400x1_S4x601x400x201_0_1_2_3 main_v72
  let main_v75 : FVec F S4x601x400x201 .f32 := broadcastInDim S4x601x400x201 ![0, 1, 2, 3] bcast_S1x1x400x201_S4x601x400x201_0_1_2_3 main_v73
  let main_v76 : FVec F S4x601x400x201 .f32 := mulf main_v74 main_v75
  let main_cst_24 : FVec F S_ .f32 := constant S_ .f32 0x00000000#32
  let main_v77 : FVec F S4x601x201 .f32 := (fun x v => Host.reduceAdd x v reducesTo_S4x601x400x201_S4x601x201_d2 h_S_) main_v76 main_cst_24
  let main_v78 : FVec F S4x601x400x1 .f32 := broadcastInDim S4x601x400x1 ![0, 1, 2] bcast_S4x601x400_S4x601x400x1_0_1_2 main_v71
  let main_v79 : FVec F S1x1x400x201 .f32 := broadcastInDim S1x1x400x201 ![2, 3] bcast_S400x201_S1x1x400x201_2_3 main_v51
  let main_v80 : FVec F S4x601x400x201 .f32 := broadcastInDim S4x601x400x201 ![0, 1, 2, 3] bcast_S4x601x400x1_S4x601x400x201_0_1_2_3 main_v78
  let main_v81 : FVec F S4x601x400x201 .f32 := broadcastInDim S4x601x400x201 ![0, 1, 2, 3] bcast_S1x1x400x201_S4x601x400x201_0_1_2_3 main_v79
  let main_v82 : FVec F S4x601x400x201 .f32 := mulf main_v80 main_v81
  let main_cst_25 : FVec F S_ .f32 := constant S_ .f32 0x00000000#32
  let main_v83 : FVec F S4x601x201 .f32 := (fun x v => Host.reduceAdd x v reducesTo_S4x601x400x201_S4x601x201_d2 h_S_) main_v82 main_cst_25
  let main_v84 : FVec F S4x601x201 .f32 := Host.negf main_v83
  let main_v85 : FVec F S4x601x201 .f32 := mulf main_v77 main_v77
  let main_v86 : FVec F S4x601x201 .f32 := mulf main_v84 main_v84
  let main_v87 : FVec F S4x601x201 .f32 := addf main_v85 main_v86
  let main_v88 : FVec F S4x601x201 .f32 := Host.sqrt main_v87
  let main_v89 : FVec F S4x601x201 .f32 := mulf main_v88 main_v88
  let main_v90 : FVec F S4x201x601 .f32 := (transpose S4x201x601 [0, 2, 1] · transposes_S4x601x201_S4x201x601_0_2_1) main_v89
  let main_v91 : FVec F S4x201x600 .f32 := (extractStridedSlice S4x201x600 ![0, 0, 0] · slices_S4x201x601_S4x201x600_0_0_0) main_v90
  fn_part5 (F := F) main_arg1 main_arg2 main_arg3 main_arg4 main_arg5 main_arg6 main_arg7 main_arg8 main_arg9 main_arg10 main_v91

def fn_part3 {F : FTy → Type} [FloatOps F] (main_arg0 : FVec F S4x96000 .f32) (main_arg1 : FVec F S512x128x3 .f32) (main_arg2 : FVec F S512 .f32) (main_arg3 : FVec F S512x512x3 .f32) (main_arg4 : FVec F S512 .f32) (main_arg5 : FVec F S1024x512x3 .f32) (main_arg6 : FVec F S1024 .f32) (main_arg7 : FVec F S1024x1024x3 .f32) (main_arg8 : FVec F S1024 .f32) (main_arg9 : FVec F S6561x1024 .f32) (main_arg10 : FVec F S128x201 .f32) (main_arg11 : FVec F S400 .f32) (main_cst_5 : FVec F S2388 .f32) (main_v25 : FVec F S400x201 .f32) (main_v41 : FVec F S400x201 .f32) (main_v48 : IVec S2388x1 32) (main_v49 : IVec S2388x1 32) : IVec S600 1 :=
  let main_v50 : IVec S2388x2 32 := (fun a b => concatenate S2388x2 1 [⟨S2388x1, a⟩, ⟨S2388x1, b⟩] concatenates_S2388x1_S2388x1_S2388x2_d1) main_v48 main_v49
  let main_v51 : FVec F S400x201 .f32 := (fun x i u => Host.scatter scatter_S400x201_S2388x2_S2388_n_01_01_1 (fun _ b => b) x i u) main_v41 main_v50 main_cst_5
  let main_c_20 : IVec S_ 32 := constantI S_ 32 0#32
  let main_v52 : FVec F S4x96400 .f32 := fn_pad (F := F) main_arg0 main_c_20
  let main_v53 : IVec S601 32 := iotaInDim S601 32 0
  let main_v54 : IVec S601x1 32 := broadcastInDim S601x1 ![0] bcast_S601_S601x1_0 main_v53
  let main_c_21 : IVec S_ 32 := constantI S_ 32 160#32
  let main_v55 : IVec S601x1 32 := broadcastInDim S601x1 ![] bcast_S_S601x1 main_c_21
  let main_v56 : IVec S601x1 32 := muli main_v54 main_v55
  let main_v57 : IVec S400 32 := iotaInDim S400 32 0
  let main_v58 : IVec S1x400 32 := broadcastInDim S1x400 ![1] bcast_S400_S1x400_1 main_v57
  let main_v59 : IVec S601x400 32 := broadcastInDim S601x400 ![0, 1] bcast_S601x1_S601x400_0_1 main_v56
  let main_v60 : IVec S601x400 32 := broadcastInDim S601x400 ![0, 1] bcast_S1x400_S601x400_0_1 main_v58
  let main_v61 : IVec S601x400 32 := addi main_v59 main_v60
  let main_c_22 : IVec S_ 32 := constantI S_ 32 0#32
  let main_v62 : IVec S601x400 32 := broadcastInDim S601x400 ![] bcast_S_S601x400 main_c_22
  let main_v63 : IVec S601x400 1 := cmpi .slt main_v61 main_v62
  let main_c_23 : IVec S_ 32 := constantI S_ 32 96400#32
  let main_v64 : IVec S601x400 32 := broadcastInDim S601x400 ![] bcast_S_S601x400 main_c_23
  let main_v65 : IVec S601x400 32 := addi main_v61 main_v64
  let main_v66 : IVec S601x400 32 := select main_v63 main_v65 main_v61
  let main_v67 : IVec S601x400x1 32 := broadcastInDim S601x400x1 ![0, 1] bcast_S601x400_S601x400x1_0_1 main_v66
  let main_v68 : FVec F S4x601x400 .f32 := (fun x i => Host.gather gather_S4x96400_S601x400x1_S4x601x400_0_1_n_n_1_2_41 x i) main_v52 main_v67
  let main_v69 : FVec F S1x1x400 .f32 := broadcastInDim S1x1x400 ![2] bcast_S400_S1x1x400_2 main_arg11
  fn_part4 (F := F) main_arg1 main_arg2 main_arg3 main_arg4 main_arg5 main_arg6 main_arg7 main_arg8 main_arg9 main_arg10 main_v25 main_v51 main_v68 main_v69

def fn_part2 {F : FTy → Type} [FloatOps F] (main_arg0 : FVec F S4x96000 .f32) (main_arg1 : FVec F S512x128x3 .f32) (main_arg2 : FVec F S512 .f32) (main_arg3 : FVec F S512x512x3 .f32) (main_arg4 : FVec F S512 .f32) (main_arg5 : FVec F S1024x512x3 .f32) (main_arg6 : FVec F S1024 .f32) (main_arg7 : FVec F S1024x1024x3 .f32) (main_arg8 : FVec F S1024 .f32) (main_arg9 : FVec F S6561x1024 .f32) (main_arg10 : FVec F S128x201 .f32) (main_arg11 : FVec F S400 .f32) (main_cst_4 : FVec F S400 .f32) (main_cst_5 : FVec F S2388 .f32) (main_c_6 : IVec S2388 32) (main_c_7 : IVec S2388 1) (main_c_8 : IVec S2388 32) (main_c_9 : IVec S2388 1) (main_v25 : FVec F S400x201 .f32) (main_v29 : IVec S1x201 32) (main_v30 : IVec S400x201 32) : IVec S600 1 :=
  let main_v31 : IVec S400x201 32 := broadcastInDim S400x201 ![0, 1] bcast_S1x201_S400x201_0_1 main_v29
  let main_v32 : IVec S400x201 32 := muli main_v30 main_v31
  let main_c_15 : IVec S_ 32 := constantI S_ 32 400#32
  let main_v33 : IVec S400x201 32 := broadcastInDim S400x201 ![] bcast_S_S400x201 main_c_15
  let main_v34 : IVec S400x201 32 := Host.remsi main_v32 main_v33
  let main_c_16 : IVec S_ 32 := constantI S_ 32 0#32
  let main_v35 : IVec S400x201 32 := broadcastInDim S400x201 ![] bcast_S_S400x201 main_c_16
  let main_v36 : IVec S400x201 1 := cmpi .slt main_v34 main_v35
  let main_c_17 : IVec S_ 32 := constantI S_ 32 400#32
  let main_v37 : IVec S400x201 32 := broadcastInDim S400x201 ![] bcast_S_S400x201 main_c_17
  let main_v38 : IVec S400x201 32 := addi main_v34 main_v37
  let main_v39 : IVec S400x201 32 := select main_v36 main_v38 main_v34
  let main_v40 : IVec S400x201x1 32 := broadcastInDim S400x201x1 ![0, 1] bcast_S400x201_S400x201x1_0_1 main_v39
  let main_v41 : FVec F S400x201 .f32 := (fun x i => Host.gather gather_S400_S400x201x1_S400x201_n_0_n_n_0_2_1 x i) main_cst_4 main_v40
  let main_c_18 : IVec S_ 32 := constantI S_ 32 400#32
  let main_v42 : IVec S2388 32 := broadcastInDim S2388 ![] bcast_S_S2388 main_c_18
  let main_v43 : IVec S2388 32 := addi main_c_6 main_v42
  let main_v44 : IVec S2388 32 := select main_c_7 main_v43 main_c_6
  let main_c_19 : IVec S_ 32 := constantI S_ 32 201#32
  let main_v45 : IVec S2388 32 := broadcastInDim S2388 ![] bcast_S_S2388 main_c_19
  let main_v46 : IVec S2388 32 := addi main_c_8 main_v45
  let main_v47 : IVec S2388 32 := select main_c_9 main_v46 main_c_8
  let main_v48 : IVec S2388x1 32 := broadcastInDim S2388x1 ![0] bcast_S2388_S2388x1_0 main_v44
  let main_v49 : IVec S2388x1 32 := broadcastInDim S2388x1 ![0] bcast_S2388_S2388x1_0 main_v47
  fn_part3 (F := F) main_arg0 main_arg1 main_arg2 main_arg3 main_arg4 main_arg5 main_arg6 main_arg7 main_arg8 main_arg9 main_arg10 main_arg11 main_cst_5 main_v25 main_v41 main_v48 main_v49

def fn_part1 {F : FTy → Type} [FloatOps F] (main_arg0 : FVec F S4x96000 .f32) (main_arg1 : FVec F S512x128x3 .f32) (main_arg2 : FVec F S512 .f32) (main_arg3 : FVec F S512x512x3 .f32) (main_arg4 : FVec F S512 .f32) (main_arg5 : FVec F S1024x512x3 .f32) (main_arg6 : FVec F S1024 .f32) (main_arg7 : FVec F S1024x1024x3 .f32) (main_arg8 : FVec F S1024 .f32) (main_arg9 : FVec F S6561x1024 .f32) (main_arg10 : FVec F S128x201 .f32) (main_arg11 : FVec F S400 .f32) (main_cst : FVec F S400 .f32) (main_cst_0 : FVec F S1534 .f32) (main_c : IVec S1534 32) (main_c_1 : IVec S1534 1) (main_c_2 : IVec S1534 32) (main_c_3 : IVec S1534 1) (main_cst_4 : FVec F S400 .f32) (main_cst_5 : FVec F S2388 .f32) (main_c_6 : IVec S2388 32) (main_c_7 : IVec S2388 1) (main_c_8 : IVec S2388 32) (main_c_9 : IVec S2388 1) (main_v8 : IVec S400x201 32) (main_v9 : IVec S400x201 32) : IVec S600 1 :=
  let main_v10 : IVec S400x201 1 := cmpi .slt main_v8 main_v9
  let main_c_12 : IVec S_ 32 := constantI S_ 32 400#32
  let main_v11 : IVec S400x201 32 := broadcastInDim S400x201 ![] bcast_S_S400x201 main_c_12
  let main_v12 : IVec S400x201 32 := addi main_v8 main_v11
  let main_v13 : IVec S400x201 32 := select main_v10 main_v12 main_v8
  let main_v14 : IVec S400x201x1 32 := broadcastInDim S400x201x1 ![0, 1] bcast_S400x201_S400x201x1_0_1 main_v13
  let main_v15 : FVec F S400x201 .f32 := (fun x i => Host.gather gather_S400_S400x201x1_S400x201_n_0_n_n_0_2_1 x i) main_cst main_v14
  let main_c_13 : IVec S_ 32 := constantI S_ 32 400#32
  let main_v16 : IVec S1534 32 := broadcastInDim S1534 ![] bcast_S_S1534 main_c_13
  let main_v17 : IVec S1534 32 := addi main_c main_v16
  let main_v18 : IVec S1534 32 := select main_c_1 main_v17 main_c
  let main_c_14 : IVec S_ 32 := constantI S_ 32 201#32
  let main_v19 : IVec S1534 32 := broadcastInDim S1534 ![] bcast_S_S1534 main_c_14
  let main_v20 : IVec S1534 32 := addi main_c_2 main_v19
  let main_v21 : IVec S1534 32 := select main_c_3 main_v20 main_c_2
  let main_v22 : IVec S1534x1 32 := broadcastInDim S1534x1 ![0] bcast_S1534_S1534x1_0 main_v18
  let main_v23 : IVec S1534x1 32 := broadcastInDim S1534x1 ![0] bcast_S1534_S1534x1_0 main_v21
  let main_v24 : IVec S1534x2 32 := (fun a b => concatenate S1534x2 1 [⟨S1534x1, a⟩, ⟨S1534x1, b⟩] concatenates_S1534x1_S1534x1_S1534x2_d1) main_v22 main_v23
  let main_v25 : FVec F S400x201 .f32 := (fun x i u => Host.scatter scatter_S400x201_S1534x2_S1534_n_01_01_1 (fun _ b => b) x i u) main_v15 main_v24 main_cst_0
  let main_v26 : IVec S400 32 := iotaInDim S400 32 0
  let main_v27 : IVec S400x1 32 := broadcastInDim S400x1 ![0] bcast_S400_S400x1_0 main_v26
  let main_v28 : IVec S201 32 := iotaInDim S201 32 0
  let main_v29 : IVec S1x201 32 := broadcastInDim S1x201 ![1] bcast_S201_S1x201_1 main_v28
  let main_v30 : IVec S400x201 32 := broadcastInDim S400x201 ![0, 1] bcast_S400x1_S400x201_0_1 main_v27
  fn_part2 (F := F) main_arg0 main_arg1 main_arg2 main_arg3 main_arg4 main_arg5 main_arg6 main_arg7 main_arg8 main_arg9 main_arg10 main_arg11 main_cst_4 main_cst_5 main_c_6 main_c_7 main_c_8 main_c_9 main_v25 main_v29 main_v30

def fn {F : FTy → Type} [FloatOps F] (main_arg0 : FVec F S4x96000 .f32) (main_arg1 : FVec F S512x128x3 .f32) (main_arg2 : FVec F S512 .f32) (main_arg3 : FVec F S512x512x3 .f32) (main_arg4 : FVec F S512 .f32) (main_arg5 : FVec F S1024x512x3 .f32) (main_arg6 : FVec F S1024 .f32) (main_arg7 : FVec F S1024x1024x3 .f32) (main_arg8 : FVec F S1024 .f32) (main_arg9 : FVec F S6561x1024 .f32) (main_arg10 : FVec F S128x201 .f32) (main_arg11 : FVec F S400 .f32) : IVec S600 1 :=
  let main_cst : FVec F S400 .f32 := fun i => FloatOps.ofBits .f32 (lit0 (S400.rowMajor i))
  let main_cst_0 : FVec F S1534 .f32 := fun i => FloatOps.ofBits .f32 (lit1 (S1534.rowMajor i))
  let main_c : IVec S1534 32 := fun i => lit2 (S1534.rowMajor i)
  let main_c_1 : IVec S1534 1 := constantI S1534 1 0#1
  let main_c_2 : IVec S1534 32 := fun i => lit3 (S1534.rowMajor i)
  let main_c_3 : IVec S1534 1 := constantI S1534 1 0#1
  let main_cst_4 : FVec F S400 .f32 := fun i => FloatOps.ofBits .f32 (lit4 (S400.rowMajor i))
  let main_cst_5 : FVec F S2388 .f32 := fun i => FloatOps.ofBits .f32 (lit5 (S2388.rowMajor i))
  let main_c_6 : IVec S2388 32 := fun i => lit6 (S2388.rowMajor i)
  let main_c_7 : IVec S2388 1 := constantI S2388 1 0#1
  let main_c_8 : IVec S2388 32 := fun i => lit7 (S2388.rowMajor i)
  let main_c_9 : IVec S2388 1 := constantI S2388 1 0#1
  let main_v0 : IVec S400 32 := iotaInDim S400 32 0
  let main_v1 : IVec S400x1 32 := broadcastInDim S400x1 ![0] bcast_S400_S400x1_0 main_v0
  let main_v2 : IVec S201 32 := iotaInDim S201 32 0
  let main_v3 : IVec S1x201 32 := broadcastInDim S1x201 ![1] bcast_S201_S1x201_1 main_v2
  let main_v4 : IVec S400x201 32 := broadcastInDim S400x201 ![0, 1] bcast_S400x1_S400x201_0_1 main_v1
  let main_v5 : IVec S400x201 32 := broadcastInDim S400x201 ![0, 1] bcast_S1x201_S400x201_0_1 main_v3
  let main_v6 : IVec S400x201 32 := muli main_v4 main_v5
  let main_c_10 : IVec S_ 32 := constantI S_ 32 400#32
  let main_v7 : IVec S400x201 32 := broadcastInDim S400x201 ![] bcast_S_S400x201 main_c_10
  let main_v8 : IVec S400x201 32 := Host.remsi main_v6 main_v7
  let main_c_11 : IVec S_ 32 := constantI S_ 32 0#32
  let main_v9 : IVec S400x201 32 := broadcastInDim S400x201 ![] bcast_S_S400x201 main_c_11
  fn_part1 (F := F) main_arg0 main_arg1 main_arg2 main_arg3 main_arg4 main_arg5 main_arg6 main_arg7 main_arg8 main_arg9 main_arg10 main_arg11 main_cst main_cst_0 main_c main_c_1 main_c_2 main_c_3 main_cst_4 main_cst_5 main_c_6 main_c_7 main_c_8 main_c_9 main_v8 main_v9
-- ==== Kernel.lean ====
abbrev S4x96000 : Shape := ⟨2, ![4, 96000]⟩
abbrev S512x128x3 : Shape := ⟨3, ![512, 128, 3]⟩
abbrev S512 : Shape := ⟨1, ![512]⟩
abbrev S512x512x3 : Shape := ⟨3, ![512, 512, 3]⟩
abbrev S1024x512x3 : Shape := ⟨3, ![1024, 512, 3]⟩
abbrev S1024 : Shape := ⟨1, ![1024]⟩
abbrev S1024x1024x3 : Shape := ⟨3, ![1024, 1024, 3]⟩
abbrev S6561x1024 : Shape := ⟨2, ![6561, 1024]⟩
abbrev S128x201 : Shape := ⟨2, ![128, 201]⟩
abbrev S400 : Shape := ⟨1, ![400]⟩
abbrev S1534 : Shape := ⟨1, ![1534]⟩
abbrev S2388 : Shape := ⟨1, ![2388]⟩
abbrev S_ : Shape := ⟨0, ![]⟩
abbrev S4x1 : Shape := ⟨2, ![4, 1]⟩
abbrev S4x200 : Shape := ⟨2, ![4, 200]⟩
abbrev S4x96200 : Shape := ⟨2, ![4, 96200]⟩
abbrev S4x96400 : Shape := ⟨2, ![4, 96400]⟩
abbrev S600 : Shape := ⟨1, ![600]⟩
abbrev S600x1 : Shape := ⟨2, ![600, 1]⟩
abbrev S1x400 : Shape := ⟨2, ![1, 400]⟩
abbrev S600x400 : Shape := ⟨2, ![600, 400]⟩
abbrev S600x400x1 : Shape := ⟨3, ![600, 400, 1]⟩
abbrev S4x600x400 : Shape := ⟨3, ![4, 600, 400]⟩
abbrev S400x1 : Shape := ⟨2, ![400, 1]⟩
abbrev S400x201 : Shape := ⟨2, ![400, 201]⟩
abbrev S400x201x1 : Shape := ⟨3, ![400, 201, 1]⟩
abbrev S1534x1 : Shape := ⟨2, ![1534, 1]⟩
abbrev S1534x2 : Shape := ⟨2, ![1534, 2]⟩
abbrev S400x256 : Shape := ⟨2, ![400, 256]⟩
abbrev S2388x1 : Shape := ⟨2, ![2388, 1]⟩
abbrev S2388x2 : Shape := ⟨2, ![2388, 2]⟩
abbrev S256x128 : Shape := ⟨2, ![256, 128]⟩
abbrev S201x128 : Shape := ⟨2, ![201, 128]⟩
abbrev S1 : Shape := ⟨1, ![1]⟩
abbrev S3x128x512 : Shape := ⟨3, ![3, 128, 512]⟩
abbrev S384x512 : Shape := ⟨2, ![384, 512]⟩
abbrev S3x512x512 : Shape := ⟨3, ![3, 512, 512]⟩
abbrev S1536x512 : Shape := ⟨2, ![1536, 512]⟩
abbrev S3x512x1024 : Shape := ⟨3, ![3, 512, 1024]⟩
abbrev S1536x1024 : Shape := ⟨2, ![1536, 1024]⟩
abbrev S3x1024x1024 : Shape := ⟨3, ![3, 1024, 1024]⟩
abbrev S3072x1024 : Shape := ⟨2, ![3072, 1024]⟩
abbrev S1024x6656 : Shape := ⟨2, ![1024, 6656]⟩
abbrev S1024x6561 : Shape := ⟨2, ![1024, 6561]⟩
abbrev S1x6656 : Shape := ⟨2, ![1, 6656]⟩
abbrev S6561 : Shape := ⟨1, ![6561]⟩
abbrev S2 : Shape := ⟨1, ![2]⟩
abbrev S1x512 : Shape := ⟨2, ![1, 512]⟩
abbrev S1x1024 : Shape := ⟨2, ![1, 1024]⟩
abbrev S4x1x150 : Shape := ⟨3, ![4, 1, 150]⟩
abbrev S1x600x400 : Shape := ⟨3, ![1, 600, 400]⟩
abbrev S1x1x150 : Shape := ⟨3, ![1, 1, 150]⟩
abbrev S600x256 : Shape := ⟨2, ![600, 256]⟩
abbrev S600x128 : Shape := ⟨2, ![600, 128]⟩
abbrev S1x600x128 : Shape := ⟨3, ![1, 600, 128]⟩
abbrev S1x1x1 : Shape := ⟨3, ![1, 1, 1]⟩
abbrev S1x128 : Shape := ⟨2, ![1, 128]⟩
abbrev S599x128 : Shape := ⟨2, ![599, 128]⟩
abbrev S128x512 : Shape := ⟨2, ![128, 512]⟩
abbrev S600x512 : Shape := ⟨2, ![600, 512]⟩
abbrev S300x2x512 : Shape := ⟨3, ![300, 2, 512]⟩
abbrev S300x1x512 : Shape := ⟨3, ![300, 1, 512]⟩
abbrev S300x512 : Shape := ⟨2, ![300, 512]⟩
abbrev S299x512 : Shape := ⟨2, ![299, 512]⟩
abbrev S512x512 : Shape := ⟨2, ![512, 512]⟩
abbrev S150x2x512 : Shape := ⟨3, ![150, 2, 512]⟩
abbrev S150x1x512 : Shape := ⟨3, ![150, 1, 512]⟩
abbrev S150x512 : Shape := ⟨2, ![150, 512]⟩
abbrev S149x512 : Shape := ⟨2, ![149, 512]⟩
abbrev S512x1024 : Shape := ⟨2, ![512, 1024]⟩
abbrev S150x1024 : Shape := ⟨2, ![150, 1024]⟩
abbrev S149x1024 : Shape := ⟨2, ![149, 1024]⟩
abbrev S1024x1024 : Shape := ⟨2, ![1024, 1024]⟩
abbrev S150 : Shape := ⟨1, ![150]⟩
abbrev S150x1 : Shape := ⟨2, ![150, 1]⟩
abbrev S150x6656 : Shape := ⟨2, ![150, 6656]⟩
abbrev S4x150 : Shape := ⟨2, ![4, 150]⟩
abbrev S4 : Shape := ⟨1, ![4]⟩

abbrev nBuf : Space → Nat
  | .hbm => 156
  | .vmem => 17
  | .smem => 0
  | _ => 0

abbrev hbmTy0_0 (i : Nat) : BufTy := match i % 128 with
  | 0 => ⟨S4x96000, .f32⟩
  | 1 => ⟨S512x128x3, .f32⟩
  | 2 => ⟨S512, .f32⟩
  | 3 => ⟨S512x512x3, .f32⟩
  | 4 => ⟨S512, .f32⟩
  | 5 => ⟨S1024x512x3, .f32⟩
  | 6 => ⟨S1024, .f32⟩
  | 7 => ⟨S1024x1024x3, .f32⟩
  | 8 => ⟨S1024, .f32⟩
  | 9 => ⟨S6561x1024, .f32⟩
  | 10 => ⟨S128x201, .f32⟩
  | 11 => ⟨S400, .f32⟩
  | 12 => ⟨S400, .f32⟩
  | 13 => ⟨S1534, .f32⟩
  | 14 => ⟨S1534, .i32⟩
  | 15 => ⟨S1534, .i1⟩
  | 16 => ⟨S1534, .i32⟩
  | 17 => ⟨S1534, .i1⟩
  | 18 => ⟨S400, .f32⟩
  | 19 => ⟨S2388, .f32⟩
  | 20 => ⟨S2388, .i32⟩
  | 21 => ⟨S2388, .i1⟩
  | 22 => ⟨S2388, .i32⟩
  | 23 => ⟨S2388, .i1⟩
  | 24 => ⟨S_, .i32⟩
  | 25 => ⟨S4x1, .f32⟩
  | 26 => ⟨S4x200, .f32⟩
  | 27 => ⟨S4x200, .f32⟩
  | 28 => ⟨S4x96200, .f32⟩
  | 29 => ⟨S4x1, .f32⟩
  | 30 => ⟨S4x200, .f32⟩
  | 31 => ⟨S4x200, .f32⟩
  | 32 => ⟨S4x96400, .f32⟩
  | 33 => ⟨S600, .i32⟩
  | 34 => ⟨S600x1, .i32⟩
  | 35 => ⟨S_, .i32⟩
  | 36 => ⟨S600x1, .i32⟩
  | 37 => ⟨S600x1, .i32⟩
  | 38 => ⟨S400, .i32⟩
  | 39 => ⟨S1x400, .i32⟩
  | 40 => ⟨S600x400, .i32⟩
  | 41 => ⟨S600x400, .i32⟩
  | 42 => ⟨S600x400, .i32⟩
  | 43 => ⟨S_, .i32⟩
  | 44 => ⟨S600x400, .i32⟩
  | 45 => ⟨S600x400, .i1⟩
  | 46 => ⟨S_, .i32⟩
  | 47 => ⟨S600x400, .i32⟩
  | 48 => ⟨S600x400, .i32⟩
  | 49 => ⟨S600x400, .i32⟩
  | 50 => ⟨S600x400x1, .i32⟩
  | 51 => ⟨S4x600x400, .f32⟩
  | 52 => ⟨S400x1, .f32⟩
  | 53 => ⟨S400x201, .i32⟩
  | 54 => ⟨S400x201, .i32⟩
  | 55 => ⟨S400x201, .i32⟩
  | 56 => ⟨S_, .i32⟩
  | 57 => ⟨S400x201, .i32⟩
  | 58 => ⟨S400x201, .i32⟩
  | 59 => ⟨S_, .i32⟩
  | 60 => ⟨S400x201, .i32⟩
  | 61 => ⟨S400x201, .i1⟩
  | 62 => ⟨S_, .i32⟩
  | 63 => ⟨S400x201, .i32⟩
  | 64 => ⟨S400x201, .i32⟩
  | 65 => ⟨S400x201, .i32⟩
  | 66 => ⟨S400x201x1, .i32⟩
  | 67 => ⟨S400x201, .f32⟩
  | 68 => ⟨S_, .i32⟩
  | 69 => ⟨S1534, .i32⟩
  | 70 => ⟨S1534, .i32⟩
  | 71 => ⟨S1534, .i32⟩
  | 72 => ⟨S_, .i32⟩
  | 73 => ⟨S1534, .i32⟩
  | 74 => ⟨S1534, .i32⟩
  | 75 => ⟨S1534, .i32⟩
  | 76 => ⟨S1534x1, .i32⟩
  | 77 => ⟨S1534x1, .i32⟩
  | 78 => ⟨S1534x2, .i32⟩
  | 79 => ⟨S400x201, .f32⟩
  | 80 => ⟨S_, .i32⟩
  | 81 => ⟨S_, .f32⟩
  | 82 => ⟨S400x256, .f32⟩
  | 83 => ⟨S400x256, .f32⟩
  | 84 => ⟨S400x256, .f32⟩
  | 85 => ⟨S400x201, .i32⟩
  | 86 => ⟨S400x201, .i32⟩
  | 87 => ⟨S400x201, .i32⟩
  | 88 => ⟨S_, .i32⟩
  | 89 => ⟨S400x201, .i32⟩
  | 90 => ⟨S400x201, .i32⟩
  | 91 => ⟨S_, .i32⟩
  | 92 => ⟨S400x201, .i32⟩
  | 93 => ⟨S400x201, .i1⟩
  | 94 => ⟨S_, .i32⟩
  | 95 => ⟨S400x201, .i32⟩
  | 96 => ⟨S400x201, .i32⟩
  | 97 => ⟨S400x201, .i32⟩
  | 98 => ⟨S400x201x1, .i32⟩
  | 99 => ⟨S400x201, .f32⟩
  | 100 => ⟨S_, .i32⟩
  | 101 => ⟨S2388, .i32⟩
  | 102 => ⟨S2388, .i32⟩
  | 103 => ⟨S2388, .i32⟩
  | 104 => ⟨S_, .i32⟩
  | 105 => ⟨S2388, .i32⟩
  | 106 => ⟨S2388, .i32⟩
  | 107 => ⟨S2388, .i32⟩
  | 108 => ⟨S2388x1, .i32⟩
  | 109 => ⟨S2388x1, .i32⟩
  | 110 => ⟨S2388x2, .i32⟩
  | 111 => ⟨S400x201, .f32⟩
  | 112 => ⟨S_, .i32⟩
  | 113 => ⟨S_, .f32⟩
  | 114 => ⟨S400x256, .f32⟩
  | 115 => ⟨S400x256, .f32⟩
  | 116 => ⟨S400x256, .f32⟩
  | 117 => ⟨S_, .f32⟩
  | 118 => ⟨S256x128, .f32⟩
  | 119 => ⟨S201x128, .f32⟩
  | 120 => ⟨S_, .i32⟩
  | 121 => ⟨S1, .i32⟩
  | 122 => ⟨S256x128, .f32⟩
  | 123 => ⟨S3x128x512, .f32⟩
  | 124 => ⟨S384x512, .f32⟩
  | 125 => ⟨S3x512x512, .f32⟩
  | 126 => ⟨S1536x512, .f32⟩
  | 127 => ⟨S3x512x1024, .f32⟩
  | _ => ⟨S4x96000, .f32⟩

abbrev hbmTy0_1 (i : Nat) : BufTy := match i % 128 with
  | 0 => ⟨S1536x1024, .f32⟩
  | 1 => ⟨S3x1024x1024, .f32⟩
  | 2 => ⟨S3072x1024, .f32⟩
  | 3 => ⟨S_, .f32⟩
  | 4 => ⟨S1024x6656, .f32⟩
  | 5 => ⟨S1024x6561, .f32⟩
  | 6 => ⟨S_, .i32⟩
  | 7 => ⟨S1, .i32⟩
  | 8 => ⟨S1024x6656, .f32⟩
  | 9 => ⟨S_, .f32⟩
  | 10 => ⟨S1x6656, .f32⟩
  | 11 => ⟨S6561x1024, .f32⟩
  | 12 => ⟨S_, .f32⟩
  | 13 => ⟨S6561, .f32⟩
  | 14 => ⟨S_, .i32⟩
  | 15 => ⟨S1, .i32⟩
  | 16 => ⟨S_, .i32⟩
  | 17 => ⟨S1, .i32⟩
  | 18 => ⟨S2, .i32⟩
  | 19 => ⟨S1x6656, .f32⟩
  | 20 => ⟨S1x512, .f32⟩
  | 21 => ⟨S1x512, .f32⟩
  | 22 => ⟨S1x1024, .f32⟩
  | 23 => ⟨S1x1024, .f32⟩
  | 24 => ⟨S4x1x150, .i32⟩
  | 25 => ⟨S4x150, .i32⟩
  | 26 => ⟨S_, .i32⟩
  | 27 => ⟨S4, .i32⟩
  | _ => ⟨S4x96000, .f32⟩

abbrev hbmTy (i : Nat) : BufTy := match i / 128 with
  | 0 => hbmTy0_0 i
  | 1 => hbmTy0_1 i
  | _ => ⟨S4x96000, .f32⟩

abbrev bufTy : (tb : Table) → Fin (tcTables nBuf tb) → BufTy
  | .hbm, ⟨i, _⟩ => hbmTy i
  | .local _ .vmem, ⟨0, _⟩ => ⟨S1x600x400, .f32⟩
  | .local _ .vmem, ⟨1, _⟩ => ⟨S1x600x400, .f32⟩
  | .local _ .vmem, ⟨2, _⟩ => ⟨S400x256, .f32⟩
  | .local _ .vmem, ⟨3, _⟩ => ⟨S400x256, .f32⟩
  | .local _ .vmem, ⟨4, _⟩ => ⟨S256x128, .f32⟩
  | .local _ .vmem, ⟨5, _⟩ => ⟨S384x512, .f32⟩
  | .local _ .vmem, ⟨6, _⟩ => ⟨S1x512, .f32⟩
  | .local _ .vmem, ⟨7, _⟩ => ⟨S1536x512, .f32⟩
  | .local _ .vmem, ⟨8, _⟩ => ⟨S1x512, .f32⟩
  | .local _ .vmem, ⟨9, _⟩ => ⟨S1536x1024, .f32⟩
  | .local _ .vmem, ⟨10, _⟩ => ⟨S1x1024, .f32⟩
  | .local _ .vmem, ⟨11, _⟩ => ⟨S3072x1024, .f32⟩
  | .local _ .vmem, ⟨12, _⟩ => ⟨S1x1024, .f32⟩
  | .local _ .vmem, ⟨13, _⟩ => ⟨S1024x6656, .f32⟩
  | .local _ .vmem, ⟨14, _⟩ => ⟨S1x6656, .f32⟩
  | .local _ .vmem, ⟨15, _⟩ => ⟨S1x1x150, .i32⟩
  | .local _ .vmem, ⟨16, _⟩ => ⟨S1x1x150, .i32⟩
  | _, _ => ⟨S4x96000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_cst_0 : Ref sig .tc := ⟨.hbm, 13, rfl⟩
abbrev main_c : Ref sig .tc := ⟨.hbm, 14, rfl⟩
abbrev main_c_1 : Ref sig .tc := ⟨.hbm, 15, rfl⟩
abbrev main_c_2 : Ref sig .tc := ⟨.hbm, 16, rfl⟩
abbrev main_c_3 : Ref sig .tc := ⟨.hbm, 17, rfl⟩
abbrev main_cst_4 : Ref sig .tc := ⟨.hbm, 18, rfl⟩
abbrev main_cst_5 : Ref sig .tc := ⟨.hbm, 19, rfl⟩
abbrev main_c_6 : Ref sig .tc := ⟨.hbm, 20, rfl⟩
abbrev main_c_7 : Ref sig .tc := ⟨.hbm, 21, rfl⟩
abbrev main_c_8 : Ref sig .tc := ⟨.hbm, 22, rfl⟩
abbrev main_c_9 : Ref sig .tc := ⟨.hbm, 23, rfl⟩
abbrev main_c_10 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_c_11 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_c_12 : Ref sig .tc := ⟨.hbm, 43, rfl⟩
abbrev main_v10 : Ref sig .tc := ⟨.hbm, 44, rfl⟩
abbrev main_v11 : Ref sig .tc := ⟨.hbm, 45, rfl⟩
abbrev main_c_13 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_c_14 : Ref sig .tc := ⟨.hbm, 56, rfl⟩
abbrev main_v21 : Ref sig .tc := ⟨.hbm, 57, rfl⟩
abbrev main_v22 : Ref sig .tc := ⟨.hbm, 58, rfl⟩
abbrev main_c_15 : Ref sig .tc := ⟨.hbm, 59, rfl⟩
abbrev main_v23 : Ref sig .tc := ⟨.hbm, 60, rfl⟩
abbrev main_v24 : Ref sig .tc := ⟨.hbm, 61, rfl⟩
abbrev main_c_16 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_c_17 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_c_18 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_c_19 : Ref sig .tc := ⟨.hbm, 80, rfl⟩
abbrev main_call1_v0 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_c_20 : Ref sig .tc := ⟨.hbm, 88, rfl⟩
abbrev main_v46 : Ref sig .tc := ⟨.hbm, 89, rfl⟩
abbrev main_v47 : Ref sig .tc := ⟨.hbm, 90, rfl⟩
abbrev main_c_21 : Ref sig .tc := ⟨.hbm, 91, rfl⟩
abbrev main_v48 : Ref sig .tc := ⟨.hbm, 92, rfl⟩
abbrev main_v49 : Ref sig .tc := ⟨.hbm, 93, rfl⟩
abbrev main_c_22 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_c_23 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_c_24 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_c_25 : Ref sig .tc := ⟨.hbm, 112, rfl⟩
abbrev main_call2_v0 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_cst_26 : Ref sig .tc := ⟨.hbm, 117, rfl⟩
abbrev main_v68 : Ref sig .tc := ⟨.hbm, 118, rfl⟩
abbrev main_v69 : Ref sig .tc := ⟨.hbm, 119, rfl⟩
abbrev main_c_27 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_cst_28 : Ref sig .tc := ⟨.hbm, 131, rfl⟩
abbrev main_v80 : Ref sig .tc := ⟨.hbm, 132, rfl⟩
abbrev main_v81 : Ref sig .tc := ⟨.hbm, 133, rfl⟩
abbrev main_c_29 : Ref sig .tc := ⟨.hbm, 134, rfl⟩
abbrev main_v82 : Ref sig .tc := ⟨.hbm, 135, rfl⟩
abbrev main_v83 : Ref sig .tc := ⟨.hbm, 136, rfl⟩
abbrev main_cst_30 : Ref sig .tc := ⟨.hbm, 137, rfl⟩
abbrev main_v84 : Ref sig .tc := ⟨.hbm, 138, rfl⟩
abbrev main_v85 : Ref sig .tc := ⟨.hbm, 139, rfl⟩
abbrev main_cst_31 : Ref sig .tc := ⟨.hbm, 140, rfl⟩
abbrev main_v86 : Ref sig .tc := ⟨.hbm, 141, rfl⟩
abbrev main_c_32 : Ref sig .tc := ⟨.hbm, 142, rfl⟩
abbrev main_v87 : Ref sig .tc := ⟨.hbm, 143, rfl⟩
abbrev main_c_33 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_c_34 : Ref sig .tc := ⟨.hbm, 154, rfl⟩
abbrev main_v97 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x600x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S400x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S400x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1536x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3072x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x6656 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x6656 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x1x150 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== KernelIdeal.lean ====
variable {F : FTy → Type} [FloatOps F] [Named F]
def κ : String → Option EReal := fun
  | "inv_ln10" => some (((Real.log 10)⁻¹ : ℝ) : EReal)
  | _ => none
-- ==== ReferenceIdeal.lean ====
abbrev S4x96000 : Shape := ⟨2, ![4, 96000]⟩
abbrev S512x128x3 : Shape := ⟨3, ![512, 128, 3]⟩
abbrev S512 : Shape := ⟨1, ![512]⟩
abbrev S512x512x3 : Shape := ⟨3, ![512, 512, 3]⟩
abbrev S1024x512x3 : Shape := ⟨3, ![1024, 512, 3]⟩
abbrev S1024 : Shape := ⟨1, ![1024]⟩
abbrev S1024x1024x3 : Shape := ⟨3, ![1024, 1024, 3]⟩
abbrev S6561x1024 : Shape := ⟨2, ![6561, 1024]⟩
abbrev S128x201 : Shape := ⟨2, ![128, 201]⟩
abbrev S400 : Shape := ⟨1, ![400]⟩
abbrev S1534 : Shape := ⟨1, ![1534]⟩
abbrev S2388 : Shape := ⟨1, ![2388]⟩
abbrev S400x1 : Shape := ⟨2, ![400, 1]⟩
abbrev S201 : Shape := ⟨1, ![201]⟩
abbrev S1x201 : Shape := ⟨2, ![1, 201]⟩
abbrev S400x201 : Shape := ⟨2, ![400, 201]⟩
abbrev S_ : Shape := ⟨0, ![]⟩
abbrev S400x201x1 : Shape := ⟨3, ![400, 201, 1]⟩
abbrev S1534x1 : Shape := ⟨2, ![1534, 1]⟩
abbrev S1534x2 : Shape := ⟨2, ![1534, 2]⟩
abbrev S2388x1 : Shape := ⟨2, ![2388, 1]⟩
abbrev S2388x2 : Shape := ⟨2, ![2388, 2]⟩
abbrev S4x1 : Shape := ⟨2, ![4, 1]⟩
abbrev S4x200 : Shape := ⟨2, ![4, 200]⟩
abbrev S4x96200 : Shape := ⟨2, ![4, 96200]⟩
abbrev S4x96400 : Shape := ⟨2, ![4, 96400]⟩
abbrev S601 : Shape := ⟨1, ![601]⟩
abbrev S601x1 : Shape := ⟨2, ![601, 1]⟩
abbrev S1x400 : Shape := ⟨2, ![1, 400]⟩
abbrev S601x400 : Shape := ⟨2, ![601, 400]⟩
abbrev S601x400x1 : Shape := ⟨3, ![601, 400, 1]⟩
abbrev S4x601x400 : Shape := ⟨3, ![4, 601, 400]⟩
abbrev S1x1x400 : Shape := ⟨3, ![1, 1, 400]⟩
abbrev S4x601x400x1 : Shape := ⟨4, ![4, 601, 400, 1]⟩
abbrev S1x1x400x201 : Shape := ⟨4, ![1, 1, 400, 201]⟩
abbrev S4x601x400x201 : Shape := ⟨4, ![4, 601, 400, 201]⟩
abbrev S4x601x201 : Shape := ⟨3, ![4, 601, 201]⟩
abbrev S4x201x601 : Shape := ⟨3, ![4, 201, 601]⟩
abbrev S4x201x600 : Shape := ⟨3, ![4, 201, 600]⟩
abbrev S4x600x128 : Shape := ⟨3, ![4, 600, 128]⟩
abbrev S4x128x600 : Shape := ⟨3, ![4, 128, 600]⟩
abbrev S4 : Shape := ⟨1, ![4]⟩
abbrev S4x1x1 : Shape := ⟨3, ![4, 1, 1]⟩
abbrev S4x128x602 : Shape := ⟨3, ![4, 128, 602]⟩
abbrev S512x128x1 : Shape := ⟨3, ![512, 128, 1]⟩
abbrev S512x128 : Shape := ⟨2, ![512, 128]⟩
abbrev S4x600x512 : Shape := ⟨3, ![4, 600, 512]⟩
abbrev S4x512x600 : Shape := ⟨3, ![4, 512, 600]⟩
abbrev S1x512x1 : Shape := ⟨3, ![1, 512, 1]⟩
abbrev S4x512x602 : Shape := ⟨3, ![4, 512, 602]⟩
abbrev S512x512x1 : Shape := ⟨3, ![512, 512, 1]⟩
abbrev S512x512 : Shape := ⟨2, ![512, 512]⟩
abbrev S4x512x300 : Shape := ⟨3, ![4, 512, 300]⟩
abbrev S4x300x512 : Shape := ⟨3, ![4, 300, 512]⟩
abbrev S4x512x302 : Shape := ⟨3, ![4, 512, 302]⟩
abbrev S1024x512x1 : Shape := ⟨3, ![1024, 512, 1]⟩
abbrev S1024x512 : Shape := ⟨2, ![1024, 512]⟩
abbrev S4x512x150 : Shape := ⟨3, ![4, 512, 150]⟩
abbrev S4x150x1024 : Shape := ⟨3, ![4, 150, 1024]⟩
abbrev S4x1024x150 : Shape := ⟨3, ![4, 1024, 150]⟩
abbrev S1x1024x1 : Shape := ⟨3, ![1, 1024, 1]⟩
abbrev S4x1024x152 : Shape := ⟨3, ![4, 1024, 152]⟩
abbrev S1024x1024x1 : Shape := ⟨3, ![1024, 1024, 1]⟩
abbrev S1024x1024 : Shape := ⟨2, ![1024, 1024]⟩
abbrev S600x1024 : Shape := ⟨2, ![600, 1024]⟩
abbrev S600 : Shape := ⟨1, ![600]⟩
abbrev S600x1 : Shape := ⟨2, ![600, 1]⟩
abbrev S6561 : Shape := ⟨1, ![6561]⟩
abbrev S1x6561 : Shape := ⟨2, ![1, 6561]⟩
abbrev S600x6561 : Shape := ⟨2, ![600, 6561]⟩
abbrev S1024x6561 : Shape := ⟨2, ![1024, 6561]⟩
abbrev S4x150 : Shape := ⟨2, ![4, 150]⟩

abbrev nBuf : Space → Nat
  | .hbm => 315
  | .vmem => 0
  | .smem => 0
  | _ => 0

abbrev hbmTy0_0 (i : Nat) : BufTy := match i % 128 with
  | 0 => ⟨S4x96000, .f32⟩
  | 1 => ⟨S512x128x3, .f32⟩
  | 2 => ⟨S512, .f32⟩
  | 3 => ⟨S512x512x3, .f32⟩
  | 4 => ⟨S512, .f32⟩
  | 5 => ⟨S1024x512x3, .f32⟩
  | 6 => ⟨S1024, .f32⟩
  | 7 => ⟨S1024x1024x3, .f32⟩
  | 8 => ⟨S1024, .f32⟩
  | 9 => ⟨S6561x1024, .f32⟩
  | 10 => ⟨S128x201, .f32⟩
  | 11 => ⟨S400, .f32⟩
  | 12 => ⟨S400, .f32⟩
  | 13 => ⟨S1534, .f32⟩
  | 14 => ⟨S1534, .i32⟩
  | 15 => ⟨S1534, .i1⟩
  | 16 => ⟨S1534, .i32⟩
  | 17 => ⟨S1534, .i1⟩
  | 18 => ⟨S400, .f32⟩
  | 19 => ⟨S2388, .f32⟩
  | 20 => ⟨S2388, .i32⟩
  | 21 => ⟨S2388, .i1⟩
  | 22 => ⟨S2388, .i32⟩
  | 23 => ⟨S2388, .i1⟩
  | 24 => ⟨S400, .i32⟩
  | 25 => ⟨S400x1, .i32⟩
  | 26 => ⟨S201, .i32⟩
  | 27 => ⟨S1x201, .i32⟩
  | 28 => ⟨S400x201, .i32⟩
  | 29 => ⟨S400x201, .i32⟩
  | 30 => ⟨S400x201, .i32⟩
  | 31 => ⟨S_, .i32⟩
  | 32 => ⟨S400x201, .i32⟩
  | 33 => ⟨S400x201, .i32⟩
  | 34 => ⟨S_, .i32⟩
  | 35 => ⟨S400x201, .i32⟩
  | 36 => ⟨S400x201, .i1⟩
  | 37 => ⟨S_, .i32⟩
  | 38 => ⟨S400x201, .i32⟩
  | 39 => ⟨S400x201, .i32⟩
  | 40 => ⟨S400x201, .i32⟩
  | 41 => ⟨S400x201x1, .i32⟩
  | 42 => ⟨S400x201, .f32⟩
  | 43 => ⟨S_, .i32⟩
  | 44 => ⟨S1534, .i32⟩
  | 45 => ⟨S1534, .i32⟩
  | 46 => ⟨S1534, .i32⟩
  | 47 => ⟨S_, .i32⟩
  | 48 => ⟨S1534, .i32⟩
  | 49 => ⟨S1534, .i32⟩
  | 50 => ⟨S1534, .i32⟩
  | 51 => ⟨S1534x1, .i32⟩
  | 52 => ⟨S1534x1, .i32⟩
  | 53 => ⟨S1534x2, .i32⟩
  | 54 => ⟨S400x201, .f32⟩
  | 55 => ⟨S400, .i32⟩
  | 56 => ⟨S400x1, .i32⟩
  | 57 => ⟨S201, .i32⟩
  | 58 => ⟨S1x201, .i32⟩
  | 59 => ⟨S400x201, .i32⟩
  | 60 => ⟨S400x201, .i32⟩
  | 61 => ⟨S400x201, .i32⟩
  | 62 => ⟨S_, .i32⟩
  | 63 => ⟨S400x201, .i32⟩
  | 64 => ⟨S400x201, .i32⟩
  | 65 => ⟨S_, .i32⟩
  | 66 => ⟨S400x201, .i32⟩
  | 67 => ⟨S400x201, .i1⟩
  | 68 => ⟨S_, .i32⟩
  | 69 => ⟨S400x201, .i32⟩
  | 70 => ⟨S400x201, .i32⟩
  | 71 => ⟨S400x201, .i32⟩
  | 72 => ⟨S400x201x1, .i32⟩
  | 73 => ⟨S400x201, .f32⟩
  | 74 => ⟨S_, .i32⟩
  | 75 => ⟨S2388, .i32⟩
  | 76 => ⟨S2388, .i32⟩
  | 77 => ⟨S2388, .i32⟩
  | 78 => ⟨S_, .i32⟩
  | 79 => ⟨S2388, .i32⟩
  | 80 => ⟨S2388, .i32⟩
  | 81 => ⟨S2388, .i32⟩
  | 82 => ⟨S2388x1, .i32⟩
  | 83 => ⟨S2388x1, .i32⟩
  | 84 => ⟨S2388x2, .i32⟩
  | 85 => ⟨S400x201, .f32⟩
  | 86 => ⟨S_, .i32⟩
  | 87 => ⟨S4x1, .f32⟩
  | 88 => ⟨S4x200, .f32⟩
  | 89 => ⟨S4x200, .f32⟩
  | 90 => ⟨S4x96200, .f32⟩
  | 91 => ⟨S4x1, .f32⟩
  | 92 => ⟨S4x200, .f32⟩
  | 93 => ⟨S4x200, .f32⟩
  | 94 => ⟨S4x96400, .f32⟩
  | 95 => ⟨S601, .i32⟩
  | 96 => ⟨S601x1, .i32⟩
  | 97 => ⟨S_, .i32⟩
  | 98 => ⟨S601x1, .i32⟩
  | 99 => ⟨S601x1, .i32⟩
  | 100 => ⟨S400, .i32⟩
  | 101 => ⟨S1x400, .i32⟩
  | 102 => ⟨S601x400, .i32⟩
  | 103 => ⟨S601x400, .i32⟩
  | 104 => ⟨S601x400, .i32⟩
  | 105 => ⟨S_, .i32⟩
  | 106 => ⟨S601x400, .i32⟩
  | 107 => ⟨S601x400, .i1⟩
  | 108 => ⟨S_, .i32⟩
  | 109 => ⟨S601x400, .i32⟩
  | 110 => ⟨S601x400, .i32⟩
  | 111 => ⟨S601x400, .i32⟩
  | 112 => ⟨S601x400x1, .i32⟩
  | 113 => ⟨S4x601x400, .f32⟩
  | 114 => ⟨S1x1x400, .f32⟩
  | 115 => ⟨S4x601x400, .f32⟩
  | 116 => ⟨S4x601x400, .f32⟩
  | 117 => ⟨S4x601x400x1, .f32⟩
  | 118 => ⟨S1x1x400x201, .f32⟩
  | 119 => ⟨S4x601x400x201, .f32⟩
  | 120 => ⟨S4x601x400x201, .f32⟩
  | 121 => ⟨S4x601x400x201, .f32⟩
  | 122 => ⟨S_, .f32⟩
  | 123 => ⟨S4x601x201, .f32⟩
  | 124 => ⟨S4x601x400x1, .f32⟩
  | 125 => ⟨S1x1x400x201, .f32⟩
  | 126 => ⟨S4x601x400x201, .f32⟩
  | 127 => ⟨S4x601x400x201, .f32⟩
  | _ => ⟨S4x96000, .f32⟩

abbrev hbmTy0_1 (i : Nat) : BufTy := match i % 128 with
  | 0 => ⟨S4x601x400x201, .f32⟩
  | 1 => ⟨S_, .f32⟩
  | 2 => ⟨S4x601x201, .f32⟩
  | 3 => ⟨S4x601x201, .f32⟩
  | 4 => ⟨S4x601x201, .f32⟩
  | 5 => ⟨S4x601x201, .f32⟩
  | 6 => ⟨S4x601x201, .f32⟩
  | 7 => ⟨S4x601x201, .f32⟩
  | 8 => ⟨S4x601x201, .f32⟩
  | 9 => ⟨S4x201x601, .f32⟩
  | 10 => ⟨S4x201x600, .f32⟩
  | 11 => ⟨S4x600x128, .f32⟩
  | 12 => ⟨S4x128x600, .f32⟩
  | 13 => ⟨S_, .f32⟩
  | 14 => ⟨S_, .f32⟩
  | 15 => ⟨S4x128x600, .f32⟩
  | 16 => ⟨S4x128x600, .f32⟩
  | 17 => ⟨S4x128x600, .f32⟩
  | 18 => ⟨S_, .f32⟩
  | 19 => ⟨S_, .f32⟩
  | 20 => ⟨S_, .f32⟩
  | 21 => ⟨S4x128x600, .f32⟩
  | 22 => ⟨S4x128x600, .f32⟩
  | 23 => ⟨S_, .f32⟩
  | 24 => ⟨S4, .f32⟩
  | 25 => ⟨S4x1x1, .f32⟩
  | 26 => ⟨S_, .f32⟩
  | 27 => ⟨S4x1x1, .f32⟩
  | 28 => ⟨S4x1x1, .f32⟩
  | 29 => ⟨S4x128x600, .f32⟩
  | 30 => ⟨S4x128x600, .f32⟩
  | 31 => ⟨S_, .f32⟩
  | 32 => ⟨S4x128x600, .f32⟩
  | 33 => ⟨S4x128x600, .f32⟩
  | 34 => ⟨S_, .f32⟩
  | 35 => ⟨S4x128x600, .f32⟩
  | 36 => ⟨S4x128x600, .f32⟩
  | 37 => ⟨S_, .i32⟩
  | 38 => ⟨S_, .f32⟩
  | 39 => ⟨S4x128x602, .f32⟩
  | 40 => ⟨S512x128x1, .f32⟩
  | 41 => ⟨S512x128, .f32⟩
  | 42 => ⟨S4x128x600, .f32⟩
  | 43 => ⟨S4x600x512, .f32⟩
  | 44 => ⟨S4x512x600, .f32⟩
  | 45 => ⟨S512x128x1, .f32⟩
  | 46 => ⟨S512x128, .f32⟩
  | 47 => ⟨S4x128x600, .f32⟩
  | 48 => ⟨S4x600x512, .f32⟩
  | 49 => ⟨S4x512x600, .f32⟩
  | 50 => ⟨S4x512x600, .f32⟩
  | 51 => ⟨S512x128x1, .f32⟩
  | 52 => ⟨S512x128, .f32⟩
  | 53 => ⟨S4x128x600, .f32⟩
  | 54 => ⟨S4x600x512, .f32⟩
  | 55 => ⟨S4x512x600, .f32⟩
  | 56 => ⟨S4x512x600, .f32⟩
  | 57 => ⟨S1x512x1, .f32⟩
  | 58 => ⟨S4x512x600, .f32⟩
  | 59 => ⟨S4x512x600, .f32⟩
  | 60 => ⟨S_, .f32⟩
  | 61 => ⟨S4x512x600, .f32⟩
  | 62 => ⟨S4x512x600, .f32⟩
  | 63 => ⟨S_, .i32⟩
  | 64 => ⟨S_, .f32⟩
  | 65 => ⟨S4x512x602, .f32⟩
  | 66 => ⟨S512x512x1, .f32⟩
  | 67 => ⟨S512x512, .f32⟩
  | 68 => ⟨S4x512x300, .f32⟩
  | 69 => ⟨S4x300x512, .f32⟩
  | 70 => ⟨S4x512x300, .f32⟩
  | 71 => ⟨S512x512x1, .f32⟩
  | 72 => ⟨S512x512, .f32⟩
  | 73 => ⟨S4x512x300, .f32⟩
  | 74 => ⟨S4x300x512, .f32⟩
  | 75 => ⟨S4x512x300, .f32⟩
  | 76 => ⟨S4x512x300, .f32⟩
  | 77 => ⟨S512x512x1, .f32⟩
  | 78 => ⟨S512x512, .f32⟩
  | 79 => ⟨S4x512x300, .f32⟩
  | 80 => ⟨S4x300x512, .f32⟩
  | 81 => ⟨S4x512x300, .f32⟩
  | 82 => ⟨S4x512x300, .f32⟩
  | 83 => ⟨S1x512x1, .f32⟩
  | 84 => ⟨S4x512x300, .f32⟩
  | 85 => ⟨S4x512x300, .f32⟩
  | 86 => ⟨S_, .f32⟩
  | 87 => ⟨S4x512x300, .f32⟩
  | 88 => ⟨S4x512x300, .f32⟩
  | 89 => ⟨S_, .i32⟩
  | 90 => ⟨S_, .f32⟩
  | 91 => ⟨S4x512x302, .f32⟩
  | 92 => ⟨S1024x512x1, .f32⟩
  | 93 => ⟨S1024x512, .f32⟩
  | 94 => ⟨S4x512x150, .f32⟩
  | 95 => ⟨S4x150x1024, .f32⟩
  | 96 => ⟨S4x1024x150, .f32⟩
  | 97 => ⟨S1024x512x1, .f32⟩
  | 98 => ⟨S1024x512, .f32⟩
  | 99 => ⟨S4x512x150, .f32⟩
  | 100 => ⟨S4x150x1024, .f32⟩
  | 101 => ⟨S4x1024x150, .f32⟩
  | 102 => ⟨S4x1024x150, .f32⟩
  | 103 => ⟨S1024x512x1, .f32⟩
  | 104 => ⟨S1024x512, .f32⟩
  | 105 => ⟨S4x512x150, .f32⟩
  | 106 => ⟨S4x150x1024, .f32⟩
  | 107 => ⟨S4x1024x150, .f32⟩
  | 108 => ⟨S4x1024x150, .f32⟩
  | 109 => ⟨S1x1024x1, .f32⟩
  | 110 => ⟨S4x1024x150, .f32⟩
  | 111 => ⟨S4x1024x150, .f32⟩
  | 112 => ⟨S_, .f32⟩
  | 113 => ⟨S4x1024x150, .f32⟩
  | 114 => ⟨S4x1024x150, .f32⟩
  | 115 => ⟨S_, .i32⟩
  | 116 => ⟨S_, .f32⟩
  | 117 => ⟨S4x1024x152, .f32⟩
  | 118 => ⟨S1024x1024x1, .f32⟩
  | 119 => ⟨S1024x1024, .f32⟩
  | 120 => ⟨S4x1024x150, .f32⟩
  | 121 => ⟨S4x150x1024, .f32⟩
  | 122 => ⟨S4x1024x150, .f32⟩
  | 123 => ⟨S1024x1024x1, .f32⟩
  | 124 => ⟨S1024x1024, .f32⟩
  | 125 => ⟨S4x1024x150, .f32⟩
  | 126 => ⟨S4x150x1024, .f32⟩
  | 127 => ⟨S4x1024x150, .f32⟩
  | _ => ⟨S4x96000, .f32⟩

abbrev hbmTy0_2 (i : Nat) : BufTy := match i % 128 with
  | 0 => ⟨S4x1024x150, .f32⟩
  | 1 => ⟨S1024x1024x1, .f32⟩
  | 2 => ⟨S1024x1024, .f32⟩
  | 3 => ⟨S4x1024x150, .f32⟩
  | 4 => ⟨S4x150x1024, .f32⟩
  | 5 => ⟨S4x1024x150, .f32⟩
  | 6 => ⟨S4x1024x150, .f32⟩
  | 7 => ⟨S1x1024x1, .f32⟩
  | 8 => ⟨S4x1024x150, .f32⟩
  | 9 => ⟨S4x1024x150, .f32⟩
  | 10 => ⟨S4x150x1024, .f32⟩
  | 11 => ⟨S600x1024, .f32⟩
  | 12 => ⟨S600x1024, .f32⟩
  | 13 => ⟨S_, .f32⟩
  | 14 => ⟨S600, .f32⟩
  | 15 => ⟨S600x1, .f32⟩
  | 16 => ⟨S6561x1024, .f32⟩
  | 17 => ⟨S_, .f32⟩
  | 18 => ⟨S6561, .f32⟩
  | 19 => ⟨S1x6561, .f32⟩
  | 20 => ⟨S600x6561, .f32⟩
  | 21 => ⟨S600x6561, .f32⟩
  | 22 => ⟨S600x6561, .f32⟩
  | 23 => ⟨S_, .f32⟩
  | 24 => ⟨S600x1024, .f32⟩
  | 25 => ⟨S600x1024, .f32⟩
  | 26 => ⟨S1024x6561, .f32⟩
  | 27 => ⟨S600x6561, .f32⟩
  | 28 => ⟨S600x6561, .f32⟩
  | 29 => ⟨S_, .f32⟩
  | 30 => ⟨S600x6561, .f32⟩
  | 31 => ⟨S600x6561, .f32⟩
  | 32 => ⟨S600x6561, .f32⟩
  | 33 => ⟨S600x6561, .i32⟩
  | 34 => ⟨S_, .f32⟩
  | 35 => ⟨S_, .i32⟩
  | 36 => ⟨S600, .f32⟩
  | 37 => ⟨S600, .i32⟩
  | 38 => ⟨S4x150, .i32⟩
  | 39 => ⟨S_, .i32⟩
  | 40 => ⟨S4, .i32⟩
  | 41 => ⟨S_, .i32⟩
  | 42 => ⟨S_, .i32⟩
  | 43 => ⟨S4, .i32⟩
  | 44 => ⟨S4, .i32⟩
  | 45 => ⟨S4, .i32⟩
  | 46 => ⟨S_, .i32⟩
  | 47 => ⟨S4, .i32⟩
  | 48 => ⟨S4, .i1⟩
  | 49 => ⟨S4, .i32⟩
  | 50 => ⟨S4, .i32⟩
  | 51 => ⟨S_, .i32⟩
  | 52 => ⟨S4, .i32⟩
  | 53 => ⟨S4, .i1⟩
  | 54 => ⟨S4, .i1⟩
  | 55 => ⟨S_, .i32⟩
  | 56 => ⟨S4, .i32⟩
  | 57 => ⟨S4, .i32⟩
  | 58 => ⟨S4, .i32⟩
  | _ => ⟨S4x96000, .f32⟩

abbrev hbmTy (i : Nat) : BufTy := match i / 128 with
  | 0 => hbmTy0_0 i
  | 1 => hbmTy0_1 i
  | 2 => hbmTy0_2 i
  | _ => ⟨S4x96000, .f32⟩

abbrev bufTy : (tb : Table) → Fin (tcTables nBuf tb) → BufTy
  | .hbm, ⟨i, _⟩ => hbmTy i
  | _, _ => ⟨S4x96000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_cst_0 : Ref sig .tc := ⟨.hbm, 13, rfl⟩
abbrev main_c : Ref sig .tc := ⟨.hbm, 14, rfl⟩
abbrev main_c_1 : Ref sig .tc := ⟨.hbm, 15, rfl⟩
abbrev main_c_2 : Ref sig .tc := ⟨.hbm, 16, rfl⟩
abbrev main_c_3 : Ref sig .tc := ⟨.hbm, 17, rfl⟩
abbrev main_cst_4 : Ref sig .tc := ⟨.hbm, 18, rfl⟩
abbrev main_cst_5 : Ref sig .tc := ⟨.hbm, 19, rfl⟩
abbrev main_c_6 : Ref sig .tc := ⟨.hbm, 20, rfl⟩
abbrev main_c_7 : Ref sig .tc := ⟨.hbm, 21, rfl⟩
abbrev main_c_8 : Ref sig .tc := ⟨.hbm, 22, rfl⟩
abbrev main_c_9 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_c_10 : Ref sig .tc := ⟨.hbm, 31, rfl⟩
abbrev main_v7 : Ref sig .tc := ⟨.hbm, 32, rfl⟩
abbrev main_v8 : Ref sig .tc := ⟨.hbm, 33, rfl⟩
abbrev main_c_11 : Ref sig .tc := ⟨.hbm, 34, rfl⟩
abbrev main_v9 : Ref sig .tc := ⟨.hbm, 35, rfl⟩
abbrev main_v10 : Ref sig .tc := ⟨.hbm, 36, rfl⟩
abbrev main_c_12 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c_13 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_c_14 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_15 : Ref sig .tc := ⟨.hbm, 62, rfl⟩
abbrev main_v33 : Ref sig .tc := ⟨.hbm, 63, rfl⟩
abbrev main_v34 : Ref sig .tc := ⟨.hbm, 64, rfl⟩
abbrev main_c_16 : Ref sig .tc := ⟨.hbm, 65, rfl⟩
abbrev main_v35 : Ref sig .tc := ⟨.hbm, 66, rfl⟩
abbrev main_v36 : Ref sig .tc := ⟨.hbm, 67, rfl⟩
abbrev main_c_17 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_c_18 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_19 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_c_20 : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_call0_v5 : Ref sig .tc := ⟨.hbm, 92, rfl⟩
abbrev main_call0_v6 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_c_21 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_c_22 : Ref sig .tc := ⟨.hbm, 105, rfl⟩
abbrev main_v62 : Ref sig .tc := ⟨.hbm, 106, rfl⟩
abbrev main_v63 : Ref sig .tc := ⟨.hbm, 107, rfl⟩
abbrev main_c_23 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_24 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_cst_25 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_cst_26 : Ref sig .tc := ⟨.hbm, 141, rfl⟩
abbrev main_call1_v0 : Ref sig .tc := ⟨.hbm, 142, rfl⟩
abbrev main_call1_v1 : Ref sig .tc := ⟨.hbm, 143, rfl⟩
abbrev main_v94 : Ref sig .tc := ⟨.hbm, 144, rfl⟩
abbrev main_v95 : Ref sig .tc := ⟨.hbm, 145, rfl⟩
abbrev main_cst_27 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_cst_28 : Ref sig .tc := ⟨.hbm, 151, rfl⟩
abbrev main_v100 : Ref sig .tc := ⟨.hbm, 152, rfl⟩
abbrev main_v101 : Ref sig .tc := ⟨.hbm, 153, rfl⟩
abbrev main_cst_29 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_cst_30 : Ref sig .tc := ⟨.hbm, 159, rfl⟩
abbrev main_v106 : Ref sig .tc := ⟨.hbm, 160, rfl⟩
abbrev main_v107 : Ref sig .tc := ⟨.hbm, 161, rfl⟩
abbrev main_cst_31 : Ref sig .tc := ⟨.hbm, 162, rfl⟩
abbrev main_v108 : Ref sig .tc := ⟨.hbm, 163, rfl⟩
abbrev main_v109 : Ref sig .tc := ⟨.hbm, 164, rfl⟩
abbrev main_c_32 : Ref sig .tc := ⟨.hbm, 165, rfl⟩
abbrev main_call2_v0 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_call3_cst : Ref sig .tc := ⟨.hbm, 188, rfl⟩
abbrev main_call3_v0 : Ref sig .tc := ⟨.hbm, 189, rfl⟩
abbrev main_v131 : Ref sig .tc := ⟨.hbm, 190, rfl⟩
abbrev main_c_33 : Ref sig .tc := ⟨.hbm, 191, rfl⟩
abbrev main_call4_v0 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_call5_cst : Ref sig .tc := ⟨.hbm, 214, rfl⟩
abbrev main_call5_v0 : Ref sig .tc := ⟨.hbm, 215, rfl⟩
abbrev main_v153 : Ref sig .tc := ⟨.hbm, 216, rfl⟩
abbrev main_c_34 : Ref sig .tc := ⟨.hbm, 217, rfl⟩
abbrev main_call6_v0 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_call7_cst : Ref sig .tc := ⟨.hbm, 240, rfl⟩
abbrev main_call7_v0 : Ref sig .tc := ⟨.hbm, 241, rfl⟩
abbrev main_v175 : Ref sig .tc := ⟨.hbm, 242, rfl⟩
abbrev main_c_35 : Ref sig .tc := ⟨.hbm, 243, rfl⟩
abbrev main_call8_v0 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_cst_36 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_cst_37 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_cst_38 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_cst_39 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_call9_v0 : Ref sig .tc := ⟨.hbm, 289, rfl⟩
abbrev main_call9_cst : Ref sig .tc := ⟨.hbm, 290, rfl⟩
abbrev main_call9_c : Ref sig .tc := ⟨.hbm, 291, rfl⟩
abbrev main_call9_v1_0 : Ref sig .tc := ⟨.hbm, 292, rfl⟩
abbrev main_v216 : Ref sig .tc := ⟨.hbm, 293, rfl⟩
abbrev main_v217 : Ref sig .tc := ⟨.hbm, 294, rfl⟩
abbrev main_c_40 : Ref sig .tc := ⟨.hbm, 295, rfl⟩
abbrev main_v218 : Ref sig .tc := ⟨.hbm, 296, rfl⟩
abbrev main_c_41 : Ref sig .tc := ⟨.hbm, 297, rfl⟩
abbrev main_call10_v0 : Ref sig .tc := ⟨.hbm, 298, rfl⟩
abbrev main_call10_v1 : Ref sig .tc := ⟨.hbm, 299, rfl⟩
abbrev main_call10_v2 : Ref sig .tc := ⟨.hbm, 300, rfl⟩
abbrev main_call10_v3 : Ref sig .tc := ⟨.hbm, 301, rfl⟩
abbrev main_call10_v4 : Ref sig .tc := ⟨.hbm, 302, rfl⟩
abbrev main_call10_v5 : Ref sig .tc := ⟨.hbm, 303, rfl⟩
abbrev main_call10_v6 : Ref sig .tc := ⟨.hbm, 304, rfl⟩
abbrev main_call10_v7 : Ref sig .tc := ⟨.hbm, 305, rfl⟩
abbrev main_call10_v8 : Ref sig .tc := ⟨.hbm, 306, rfl⟩
abbrev main_call10_c : Ref sig .tc := ⟨.hbm, 307, rfl⟩
abbrev main_call10_v9 : Ref sig .tc := ⟨.hbm, 308, rfl⟩
abbrev main_call10_v10 : Ref sig .tc := ⟨.hbm, 309, rfl⟩
abbrev main_call10_v11 : Ref sig .tc := ⟨.hbm, 310, rfl⟩
abbrev main_call10_c_0 : Ref sig .tc := ⟨.hbm, 311, rfl⟩
abbrev main_call10_v12 : Ref sig .tc := ⟨.hbm, 312, rfl⟩
abbrev main_call10_v13 : Ref sig .tc := ⟨.hbm, 313, rfl⟩
abbrev main_v219 : Ref sig .tc := ⟨.hbm, 314, rfl⟩

abbrev nD : Nat := 1
abbrev τ : Topo := Topo.v7x

variable {F : FTy → Type} [FloatOps F]
-- ==== Proof.RefOps.lean ====
/- The reference program as a list of its operations, cut at its stages: the program runs the list. -/
module

public import proofs.«01_k».proof.Proof.Gen.ReferenceIdeal
public import Idealize.ShloMosaic.Lib.StableHlo.Run
public import Idealize.ShloMosaic.Lib.Pipeline.Frame

@[expose] public section

set_option maxRecDepth 8192
set_option Elab.async false

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The function of the first joining of two arrays, named so that its operands stay plain arguments. -/
def joinLeft : (main_call0_v2 : Ref sig .tc).ty.Contents (Elt F) → (main_arg0 : Ref sig .tc).ty.Contents (Elt F) → (main_call0_v3 : Ref sig .tc).ty.Contents (Elt F) :=
  (fun a b => concatenate S4x96200 1 [⟨S4x200, a⟩, ⟨S4x96000, b⟩] concatenates_S4x200_S4x96000_S4x96200_d1)

/-- The function of the second joining of two arrays. -/
def joinRight : (main_call0_v3 : Ref sig .tc).ty.Contents (Elt F) → (main_call0_v6 : Ref sig .tc).ty.Contents (Elt F) → (main_v52 : Ref sig .tc).ty.Contents (Elt F) :=
  (fun a b => concatenate S4x96400 1 [⟨S4x96200, a⟩, ⟨S4x200, b⟩] concatenates_S4x96200_S4x200_S4x96400_d1)

/-- The function that joins the rows and columns listed for the table of cosines. -/
def joinCos : (main_v22 : Ref sig .tc).ty.Contents (Elt F) → (main_v23 : Ref sig .tc).ty.Contents (Elt F) → (main_v24 : Ref sig .tc).ty.Contents (Elt F) :=
  (fun a b => concatenate S1534x2 1 [⟨S1534x1, a⟩, ⟨S1534x1, b⟩] concatenates_S1534x1_S1534x1_S1534x2_d1)

/-- The function that joins the rows and columns listed for the table of sines. -/
def joinSin : (main_v48 : Ref sig .tc).ty.Contents (Elt F) → (main_v49 : Ref sig .tc).ty.Contents (Elt F) → (main_v50 : Ref sig .tc).ty.Contents (Elt F) :=
  (fun a b => concatenate S2388x2 1 [⟨S2388x1, a⟩, ⟨S2388x1, b⟩] concatenates_S2388x1_S2388x1_S2388x2_d1)

/-- The least entry of each row, found together with its index. -/
def leastOf (x : FVec F S600x6561 .f32) (y : IVec S600x6561 32) (u : FVec F S_ .f32) (v : IVec S_ 32) : FVec F S600 .f32 :=
  fun j => (Host.argReduce reducer_argmin_f32_i32 x y u v reducesTo_S600x6561_S600_d1 h_S_ j).1

/-- The index of the least entry of each row. -/
def indexOf (x : FVec F S600x6561 .f32) (y : IVec S600x6561 32) (u : FVec F S_ .f32) (v : IVec S_ 32) : IVec S600 32 :=
  fun j => (Host.argReduce reducer_argmin_f32_i32 x y u v reducesTo_S600x6561_S600_d1 h_S_ j).2

/-- Operations of stage 0. -/
abbrev ops0 : List (HloOp τ sig (Elt F)) :=
  [ nullary main_cst (fun i => FloatOps.ofBits .f32 (lit0 (S400.rowMajor i))),
    nullary main_cst_0 (fun i => FloatOps.ofBits .f32 (lit1 (S1534.rowMajor i))),
    nullary main_c (fun i => lit2 (S1534.rowMajor i)),
    nullary main_c_1 (constantI S1534 1 0#1),
    nullary main_c_2 (fun i => lit3 (S1534.rowMajor i)),
    nullary main_c_3 (constantI S1534 1 0#1),
    nullary main_cst_4 (fun i => FloatOps.ofBits .f32 (lit4 (S400.rowMajor i))),
    nullary main_cst_5 (fun i => FloatOps.ofBits .f32 (lit5 (S2388.rowMajor i))),
    nullary main_c_6 (fun i => lit6 (S2388.rowMajor i)),
    nullary main_c_7 (constantI S2388 1 0#1),
    nullary main_c_8 (fun i => lit7 (S2388.rowMajor i)),
    nullary main_c_9 (constantI S2388 1 0#1),
    nullary main_v0 (iotaInDim S400 32 0),
    unary main_v0 main_v1 (broadcastInDim S400x1 ![0] bcast_S400_S400x1_0 : (⟨S400, .i32⟩ : BufTy).Contents (Elt F) → (⟨S400x1, .i32⟩ : BufTy).Contents (Elt F)),
    nullary main_v2 (iotaInDim S201 32 0),
    unary main_v2 main_v3 (broadcastInDim S1x201 ![1] bcast_S201_S1x201_1 : (⟨S201, .i32⟩ : BufTy).Contents (Elt F) → (⟨S1x201, .i32⟩ : BufTy).Contents (Elt F)),
    unary main_v1 main_v4 (broadcastInDim S400x201 ![0, 1] bcast_S400x1_S400x201_0_1 : (⟨S400x1, .i32⟩ : BufTy).Contents (Elt F) → (⟨S400x201, .i32⟩ : BufTy).Contents (Elt F)),
    unary main_v3 main_v5 (broadcastInDim S400x201 ![0, 1] bcast_S1x201_S400x201_0_1 : (⟨S1x201, .i32⟩ : BufTy).Contents (Elt F) → (⟨S400x201, .i32⟩ : BufTy).Contents (Elt F)),
    binary main_v4 main_v5 main_v6 (muli : (⟨S400x201, .i32⟩ : BufTy).Contents (Elt F) → (⟨S400x201, .i32⟩ : BufTy).Contents (Elt F) → (⟨S400x201, .i32⟩ : BufTy).Contents (Elt F)),
    nullary main_c_10 (constantI S_ 32 400#32),
    unary main_c_10 main_v7 (broadcastInDim S400x201 ![] bcast_S_S400x201 : (⟨S_, .i32⟩ : BufTy).Contents (Elt F) → (⟨S400x201, .i32⟩ : BufTy).Contents (Elt F)),
    binary main_v6 main_v7 main_v8 (Host.remsi : (⟨S400x201, .i32⟩ : BufTy).Contents (Elt F) → (⟨S400x201, .i32⟩ : BufTy).Contents (Elt F) → (⟨S400x201, .i32⟩ : BufTy).Contents (Elt F)),
    nullary main_c_11 (constantI S_ 32 0#32),
    unary main_c_11 main_v9 (broadcastInDim S400x201 ![] bcast_S_S400x201 : (⟨S_, .i32⟩ : BufTy).Contents (Elt F) → (⟨S400x201, .i32⟩ : BufTy).Contents (Elt F)),
    binary main_v8 main_v9 main_v10 (cmpi .slt : (⟨S400x201, .i32⟩ : BufTy).Contents (Elt F) → (⟨S400x201, .i32⟩ : BufTy).Contents (Elt F) → (⟨S400x201, .i1⟩ : BufTy).Contents (Elt F)),
    nullary main_c_12 (constantI S_ 32 400#32),
    unary main_c_12 main_v11 (broadcastInDim S400x201 ![] bcast_S_S400x201 : (⟨S_, .i32⟩ : BufTy).Contents (Elt F) → (⟨S400x201, .i32⟩ : BufTy).Contents (Elt F)),
    binary main_v8 main_v11 main_v12 (addi : (⟨S400x201, .i32⟩ : BufTy).Contents (Elt F) → (⟨S400x201, .i32⟩ : BufTy).Contents (Elt F) → (⟨S400x201, .i32⟩ : BufTy).Contents (Elt F)),
    ternary main_v10 main_v12 main_v8 main_v13 (select : (⟨S400x201, .i1⟩ : BufTy).Contents (Elt F) → (⟨S400x201, .i32⟩ : BufTy).Contents (Elt F) → (⟨S400x201, .i32⟩ : BufTy).Contents (Elt F) → (⟨S400x201, .i32⟩ : BufTy).Contents (Elt F)),
    unary main_v13 main_v14 (broadcastInDim S400x201x1 ![0, 1] bcast_S400x201_S400x201x1_0_1 : (⟨S400x201, .i32⟩ : BufTy).Contents (Elt F) → (⟨S400x201x1, .i32⟩ : BufTy).Contents (Elt F)),
    binary main_cst main_v14 main_v15 ((fun x i => Host.gather gather_S400_S400x201x1_S400x201_n_0_n_n_0_2_1 x i) : (⟨S400, .f32⟩ : BufTy).Contents (Elt F) → (⟨S400x201x1, .i32⟩ : BufTy).Contents (Elt F) → (⟨S400x201, .f32⟩ : BufTy).Contents (Elt F)),
    nullary main_c_13 (constantI S_ 32 400#32),
    unary main_c_13 main_v16 (broadcastInDim S1534 ![] bcast_S_S1534 : (⟨S_, .i32⟩ : BufTy).Contents (Elt F) → (⟨S1534, .i32⟩ : BufTy).Contents (Elt F)),
    binary main_c main_v16 main_v17 (addi : (⟨S1534, .i32⟩ : BufTy).Contents (Elt F) → (⟨S1534, .i32⟩ : BufTy).Contents (Elt F) → (⟨S1534, .i32⟩ : BufTy).Contents (Elt F)),
    ternary main_c_1 main_v17 main_c main_v18 (select : (⟨S1534, .i1⟩ : BufTy).Contents (Elt F) → (⟨S1534, .i32⟩ : BufTy).Contents (Elt F) → (⟨S1534, .i32⟩ : BufTy).Contents (Elt F) → (⟨S1534, .i32⟩ : BufTy).Contents (Elt F)),
    nullary main_c_14 (constantI S_ 32 201#32),
    unary main_c_14 main_v19 (broadcastInDim S1534 ![] bcast_S_S1534 : (⟨S_, .i32⟩ : BufTy).Contents (Elt F) → (⟨S1534, .i32⟩ : BufTy).Contents (Elt F)),
    binary main_c_2 main_v19 main_v20 (addi : (⟨S1534, .i32⟩ : BufTy).Contents (Elt F) → (⟨S1534, .i32⟩ : BufTy).Contents (Elt F) → (⟨S1534, .i32⟩ : BufTy).Contents (Elt F)),
    ternary main_c_3 main_v20 main_c_2 main_v21 (select : (⟨S1534, .i1⟩ : BufTy).Contents (Elt F) → (⟨S1534, .i32⟩ : BufTy).Contents (Elt F) → (⟨S1534, .i32⟩ : BufTy).Contents (Elt F) → (⟨S1534, .i32⟩ : BufTy).Contents (Elt F)),
    unary main_v18 main_v22 (broadcastInDim S1534x1 ![0] bcast_S1534_S1534x1_0 : (⟨S1534, .i32⟩ : BufTy).Contents (Elt F) → (⟨S1534x1, .i32⟩ : BufTy).Contents (Elt F)),
    unary main_v21 main_v23 (broadcastInDim S1534x1 ![0] bcast_S1534_S1534x1_0 : (⟨S1534, .i32⟩ : BufTy).Contents (Elt F) → (⟨S1534x1, .i32⟩ : BufTy).Contents (Elt F)),
    binary main_v22 main_v23 main_v24 (joinCos (F := F)),
    ternary main_v15 main_v24 main_cst_0 main_v25 ((fun x i u => Host.scatter scatter_S400x201_S1534x2_S1534_n_01_01_1 (fun _ b => b) x i u) : (⟨S400x201, .f32⟩ : BufTy).Contents (Elt F) → (⟨S1534x2, .i32⟩ : BufTy).Contents (Elt F) → (⟨S1534, .f32⟩ : BufTy).Contents (Elt F) → (⟨S400x201, .f32⟩ : BufTy).Contents (Elt F)) ]

/-- Operations of stage 1. -/
abbrev ops1a : List (HloOp τ sig (Elt F)) :=
  [ nullary main_v26 (iotaInDim S400 32 0),
    unary main_v26 main_v27 (broadcastInDim S400x1 ![0] bcast_S400_S400x1_0 : (⟨S400, .i32⟩ : BufTy).Contents (Elt F) → (⟨S400x1, .i32⟩ : BufTy).Contents (Elt F)),
    nullary main_v28 (iotaInDim S201 32 0),
    unary main_v28 main_v29 (broadcastInDim S1x201 ![1] bcast_S201_S1x201_1 : (⟨S201, .i32⟩ : BufTy).Contents (Elt F) → (⟨S1x201, .i32⟩ : BufTy).Contents (Elt F)),
    unary main_v27 main_v30 (broadcastInDim S400x201 ![0, 1] bcast_S400x1_S400x201_0_1 : (⟨S400x1, .i32⟩ : BufTy).Contents (Elt F) → (⟨S400x201, .i32⟩ : BufTy).Contents (Elt F)),
    unary main_v29 main_v31 (broadcastInDim S400x201 ![0, 1] bcast_S1x201_S400x201_0_1 : (⟨S1x201, .i32⟩ : BufTy).Contents (Elt F) → (⟨S400x201, .i32⟩ : BufTy).Contents (Elt F)),
    binary main_v30 main_v31 main_v32 (muli : (⟨S400x201, .i32⟩ : BufTy).Contents (Elt F) → (⟨S400x201, .i32⟩ : BufTy).Contents (Elt F) → (⟨S400x201, .i32⟩ : BufTy).Contents (Elt F)),
    nullary main_c_15 (constantI S_ 32 400#32),
    unary main_c_15 main_v33 (broadcastInDim S400x201 ![] bcast_S_S400x201 : (⟨S_, .i32⟩ : BufTy).Contents (Elt F) → (⟨S400x201, .i32⟩ : BufTy).Contents (Elt F)),
    binary main_v32 main_v33 main_v34 (Host.remsi : (⟨S400x201, .i32⟩ : BufTy).Contents (Elt F) → (⟨S400x201, .i32⟩ : BufTy).Contents (Elt F) → (⟨S400x201, .i32⟩ : BufTy).Contents (Elt F)),
    nullary main_c_16 (constantI S_ 32 0#32),
    unary main_c_16 main_v35 (broadcastInDim S400x201 ![] bcast_S_S400x201 : (⟨S_, .i32⟩ : BufTy).Contents (Elt F) → (⟨S400x201, .i32⟩ : BufTy).Contents (Elt F)),
    binary main_v34 main_v35 main_v36 (cmpi .slt : (⟨S400x201, .i32⟩ : BufTy).Contents (Elt F) → (⟨S400x201, .i32⟩ : BufTy).Contents (Elt F) → (⟨S400x201, .i1⟩ : BufTy).Contents (Elt F)),
    nullary main_c_17 (constantI S_ 32 400#32),
    unary main_c_17 main_v37 (broadcastInDim S400x201 ![] bcast_S_S400x201 : (⟨S_, .i32⟩ : BufTy).Contents (Elt F) → (⟨S400x201, .i32⟩ : BufTy).Contents (Elt F)),
    binary main_v34 main_v37 main_v38 (addi : (⟨S400x201, .i32⟩ : BufTy).Contents (Elt F) → (⟨S400x201, .i32⟩ : BufTy).Contents (Elt F) → (⟨S400x201, .i32⟩ : BufTy).Contents (Elt F)),
    ternary main_v36 main_v38 main_v34 main_v39 (select : (⟨S400x201, .i1⟩ : BufTy).Contents (Elt F) → (⟨S400x201, .i32⟩ : BufTy).Contents (Elt F) → (⟨S400x201, .i32⟩ : BufTy).Contents (Elt F) → (⟨S400x201, .i32⟩ : BufTy).Contents (Elt F)) ]

/-- Operations of stage 1. -/
abbrev ops1b : List (HloOp τ sig (Elt F)) :=
  [ unary main_v39 main_v40 (broadcastInDim S400x201x1 ![0, 1] bcast_S400x201_S400x201x1_0_1 : (⟨S400x201, .i32⟩ : BufTy).Contents (Elt F) → (⟨S400x201x1, .i32⟩ : BufTy).Contents (Elt F)),
    binary main_cst_4 main_v40 main_v41 ((fun x i => Host.gather gather_S400_S400x201x1_S400x201_n_0_n_n_0_2_1 x i) : (⟨S400, .f32⟩ : BufTy).Contents (Elt F) → (⟨S400x201x1, .i32⟩ : BufTy).Contents (Elt F) → (⟨S400x201, .f32⟩ : BufTy).Contents (Elt F)),
    nullary main_c_18 (constantI S_ 32 400#32),
    unary main_c_18 main_v42 (broadcastInDim S2388 ![] bcast_S_S2388 : (⟨S_, .i32⟩ : BufTy).Contents (Elt F) → (⟨S2388, .i32⟩ : BufTy).Contents (Elt F)),
    binary main_c_6 main_v42 main_v43 (addi : (⟨S2388, .i32⟩ : BufTy).Contents (Elt F) → (⟨S2388, .i32⟩ : BufTy).Contents (Elt F) → (⟨S2388, .i32⟩ : BufTy).Contents (Elt F)),
    ternary main_c_7 main_v43 main_c_6 main_v44 (select : (⟨S2388, .i1⟩ : BufTy).Contents (Elt F) → (⟨S2388, .i32⟩ : BufTy).Contents (Elt F) → (⟨S2388, .i32⟩ : BufTy).Contents (Elt F) → (⟨S2388, .i32⟩ : BufTy).Contents (Elt F)),
    nullary main_c_19 (constantI S_ 32 201#32),
    unary main_c_19 main_v45 (broadcastInDim S2388 ![] bcast_S_S2388 : (⟨S_, .i32⟩ : BufTy).Contents (Elt F) → (⟨S2388, .i32⟩ : BufTy).Contents (Elt F)),
    binary main_c_8 main_v45 main_v46 (addi : (⟨S2388, .i32⟩ : BufTy).Contents (Elt F) → (⟨S2388, .i32⟩ : BufTy).Contents (Elt F) → (⟨S2388, .i32⟩ : BufTy).Contents (Elt F)),
    ternary main_c_9 main_v46 main_c_8 main_v47 (select : (⟨S2388, .i1⟩ : BufTy).Contents (Elt F) → (⟨S2388, .i32⟩ : BufTy).Contents (Elt F) → (⟨S2388, .i32⟩ : BufTy).Contents (Elt F) → (⟨S2388, .i32⟩ : BufTy).Contents (Elt F)),
    unary main_v44 main_v48 (broadcastInDim S2388x1 ![0] bcast_S2388_S2388x1_0 : (⟨S2388, .i32⟩ : BufTy).Contents (Elt F) → (⟨S2388x1, .i32⟩ : BufTy).Contents (Elt F)),
    unary main_v47 main_v49 (broadcastInDim S2388x1 ![0] bcast_S2388_S2388x1_0 : (⟨S2388, .i32⟩ : BufTy).Contents (Elt F) → (⟨S2388x1, .i32⟩ : BufTy).Contents (Elt F)),
    binary main_v48 main_v49 main_v50 (joinSin (F := F)),
    ternary main_v41 main_v50 main_cst_5 main_v51 ((fun x i u => Host.scatter scatter_S400x201_S2388x2_S2388_n_01_01_1 (fun _ b => b) x i u) : (⟨S400x201, .f32⟩ : BufTy).Contents (Elt F) → (⟨S2388x2, .i32⟩ : BufTy).Contents (Elt F) → (⟨S2388, .f32⟩ : BufTy).Contents (Elt F) → (⟨S400x201, .f32⟩ : BufTy).Contents (Elt F)) ]

/-- Operations of stage 2. -/
abbrev ops2 : List (HloOp τ sig (Elt F)) :=
  [ nullary main_c_20 (constantI S_ 32 0#32),
    TRef.unary (TRef.of (T := ⟨S4x96000, .f32⟩) main_arg0) (TRef.of (T := ⟨S4x1, .f32⟩) main_call0_v0) (extractStridedSlice S4x1 ![0, 0] · slices_S4x96000_S4x1_0_0),
    TRef.unary (TRef.of (T := ⟨S4x96000, .f32⟩) main_arg0) (TRef.of (T := ⟨S4x200, .f32⟩) main_call0_v1) (extractStridedSlice S4x200 ![0, 1] · slices_S4x96000_S4x200_0_1),
    TRef.unary (TRef.of (T := ⟨S4x200, .f32⟩) main_call0_v1) (TRef.of (T := ⟨S4x200, .f32⟩) main_call0_v2) (Host.reverse [1]),
    TRef.binary (TRef.of (T := ⟨S4x200, .f32⟩) main_call0_v2) (TRef.of (T := ⟨S4x96000, .f32⟩) main_arg0) (TRef.of (T := ⟨S4x96200, .f32⟩) main_call0_v3) (joinLeft (F := F)),
    TRef.unary (TRef.of (T := ⟨S4x96200, .f32⟩) main_call0_v3) (TRef.of (T := ⟨S4x1, .f32⟩) main_call0_v4) (extractStridedSlice S4x1 ![0, 96199] · slices_S4x96200_S4x1_0_96199),
    TRef.unary (TRef.of (T := ⟨S4x96200, .f32⟩) main_call0_v3) (TRef.of (T := ⟨S4x200, .f32⟩) main_call0_v5) (extractStridedSlice S4x200 ![0, 95999] · slices_S4x96200_S4x200_0_95999),
    TRef.unary (TRef.of (T := ⟨S4x200, .f32⟩) main_call0_v5) (TRef.of (T := ⟨S4x200, .f32⟩) main_call0_v6) (Host.reverse [1]),
    TRef.binary (TRef.of (T := ⟨S4x96200, .f32⟩) main_call0_v3) (TRef.of (T := ⟨S4x200, .f32⟩) main_call0_v6) (TRef.of (T := ⟨S4x96400, .f32⟩) main_v52) (joinRight (F := F)),
    nullary main_v53 (iotaInDim S601 32 0),
    unary main_v53 main_v54 (broadcastInDim S601x1 ![0] bcast_S601_S601x1_0 : (⟨S601, .i32⟩ : BufTy).Contents (Elt F) → (⟨S601x1, .i32⟩ : BufTy).Contents (Elt F)),
    nullary main_c_21 (constantI S_ 32 160#32),
    unary main_c_21 main_v55 (broadcastInDim S601x1 ![] bcast_S_S601x1 : (⟨S_, .i32⟩ : BufTy).Contents (Elt F) → (⟨S601x1, .i32⟩ : BufTy).Contents (Elt F)),
    binary main_v54 main_v55 main_v56 (muli : (⟨S601x1, .i32⟩ : BufTy).Contents (Elt F) → (⟨S601x1, .i32⟩ : BufTy).Contents (Elt F) → (⟨S601x1, .i32⟩ : BufTy).Contents (Elt F)),
    nullary main_v57 (iotaInDim S400 32 0),
    unary main_v57 main_v58 (broadcastInDim S1x400 ![1] bcast_S400_S1x400_1 : (⟨S400, .i32⟩ : BufTy).Contents (Elt F) → (⟨S1x400, .i32⟩ : BufTy).Contents (Elt F)),
    unary main_v56 main_v59 (broadcastInDim S601x400 ![0, 1] bcast_S601x1_S601x400_0_1 : (⟨S601x1, .i32⟩ : BufTy).Contents (Elt F) → (⟨S601x400, .i32⟩ : BufTy).Contents (Elt F)),
    unary main_v58 main_v60 (broadcastInDim S601x400 ![0, 1] bcast_S1x400_S601x400_0_1 : (⟨S1x400, .i32⟩ : BufTy).Contents (Elt F) → (⟨S601x400, .i32⟩ : BufTy).Contents (Elt F)),
    binary main_v59 main_v60 main_v61 (addi : (⟨S601x400, .i32⟩ : BufTy).Contents (Elt F) → (⟨S601x400, .i32⟩ : BufTy).Contents (Elt F) → (⟨S601x400, .i32⟩ : BufTy).Contents (Elt F)),
    nullary main_c_22 (constantI S_ 32 0#32),
    unary main_c_22 main_v62 (broadcastInDim S601x400 ![] bcast_S_S601x400 : (⟨S_, .i32⟩ : BufTy).Contents (Elt F) → (⟨S601x400, .i32⟩ : BufTy).Contents (Elt F)),
    binary main_v61 main_v62 main_v63 (cmpi .slt : (⟨S601x400, .i32⟩ : BufTy).Contents (Elt F) → (⟨S601x400, .i32⟩ : BufTy).Contents (Elt F) → (⟨S601x400, .i1⟩ : BufTy).Contents (Elt F)),
    nullary main_c_23 (constantI S_ 32 96400#32),
    unary main_c_23 main_v64 (broadcastInDim S601x400 ![] bcast_S_S601x400 : (⟨S_, .i32⟩ : BufTy).Contents (Elt F) → (⟨S601x400, .i32⟩ : BufTy).Contents (Elt F)),
    binary main_v61 main_v64 main_v65 (addi : (⟨S601x400, .i32⟩ : BufTy).Contents (Elt F) → (⟨S601x400, .i32⟩ : BufTy).Contents (Elt F) → (⟨S601x400, .i32⟩ : BufTy).Contents (Elt F)),
    ternary main_v63 main_v65 main_v61 main_v66 (select : (⟨S601x400, .i1⟩ : BufTy).Contents (Elt F) → (⟨S601x400, .i32⟩ : BufTy).Contents (Elt F) → (⟨S601x400, .i32⟩ : BufTy).Contents (Elt F) → (⟨S601x400, .i32⟩ : BufTy).Contents (Elt F)),
    unary main_v66 main_v67 (broadcastInDim S601x400x1 ![0, 1] bcast_S601x400_S601x400x1_0_1 : (⟨S601x400, .i32⟩ : BufTy).Contents (Elt F) → (⟨S601x400x1, .i32⟩ : BufTy).Contents (Elt F)) ]

/-- Operations of stage 3. -/
abbrev ops3 : List (HloOp τ sig (Elt F)) :=
  [ binary main_v52 main_v67 main_v68 ((fun x i => Host.gather gather_S4x96400_S601x400x1_S4x601x400_0_1_n_n_1_2_41 x i) : (⟨S4x96400, .f32⟩ : BufTy).Contents (Elt F) → (⟨S601x400x1, .i32⟩ : BufTy).Contents (Elt F) → (⟨S4x601x400, .f32⟩ : BufTy).Contents (Elt F)),
    unary main_arg11 main_v69 (broadcastInDim S1x1x400 ![2] bcast_S400_S1x1x400_2 : (⟨S400, .f32⟩ : BufTy).Contents (Elt F) → (⟨S1x1x400, .f32⟩ : BufTy).Contents (Elt F)),
    unary main_v69 main_v70 (broadcastInDim S4x601x400 ![0, 1, 2] bcast_S1x1x400_S4x601x400_0_1_2 : (⟨S1x1x400, .f32⟩ : BufTy).Contents (Elt F) → (⟨S4x601x400, .f32⟩ : BufTy).Contents (Elt F)),
    binary main_v68 main_v70 main_v71 (mulf : (⟨S4x601x400, .f32⟩ : BufTy).Contents (Elt F) → (⟨S4x601x400, .f32⟩ : BufTy).Contents (Elt F) → (⟨S4x601x400, .f32⟩ : BufTy).Contents (Elt F)) ]

/-- Operations of stage 4. -/
abbrev ops4 : List (HloOp τ sig (Elt F)) :=
  [ unary main_v71 main_v72 (broadcastInDim S4x601x400x1 ![0, 1, 2] bcast_S4x601x400_S4x601x400x1_0_1_2 : (⟨S4x601x400, .f32⟩ : BufTy).Contents (Elt F) → (⟨S4x601x400x1, .f32⟩ : BufTy).Contents (Elt F)),
    unary main_v25 main_v73 (broadcastInDim S1x1x400x201 ![2, 3] bcast_S400x201_S1x1x400x201_2_3 : (⟨S400x201, .f32⟩ : BufTy).Contents (Elt F) → (⟨S1x1x400x201, .f32⟩ : BufTy).Contents (Elt F)),
    unary main_v72 main_v74 (broadcastInDim S4x601x400x201 ![0, 1, 2, 3] bcast_S4x601x400x1_S4x601x400x201_0_1_2_3 : (⟨S4x601x400x1, .f32⟩ : BufTy).Contents (Elt F) → (⟨S4x601x400x201, .f32⟩ : BufTy).Contents (Elt F)),
    unary main_v73 main_v75 (broadcastInDim S4x601x400x201 ![0, 1, 2, 3] bcast_S1x1x400x201_S4x601x400x201_0_1_2_3 : (⟨S1x1x400x201, .f32⟩ : BufTy).Contents (Elt F) → (⟨S4x601x400x201, .f32⟩ : BufTy).Contents (Elt F)),
    binary main_v74 main_v75 main_v76 (mulf : (⟨S4x601x400x201, .f32⟩ : BufTy).Contents (Elt F) → (⟨S4x601x400x201, .f32⟩ : BufTy).Contents (Elt F) → (⟨S4x601x400x201, .f32⟩ : BufTy).Contents (Elt F)),
    nullary main_cst_24 (constant S_ .f32 0x00000000#32),
    binary main_v76 main_cst_24 main_v77 ((fun x v => Host.reduceAdd x v reducesTo_S4x601x400x201_S4x601x201_d2 h_S_) : (⟨S4x601x400x201, .f32⟩ : BufTy).Contents (Elt F) → (⟨S_, .f32⟩ : BufTy).Contents (Elt F) → (⟨S4x601x201, .f32⟩ : BufTy).Contents (Elt F)),
    unary main_v71 main_v78 (broadcastInDim S4x601x400x1 ![0, 1, 2] bcast_S4x601x400_S4x601x400x1_0_1_2 : (⟨S4x601x400, .f32⟩ : BufTy).Contents (Elt F) → (⟨S4x601x400x1, .f32⟩ : BufTy).Contents (Elt F)),
    unary main_v51 main_v79 (broadcastInDim S1x1x400x201 ![2, 3] bcast_S400x201_S1x1x400x201_2_3 : (⟨S400x201, .f32⟩ : BufTy).Contents (Elt F) → (⟨S1x1x400x201, .f32⟩ : BufTy).Contents (Elt F)),
    unary main_v78 main_v80 (broadcastInDim S4x601x400x201 ![0, 1, 2, 3] bcast_S4x601x400x1_S4x601x400x201_0_1_2_3 : (⟨S4x601x400x1, .f32⟩ : BufTy).Contents (Elt F) → (⟨S4x601x400x201, .f32⟩ : BufTy).Contents (Elt F)),
    unary main_v79 main_v81 (broadcastInDim S4x601x400x201 ![0, 1, 2, 3] bcast_S1x1x400x201_S4x601x400x201_0_1_2_3 : (⟨S1x1x400x201, .f32⟩ : BufTy).Contents (Elt F) → (⟨S4x601x400x201, .f32⟩ : BufTy).Contents (Elt F)),
    binary main_v80 main_v81 main_v82 (mulf : (⟨S4x601x400x201, .f32⟩ : BufTy).Contents (Elt F) → (⟨S4x601x400x201, .f32⟩ : BufTy).Contents (Elt F) → (⟨S4x601x400x201, .f32⟩ : BufTy).Contents (Elt F)),
    nullary main_cst_25 (constant S_ .f32 0x00000000#32),
    binary main_v82 main_cst_25 main_v83 ((fun x v => Host.reduceAdd x v reducesTo_S4x601x400x201_S4x601x201_d2 h_S_) : (⟨S4x601x400x201, .f32⟩ : BufTy).Contents (Elt F) → (⟨S_, .f32⟩ : BufTy).Contents (Elt F) → (⟨S4x601x201, .f32⟩ : BufTy).Contents (Elt F)),
    unary main_v83 main_v84 (Host.negf : (⟨S4x601x201, .f32⟩ : BufTy).Contents (Elt F) → (⟨S4x601x201, .f32⟩ : BufTy).Contents (Elt F)),
    binary main_v77 main_v77 main_v85 (mulf : (⟨S4x601x201, .f32⟩ : BufTy).Contents (Elt F) → (⟨S4x601x201, .f32⟩ : BufTy).Contents (Elt F) → (⟨S4x601x201, .f32⟩ : BufTy).Contents (Elt F)),
    binary main_v84 main_v84 main_v86 (mulf : (⟨S4x601x201, .f32⟩ : BufTy).Contents (Elt F) → (⟨S4x601x201, .f32⟩ : BufTy).Contents (Elt F) → (⟨S4x601x201, .f32⟩ : BufTy).Contents (Elt F)),
    binary main_v85 main_v86 main_v87 (addf : (⟨S4x601x201, .f32⟩ : BufTy).Contents (Elt F) → (⟨S4x601x201, .f32⟩ : BufTy).Contents (Elt F) → (⟨S4x601x201, .f32⟩ : BufTy).Contents (Elt F)),
    unary main_v87 main_v88 (Host.sqrt : (⟨S4x601x201, .f32⟩ : BufTy).Contents (Elt F) → (⟨S4x601x201, .f32⟩ : BufTy).Contents (Elt F)),
    binary main_v88 main_v88 main_v89 (mulf : (⟨S4x601x201, .f32⟩ : BufTy).Contents (Elt F) → (⟨S4x601x201, .f32⟩ : BufTy).Contents (Elt F) → (⟨S4x601x201, .f32⟩ : BufTy).Contents (Elt F)),
    unary main_v89 main_v90 ((transpose S4x201x601 [0, 2, 1] · transposes_S4x601x201_S4x201x601_0_2_1) : (⟨S4x601x201, .f32⟩ : BufTy).Contents (Elt F) → (⟨S4x201x601, .f32⟩ : BufTy).Contents (Elt F)),
    unary main_v90 main_v91 ((extractStridedSlice S4x201x600 ![0, 0, 0] · slices_S4x201x601_S4x201x600_0_0_0) : (⟨S4x201x601, .f32⟩ : BufTy).Contents (Elt F) → (⟨S4x201x600, .f32⟩ : BufTy).Contents (Elt F)) ]

/-- Operations of stage 5. -/
abbrev ops5 : List (HloOp τ sig (Elt F)) :=
  [ binary main_v91 main_arg10 main_v92 ((fun l r => Host.dotGeneral dot_S4x201x600_S128x201_S4x600x128_1_1_02_0_n_n none l r) : (⟨S4x201x600, .f32⟩ : BufTy).Contents (Elt F) → (⟨S128x201, .f32⟩ : BufTy).Contents (Elt F) → (⟨S4x600x128, .f32⟩ : BufTy).Contents (Elt F)),
    unary main_v92 main_v93 ((transpose S4x128x600 [0, 2, 1] · transposes_S4x600x128_S4x128x600_0_2_1) : (⟨S4x600x128, .f32⟩ : BufTy).Contents (Elt F) → (⟨S4x128x600, .f32⟩ : BufTy).Contents (Elt F)),
    nullary main_cst_26 (constant S_ .f32 0x2EDBE6FF#32),
    TRef.unary (TRef.of (T := ⟨S_, .f32⟩) main_cst_26) (TRef.of (T := ⟨S_, .f32⟩) main_call1_v0) id,
    TRef.unary (TRef.of (T := ⟨S_, .f32⟩) main_call1_v0) (TRef.of (T := ⟨S4x128x600, .f32⟩) main_call1_v1) (broadcastInDim S4x128x600 ![] bcast_S_S4x128x600),
    TRef.binary (TRef.of (T := ⟨S4x128x600, .f32⟩) main_call1_v1) (TRef.of (T := ⟨S4x128x600, .f32⟩) main_v93) (TRef.of (T := ⟨S4x128x600, .f32⟩) main_v94) maximumf,
    unary main_v94 main_v95 (Host.log : (⟨S4x128x600, .f32⟩ : BufTy).Contents (Elt F) → (⟨S4x128x600, .f32⟩ : BufTy).Contents (Elt F)),
    nullary main_cst_27 (constant S_ .f32 0x41200000#32),
    unary main_cst_27 main_v96 (Host.log : (⟨S_, .f32⟩ : BufTy).Contents (Elt F) → (⟨S_, .f32⟩ : BufTy).Contents (Elt F)),
    unary main_v96 main_v97 (id : (⟨S_, .f32⟩ : BufTy).Contents (Elt F) → (⟨S_, .f32⟩ : BufTy).Contents (Elt F)),
    unary main_v97 main_v98 (broadcastInDim S4x128x600 ![] bcast_S_S4x128x600 : (⟨S_, .f32⟩ : BufTy).Contents (Elt F) → (⟨S4x128x600, .f32⟩ : BufTy).Contents (Elt F)),
    binary main_v95 main_v98 main_v99 (Host.divf : (⟨S4x128x600, .f32⟩ : BufTy).Contents (Elt F) → (⟨S4x128x600, .f32⟩ : BufTy).Contents (Elt F) → (⟨S4x128x600, .f32⟩ : BufTy).Contents (Elt F)) ]

/-- Operations of stage 6. -/
abbrev ops6 : List (HloOp τ sig (Elt F)) :=
  [ nullary main_cst_28 (constant S_ .f32 0xFF800000#32),
    binary main_v99 main_cst_28 main_v100 ((fun x v => Host.reduce FloatOps.maximumf x v reducesTo_S4x128x600_S4_d1_2 h_S_) : (⟨S4x128x600, .f32⟩ : BufTy).Contents (Elt F) → (⟨S_, .f32⟩ : BufTy).Contents (Elt F) → (⟨S4, .f32⟩ : BufTy).Contents (Elt F)),
    unary main_v100 main_v101 (broadcastInDim S4x1x1 ![0] bcast_S4_S4x1x1_0 : (⟨S4, .f32⟩ : BufTy).Contents (Elt F) → (⟨S4x1x1, .f32⟩ : BufTy).Contents (Elt F)),
    nullary main_cst_29 (constant S_ .f32 0x41000000#32),
    unary main_cst_29 main_v102 (broadcastInDim S4x1x1 ![] bcast_S_S4x1x1 : (⟨S_, .f32⟩ : BufTy).Contents (Elt F) → (⟨S4x1x1, .f32⟩ : BufTy).Contents (Elt F)),
    binary main_v101 main_v102 main_v103 (subf : (⟨S4x1x1, .f32⟩ : BufTy).Contents (Elt F) → (⟨S4x1x1, .f32⟩ : BufTy).Contents (Elt F) → (⟨S4x1x1, .f32⟩ : BufTy).Contents (Elt F)),
    unary main_v103 main_v104 (broadcastInDim S4x128x600 ![0, 1, 2] bcast_S4x1x1_S4x128x600_0_1_2 : (⟨S4x1x1, .f32⟩ : BufTy).Contents (Elt F) → (⟨S4x128x600, .f32⟩ : BufTy).Contents (Elt F)),
    binary main_v99 main_v104 main_v105 (maximumf : (⟨S4x128x600, .f32⟩ : BufTy).Contents (Elt F) → (⟨S4x128x600, .f32⟩ : BufTy).Contents (Elt F) → (⟨S4x128x600, .f32⟩ : BufTy).Contents (Elt F)),
    nullary main_cst_30 (constant S_ .f32 0x40800000#32),
    unary main_cst_30 main_v106 (broadcastInDim S4x128x600 ![] bcast_S_S4x128x600 : (⟨S_, .f32⟩ : BufTy).Contents (Elt F) → (⟨S4x128x600, .f32⟩ : BufTy).Contents (Elt F)),
    binary main_v105 main_v106 main_v107 (addf : (⟨S4x128x600, .f32⟩ : BufTy).Contents (Elt F) → (⟨S4x128x600, .f32⟩ : BufTy).Contents (Elt F) → (⟨S4x128x600, .f32⟩ : BufTy).Contents (Elt F)),
    nullary main_cst_31 (constant S_ .f32 0x40800000#32),
    unary main_cst_31 main_v108 (broadcastInDim S4x128x600 ![] bcast_S_S4x128x600 : (⟨S_, .f32⟩ : BufTy).Contents (Elt F) → (⟨S4x128x600, .f32⟩ : BufTy).Contents (Elt F)),
    binary main_v107 main_v108 main_v109 (Host.divf : (⟨S4x128x600, .f32⟩ : BufTy).Contents (Elt F) → (⟨S4x128x600, .f32⟩ : BufTy).Contents (Elt F) → (⟨S4x128x600, .f32⟩ : BufTy).Contents (Elt F)) ]

/-- Operations of stage 7. -/
abbrev ops7 : List (HloOp τ sig (Elt F)) :=
  [ nullary main_c_32 (constantI S_ 32 0#32),
    TRef.unary (TRef.of (T := ⟨S_, .i32⟩) main_c_32) (TRef.of (T := ⟨S_, .f32⟩) main_call2_v0) (sitofp .f32),
    TRef.binary (TRef.of (T := ⟨S4x128x600, .f32⟩) main_v109) (TRef.of (T := ⟨S_, .f32⟩) main_call2_v0) (TRef.of (T := ⟨S4x128x602, .f32⟩) main_v110) (fun x v => pad S4x128x602 ![0, 0, 1] ![0, 0, 1] ![0, 0, 0] x v pads_S4x128x600_S4x128x602_000_000_110 h_S_),
    unary main_arg1 main_v111 ((extractStridedSlice S512x128x1 ![0, 0, 0] · slices_S512x128x3_S512x128x1_0_0_0) : (⟨S512x128x3, .f32⟩ : BufTy).Contents (Elt F) → (⟨S512x128x1, .f32⟩ : BufTy).Contents (Elt F)),
    reshape main_v111 main_v112 (rfl : (.f32 : EltTy) = .f32) shapeCasts_S512x128x1_S512x128,
    unary main_v110 main_v113 ((extractStridedSlice S4x128x600 ![0, 0, 0] · slices_S4x128x602_S4x128x600_0_0_0) : (⟨S4x128x602, .f32⟩ : BufTy).Contents (Elt F) → (⟨S4x128x600, .f32⟩ : BufTy).Contents (Elt F)),
    binary main_v113 main_v112 main_v114 ((fun l r => Host.dotGeneral dot_S4x128x600_S512x128_S4x600x512_1_1_02_0_n_n none l r) : (⟨S4x128x600, .f32⟩ : BufTy).Contents (Elt F) → (⟨S512x128, .f32⟩ : BufTy).Contents (Elt F) → (⟨S4x600x512, .f32⟩ : BufTy).Contents (Elt F)),
    unary main_v114 main_v115 ((transpose S4x512x600 [0, 2, 1] · transposes_S4x600x512_S4x512x600_0_2_1) : (⟨S4x600x512, .f32⟩ : BufTy).Contents (Elt F) → (⟨S4x512x600, .f32⟩ : BufTy).Contents (Elt F)),
    unary main_arg1 main_v116 ((extractStridedSlice S512x128x1 ![0, 0, 1] · slices_S512x128x3_S512x128x1_0_0_1) : (⟨S512x128x3, .f32⟩ : BufTy).Contents (Elt F) → (⟨S512x128x1, .f32⟩ : BufTy).Contents (Elt F)),
    reshape main_v116 main_v117 (rfl : (.f32 : EltTy) = .f32) shapeCasts_S512x128x1_S512x128,
    unary main_v110 main_v118 ((extractStridedSlice S4x128x600 ![0, 0, 1] · slices_S4x128x602_S4x128x600_0_0_1) : (⟨S4x128x602, .f32⟩ : BufTy).Contents (Elt F) → (⟨S4x128x600, .f32⟩ : BufTy).Contents (Elt F)),
    binary main_v118 main_v117 main_v119 ((fun l r => Host.dotGeneral dot_S4x128x600_S512x128_S4x600x512_1_1_02_0_n_n none l r) : (⟨S4x128x600, .f32⟩ : BufTy).Contents (Elt F) → (⟨S512x128, .f32⟩ : BufTy).Contents (Elt F) → (⟨S4x600x512, .f32⟩ : BufTy).Contents (Elt F)),
    unary main_v119 main_v120 ((transpose S4x512x600 [0, 2, 1] · transposes_S4x600x512_S4x512x600_0_2_1) : (⟨S4x600x512, .f32⟩ : BufTy).Contents (Elt F) → (⟨S4x512x600, .f32⟩ : BufTy).Contents (Elt F)),
    binary main_v115 main_v120 main_v121 (addf : (⟨S4x512x600, .f32⟩ : BufTy).Contents (Elt F) → (⟨S4x512x600, .f32⟩ : BufTy).Contents (Elt F) → (⟨S4x512x600, .f32⟩ : BufTy).Contents (Elt F)),
    unary main_arg1 main_v122 ((extractStridedSlice S512x128x1 ![0, 0, 2] · slices_S512x128x3_S512x128x1_0_0_2) : (⟨S512x128x3, .f32⟩ : BufTy).Contents (Elt F) → (⟨S512x128x1, .f32⟩ : BufTy).Contents (Elt F)),
    reshape main_v122 main_v123 (rfl : (.f32 : EltTy) = .f32) shapeCasts_S512x128x1_S512x128,
    unary main_v110 main_v124 ((extractStridedSlice S4x128x600 ![0, 0, 2] · slices_S4x128x602_S4x128x600_0_0_2) : (⟨S4x128x602, .f32⟩ : BufTy).Contents (Elt F) → (⟨S4x128x600, .f32⟩ : BufTy).Contents (Elt F)),
    binary main_v124 main_v123 main_v125 ((fun l r => Host.dotGeneral dot_S4x128x600_S512x128_S4x600x512_1_1_02_0_n_n none l r) : (⟨S4x128x600, .f32⟩ : BufTy).Contents (Elt F) → (⟨S512x128, .f32⟩ : BufTy).Contents (Elt F) → (⟨S4x600x512, .f32⟩ : BufTy).Contents (Elt F)),
    unary main_v125 main_v126 ((transpose S4x512x600 [0, 2, 1] · transposes_S4x600x512_S4x512x600_0_2_1) : (⟨S4x600x512, .f32⟩ : BufTy).Contents (Elt F) → (⟨S4x512x600, .f32⟩ : BufTy).Contents (Elt F)),
    binary main_v121 main_v126 main_v127 (addf : (⟨S4x512x600, .f32⟩ : BufTy).Contents (Elt F) → (⟨S4x512x600, .f32⟩ : BufTy).Contents (Elt F) → (⟨S4x512x600, .f32⟩ : BufTy).Contents (Elt F)),
    unary main_arg2 main_v128 (broadcastInDim S1x512x1 ![1] bcast_S512_S1x512x1_1 : (⟨S512, .f32⟩ : BufTy).Contents (Elt F) → (⟨S1x512x1, .f32⟩ : BufTy).Contents (Elt F)),
    unary main_v128 main_v129 (broadcastInDim S4x512x600 ![0, 1, 2] bcast_S1x512x1_S4x512x600_0_1_2 : (⟨S1x512x1, .f32⟩ : BufTy).Contents (Elt F) → (⟨S4x512x600, .f32⟩ : BufTy).Contents (Elt F)),
    binary main_v127 main_v129 main_v130 (addf : (⟨S4x512x600, .f32⟩ : BufTy).Contents (Elt F) → (⟨S4x512x600, .f32⟩ : BufTy).Contents (Elt F) → (⟨S4x512x600, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S4x512x600, .f32⟩) main_call3_v0) (broadcastInDim S4x512x600 ![] bcast_S_S4x512x600),
    TRef.binary (TRef.of (T := ⟨S4x512x600, .f32⟩) main_v130) (TRef.of (T := ⟨S4x512x600, .f32⟩) main_call3_v0) (TRef.of (T := ⟨S4x512x600, .f32⟩) main_v131) maximumf ]

/-- Operations of stage 8. -/
abbrev ops8a : List (HloOp τ sig (Elt F)) :=
  [ nullary main_c_33 (constantI S_ 32 0#32),
    TRef.unary (TRef.of (T := ⟨S_, .i32⟩) main_c_33) (TRef.of (T := ⟨S_, .f32⟩) main_call4_v0) (sitofp .f32),
    TRef.binary (TRef.of (T := ⟨S4x512x600, .f32⟩) main_v131) (TRef.of (T := ⟨S_, .f32⟩) main_call4_v0) (TRef.of (T := ⟨S4x512x602, .f32⟩) main_v132) (fun x v => pad S4x512x602 ![0, 0, 1] ![0, 0, 1] ![0, 0, 0] x v pads_S4x512x600_S4x512x602_000_000_110 h_S_),
    unary main_arg3 main_v133 ((extractStridedSlice S512x512x1 ![0, 0, 0] · slices_S512x512x3_S512x512x1_0_0_0) : (⟨S512x512x3, .f32⟩ : BufTy).Contents (Elt F) → (⟨S512x512x1, .f32⟩ : BufTy).Contents (Elt F)),
    reshape main_v133 main_v134 (rfl : (.f32 : EltTy) = .f32) shapeCasts_S512x512x1_S512x512,
    unary main_v132 main_v135 ((Host.slice S4x512x300 ![0, 0, 0] ![1, 1, 2] · slicesBy_S4x512x602_S4x512x300_0s1_0s1_0s2) : (⟨S4x512x602, .f32⟩ : BufTy).Contents (Elt F) → (⟨S4x512x300, .f32⟩ : BufTy).Contents (Elt F)),
    binary main_v135 main_v134 main_v136 ((fun l r => Host.dotGeneral dot_S4x512x300_S512x512_S4x300x512_1_1_02_0_n_n none l r) : (⟨S4x512x300, .f32⟩ : BufTy).Contents (Elt F) → (⟨S512x512, .f32⟩ : BufTy).Contents (Elt F) → (⟨S4x300x512, .f32⟩ : BufTy).Contents (Elt F)),
    unary main_v136 main_v137 ((transpose S4x512x300 [0, 2, 1] · transposes_S4x300x512_S4x512x300_0_2_1) : (⟨S4x300x512, .f32⟩ : BufTy).Contents (Elt F) → (⟨S4x512x300, .f32⟩ : BufTy).Contents (Elt F)),
    unary main_arg3 main_v138 ((extractStridedSlice S512x512x1 ![0, 0, 1] · slices_S512x512x3_S512x512x1_0_0_1) : (⟨S512x512x3, .f32⟩ : BufTy).Contents (Elt F) → (⟨S512x512x1, .f32⟩ : BufTy).Contents (Elt F)),
    reshape main_v138 main_v139 (rfl : (.f32 : EltTy) = .f32) shapeCasts_S512x512x1_S512x512,
    unary main_v132 main_v140 ((Host.slice S4x512x300 ![0, 0, 1] ![1, 1, 2] · slicesBy_S4x512x602_S4x512x300_0s1_0s1_1s2) : (⟨S4x512x602, .f32⟩ : BufTy).Contents (Elt F) → (⟨S4x512x300, .f32⟩ : BufTy).Contents (Elt F)),
    binary main_v140 main_v139 main_v141 ((fun l r => Host.dotGeneral dot_S4x512x300_S512x512_S4x300x512_1_1_02_0_n_n none l r) : (⟨S4x512x300, .f32⟩ : BufTy).Contents (Elt F) → (⟨S512x512, .f32⟩ : BufTy).Contents (Elt F) → (⟨S4x300x512, .f32⟩ : BufTy).Contents (Elt F)),
    unary main_v141 main_v142 ((transpose S4x512x300 [0, 2, 1] · transposes_S4x300x512_S4x512x300_0_2_1) : (⟨S4x300x512, .f32⟩ : BufTy).Contents (Elt F) → (⟨S4x512x300, .f32⟩ : BufTy).Contents (Elt F)),
    binary main_v137 main_v142 main_v143 (addf : (⟨S4x512x300, .f32⟩ : BufTy).Contents (Elt F) → (⟨S4x512x300, .f32⟩ : BufTy).Contents (Elt F) → (⟨S4x512x300, .f32⟩ : BufTy).Contents (Elt F)) ]

/-- Operations of stage 8. -/
abbrev ops8b : List (HloOp τ sig (Elt F)) :=
  [ unary main_arg3 main_v144 ((extractStridedSlice S512x512x1 ![0, 0, 2] · slices_S512x512x3_S512x512x1_0_0_2) : (⟨S512x512x3, .f32⟩ : BufTy).Contents (Elt F) → (⟨S512x512x1, .f32⟩ : BufTy).Contents (Elt F)),
    reshape main_v144 main_v145 (rfl : (.f32 : EltTy) = .f32) shapeCasts_S512x512x1_S512x512,
    unary main_v132 main_v146 ((Host.slice S4x512x300 ![0, 0, 2] ![1, 1, 2] · slicesBy_S4x512x602_S4x512x300_0s1_0s1_2s2) : (⟨S4x512x602, .f32⟩ : BufTy).Contents (Elt F) → (⟨S4x512x300, .f32⟩ : BufTy).Contents (Elt F)),
    binary main_v146 main_v145 main_v147 ((fun l r => Host.dotGeneral dot_S4x512x300_S512x512_S4x300x512_1_1_02_0_n_n none l r) : (⟨S4x512x300, .f32⟩ : BufTy).Contents (Elt F) → (⟨S512x512, .f32⟩ : BufTy).Contents (Elt F) → (⟨S4x300x512, .f32⟩ : BufTy).Contents (Elt F)),
    unary main_v147 main_v148 ((transpose S4x512x300 [0, 2, 1] · transposes_S4x300x512_S4x512x300_0_2_1) : (⟨S4x300x512, .f32⟩ : BufTy).Contents (Elt F) → (⟨S4x512x300, .f32⟩ : BufTy).Contents (Elt F)),
    binary main_v143 main_v148 main_v149 (addf : (⟨S4x512x300, .f32⟩ : BufTy).Contents (Elt F) → (⟨S4x512x300, .f32⟩ : BufTy).Contents (Elt F) → (⟨S4x512x300, .f32⟩ : BufTy).Contents (Elt F)),
    unary main_arg4 main_v150 (broadcastInDim S1x512x1 ![1] bcast_S512_S1x512x1_1 : (⟨S512, .f32⟩ : BufTy).Contents (Elt F) → (⟨S1x512x1, .f32⟩ : BufTy).Contents (Elt F)),
    unary main_v150 main_v151 (broadcastInDim S4x512x300 ![0, 1, 2] bcast_S1x512x1_S4x512x300_0_1_2 : (⟨S1x512x1, .f32⟩ : BufTy).Contents (Elt F) → (⟨S4x512x300, .f32⟩ : BufTy).Contents (Elt F)),
    binary main_v149 main_v151 main_v152 (addf : (⟨S4x512x300, .f32⟩ : BufTy).Contents (Elt F) → (⟨S4x512x300, .f32⟩ : BufTy).Contents (Elt F) → (⟨S4x512x300, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S4x512x300, .f32⟩) main_call5_v0) (broadcastInDim S4x512x300 ![] bcast_S_S4x512x300),
    TRef.binary (TRef.of (T := ⟨S4x512x300, .f32⟩) main_v152) (TRef.of (T := ⟨S4x512x300, .f32⟩) main_call5_v0) (TRef.of (T := ⟨S4x512x300, .f32⟩) main_v153) maximumf ]

/-- Operations of stage 9. -/
abbrev ops9 : List (HloOp τ sig (Elt F)) :=
  [ nullary main_c_34 (constantI S_ 32 0#32),
    TRef.unary (TRef.of (T := ⟨S_, .i32⟩) main_c_34) (TRef.of (T := ⟨S_, .f32⟩) main_call6_v0) (sitofp .f32),
    TRef.binary (TRef.of (T := ⟨S4x512x300, .f32⟩) main_v153) (TRef.of (T := ⟨S_, .f32⟩) main_call6_v0) (TRef.of (T := ⟨S4x512x302, .f32⟩) main_v154) (fun x v => pad S4x512x302 ![0, 0, 1] ![0, 0, 1] ![0, 0, 0] x v pads_S4x512x300_S4x512x302_000_000_110 h_S_),
    unary main_arg5 main_v155 ((extractStridedSlice S1024x512x1 ![0, 0, 0] · slices_S1024x512x3_S1024x512x1_0_0_0) : (⟨S1024x512x3, .f32⟩ : BufTy).Contents (Elt F) → (⟨S1024x512x1, .f32⟩ : BufTy).Contents (Elt F)),
    reshape main_v155 main_v156 (rfl : (.f32 : EltTy) = .f32) shapeCasts_S1024x512x1_S1024x512,
    unary main_v154 main_v157 ((Host.slice S4x512x150 ![0, 0, 0] ![1, 1, 2] · slicesBy_S4x512x302_S4x512x150_0s1_0s1_0s2) : (⟨S4x512x302, .f32⟩ : BufTy).Contents (Elt F) → (⟨S4x512x150, .f32⟩ : BufTy).Contents (Elt F)),
    binary main_v157 main_v156 main_v158 ((fun l r => Host.dotGeneral dot_S4x512x150_S1024x512_S4x150x1024_1_1_02_0_n_n none l r) : (⟨S4x512x150, .f32⟩ : BufTy).Contents (Elt F) → (⟨S1024x512, .f32⟩ : BufTy).Contents (Elt F) → (⟨S4x150x1024, .f32⟩ : BufTy).Contents (Elt F)),
    unary main_v158 main_v159 ((transpose S4x1024x150 [0, 2, 1] · transposes_S4x150x1024_S4x1024x150_0_2_1) : (⟨S4x150x1024, .f32⟩ : BufTy).Contents (Elt F) → (⟨S4x1024x150, .f32⟩ : BufTy).Contents (Elt F)),
    unary main_arg5 main_v160 ((extractStridedSlice S1024x512x1 ![0, 0, 1] · slices_S1024x512x3_S1024x512x1_0_0_1) : (⟨S1024x512x3, .f32⟩ : BufTy).Contents (Elt F) → (⟨S1024x512x1, .f32⟩ : BufTy).Contents (Elt F)),
    reshape main_v160 main_v161 (rfl : (.f32 : EltTy) = .f32) shapeCasts_S1024x512x1_S1024x512,
    unary main_v154 main_v162 ((Host.slice S4x512x150 ![0, 0, 1] ![1, 1, 2] · slicesBy_S4x512x302_S4x512x150_0s1_0s1_1s2) : (⟨S4x512x302, .f32⟩ : BufTy).Contents (Elt F) → (⟨S4x512x150, .f32⟩ : BufTy).Contents (Elt F)),
    binary main_v162 main_v161 main_v163 ((fun l r => Host.dotGeneral dot_S4x512x150_S1024x512_S4x150x1024_1_1_02_0_n_n none l r) : (⟨S4x512x150, .f32⟩ : BufTy).Contents (Elt F) → (⟨S1024x512, .f32⟩ : BufTy).Contents (Elt F) → (⟨S4x150x1024, .f32⟩ : BufTy).Contents (Elt F)),
    unary main_v163 main_v164 ((transpose S4x1024x150 [0, 2, 1] · transposes_S4x150x1024_S4x1024x150_0_2_1) : (⟨S4x150x1024, .f32⟩ : BufTy).Contents (Elt F) → (⟨S4x1024x150, .f32⟩ : BufTy).Contents (Elt F)),
    binary main_v159 main_v164 main_v165 (addf : (⟨S4x1024x150, .f32⟩ : BufTy).Contents (Elt F) → (⟨S4x1024x150, .f32⟩ : BufTy).Contents (Elt F) → (⟨S4x1024x150, .f32⟩ : BufTy).Contents (Elt F)),
    unary main_arg5 main_v166 ((extractStridedSlice S1024x512x1 ![0, 0, 2] · slices_S1024x512x3_S1024x512x1_0_0_2) : (⟨S1024x512x3, .f32⟩ : BufTy).Contents (Elt F) → (⟨S1024x512x1, .f32⟩ : BufTy).Contents (Elt F)),
    reshape main_v166 main_v167 (rfl : (.f32 : EltTy) = .f32) shapeCasts_S1024x512x1_S1024x512,
    unary main_v154 main_v168 ((Host.slice S4x512x150 ![0, 0, 2] ![1, 1, 2] · slicesBy_S4x512x302_S4x512x150_0s1_0s1_2s2) : (⟨S4x512x302, .f32⟩ : BufTy).Contents (Elt F) → (⟨S4x512x150, .f32⟩ : BufTy).Contents (Elt F)),
    binary main_v168 main_v167 main_v169 ((fun l r => Host.dotGeneral dot_S4x512x150_S1024x512_S4x150x1024_1_1_02_0_n_n none l r) : (⟨S4x512x150, .f32⟩ : BufTy).Contents (Elt F) → (⟨S1024x512, .f32⟩ : BufTy).Contents (Elt F) → (⟨S4x150x1024, .f32⟩ : BufTy).Contents (Elt F)),
    unary main_v169 main_v170 ((transpose S4x1024x150 [0, 2, 1] · transposes_S4x150x1024_S4x1024x150_0_2_1) : (⟨S4x150x1024, .f32⟩ : BufTy).Contents (Elt F) → (⟨S4x1024x150, .f32⟩ : BufTy).Contents (Elt F)),
    binary main_v165 main_v170 main_v171 (addf : (⟨S4x1024x150, .f32⟩ : BufTy).Contents (Elt F) → (⟨S4x1024x150, .f32⟩ : BufTy).Contents (Elt F) → (⟨S4x1024x150, .f32⟩ : BufTy).Contents (Elt F)),
    unary main_arg6 main_v172 (broadcastInDim S1x1024x1 ![1] bcast_S1024_S1x1024x1_1 : (⟨S1024, .f32⟩ : BufTy).Contents (Elt F) → (⟨S1x1024x1, .f32⟩ : BufTy).Contents (Elt F)),
    unary main_v172 main_v173 (broadcastInDim S4x1024x150 ![0, 1, 2] bcast_S1x1024x1_S4x1024x150_0_1_2 : (⟨S1x1024x1, .f32⟩ : BufTy).Contents (Elt F) → (⟨S4x1024x150, .f32⟩ : BufTy).Contents (Elt F)),
    binary main_v171 main_v173 main_v174 (addf : (⟨S4x1024x150, .f32⟩ : BufTy).Contents (Elt F) → (⟨S4x1024x150, .f32⟩ : BufTy).Contents (Elt F) → (⟨S4x1024x150, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S4x1024x150, .f32⟩) main_call7_v0) (broadcastInDim S4x1024x150 ![] bcast_S_S4x1024x150),
    TRef.binary (TRef.of (T := ⟨S4x1024x150, .f32⟩) main_v174) (TRef.of (T := ⟨S4x1024x150, .f32⟩) main_call7_v0) (TRef.of (T := ⟨S4x1024x150, .f32⟩) main_v175) maximumf ]

/-- Operations of stage 10. -/
abbrev ops10 : List (HloOp τ sig (Elt F)) :=
  [ nullary main_c_35 (constantI S_ 32 0#32),
    TRef.unary (TRef.of (T := ⟨S_, .i32⟩) main_c_35) (TRef.of (T := ⟨S_, .f32⟩) main_call8_v0) (sitofp .f32),
    TRef.binary (TRef.of (T := ⟨S4x1024x150, .f32⟩) main_v175) (TRef.of (T := ⟨S_, .f32⟩) main_call8_v0) (TRef.of (T := ⟨S4x1024x152, .f32⟩) main_v176) (fun x v => pad S4x1024x152 ![0, 0, 1] ![0, 0, 1] ![0, 0, 0] x v pads_S4x1024x150_S4x1024x152_000_000_110 h_S_),
    unary main_arg7 main_v177 ((extractStridedSlice S1024x1024x1 ![0, 0, 0] · slices_S1024x1024x3_S1024x1024x1_0_0_0) : (⟨S1024x1024x3, .f32⟩ : BufTy).Contents (Elt F) → (⟨S1024x1024x1, .f32⟩ : BufTy).Contents (Elt F)),
    reshape main_v177 main_v178 (rfl : (.f32 : EltTy) = .f32) shapeCasts_S1024x1024x1_S1024x1024,
    unary main_v176 main_v179 ((extractStridedSlice S4x1024x150 ![0, 0, 0] · slices_S4x1024x152_S4x1024x150_0_0_0) : (⟨S4x1024x152, .f32⟩ : BufTy).Contents (Elt F) → (⟨S4x1024x150, .f32⟩ : BufTy).Contents (Elt F)),
    binary main_v179 main_v178 main_v180 ((fun l r => Host.dotGeneral dot_S4x1024x150_S1024x1024_S4x150x1024_1_1_02_0_n_n none l r) : (⟨S4x1024x150, .f32⟩ : BufTy).Contents (Elt F) → (⟨S1024x1024, .f32⟩ : BufTy).Contents (Elt F) → (⟨S4x150x1024, .f32⟩ : BufTy).Contents (Elt F)),
    unary main_v180 main_v181 ((transpose S4x1024x150 [0, 2, 1] · transposes_S4x150x1024_S4x1024x150_0_2_1) : (⟨S4x150x1024, .f32⟩ : BufTy).Contents (Elt F) → (⟨S4x1024x150, .f32⟩ : BufTy).Contents (Elt F)),
    unary main_arg7 main_v182 ((extractStridedSlice S1024x1024x1 ![0, 0, 1] · slices_S1024x1024x3_S1024x1024x1_0_0_1) : (⟨S1024x1024x3, .f32⟩ : BufTy).Contents (Elt F) → (⟨S1024x1024x1, .f32⟩ : BufTy).Contents (Elt F)),
    reshape main_v182 main_v183 (rfl : (.f32 : EltTy) = .f32) shapeCasts_S1024x1024x1_S1024x1024,
    unary main_v176 main_v184 ((extractStridedSlice S4x1024x150 ![0, 0, 1] · slices_S4x1024x152_S4x1024x150_0_0_1) : (⟨S4x1024x152, .f32⟩ : BufTy).Contents (Elt F) → (⟨S4x1024x150, .f32⟩ : BufTy).Contents (Elt F)),
    binary main_v184 main_v183 main_v185 ((fun l r => Host.dotGeneral dot_S4x1024x150_S1024x1024_S4x150x1024_1_1_02_0_n_n none l r) : (⟨S4x1024x150, .f32⟩ : BufTy).Contents (Elt F) → (⟨S1024x1024, .f32⟩ : BufTy).Contents (Elt F) → (⟨S4x150x1024, .f32⟩ : BufTy).Contents (Elt F)),
    unary main_v185 main_v186 ((transpose S4x1024x150 [0, 2, 1] · transposes_S4x150x1024_S4x1024x150_0_2_1) : (⟨S4x150x1024, .f32⟩ : BufTy).Contents (Elt F) → (⟨S4x1024x150, .f32⟩ : BufTy).Contents (Elt F)),
    binary main_v181 main_v186 main_v187 (addf : (⟨S4x1024x150, .f32⟩ : BufTy).Contents (Elt F) → (⟨S4x1024x150, .f32⟩ : BufTy).Contents (Elt F) → (⟨S4x1024x150, .f32⟩ : BufTy).Contents (Elt F)),
    unary main_arg7 main_v188 ((extractStridedSlice S1024x1024x1 ![0, 0, 2] · slices_S1024x1024x3_S1024x1024x1_0_0_2) : (⟨S1024x1024x3, .f32⟩ : BufTy).Contents (Elt F) → (⟨S1024x1024x1, .f32⟩ : BufTy).Contents (Elt F)),
    reshape main_v188 main_v189 (rfl : (.f32 : EltTy) = .f32) shapeCasts_S1024x1024x1_S1024x1024,
    unary main_v176 main_v190 ((extractStridedSlice S4x1024x150 ![0, 0, 2] · slices_S4x1024x152_S4x1024x150_0_0_2) : (⟨S4x1024x152, .f32⟩ : BufTy).Contents (Elt F) → (⟨S4x1024x150, .f32⟩ : BufTy).Contents (Elt F)),
    binary main_v190 main_v189 main_v191 ((fun l r => Host.dotGeneral dot_S4x1024x150_S1024x1024_S4x150x1024_1_1_02_0_n_n none l r) : (⟨S4x1024x150, .f32⟩ : BufTy).Contents (Elt F) → (⟨S1024x1024, .f32⟩ : BufTy).Contents (Elt F) → (⟨S4x150x1024, .f32⟩ : BufTy).Contents (Elt F)),
    unary main_v191 main_v192 ((transpose S4x1024x150 [0, 2, 1] · transposes_S4x150x1024_S4x1024x150_0_2_1) : (⟨S4x150x1024, .f32⟩ : BufTy).Contents (Elt F) → (⟨S4x1024x150, .f32⟩ : BufTy).Contents (Elt F)),
    binary main_v187 main_v192 main_v193 (addf : (⟨S4x1024x150, .f32⟩ : BufTy).Contents (Elt F) → (⟨S4x1024x150, .f32⟩ : BufTy).Contents (Elt F) → (⟨S4x1024x150, .f32⟩ : BufTy).Contents (Elt F)),
    unary main_arg8 main_v194 (broadcastInDim S1x1024x1 ![1] bcast_S1024_S1x1024x1_1 : (⟨S1024, .f32⟩ : BufTy).Contents (Elt F) → (⟨S1x1024x1, .f32⟩ : BufTy).Contents (Elt F)),
    unary main_v194 main_v195 (broadcastInDim S4x1024x150 ![0, 1, 2] bcast_S1x1024x1_S4x1024x150_0_1_2 : (⟨S1x1024x1, .f32⟩ : BufTy).Contents (Elt F) → (⟨S4x1024x150, .f32⟩ : BufTy).Contents (Elt F)),
    binary main_v193 main_v195 main_v196 (addf : (⟨S4x1024x150, .f32⟩ : BufTy).Contents (Elt F) → (⟨S4x1024x150, .f32⟩ : BufTy).Contents (Elt F) → (⟨S4x1024x150, .f32⟩ : BufTy).Contents (Elt F)),
    unary main_v196 main_v197 ((transpose S4x150x1024 [0, 2, 1] · transposes_S4x1024x150_S4x150x1024_0_2_1) : (⟨S4x1024x150, .f32⟩ : BufTy).Contents (Elt F) → (⟨S4x150x1024, .f32⟩ : BufTy).Contents (Elt F)),
    reshape main_v197 main_v198 (rfl : (.f32 : EltTy) = .f32) shapeCasts_S4x150x1024_S600x1024 ]

/-- Operations of stage 11. -/
abbrev ops11a : List (HloOp τ sig (Elt F)) :=
  [ binary main_v198 main_v198 main_v199 (mulf : (⟨S600x1024, .f32⟩ : BufTy).Contents (Elt F) → (⟨S600x1024, .f32⟩ : BufTy).Contents (Elt F) → (⟨S600x1024, .f32⟩ : BufTy).Contents (Elt F)),
    nullary main_cst_36 (constant S_ .f32 0x00000000#32),
    binary main_v199 main_cst_36 main_v200 ((fun x v => Host.reduceAdd x v reducesTo_S600x1024_S600_d1 h_S_) : (⟨S600x1024, .f32⟩ : BufTy).Contents (Elt F) → (⟨S_, .f32⟩ : BufTy).Contents (Elt F) → (⟨S600, .f32⟩ : BufTy).Contents (Elt F)) ]

/-- Operations of stage 11. -/
abbrev ops11b : List (HloOp τ sig (Elt F)) :=
  [ unary main_v200 main_v201 (broadcastInDim S600x1 ![0] bcast_S600_S600x1_0 : (⟨S600, .f32⟩ : BufTy).Contents (Elt F) → (⟨S600x1, .f32⟩ : BufTy).Contents (Elt F)),
    binary main_arg9 main_arg9 main_v202 (mulf : (⟨S6561x1024, .f32⟩ : BufTy).Contents (Elt F) → (⟨S6561x1024, .f32⟩ : BufTy).Contents (Elt F) → (⟨S6561x1024, .f32⟩ : BufTy).Contents (Elt F)),
    nullary main_cst_37 (constant S_ .f32 0x00000000#32),
    binary main_v202 main_cst_37 main_v203 ((fun x v => Host.reduceAdd x v reducesTo_S6561x1024_S6561_d1 h_S_) : (⟨S6561x1024, .f32⟩ : BufTy).Contents (Elt F) → (⟨S_, .f32⟩ : BufTy).Contents (Elt F) → (⟨S6561, .f32⟩ : BufTy).Contents (Elt F)),
    unary main_v203 main_v204 (broadcastInDim S1x6561 ![1] bcast_S6561_S1x6561_1 : (⟨S6561, .f32⟩ : BufTy).Contents (Elt F) → (⟨S1x6561, .f32⟩ : BufTy).Contents (Elt F)),
    unary main_v201 main_v205 (broadcastInDim S600x6561 ![0, 1] bcast_S600x1_S600x6561_0_1 : (⟨S600x1, .f32⟩ : BufTy).Contents (Elt F) → (⟨S600x6561, .f32⟩ : BufTy).Contents (Elt F)),
    unary main_v204 main_v206 (broadcastInDim S600x6561 ![0, 1] bcast_S1x6561_S600x6561_0_1 : (⟨S1x6561, .f32⟩ : BufTy).Contents (Elt F) → (⟨S600x6561, .f32⟩ : BufTy).Contents (Elt F)),
    binary main_v205 main_v206 main_v207 (addf : (⟨S600x6561, .f32⟩ : BufTy).Contents (Elt F) → (⟨S600x6561, .f32⟩ : BufTy).Contents (Elt F) → (⟨S600x6561, .f32⟩ : BufTy).Contents (Elt F)),
    nullary main_cst_38 (constant S_ .f32 0x40000000#32),
    unary main_cst_38 main_v208 (broadcastInDim S600x1024 ![] bcast_S_S600x1024 : (⟨S_, .f32⟩ : BufTy).Contents (Elt F) → (⟨S600x1024, .f32⟩ : BufTy).Contents (Elt F)),
    binary main_v208 main_v198 main_v209 (mulf : (⟨S600x1024, .f32⟩ : BufTy).Contents (Elt F) → (⟨S600x1024, .f32⟩ : BufTy).Contents (Elt F) → (⟨S600x1024, .f32⟩ : BufTy).Contents (Elt F)),
    unary main_arg9 main_v210 ((transpose S1024x6561 [1, 0] · transposes_S6561x1024_S1024x6561_1_0) : (⟨S6561x1024, .f32⟩ : BufTy).Contents (Elt F) → (⟨S1024x6561, .f32⟩ : BufTy).Contents (Elt F)),
    binary main_v209 main_v210 main_v211 ((fun l r => Host.dotGeneral dot_S600x1024_S1024x6561_S600x6561_1_0_0_1_n_n none l r) : (⟨S600x1024, .f32⟩ : BufTy).Contents (Elt F) → (⟨S1024x6561, .f32⟩ : BufTy).Contents (Elt F) → (⟨S600x6561, .f32⟩ : BufTy).Contents (Elt F)),
    binary main_v207 main_v211 main_v212 (subf : (⟨S600x6561, .f32⟩ : BufTy).Contents (Elt F) → (⟨S600x6561, .f32⟩ : BufTy).Contents (Elt F) → (⟨S600x6561, .f32⟩ : BufTy).Contents (Elt F)),
    nullary main_cst_39 (constant S_ .f32 0x2B8CBCCC#32),
    unary main_cst_39 main_v213 (broadcastInDim S600x6561 ![] bcast_S_S600x6561 : (⟨S_, .f32⟩ : BufTy).Contents (Elt F) → (⟨S600x6561, .f32⟩ : BufTy).Contents (Elt F)),
    binary main_v212 main_v213 main_v214 (maximumf : (⟨S600x6561, .f32⟩ : BufTy).Contents (Elt F) → (⟨S600x6561, .f32⟩ : BufTy).Contents (Elt F) → (⟨S600x6561, .f32⟩ : BufTy).Contents (Elt F)),
    unary main_v214 main_v215 (Host.sqrt : (⟨S600x6561, .f32⟩ : BufTy).Contents (Elt F) → (⟨S600x6561, .f32⟩ : BufTy).Contents (Elt F)) ]

/-- Operations of stage 12. -/
abbrev ops12 : List (HloOp τ sig (Elt F)) :=
  [ TRef.nullary (TRef.of (T := ⟨S600x6561, .i32⟩) main_call9_v0) (iotaInDim S600x6561 32 1),
    TRef.nullary (TRef.of (T := ⟨S_, .f32⟩) main_call9_cst) (constant S_ .f32 0x7F800000#32),
    TRef.nullary (TRef.of (T := ⟨S_, .i32⟩) main_call9_c) (constantI S_ 32 0#32),
    TRef.quaternary (TRef.of (T := ⟨S600x6561, .f32⟩) main_v215) (TRef.of (T := ⟨S600x6561, .i32⟩) main_call9_v0) (TRef.of (T := ⟨S_, .f32⟩) main_call9_cst) (TRef.of (T := ⟨S_, .i32⟩) main_call9_c) (TRef.of (T := ⟨S600, .f32⟩) main_call9_v1_0) (leastOf (F := F)),
    TRef.quaternary (TRef.of (T := ⟨S600x6561, .f32⟩) main_v215) (TRef.of (T := ⟨S600x6561, .i32⟩) main_call9_v0) (TRef.of (T := ⟨S_, .f32⟩) main_call9_cst) (TRef.of (T := ⟨S_, .i32⟩) main_call9_c) (TRef.of (T := ⟨S600, .i32⟩) main_v216) (indexOf (F := F)),
    reshape main_v216 main_v217 (rfl : (.i32 : EltTy) = .i32) shapeCasts_S600_S4x150 ]

/-- Operations of stage 13. -/
abbrev ops13 : List (HloOp τ sig (Elt F)) :=
  [ nullary main_c_40 (constantI S_ 32 600#32),
    unary main_c_40 main_v218 (broadcastInDim S4 ![] bcast_S_S4 : (⟨S_, .i32⟩ : BufTy).Contents (Elt F) → (⟨S4, .i32⟩ : BufTy).Contents (Elt F)),
    nullary main_c_41 (constantI S_ 32 4#32),
    TRef.unary (TRef.of (T := ⟨S_, .i32⟩) main_c_41) (TRef.of (T := ⟨S_, .i32⟩) main_call10_v0) id,
    TRef.unary (TRef.of (T := ⟨S_, .i32⟩) main_call10_v0) (TRef.of (T := ⟨S4, .i32⟩) main_call10_v1) (broadcastInDim S4 ![] bcast_S_S4),
    TRef.binary (TRef.of (T := ⟨S4, .i32⟩) main_v218) (TRef.of (T := ⟨S4, .i32⟩) main_call10_v1) (TRef.of (T := ⟨S4, .i32⟩) main_call10_v2) Host.divsi,
    TRef.unary (TRef.of (T := ⟨S4, .i32⟩) main_v218) (TRef.of (T := ⟨S4, .i32⟩) main_call10_v3) signi,
    TRef.unary (TRef.of (T := ⟨S_, .i32⟩) main_call10_v0) (TRef.of (T := ⟨S_, .i32⟩) main_call10_v4) signi,
    TRef.unary (TRef.of (T := ⟨S_, .i32⟩) main_call10_v4) (TRef.of (T := ⟨S4, .i32⟩) main_call10_v5) (broadcastInDim S4 ![] bcast_S_S4),
    TRef.binary (TRef.of (T := ⟨S4, .i32⟩) main_call10_v3) (TRef.of (T := ⟨S4, .i32⟩) main_call10_v5) (TRef.of (T := ⟨S4, .i1⟩) main_call10_v6) (cmpi .ne),
    TRef.unary (TRef.of (T := ⟨S_, .i32⟩) main_call10_v0) (TRef.of (T := ⟨S4, .i32⟩) main_call10_v7) (broadcastInDim S4 ![] bcast_S_S4),
    TRef.binary (TRef.of (T := ⟨S4, .i32⟩) main_v218) (TRef.of (T := ⟨S4, .i32⟩) main_call10_v7) (TRef.of (T := ⟨S4, .i32⟩) main_call10_v8) Host.remsi,
    TRef.nullary (TRef.of (T := ⟨S_, .i32⟩) main_call10_c) (constantI S_ 32 0#32),
    TRef.unary (TRef.of (T := ⟨S_, .i32⟩) main_call10_c) (TRef.of (T := ⟨S4, .i32⟩) main_call10_v9) (broadcastInDim S4 ![] bcast_S_S4),
    TRef.binary (TRef.of (T := ⟨S4, .i32⟩) main_call10_v8) (TRef.of (T := ⟨S4, .i32⟩) main_call10_v9) (TRef.of (T := ⟨S4, .i1⟩) main_call10_v10) (cmpi .ne),
    TRef.binary (TRef.of (T := ⟨S4, .i1⟩) main_call10_v6) (TRef.of (T := ⟨S4, .i1⟩) main_call10_v10) (TRef.of (T := ⟨S4, .i1⟩) main_call10_v11) andi,
    TRef.nullary (TRef.of (T := ⟨S_, .i32⟩) main_call10_c_0) (constantI S_ 32 1#32),
    TRef.unary (TRef.of (T := ⟨S_, .i32⟩) main_call10_c_0) (TRef.of (T := ⟨S4, .i32⟩) main_call10_v12) (broadcastInDim S4 ![] bcast_S_S4),
    TRef.binary (TRef.of (T := ⟨S4, .i32⟩) main_call10_v2) (TRef.of (T := ⟨S4, .i32⟩) main_call10_v12) (TRef.of (T := ⟨S4, .i32⟩) main_call10_v13) subi,
    TRef.ternary (TRef.of (T := ⟨S4, .i1⟩) main_call10_v11) (TRef.of (T := ⟨S4, .i32⟩) main_call10_v13) (TRef.of (T := ⟨S4, .i32⟩) main_call10_v2) (TRef.of (T := ⟨S4, .i32⟩) main_v219) select ]

/-- The operations of part 0 of the program. -/
def part0 : List (HloOp τ sig (Elt F)) :=
  ops0 ++ (ops1a)

/-- The operations of part 1 of the program. -/
def part1 : List (HloOp τ sig (Elt F)) :=
  ops1b ++ (ops2 ++ (ops3 ++ (ops4)))

/-- The operations of part 2 of the program. -/
def part2 : List (HloOp τ sig (Elt F)) :=
  ops5 ++ (ops6 ++ (ops7 ++ (ops8a)))

/-- The operations of part 3 of the program. -/
def part3 : List (HloOp τ sig (Elt F)) :=
  ops8b ++ (ops9 ++ (ops10 ++ (ops11a)))

/-- The operations of part 4 of the program. -/
def part4 : List (HloOp τ sig (Elt F)) :=
  ops11b ++ (ops12 ++ (ops13))

/-- All operations of the program. -/
abbrev ops : List (HloOp τ sig (Elt F)) := part0 ++ (part1 ++ (part2 ++ (part3 ++ part4)))

set_option maxHeartbeats 4000000 in
/-- Part 0 runs its operations. -/
theorem part0_eq (c : Dev nD) : main_part0 (F := F) c = seq part0 := rfl

set_option maxHeartbeats 4000000 in
/-- Part 1 runs its operations. -/
theorem part1_eq (c : Dev nD) : main_part1 (F := F) c = seq part1 := rfl

set_option maxHeartbeats 4000000 in
/-- Part 2 runs its operations. -/
theorem part2_eq (c : Dev nD) : main_part2 (F := F) c = seq part2 := rfl

set_option maxHeartbeats 4000000 in
/-- Part 3 runs its operations. -/
theorem part3_eq (c : Dev nD) : main_part3 (F := F) c = seq part3 := rfl

set_option maxHeartbeats 4000000 in
/-- Part 4 runs its operations. -/
theorem part4_eq (c : Dev nD) : main_part4 (F := F) c = seq part4 := rfl

/-- The program runs its operations. -/
theorem main_eq (c : Dev nD) : main (F := F) c = seq ops := by
  simp only [ops, seq_append, ← part0_eq c, ← part1_eq c, ← part2_eq c, ← part3_eq c, ← part4_eq c]
  rfl

/-- No buffer of the program is scoped. -/
theorem scopedRefs_eq : (Finset.univ.filter fun b : Ref sig .tc => b.isScoped) = ∅ := by decide

/-- No semaphore of the program is scoped. -/
theorem scopedSems_eq : (Finset.univ.filter fun sm : SemLoc sig => sm.isScoped .tc) = ∅ := by decide

/-- The operations of `ops0` touch buffers of the device only. -/
theorem ops0_sub : (ops0 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., unary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub ..⟩

/-- The operations of `ops0` determine their results. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of `ops1a` touch buffers of the device only. -/
theorem ops1a_sub : (ops1a : List (HloOp τ sig (Elt F))).Forall fun op => op.bufs ⊆ tcRefs τ sig :=
  ⟨nullary_bufs_sub .., unary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub ..⟩

/-- The operations of `ops1a` determine their results. -/
theorem ops1a_fresh : (ops1a : List (HloOp τ sig (Elt F))).Forall fun op => op.fresh = ∅ :=
  ⟨rfl, rfl, rfl, rfl, rfl, rfl, rfl, rfl, rfl, rfl, rfl, rfl, rfl, rfl, rfl, rfl, rfl⟩

/-- The operations of `ops1b` touch buffers of the device only. -/
theorem ops1b_sub : (ops1b : List (HloOp τ sig (Elt F))).Forall fun op => op.bufs ⊆ tcRefs τ sig :=
  ⟨unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub ..⟩

/-- The operations of `ops1b` determine their results. -/
theorem ops1b_fresh : (ops1b : List (HloOp τ sig (Elt F))).Forall fun op => op.fresh = ∅ :=
  ⟨rfl, rfl, rfl, rfl, rfl, rfl, rfl, rfl, rfl, rfl, rfl, rfl, rfl, rfl⟩

/-- The operations of `ops2` touch buffers of the device only. -/
theorem ops2_sub : (ops2 : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩

/-- The operations of `ops2` determine their results. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

/-- The operations of `ops3` touch buffers of the device only. -/
theorem ops3_sub : (ops3 : List (HloOp τ sig (Elt F))).Forall fun op => op.bufs ⊆ tcRefs τ sig :=
  ⟨binary_bufs_sub .., unary_bufs_sub .., unary_bufs_sub .., binary_bufs_sub ..⟩

/-- The operations of `ops3` determine their results. -/
theorem ops3_fresh : (ops3 : List (HloOp τ sig (Elt F))).Forall fun op => op.fresh = ∅ :=
  ⟨rfl, rfl, rfl, rfl⟩

/-- The operations of `ops4` touch buffers of the device only. -/
theorem ops4_sub : (ops4 : List (HloOp τ sig (Elt F))).Forall fun op => op.bufs ⊆ tcRefs τ sig :=
  ⟨unary_bufs_sub .., unary_bufs_sub .., unary_bufs_sub .., unary_bufs_sub .., binary_bufs_sub .., nullary_bufs_sub .., binary_bufs_sub .., unary_bufs_sub .., unary_bufs_sub .., unary_bufs_sub .., unary_bufs_sub .., binary_bufs_sub .., nullary_bufs_sub .., binary_bufs_sub .., unary_bufs_sub .., binary_bufs_sub .., binary_bufs_sub .., binary_bufs_sub .., unary_bufs_sub .., binary_bufs_sub .., unary_bufs_sub .., unary_bufs_sub ..⟩

/-- The operations of `ops4` determine their results. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- The operations of `ops5` touch buffers of the device only. -/
theorem ops5_sub : (ops5 : List (HloOp τ sig (Elt F))).Forall fun op => op.bufs ⊆ tcRefs τ sig :=
  ⟨binary_bufs_sub .., unary_bufs_sub .., nullary_bufs_sub .., unary_bufs_sub .., unary_bufs_sub .., binary_bufs_sub .., unary_bufs_sub .., nullary_bufs_sub .., unary_bufs_sub .., unary_bufs_sub .., unary_bufs_sub .., binary_bufs_sub ..⟩

/-- The operations of `ops5` determine their results. -/
theorem ops5_fresh : (ops5 : List (HloOp τ sig (Elt F))).Forall fun op => op.fresh = ∅ :=
  ⟨rfl, rfl, rfl, rfl, rfl, rfl, rfl, rfl, rfl, rfl, rfl, rfl⟩

/-- The operations of `ops6` touch buffers of the device only. -/
theorem ops6_sub : (ops6 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub ..⟩

/-- The operations of `ops6` determine their results. -/
theorem ops6_fresh : (ops6 : List (HloOp τ sig (Elt F))).Forall fun op => op.fresh = ∅ :=
  ⟨rfl, rfl, rfl, rfl, rfl, rfl, rfl, rfl, rfl, rfl, rfl, rfl, rfl, rfl⟩

/-- The operations of `ops7` touch buffers of the device only. -/
theorem ops7_sub : (ops7 : List (HloOp τ sig (Elt F))).Forall fun op => op.bufs ⊆ tcRefs τ sig :=
  ⟨nullary_bufs_sub .., unary_bufs_sub .., binary_bufs_sub .., unary_bufs_sub .., reshape_bufs_sub .., unary_bufs_sub .., binary_bufs_sub .., unary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., unary_bufs_sub .., binary_bufs_sub .., nullary_bufs_sub .., unary_bufs_sub .., binary_bufs_sub ..⟩

/-- The operations of `ops7` determine their results. -/
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- The operations of `ops8a` touch buffers of the device only. -/
theorem ops8a_sub : (ops8a : List (HloOp τ sig (Elt F))).Forall fun op => op.bufs ⊆ tcRefs τ sig :=
  ⟨nullary_bufs_sub .., unary_bufs_sub .., binary_bufs_sub .., unary_bufs_sub .., reshape_bufs_sub .., unary_bufs_sub .., binary_bufs_sub .., unary_bufs_sub .., unary_bufs_sub .., reshape_bufs_sub .., unary_bufs_sub .., binary_bufs_sub .., unary_bufs_sub .., binary_bufs_sub ..⟩

/-- The operations of `ops8a` determine their results. -/
theorem ops8a_fresh : (ops8a : List (HloOp τ sig (Elt F))).Forall fun op => op.fresh = ∅ :=
  ⟨rfl, rfl, rfl, rfl, rfl, rfl, rfl, rfl, rfl, rfl, rfl, rfl, rfl, rfl⟩

/-- The operations of `ops8b` touch buffers of the device only. -/
theorem ops8b_sub : (ops8b : List (HloOp τ sig (Elt F))).Forall fun op => op.bufs ⊆ tcRefs τ sig :=
  ⟨unary_bufs_sub .., reshape_bufs_sub .., unary_bufs_sub .., binary_bufs_sub .., unary_bufs_sub .., binary_bufs_sub .., unary_bufs_sub .., unary_bufs_sub .., binary_bufs_sub .., nullary_bufs_sub .., unary_bufs_sub .., binary_bufs_sub ..⟩

/-- The operations of `ops8b` determine their results. -/
theorem ops8b_fresh : (ops8b : List (HloOp τ sig (Elt F))).Forall fun op => op.fresh = ∅ :=
  ⟨rfl, rfl, rfl, rfl, rfl, rfl, rfl, rfl, rfl, rfl, rfl, rfl⟩

/-- The operations of `ops9` touch buffers of the device only. -/
theorem ops9_sub : (ops9 : List (HloOp τ sig (Elt F))).Forall fun op => op.bufs ⊆ tcRefs τ sig :=
  ⟨nullary_bufs_sub .., unary_bufs_sub .., binary_bufs_sub .., unary_bufs_sub .., reshape_bufs_sub .., unary_bufs_sub .., binary_bufs_sub .., unary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., unary_bufs_sub .., binary_bufs_sub .., nullary_bufs_sub .., unary_bufs_sub .., binary_bufs_sub ..⟩

/-- The operations of `ops9` determine their results. -/
theorem ops9_fresh : (ops9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- The operations of `ops10` touch buffers of the device only. -/
theorem ops10_sub : (ops10 : List (HloOp τ sig (Elt F))).Forall fun op => op.bufs ⊆ tcRefs τ sig :=
  ⟨nullary_bufs_sub .., unary_bufs_sub .., binary_bufs_sub .., unary_bufs_sub .., reshape_bufs_sub .., unary_bufs_sub .., binary_bufs_sub .., unary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., unary_bufs_sub .., binary_bufs_sub .., unary_bufs_sub .., reshape_bufs_sub ..⟩

/-- The operations of `ops10` determine their results. -/
theorem ops10_fresh : (ops10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- The operations of `ops11a` touch buffers of the device only. -/
theorem ops11a_sub : (ops11a : List (HloOp τ sig (Elt F))).Forall fun op => op.bufs ⊆ tcRefs τ sig :=
  ⟨binary_bufs_sub .., nullary_bufs_sub .., binary_bufs_sub ..⟩

/-- The operations of `ops11a` determine their results. -/
theorem ops11a_fresh : (ops11a : List (HloOp τ sig (Elt F))).Forall fun op => op.fresh = ∅ :=
  ⟨rfl, rfl, rfl⟩

/-- The operations of `ops11b` touch buffers of the device only. -/
theorem ops11b_sub : (ops11b : List (HloOp τ sig (Elt F))).Forall fun op => op.bufs ⊆ tcRefs τ sig :=
  ⟨unary_bufs_sub .., binary_bufs_sub .., nullary_bufs_sub .., binary_bufs_sub .., unary_bufs_sub .., unary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub .., unary_bufs_sub ..⟩

/-- The operations of `ops11b` determine their results. -/
theorem ops11b_fresh : (ops11b : List (HloOp τ sig (Elt F))).Forall fun op => op.fresh = ∅ :=
  ⟨rfl, rfl, rfl, rfl, rfl, rfl, rfl, rfl, rfl, rfl, rfl, rfl, rfl, rfl, rfl, rfl, rfl, rfl⟩

/-- The operations of `ops12` touch buffers of the device only. -/
theorem ops12_sub : (ops12 : List (HloOp τ sig (Elt F))).Forall fun op => op.bufs ⊆ tcRefs τ sig :=
  ⟨nullary_bufs_sub .., nullary_bufs_sub .., nullary_bufs_sub .., quaternary_bufs_sub .., quaternary_bufs_sub .., reshape_bufs_sub ..⟩

/-- The operations of `ops12` determine their results. -/
theorem ops12_fresh : (ops12 : List (HloOp τ sig (Elt F))).Forall fun op => op.fresh = ∅ :=
  ⟨rfl, rfl, rfl, rfl, rfl, rfl⟩

/-- The operations of `ops13` touch buffers of the device only. -/
theorem ops13_sub : (ops13 : List (HloOp τ sig (Elt F))).Forall fun op => op.bufs ⊆ tcRefs τ sig :=
  ⟨nullary_bufs_sub .., unary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

/-- The operations of `ops13` determine their results. -/
theorem ops13_fresh : (ops13 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- The same of all operations. -/
theorem ops_sub : (ops : List (HloOp τ sig (Elt F))).Forall fun op => op.bufs ⊆ tcRefs τ sig :=
  List.forall_iff_forall_mem.mpr fun op h => by
    simp only [ops, part0, part1, part2, part3, part4, List.mem_append, or_assoc] at h
    rcases h with h | h | h | h | h | h | h | h | h | h | h | h | h | h | h | h | h
    exacts [List.forall_iff_forall_mem.mp ops0_sub op h,
      List.forall_iff_forall_mem.mp ops1a_sub op h,
      List.forall_iff_forall_mem.mp ops1b_sub op h,
      List.forall_iff_forall_mem.mp ops2_sub op h,
      List.forall_iff_forall_mem.mp ops3_sub op h,
      List.forall_iff_forall_mem.mp ops4_sub op h,
      List.forall_iff_forall_mem.mp ops5_sub op h,
      List.forall_iff_forall_mem.mp ops6_sub op h,
      List.forall_iff_forall_mem.mp ops7_sub op h,
      List.forall_iff_forall_mem.mp ops8a_sub op h,
      List.forall_iff_forall_mem.mp ops8b_sub op h,
      List.forall_iff_forall_mem.mp ops9_sub op h,
      List.forall_iff_forall_mem.mp ops10_sub op h,
      List.forall_iff_forall_mem.mp ops11a_sub op h,
      List.forall_iff_forall_mem.mp ops11b_sub op h,
      List.forall_iff_forall_mem.mp ops12_sub op h,
      List.forall_iff_forall_mem.mp ops13_sub op h]

/-- The same of all operations. -/
theorem ops_fresh : (ops : List (HloOp τ sig (Elt F))).Forall fun op => op.fresh = ∅ :=
  List.forall_iff_forall_mem.mpr fun op h => by
    simp only [ops, part0, part1, part2, part3, part4, List.mem_append, or_assoc] at h
    rcases h with h | h | h | h | h | h | h | h | h | h | h | h | h | h | h | h | h
    exacts [List.forall_iff_forall_mem.mp ops0_fresh op h,
      List.forall_iff_forall_mem.mp ops1a_fresh op h,
      List.forall_iff_forall_mem.mp ops1b_fresh op h,
      List.forall_iff_forall_mem.mp ops2_fresh op h,
      List.forall_iff_forall_mem.mp ops3_fresh op h,
      List.forall_iff_forall_mem.mp ops4_fresh op h,
      List.forall_iff_forall_mem.mp ops5_fresh op h,
      List.forall_iff_forall_mem.mp ops6_fresh op h,
      List.forall_iff_forall_mem.mp ops7_fresh op h,
      List.forall_iff_forall_mem.mp ops8a_fresh op h,
      List.forall_iff_forall_mem.mp ops8b_fresh op h,
      List.forall_iff_forall_mem.mp ops9_fresh op h,
      List.forall_iff_forall_mem.mp ops10_fresh op h,
      List.forall_iff_forall_mem.mp ops11a_fresh op h,
      List.forall_iff_forall_mem.mp ops11b_fresh op h,
      List.forall_iff_forall_mem.mp ops12_fresh op h,
      List.forall_iff_forall_mem.mp ops13_fresh op h]

end Cert.RefRun

end
-- ==== Proof.Stages.lean ====
/- The stages of the reference program over the extended reals: each is the composed term of a run of its
   consecutive operations, as a function of the arrays the run reads. -/
module

public import proofs.«01_k».proof.Proof.Gen.ReferenceIdeal
public import Idealize.ShloMosaic.PureOps.Ideal

@[expose] public section

noncomputable section

namespace Cert.Stage

open Cert.ReferenceIdeal Cert.ReferenceIdeal.Gen Idealize.ShloMosaic Idealize.ShloMosaic.TcCoe

/-- The audio mirrored once on its left: samples 200, …, 1 before the samples themselves. -/
def mirrorLeft (x : FVec Ideal S4x96000 .f32) : FVec Ideal S4x96200 .f32 :=
  concatenate S4x96200 1 [⟨S4x200, Host.reverse [1] (extractStridedSlice S4x200 ![0, 1] x slices_S4x96000_S4x200_0_1)⟩,
    ⟨S4x96000, x⟩] concatenates_S4x200_S4x96000_S4x96200_d1

/-- The audio padded by 200 mirrored samples on either side. -/
def reflectPad (x : FVec Ideal S4x96000 .f32) : FVec Ideal S4x96400 .f32 :=
  concatenate S4x96400 1 [⟨S4x96200, mirrorLeft x⟩,
    ⟨S4x200, Host.reverse [1] (extractStridedSlice S4x200 ![0, 95999] (mirrorLeft x) slices_S4x96200_S4x200_0_95999)⟩]
    concatenates_S4x96200_S4x200_S4x96400_d1

/-- The table of cosines from its parts: the words of one turn, read at n k mod 400, and the words listed by row and column. -/
def cosWave (turn : FVec Ideal S400 .f32) (words : FVec Ideal S1534 .f32) (rows : IVec S1534 32) (rowNeg : IVec S1534 1) (cols : IVec S1534 32) (colNeg : IVec S1534 1) : FVec Ideal S400x201 .f32 :=
  let v0 : IVec S400 32 := iotaInDim S400 32 0
  let v1 : IVec S400x1 32 := broadcastInDim S400x1 ![0] bcast_S400_S400x1_0 v0
  let v2 : IVec S201 32 := iotaInDim S201 32 0
  let v3 : IVec S1x201 32 := broadcastInDim S1x201 ![1] bcast_S201_S1x201_1 v2
  let v4 : IVec S400x201 32 := broadcastInDim S400x201 ![0, 1] bcast_S400x1_S400x201_0_1 v1
  let v5 : IVec S400x201 32 := broadcastInDim S400x201 ![0, 1] bcast_S1x201_S400x201_0_1 v3
  let v6 : IVec S400x201 32 := muli v4 v5
  let c_10 : IVec S_ 32 := constantI S_ 32 400#32
  let v7 : IVec S400x201 32 := broadcastInDim S400x201 ![] bcast_S_S400x201 c_10
  let v8 : IVec S400x201 32 := Host.remsi v6 v7
  let c_11 : IVec S_ 32 := constantI S_ 32 0#32
  let v9 : IVec S400x201 32 := broadcastInDim S400x201 ![] bcast_S_S400x201 c_11
  let v10 : IVec S400x201 1 := cmpi .slt v8 v9
  let c_12 : IVec S_ 32 := constantI S_ 32 400#32
  let v11 : IVec S400x201 32 := broadcastInDim S400x201 ![] bcast_S_S400x201 c_12
  let v12 : IVec S400x201 32 := addi v8 v11
  let v13 : IVec S400x201 32 := select v10 v12 v8
  let v14 : IVec S400x201x1 32 := broadcastInDim S400x201x1 ![0, 1] bcast_S400x201_S400x201x1_0_1 v13
  let v15 : FVec Ideal S400x201 .f32 := (fun x i => Host.gather gather_S400_S400x201x1_S400x201_n_0_n_n_0_2_1 x i) turn v14
  let c_13 : IVec S_ 32 := constantI S_ 32 400#32
  let v16 : IVec S1534 32 := broadcastInDim S1534 ![] bcast_S_S1534 c_13
  let v17 : IVec S1534 32 := addi rows v16
  let v18 : IVec S1534 32 := select rowNeg v17 rows
  let c_14 : IVec S_ 32 := constantI S_ 32 201#32
  let v19 : IVec S1534 32 := broadcastInDim S1534 ![] bcast_S_S1534 c_14
  let v20 : IVec S1534 32 := addi cols v19
  let v21 : IVec S1534 32 := select colNeg v20 cols
  let v22 : IVec S1534x1 32 := broadcastInDim S1534x1 ![0] bcast_S1534_S1534x1_0 v18
  let v23 : IVec S1534x1 32 := broadcastInDim S1534x1 ![0] bcast_S1534_S1534x1_0 v21
  let v24 : IVec S1534x2 32 := (fun a b => concatenate S1534x2 1 [⟨S1534x1, a⟩, ⟨S1534x1, b⟩] concatenates_S1534x1_S1534x1_S1534x2_d1) v22 v23
  (fun x i u => Host.scatter scatter_S400x201_S1534x2_S1534_n_01_01_1 (fun _ b => b) x i u) v15 v24 words

/-- The table of sines from its parts. -/
def sinWave (turn : FVec Ideal S400 .f32) (words : FVec Ideal S2388 .f32) (rows : IVec S2388 32) (rowNeg : IVec S2388 1) (cols : IVec S2388 32) (colNeg : IVec S2388 1) : FVec Ideal S400x201 .f32 :=
  let v26 : IVec S400 32 := iotaInDim S400 32 0
  let v27 : IVec S400x1 32 := broadcastInDim S400x1 ![0] bcast_S400_S400x1_0 v26
  let v28 : IVec S201 32 := iotaInDim S201 32 0
  let v29 : IVec S1x201 32 := broadcastInDim S1x201 ![1] bcast_S201_S1x201_1 v28
  let v30 : IVec S400x201 32 := broadcastInDim S400x201 ![0, 1] bcast_S400x1_S400x201_0_1 v27
  let v31 : IVec S400x201 32 := broadcastInDim S400x201 ![0, 1] bcast_S1x201_S400x201_0_1 v29
  let v32 : IVec S400x201 32 := muli v30 v31
  let c_15 : IVec S_ 32 := constantI S_ 32 400#32
  let v33 : IVec S400x201 32 := broadcastInDim S400x201 ![] bcast_S_S400x201 c_15
  let v34 : IVec S400x201 32 := Host.remsi v32 v33
  let c_16 : IVec S_ 32 := constantI S_ 32 0#32
  let v35 : IVec S400x201 32 := broadcastInDim S400x201 ![] bcast_S_S400x201 c_16
  let v36 : IVec S400x201 1 := cmpi .slt v34 v35
  let c_17 : IVec S_ 32 := constantI S_ 32 400#32
  let v37 : IVec S400x201 32 := broadcastInDim S400x201 ![] bcast_S_S400x201 c_17
  let v38 : IVec S400x201 32 := addi v34 v37
  let v39 : IVec S400x201 32 := select v36 v38 v34
  let v40 : IVec S400x201x1 32 := broadcastInDim S400x201x1 ![0, 1] bcast_S400x201_S400x201x1_0_1 v39
  let v41 : FVec Ideal S400x201 .f32 := (fun x i => Host.gather gather_S400_S400x201x1_S400x201_n_0_n_n_0_2_1 x i) turn v40
  let c_18 : IVec S_ 32 := constantI S_ 32 400#32
  let v42 : IVec S2388 32 := broadcastInDim S2388 ![] bcast_S_S2388 c_18
  let v43 : IVec S2388 32 := addi rows v42
  let v44 : IVec S2388 32 := select rowNeg v43 rows
  let c_19 : IVec S_ 32 := constantI S_ 32 201#32
  let v45 : IVec S2388 32 := broadcastInDim S2388 ![] bcast_S_S2388 c_19
  let v46 : IVec S2388 32 := addi cols v45
  let v47 : IVec S2388 32 := select colNeg v46 cols
  let v48 : IVec S2388x1 32 := broadcastInDim S2388x1 ![0] bcast_S2388_S2388x1_0 v44
  let v49 : IVec S2388x1 32 := broadcastInDim S2388x1 ![0] bcast_S2388_S2388x1_0 v47
  let v50 : IVec S2388x2 32 := (fun a b => concatenate S2388x2 1 [⟨S2388x1, a⟩, ⟨S2388x1, b⟩] concatenates_S2388x1_S2388x1_S2388x2_d1) v48 v49
  (fun x i u => Host.scatter scatter_S400x201_S2388x2_S2388_n_01_01_1 (fun _ b => b) x i u) v41 v50 words

/-- Where sample n of frame f lies in the padded audio: 160 f + n. -/
def frameIdx  : IVec S601x400x1 32 :=
  let v53 : IVec S601 32 := iotaInDim S601 32 0
  let v54 : IVec S601x1 32 := broadcastInDim S601x1 ![0] bcast_S601_S601x1_0 v53
  let c_21 : IVec S_ 32 := constantI S_ 32 160#32
  let v55 : IVec S601x1 32 := broadcastInDim S601x1 ![] bcast_S_S601x1 c_21
  let v56 : IVec S601x1 32 := muli v54 v55
  let v57 : IVec S400 32 := iotaInDim S400 32 0
  let v58 : IVec S1x400 32 := broadcastInDim S1x400 ![1] bcast_S400_S1x400_1 v57
  let v59 : IVec S601x400 32 := broadcastInDim S601x400 ![0, 1] bcast_S601x1_S601x400_0_1 v56
  let v60 : IVec S601x400 32 := broadcastInDim S601x400 ![0, 1] bcast_S1x400_S601x400_0_1 v58
  let v61 : IVec S601x400 32 := addi v59 v60
  let c_22 : IVec S_ 32 := constantI S_ 32 0#32
  let v62 : IVec S601x400 32 := broadcastInDim S601x400 ![] bcast_S_S601x400 c_22
  let v63 : IVec S601x400 1 := cmpi .slt v61 v62
  let c_23 : IVec S_ 32 := constantI S_ 32 96400#32
  let v64 : IVec S601x400 32 := broadcastInDim S601x400 ![] bcast_S_S601x400 c_23
  let v65 : IVec S601x400 32 := addi v61 v64
  let v66 : IVec S601x400 32 := select v63 v65 v61
  broadcastInDim S601x400x1 ![0, 1] bcast_S601x400_S601x400x1_0_1 v66

/-- The frames of the padded audio, each sample times the window. -/
def frames (xp : FVec Ideal S4x96400 .f32) (at_ : IVec S601x400x1 32) (win : FVec Ideal S400 .f32) : FVec Ideal S4x601x400 .f32 :=
  let v68 : FVec Ideal S4x601x400 .f32 := (fun x i => Host.gather gather_S4x96400_S601x400x1_S4x601x400_0_1_n_n_1_2_41 x i) xp at_
  let v69 : FVec Ideal S1x1x400 .f32 := broadcastInDim S1x1x400 ![2] bcast_S400_S1x1x400_2 win
  let v70 : FVec Ideal S4x601x400 .f32 := broadcastInDim S4x601x400 ![0, 1, 2] bcast_S1x1x400_S4x601x400_0_1_2 v69
  mulf v68 v70

/-- The power spectrum of the first 600 frames: frequency k, frame t. -/
def power (fr : FVec Ideal S4x601x400 .f32) (C : FVec Ideal S400x201 .f32) (S : FVec Ideal S400x201 .f32) : FVec Ideal S4x201x600 .f32 :=
  let v72 : FVec Ideal S4x601x400x1 .f32 := broadcastInDim S4x601x400x1 ![0, 1, 2] bcast_S4x601x400_S4x601x400x1_0_1_2 fr
  let v73 : FVec Ideal S1x1x400x201 .f32 := broadcastInDim S1x1x400x201 ![2, 3] bcast_S400x201_S1x1x400x201_2_3 C
  let v74 : FVec Ideal S4x601x400x201 .f32 := broadcastInDim S4x601x400x201 ![0, 1, 2, 3] bcast_S4x601x400x1_S4x601x400x201_0_1_2_3 v72
  let v75 : FVec Ideal S4x601x400x201 .f32 := broadcastInDim S4x601x400x201 ![0, 1, 2, 3] bcast_S1x1x400x201_S4x601x400x201_0_1_2_3 v73
  let v76 : FVec Ideal S4x601x400x201 .f32 := mulf v74 v75
  let cst_24 : FVec Ideal S_ .f32 := constant S_ .f32 0x00000000#32
  let v77 : FVec Ideal S4x601x201 .f32 := (fun x v => Host.reduceAdd x v reducesTo_S4x601x400x201_S4x601x201_d2 h_S_) v76 cst_24
  let v78 : FVec Ideal S4x601x400x1 .f32 := broadcastInDim S4x601x400x1 ![0, 1, 2] bcast_S4x601x400_S4x601x400x1_0_1_2 fr
  let v79 : FVec Ideal S1x1x400x201 .f32 := broadcastInDim S1x1x400x201 ![2, 3] bcast_S400x201_S1x1x400x201_2_3 S
  let v80 : FVec Ideal S4x601x400x201 .f32 := broadcastInDim S4x601x400x201 ![0, 1, 2, 3] bcast_S4x601x400x1_S4x601x400x201_0_1_2_3 v78
  let v81 : FVec Ideal S4x601x400x201 .f32 := broadcastInDim S4x601x400x201 ![0, 1, 2, 3] bcast_S1x1x400x201_S4x601x400x201_0_1_2_3 v79
  let v82 : FVec Ideal S4x601x400x201 .f32 := mulf v80 v81
  let cst_25 : FVec Ideal S_ .f32 := constant S_ .f32 0x00000000#32
  let v83 : FVec Ideal S4x601x201 .f32 := (fun x v => Host.reduceAdd x v reducesTo_S4x601x400x201_S4x601x201_d2 h_S_) v82 cst_25
  let v84 : FVec Ideal S4x601x201 .f32 := Host.negf v83
  let v85 : FVec Ideal S4x601x201 .f32 := mulf v77 v77
  let v86 : FVec Ideal S4x601x201 .f32 := mulf v84 v84
  let v87 : FVec Ideal S4x601x201 .f32 := addf v85 v86
  let v88 : FVec Ideal S4x601x201 .f32 := Host.sqrt v87
  let v89 : FVec Ideal S4x601x201 .f32 := mulf v88 v88
  let v90 : FVec Ideal S4x201x601 .f32 := (transpose S4x201x601 [0, 2, 1] · transposes_S4x601x201_S4x201x601_0_2_1) v89
  (extractStridedSlice S4x201x600 ![0, 0, 0] · slices_S4x201x601_S4x201x600_0_0_0) v90

/-- The decimal logarithm of the clipped mel spectrum. -/
def logMel (p : FVec Ideal S4x201x600 .f32) (mf : FVec Ideal S128x201 .f32) : FVec Ideal S4x128x600 .f32 :=
  let v92 : FVec Ideal S4x600x128 .f32 := (fun l r => Host.dotGeneral dot_S4x201x600_S128x201_S4x600x128_1_1_02_0_n_n none l r) p mf
  let v93 : FVec Ideal S4x128x600 .f32 := (transpose S4x128x600 [0, 2, 1] · transposes_S4x600x128_S4x128x600_0_2_1) v92
  let cst_26 : FVec Ideal S_ .f32 := constant S_ .f32 0x2EDBE6FF#32
  let v94 : FVec Ideal S4x128x600 .f32 := maximumf (broadcastInDim S4x128x600 ![] bcast_S_S4x128x600 (id cst_26)) v93
  let v95 : FVec Ideal S4x128x600 .f32 := Host.log v94
  let cst_27 : FVec Ideal S_ .f32 := constant S_ .f32 0x41200000#32
  let v96 : FVec Ideal S_ .f32 := Host.log cst_27
  let v97 : FVec Ideal S_ .f32 := id v96
  let v98 : FVec Ideal S4x128x600 .f32 := broadcastInDim S4x128x600 ![] bcast_S_S4x128x600 v97
  Host.divf v95 v98

/-- The log mel spectrum cut at 8 below its maximum over the clip, shifted by 4 and divided by 4. -/
def normMel (l : FVec Ideal S4x128x600 .f32) : FVec Ideal S4x128x600 .f32 :=
  let cst_28 : FVec Ideal S_ .f32 := constant S_ .f32 0xFF800000#32
  let v100 : FVec Ideal S4 .f32 := (fun x v => Host.reduce FloatOps.maximumf x v reducesTo_S4x128x600_S4_d1_2 h_S_) l cst_28
  let v101 : FVec Ideal S4x1x1 .f32 := broadcastInDim S4x1x1 ![0] bcast_S4_S4x1x1_0 v100
  let cst_29 : FVec Ideal S_ .f32 := constant S_ .f32 0x41000000#32
  let v102 : FVec Ideal S4x1x1 .f32 := broadcastInDim S4x1x1 ![] bcast_S_S4x1x1 cst_29
  let v103 : FVec Ideal S4x1x1 .f32 := subf v101 v102
  let v104 : FVec Ideal S4x128x600 .f32 := broadcastInDim S4x128x600 ![0, 1, 2] bcast_S4x1x1_S4x128x600_0_1_2 v103
  let v105 : FVec Ideal S4x128x600 .f32 := maximumf l v104
  let cst_30 : FVec Ideal S_ .f32 := constant S_ .f32 0x40800000#32
  let v106 : FVec Ideal S4x128x600 .f32 := broadcastInDim S4x128x600 ![] bcast_S_S4x128x600 cst_30
  let v107 : FVec Ideal S4x128x600 .f32 := addf v105 v106
  let cst_31 : FVec Ideal S_ .f32 := constant S_ .f32 0x40800000#32
  let v108 : FVec Ideal S4x128x600 .f32 := broadcastInDim S4x128x600 ![] bcast_S_S4x128x600 cst_31
  Host.divf v107 v108

/-- The first convolution (stride 1) and its rectifier. -/
def layer1 (h : FVec Ideal S4x128x600 .f32) (w : FVec Ideal S512x128x3 .f32) (b : FVec Ideal S512 .f32) : FVec Ideal S4x512x600 .f32 :=
  let c_32 : IVec S_ 32 := constantI S_ 32 0#32
  let v110 : FVec Ideal S4x128x602 .f32 := pad S4x128x602 ![0, 0, 1] ![0, 0, 1] ![0, 0, 0] h (sitofp (F := Ideal) .f32 c_32) pads_S4x128x600_S4x128x602_000_000_110 h_S_
  let v111 : FVec Ideal S512x128x1 .f32 := (extractStridedSlice S512x128x1 ![0, 0, 0] · slices_S512x128x3_S512x128x1_0_0_0) w
  let v112 : FVec Ideal S512x128 .f32 := shapeCast S512x128 v111 shapeCasts_S512x128x1_S512x128
  let v113 : FVec Ideal S4x128x600 .f32 := (extractStridedSlice S4x128x600 ![0, 0, 0] · slices_S4x128x602_S4x128x600_0_0_0) v110
  let v114 : FVec Ideal S4x600x512 .f32 := (fun l r => Host.dotGeneral dot_S4x128x600_S512x128_S4x600x512_1_1_02_0_n_n none l r) v113 v112
  let v115 : FVec Ideal S4x512x600 .f32 := (transpose S4x512x600 [0, 2, 1] · transposes_S4x600x512_S4x512x600_0_2_1) v114
  let v116 : FVec Ideal S512x128x1 .f32 := (extractStridedSlice S512x128x1 ![0, 0, 1] · slices_S512x128x3_S512x128x1_0_0_1) w
  let v117 : FVec Ideal S512x128 .f32 := shapeCast S512x128 v116 shapeCasts_S512x128x1_S512x128
  let v118 : FVec Ideal S4x128x600 .f32 := (extractStridedSlice S4x128x600 ![0, 0, 1] · slices_S4x128x602_S4x128x600_0_0_1) v110
  let v119 : FVec Ideal S4x600x512 .f32 := (fun l r => Host.dotGeneral dot_S4x128x600_S512x128_S4x600x512_1_1_02_0_n_n none l r) v118 v117
  let v120 : FVec Ideal S4x512x600 .f32 := (transpose S4x512x600 [0, 2, 1] · transposes_S4x600x512_S4x512x600_0_2_1) v119
  let v121 : FVec Ideal S4x512x600 .f32 := addf v115 v120
  let v122 : FVec Ideal S512x128x1 .f32 := (extractStridedSlice S512x128x1 ![0, 0, 2] · slices_S512x128x3_S512x128x1_0_0_2) w
  let v123 : FVec Ideal S512x128 .f32 := shapeCast S512x128 v122 shapeCasts_S512x128x1_S512x128
  let v124 : FVec Ideal S4x128x600 .f32 := (extractStridedSlice S4x128x600 ![0, 0, 2] · slices_S4x128x602_S4x128x600_0_0_2) v110
  let v125 : FVec Ideal S4x600x512 .f32 := (fun l r => Host.dotGeneral dot_S4x128x600_S512x128_S4x600x512_1_1_02_0_n_n none l r) v124 v123
  let v126 : FVec Ideal S4x512x600 .f32 := (transpose S4x512x600 [0, 2, 1] · transposes_S4x600x512_S4x512x600_0_2_1) v125
  let v127 : FVec Ideal S4x512x600 .f32 := addf v121 v126
  let v128 : FVec Ideal S1x512x1 .f32 := broadcastInDim S1x512x1 ![1] bcast_S512_S1x512x1_1 b
  let v129 : FVec Ideal S4x512x600 .f32 := broadcastInDim S4x512x600 ![0, 1, 2] bcast_S1x512x1_S4x512x600_0_1_2 v128
  let v130 : FVec Ideal S4x512x600 .f32 := addf v127 v129
  maximumf v130 (broadcastInDim S4x512x600 ![] bcast_S_S4x512x600 (constant (F := Ideal) S_ .f32 0x00000000#32))

/-- The second convolution (stride 2) and its rectifier. -/
def layer2 (h : FVec Ideal S4x512x600 .f32) (w : FVec Ideal S512x512x3 .f32) (b : FVec Ideal S512 .f32) : FVec Ideal S4x512x300 .f32 :=
  let c_33 : IVec S_ 32 := constantI S_ 32 0#32
  let v132 : FVec Ideal S4x512x602 .f32 := pad S4x512x602 ![0, 0, 1] ![0, 0, 1] ![0, 0, 0] h (sitofp (F := Ideal) .f32 c_33) pads_S4x512x600_S4x512x602_000_000_110 h_S_
  let v133 : FVec Ideal S512x512x1 .f32 := (extractStridedSlice S512x512x1 ![0, 0, 0] · slices_S512x512x3_S512x512x1_0_0_0) w
  let v134 : FVec Ideal S512x512 .f32 := shapeCast S512x512 v133 shapeCasts_S512x512x1_S512x512
  let v135 : FVec Ideal S4x512x300 .f32 := (Host.slice S4x512x300 ![0, 0, 0] ![1, 1, 2] · slicesBy_S4x512x602_S4x512x300_0s1_0s1_0s2) v132
  let v136 : FVec Ideal S4x300x512 .f32 := (fun l r => Host.dotGeneral dot_S4x512x300_S512x512_S4x300x512_1_1_02_0_n_n none l r) v135 v134
  let v137 : FVec Ideal S4x512x300 .f32 := (transpose S4x512x300 [0, 2, 1] · transposes_S4x300x512_S4x512x300_0_2_1) v136
  let v138 : FVec Ideal S512x512x1 .f32 := (extractStridedSlice S512x512x1 ![0, 0, 1] · slices_S512x512x3_S512x512x1_0_0_1) w
  let v139 : FVec Ideal S512x512 .f32 := shapeCast S512x512 v138 shapeCasts_S512x512x1_S512x512
  let v140 : FVec Ideal S4x512x300 .f32 := (Host.slice S4x512x300 ![0, 0, 1] ![1, 1, 2] · slicesBy_S4x512x602_S4x512x300_0s1_0s1_1s2) v132
  let v141 : FVec Ideal S4x300x512 .f32 := (fun l r => Host.dotGeneral dot_S4x512x300_S512x512_S4x300x512_1_1_02_0_n_n none l r) v140 v139
  let v142 : FVec Ideal S4x512x300 .f32 := (transpose S4x512x300 [0, 2, 1] · transposes_S4x300x512_S4x512x300_0_2_1) v141
  let v143 : FVec Ideal S4x512x300 .f32 := addf v137 v142
  let v144 : FVec Ideal S512x512x1 .f32 := (extractStridedSlice S512x512x1 ![0, 0, 2] · slices_S512x512x3_S512x512x1_0_0_2) w
  let v145 : FVec Ideal S512x512 .f32 := shapeCast S512x512 v144 shapeCasts_S512x512x1_S512x512
  let v146 : FVec Ideal S4x512x300 .f32 := (Host.slice S4x512x300 ![0, 0, 2] ![1, 1, 2] · slicesBy_S4x512x602_S4x512x300_0s1_0s1_2s2) v132
  let v147 : FVec Ideal S4x300x512 .f32 := (fun l r => Host.dotGeneral dot_S4x512x300_S512x512_S4x300x512_1_1_02_0_n_n none l r) v146 v145
  let v148 : FVec Ideal S4x512x300 .f32 := (transpose S4x512x300 [0, 2, 1] · transposes_S4x300x512_S4x512x300_0_2_1) v147
  let v149 : FVec Ideal S4x512x300 .f32 := addf v143 v148
  let v150 : FVec Ideal S1x512x1 .f32 := broadcastInDim S1x512x1 ![1] bcast_S512_S1x512x1_1 b
  let v151 : FVec Ideal S4x512x300 .f32 := broadcastInDim S4x512x300 ![0, 1, 2] bcast_S1x512x1_S4x512x300_0_1_2 v150
  let v152 : FVec Ideal S4x512x300 .f32 := addf v149 v151
  maximumf v152 (broadcastInDim S4x512x300 ![] bcast_S_S4x512x300 (constant (F := Ideal) S_ .f32 0x00000000#32))

/-- The third convolution (stride 2) and its rectifier. -/
def layer3 (h : FVec Ideal S4x512x300 .f32) (w : FVec Ideal S1024x512x3 .f32) (b : FVec Ideal S1024 .f32) : FVec Ideal S4x1024x150 .f32 :=
  let c_34 : IVec S_ 32 := constantI S_ 32 0#32
  let v154 : FVec Ideal S4x512x302 .f32 := pad S4x512x302 ![0, 0, 1] ![0, 0, 1] ![0, 0, 0] h (sitofp (F := Ideal) .f32 c_34) pads_S4x512x300_S4x512x302_000_000_110 h_S_
  let v155 : FVec Ideal S1024x512x1 .f32 := (extractStridedSlice S1024x512x1 ![0, 0, 0] · slices_S1024x512x3_S1024x512x1_0_0_0) w
  let v156 : FVec Ideal S1024x512 .f32 := shapeCast S1024x512 v155 shapeCasts_S1024x512x1_S1024x512
  let v157 : FVec Ideal S4x512x150 .f32 := (Host.slice S4x512x150 ![0, 0, 0] ![1, 1, 2] · slicesBy_S4x512x302_S4x512x150_0s1_0s1_0s2) v154
  let v158 : FVec Ideal S4x150x1024 .f32 := (fun l r => Host.dotGeneral dot_S4x512x150_S1024x512_S4x150x1024_1_1_02_0_n_n none l r) v157 v156
  let v159 : FVec Ideal S4x1024x150 .f32 := (transpose S4x1024x150 [0, 2, 1] · transposes_S4x150x1024_S4x1024x150_0_2_1) v158
  let v160 : FVec Ideal S1024x512x1 .f32 := (extractStridedSlice S1024x512x1 ![0, 0, 1] · slices_S1024x512x3_S1024x512x1_0_0_1) w
  let v161 : FVec Ideal S1024x512 .f32 := shapeCast S1024x512 v160 shapeCasts_S1024x512x1_S1024x512
  let v162 : FVec Ideal S4x512x150 .f32 := (Host.slice S4x512x150 ![0, 0, 1] ![1, 1, 2] · slicesBy_S4x512x302_S4x512x150_0s1_0s1_1s2) v154
  let v163 : FVec Ideal S4x150x1024 .f32 := (fun l r => Host.dotGeneral dot_S4x512x150_S1024x512_S4x150x1024_1_1_02_0_n_n none l r) v162 v161
  let v164 : FVec Ideal S4x1024x150 .f32 := (transpose S4x1024x150 [0, 2, 1] · transposes_S4x150x1024_S4x1024x150_0_2_1) v163
  let v165 : FVec Ideal S4x1024x150 .f32 := addf v159 v164
  let v166 : FVec Ideal S1024x512x1 .f32 := (extractStridedSlice S1024x512x1 ![0, 0, 2] · slices_S1024x512x3_S1024x512x1_0_0_2) w
  let v167 : FVec Ideal S1024x512 .f32 := shapeCast S1024x512 v166 shapeCasts_S1024x512x1_S1024x512
  let v168 : FVec Ideal S4x512x150 .f32 := (Host.slice S4x512x150 ![0, 0, 2] ![1, 1, 2] · slicesBy_S4x512x302_S4x512x150_0s1_0s1_2s2) v154
  let v169 : FVec Ideal S4x150x1024 .f32 := (fun l r => Host.dotGeneral dot_S4x512x150_S1024x512_S4x150x1024_1_1_02_0_n_n none l r) v168 v167
  let v170 : FVec Ideal S4x1024x150 .f32 := (transpose S4x1024x150 [0, 2, 1] · transposes_S4x150x1024_S4x1024x150_0_2_1) v169
  let v171 : FVec Ideal S4x1024x150 .f32 := addf v165 v170
  let v172 : FVec Ideal S1x1024x1 .f32 := broadcastInDim S1x1024x1 ![1] bcast_S1024_S1x1024x1_1 b
  let v173 : FVec Ideal S4x1024x150 .f32 := broadcastInDim S4x1024x150 ![0, 1, 2] bcast_S1x1024x1_S4x1024x150_0_1_2 v172
  let v174 : FVec Ideal S4x1024x150 .f32 := addf v171 v173
  maximumf v174 (broadcastInDim S4x1024x150 ![] bcast_S_S4x1024x150 (constant (F := Ideal) S_ .f32 0x00000000#32))

/-- The fourth convolution (stride 1), its columns laid out as the 600 rows to encode. -/
def layer4 (h : FVec Ideal S4x1024x150 .f32) (w : FVec Ideal S1024x1024x3 .f32) (b : FVec Ideal S1024 .f32) : FVec Ideal S600x1024 .f32 :=
  let c_35 : IVec S_ 32 := constantI S_ 32 0#32
  let v176 : FVec Ideal S4x1024x152 .f32 := pad S4x1024x152 ![0, 0, 1] ![0, 0, 1] ![0, 0, 0] h (sitofp (F := Ideal) .f32 c_35) pads_S4x1024x150_S4x1024x152_000_000_110 h_S_
  let v177 : FVec Ideal S1024x1024x1 .f32 := (extractStridedSlice S1024x1024x1 ![0, 0, 0] · slices_S1024x1024x3_S1024x1024x1_0_0_0) w
  let v178 : FVec Ideal S1024x1024 .f32 := shapeCast S1024x1024 v177 shapeCasts_S1024x1024x1_S1024x1024
  let v179 : FVec Ideal S4x1024x150 .f32 := (extractStridedSlice S4x1024x150 ![0, 0, 0] · slices_S4x1024x152_S4x1024x150_0_0_0) v176
  let v180 : FVec Ideal S4x150x1024 .f32 := (fun l r => Host.dotGeneral dot_S4x1024x150_S1024x1024_S4x150x1024_1_1_02_0_n_n none l r) v179 v178
  let v181 : FVec Ideal S4x1024x150 .f32 := (transpose S4x1024x150 [0, 2, 1] · transposes_S4x150x1024_S4x1024x150_0_2_1) v180
  let v182 : FVec Ideal S1024x1024x1 .f32 := (extractStridedSlice S1024x1024x1 ![0, 0, 1] · slices_S1024x1024x3_S1024x1024x1_0_0_1) w
  let v183 : FVec Ideal S1024x1024 .f32 := shapeCast S1024x1024 v182 shapeCasts_S1024x1024x1_S1024x1024
  let v184 : FVec Ideal S4x1024x150 .f32 := (extractStridedSlice S4x1024x150 ![0, 0, 1] · slices_S4x1024x152_S4x1024x150_0_0_1) v176
  let v185 : FVec Ideal S4x150x1024 .f32 := (fun l r => Host.dotGeneral dot_S4x1024x150_S1024x1024_S4x150x1024_1_1_02_0_n_n none l r) v184 v183
  let v186 : FVec Ideal S4x1024x150 .f32 := (transpose S4x1024x150 [0, 2, 1] · transposes_S4x150x1024_S4x1024x150_0_2_1) v185
  let v187 : FVec Ideal S4x1024x150 .f32 := addf v181 v186
  let v188 : FVec Ideal S1024x1024x1 .f32 := (extractStridedSlice S1024x1024x1 ![0, 0, 2] · slices_S1024x1024x3_S1024x1024x1_0_0_2) w
  let v189 : FVec Ideal S1024x1024 .f32 := shapeCast S1024x1024 v188 shapeCasts_S1024x1024x1_S1024x1024
  let v190 : FVec Ideal S4x1024x150 .f32 := (extractStridedSlice S4x1024x150 ![0, 0, 2] · slices_S4x1024x152_S4x1024x150_0_0_2) v176
  let v191 : FVec Ideal S4x150x1024 .f32 := (fun l r => Host.dotGeneral dot_S4x1024x150_S1024x1024_S4x150x1024_1_1_02_0_n_n none l r) v190 v189
  let v192 : FVec Ideal S4x1024x150 .f32 := (transpose S4x1024x150 [0, 2, 1] · transposes_S4x150x1024_S4x1024x150_0_2_1) v191
  let v193 : FVec Ideal S4x1024x150 .f32 := addf v187 v192
  let v194 : FVec Ideal S1x1024x1 .f32 := broadcastInDim S1x1024x1 ![1] bcast_S1024_S1x1024x1_1 b
  let v195 : FVec Ideal S4x1024x150 .f32 := broadcastInDim S4x1024x150 ![0, 1, 2] bcast_S1x1024x1_S4x1024x150_0_1_2 v194
  let v196 : FVec Ideal S4x1024x150 .f32 := addf v193 v195
  let v197 : FVec Ideal S4x150x1024 .f32 := (transpose S4x150x1024 [0, 2, 1] · transposes_S4x1024x150_S4x150x1024_0_2_1) v196
  shapeCast S600x1024 v197 shapeCasts_S4x150x1024_S600x1024

/-- The distance of each row to each row of the codebook. -/
def dist (e : FVec Ideal S600x1024 .f32) (cb : FVec Ideal S6561x1024 .f32) : FVec Ideal S600x6561 .f32 :=
  let v199 : FVec Ideal S600x1024 .f32 := mulf e e
  let cst_36 : FVec Ideal S_ .f32 := constant S_ .f32 0x00000000#32
  let v200 : FVec Ideal S600 .f32 := (fun x v => Host.reduceAdd x v reducesTo_S600x1024_S600_d1 h_S_) v199 cst_36
  let v201 : FVec Ideal S600x1 .f32 := broadcastInDim S600x1 ![0] bcast_S600_S600x1_0 v200
  let v202 : FVec Ideal S6561x1024 .f32 := mulf cb cb
  let cst_37 : FVec Ideal S_ .f32 := constant S_ .f32 0x00000000#32
  let v203 : FVec Ideal S6561 .f32 := (fun x v => Host.reduceAdd x v reducesTo_S6561x1024_S6561_d1 h_S_) v202 cst_37
  let v204 : FVec Ideal S1x6561 .f32 := broadcastInDim S1x6561 ![1] bcast_S6561_S1x6561_1 v203
  let v205 : FVec Ideal S600x6561 .f32 := broadcastInDim S600x6561 ![0, 1] bcast_S600x1_S600x6561_0_1 v201
  let v206 : FVec Ideal S600x6561 .f32 := broadcastInDim S600x6561 ![0, 1] bcast_S1x6561_S600x6561_0_1 v204
  let v207 : FVec Ideal S600x6561 .f32 := addf v205 v206
  let cst_38 : FVec Ideal S_ .f32 := constant S_ .f32 0x40000000#32
  let v208 : FVec Ideal S600x1024 .f32 := broadcastInDim S600x1024 ![] bcast_S_S600x1024 cst_38
  let v209 : FVec Ideal S600x1024 .f32 := mulf v208 e
  let v210 : FVec Ideal S1024x6561 .f32 := (transpose S1024x6561 [1, 0] · transposes_S6561x1024_S1024x6561_1_0) cb
  let v211 : FVec Ideal S600x6561 .f32 := (fun l r => Host.dotGeneral dot_S600x1024_S1024x6561_S600x6561_1_0_0_1_n_n none l r) v209 v210
  let v212 : FVec Ideal S600x6561 .f32 := subf v207 v211
  let cst_39 : FVec Ideal S_ .f32 := constant S_ .f32 0x2B8CBCCC#32
  let v213 : FVec Ideal S600x6561 .f32 := broadcastInDim S600x6561 ![] bcast_S_S600x6561 cst_39
  let v214 : FVec Ideal S600x6561 .f32 := maximumf v212 v213
  Host.sqrt v214

/-- The cosines of one turn. -/
def turnCos : FVec Ideal S400 .f32 := fun i => FloatOps.ofBits (F := Ideal) .f32 (lit0 (S400.rowMajor i))

/-- The listed words of the table of cosines. -/
def wordsCos : FVec Ideal S1534 .f32 := fun i => FloatOps.ofBits (F := Ideal) .f32 (lit1 (S1534.rowMajor i))

/-- Their rows. -/
def rowsCos : IVec S1534 32 := fun i => lit2 (S1534.rowMajor i)

/-- Their columns. -/
def colsCos : IVec S1534 32 := fun i => lit3 (S1534.rowMajor i)

/-- The sines of one turn. -/
def turnSin : FVec Ideal S400 .f32 := fun i => FloatOps.ofBits (F := Ideal) .f32 (lit4 (S400.rowMajor i))

/-- The listed words of the table of sines. -/
def wordsSin : FVec Ideal S2388 .f32 := fun i => FloatOps.ofBits (F := Ideal) .f32 (lit5 (S2388.rowMajor i))

/-- Their rows. -/
def rowsSin : IVec S2388 32 := fun i => lit6 (S2388.rowMajor i)

/-- Their columns. -/
def colsSin : IVec S2388 32 := fun i => lit7 (S2388.rowMajor i)

/-- The table of cosines the reference multiplies by. -/
def cosTable : FVec Ideal S400x201 .f32 :=
  cosWave turnCos wordsCos rowsCos (constantI S1534 1 0#1) colsCos (constantI S1534 1 0#1)

/-- The table of sines the reference multiplies by. -/
def sinTable : FVec Ideal S400x201 .f32 :=
  sinWave turnSin wordsSin rowsSin (constantI S2388 1 0#1) colsSin (constantI S2388 1 0#1)

/-- The nearest code of each row, laid out by clip: the first index of the least distance. -/
def nearest (d : FVec Ideal S600x6561 .f32) : IVec S4x150 32 :=
  shapeCast S4x150 (fun j => (Host.argReduce reducer_argmin_f32_i32 d (iotaInDim S600x6561 32 1)
    (constant (F := Ideal) S_ .f32 0x7F800000#32) (constantI S_ 32 0#32) reducesTo_S600x6561_S600_d1 h_S_ j).2) shapeCasts_S600_S4x150

/-- The token lengths: the floor of 600 / 4, in each of the four places. -/
def lens : IVec S4 32 :=
  let v166 : IVec S4 32 := broadcastInDim S4 ![] bcast_S_S4 (constantI S_ 32 600#32)
  let v0 : IVec S_ 32 := id (constantI S_ 32 4#32)
  let v2 : IVec S4 32 := Host.divsi v166 (broadcastInDim S4 ![] bcast_S_S4 v0)
  select (andi (cmpi .ne (signi v166) (broadcastInDim S4 ![] bcast_S_S4 (signi v0)))
      (cmpi .ne (Host.remsi v166 (broadcastInDim S4 ![] bcast_S_S4 v0)) (broadcastInDim S4 ![] bcast_S_S4 (constantI S_ 32 0#32))))
    (subi v2 (broadcastInDim S4 ![] bcast_S_S4 (constantI S_ 32 1#32))) v2

end Cert.Stage

end
-- ==== Proof.RefSteps.lean ====
/- What each stage of the reference program leaves in its buffers: the stages of `Stages`. -/
module

public import proofs.«01_k».proof.Proof.RefOps
public import proofs.«01_k».proof.Proof.Stages
public import Idealize.ShloMosaic.Lib.StableHlo.Run
public import Idealize.ShloMosaic.Lib.Pipeline.Frame

@[expose] public section

set_option maxRecDepth 8192
set_option Elab.async false

noncomputable section

namespace Cert.RefRun

open Cert.Stage Cert.ReferenceIdeal Cert.ReferenceIdeal.Gen Idealize.ShloMosaic Idealize.ShloMosaic.TcCoe Idealize.SL.Sem Idealize.ShloMosaic.StableHlo

/-- The buffers of the device. -/
abbrev Val := Valuation τ sig (Elt Ideal)

/-- A buffer of the device. -/
abbrev d (r : Ref sig .tc) : DevRef τ sig := Proc.devRef .tc r

/-- The buffers `ops0` writes. -/
abbrev ops0W : List (Ref sig .tc) := [main_cst, main_cst_0, main_c, main_c_1, main_c_2, main_c_3, main_cst_4, main_cst_5, main_c_6, main_c_7, main_c_8, main_c_9, main_v0, main_v1, main_v2, main_v3, main_v4, main_v5, main_v6, main_c_10, main_v7, main_v8, main_c_11, main_v9, main_v10, main_c_12, main_v11, main_v12, main_v13, main_v14, main_v15, main_c_13, main_v16, main_v17, main_v18, main_c_14, main_v19, main_v20, main_v21, main_v22, main_v23, main_v24, main_v25]

/-- `ops0` writes those buffers only. -/
theorem ops0_writes : (ops0 : List (HloOp τ sig (Elt Ideal))).Forall fun op => op.writes ⊆ (ops0W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))

/-- The buffers `ops1a` writes. -/
abbrev ops1aW : List (Ref sig .tc) := [main_v26, main_v27, main_v28, main_v29, main_v30, main_v31, main_v32, main_c_15, main_v33, main_v34, main_c_16, main_v35, main_v36, main_c_17, main_v37, main_v38, main_v39]

/-- `ops1a` writes those buffers only. -/
theorem ops1a_writes : (ops1a : List (HloOp τ sig (Elt Ideal))).Forall fun op => op.writes ⊆ (ops1aW.map (Proc.devRef (τ := τ) .tc)).toFinset := by
  simp only [List.Forall]
  refine ⟨?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))

/-- The buffers `ops1b` writes. -/
abbrev ops1bW : List (Ref sig .tc) := [main_v40, main_v41, main_c_18, main_v42, main_v43, main_v44, main_c_19, main_v45, main_v46, main_v47, main_v48, main_v49, main_v50, main_v51]

/-- `ops1b` writes those buffers only. -/
theorem ops1b_writes : (ops1b : List (HloOp τ sig (Elt Ideal))).Forall fun op => op.writes ⊆ (ops1bW.map (Proc.devRef (τ := τ) .tc)).toFinset := by
  simp only [List.Forall]
  refine ⟨?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))

/-- The buffers `ops2` writes. -/
abbrev ops2W : List (Ref sig .tc) := [main_c_20, main_call0_v0, main_call0_v1, main_call0_v2, main_call0_v3, main_call0_v4, main_call0_v5, main_call0_v6, main_v52, main_v53, main_v54, main_c_21, main_v55, main_v56, main_v57, main_v58, main_v59, main_v60, main_v61, main_c_22, main_v62, main_v63, main_c_23, main_v64, main_v65, main_v66, main_v67]

/-- `ops2` writes those buffers only. -/
theorem ops2_writes : (ops2 : List (HloOp τ sig (Elt Ideal))).Forall fun op => op.writes ⊆ (ops2W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))

/-- The buffers `ops3` writes. -/
abbrev ops3W : List (Ref sig .tc) := [main_v68, main_v69, main_v70, main_v71]

/-- `ops3` writes those buffers only. -/
theorem ops3_writes : (ops3 : List (HloOp τ sig (Elt Ideal))).Forall fun op => op.writes ⊆ (ops3W.map (Proc.devRef (τ := τ) .tc)).toFinset := by
  simp only [List.Forall]
  refine ⟨?_, ?_, ?_, ?_⟩ <;>
    (simp only [nullary_writes, unary_writes, binary_writes, ternary_writes, quaternary_writes, reshape_writes, Finset.singleton_subset_iff, List.mem_toFinset]; exact List.mem_map_of_mem (by decide))

/-- The buffers `ops4` writes. -/
abbrev ops4W : List (Ref sig .tc) := [main_v72, main_v73, main_v74, main_v75, main_v76, main_cst_24, main_v77, main_v78, main_v79, main_v80, main_v81, main_v82, main_cst_25, main_v83, main_v84, main_v85, main_v86, main_v87, main_v88, main_v89, main_v90, main_v91]

/-- `ops4` writes those buffers only. -/
theorem ops4_writes : (ops4 : List (HloOp τ sig (Elt Ideal))).Forall fun op => op.writes ⊆ (ops4W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))

/-- The buffers `ops5` writes. -/
abbrev ops5W : List (Ref sig .tc) := [main_v92, main_v93, main_cst_26, main_call1_v0, main_call1_v1, main_v94, main_v95, main_cst_27, main_v96, main_v97, main_v98, main_v99]

/-- `ops5` writes those buffers only. -/
theorem ops5_writes : (ops5 : List (HloOp τ sig (Elt Ideal))).Forall fun op => op.writes ⊆ (ops5W.map (Proc.devRef (τ := τ) .tc)).toFinset := by
  simp only [List.Forall]
  refine ⟨?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))

/-- The buffers `ops6` writes. -/
abbrev ops6W : List (Ref sig .tc) := [main_cst_28, main_v100, main_v101, main_cst_29, main_v102, main_v103, main_v104, main_v105, main_cst_30, main_v106, main_v107, main_cst_31, main_v108, main_v109]

/-- `ops6` writes those buffers only. -/
theorem ops6_writes : (ops6 : List (HloOp τ sig (Elt Ideal))).Forall fun op => op.writes ⊆ (ops6W.map (Proc.devRef (τ := τ) .tc)).toFinset := by
  simp only [List.Forall]
  refine ⟨?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))

/-- The buffers `ops7` writes. -/
abbrev ops7W : List (Ref sig .tc) := [main_c_32, main_call2_v0, main_v110, main_v111, main_v112, main_v113, main_v114, main_v115, main_v116, main_v117, main_v118, main_v119, main_v120, main_v121, main_v122, main_v123, main_v124, main_v125, main_v126, main_v127, main_v128, main_v129, main_v130, main_call3_cst, main_call3_v0, main_v131]

/-- `ops7` writes those buffers only. -/
theorem ops7_writes : (ops7 : List (HloOp τ sig (Elt Ideal))).Forall fun op => op.writes ⊆ (ops7W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))

/-- The buffers `ops8a` writes. -/
abbrev ops8aW : List (Ref sig .tc) := [main_c_33, main_call4_v0, main_v132, main_v133, main_v134, main_v135, main_v136, main_v137, main_v138, main_v139, main_v140, main_v141, main_v142, main_v143]

/-- `ops8a` writes those buffers only. -/
theorem ops8a_writes : (ops8a : List (HloOp τ sig (Elt Ideal))).Forall fun op => op.writes ⊆ (ops8aW.map (Proc.devRef (τ := τ) .tc)).toFinset := by
  simp only [List.Forall]
  refine ⟨?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))

/-- The buffers `ops8b` writes. -/
abbrev ops8bW : List (Ref sig .tc) := [main_v144, main_v145, main_v146, main_v147, main_v148, main_v149, main_v150, main_v151, main_v152, main_call5_cst, main_call5_v0, main_v153]

/-- `ops8b` writes those buffers only. -/
theorem ops8b_writes : (ops8b : List (HloOp τ sig (Elt Ideal))).Forall fun op => op.writes ⊆ (ops8bW.map (Proc.devRef (τ := τ) .tc)).toFinset := by
  simp only [List.Forall]
  refine ⟨?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))

/-- The buffers `ops9` writes. -/
abbrev ops9W : List (Ref sig .tc) := [main_c_34, main_call6_v0, main_v154, main_v155, main_v156, main_v157, main_v158, main_v159, main_v160, main_v161, main_v162, main_v163, main_v164, main_v165, main_v166, main_v167, main_v168, main_v169, main_v170, main_v171, main_v172, main_v173, main_v174, main_call7_cst, main_call7_v0, main_v175]

/-- `ops9` writes those buffers only. -/
theorem ops9_writes : (ops9 : List (HloOp τ sig (Elt Ideal))).Forall fun op => op.writes ⊆ (ops9W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))

/-- The buffers `ops10` writes. -/
abbrev ops10W : List (Ref sig .tc) := [main_c_35, main_call8_v0, main_v176, main_v177, main_v178, main_v179, main_v180, main_v181, main_v182, main_v183, main_v184, main_v185, main_v186, main_v187, main_v188, main_v189, main_v190, main_v191, main_v192, main_v193, main_v194, main_v195, main_v196, main_v197, main_v198]

/-- `ops10` writes those buffers only. -/
theorem ops10_writes : (ops10 : List (HloOp τ sig (Elt Ideal))).Forall fun op => op.writes ⊆ (ops10W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))

/-- The buffers `ops11a` writes. -/
abbrev ops11aW : List (Ref sig .tc) := [main_v199, main_cst_36, main_v200]

/-- `ops11a` writes those buffers only. -/
theorem ops11a_writes : (ops11a : List (HloOp τ sig (Elt Ideal))).Forall fun op => op.writes ⊆ (ops11aW.map (Proc.devRef (τ := τ) .tc)).toFinset := by
  simp only [List.Forall]
  refine ⟨?_, ?_, ?_⟩ <;>
    (simp only [nullary_writes, unary_writes, binary_writes, ternary_writes, quaternary_writes, reshape_writes, Finset.singleton_subset_iff, List.mem_toFinset]; exact List.mem_map_of_mem (by decide))

/-- The buffers `ops11b` writes. -/
abbrev ops11bW : List (Ref sig .tc) := [main_v201, main_v202, main_cst_37, main_v203, main_v204, main_v205, main_v206, main_v207, main_cst_38, main_v208, main_v209, main_v210, main_v211, main_v212, main_cst_39, main_v213, main_v214, main_v215]

/-- `ops11b` writes those buffers only. -/
theorem ops11b_writes : (ops11b : List (HloOp τ sig (Elt Ideal))).Forall fun op => op.writes ⊆ (ops11bW.map (Proc.devRef (τ := τ) .tc)).toFinset := by
  simp only [List.Forall]
  refine ⟨?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))

/-- The buffers `ops12` writes. -/
abbrev ops12W : List (Ref sig .tc) := [main_call9_v0, main_call9_cst, main_call9_c, main_call9_v1_0, main_v216, main_v217]

/-- `ops12` writes those buffers only. -/
theorem ops12_writes : (ops12 : List (HloOp τ sig (Elt Ideal))).Forall fun op => op.writes ⊆ (ops12W.map (Proc.devRef (τ := τ) .tc)).toFinset := by
  simp only [List.Forall]
  refine ⟨?_, ?_, ?_, ?_, ?_, ?_⟩ <;>
    (simp only [nullary_writes, unary_writes, binary_writes, ternary_writes, quaternary_writes, reshape_writes, Finset.singleton_subset_iff, List.mem_toFinset]; exact List.mem_map_of_mem (by decide))

/-- The buffers `ops13` writes. -/
abbrev ops13W : List (Ref sig .tc) := [main_c_40, main_v218, main_c_41, main_call10_v0, main_call10_v1, main_call10_v2, main_call10_v3, main_call10_v4, main_call10_v5, main_call10_v6, main_call10_v7, main_call10_v8, main_call10_c, main_call10_v9, main_call10_v10, main_call10_v11, main_call10_c_0, main_call10_v12, main_call10_v13, main_v219]

/-- `ops13` writes those buffers only. -/
theorem ops13_writes : (ops13 : List (HloOp τ sig (Elt Ideal))).Forall fun op => op.writes ⊆ (ops13W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]; exact List.mem_map_of_mem (by decide))

/-- The buffers after stage 0. -/
def step0 (V : Val) : Val := after ops0 V

/-- Stage 0 keeps the buffers it does not write. -/
theorem keep0 (V : Val) (r : Ref sig .tc) (h : r ∉ ops0W) : step0 V (d r) = V (d r) :=
  after_of_writes_sub ops0 _ ops0_writes h

/-- The buffers after stage 1. -/
def step1 (V : Val) : Val := after ops1b (after ops1a V)

/-- Stage 1 keeps the buffers it does not write. -/
theorem keep1 (V : Val) (r : Ref sig .tc) (h : r ∉ ops1aW ++ ops1bW) : step1 V (d r) = V (d r) :=
  (after_of_writes_sub ops1b _ ops1b_writes fun q => h (List.mem_append_right _ q)).trans
    (after_of_writes_sub ops1a _ ops1a_writes fun q => h (List.mem_append_left _ q))

/-- The buffers after stage 2. -/
def step2 (V : Val) : Val := after ops2 V

/-- Stage 2 keeps the buffers it does not write. -/
theorem keep2 (V : Val) (r : Ref sig .tc) (h : r ∉ ops2W) : step2 V (d r) = V (d r) :=
  after_of_writes_sub ops2 _ ops2_writes h

/-- The buffers after stage 3. -/
def step3 (V : Val) : Val := after ops3 V

/-- Stage 3 keeps the buffers it does not write. -/
theorem keep3 (V : Val) (r : Ref sig .tc) (h : r ∉ ops3W) : step3 V (d r) = V (d r) :=
  after_of_writes_sub ops3 _ ops3_writes h

/-- The buffers after stage 4. -/
def step4 (V : Val) : Val := after ops4 V

/-- Stage 4 keeps the buffers it does not write. -/
theorem keep4 (V : Val) (r : Ref sig .tc) (h : r ∉ ops4W) : step4 V (d r) = V (d r) :=
  after_of_writes_sub ops4 _ ops4_writes h

/-- The buffers after stage 5. -/
def step5 (V : Val) : Val := after ops5 V

/-- Stage 5 keeps the buffers it does not write. -/
theorem keep5 (V : Val) (r : Ref sig .tc) (h : r ∉ ops5W) : step5 V (d r) = V (d r) :=
  after_of_writes_sub ops5 _ ops5_writes h

/-- The buffers after stage 6. -/
def step6 (V : Val) : Val := after ops6 V

/-- Stage 6 keeps the buffers it does not write. -/
theorem keep6 (V : Val) (r : Ref sig .tc) (h : r ∉ ops6W) : step6 V (d r) = V (d r) :=
  after_of_writes_sub ops6 _ ops6_writes h

/-- The buffers after stage 7. -/
def step7 (V : Val) : Val := after ops7 V

/-- Stage 7 keeps the buffers it does not write. -/
theorem keep7 (V : Val) (r : Ref sig .tc) (h : r ∉ ops7W) : step7 V (d r) = V (d r) :=
  after_of_writes_sub ops7 _ ops7_writes h

/-- The buffers after stage 8. -/
def step8 (V : Val) : Val := after ops8b (after ops8a V)

/-- Stage 8 keeps the buffers it does not write. -/
theorem keep8 (V : Val) (r : Ref sig .tc) (h : r ∉ ops8aW ++ ops8bW) : step8 V (d r) = V (d r) :=
  (after_of_writes_sub ops8b _ ops8b_writes fun q => h (List.mem_append_right _ q)).trans
    (after_of_writes_sub ops8a _ ops8a_writes fun q => h (List.mem_append_left _ q))

/-- The buffers after stage 9. -/
def step9 (V : Val) : Val := after ops9 V

/-- Stage 9 keeps the buffers it does not write. -/
theorem keep9 (V : Val) (r : Ref sig .tc) (h : r ∉ ops9W) : step9 V (d r) = V (d r) :=
  after_of_writes_sub ops9 _ ops9_writes h

/-- The buffers after stage 10. -/
def step10 (V : Val) : Val := after ops10 V

/-- Stage 10 keeps the buffers it does not write. -/
theorem keep10 (V : Val) (r : Ref sig .tc) (h : r ∉ ops10W) : step10 V (d r) = V (d r) :=
  after_of_writes_sub ops10 _ ops10_writes h

/-- The buffers after stage 11. -/
def step11 (V : Val) : Val := after ops11b (after ops11a V)

/-- Stage 11 keeps the buffers it does not write. -/
theorem keep11 (V : Val) (r : Ref sig .tc) (h : r ∉ ops11aW ++ ops11bW) : step11 V (d r) = V (d r) :=
  (after_of_writes_sub ops11b _ ops11b_writes fun q => h (List.mem_append_right _ q)).trans
    (after_of_writes_sub ops11a _ ops11a_writes fun q => h (List.mem_append_left _ q))

/-- The buffers after stage 12. -/
def step12 (V : Val) : Val := after ops12 V

/-- Stage 12 keeps the buffers it does not write. -/
theorem keep12 (V : Val) (r : Ref sig .tc) (h : r ∉ ops12W) : step12 V (d r) = V (d r) :=
  after_of_writes_sub ops12 _ ops12_writes h

/-- The buffers after stage 13. -/
def step13 (V : Val) : Val := after ops13 V

/-- Stage 13 keeps the buffers it does not write. -/
theorem keep13 (V : Val) (r : Ref sig .tc) (h : r ∉ ops13W) : step13 V (d r) = V (d r) :=
  after_of_writes_sub ops13 _ ops13_writes h

set_option maxHeartbeats 2000000 in
/-- What stage 0 leaves in `main_v25`. -/
theorem step0_main_v25 (V : Val) : step0 V (d main_v25) = cosTable := by
  unfold step0 d
  simp only [ops0, TRef.toBuf, TRef.ofBuf, cast_eq]
  after_results_simp
  all_goals rfl

set_option maxHeartbeats 2000000 in
/-- What stage 0 leaves in `main_cst_4`. -/
theorem step0_main_cst_4 (V : Val) : step0 V (d main_cst_4) = turnSin := by
  unfold step0 d
  simp only [ops0, TRef.toBuf, TRef.ofBuf, cast_eq]
  after_results_simp
  all_goals rfl

set_option maxHeartbeats 2000000 in
/-- What stage 0 leaves in `main_cst_5`. -/
theorem step0_main_cst_5 (V : Val) : step0 V (d main_cst_5) = wordsSin := by
  unfold step0 d
  simp only [ops0, TRef.toBuf, TRef.ofBuf, cast_eq]
  after_results_simp
  all_goals rfl

set_option maxHeartbeats 2000000 in
/-- What stage 0 leaves in `main_c_6`. -/
theorem step0_main_c_6 (V : Val) : step0 V (d main_c_6) = rowsSin := by
  unfold step0 d
  simp only [ops0, TRef.toBuf, TRef.ofBuf, cast_eq]
  after_results_simp
  all_goals rfl

set_option maxHeartbeats 2000000 in
/-- What stage 0 leaves in `main_c_7`. -/
theorem step0_main_c_7 (V : Val) : step0 V (d main_c_7) = constantI S2388 1 0#1 := by
  unfold step0 d
  simp only [ops0, TRef.toBuf, TRef.ofBuf, cast_eq]
  after_results_simp
  all_goals rfl

set_option maxHeartbeats 2000000 in
/-- What stage 0 leaves in `main_c_8`. -/
theorem step0_main_c_8 (V : Val) : step0 V (d main_c_8) = colsSin := by
  unfold step0 d
  simp only [ops0, TRef.toBuf, TRef.ofBuf, cast_eq]
  after_results_simp
  all_goals rfl

set_option maxHeartbeats 2000000 in
/-- What stage 0 leaves in `main_c_9`. -/
theorem step0_main_c_9 (V : Val) : step0 V (d main_c_9) = constantI S2388 1 0#1 := by
  unfold step0 d
  simp only [ops0, TRef.toBuf, TRef.ofBuf, cast_eq]
  after_results_simp
  all_goals rfl

set_option maxHeartbeats 2000000 in
/-- What stage 1 leaves in `main_v51`. -/
theorem step1_main_v51 (V : Val) : step1 V (d main_v51) = sinWave (V (d main_cst_4)) (V (d main_cst_5)) (V (d main_c_6)) (V (d main_c_7)) (V (d main_c_8)) (V (d main_c_9)) := by
  unfold step1 d
  simp only [ops1a, ops1b, TRef.toBuf, TRef.ofBuf, cast_eq]
  after_results_simp
  all_goals rfl

set_option maxHeartbeats 2000000 in
/-- What stage 2 leaves in `main_v52`. -/
theorem step2_main_v52 (V : Val) : step2 V (d main_v52) = reflectPad (V (d main_arg0)) := by
  unfold step2 d
  simp only [ops2, TRef.unary, TRef.binary, TRef.toBuf, TRef.ofBuf, cast_eq]
  after_results_simp
  all_goals rfl

set_option maxHeartbeats 2000000 in
/-- What stage 2 leaves in `main_v67`. -/
theorem step2_main_v67 (V : Val) : step2 V (d main_v67) = frameIdx := by
  unfold step2 d
  simp only [ops2, TRef.unary, TRef.binary, TRef.toBuf, TRef.ofBuf, cast_eq]
  after_results_simp
  all_goals rfl

set_option maxHeartbeats 2000000 in
/-- What stage 3 leaves in `main_v71`. -/
theorem step3_main_v71 (V : Val) : step3 V (d main_v71) = frames (V (d main_v52)) (V (d main_v67)) (V (d main_arg11)) := by
  unfold step3 d
  simp only [ops3, TRef.toBuf, TRef.ofBuf, cast_eq]
  after_results_simp
  all_goals rfl

set_option maxHeartbeats 2000000 in
/-- What stage 4 leaves in `main_v91`. -/
theorem step4_main_v91 (V : Val) : step4 V (d main_v91) = power (V (d main_v71)) (V (d main_v25)) (V (d main_v51)) := by
  unfold step4 d
  simp only [ops4, TRef.toBuf, TRef.ofBuf, cast_eq]
  after_results_simp
  all_goals rfl

set_option maxHeartbeats 2000000 in
/-- What stage 5 leaves in `main_v99`. -/
theorem step5_main_v99 (V : Val) : step5 V (d main_v99) = logMel (V (d main_v91)) (V (d main_arg10)) := by
  unfold step5 d
  simp only [ops5, TRef.unary, TRef.binary, TRef.toBuf, TRef.ofBuf, cast_eq]
  after_results_simp
  all_goals rfl

set_option maxHeartbeats 2000000 in
/-- What stage 6 leaves in `main_v109`. -/
theorem step6_main_v109 (V : Val) : step6 V (d main_v109) = normMel (V (d main_v99)) := by
  unfold step6 d
  simp only [ops6, TRef.toBuf, TRef.ofBuf, cast_eq]
  after_results_simp
  all_goals rfl

set_option maxHeartbeats 2000000 in
/-- What stage 7 leaves in `main_v131`. -/
theorem step7_main_v131 (V : Val) : step7 V (d main_v131) = layer1 (V (d main_v109)) (V (d main_arg1)) (V (d main_arg2)) := by
  unfold step7 d
  simp only [ops7, TRef.nullary, TRef.unary, TRef.binary, TRef.toBuf, TRef.ofBuf, cast_eq]
  after_results_simp
  all_goals rfl

set_option maxHeartbeats 2000000 in
/-- What stage 8 leaves in `main_v153`. -/
theorem step8_main_v153 (V : Val) : step8 V (d main_v153) = layer2 (V (d main_v131)) (V (d main_arg3)) (V (d main_arg4)) := by
  unfold step8 d
  simp only [ops8a, ops8b, TRef.nullary, TRef.unary, TRef.binary, TRef.toBuf, TRef.ofBuf, cast_eq]
  after_results_simp
  all_goals rfl

set_option maxHeartbeats 2000000 in
/-- What stage 9 leaves in `main_v175`. -/
theorem step9_main_v175 (V : Val) : step9 V (d main_v175) = layer3 (V (d main_v153)) (V (d main_arg5)) (V (d main_arg6)) := by
  unfold step9 d
  simp only [ops9, TRef.nullary, TRef.unary, TRef.binary, TRef.toBuf, TRef.ofBuf, cast_eq]
  after_results_simp
  all_goals rfl

set_option maxHeartbeats 2000000 in
/-- What stage 10 leaves in `main_v198`. -/
theorem step10_main_v198 (V : Val) : step10 V (d main_v198) = layer4 (V (d main_v175)) (V (d main_arg7)) (V (d main_arg8)) := by
  unfold step10 d
  simp only [ops10, TRef.unary, TRef.binary, TRef.toBuf, TRef.ofBuf, cast_eq]
  after_results_simp
  all_goals rfl

set_option maxHeartbeats 2000000 in
/-- What stage 11 leaves in `main_v215`. -/
theorem step11_main_v215 (V : Val) : step11 V (d main_v215) = dist (V (d main_v198)) (V (d main_arg9)) := by
  unfold step11 d
  simp only [ops11a, ops11b, TRef.toBuf, TRef.ofBuf, cast_eq]
  after_results_simp
  all_goals rfl

/-- The reading of stage 12 for any functions and constants in the place of its own. -/
theorem read12 (V : Val) (i : IVec S600x6561 32) (u : FVec Ideal S_ .f32) (z : IVec S_ 32)
    (f : FVec Ideal S600x6561 .f32 → IVec S600x6561 32 → FVec Ideal S_ .f32 → IVec S_ 32 → FVec Ideal S600 .f32)
    (g : FVec Ideal S600x6561 .f32 → IVec S600x6561 32 → FVec Ideal S_ .f32 → IVec S_ 32 → IVec S600 32) :
    after ([ TRef.nullary (TRef.of (T := ⟨S600x6561, .i32⟩) main_call9_v0) i,
      TRef.nullary (TRef.of (T := ⟨S_, .f32⟩) main_call9_cst) u,
      TRef.nullary (TRef.of (T := ⟨S_, .i32⟩) main_call9_c) z,
      TRef.quaternary (TRef.of (T := ⟨S600x6561, .f32⟩) main_v215) (TRef.of (T := ⟨S600x6561, .i32⟩) main_call9_v0) (TRef.of (T := ⟨S_, .f32⟩) main_call9_cst) (TRef.of (T := ⟨S_, .i32⟩) main_call9_c) (TRef.of (T := ⟨S600, .f32⟩) main_call9_v1_0) f,
      TRef.quaternary (TRef.of (T := ⟨S600x6561, .f32⟩) main_v215) (TRef.of (T := ⟨S600x6561, .i32⟩) main_call9_v0) (TRef.of (T := ⟨S_, .f32⟩) main_call9_cst) (TRef.of (T := ⟨S_, .i32⟩) main_call9_c) (TRef.of (T := ⟨S600, .i32⟩) main_v216) g,
      reshape main_v216 main_v217 (rfl : (.i32 : EltTy) = .i32) shapeCasts_S600_S4x150] : List (HloOp τ sig (Elt Ideal))) V (d main_v217)
      = shapeCast S4x150 (g (V (d main_v215)) i u z) shapeCasts_S600_S4x150 := by
  unfold d
  simp only [TRef.nullary, TRef.quaternary, TRef.toBuf, TRef.ofBuf, cast_eq]
  after_results_simp
  all_goals rfl

/-- What stage 12 leaves in `main_v217`. -/
theorem step12_main_v217 (V : Val) : step12 V (d main_v217) = nearest (V (d main_v215)) :=
  read12 V _ _ _ _ _

set_option maxHeartbeats 2000000 in
/-- What stage 13 leaves in `main_v219`. -/
theorem step13_main_v219 (V : Val) : step13 V (d main_v219) = lens := by
  unfold step13 d
  simp only [ops13, TRef.nullary, TRef.unary, TRef.binary, TRef.ternary, TRef.toBuf, TRef.ofBuf, cast_eq]
  after_results_simp
  all_goals rfl

end Cert.RefRun

end
-- ==== Proof.RefRun.lean ====
/- What the reference program leaves in its result buffers: the stages of `Stages`, composed. -/
module

public import proofs.«01_k».proof.Proof.RefSteps
public import Idealize.ShloMosaic.Lib.StableHlo.Run
public import Idealize.ShloMosaic.Lib.Pipeline.Frame

@[expose] public section

set_option maxRecDepth 8192
set_option Elab.async false

noncomputable section

namespace Cert.RefRun

open Cert.Stage Cert.ReferenceIdeal Cert.ReferenceIdeal.Gen Idealize.ShloMosaic Idealize.ShloMosaic.TcCoe Idealize.SL.Sem Idealize.ShloMosaic.StableHlo

/-- All stages, one after the other. -/
theorem after_ops (V : Val) : after ops V = step13 (step12 (step11 (step10 (step9 (step8 (step7 (step6 (step5 (step4 (step3 (step2 (step1 (step0 V))))))))))))) := by
  simp only [ops, part0, part1, part2, part3, part4, after_append]
  rfl

/-- The distances the reference computes from its arguments. -/
def refDist (V : Val) : FVec Ideal S600x6561 .f32 :=
  dist (layer4 (layer3 (layer2 (layer1 (normMel (logMel (power (frames (reflectPad (V (d main_arg0))) frameIdx (V (d main_arg11)))
    cosTable sinTable) (V (d main_arg10)))) (V (d main_arg1)) (V (d main_arg2))) (V (d main_arg3)) (V (d main_arg4)))
    (V (d main_arg5)) (V (d main_arg6))) (V (d main_arg7)) (V (d main_arg8))) (V (d main_arg9))

/-- No operation writes an argument: the argument buffers end as they began. -/
theorem args_kept (V : Val) (r : Ref sig .tc)
    (h : r ∈ [main_arg0, main_arg1, main_arg2, main_arg3, main_arg4, main_arg5, main_arg6, main_arg7, main_arg8, main_arg9,
      main_arg10, main_arg11]) : after ops V (d r) = V (d r) := by
  rw [after_ops]
  simp only [List.mem_cons, List.not_mem_nil, or_false] at h
  rcases h with rfl | rfl | rfl | rfl | rfl | rfl | rfl | rfl | rfl | rfl | rfl | rfl <;>
  rw [keep13 _ _ (by decide), keep12 _ _ (by decide), keep11 _ _ (by decide), keep10 _ _ (by decide), keep9 _ _ (by decide), keep8 _ _ (by decide), keep7 _ _ (by decide), keep6 _ _ (by decide), keep5 _ _ (by decide), keep4 _ _ (by decide), keep3 _ _ (by decide), keep2 _ _ (by decide), keep1 _ _ (by decide), keep0 _ _ (by decide)]

/-- The tokens the reference leaves. -/
theorem tokens_eq (V : Val) : after ops V (d main_v217) = nearest (refDist V) := by
  rw [after_ops, keep13 _ main_v217 (by decide), step12_main_v217, step11_main_v215, step10_main_v198, step9_main_v175, step8_main_v153, step7_main_v131, step6_main_v109, step5_main_v99, step4_main_v91, step3_main_v71,
    keep3 _ main_v25 (by decide), keep2 _ main_v25 (by decide), keep1 _ main_v25 (by decide), step0_main_v25,
    keep3 _ main_v51 (by decide), keep2 _ main_v51 (by decide), step1_main_v51, step2_main_v52, step2_main_v67, step0_main_cst_4, step0_main_cst_5, step0_main_c_6, step0_main_c_7, step0_main_c_8, step0_main_c_9,
    keep10 _ main_arg9 (by decide), keep9 _ main_arg9 (by decide), keep8 _ main_arg9 (by decide), keep7 _ main_arg9 (by decide), keep6 _ main_arg9 (by decide), keep5 _ main_arg9 (by decide), keep4 _ main_arg9 (by decide), keep3 _ main_arg9 (by decide), keep2 _ main_arg9 (by decide), keep1 _ main_arg9 (by decide), keep0 _ main_arg9 (by decide),
    keep9 _ main_arg7 (by decide), keep8 _ main_arg7 (by decide), keep7 _ main_arg7 (by decide), keep6 _ main_arg7 (by decide), keep5 _ main_arg7 (by decide), keep4 _ main_arg7 (by decide), keep3 _ main_arg7 (by decide), keep2 _ main_arg7 (by decide), keep1 _ main_arg7 (by decide), keep0 _ main_arg7 (by decide),
    keep9 _ main_arg8 (by decide), keep8 _ main_arg8 (by decide), keep7 _ main_arg8 (by decide), keep6 _ main_arg8 (by decide), keep5 _ main_arg8 (by decide), keep4 _ main_arg8 (by decide), keep3 _ main_arg8 (by decide), keep2 _ main_arg8 (by decide), keep1 _ main_arg8 (by decide), keep0 _ main_arg8 (by decide),
    keep8 _ main_arg5 (by decide), keep7 _ main_arg5 (by decide), keep6 _ main_arg5 (by decide), keep5 _ main_arg5 (by decide), keep4 _ main_arg5 (by decide), keep3 _ main_arg5 (by decide), keep2 _ main_arg5 (by decide), keep1 _ main_arg5 (by decide), keep0 _ main_arg5 (by decide),
    keep8 _ main_arg6 (by decide), keep7 _ main_arg6 (by decide), keep6 _ main_arg6 (by decide), keep5 _ main_arg6 (by decide), keep4 _ main_arg6 (by decide), keep3 _ main_arg6 (by decide), keep2 _ main_arg6 (by decide), keep1 _ main_arg6 (by decide), keep0 _ main_arg6 (by decide),
    keep7 _ main_arg3 (by decide), keep6 _ main_arg3 (by decide), keep5 _ main_arg3 (by decide), keep4 _ main_arg3 (by decide), keep3 _ main_arg3 (by decide), keep2 _ main_arg3 (by decide), keep1 _ main_arg3 (by decide), keep0 _ main_arg3 (by decide),
    keep7 _ main_arg4 (by decide), keep6 _ main_arg4 (by decide), keep5 _ main_arg4 (by decide), keep4 _ main_arg4 (by decide), keep3 _ main_arg4 (by decide), keep2 _ main_arg4 (by decide), keep1 _ main_arg4 (by decide), keep0 _ main_arg4 (by decide),
    keep6 _ main_arg1 (by decide), keep5 _ main_arg1 (by decide), keep4 _ main_arg1 (by decide), keep3 _ main_arg1 (by decide), keep2 _ main_arg1 (by decide), keep1 _ main_arg1 (by decide), keep0 _ main_arg1 (by decide),
    keep6 _ main_arg2 (by decide), keep5 _ main_arg2 (by decide), keep4 _ main_arg2 (by decide), keep3 _ main_arg2 (by decide), keep2 _ main_arg2 (by decide), keep1 _ main_arg2 (by decide), keep0 _ main_arg2 (by decide),
    keep4 _ main_arg10 (by decide), keep3 _ main_arg10 (by decide), keep2 _ main_arg10 (by decide), keep1 _ main_arg10 (by decide), keep0 _ main_arg10 (by decide),
    keep2 _ main_arg11 (by decide), keep1 _ main_arg11 (by decide), keep0 _ main_arg11 (by decide),
    keep1 _ main_arg0 (by decide), keep0 _ main_arg0 (by decide)]
  rfl

/-- The token lengths the reference leaves. -/
theorem lens_eq (V : Val) : after ops V (d main_v219) = lens := by
  rw [after_ops, step13_main_v219]

/-- On every device, from any memory with zero counters: every weakly fair execution of the reference ends with the
    nearest codes in its first result, the constant lengths in its second, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v217) = nearest (refDist (launchContents m c))
      ∧ r.2.mem ((c.tc : Thread nD τ).loc main_v219) = lens
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v217).trans (tokens_eq _), (h c main_v219).trans (lens_eq _),
      (h c main_arg0).trans (args_kept _ _ (by decide)),
      (h c main_arg1).trans (args_kept _ _ (by decide)),
      (h c main_arg2).trans (args_kept _ _ (by decide)),
      (h c main_arg3).trans (args_kept _ _ (by decide)),
      (h c main_arg4).trans (args_kept _ _ (by decide)),
      (h c main_arg5).trans (args_kept _ _ (by decide)),
      (h c main_arg6).trans (args_kept _ _ (by decide)),
      (h c main_arg7).trans (args_kept _ _ (by decide)),
      (h c main_arg8).trans (args_kept _ _ (by decide)),
      (h c main_arg9).trans (args_kept _ _ (by decide)),
      (h c main_arg10).trans (args_kept _ _ (by decide)),
      (h c main_arg11).trans (args_kept _ _ (by decide))⟩)
    (run_seq scopedRefs_eq scopedSems_eq defs main (fun _ => ops) main_eq (fun _ => ops_sub) m ρ fun _ op h =>
      List.forall_iff_forall_mem.mp ops_fresh op h)

end Cert.RefRun

end
-- ==== Proof.Frames.lean ====
/- The claims of termination, for the three programs, and the claim that the ideal program is the kernel over
   the extended reals. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.RefRun
public import Idealize.ShloMosaic.Lib.Quiescent

@[expose] public section

noncomputable section

namespace Cert.Frames

open Idealize.ShloMosaic Idealize.SL.Sem

/-- The kernel terminates without fault, keeps its arguments and leaves every semaphore at zero. -/
theorem kernel : Cert.quiescent_Kernel := fun m ρ _ => Cert.Kernel.Gen.frame m ρ

/-- So does the kernel over the extended reals. -/
theorem kernelIdeal : Cert.quiescent_KernelIdeal := fun m ρ _ => Cert.KernelIdeal.Gen.frame m ρ

/-- So does the reference over the extended reals. -/
theorem referenceIdeal : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.RefRun.run m ρ)

/-- The one named constant of the ideal program is the inverse of the natural logarithm of ten. -/
theorem preserves : Cert.preserves_Kernel_KernelIdeal :=
  IdealRules.named_const.statement Cert.KernelIdeal.κ "inv_ln10" .f32 0x3EDE5BD9#32
    (((Real.log 10)⁻¹ : ℝ) : EReal) rfl

end Cert.Frames

end
-- ==== Proof.Tables.lean ====
/- The tables of the two programs are the same: the literals entry by entry, and the operations over them. -/
module

public import proofs.«01_k».proof.Proof.Stages
public import proofs.«01_k».proof.Proof.Gen.KernelIdeal
public import Idealize.ShloMosaic.Lib.Pointwise
public import Idealize.ShloMosaic.PureOps.Ideal

@[expose] public section

set_option maxRecDepth 16384

noncomputable section

namespace Cert.Tables

open Idealize.ShloMosaic Idealize.ShloMosaic.TcCoe

/-! ## The literals -/

theorem lit0_eq : ∀ i, KernelIdeal.lit0 i = ReferenceIdeal.lit0 i := by decide +kernel
theorem lit1_eq : ∀ i, KernelIdeal.lit1 i = ReferenceIdeal.lit1 i := by decide +kernel
theorem lit2_eq : ∀ i, KernelIdeal.lit2 i = ReferenceIdeal.lit2 i := by decide +kernel
theorem lit3_eq : ∀ i, KernelIdeal.lit3 i = ReferenceIdeal.lit3 i := by decide +kernel
theorem lit4_eq : ∀ i, KernelIdeal.lit4 i = ReferenceIdeal.lit4 i := by decide +kernel
theorem lit5_eq : ∀ i, KernelIdeal.lit5 i = ReferenceIdeal.lit5 i := by decide +kernel
theorem lit6_eq : ∀ i, KernelIdeal.lit6 i = ReferenceIdeal.lit6 i := by decide +kernel
theorem lit7_eq : ∀ i, KernelIdeal.lit7 i = ReferenceIdeal.lit7 i := by decide +kernel

/-! ## The operations -/

section
open Cert.KernelIdeal Cert.KernelIdeal.Gen

/-- Where the kernel's table reads the turn: n k mod 400. -/
def turnIdx : IVec S400x201x1 32 :=
  broadcastInDim S400x201x1 ![0, 1] bcast_S400x201_S400x201x1_0_1
    (select
      (cmpi CmpIPredicate.slt
        (Host.remsi (muli (iotaInDim S400x201 32 0) (iotaInDim S400x201 32 1))
          (broadcastInDim S400x201 ![] bcast_S_S400x201 (constantI S_ 32 400#32)))
        (broadcastInDim S400x201 ![] bcast_S_S400x201 (constantI S_ 32 0#32)))
      (addi
        (Host.remsi (muli (iotaInDim S400x201 32 0) (iotaInDim S400x201 32 1))
          (broadcastInDim S400x201 ![] bcast_S_S400x201 (constantI S_ 32 400#32)))
        (broadcastInDim S400x201 ![] bcast_S_S400x201 (constantI S_ 32 400#32)))
      (Host.remsi (muli (iotaInDim S400x201 32 0) (iotaInDim S400x201 32 1))
        (broadcastInDim S400x201 ![] bcast_S_S400x201 (constantI S_ 32 400#32))))

/-- The kernel's table of cosines from its parts. -/
def cosOf (turn : FVec Ideal S400 .f32) (words : FVec Ideal S1534 .f32) (rows cols : IVec S1534 32) : FVec Ideal S400x201 .f32 :=
  Host.scatter scatter_S400x201_S1534x2_S1534_n_01_01_1 (fun _ b => b)
    (Host.gather gather_S400_S400x201x1_S400x201_n_0_n_n_0_2_1 turn turnIdx)
    (concatenate S1534x2 1
      [⟨S1534x1, broadcastInDim S1534x1 ![0] bcast_S1534_S1534x1_0
          (select (constantI S1534 1 0#1) (addi rows (broadcastInDim S1534 ![] bcast_S_S1534 (constantI S_ 32 400#32))) rows)⟩,
        ⟨S1534x1, broadcastInDim S1534x1 ![0] bcast_S1534_S1534x1_0
          (select (constantI S1534 1 0#1) (addi cols (broadcastInDim S1534 ![] bcast_S_S1534 (constantI S_ 32 201#32))) cols)⟩]
      concatenates_S1534x1_S1534x1_S1534x2_d1)
    words

/-- The kernel's table of sines from its parts. -/
def sinOf (turn : FVec Ideal S400 .f32) (words : FVec Ideal S2388 .f32) (rows cols : IVec S2388 32) : FVec Ideal S400x201 .f32 :=
  Host.scatter scatter_S400x201_S2388x2_S2388_n_01_01_1 (fun _ b => b)
    (Host.gather gather_S400_S400x201x1_S400x201_n_0_n_n_0_2_1 turn turnIdx)
    (concatenate S2388x2 1
      [⟨S2388x1, broadcastInDim S2388x1 ![0] bcast_S2388_S2388x1_0
          (select (constantI S2388 1 0#1) (addi rows (broadcastInDim S2388 ![] bcast_S_S2388 (constantI S_ 32 400#32))) rows)⟩,
        ⟨S2388x1, broadcastInDim S2388x1 ![0] bcast_S2388_S2388x1_0
          (select (constantI S2388 1 0#1) (addi cols (broadcastInDim S2388 ![] bcast_S_S2388 (constantI S_ 32 201#32))) cols)⟩]
      concatenates_S2388x1_S2388x1_S2388x2_d1)
    words

/-- Where sample n of frame t of the kernel lies in the padded audio. -/
def frameIdx : IVec S600x400x1 32 :=
  broadcastInDim S600x400x1 ![0, 1] bcast_S600x400_S600x400x1_0_1
    (select
      (cmpi CmpIPredicate.slt
        (addi
          (broadcastInDim S600x400 ![0, 1] bcast_S600x1_S600x400_0_1
            (muli (broadcastInDim S600x1 ![0] bcast_S600_S600x1_0 (iotaInDim S600 32 0))
              (broadcastInDim S600x1 ![] bcast_S_S600x1 (constantI S_ 32 160#32))))
          (broadcastInDim S600x400 ![0, 1] bcast_S1x400_S600x400_0_1
            (broadcastInDim S1x400 ![1] bcast_S400_S1x400_1 (iotaInDim S400 32 0))))
        (broadcastInDim S600x400 ![] bcast_S_S600x400 (constantI S_ 32 0#32)))
      (addi
        (addi
          (broadcastInDim S600x400 ![0, 1] bcast_S600x1_S600x400_0_1
            (muli (broadcastInDim S600x1 ![0] bcast_S600_S600x1_0 (iotaInDim S600 32 0))
              (broadcastInDim S600x1 ![] bcast_S_S600x1 (constantI S_ 32 160#32))))
          (broadcastInDim S600x400 ![0, 1] bcast_S1x400_S600x400_0_1
            (broadcastInDim S1x400 ![1] bcast_S400_S1x400_1 (iotaInDim S400 32 0))))
        (broadcastInDim S600x400 ![] bcast_S_S600x400 (constantI S_ 32 96400#32)))
      (addi
        (broadcastInDim S600x400 ![0, 1] bcast_S600x1_S600x400_0_1
          (muli (broadcastInDim S600x1 ![0] bcast_S600_S600x1_0 (iotaInDim S600 32 0))
            (broadcastInDim S600x1 ![] bcast_S_S600x1 (constantI S_ 32 160#32))))
        (broadcastInDim S600x400 ![0, 1] bcast_S1x400_S600x400_0_1
          (broadcastInDim S1x400 ![1] bcast_S400_S1x400_1 (iotaInDim S400 32 0)))))

/-- The kernel's frames, before the window. -/
def framesOf (xp : FVec Ideal S4x96400 .f32) : FVec Ideal S4x600x400 .f32 :=
  Host.gather gather_S4x96400_S600x400x1_S4x600x400_0_1_n_n_1_2_41 xp frameIdx

end

/-- The kernel's table of cosines is built as the reference's is. -/
theorem cosOf_eq (t : FVec Ideal KernelIdeal.S400 .f32) (w : FVec Ideal KernelIdeal.S1534 .f32) (r c : IVec KernelIdeal.S1534 32) :
    cosOf t w r c = Stage.cosWave t w r (constantI KernelIdeal.S1534 1 0#1) c (constantI KernelIdeal.S1534 1 0#1) := rfl

/-- The kernel's table of sines is built as the reference's is. -/
theorem sinOf_eq (t : FVec Ideal KernelIdeal.S400 .f32) (w : FVec Ideal KernelIdeal.S2388 .f32) (r c : IVec KernelIdeal.S2388 32) :
    sinOf t w r c = Stage.sinWave t w r (constantI KernelIdeal.S2388 1 0#1) c (constantI KernelIdeal.S2388 1 0#1) := rfl

/-- A frame's entry under the window is the reference's frame's. -/
theorem framesOf_at (xp : FVec Ideal KernelIdeal.S4x96400 .f32) (win : FVec Ideal KernelIdeal.S400 .f32) (b : Fin 4) (t : Fin 600) (n : Fin 400) :
    Stage.frames xp Stage.frameIdx win (ix3 b ⟨t, by omega⟩ n) = framesOf xp (ix3 b t n) * win (ix1 n) := by
  refine congrArg₂ (fun x y : EReal => x * y) ?_ ?_
  · refine congrArg xp (funext fun a => Fin.ext ?_)
    show GatherDims.start _ _ _ a + GatherDims.batchCoord _ _ a + GatherDims.offCoord _ _ a
      = GatherDims.start _ _ _ a + GatherDims.batchCoord _ _ a + GatherDims.offCoord _ _ a
    fin_cases a
    · refine congrArg₂ (· + ·) (congrArg₂ (· + ·) ?_ ?_) ?_
      · unfold GatherDims.start
        rw [dif_neg (by decide), dif_neg (by decide)]
      · rfl
      · rfl
    · refine congrArg₂ (· + ·) (congrArg₂ (· + ·) ?_ ?_) ?_
      · unfold GatherDims.start
        rw [dif_pos (by decide), dif_pos (by decide)]
        refine congrArg (fun w : BitVec 32 => min w.toInt.toNat 96399) ?_
        refine (congrArg Stage.frameIdx (a₂ := ix3 ⟨t, by omega⟩ n 0) ?_).trans (Eq.trans ?_ (congrArg frameIdx (a₁ := ix3 t n 0) ?_))
        · funext a; fin_cases a <;> rfl
        · rfl
        · funext a; fin_cases a <;> rfl
      · rfl
      · rfl
  · pointwise

end Cert.Tables

end
-- ==== Proof.Scatters.lean ====
/- The arrays the kernel's host lines lay into larger ones, at an index: the array where it lies, the filling
   elsewhere. -/
module

public import proofs.«01_k».proof.Proof.Gen.KernelIdeal
public import Idealize.ShloMosaic.Lib.Pointwise
import Idealize.ShloMosaic.Lib.Routing.OpsPair
import Idealize.ShloMosaic.Lib.Routing.OpsSet
public import Idealize.ShloMosaic.PureOps.Ideal

@[expose] public section

set_option maxRecDepth 16384

noncomputable section

namespace Cert.Scatters

open Cert.KernelIdeal Cert.KernelIdeal.Gen Idealize.ShloMosaic Idealize.ShloMosaic.TcCoe

/-- Where both arrays start: zero. -/
def origin : IVec S1 32 := broadcastInDim S1 ![] bcast_S_S1 (constantI S_ 32 0#32)

/-- Where the row starts: zero and zero. -/
def origin2 : IVec S2 32 := concatenate S2 0 [⟨S1, origin⟩, ⟨S1, origin⟩] concatenates_S1_S1_S2_d0

/-- The place where the kernel's host lines write: the origin. -/
theorem origin2_at (j : S2.Idx) : origin2 j = 0#32 := by
  idx_vars j
  pointwise [origin2, origin]
  try split <;> rfl

/-- The mel weights, frequency by band, under 55 rows of zeros. -/
def melt (mf : FVec Ideal S128x201 .f32) : FVec Ideal S256x128 .f32 :=
  Host.scatter scatter_S256x128_S1_S201x128_01_n_0_0 (fun _ b => b)
    (broadcastInDim S256x128 ![] bcast_S_S256x128 (constant (F := Ideal) S_ FTy.f32 0#32)) origin
    (transpose S201x128 [1, 0] mf transposes_S128x201_S201x128_1_0)

/-- The codes as columns, and 95 columns of zeros. -/
def codes (cb : FVec Ideal S6561x1024 .f32) : FVec Ideal S1024x6656 .f32 :=
  Host.scatter scatter_S1024x6656_S1_S1024x6561_01_n_1_0 (fun _ b => b)
    (broadcastInDim S1024x6656 ![] bcast_S_S1024x6656 (constant (F := Ideal) S_ FTy.f32 0#32)) origin
    (transpose S1024x6561 [1, 0] cb transposes_S6561x1024_S1024x6561_1_0)

/-- The squared lengths of the codes, and 95 times the filling. -/
def norms (cb : FVec Ideal S6561x1024 .f32) : FVec Ideal S1x6656 .f32 :=
  Host.scatter scatter_S1x6656_S2_S6561_0_0_01_0 (fun _ b => b)
    (broadcastInDim S1x6656 ![] bcast_S_S1x6656 (constant (F := Ideal) S_ FTy.f32 1900671690#32)) origin2
    (Host.reduceAdd (mulf cb cb) (constant (F := Ideal) S_ FTy.f32 0#32) reducesTo_S6561x1024_S6561_d1 h_S_)

/-- Where an entry of the filters lands. -/
theorem melt_lands (a : Fin 201) (b : Fin 128) (x : Fin 256) (k : Fin 128) :
    ScatterDims.resultIdx? scatter_S256x128_S1_S201x128_01_n_0_0 (ix2 a b) origin = some (ix2 x k) ↔ (a : ℕ) = x ∧ b = k := by
  have h0 : ScatterDims.start scatter_S256x128_S1_S201x128_01_n_0_0 (ix2 a b) origin 0 = 0 := by
    unfold ScatterDims.start; rw [dif_pos (by decide)]; rfl
  have h1 : ScatterDims.start scatter_S256x128_S1_S201x128_01_n_0_0 (ix2 a b) origin 1 = 0 := by
    unfold ScatterDims.start; rw [dif_neg (by decide)]
  have w0 : ScatterDims.window scatter_S256x128_S1_S201x128_01_n_0_0 (ix2 a b) 0 = a := by
    unfold ScatterDims.window; rw [dif_pos (by decide)]; rfl
  have w1 : ScatterDims.window scatter_S256x128_S1_S201x128_01_n_0_0 (ix2 a b) 1 = b := by
    unfold ScatterDims.window; rw [dif_pos (by decide)]; rfl
  refine (Routing.resultIdx?_ix2 _ _ _ x k).trans ?_
  rw [h0, h1, w0, w1, Fin.ext_iff]
  omega

/-- The padded filters, entry by entry. -/
theorem melt_at (mf : FVec Ideal S128x201 .f32) (x : Fin 256) (k : Fin 128) :
    melt mf (ix2 x k) = if h : (x : ℕ) < 201 then mf (ix2 k ⟨x, h⟩) else 0 := by
  unfold melt
  by_cases h : (x : ℕ) < 201
  · rw [dif_pos h]
    refine Routing.scatter_set_hit _ _ _ _ _ _ (fun j hj => ?_) (ix2 ⟨x, h⟩ k) ((melt_lands _ _ _ _).2 ⟨rfl, rfl⟩)
    idx_vars j
    obtain ⟨ha, rfl⟩ := (melt_lands _ _ _ _).1 hj
    pointwise
    exact congrArg mf ((ix2_inj ..).2 ⟨rfl, Fin.ext ha⟩)
  · rw [dif_neg h]
    refine (Routing.scatter_set_miss _ _ _ _ _ (fun j hj => ?_)).trans ?_
    · idx_vars j
      have := ((melt_lands _ _ _ _).1 hj).1
      omega
    · pointwise

/-- Where an entry of the codebook lands. -/
theorem codes_lands (a : Fin 1024) (b : Fin 6561) (x : Fin 1024) (k : Fin 6656) :
    ScatterDims.resultIdx? scatter_S1024x6656_S1_S1024x6561_01_n_1_0 (ix2 a b) origin = some (ix2 x k) ↔ a = x ∧ (b : ℕ) = k := by
  have h0 : ScatterDims.start scatter_S1024x6656_S1_S1024x6561_01_n_1_0 (ix2 a b) origin 0 = 0 := by
    unfold ScatterDims.start; rw [dif_neg (by decide)]
  have h1 : ScatterDims.start scatter_S1024x6656_S1_S1024x6561_01_n_1_0 (ix2 a b) origin 1 = 0 := by
    unfold ScatterDims.start; rw [dif_pos (by decide)]; rfl
  have w0 : ScatterDims.window scatter_S1024x6656_S1_S1024x6561_01_n_1_0 (ix2 a b) 0 = a := by
    unfold ScatterDims.window; rw [dif_pos (by decide)]; rfl
  have w1 : ScatterDims.window scatter_S1024x6656_S1_S1024x6561_01_n_1_0 (ix2 a b) 1 = b := by
    unfold ScatterDims.window; rw [dif_pos (by decide)]; rfl
  refine (Routing.resultIdx?_ix2 _ _ _ x k).trans ?_
  rw [h0, h1, w0, w1, Fin.ext_iff]
  omega

/-- The padded codes, entry by entry. -/
theorem codes_at (cb : FVec Ideal S6561x1024 .f32) (x : Fin 1024) (k : Fin 6656) :
    codes cb (ix2 x k) = if h : (k : ℕ) < 6561 then cb (ix2 ⟨k, h⟩ x) else 0 := by
  unfold codes
  by_cases h : (k : ℕ) < 6561
  · rw [dif_pos h]
    refine Routing.scatter_set_hit _ _ _ _ _ _ (fun j hj => ?_) (ix2 x ⟨k, h⟩) ((codes_lands _ _ _ _).2 ⟨rfl, rfl⟩)
    idx_vars j
    obtain ⟨rfl, hb⟩ := (codes_lands _ _ _ _).1 hj
    pointwise
    exact congrArg cb ((ix2_inj ..).2 ⟨Fin.ext hb, rfl⟩)
  · rw [dif_neg h]
    refine (Routing.scatter_set_miss _ _ _ _ _ (fun j hj => ?_)).trans ?_
    · idx_vars j
      have := ((codes_lands _ _ _ _).1 hj).2
      omega
    · pointwise

/-- Where a squared norm lands. -/
theorem norms_lands (b : Fin 6561) (z : Fin 1) (k : Fin 6656) :
    ScatterDims.resultIdx? scatter_S1x6656_S2_S6561_0_0_01_0 (ix1 b) origin2 = some (ix2 z k) ↔ (b : ℕ) = k := by
  have h0 : ScatterDims.start scatter_S1x6656_S2_S6561_0_0_01_0 (ix1 b) origin2 0 = 0 := by
    unfold ScatterDims.start; rw [dif_pos (by decide), origin2_at]; rfl
  have h1 : ScatterDims.start scatter_S1x6656_S2_S6561_0_0_01_0 (ix1 b) origin2 1 = 0 := by
    unfold ScatterDims.start; rw [dif_pos (by decide), origin2_at]; rfl
  have w0 : ScatterDims.window scatter_S1x6656_S2_S6561_0_0_01_0 (ix1 b) 0 = 0 := by
    unfold ScatterDims.window; rw [dif_neg (by decide)]
  have w1 : ScatterDims.window scatter_S1x6656_S2_S6561_0_0_01_0 (ix1 b) 1 = b := by
    unfold ScatterDims.window; rw [dif_pos (by decide)]; rfl
  refine (Routing.resultIdx?_ix2 _ _ _ z k).trans ?_
  rw [h0, h1, w0, w1]
  omega

/-- The padded squared norms, entry by entry. -/
theorem norms_at (cb : FVec Ideal S6561x1024 .f32) (z : Fin 1) (k : Fin 6656) :
    norms cb (ix2 z k) = if h : (k : ℕ) < 6561 then ∑ i, cb (ix2 ⟨k, h⟩ i) * cb (ix2 ⟨k, h⟩ i)
      else Ideal.ofBits FTy.f32 1900671690#32 := by
  unfold norms
  by_cases h : (k : ℕ) < 6561
  · rw [dif_pos h]
    refine Routing.scatter_set_hit _ _ _ _ _ _ (fun j hj => ?_) (ix1 ⟨k, h⟩) ((norms_lands _ _ _).2 rfl)
    idx_vars j
    have hb := (norms_lands _ _ _).1 hj
    obtain rfl : j0 = ⟨k, h⟩ := Fin.ext hb
    pointwise
  · rw [dif_neg h]
    refine (Routing.scatter_set_miss _ _ _ _ _ (fun j hj => ?_)).trans ?_
    · idx_vars j
      have := (norms_lands _ _ _).1 hj
      omega
    · pointwise

end Cert.Scatters

end
-- ==== Proof.Spec.lean ====
/- The mathematics both programs compute, as functions of plain indices: a convolution of three taps, and the row it
   reads before the first and after the last. -/
module

public import Idealize.ShloMosaic.PureOps.Ideal

@[expose] public section

noncomputable section

namespace Cert.Tok

open Idealize.ShloMosaic

/-- Row `p - 1` of `h`, zero where there is none: `h` under one row of zeros on either side. -/
def row {T I : ℕ} (h : Fin T → Fin I → EReal) (p : ℕ) (i : Fin I) : EReal :=
  if hp : 1 ≤ p ∧ p - 1 < T then h ⟨p - 1, hp.2⟩ i else 0

/-- A row that there is. -/
theorem row_of {T I : ℕ} (h : Fin T → Fin I → EReal) {p : ℕ} (hp : 1 ≤ p ∧ p - 1 < T) (i : Fin I) :
    row h p i = h ⟨p - 1, hp.2⟩ i := dif_pos hp

/-- A row that there is not. -/
theorem row_out {T I : ℕ} (h : Fin T → Fin I → EReal) {p : ℕ} (hp : ¬(1 ≤ p ∧ p - 1 < T)) (i : Fin I) :
    row h p i = 0 := dif_neg hp

/-- Three taps, moved on by `s` from one output row to the next, and a bias. -/
def conv {T I O : ℕ} (s : ℕ) (h : Fin T → Fin I → EReal) (w : Fin 3 → Fin I → Fin O → EReal) (b : Fin O → EReal)
    (t : ℕ) (o : Fin O) : EReal :=
  ∑ i, row h (s * t) i * w 0 i o + ∑ i, row h (s * t + 1) i * w 1 i o + ∑ i, row h (s * t + 2) i * w 2 i o + b o

/-- The bands raised to eight below the greatest, moved up by four, and a quarter of that. -/
def norm (l : Fin 600 → Fin 128 → EReal) (t : Fin 600) (k : Fin 128) : EReal :=
  (max (l t k) (Finset.fold max (Ideal.ofBits FTy.f32 4286578688#32) (fun x : Fin 600 × Fin 128 => l x.1 x.2) Finset.univ
      - Ideal.ofBits FTy.f32 1090519040#32) + Ideal.ofBits FTy.f32 1082130432#32) * Ideal.ofBits FTy.f32 1048576000#32

end Cert.Tok

end
-- ==== Proof.RefAt.lean ====
/- The stages of the reference at an index. -/
module

public import proofs.«01_k».proof.Proof.Stages
public import proofs.«01_k».proof.Proof.Spec
public import Idealize.ShloMosaic.Lib.Pointwise

@[expose] public section

set_option maxRecDepth 16384

noncomputable section

namespace Cert.RefAt

open Cert.ReferenceIdeal Cert.ReferenceIdeal.Gen Cert.Stage Idealize.ShloMosaic Idealize.ShloMosaic.TcCoe

/-- The integer zero as a float is zero. -/
theorem zero_word : (FloatOps.sitofp FTy.f32 (0#32) : Ideal .f32) = (0 : EReal) := by
  show (((0#32 : BitVec 32).toInt : ℝ) : EReal) = 0
  simp

/-- The reference's first layer at a channel and a row. -/
theorem layer1_at (h : FVec Ideal S4x128x600 .f32) (w : FVec Ideal S512x128x3 .f32) (b : FVec Ideal S512 .f32) (k : Fin 4) (o : Fin 512)
    (t : Fin 600) : layer1 h w b (ix3 k o t)
      = max (Tok.conv 1 (fun t i => h (ix3 k i t)) (fun j i o => w (ix3 o i j)) (fun o => b (ix1 o)) t o) 0 := by
  pointwise [layer1]
  refine congrArg (max · 0) (congrArg₂ (· + ·) (congrArg₂ (· + ·) (congrArg₂ (· + ·) ?_ ?_) ?_) rfl)
  all_goals refine Finset.sum_congr rfl fun i _ => congrArg₂ (· * ·) ?_ rfl
  all_goals
    simp only [Tok.row, zero_word]
    first | done | split_ifs
  all_goals first
    | rfl
    | omega
    | exact congrArg h ((ix3_inj ..).2 ⟨rfl, rfl, Fin.ext (by first | (dsimp only; done) | (dsimp only; omega))⟩)

/-- The reference's second layer at a channel and a row. -/
theorem layer2_at (h : FVec Ideal S4x512x600 .f32) (w : FVec Ideal S512x512x3 .f32) (b : FVec Ideal S512 .f32) (k : Fin 4) (o : Fin 512)
    (t : Fin 300) : layer2 h w b (ix3 k o t)
      = max (Tok.conv 2 (fun t i => h (ix3 k i t)) (fun j i o => w (ix3 o i j)) (fun o => b (ix1 o)) t o) 0 := by
  pointwise [layer2]
  refine congrArg (max · 0) (congrArg₂ (· + ·) (congrArg₂ (· + ·) (congrArg₂ (· + ·) ?_ ?_) ?_) rfl)
  all_goals refine Finset.sum_congr rfl fun i _ => congrArg₂ (· * ·) ?_ rfl
  all_goals
    simp only [Tok.row, zero_word]
    first | done | split_ifs
  all_goals first
    | rfl
    | omega
    | exact congrArg h ((ix3_inj ..).2 ⟨rfl, rfl, Fin.ext (by first | (dsimp only; done) | (dsimp only; omega))⟩)

/-- The reference's third layer at a channel and a row. -/
theorem layer3_at (h : FVec Ideal S4x512x300 .f32) (w : FVec Ideal S1024x512x3 .f32) (b : FVec Ideal S1024 .f32) (k : Fin 4) (o : Fin 1024)
    (t : Fin 150) : layer3 h w b (ix3 k o t)
      = max (Tok.conv 2 (fun t i => h (ix3 k i t)) (fun j i o => w (ix3 o i j)) (fun o => b (ix1 o)) t o) 0 := by
  pointwise [layer3]
  refine congrArg (max · 0) (congrArg₂ (· + ·) (congrArg₂ (· + ·) (congrArg₂ (· + ·) ?_ ?_) ?_) rfl)
  all_goals refine Finset.sum_congr rfl fun i _ => congrArg₂ (· * ·) ?_ rfl
  all_goals
    simp only [Tok.row, zero_word]
    first | done | split_ifs
  all_goals first
    | rfl
    | omega
    | exact congrArg h ((ix3_inj ..).2 ⟨rfl, rfl, Fin.ext (by first | (dsimp only; done) | (dsimp only; omega))⟩)

/-- The reference's fourth layer at a channel and a row. -/
theorem layer4_at (h : FVec Ideal S4x1024x150 .f32) (w : FVec Ideal S1024x1024x3 .f32) (b : FVec Ideal S1024 .f32) (k : Fin 4)
    (o : Fin 1024) (t : Fin 150) : layer4 h w b (ix2 ⟨150 * (k : ℕ) + t, by omega⟩ o)
      = Tok.conv 1 (fun t i => h (ix3 k i t)) (fun j i o => w (ix3 o i j)) (fun o => b (ix1 o)) t o := by
  pointwise [layer4]
  refine congrArg₂ (· + ·) (congrArg₂ (· + ·) (congrArg₂ (· + ·) ?_ ?_) ?_) rfl
  all_goals refine Finset.sum_congr rfl fun i _ => congrArg₂ (· * ·) ?_ rfl
  all_goals
    simp only [Tok.row, zero_word]
    first | done | split_ifs
  all_goals first
    | rfl
    | omega
    | exact congrArg h ((ix3_inj ..).2 ⟨Fin.ext (by first | (dsimp only; done) | (dsimp only; omega)), rfl, Fin.ext (by first | (dsimp only; done) | (dsimp only; omega))⟩)

/-- A square is not negative. -/
theorem sq_nonneg' (a : EReal) : 0 ≤ a * a := by
  rcases le_total 0 a with h | h
  · exact mul_nonneg h h
  · rw [← neg_mul_neg a a]
    have : 0 ≤ -a := EReal.le_neg_of_le_neg (by simpa using h)
    exact mul_nonneg this this

/-- The root of what is not negative squares to it. -/
theorem sqrt_sq {x : EReal} (h : 0 ≤ x) : Ideal.sqrt x * Ideal.sqrt x = x := by
  induction x with
  | bot => exact absurd h (by simp)
  | top => show (⊤ : EReal) * ⊤ = ⊤; simp
  | coe r =>
    have hr : 0 ≤ r := by exact_mod_cast h
    show (if r < 0 then (⊥ : EReal) else (Real.sqrt r : EReal)) * (if r < 0 then (⊥ : EReal) else (Real.sqrt r : EReal)) = _
    rw [if_neg (not_lt.2 hr), ← EReal.coe_mul, Real.mul_self_sqrt hr]

/-- The word of ten. -/
theorem word_ten : Ideal.ofBits FTy.f32 1092616192#32 = ((10 : ℝ) : EReal) := by
  simp [Ideal.ofBits, Ideal.ieee, -EReal.coe_mul]; norm_num

/-- The word of four. -/
theorem word_four : Ideal.ofBits FTy.f32 1082130432#32 = ((4 : ℝ) : EReal) := by
  simp [Ideal.ofBits, Ideal.ieee, -EReal.coe_mul]; norm_num

/-- The word of a quarter. -/
theorem word_quarter : Ideal.ofBits FTy.f32 1048576000#32 = ((1 / 4 : ℝ) : EReal) := by
  simp [Ideal.ofBits, Ideal.ieee, -EReal.coe_mul]; norm_num

/-- The logarithm of ten. -/
theorem log_ten : Ideal.log (Ideal.ofBits FTy.f32 1092616192#32) = ((Real.log 10 : ℝ) : EReal) := by
  rw [word_ten]
  show (if (10 : ℝ) ≤ 0 then (⊥ : EReal) else (Real.log 10 : EReal)) = _
  rw [if_neg (by norm_num)]

/-- The reference's power spectrum at a frequency and a frame: the two sums' squares, added. -/
theorem power_at (f : FVec Ideal S4x601x400 .f32) (C S : FVec Ideal S400x201 .f32) (b : Fin 4) (k : Fin 201) (t : Fin 600) :
    power f C S (ix3 b k t)
      = (∑ n, f (ix3 b ⟨t, by omega⟩ n) * C (ix2 n k)) * (∑ n, f (ix3 b ⟨t, by omega⟩ n) * C (ix2 n k))
        + (∑ n, f (ix3 b ⟨t, by omega⟩ n) * S (ix2 n k)) * (∑ n, f (ix3 b ⟨t, by omega⟩ n) * S (ix2 n k)) := by
  pointwise [power]
  rw [neg_mul_neg]
  exact sqrt_sq (add_nonneg (sq_nonneg' _) (sq_nonneg' _))

/-- The reference's logarithm of a band, over that of ten. -/
theorem logMel_at (p : FVec Ideal S4x201x600 .f32) (mf : FVec Ideal S128x201 .f32) (b : Fin 4) (k : Fin 128) (t : Fin 600) :
    logMel p mf (ix3 b k t) = Ideal.log (max (∑ x, p (ix3 b x t) * mf (ix2 k x)) (Ideal.ofBits FTy.f32 786163455#32))
      * (((Real.log 10)⁻¹ : ℝ) : EReal) := by
  pointwise [logMel]
  unfold id
  pointwise
  rw [log_ten, Ideal.div_coe (Real.log_pos (by norm_num)).ne', one_div, max_comm]

/-- The reference's normalised bands. -/
theorem normMel_at (l : FVec Ideal S4x128x600 .f32) (b : Fin 4) (k : Fin 128) (t : Fin 600) :
    normMel l (ix3 b k t) = Tok.norm (fun t k => l (ix3 b k t)) t k := by
  unfold Tok.norm
  pointwise [normMel]
  rw [word_four, Ideal.div_coe (by norm_num), word_quarter,
    ← Finset.map_univ_equiv (Equiv.prodComm (Fin 600) (Fin 128)), Finset.fold_map]
  rfl

/-- The reference's distance of a row to a code. -/
theorem dist_at (e : FVec Ideal S600x1024 .f32) (c : FVec Ideal S6561x1024 .f32) (r : Fin 600) (k : Fin 6561) : Stage.dist e c (ix2 r k)
      = Ideal.sqrt (max (∑ x, e (ix2 r x) * e (ix2 r x) + ∑ x, c (ix2 k x) * c (ix2 k x)
          - ∑ x, Ideal.ofBits FTy.f32 1073741824#32 * e (ix2 r x) * c (ix2 k x)) (Ideal.ofBits FTy.f32 730643660#32)) := by
  pointwise [Stage.dist]

end Cert.RefAt

end
-- ==== Proof.Host.lean ====
/- What the kernel's host lines lay out for the region, each operand as a function of the arguments. -/
module

public import proofs.«01_k».proof.Proof.Gen.KernelIdeal.Frame
public import proofs.«01_k».proof.Proof.Tables
public import proofs.«01_k».proof.Proof.Scatters
public import proofs.«01_k».proof.Proof.RefAt
public import Idealize.ShloMosaic.Lib.Pipeline.ValueKit
public import Idealize.ShloMosaic.Lib.Pointwise
import Idealize.ShloMosaic.Lib.StableHlo.RunRead
public import Idealize.ShloMosaic.PureOps.Ideal

@[expose] public section

set_option maxRecDepth 16384

noncomputable section

namespace Cert.Host

open Cert.KernelIdeal Cert.KernelIdeal.Gen Idealize.ShloMosaic Idealize.ShloMosaic.TcCoe

/-- A table with 55 columns of the filling. -/
def widened (C : FVec Ideal S400x201 .f32) (z : FVec Ideal S_ .f32) : FVec Ideal S400x256 .f32 :=
  pad S400x256 ![0, 0] ![0, 55] ![0, 0] C z pads_S400x201_S400x256_000_0550 h_S_

/-- A table under the window, with 55 columns of zeros. -/
def windowed (C : FVec Ideal S400x201 .f32) (win : FVec Ideal S400 .f32) : FVec Ideal S400x256 .f32 :=
  mulf (widened C (sitofp .f32 (constantI S_ 32 0#32)))
    (broadcastInDim S400x256 ![0, 1] bcast_S400x1_S400x256_0_1 (broadcastInDim S400x1 ![0] bcast_S400_S400x1_0 win))

/-- A table under the window, entry by entry: columns past the last frequency are zero. -/
theorem windowed_at (C : FVec Ideal S400x201 .f32) (win : FVec Ideal S400 .f32) (n : Fin 400) (x : Fin 201) :
    windowed C win (ix2 n ⟨x, by omega⟩) = C (ix2 n x) * win (ix1 n) := by
  pointwise [windowed, widened]

/-- The tables of the two programs. -/
theorem cos_same : Tables.cosOf (fun i => FloatOps.ofBits (F := Ideal) .f32 (lit0 (S400.rowMajor i)))
    (fun i => FloatOps.ofBits (F := Ideal) .f32 (lit1 (S1534.rowMajor i))) (fun i => lit2 (S1534.rowMajor i))
    (fun i => lit3 (S1534.rowMajor i)) = Stage.cosTable := by
  rw [Tables.cosOf_eq]
  unfold Stage.cosTable
  rw [(funext fun i => congrArg _ (Tables.lit0_eq _) : (fun i => FloatOps.ofBits (F := Ideal) .f32 (lit0 (S400.rowMajor i))) = Stage.turnCos),
    (funext fun i => congrArg _ (Tables.lit1_eq _) : (fun i => FloatOps.ofBits (F := Ideal) .f32 (lit1 (S1534.rowMajor i))) = Stage.wordsCos),
    (funext fun i => Tables.lit2_eq _ : (fun i => lit2 (S1534.rowMajor i)) = Stage.rowsCos),
    (funext fun i => Tables.lit3_eq _ : (fun i => lit3 (S1534.rowMajor i)) = Stage.colsCos)]

/-- The kernel's table of sines is the reference's. -/
theorem sin_same : Tables.sinOf (fun i => FloatOps.ofBits (F := Ideal) .f32 (lit4 (S400.rowMajor i)))
    (fun i => FloatOps.ofBits (F := Ideal) .f32 (lit5 (S2388.rowMajor i))) (fun i => lit6 (S2388.rowMajor i))
    (fun i => lit7 (S2388.rowMajor i)) = Stage.sinTable := by
  rw [Tables.sinOf_eq]
  unfold Stage.sinTable
  rw [(funext fun i => congrArg _ (Tables.lit4_eq _) : (fun i => FloatOps.ofBits (F := Ideal) .f32 (lit4 (S400.rowMajor i))) = Stage.turnSin),
    (funext fun i => congrArg _ (Tables.lit5_eq _) : (fun i => FloatOps.ofBits (F := Ideal) .f32 (lit5 (S2388.rowMajor i))) = Stage.wordsSin),
    (funext fun i => Tables.lit6_eq _ : (fun i => lit6 (S2388.rowMajor i)) = Stage.rowsSin),
    (funext fun i => Tables.lit7_eq _ : (fun i => lit7 (S2388.rowMajor i)) = Stage.colsSin)]

variable (m : (ℓ : Loc nD τ sig) → Buf (Elt Ideal) ℓ) (c : Dev nD)

/-- The kernel's frames, of the reflected clips. -/
theorem frames_eq : V m c main_v16 = Tables.framesOf (Stage.reflectPad (m ((c : Thread nD τ).loc main_arg0))) := by
  unfold V V0
  simp only [hostOps0, hostOps0_1, hostOps0_2, hostOps0_3, hostOps0_4, hostOps0_5, hostOps0_6, List.flatten_cons,
    List.flatten_nil, List.append_nil, List.cons_append, List.nil_append]
  after_results_simp
  try after_results_loop
  rfl

/-- The table of cosines that the kernel reads, from its parts. -/
theorem cos_read : V m c main_v42 = windowed (Tables.cosOf (fun i => FloatOps.ofBits (F := Ideal) .f32 (lit0 (S400.rowMajor i))) (fun i => FloatOps.ofBits (F := Ideal) .f32 (lit1 (S1534.rowMajor i))) (fun i => lit2 (S1534.rowMajor i)) (fun i => lit3 (S1534.rowMajor i))) (m ((c : Thread nD τ).loc main_arg11)) := by
  unfold V V0
  simp only [hostOps0, hostOps0_1, hostOps0_2, hostOps0_3, hostOps0_4, hostOps0_5, hostOps0_6, List.flatten_cons,
    List.flatten_nil, List.append_nil, List.cons_append, List.nil_append]
  after_results_simp
  try after_results_loop
  unfold windowed
  refine congrArg₂ mulf ?_ rfl
  refine congrArg₂ widened ?_ rfl
  exact eq_of_heq (cast_heq _ _)

/-- The table of sines that the kernel reads, from its parts. -/
theorem sin_read : V m c main_v67 = windowed (Tables.sinOf (fun i => FloatOps.ofBits (F := Ideal) .f32 (lit4 (S400.rowMajor i))) (fun i => FloatOps.ofBits (F := Ideal) .f32 (lit5 (S2388.rowMajor i))) (fun i => lit6 (S2388.rowMajor i)) (fun i => lit7 (S2388.rowMajor i))) (m ((c : Thread nD τ).loc main_arg11)) := by
  unfold V V0
  simp only [hostOps0, hostOps0_1, hostOps0_2, hostOps0_3, hostOps0_4, hostOps0_5, hostOps0_6, List.flatten_cons,
    List.flatten_nil, List.append_nil, List.cons_append, List.nil_append]
  after_results_simp
  try after_results_loop
  unfold windowed
  refine congrArg₂ mulf ?_ rfl
  refine congrArg₂ widened ?_ rfl
  exact eq_of_heq (cast_heq _ _)

/-- The table of cosines that the kernel reads. -/
theorem cos_eq : V m c main_v42 = windowed Stage.cosTable (m ((c : Thread nD τ).loc main_arg11)) := by
  rw [cos_read, cos_same]

/-- The table of sines that the kernel reads. -/
theorem sin_eq : V m c main_v67 = windowed Stage.sinTable (m ((c : Thread nD τ).loc main_arg11)) := by
  rw [sin_read, sin_same]

/-- The kernel's filters: transposed, with rows of zeros past the last frequency. -/
theorem melt_eq : V m c main_v71 = Scatters.melt (m ((c : Thread nD τ).loc main_arg10)) := by
  unfold V V0
  simp only [hostOps0, hostOps0_1, hostOps0_2, hostOps0_3, hostOps0_4, hostOps0_5, hostOps0_6, List.flatten_cons,
    List.flatten_nil, List.append_nil, List.cons_append, List.nil_append]
  after_results_simp
  try after_results_loop
  rfl

/-- The kernel's codes: transposed, with columns of zeros past the last code. -/
theorem codes_eq : V m c main_v83 = Scatters.codes (m ((c : Thread nD τ).loc main_arg9)) := by
  unfold V V0
  simp only [hostOps0, hostOps0_1, hostOps0_2, hostOps0_3, hostOps0_4, hostOps0_5, hostOps0_6, List.flatten_cons,
    List.flatten_nil, List.append_nil, List.cons_append, List.nil_append]
  after_results_simp
  try after_results_loop
  rfl

/-- The kernel's squared norms: of the codes, and the stand-in past the last code. -/
theorem norms_eq : V m c main_v90 = Scatters.norms (m ((c : Thread nD τ).loc main_arg9)) := by
  unfold V V0
  simp only [hostOps0, hostOps0_1, hostOps0_2, hostOps0_3, hostOps0_4, hostOps0_5, hostOps0_6, List.flatten_cons,
    List.flatten_nil, List.append_nil, List.cons_append, List.nil_append]
  after_results_simp
  try after_results_loop
  rfl

/-- The first layer's weights, tap after tap. -/
theorem w1_at (j : Fin 3) (i : Fin 128) (o : Fin 512) : V m c main_v73 (ix2 ⟨128 * (j : ℕ) + i, by omega⟩ o) = (m ((c : Thread nD τ).loc main_arg1)) (ix3 o i j) := by
  unfold V V0
  simp only [hostOps0, hostOps0_1, hostOps0_2, hostOps0_3, hostOps0_4, hostOps0_5, hostOps0_6, List.flatten_cons,
    List.flatten_nil, List.append_nil, List.cons_append, List.nil_append]
  after_results_simp
  try after_results_loop
  pointwise

/-- The second layer's weights, tap after tap. -/
theorem w2_at (j : Fin 3) (i : Fin 512) (o : Fin 512) : V m c main_v75 (ix2 ⟨512 * (j : ℕ) + i, by omega⟩ o) = (m ((c : Thread nD τ).loc main_arg3)) (ix3 o i j) := by
  unfold V V0
  simp only [hostOps0, hostOps0_1, hostOps0_2, hostOps0_3, hostOps0_4, hostOps0_5, hostOps0_6, List.flatten_cons,
    List.flatten_nil, List.append_nil, List.cons_append, List.nil_append]
  after_results_simp
  try after_results_loop
  pointwise

/-- The third layer's weights, tap after tap. -/
theorem w3_at (j : Fin 3) (i : Fin 512) (o : Fin 1024) : V m c main_v77 (ix2 ⟨512 * (j : ℕ) + i, by omega⟩ o) = (m ((c : Thread nD τ).loc main_arg5)) (ix3 o i j) := by
  unfold V V0
  simp only [hostOps0, hostOps0_1, hostOps0_2, hostOps0_3, hostOps0_4, hostOps0_5, hostOps0_6, List.flatten_cons,
    List.flatten_nil, List.append_nil, List.cons_append, List.nil_append]
  after_results_simp
  try after_results_loop
  pointwise

/-- The fourth layer's weights, tap after tap. -/
theorem w4_at (j : Fin 3) (i : Fin 1024) (o : Fin 1024) : V m c main_v79 (ix2 ⟨1024 * (j : ℕ) + i, by omega⟩ o) = (m ((c : Thread nD τ).loc main_arg7)) (ix3 o i j) := by
  unfold V V0
  simp only [hostOps0, hostOps0_1, hostOps0_2, hostOps0_3, hostOps0_4, hostOps0_5, hostOps0_6, List.flatten_cons,
    List.flatten_nil, List.append_nil, List.cons_append, List.nil_append]
  after_results_simp
  try after_results_loop
  pointwise

/-- The first layer's bias as a row. -/
theorem b1_at (o : Fin 512) : V m c main_v91 (ix2 0 o) = (m ((c : Thread nD τ).loc main_arg2)) (ix1 o) := by
  unfold V V0
  simp only [hostOps0, hostOps0_1, hostOps0_2, hostOps0_3, hostOps0_4, hostOps0_5, hostOps0_6, List.flatten_cons,
    List.flatten_nil, List.append_nil, List.cons_append, List.nil_append]
  after_results_simp
  try after_results_loop
  pointwise

/-- The second layer's bias as a row. -/
theorem b2_at (o : Fin 512) : V m c main_v92 (ix2 0 o) = (m ((c : Thread nD τ).loc main_arg4)) (ix1 o) := by
  unfold V V0
  simp only [hostOps0, hostOps0_1, hostOps0_2, hostOps0_3, hostOps0_4, hostOps0_5, hostOps0_6, List.flatten_cons,
    List.flatten_nil, List.append_nil, List.cons_append, List.nil_append]
  after_results_simp
  try after_results_loop
  pointwise

/-- The third layer's bias as a row. -/
theorem b3_at (o : Fin 1024) : V m c main_v93 (ix2 0 o) = (m ((c : Thread nD τ).loc main_arg6)) (ix1 o) := by
  unfold V V0
  simp only [hostOps0, hostOps0_1, hostOps0_2, hostOps0_3, hostOps0_4, hostOps0_5, hostOps0_6, List.flatten_cons,
    List.flatten_nil, List.append_nil, List.cons_append, List.nil_append]
  after_results_simp
  try after_results_loop
  pointwise

/-- The fourth layer's bias as a row. -/
theorem b4_at (o : Fin 1024) : V m c main_v94 (ix2 0 o) = (m ((c : Thread nD τ).loc main_arg8)) (ix1 o) := by
  unfold V V0
  simp only [hostOps0, hostOps0_1, hostOps0_2, hostOps0_3, hostOps0_4, hostOps0_5, hostOps0_6, List.flatten_cons,
    List.flatten_nil, List.append_nil, List.cons_append, List.nil_append]
  after_results_simp
  try after_results_loop
  pointwise

end Cert.Host

end
-- ==== Proof.KerStages.lean ====
/- The stages of the kernel's body over the extended reals: each is the composed term of a run of its consecutive
   operations, and the written block is their composition. -/
module

public import proofs.«01_k».proof.Proof.Gen.KernelIdeal.Skeleton
public import Idealize.ShloMosaic.PureOps.Ideal

@[expose] public section

set_option maxRecDepth 16384

noncomputable section

namespace Cert.KerAt

open Cert.KernelIdeal Cert.KernelIdeal.Gen Idealize.ShloMosaic Idealize.ShloMosaic.TcCoe

/-- The first layer of the kernel: 128 bands to 512 channels, with the largest of zero and the sum. -/
def conv1 (v29 : FVec Ideal S600x128 .f32) (v31 : FVec Ideal S384x512 .f32) (v46 : FVec Ideal S1x512 .f32) : FVec Ideal S600x512 .f32 :=
  let cst_18 : Ideal .f32 := Scalar.ofBits .f32 0x00000000#32
  let v32 : FVec Ideal S1x128 .f32 := broadcast S1x128 cst_18
  let v33 : FVec Ideal S599x128 .f32 := extractStridedSlice S599x128 ![0, 0] v29 slices_S600x128_o0_0_S599x128
  let v34 : FVec Ideal S600x128 .f32 := concatenate S600x128 0 [⟨S1x128, v32⟩, ⟨S599x128, v33⟩] concatenates_S1x128_S599x128_S600x128_d0
  let v35 : FVec Ideal S128x512 .f32 := extractStridedSlice S128x512 ![0, 0] v31 slices_S384x512_o0_0_S128x512
  let cst_19 : FVec Ideal S600x512 .f32 := constant S600x512 .f32 0x00000000#32
  let v36 : FVec Ideal S600x512 .f32 := matmul dot_S600x128_S128x512_S600x512_1_0_0_1_n_n none v34 v35 cst_19
  let v37 : FVec Ideal S128x512 .f32 := extractStridedSlice S128x512 ![128, 0] v31 slices_S384x512_o128_0_S128x512
  let cst_20 : FVec Ideal S600x512 .f32 := constant S600x512 .f32 0x00000000#32
  let v38 : FVec Ideal S600x512 .f32 := matmul dot_S600x128_S128x512_S600x512_1_0_0_1_n_n none v29 v37 cst_20
  let v39 : FVec Ideal S600x512 .f32 := addf v36 v38
  let v40 : FVec Ideal S599x128 .f32 := extractStridedSlice S599x128 ![1, 0] v29 slices_S600x128_o1_0_S599x128
  let cst_21 : Ideal .f32 := Scalar.ofBits .f32 0x00000000#32
  let v41 : FVec Ideal S1x128 .f32 := broadcast S1x128 cst_21
  let v42 : FVec Ideal S600x128 .f32 := concatenate S600x128 0 [⟨S599x128, v40⟩, ⟨S1x128, v41⟩] concatenates_S599x128_S1x128_S600x128_d0
  let v43 : FVec Ideal S128x512 .f32 := extractStridedSlice S128x512 ![256, 0] v31 slices_S384x512_o256_0_S128x512
  let cst_22 : FVec Ideal S600x512 .f32 := constant S600x512 .f32 0x00000000#32
  let v44 : FVec Ideal S600x512 .f32 := matmul dot_S600x128_S128x512_S600x512_1_0_0_1_n_n none v42 v43 cst_22
  let v45 : FVec Ideal S600x512 .f32 := addf v39 v44
  let v47 : FVec Ideal S1x512 .f32 := shapeCast S1x512 v46 shapeCasts_S1x512_S1x512
  let v48 : FVec Ideal S600x512 .f32 := broadcastTo S600x512 v47 broadcasts_S1x512_S600x512
  let v49 : FVec Ideal S600x512 .f32 := addf v45 v48
  let cst_25 : Ideal .f32 := Scalar.ofBits .f32 0x00000000#32
  let v50 : FVec Ideal S600x512 .f32 := broadcast S600x512 cst_25
  let v51 : FVec Ideal S600x512 .f32 := maximumf v49 v50
  v51

/-- The second layer of the kernel, from the even and the odd rows. -/
def conv2 (v51 : FVec Ideal S600x512 .f32) (v57 : FVec Ideal S1536x512 .f32) (v70 : FVec Ideal S1x512 .f32) : FVec Ideal S300x512 .f32 :=
  let v52 : FVec Ideal S300x2x512 .f32 := shapeCast S300x2x512 v51 shapeCasts_S600x512_S300x2x512
  let v53 : FVec Ideal S300x1x512 .f32 := extractStridedSlice S300x1x512 ![0, 0, 0] v52 slices_S300x2x512_o0_0_0_S300x1x512
  let v54 : FVec Ideal S300x512 .f32 := shapeCast S300x512 v53 shapeCasts_S300x1x512_S300x512
  let v55 : FVec Ideal S300x1x512 .f32 := extractStridedSlice S300x1x512 ![0, 1, 0] v52 slices_S300x2x512_o0_1_0_S300x1x512
  let v56 : FVec Ideal S300x512 .f32 := shapeCast S300x512 v55 shapeCasts_S300x1x512_S300x512
  let v58 : FVec Ideal S1536x512 .f32 := shapeCast S1536x512 v57 shapeCasts_S1536x512_S1536x512
  let cst_28 : Ideal .f32 := Scalar.ofBits .f32 0x00000000#32
  let v59 : FVec Ideal S1x512 .f32 := broadcast S1x512 cst_28
  let v60 : FVec Ideal S299x512 .f32 := extractStridedSlice S299x512 ![0, 0] v56 slices_S300x512_o0_0_S299x512
  let v61 : FVec Ideal S300x512 .f32 := concatenate S300x512 0 [⟨S1x512, v59⟩, ⟨S299x512, v60⟩] concatenates_S1x512_S299x512_S300x512_d0
  let v62 : FVec Ideal S512x512 .f32 := extractStridedSlice S512x512 ![0, 0] v58 slices_S1536x512_o0_0_S512x512
  let cst_29 : FVec Ideal S300x512 .f32 := constant S300x512 .f32 0x00000000#32
  let v63 : FVec Ideal S300x512 .f32 := matmul dot_S300x512_S512x512_S300x512_1_0_0_1_n_n none v61 v62 cst_29
  let v64 : FVec Ideal S512x512 .f32 := extractStridedSlice S512x512 ![512, 0] v58 slices_S1536x512_o512_0_S512x512
  let cst_30 : FVec Ideal S300x512 .f32 := constant S300x512 .f32 0x00000000#32
  let v65 : FVec Ideal S300x512 .f32 := matmul dot_S300x512_S512x512_S300x512_1_0_0_1_n_n none v54 v64 cst_30
  let v66 : FVec Ideal S300x512 .f32 := addf v63 v65
  let v67 : FVec Ideal S512x512 .f32 := extractStridedSlice S512x512 ![1024, 0] v58 slices_S1536x512_o1024_0_S512x512
  let cst_31 : FVec Ideal S300x512 .f32 := constant S300x512 .f32 0x00000000#32
  let v68 : FVec Ideal S300x512 .f32 := matmul dot_S300x512_S512x512_S300x512_1_0_0_1_n_n none v56 v67 cst_31
  let v69 : FVec Ideal S300x512 .f32 := addf v66 v68
  let v71 : FVec Ideal S1x512 .f32 := shapeCast S1x512 v70 shapeCasts_S1x512_S1x512
  let v72 : FVec Ideal S300x512 .f32 := broadcastTo S300x512 v71 broadcasts_S1x512_S300x512
  let v73 : FVec Ideal S300x512 .f32 := addf v69 v72
  let cst_34 : Ideal .f32 := Scalar.ofBits .f32 0x00000000#32
  let v74 : FVec Ideal S300x512 .f32 := broadcast S300x512 cst_34
  let v75 : FVec Ideal S300x512 .f32 := maximumf v73 v74
  v75

/-- The third layer of the kernel, from the even and the odd rows. -/
def conv3 (v75 : FVec Ideal S300x512 .f32) (v81 : FVec Ideal S1536x1024 .f32) (v94 : FVec Ideal S1x1024 .f32) : FVec Ideal S150x1024 .f32 :=
  let v76 : FVec Ideal S150x2x512 .f32 := shapeCast S150x2x512 v75 shapeCasts_S300x512_S150x2x512
  let v77 : FVec Ideal S150x1x512 .f32 := extractStridedSlice S150x1x512 ![0, 0, 0] v76 slices_S150x2x512_o0_0_0_S150x1x512
  let v78 : FVec Ideal S150x512 .f32 := shapeCast S150x512 v77 shapeCasts_S150x1x512_S150x512
  let v79 : FVec Ideal S150x1x512 .f32 := extractStridedSlice S150x1x512 ![0, 1, 0] v76 slices_S150x2x512_o0_1_0_S150x1x512
  let v80 : FVec Ideal S150x512 .f32 := shapeCast S150x512 v79 shapeCasts_S150x1x512_S150x512
  let v82 : FVec Ideal S1536x1024 .f32 := shapeCast S1536x1024 v81 shapeCasts_S1536x1024_S1536x1024
  let cst_37 : Ideal .f32 := Scalar.ofBits .f32 0x00000000#32
  let v83 : FVec Ideal S1x512 .f32 := broadcast S1x512 cst_37
  let v84 : FVec Ideal S149x512 .f32 := extractStridedSlice S149x512 ![0, 0] v80 slices_S150x512_o0_0_S149x512
  let v85 : FVec Ideal S150x512 .f32 := concatenate S150x512 0 [⟨S1x512, v83⟩, ⟨S149x512, v84⟩] concatenates_S1x512_S149x512_S150x512_d0
  let v86 : FVec Ideal S512x1024 .f32 := extractStridedSlice S512x1024 ![0, 0] v82 slices_S1536x1024_o0_0_S512x1024
  let cst_38 : FVec Ideal S150x1024 .f32 := constant S150x1024 .f32 0x00000000#32
  let v87 : FVec Ideal S150x1024 .f32 := matmul dot_S150x512_S512x1024_S150x1024_1_0_0_1_n_n none v85 v86 cst_38
  let v88 : FVec Ideal S512x1024 .f32 := extractStridedSlice S512x1024 ![512, 0] v82 slices_S1536x1024_o512_0_S512x1024
  let cst_39 : FVec Ideal S150x1024 .f32 := constant S150x1024 .f32 0x00000000#32
  let v89 : FVec Ideal S150x1024 .f32 := matmul dot_S150x512_S512x1024_S150x1024_1_0_0_1_n_n none v78 v88 cst_39
  let v90 : FVec Ideal S150x1024 .f32 := addf v87 v89
  let v91 : FVec Ideal S512x1024 .f32 := extractStridedSlice S512x1024 ![1024, 0] v82 slices_S1536x1024_o1024_0_S512x1024
  let cst_40 : FVec Ideal S150x1024 .f32 := constant S150x1024 .f32 0x00000000#32
  let v92 : FVec Ideal S150x1024 .f32 := matmul dot_S150x512_S512x1024_S150x1024_1_0_0_1_n_n none v80 v91 cst_40
  let v93 : FVec Ideal S150x1024 .f32 := addf v90 v92
  let v95 : FVec Ideal S1x1024 .f32 := shapeCast S1x1024 v94 shapeCasts_S1x1024_S1x1024
  let v96 : FVec Ideal S150x1024 .f32 := broadcastTo S150x1024 v95 broadcasts_S1x1024_S150x1024
  let v97 : FVec Ideal S150x1024 .f32 := addf v93 v96
  let cst_43 : Ideal .f32 := Scalar.ofBits .f32 0x00000000#32
  let v98 : FVec Ideal S150x1024 .f32 := broadcast S150x1024 cst_43
  let v99 : FVec Ideal S150x1024 .f32 := maximumf v97 v98
  v99

/-- The fourth layer of the kernel. -/
def conv4 (v99 : FVec Ideal S150x1024 .f32) (v100 : FVec Ideal S3072x1024 .f32) (v116 : FVec Ideal S1x1024 .f32) : FVec Ideal S150x1024 .f32 :=
  let v101 : FVec Ideal S3072x1024 .f32 := shapeCast S3072x1024 v100 shapeCasts_S3072x1024_S3072x1024
  let cst_46 : Ideal .f32 := Scalar.ofBits .f32 0x00000000#32
  let v102 : FVec Ideal S1x1024 .f32 := broadcast S1x1024 cst_46
  let v103 : FVec Ideal S149x1024 .f32 := extractStridedSlice S149x1024 ![0, 0] v99 slices_S150x1024_o0_0_S149x1024
  let v104 : FVec Ideal S150x1024 .f32 := concatenate S150x1024 0 [⟨S1x1024, v102⟩, ⟨S149x1024, v103⟩] concatenates_S1x1024_S149x1024_S150x1024_d0
  let v105 : FVec Ideal S1024x1024 .f32 := extractStridedSlice S1024x1024 ![0, 0] v101 slices_S3072x1024_o0_0_S1024x1024
  let cst_47 : FVec Ideal S150x1024 .f32 := constant S150x1024 .f32 0x00000000#32
  let v106 : FVec Ideal S150x1024 .f32 := matmul dot_S150x1024_S1024x1024_S150x1024_1_0_0_1_n_n none v104 v105 cst_47
  let v107 : FVec Ideal S1024x1024 .f32 := extractStridedSlice S1024x1024 ![1024, 0] v101 slices_S3072x1024_o1024_0_S1024x1024
  let cst_48 : FVec Ideal S150x1024 .f32 := constant S150x1024 .f32 0x00000000#32
  let v108 : FVec Ideal S150x1024 .f32 := matmul dot_S150x1024_S1024x1024_S150x1024_1_0_0_1_n_n none v99 v107 cst_48
  let v109 : FVec Ideal S150x1024 .f32 := addf v106 v108
  let v110 : FVec Ideal S149x1024 .f32 := extractStridedSlice S149x1024 ![1, 0] v99 slices_S150x1024_o1_0_S149x1024
  let cst_49 : Ideal .f32 := Scalar.ofBits .f32 0x00000000#32
  let v111 : FVec Ideal S1x1024 .f32 := broadcast S1x1024 cst_49
  let v112 : FVec Ideal S150x1024 .f32 := concatenate S150x1024 0 [⟨S149x1024, v110⟩, ⟨S1x1024, v111⟩] concatenates_S149x1024_S1x1024_S150x1024_d0
  let v113 : FVec Ideal S1024x1024 .f32 := extractStridedSlice S1024x1024 ![2048, 0] v101 slices_S3072x1024_o2048_0_S1024x1024
  let cst_50 : FVec Ideal S150x1024 .f32 := constant S150x1024 .f32 0x00000000#32
  let v114 : FVec Ideal S150x1024 .f32 := matmul dot_S150x1024_S1024x1024_S150x1024_1_0_0_1_n_n none v112 v113 cst_50
  let v115 : FVec Ideal S150x1024 .f32 := addf v109 v114
  let v117 : FVec Ideal S1x1024 .f32 := shapeCast S1x1024 v116 shapeCasts_S1x1024_S1x1024
  let v118 : FVec Ideal S150x1024 .f32 := broadcastTo S150x1024 v117 broadcasts_S1x1024_S150x1024
  let v119 : FVec Ideal S150x1024 .f32 := addf v115 v118
  v119

/-- The distances of the kernel, to the codes and to the columns that fill up the table. -/
def dists (v119 : FVec Ideal S150x1024 .f32) (v122 : FVec Ideal S150x1 .f32) (v123 : FVec Ideal S1x6656 .f32) (v128 : FVec Ideal S1024x6656 .f32) : FVec Ideal S150x6656 .f32 :=
  let v124 : FVec Ideal S1x6656 .f32 := shapeCast S1x6656 v123 shapeCasts_S1x6656_S1x6656
  let v125 : FVec Ideal S150x6656 .f32 := broadcastTo S150x6656 v122 broadcasts_S150x1_S150x6656
  let v126 : FVec Ideal S150x6656 .f32 := broadcastTo S150x6656 v124 broadcasts_S1x6656_S150x6656
  let v127 : FVec Ideal S150x6656 .f32 := addf v125 v126
  let v129 : FVec Ideal S1024x6656 .f32 := shapeCast S1024x6656 v128 shapeCasts_S1024x6656_S1024x6656
  let cst_58 : FVec Ideal S150x6656 .f32 := constant S150x6656 .f32 0x00000000#32
  let v130 : FVec Ideal S150x6656 .f32 := matmul dot_S150x1024_S1024x6656_S150x6656_1_0_0_1_n_n none v119 v129 cst_58
  let cst_59 : Ideal .f32 := Scalar.ofBits .f32 0x40000000#32
  let v131 : FVec Ideal S150x6656 .f32 := broadcast S150x6656 cst_59
  let v132 : FVec Ideal S150x6656 .f32 := mulf v131 v130
  let v133 : FVec Ideal S150x6656 .f32 := subf v127 v132
  let cst_60 : Ideal .f32 := Scalar.ofBits .f32 0x2B8CBCCC#32
  let v134 : FVec Ideal S150x6656 .f32 := broadcast S150x6656 cst_60
  let v135 : FVec Ideal S150x6656 .f32 := maximumf v133 v134
  let v136 : FVec Ideal S150x6656 .f32 := sqrt v135
  v136

/-- The index of the least distance of each row. -/
def least (v136 : FVec Ideal S150x6656 .f32) : IVec S150 32 :=
  let v137 : FVec Ideal S150 .f32 := multiReduction .minimumf [1] S150 v136 0x7F800000#32 reduces_S150x6656_S150 (.inl rfl) rfl
  let v138 : FVec Ideal S150x1 .f32 := shapeCast S150x1 v137 shapeCasts_S150_S150x1
  let v139 : IVec S150x6656 32 := iota .tc S150x6656 32 [1] iota_S150x6656_d1_w32
  let v140 : FVec Ideal S150x6656 .f32 := broadcastTo S150x6656 v138 broadcasts_S150x1_S150x6656
  let v141 : IVec S150x6656 1 := cmpf .ole v136 v140
  let v142 : IVec S150x6656 32 := broadcast S150x6656 2147483647#32
  let v143 : IVec S150x6656 32 := select v141 v139 v142
  let v144 : IVec S150 32 := multiReductionI .minsi [1] S150 v143 2147483647#32 reduces_S150x6656_S150 rfl
  v144

/-- The four layers composed are what the body computes from the bands. -/
theorem layers_eq (v0 : FVec Ideal S1x600x400 .f32) (v2 v5 : FVec Ideal S400x256 .f32) (v11 : FVec Ideal S256x128 .f32)
    (v30 : FVec Ideal S384x512 .f32) (v46 : FVec Ideal S1x512 .f32) (v57 : FVec Ideal S1536x512 .f32)
    (v70 : FVec Ideal S1x512 .f32) (v81 : FVec Ideal S1536x1024 .f32) (v94 : FVec Ideal S1x1024 .f32)
    (v100 : FVec Ideal S3072x1024 .f32) (v116 : FVec Ideal S1x1024 .f32) :
    k0_pay8 (k0_pay6 (k0_pay2 v0 v2 v5 v11) (k0_pay3 v30) (k0_pay4 v0 v2 v5 v11 v30) v46 v57 v70)
        (k0_pay7 (k0_pay2 v0 v2 v5 v11) (k0_pay3 v30) (k0_pay4 v0 v2 v5 v11 v30) v46 v57 v70) v81 v94 v100 v116
      = conv4 (conv3 (conv2 (conv1 (k0_pay2 v0 v2 v5 v11) (k0_pay3 v30) v46) v57 v70) v81 v94) v100 v116 := rfl

/-- The indices written are those of the least distances. -/
theorem least_eq (v119 : FVec Ideal S150x1024 .f32) (v122 : FVec Ideal S150x1 .f32) (v123 : FVec Ideal S1x6656 .f32)
    (v128 : FVec Ideal S1024x6656 .f32) :
    k0_pay1 v119 v122 v123 v128 = shapeCast S1x1x150 (least (dists v119 v122 v123 v128)) shapeCasts_S150_S1x1x150 := rfl

end Cert.KerAt

end
-- ==== Proof.KerAt.lean ====
/- The stages of the kernel's body at an index: each layer is the convolution of three taps, and the rest are the
   sums, the maxima and the minima they are written as. -/
module

public import proofs.«01_k».proof.Proof.KerStages
public import proofs.«01_k».proof.Proof.Spec
public import Idealize.ShloMosaic.Lib.Pointwise

@[expose] public section

set_option maxRecDepth 16384

noncomputable section

namespace Cert.KerAt

open Cert.KernelIdeal Cert.KernelIdeal.Gen Idealize.ShloMosaic Idealize.ShloMosaic.TcCoe

/-- The kernel's first layer at a row and a channel. -/
theorem conv1_at (x : FVec Ideal S600x128 .f32) (w : FVec Ideal S384x512 .f32) (b : FVec Ideal S1x512 .f32)
    (r : Fin 600) (o : Fin 512) : conv1 x w b (ix2 r o)
      = max (Tok.conv 1 (fun t i => x (ix2 t i)) (fun k i o => w (ix2 ⟨128 * (k : ℕ) + i, by omega⟩ o)) (fun o => b (ix2 0 o)) r o) 0 := by
  pointwise [conv1]
  refine congrArg (max · 0) (congrArg₂ (· + ·) (congrArg₂ (· + ·) (congrArg₂ (· + ·) ?_ ?_) ?_) rfl)
  all_goals refine Finset.sum_congr rfl fun i _ => congrArg₂ (· * ·) ?_ (congrArg w ((ix2_inj ..).2 ⟨Fin.ext (by simp), rfl⟩))
  · by_cases h : (r : ℕ) < 1
    · rw [dif_pos h, Tok.row_out _ (by omega)]
    · rw [dif_neg h, Tok.row_of _ (by omega)]
      exact congrArg x ((ix2_inj ..).2 ⟨Fin.ext (by dsimp only; omega), rfl⟩)
  · rw [Tok.row_of _ (by omega)]
    exact congrArg x ((ix2_inj ..).2 ⟨Fin.ext (by dsimp only; omega), rfl⟩)
  · by_cases h : (r : ℕ) < 599
    · rw [dif_pos h, Tok.row_of _ (by omega)]
      exact congrArg x ((ix2_inj ..).2 ⟨Fin.ext (by dsimp only; omega), rfl⟩)
    · rw [dif_neg h, Tok.row_out _ (by omega)]

/-- The kernel's second layer at a row and a channel. -/
theorem conv2_at (x : FVec Ideal S600x512 .f32) (w : FVec Ideal S1536x512 .f32) (b : FVec Ideal S1x512 .f32)
    (r : Fin 300) (o : Fin 512) : conv2 x w b (ix2 r o)
      = max (Tok.conv 2 (fun t i => x (ix2 t i)) (fun k i o => w (ix2 ⟨512 * (k : ℕ) + i, by omega⟩ o)) (fun o => b (ix2 0 o)) r o) 0 := by
  pointwise [conv2]
  refine congrArg (max · 0) (congrArg₂ (· + ·) (congrArg₂ (· + ·) (congrArg₂ (· + ·) ?_ ?_) ?_) rfl)
  all_goals refine Finset.sum_congr rfl fun i _ => congrArg₂ (· * ·) ?_ (congrArg w ((ix2_inj ..).2 ⟨Fin.ext (by simp), rfl⟩))
  · by_cases h : (r : ℕ) < 1
    · rw [dif_pos h, Tok.row_out _ (by omega)]
    · rw [dif_neg h, Tok.row_of _ (by omega)]
      exact congrArg x ((ix2_inj ..).2 ⟨Fin.ext (by dsimp only; omega), rfl⟩)
  · rw [Tok.row_of _ (by omega)]
    exact congrArg x ((ix2_inj ..).2 ⟨Fin.ext (by dsimp only; omega), rfl⟩)
  · rw [Tok.row_of _ (by omega)]
    exact congrArg x ((ix2_inj ..).2 ⟨Fin.ext (by dsimp only; omega), rfl⟩)

/-- The kernel's third layer at a row and a channel. -/
theorem conv3_at (x : FVec Ideal S300x512 .f32) (w : FVec Ideal S1536x1024 .f32) (b : FVec Ideal S1x1024 .f32)
    (r : Fin 150) (o : Fin 1024) : conv3 x w b (ix2 r o)
      = max (Tok.conv 2 (fun t i => x (ix2 t i)) (fun k i o => w (ix2 ⟨512 * (k : ℕ) + i, by omega⟩ o)) (fun o => b (ix2 0 o)) r o) 0 := by
  pointwise [conv3]
  refine congrArg (max · 0) (congrArg₂ (· + ·) (congrArg₂ (· + ·) (congrArg₂ (· + ·) ?_ ?_) ?_) rfl)
  all_goals refine Finset.sum_congr rfl fun i _ => congrArg₂ (· * ·) ?_ (congrArg w ((ix2_inj ..).2 ⟨Fin.ext (by simp), rfl⟩))
  · by_cases h : (r : ℕ) < 1
    · rw [dif_pos h, Tok.row_out _ (by omega)]
    · rw [dif_neg h, Tok.row_of _ (by omega)]
      exact congrArg x ((ix2_inj ..).2 ⟨Fin.ext (by dsimp only; omega), rfl⟩)
  · rw [Tok.row_of _ (by omega)]
    exact congrArg x ((ix2_inj ..).2 ⟨Fin.ext (by dsimp only; omega), rfl⟩)
  · rw [Tok.row_of _ (by omega)]
    exact congrArg x ((ix2_inj ..).2 ⟨Fin.ext (by dsimp only; omega), rfl⟩)

/-- The kernel's fourth layer at a row and a channel. -/
theorem conv4_at (x : FVec Ideal S150x1024 .f32) (w : FVec Ideal S3072x1024 .f32) (b : FVec Ideal S1x1024 .f32)
    (r : Fin 150) (o : Fin 1024) : conv4 x w b (ix2 r o)
      = Tok.conv 1 (fun t i => x (ix2 t i)) (fun k i o => w (ix2 ⟨1024 * (k : ℕ) + i, by omega⟩ o)) (fun o => b (ix2 0 o)) r o := by
  pointwise [conv4]
  refine congrArg₂ (· + ·) (congrArg₂ (· + ·) (congrArg₂ (· + ·) ?_ ?_) ?_) rfl
  all_goals refine Finset.sum_congr rfl fun i _ => congrArg₂ (· * ·) ?_ (congrArg w ((ix2_inj ..).2 ⟨Fin.ext (by simp), rfl⟩))
  · by_cases h : (r : ℕ) < 1
    · rw [dif_pos h, Tok.row_out _ (by omega)]
    · rw [dif_neg h, Tok.row_of _ (by omega)]
      exact congrArg x ((ix2_inj ..).2 ⟨Fin.ext (by dsimp only; omega), rfl⟩)
  · rw [Tok.row_of _ (by omega)]
    exact congrArg x ((ix2_inj ..).2 ⟨Fin.ext (by dsimp only; omega), rfl⟩)
  · by_cases h : (r : ℕ) < 149
    · rw [dif_pos h, Tok.row_of _ (by omega)]
      exact congrArg x ((ix2_inj ..).2 ⟨Fin.ext (by dsimp only; omega), rfl⟩)
    · rw [dif_neg h, Tok.row_out _ (by omega)]

/-- The kernel's distance of a row to a code. -/
theorem dists_at (e : FVec Ideal S150x1024 .f32) (en : FVec Ideal S150x1 .f32) (n : FVec Ideal S1x6656 .f32)
    (c : FVec Ideal S1024x6656 .f32) (r : Fin 150) (k : Fin 6656) : dists e en n c (ix2 r k)
      = Ideal.sqrt (max (en (ix2 r 0) + n (ix2 0 k) - Ideal.ofBits FTy.f32 1073741824#32 * ∑ i, e (ix2 r i) * c (ix2 i k))
          (Ideal.ofBits FTy.f32 730643660#32)) := by
  pointwise [dists]

/-- The kernel's choice for a row: the least column among those at the least distance. -/
theorem least_at (d : FVec Ideal S150x6656 .f32) (r : Fin 150) : least d (ix1 r)
    = Finset.fold IntOp.minsi (2147483647#32) (fun x => if d (ix2 r x) ≤
        Finset.fold min (Ideal.ofBits FTy.f32 2139095040#32) (fun x => d (ix2 r x)) Finset.univ then
          BitVec.ofNat 32 ↑x else 2147483647#32) Finset.univ := by
  pointwise [least]

/-- The squared norm of a row that the kernel adds to its distances. -/
theorem norm_at (x y : FVec Ideal S150x512 .f32) (w : FVec Ideal S1536x1024 .f32) (b : FVec Ideal S1x1024 .f32)
    (w' : FVec Ideal S3072x1024 .f32) (b' : FVec Ideal S1x1024 .f32) (e : FVec Ideal S150x1024 .f32)
    (h : k0_pay8 (F := Ideal) x y w b w' b' = e) (r : Fin 150) :
    k0_pay9 (F := Ideal) x y w b w' b' (ix2 r 0) = ∑ i, e (ix2 r i) * e (ix2 r i) := by
  unfold k0_pay9
  rw [h]
  pointwise

/-- The bands of one lane, from its frames and the three tables. -/
theorem mel_at (v0 : Vec Ideal S1x600x400 .f32) (v2 v5 : Vec Ideal S400x256 .f32) (v11 : Vec Ideal S256x128 .f32)
    (r : Fin 600) (k : Fin 128) : k0_pay2 v0 v2 v5 v11 (ix2 r k)
      = Tok.norm (fun t k => Ideal.log (max (∑ x : Fin 256,
          ((∑ n, v0 (ix3 0 t n) * v2 (ix2 n x)) * (∑ n, v0 (ix3 0 t n) * v2 (ix2 n x))
            + (∑ n, v0 (ix3 0 t n) * v5 (ix2 n x)) * (∑ n, v0 (ix3 0 t n) * v5 (ix2 n x))) * v11 (ix2 x k))
          (Ideal.ofBits FTy.f32 786163455#32)) * (((Real.log 10)⁻¹ : ℝ) : EReal)) r k := by
  unfold Tok.norm
  rw [← IdealRules.named_const.ideal_named_scalar κ "inv_ln10" (φ := .f32) 0x3EDE5BD9#32 _ rfl]
  pointwise [k0_pay2]

end Cert.KerAt

end
-- ==== Proof.Lane.lean ====
/- One lane of the kernel against one clip of the reference: the bands, the four layers. -/
module

public import proofs.«01_k».proof.Proof.Host
public import proofs.«01_k».proof.Proof.KerAt
public import proofs.«01_k».proof.Proof.RefAt

@[expose] public section

set_option maxRecDepth 16384

noncomputable section

namespace Cert.Lane

open Cert.KernelIdeal Cert.KernelIdeal.Gen Idealize.ShloMosaic Idealize.ShloMosaic.TcCoe

/-- The bands of lane `b` are those of clip `b`. -/
theorem mel (xp : FVec Ideal S4x96400 .f32) (win : FVec Ideal S400 .f32) (C S : FVec Ideal S400x201 .f32) (mf : FVec Ideal S128x201 .f32)
    (b : Fin 4) (v0 : FVec Ideal S1x600x400 .f32) (h0 : ∀ t n, v0 (ix3 0 t n) = Tables.framesOf xp (ix3 b t n))
    (t : Fin 600) (k : Fin 128) :
    k0_pay2 v0 (Host.windowed C win) (Host.windowed S win) (Scatters.melt mf) (ix2 t k)
      = Stage.normMel (Stage.logMel (Stage.power (Stage.frames xp Stage.frameIdx win) C S) mf) (ix3 b k t) := by
  have hw : ∀ (D : FVec Ideal S400x201 .f32) (t : Fin 600) (x : Fin 201),
      ∑ n, v0 (ix3 0 t n) * Host.windowed D win (ix2 n ⟨x, by omega⟩)
        = ∑ n, Stage.frames xp Stage.frameIdx win (ix3 b ⟨t, by omega⟩ n) * D (ix2 n x) := fun D t x =>
    Finset.sum_congr rfl fun n _ => by
      rw [h0, Host.windowed_at, Tables.framesOf_at, mul_comm (D _), mul_assoc]
  rw [KerAt.mel_at, RefAt.normMel_at]
  refine congrArg (fun l => Tok.norm l t k) (funext fun t => funext fun k => ?_)
  rw [RefAt.logMel_at]
  refine congrArg (fun x : EReal => Ideal.log (max x _) * _) ?_
  refine (Fin.sum_univ_add (a := 201) (b := 55) _).trans ?_
  refine (congrArg₂ (· + ·) (Finset.sum_congr rfl fun x _ => ?_) (Finset.sum_eq_zero fun x _ => ?_)).trans (add_zero _)
  · rw [RefAt.power_at, Scatters.melt_at, dif_pos (show ((Fin.castAdd 55 x : Fin 256) : ℕ) < 201 from x.isLt)]
    exact congrArg₂ (· * ·) (congrArg₂ (· + ·) (congrArg₂ (· * ·) (hw C t x) (hw C t x)) (congrArg₂ (· * ·) (hw S t x) (hw S t x))) rfl
  · rw [Scatters.melt_at, dif_neg (show ¬ ((Fin.natAdd 201 x : Fin 256) : ℕ) < 201 from by simp), mul_zero]

/-- The first layer's weights pass through unchanged. -/
theorem pay3 (w : FVec Ideal S384x512 .f32) : k0_pay3 w = w := by
  funext j
  idx_vars j
  pointwise [k0_pay3]

/-- The rows to encode of lane `b` are rows 150 b, … of the reference. -/
theorem rows (h : FVec Ideal ReferenceIdeal.S4x128x600 .f32) (x : FVec Ideal S600x128 .f32) (b : Fin 4) (hx : ∀ t i, x (ix2 t i) = h (ix3 b i t))
    (a1 : FVec Ideal S512x128x3 .f32) (a2 : FVec Ideal S512 .f32) (a3 : FVec Ideal S512x512x3 .f32) (a4 : FVec Ideal S512 .f32)
    (a5 : FVec Ideal S1024x512x3 .f32) (a6 : FVec Ideal S1024 .f32) (a7 : FVec Ideal S1024x1024x3 .f32) (a8 : FVec Ideal S1024 .f32)
    (w1 : FVec Ideal S384x512 .f32) (b1 : FVec Ideal S1x512 .f32) (w2 : FVec Ideal S1536x512 .f32) (b2 : FVec Ideal S1x512 .f32)
    (w3 : FVec Ideal S1536x1024 .f32) (b3 : FVec Ideal S1x1024 .f32) (w4 : FVec Ideal S3072x1024 .f32) (b4 : FVec Ideal S1x1024 .f32)
    (hw1 : ∀ (j : Fin 3) (i : Fin 128) o, w1 (ix2 ⟨128 * (j : ℕ) + i, by omega⟩ o) = a1 (ix3 o i j)) (hb1 : ∀ o, b1 (ix2 0 o) = a2 (ix1 o))
    (hw2 : ∀ (j : Fin 3) (i : Fin 512) o, w2 (ix2 ⟨512 * (j : ℕ) + i, by omega⟩ o) = a3 (ix3 o i j)) (hb2 : ∀ o, b2 (ix2 0 o) = a4 (ix1 o))
    (hw3 : ∀ (j : Fin 3) (i : Fin 512) o, w3 (ix2 ⟨512 * (j : ℕ) + i, by omega⟩ o) = a5 (ix3 o i j)) (hb3 : ∀ o, b3 (ix2 0 o) = a6 (ix1 o))
    (hw4 : ∀ (j : Fin 3) (i : Fin 1024) o, w4 (ix2 ⟨1024 * (j : ℕ) + i, by omega⟩ o) = a7 (ix3 o i j)) (hb4 : ∀ o, b4 (ix2 0 o) = a8 (ix1 o))
    (t : Fin 150) (o : Fin 1024) :
    KerAt.conv4 (KerAt.conv3 (KerAt.conv2 (KerAt.conv1 x w1 b1) w2 b2) w3 b3) w4 b4 (ix2 t o)
      = Stage.layer4 (Stage.layer3 (Stage.layer2 (Stage.layer1 h a1 a2) a3 a4) a5 a6) a7 a8 (ix2 ⟨150 * (b : ℕ) + t, by omega⟩ o) := by
  have e1 : ∀ t o, KerAt.conv1 x w1 b1 (ix2 t o) = Stage.layer1 h a1 a2 (ix3 b o t) := fun t o => by
    rw [KerAt.conv1_at, RefAt.layer1_at]
    simp only [hx, hw1, hb1]
  have e2 : ∀ t o, KerAt.conv2 (KerAt.conv1 x w1 b1) w2 b2 (ix2 t o) = Stage.layer2 (Stage.layer1 h a1 a2) a3 a4 (ix3 b o t) := fun t o => by
    rw [KerAt.conv2_at, RefAt.layer2_at]
    simp only [e1, hw2, hb2]
  have e3 : ∀ t o, KerAt.conv3 (KerAt.conv2 (KerAt.conv1 x w1 b1) w2 b2) w3 b3 (ix2 t o)
      = Stage.layer3 (Stage.layer2 (Stage.layer1 h a1 a2) a3 a4) a5 a6 (ix3 b o t) := fun t o => by
    rw [KerAt.conv3_at, RefAt.layer3_at]
    simp only [e2, hw3, hb3]
  rw [KerAt.conv4_at, RefAt.layer4_at]
  simp only [e3, hw4, hb4]

end Cert.Lane

end
-- ==== Proof.Argmin.lean ====
/- The first index of the least value: the reference's fold over pairs, and the kernel's least index among those where
   the value is least. -/
module

public import proofs.«01_k».proof.Proof.Stages
public import proofs.«01_k».proof.Proof.KerAt
public import Idealize.ShloMosaic.Lib.Pointwise
public import Idealize.ShloMosaic.PureOps.Ideal
import Idealize.ShloMosaic.PureOps.Ideal.Laws
import Idealize.ShloMosaic.PureOps.Reduce

@[expose] public section

set_option maxRecDepth 16384

noncomputable section

namespace Cert.Argmin

open Idealize.ShloMosaic Idealize.ShloMosaic.TcCoe

/-- The pair of the smaller value, and of the smaller index where the values are equal. -/
theorem pick (a b : EReal × BitVec 32) :
    ReferenceIdeal.reducer_argmin_f32_i32 (F := Ideal) a b
      = if a.1 < b.1 ∨ (a.1 = b.1 ∧ a.2.toInt < b.2.toInt) then a else b := by
  obtain ⟨x, i⟩ := a
  obtain ⟨y, j⟩ := b
  unfold ReferenceIdeal.reducer_argmin_f32_i32
  show (_, _) = _
  have hs : IntOp.cmpi .slt i j = BitVec.ofBool (decide (i.toInt < j.toInt)) := rfl
  have h1 : FloatOps.cmpf (F := Ideal) (φ := .f32) .olt x y = BitVec.ofBool (decide (x < y)) := rfl
  have h2 : FloatOps.cmpf (F := Ideal) (φ := .f32) .une x x = BitVec.ofBool (decide (x ≠ x)) := rfl
  have h3 : FloatOps.cmpf (F := Ideal) (φ := .f32) .oeq x y = BitVec.ofBool (decide (x = y)) := rfl
  dsimp only
  rw [hs, h1, h2, h3]
  rcases lt_trichotomy x y with h | h | h
  · simp [h, h.ne, IntOp.ori, IntOp.andi, Scalar.select]
  · subst h
    by_cases hij : i.toInt < j.toInt <;> simp [hij, IntOp.ori, IntOp.andi, Scalar.select]
  · simp [h.not_gt, h.ne', IntOp.ori, IntOp.andi, Scalar.select]

/-- The fold of the pairs is one of them, and none comes before it. -/
theorem fold_pick (L : List (EReal × BitVec 32)) (a : EReal × BitVec 32) :
    L.foldl (ReferenceIdeal.reducer_argmin_f32_i32 (F := Ideal)) a ∈ a :: L ∧
      ∀ q ∈ a :: L, (L.foldl (ReferenceIdeal.reducer_argmin_f32_i32 (F := Ideal)) a).1 < q.1 ∨
        ((L.foldl (ReferenceIdeal.reducer_argmin_f32_i32 (F := Ideal)) a).1 = q.1 ∧
          (L.foldl (ReferenceIdeal.reducer_argmin_f32_i32 (F := Ideal)) a).2.toInt ≤ q.2.toInt) := by
  induction L generalizing a with
  | nil => simp
  | cons b L ih =>
    rw [List.foldl_cons]
    generalize hc : ReferenceIdeal.reducer_argmin_f32_i32 (F := Ideal) a b = c
    rw [pick] at hc
    obtain ⟨hm, hl⟩ := ih c
    generalize List.foldl (ReferenceIdeal.reducer_argmin_f32_i32 (F := Ideal)) c L = p at hm hl
    have hp := hl c (List.mem_cons_self ..)
    have hca : c = a ∨ c = b := by rw [← hc]; split <;> simp
    have ha : c.1 < a.1 ∨ (c.1 = a.1 ∧ c.2.toInt ≤ a.2.toInt) := by
      rw [← hc]; split
      · exact Or.inr ⟨rfl, le_rfl⟩
      · rename_i h
        rcases lt_trichotomy a.1 b.1 with h' | h' | h'
        · exact absurd (Or.inl h') h
        · exact Or.inr ⟨h'.symm, by by_contra hn; exact h (Or.inr ⟨h', by omega⟩)⟩
        · exact Or.inl h'
    have hb : c.1 < b.1 ∨ (c.1 = b.1 ∧ c.2.toInt ≤ b.2.toInt) := by
      rw [← hc]; split
      · rename_i h
        rcases h with h | h
        · exact Or.inl h
        · exact Or.inr ⟨h.1, h.2.le⟩
      · exact Or.inr ⟨rfl, le_rfl⟩
    have tr : ∀ q : EReal × BitVec 32, (c.1 < q.1 ∨ (c.1 = q.1 ∧ c.2.toInt ≤ q.2.toInt)) →
        (p.1 < q.1 ∨ (p.1 = q.1 ∧ p.2.toInt ≤ q.2.toInt)) := fun q hq => by
      rcases hp with h | ⟨h, h'⟩ <;> rcases hq with k | ⟨k, k'⟩
      · exact Or.inl (h.trans k)
      · exact Or.inl (k ▸ h)
      · exact Or.inl (h ▸ k)
      · exact Or.inr ⟨h.trans k, h'.trans k'⟩
    refine ⟨?_, fun q hq => ?_⟩
    · rcases List.mem_cons.1 hm with h | h
      · rcases hca with e | e <;> rw [h, e] <;> simp
      · simp [h]
    · rcases List.mem_cons.1 hq with rfl | hq
      · exact tr _ ha
      · rcases List.mem_cons.1 hq with rfl | hq
        · exact tr _ hb
        · exact hl q (List.mem_cons_of_mem _ hq)

/-- The word of infinity is the greatest extended real. -/
theorem word_top : Ideal.ofBits FTy.f32 2139095040#32 = ⊤ := by
  simp [Ideal.ofBits, Ideal.ieee]

/-- A column's word read as a signed integer is the column. -/
theorem toInt_ofNat {k : ℕ} (h : k < 6656) : (BitVec.ofNat 32 k).toInt = k := by
  rw [BitVec.toInt_ofNat']
  simp only [Int.bmod]
  omega

/-- The reference's index of row `r`: the values there are the least, and no smaller index has it. -/
theorem first_least (d : FVec Ideal ReferenceIdeal.S600x6561 .f32) (r : Fin 600) :
    ∃ k : Fin 6561, (Host.argReduce ReferenceIdeal.reducer_argmin_f32_i32 d (iotaInDim ReferenceIdeal.S600x6561 32 1)
        (constant (F := Ideal) ReferenceIdeal.S_ .f32 0x7F800000#32) (constantI ReferenceIdeal.S_ 32 0#32)
        ReferenceIdeal.Gen.reducesTo_S600x6561_S600_d1 ReferenceIdeal.Gen.h_S_ (ix1 r)).2 = BitVec.ofNat 32 k ∧
      (∀ x, d (ix2 r k) ≤ d (ix2 r x)) ∧ ∀ x, d (ix2 r x) = d (ix2 r k) → k ≤ x := by
  rw [Ideal.argReduce_eq_reduce2, Host.reduce2_eq_foldl_fiber]
  have hmem : ∀ q : EReal × BitVec 32, q ∈ Host.argReduceFiber (α := EReal) d (iotaInDim ReferenceIdeal.S600x6561 32 1)
      ReferenceIdeal.Gen.reducesTo_S600x6561_S600_d1 (ix1 r) ↔ ∃ k : Fin 6561, q = (d (ix2 r k), BitVec.ofNat 32 k) := fun q => by
    unfold Host.argReduceFiber
    simp only [List.mem_map, List.mem_filter, List.mem_finRange, true_and, decide_eq_true_eq]
    constructor
    · rintro ⟨n, hn, rfl⟩
      obtain ⟨k, hk⟩ := (Shape.ReducesTo.fiber_r2_a1 _ _ _).1 hn
      refine ⟨k, ?_⟩
      rw [← hk]
      rfl
    · rintro ⟨k, rfl⟩
      refine ⟨ReferenceIdeal.S600x6561.rowMajor (ix2 r k), ?_, ?_⟩
      · rw [Equiv.symm_apply_apply]
        exact (Shape.ReducesTo.fiber_r2_a1 _ _ _).2 ⟨k, rfl⟩
      · rw [Equiv.symm_apply_apply]
        rfl
  obtain ⟨hm, hl⟩ := fold_pick (Host.argReduceFiber (α := EReal) d (iotaInDim ReferenceIdeal.S600x6561 32 1)
    ReferenceIdeal.Gen.reducesTo_S600x6561_S600_d1 (ix1 r)) (⊤, 0#32)
  have hinit : ((constant (F := Ideal) ReferenceIdeal.S_ .f32 0x7F800000#32 (Shape.Idx.first ReferenceIdeal.Gen.h_S_),
      constantI ReferenceIdeal.S_ 32 0#32 (Shape.Idx.first ReferenceIdeal.Gen.h_S_)) : EReal × BitVec 32) = (⊤, 0#32) :=
    Prod.ext word_top rfl
  rw [hinit]
  generalize List.foldl (ReferenceIdeal.reducer_argmin_f32_i32 (F := Ideal)) (⊤, 0#32)
    (Host.argReduceFiber (α := EReal) d (iotaInDim ReferenceIdeal.S600x6561 32 1)
    ReferenceIdeal.Gen.reducesTo_S600x6561_S600_d1 (ix1 r)) = p at hm hl
  have key : ∃ k : Fin 6561, p = (d (ix2 r k), BitVec.ofNat 32 k) := by
    rcases List.mem_cons.1 hm with h | h
    · have h0 := hl _ (List.mem_cons_of_mem _ ((hmem _).2 ⟨0, rfl⟩))
      refine ⟨0, ?_⟩
      subst h
      rcases h0 with h0 | h0
      · exact absurd h0 not_top_lt
      · exact Prod.ext h0.1 rfl
    · exact (hmem _).1 h
  obtain ⟨k, rfl⟩ := key
  refine ⟨k, rfl, fun x => ?_, fun x hx => ?_⟩
  · rcases hl _ (List.mem_cons_of_mem _ ((hmem _).2 ⟨x, rfl⟩)) with h | h
    · exact h.le
    · exact h.1.le
  · rcases hl _ (List.mem_cons_of_mem _ ((hmem _).2 ⟨x, rfl⟩)) with h | h
    · exact absurd h (by rw [hx]; exact lt_irrefl _)
    · have := h.2
      dsimp only at this
      rw [toInt_ofNat (by omega), toInt_ofNat (by omega)] at this
      exact Fin.le_def.2 (by omega)

/-- The signed minimum of two words, read as integers, is the smaller integer. -/
theorem minsi_toInt (x y : BitVec 32) : (IntOp.minsi x y).toInt = min x.toInt y.toInt := by
  unfold IntOp.minsi BitVec.slt
  by_cases h : x.toInt < y.toInt
  · simp [h, h.le]
  · simp [h, not_lt.1 h]

/-- The kernel's index of row `r`, from the first index of the least value. -/
theorem least_of (D : FVec Ideal KernelIdeal.S150x6656 .f32) (r : Fin 150) (k : Fin 6656)
    (hmin : ∀ x, D (ix2 r k) ≤ D (ix2 r x)) (hfirst : ∀ x, D (ix2 r x) = D (ix2 r k) → k ≤ x) :
    KerAt.least D (ix1 r) = BitVec.ofNat 32 k := by
  have hm : Finset.fold min (Ideal.ofBits FTy.f32 2139095040#32) (fun x => D (ix2 r x)) Finset.univ = D (ix2 r k) := by
    refine le_antisymm (Finset.fold_min_le _ |>.2 (Or.inr ⟨k, Finset.mem_univ _, le_rfl⟩)) (Finset.le_fold_min _ |>.2 ⟨?_, fun x _ => hmin x⟩)
    rw [word_top]
    exact le_top
  rw [KerAt.least_at, hm]
  refine BitVec.eq_of_toInt_eq (le_antisymm ?_ ?_)
  · refine (Finset.fold_op_rel_iff_or (r := fun x y : BitVec 32 => y.toInt ≤ x.toInt) (fun {x y z} => ?_)).2
      (Or.inr ⟨k, Finset.mem_univ _, by rw [if_pos le_rfl]⟩)
    rw [minsi_toInt, min_le_iff]
  · refine (Finset.fold_op_rel_iff_and (r := fun x y : BitVec 32 => x.toInt ≤ y.toInt) (fun {x y z} => ?_)).2 ⟨?_, fun x _ => ?_⟩
    · rw [minsi_toInt, le_min_iff]
    · rw [toInt_ofNat k.isLt]
      have : (2147483647#32).toInt = 2147483647 := by decide
      omega
    · rw [toInt_ofNat k.isLt]
      split
      · rename_i h
        have := Fin.le_def.1 (hfirst x (le_antisymm h (hmin x)))
        rw [toInt_ofNat x.isLt]
        omega
      · have : (2147483647#32).toInt = 2147483647 := by decide
        omega

end Cert.Argmin

end
-- ==== Proof.Distances.lean ====
/- The distances of one lane against those of the reference, and the nearest code of each row. -/
module

public import proofs.«01_k».proof.Proof.Argmin
public import proofs.«01_k».proof.Proof.Scatters
public import proofs.«01_k».proof.Proof.RefAt

@[expose] public section

set_option maxRecDepth 16384

noncomputable section

namespace Cert.Distances

open Cert.KernelIdeal Cert.KernelIdeal.Gen Idealize.ShloMosaic Idealize.ShloMosaic.TcCoe

/-- The word of two. -/
theorem word_two : Ideal.ofBits FTy.f32 1073741824#32 = ((2 : ℝ) : EReal) := by
  simp [Ideal.ofBits, Ideal.ieee, -EReal.coe_mul]; norm_num

/-- The filling of the padded squared lengths is above the square of the bound. -/
theorem filling : (((10 : ℝ) ^ 15 * (10 : ℝ) ^ 15 : ℝ) : EReal) < Ideal.ofBits FTy.f32 1900671690#32 := by
  have : Ideal.ofBits FTy.f32 1900671690#32 = ((1000000015047466219876688855040 : ℝ) : EReal) := by
    simp [Ideal.ofBits, Ideal.ieee, -EReal.coe_mul]; norm_num
  rw [this, EReal.coe_lt_coe_iff]
  norm_num

/-- The bound is at most 10^15. -/
theorem bound : Ideal.ofBits FTy.f32 1482907561#32 ≤ (((10 : ℝ) ^ 15 : ℝ) : EReal) := by
  have : Ideal.ofBits FTy.f32 1482907561#32 = ((999999986991104 : ℝ) : EReal) := by
    simp [Ideal.ofBits, Ideal.ieee, -EReal.coe_mul]; norm_num
  rw [this, EReal.coe_le_coe_iff]
  norm_num

/-- A number is below a root if its square is below the number under the root. -/
theorem lt_sqrt {c : ℝ} (hc : 0 ≤ c) {x : EReal} (h : ((c * c : ℝ) : EReal) < x) : (c : EReal) < Ideal.sqrt x := by
  induction x with
  | bot => exact absurd h not_lt_bot
  | top => exact EReal.coe_lt_top c
  | coe r =>
    rw [EReal.coe_lt_coe_iff] at h
    show (c : EReal) < if r < 0 then (⊥ : EReal) else (Real.sqrt r : EReal)
    rw [if_neg (not_lt.2 ((mul_nonneg hc hc).trans h.le)), EReal.coe_lt_coe_iff]
    exact Real.lt_sqrt_of_sq_lt (by rw [sq]; exact h)

/-- A real factor that is not negative goes under a sum. -/
theorem mul_sum' {ι : Type} (s : Finset ι) {c : ℝ} (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- Row `t` of clip `b` is row 150 b + t. -/
theorem by_clip (f : IVec ReferenceIdeal.S600 32) (b : Fin 4) (t : Fin 150) :
    shapeCast ReferenceIdeal.S4x150 f ReferenceIdeal.Gen.shapeCasts_S600_S4x150 (ix2 b t) = f (ix1 ⟨150 * (b : ℕ) + t, by omega⟩) := by
  pointwise
  simp only [Nat.mul_comm (b : ℕ) 150]

section
variable (e : FVec Ideal S150x1024 .f32) (E : FVec Ideal ReferenceIdeal.S600x1024 .f32) (en : FVec Ideal S150x1 .f32)
  (cb : FVec Ideal S6561x1024 .f32) (b : Fin 4)

/-- A code's distance is the reference's. -/
theorem dist_same (he : ∀ (t : Fin 150) i, e (ix2 t i) = E (ix2 ⟨150 * (b : ℕ) + t, by omega⟩ i))
    (hen : ∀ t : Fin 150, en (ix2 t 0) = ∑ i, e (ix2 t i) * e (ix2 t i)) (t : Fin 150) (k : Fin 6561) :
    KerAt.dists e en (Scatters.norms cb) (Scatters.codes cb) (ix2 t ⟨k, by omega⟩)
      = Stage.dist E cb (ix2 ⟨150 * (b : ℕ) + t, by omega⟩ k) := by
  rw [KerAt.dists_at, RefAt.dist_at, Scatters.norms_at, dif_pos k.isLt, hen, word_two, mul_sum' _ (by norm_num)]
  refine congrArg (fun x : EReal => Ideal.sqrt (max x _)) ?_
  refine congrArg₂ (· - ·) (congrArg₂ (· + ·) (Finset.sum_congr rfl fun i _ => by rw [he]) rfl) (Finset.sum_congr rfl fun i _ => ?_)
  rw [Scatters.codes_at, dif_pos k.isLt, he, mul_assoc]

/-- A padded column's distance is above the bound. -/
theorem dist_pad (hen : ∀ t : Fin 150, en (ix2 t 0) = ∑ i, e (ix2 t i) * e (ix2 t i)) (t : Fin 150) (k : Fin 6656) (hk : ¬ (k : ℕ) < 6561) :
    Ideal.ofBits FTy.f32 1482907561#32 < KerAt.dists e en (Scatters.norms cb) (Scatters.codes cb) (ix2 t k) := by
  rw [KerAt.dists_at, Scatters.norms_at, dif_neg hk, hen]
  refine lt_of_le_of_lt bound (lt_sqrt (by norm_num) (lt_of_lt_of_le filling (le_max_of_le_left ?_)))
  have hz : ∑ i, e (ix2 t i) * Scatters.codes cb (ix2 i k) = 0 :=
    Finset.sum_eq_zero fun i _ => by rw [Scatters.codes_at, dif_neg hk, mul_zero]
  rw [hz, mul_zero, sub_zero]
  exact le_add_of_nonneg_left (Finset.sum_nonneg fun i _ => RefAt.sq_nonneg' _)

/-- The nearest code of each row of lane `b` is the reference's. -/
theorem nearest_same (he : ∀ (t : Fin 150) i, e (ix2 t i) = E (ix2 ⟨150 * (b : ℕ) + t, by omega⟩ i))
    (hen : ∀ t : Fin 150, en (ix2 t 0) = ∑ i, e (ix2 t i) * e (ix2 t i))
    (hr : ∀ r : Fin 600, Finset.fold min (Ideal.ofBits FTy.f32 2139095040#32) (fun x => Stage.dist E cb (ix2 r x)) Finset.univ
      ≤ Ideal.ofBits FTy.f32 1482907561#32) (t : Fin 150) :
    KerAt.least (KerAt.dists e en (Scatters.norms cb) (Scatters.codes cb)) (ix1 t) = Stage.nearest (Stage.dist E cb) (ix2 b t) := by
  obtain ⟨k, hk, hmin, hfirst⟩ := Argmin.first_least (Stage.dist E cb) ⟨150 * (b : ℕ) + t, by omega⟩
  have hn : Stage.nearest (Stage.dist E cb) (ix2 b t) = BitVec.ofNat 32 k := (by_clip _ b t).trans hk
  have hle : Stage.dist E cb (ix2 ⟨150 * (b : ℕ) + t, by omega⟩ k) ≤ Ideal.ofBits FTy.f32 1482907561#32 := by
    refine le_trans ?_ (hr ⟨150 * (b : ℕ) + t, by omega⟩)
    refine (Finset.le_fold_min _).2 ⟨?_, fun x _ => hmin x⟩
    rw [Argmin.word_top]
    exact le_top
  have hlt : ∀ x : Fin 6656, ¬ (x : ℕ) < 6561 → Stage.dist E cb (ix2 ⟨150 * (b : ℕ) + t, by omega⟩ k)
      < KerAt.dists e en (Scatters.norms cb) (Scatters.codes cb) (ix2 t x) := fun x hx =>
    lt_of_le_of_lt hle (dist_pad e en cb hen t x hx)
  rw [hn]
  refine Argmin.least_of _ t ⟨k, by omega⟩ (fun x => ?_) (fun x hx => ?_)
  · rw [dist_same e E en cb b he hen]
    by_cases h : (x : ℕ) < 6561
    · exact (hmin ⟨x, h⟩).trans_eq (dist_same e E en cb b he hen t ⟨x, h⟩).symm
    · exact (hlt x h).le
  · rw [dist_same e E en cb b he hen] at hx
    by_cases h : (x : ℕ) < 6561
    · exact hfirst ⟨x, h⟩ ((dist_same e E en cb b he hen t ⟨x, h⟩).symm.trans hx)
    · exact absurd hx (hlt x h).ne'

end

end Cert.Distances

end
-- ==== Proof.PreFacts.lean ====
/- The side conditions of the precondition's operations. -/
module

public import proofs.«01_k».proof.Pre_within_reach

@[expose] public section

set_option maxRecDepth 16384

namespace Cert

/-- The side conditions of the precondition. -/
theorem preFacts : Cert.Pre_within_reach.Facts := by constructor <;> decide

end Cert

end
-- ==== Proof.Pre.lean ====
/- The precondition in terms of the reference's distances: the least distance of each row is at most the bound. -/
module

public import proofs.«01_k».proof.Proof.Stages
public import proofs.«01_k».proof.Proof.PreFacts
public import Idealize.ShloMosaic.Lib.Pointwise
public import Idealize.ShloMosaic.PureOps.Ideal

@[expose] public section

set_option maxRecDepth 16384

noncomputable section

namespace Cert.Pre

open Cert.ReferenceIdeal Cert.ReferenceIdeal.Gen Idealize.ShloMosaic Idealize.ShloMosaic.TcCoe

/-- The precondition's tables are the reference's. -/
theorem lit0_eq : ∀ i, Pre_within_reach.lit0 i = lit0 i := by decide +kernel
theorem lit1_eq : ∀ i, Pre_within_reach.lit1 i = lit1 i := by decide +kernel
theorem lit2_eq : ∀ i, Pre_within_reach.lit2 i = lit2 i := by decide +kernel
theorem lit3_eq : ∀ i, Pre_within_reach.lit3 i = lit3 i := by decide +kernel
theorem lit4_eq : ∀ i, Pre_within_reach.lit4 i = lit4 i := by decide +kernel
theorem lit5_eq : ∀ i, Pre_within_reach.lit5 i = lit5 i := by decide +kernel
theorem lit6_eq : ∀ i, Pre_within_reach.lit6 i = lit6 i := by decide +kernel
theorem lit7_eq : ∀ i, Pre_within_reach.lit7 i = lit7 i := by decide +kernel

/-- The rows to encode, from the arguments and the two tables. -/
def rows (C S : FVec Ideal S400x201 .f32) (a0 : FVec Ideal S4x96000 .f32) (a1 : FVec Ideal S512x128x3 .f32) (a2 : FVec Ideal S512 .f32)
    (a3 : FVec Ideal S512x512x3 .f32) (a4 : FVec Ideal S512 .f32) (a5 : FVec Ideal S1024x512x3 .f32) (a6 : FVec Ideal S1024 .f32)
    (a7 : FVec Ideal S1024x1024x3 .f32) (a8 : FVec Ideal S1024 .f32) (a10 : FVec Ideal S128x201 .f32) (a11 : FVec Ideal S400 .f32) :
    FVec Ideal S600x1024 .f32 :=
  Stage.layer4 (Stage.layer3 (Stage.layer2 (Stage.layer1 (Stage.normMel (Stage.logMel (Stage.power (Stage.frames (Stage.reflectPad a0)
    Stage.frameIdx a11) C S) a10)) a1 a2) a3 a4) a5 a6) a7 a8

/-- The bound, one for each row: the word of 10^15. -/
def bound : FVec Ideal S600 .f32 := broadcastInDim S600 ![] (by decide) (constant (F := Ideal) S_ .f32 0x58635FA9#32)

/-- Whether the least distance of each row is at most the bound. -/
def within (d : FVec Ideal S600x6561 .f32) : IVec S600 1 :=
  cmpf .ole (Host.reduce FloatOps.minimumf d (constant (F := Ideal) S_ .f32 0x7F800000#32) reducesTo_S600x6561_S600_d1 h_S_)
    bound

/-- A comparison that holds, as an inequality. -/
theorem le_of_cmp {x y : EReal} (h : Ideal.cmp .ole x y = 1#1) : x ≤ y := by
  by_contra hn
  unfold Ideal.cmp at h
  dsimp only at h
  rw [decide_eq_false hn] at h
  exact absurd h (by decide)

/-- The least distance of a row. -/
theorem reduce_at (d : FVec Ideal S600x6561 .f32) (r : Fin 600) :
    Host.reduce FloatOps.minimumf d (constant (F := Ideal) S_ .f32 0x7F800000#32) reducesTo_S600x6561_S600_d1 h_S_ (ix1 r)
      = Finset.fold min (Ideal.ofBits FTy.f32 2139095040#32) (fun x => d (ix2 r x)) Finset.univ := by
  pointwise

/-- A comparison of two arrays that holds at an entry, as an inequality. -/
theorem le_at {s : Shape} (a b : FVec Ideal s .f32) (i : s.Idx) (h : cmpf .ole a b i = 1#1) : a i ≤ b i :=
  le_of_cmp h

/-- The bound is the same for every row. -/
theorem bound_at (r : Fin 600) : bound (ix1 r) = Ideal.ofBits FTy.f32 1482907561#32 := by
  pointwise [bound]

/-- Where the comparison holds, the least distance of the row is at most the bound. -/
theorem least_within (d : FVec Ideal S600x6561 .f32) (r : Fin 600) (h : within d (ix1 r) = 1#1) :
    Finset.fold min (Ideal.ofBits FTy.f32 2139095040#32) (fun x => d (ix2 r x)) Finset.univ ≤ Ideal.ofBits FTy.f32 1482907561#32 := by
  rw [← reduce_at, ← bound_at r]
  unfold within at h
  exact le_at _ _ _ h

attribute [local instance] preFacts

/-- The precondition, as the comparison of the least distances with the bound. -/
theorem fn_eq (a0 : FVec Ideal S4x96000 .f32) (a1 : FVec Ideal S512x128x3 .f32) (a2 : FVec Ideal S512 .f32)
    (a3 : FVec Ideal S512x512x3 .f32) (a4 : FVec Ideal S512 .f32) (a5 : FVec Ideal S1024x512x3 .f32) (a6 : FVec Ideal S1024 .f32)
    (a7 : FVec Ideal S1024x1024x3 .f32) (a8 : FVec Ideal S1024 .f32) (a9 : FVec Ideal S6561x1024 .f32) (a10 : FVec Ideal S128x201 .f32)
    (a11 : FVec Ideal S400 .f32) :
    Pre_within_reach.fn (F := Ideal) a0 a1 a2 a3 a4 a5 a6 a7 a8 a9 a10 a11 = within (Stage.dist (rows
      (Stage.cosWave (fun i => FloatOps.ofBits .f32 (Pre_within_reach.lit0 (S400.rowMajor i)))
        (fun i => FloatOps.ofBits .f32 (Pre_within_reach.lit1 (S1534.rowMajor i))) (fun i => Pre_within_reach.lit2 (S1534.rowMajor i))
        (constantI S1534 1 0#1) (fun i => Pre_within_reach.lit3 (S1534.rowMajor i)) (constantI S1534 1 0#1))
      (Stage.sinWave (fun i => FloatOps.ofBits .f32 (Pre_within_reach.lit4 (S400.rowMajor i)))
        (fun i => FloatOps.ofBits .f32 (Pre_within_reach.lit5 (S2388.rowMajor i))) (fun i => Pre_within_reach.lit6 (S2388.rowMajor i))
        (constantI S2388 1 0#1) (fun i => Pre_within_reach.lit7 (S2388.rowMajor i)) (constantI S2388 1 0#1))
      a0 a1 a2 a3 a4 a5 a6 a7 a8 a10 a11) a9) := by
  rfl

/-- The precondition's table of cosines is the reference's. -/
theorem cos_eq : Stage.cosWave (fun i => FloatOps.ofBits .f32 (Pre_within_reach.lit0 (S400.rowMajor i)))
    (fun i => FloatOps.ofBits .f32 (Pre_within_reach.lit1 (S1534.rowMajor i))) (fun i => Pre_within_reach.lit2 (S1534.rowMajor i))
    (constantI S1534 1 0#1) (fun i => Pre_within_reach.lit3 (S1534.rowMajor i)) (constantI S1534 1 0#1) = Stage.cosTable := by
  unfold Stage.cosTable
  rw [(funext fun i => congrArg _ (lit0_eq _) : (fun i => FloatOps.ofBits (F := Ideal) .f32 (Pre_within_reach.lit0 (S400.rowMajor i))) = Stage.turnCos),
    (funext fun i => congrArg _ (lit1_eq _) : (fun i => FloatOps.ofBits (F := Ideal) .f32 (Pre_within_reach.lit1 (S1534.rowMajor i))) = Stage.wordsCos),
    (funext fun i => lit2_eq _ : (fun i => Pre_within_reach.lit2 (S1534.rowMajor i)) = Stage.rowsCos),
    (funext fun i => lit3_eq _ : (fun i => Pre_within_reach.lit3 (S1534.rowMajor i)) = Stage.colsCos)]

/-- The precondition's table of sines is the reference's. -/
theorem sin_eq : Stage.sinWave (fun i => FloatOps.ofBits .f32 (Pre_within_reach.lit4 (S400.rowMajor i)))
    (fun i => FloatOps.ofBits .f32 (Pre_within_reach.lit5 (S2388.rowMajor i))) (fun i => Pre_within_reach.lit6 (S2388.rowMajor i))
    (constantI S2388 1 0#1) (fun i => Pre_within_reach.lit7 (S2388.rowMajor i)) (constantI S2388 1 0#1) = Stage.sinTable := by
  unfold Stage.sinTable
  rw [(funext fun i => congrArg _ (lit4_eq _) : (fun i => FloatOps.ofBits (F := Ideal) .f32 (Pre_within_reach.lit4 (S400.rowMajor i))) = Stage.turnSin),
    (funext fun i => congrArg _ (lit5_eq _) : (fun i => FloatOps.ofBits (F := Ideal) .f32 (Pre_within_reach.lit5 (S2388.rowMajor i))) = Stage.wordsSin),
    (funext fun i => lit6_eq _ : (fun i => Pre_within_reach.lit6 (S2388.rowMajor i)) = Stage.rowsSin),
    (funext fun i => lit7_eq _ : (fun i => Pre_within_reach.lit7 (S2388.rowMajor i)) = Stage.colsSin)]

/-- Under the precondition the least distance of every row is at most the bound. -/
theorem reached (a0 : FVec Ideal S4x96000 .f32) (a1 : FVec Ideal S512x128x3 .f32) (a2 : FVec Ideal S512 .f32)
    (a3 : FVec Ideal S512x512x3 .f32) (a4 : FVec Ideal S512 .f32) (a5 : FVec Ideal S1024x512x3 .f32) (a6 : FVec Ideal S1024 .f32)
    (a7 : FVec Ideal S1024x1024x3 .f32) (a8 : FVec Ideal S1024 .f32) (a9 : FVec Ideal S6561x1024 .f32) (a10 : FVec Ideal S128x201 .f32)
    (a11 : FVec Ideal S400 .f32)
    (h : Pre_within_reach.fn (F := Ideal) a0 a1 a2 a3 a4 a5 a6 a7 a8 a9 a10 a11 = fun _ => 1#1) (r : Fin 600) :
    Finset.fold min (Ideal.ofBits FTy.f32 2139095040#32)
      (fun x => Stage.dist (rows Stage.cosTable Stage.sinTable a0 a1 a2 a3 a4 a5 a6 a7 a8 a10 a11) a9 (ix2 r x)) Finset.univ
      ≤ Ideal.ofBits FTy.f32 1482907561#32 := by
  rw [fn_eq, cos_eq, sin_eq] at h
  exact least_within _ r (congrFun h (ix1 r))

end Cert.Pre

end
-- ==== Proof.Core.lean ====
/- What the kernel's body writes for one clip, from its blocks: the nearest codes of the clip's rows. -/
module

public import proofs.«01_k».proof.Proof.Lane
public import proofs.«01_k».proof.Proof.Distances
public import proofs.«01_k».proof.Proof.Pre
public import Idealize.ShloMosaic.Lib.Pointwise

@[expose] public section

set_option maxRecDepth 16384

noncomputable section

namespace Cert.Value

open Cert.KernelIdeal Cert.KernelIdeal.Gen Idealize.ShloMosaic Idealize.ShloMosaic.TcCoe

/-- A row of tokens as a block of one row. -/
theorem flat (f : IVec S150 32) (t : Fin 150) : shapeCast S1x1x150 f shapeCasts_S150_S1x1x150 (ix3 0 0 t) = f (ix1 t) := by
  pointwise

section
variable (C S : FVec Ideal S400x201 .f32) (a0 : FVec Ideal S4x96000 .f32) (a1 : FVec Ideal S512x128x3 .f32) (a2 : FVec Ideal S512 .f32)
  (a3 : FVec Ideal S512x512x3 .f32) (a4 : FVec Ideal S512 .f32) (a5 : FVec Ideal S1024x512x3 .f32) (a6 : FVec Ideal S1024 .f32)
  (a7 : FVec Ideal S1024x1024x3 .f32) (a8 : FVec Ideal S1024 .f32) (cb : FVec Ideal S6561x1024 .f32) (a10 : FVec Ideal S128x201 .f32)
  (a11 : FVec Ideal S400 .f32)

/-- What the body writes for lane `b`, from its blocks. -/
theorem core (b : Fin 4) (v0 : FVec Ideal S1x600x400 .f32) (v2 v5 : FVec Ideal S400x256 .f32) (v11 : FVec Ideal S256x128 .f32)
    (w1 : FVec Ideal S384x512 .f32) (b1 : FVec Ideal S1x512 .f32) (w2 : FVec Ideal S1536x512 .f32) (b2 : FVec Ideal S1x512 .f32)
    (w3 : FVec Ideal S1536x1024 .f32) (b3 : FVec Ideal S1x1024 .f32) (w4 : FVec Ideal S3072x1024 .f32) (b4 : FVec Ideal S1x1024 .f32)
    (cs : FVec Ideal S1024x6656 .f32) (ns : FVec Ideal S1x6656 .f32)
    (h0 : ∀ t n, v0 (ix3 0 t n) = Tables.framesOf (Stage.reflectPad a0) (ix3 b t n))
    (h2 : v2 = Host.windowed C a11) (h5 : v5 = Host.windowed S a11) (h11 : v11 = Scatters.melt a10)
    (hw1 : ∀ (j : Fin 3) (i : Fin 128) o, w1 (ix2 ⟨128 * (j : ℕ) + i, by omega⟩ o) = a1 (ix3 o i j)) (hb1 : ∀ o, b1 (ix2 0 o) = a2 (ix1 o))
    (hw2 : ∀ (j : Fin 3) (i : Fin 512) o, w2 (ix2 ⟨512 * (j : ℕ) + i, by omega⟩ o) = a3 (ix3 o i j)) (hb2 : ∀ o, b2 (ix2 0 o) = a4 (ix1 o))
    (hw3 : ∀ (j : Fin 3) (i : Fin 512) o, w3 (ix2 ⟨512 * (j : ℕ) + i, by omega⟩ o) = a5 (ix3 o i j)) (hb3 : ∀ o, b3 (ix2 0 o) = a6 (ix1 o))
    (hw4 : ∀ (j : Fin 3) (i : Fin 1024) o, w4 (ix2 ⟨1024 * (j : ℕ) + i, by omega⟩ o) = a7 (ix3 o i j)) (hb4 : ∀ o, b4 (ix2 0 o) = a8 (ix1 o))
    (hcs : cs = Scatters.codes cb) (hns : ns = Scatters.norms cb)
    (hr : ∀ r : Fin 600, Finset.fold min (Ideal.ofBits FTy.f32 2139095040#32)
      (fun x => Stage.dist (Pre.rows C S a0 a1 a2 a3 a4 a5 a6 a7 a8 a10 a11) cb (ix2 r x)) Finset.univ ≤ Ideal.ofBits FTy.f32 1482907561#32)
    (t : Fin 150) :
    k0_pay1 (F := Ideal) (k0_pay8 (F := Ideal) (k0_pay6 (F := Ideal) (k0_pay2 (F := Ideal) v0 v2 v5 v11) (k0_pay3 (F := Ideal) w1) (k0_pay4 (F := Ideal) v0 v2 v5 v11 w1) b1 w2 b2)
          (k0_pay7 (F := Ideal) (k0_pay2 (F := Ideal) v0 v2 v5 v11) (k0_pay3 (F := Ideal) w1) (k0_pay4 (F := Ideal) v0 v2 v5 v11 w1) b1 w2 b2) w3 b3 w4 b4)
        (k0_pay9 (F := Ideal) (k0_pay6 (F := Ideal) (k0_pay2 (F := Ideal) v0 v2 v5 v11) (k0_pay3 (F := Ideal) w1) (k0_pay4 (F := Ideal) v0 v2 v5 v11 w1) b1 w2 b2)
          (k0_pay7 (F := Ideal) (k0_pay2 (F := Ideal) v0 v2 v5 v11) (k0_pay3 (F := Ideal) w1) (k0_pay4 (F := Ideal) v0 v2 v5 v11 w1) b1 w2 b2) w3 b3 w4 b4) ns cs (ix3 0 0 t)
      = Stage.nearest (Stage.dist (Pre.rows C S a0 a1 a2 a3 a4 a5 a6 a7 a8 a10 a11) cb) (ix2 b t) := by
  rw [KerAt.least_eq, hcs, hns]
  refine (flat _ t).trans ?_
  refine Distances.nearest_same _ _ _ cb b (fun t i => ?_) (fun t => KerAt.norm_at _ _ _ _ _ _ _ rfl t) hr t
  rw [KerAt.layers_eq, Lane.pay3]
  refine Lane.rows _ _ b (fun t i => ?_) a1 a2 a3 a4 a5 a6 a7 a8 w1 b1 w2 b2 w3 b3 w4 b4 hw1 hb1 hw2 hb2 hw3 hb3 hw4 hb4 t i
  rw [h2, h5, h11]
  exact Lane.mel _ _ _ _ _ b v0 h0 t i

end

end Cert.Value

end
-- ==== Proof.Blocks.lean ====
/- The blocks of the region's windows: the first window's are the clips, the others' the whole arrays. -/
module

public import proofs.«01_k».proof.Proof.Gen.KernelIdeal.Frame
public import Idealize.ShloMosaic.Lib.Pipeline.ValueKit
public import Idealize.ShloMosaic.PureOps.Ideal

@[expose] public section

set_option maxRecDepth 16384

noncomputable section

namespace Cert.Value

open Cert.KernelIdeal Cert.KernelIdeal.Gen Idealize.ShloMosaic Idealize.ShloMosaic.TcCoe

/-- Where each window is at a grid point: the first and the last at the point's clip, the others at the origin. -/
theorem idx : ∀ t : Fin cfg0.N, win0_0.index t = ![t.val, 0, 0] ∧
    win0_1.index t = ![0, 0] ∧
    win0_2.index t = ![0, 0] ∧
    win0_3.index t = ![0, 0] ∧
    win0_4.index t = ![0, 0] ∧
    win0_5.index t = ![0, 0] ∧
    win0_6.index t = ![0, 0] ∧
    win0_7.index t = ![0, 0] ∧
    win0_8.index t = ![0, 0] ∧
    win0_9.index t = ![0, 0] ∧
    win0_10.index t = ![0, 0] ∧
    win0_11.index t = ![0, 0] ∧
    win0_12.index t = ![0, 0] ∧
    win0_13.index t = ![0, 0] ∧
    win0_14.index t = ![t.val, 0, 0] :=
  (by decide +kernel : ∀ t : Fin grid0.N, _)

/-- The block of the first window is the clip of the grid point. -/
theorem read0 (t : Fin cfg0.N) (X : FVec Ideal S4x600x400 .f32) (r : Fin 600) (n : Fin 400) :
    (((cfg0.win 0).blk t).view.read (Elt Ideal) X : FVec Ideal S1x600x400 .f32) (ix3 0 r n) = X (ix3 ⟨t, t.isLt⟩ r n) := by
  blk_simp []
  refine congrArg X ?_
  blk_ext! [idx t]

set_option maxHeartbeats 4000000 in
/-- The block of every other input window is the whole array. -/
theorem reads (t : Fin cfg0.N) :
    (∀ X : FVec Ideal S400x256 .f32, ((cfg0.win 1).blk t).view.read (Elt Ideal) X = X)
    ∧ (∀ X : FVec Ideal S400x256 .f32, ((cfg0.win 2).blk t).view.read (Elt Ideal) X = X)
    ∧ (∀ X : FVec Ideal S256x128 .f32, ((cfg0.win 3).blk t).view.read (Elt Ideal) X = X)
    ∧ (∀ X : FVec Ideal S384x512 .f32, ((cfg0.win 4).blk t).view.read (Elt Ideal) X = X)
    ∧ (∀ X : FVec Ideal S1x512 .f32, ((cfg0.win 5).blk t).view.read (Elt Ideal) X = X)
    ∧ (∀ X : FVec Ideal S1536x512 .f32, ((cfg0.win 6).blk t).view.read (Elt Ideal) X = X)
    ∧ (∀ X : FVec Ideal S1x512 .f32, ((cfg0.win 7).blk t).view.read (Elt Ideal) X = X)
    ∧ (∀ X : FVec Ideal S1536x1024 .f32, ((cfg0.win 8).blk t).view.read (Elt Ideal) X = X)
    ∧ (∀ X : FVec Ideal S1x1024 .f32, ((cfg0.win 9).blk t).view.read (Elt Ideal) X = X)
    ∧ (∀ X : FVec Ideal S3072x1024 .f32, ((cfg0.win 10).blk t).view.read (Elt Ideal) X = X)
    ∧ (∀ X : FVec Ideal S1x1024 .f32, ((cfg0.win 11).blk t).view.read (Elt Ideal) X = X)
    ∧ (∀ X : FVec Ideal S1024x6656 .f32, ((cfg0.win 12).blk t).view.read (Elt Ideal) X = X)
    ∧ (∀ X : FVec Ideal S1x6656 .f32, ((cfg0.win 13).blk t).view.read (Elt Ideal) X = X) := by
  refine ⟨?_, ?_, ?_, ?_, ?_, ?_, ?_, ?_, ?_, ?_, ?_, ?_, ?_⟩ <;>
  · intro X
    funext j
    blk_simp []
    refine congrArg X ?_
    blk_ext! [idx t]

section
variable (m : (ℓ : Loc nD τ sig) → Buf (Elt Ideal) ℓ) (c : Dev nD)

/-- The frames of the clip that a grid point reads. -/
theorem blk0 (t : Fin cfg0.N) (r : Fin 600) (n : Fin 400) :
    iblk m c 0 t (ix3 0 r n) = V m c main_v16 (ix3 ⟨t, t.isLt⟩ r n) := read0 t (V m c main_v16) r n

/-- What the other windows hold at a grid point: the whole arrays. -/
theorem blk1 (t : Fin cfg0.N) : iblk m c 1 t = V m c main_v42 := (reads t).1 (V m c main_v42)
theorem blk2 (t : Fin cfg0.N) : iblk m c 2 t = V m c main_v67 := (reads t).2.1 (V m c main_v67)
theorem blk3 (t : Fin cfg0.N) : iblk m c 3 t = V m c main_v71 := (reads t).2.2.1 (V m c main_v71)
theorem blk4 (t : Fin cfg0.N) : iblk m c 4 t = V m c main_v73 := (reads t).2.2.2.1 (V m c main_v73)
theorem blk5 (t : Fin cfg0.N) : iblk m c 5 t = V m c main_v91 := (reads t).2.2.2.2.1 (V m c main_v91)
theorem blk6 (t : Fin cfg0.N) : iblk m c 6 t = V m c main_v75 := (reads t).2.2.2.2.2.1 (V m c main_v75)
theorem blk7 (t : Fin cfg0.N) : iblk m c 7 t = V m c main_v92 := (reads t).2.2.2.2.2.2.1 (V m c main_v92)
theorem blk8 (t : Fin cfg0.N) : iblk m c 8 t = V m c main_v77 := (reads t).2.2.2.2.2.2.2.1 (V m c main_v77)
theorem blk9 (t : Fin cfg0.N) : iblk m c 9 t = V m c main_v93 := (reads t).2.2.2.2.2.2.2.2.1 (V m c main_v93)
theorem blk10 (t : Fin cfg0.N) : iblk m c 10 t = V m c main_v79 := (reads t).2.2.2.2.2.2.2.2.2.1 (V m c main_v79)
theorem blk11 (t : Fin cfg0.N) : iblk m c 11 t = V m c main_v94 := (reads t).2.2.2.2.2.2.2.2.2.2.1 (V m c main_v94)
theorem blk12 (t : Fin cfg0.N) : iblk m c 12 t = V m c main_v83 := (reads t).2.2.2.2.2.2.2.2.2.2.2.1 (V m c main_v83)
theorem blk13 (t : Fin cfg0.N) : iblk m c 13 t = V m c main_v90 := (reads t).2.2.2.2.2.2.2.2.2.2.2.2 (V m c main_v90)

end

end Cert.Value

end
-- ==== Proof.Value.lean ====
/- What the kernel's region leaves in its output array: for each clip the nearest codes of its rows. -/
module

public import proofs.«01_k».proof.Proof.Host
public import proofs.«01_k».proof.Proof.Core
public import proofs.«01_k».proof.Proof.Blocks
public import Idealize.ShloMosaic.Lib.Pipeline.ValueKit

@[expose] public section

set_option maxRecDepth 16384

noncomputable section

namespace Cert.Value

open Cert.KernelIdeal Cert.KernelIdeal.Gen Idealize.ShloMosaic Idealize.ShloMosaic.TcCoe

variable (m : (ℓ : Loc nD τ sig) → Buf (Elt Ideal) ℓ) (c : Dev nD)

/-- The tokens laid out as the region's output. -/
def laidOut (f : IVec ReferenceIdeal.S4x150 32) : IVec S4x1x150 32 := fun j => f (ix2 (j 0) (j 2))

/-- The laid-out tokens, entry by entry. -/
theorem laidOut_at (f : IVec ReferenceIdeal.S4x150 32) (b : Fin 4) (z : Fin 1) (t : Fin 150) : laidOut f (ix3 b z t) = f (ix2 b t) := rfl

/-- The output array, from what the body writes at each point. -/
theorem final_of (f : IVec ReferenceIdeal.S4x150 32)
    (hf : ∀ (b : Fin cfg0.N) (t : Fin 150), k0_pay1 (F := Ideal)
      (k0_pay8
        (k0_pay6 (k0_pay2 (iblk m c 0 b) (iblk m c 1 b) (iblk m c 2 b) (iblk m c 3 b)) (k0_pay3 (iblk m c 4 b))
          (k0_pay4 (iblk m c 0 b) (iblk m c 1 b) (iblk m c 2 b) (iblk m c 3 b) (iblk m c 4 b)) (iblk m c 5 b)
          (iblk m c 6 b) (iblk m c 7 b))
        (k0_pay7 (k0_pay2 (iblk m c 0 b) (iblk m c 1 b) (iblk m c 2 b) (iblk m c 3 b)) (k0_pay3 (iblk m c 4 b))
          (k0_pay4 (iblk m c 0 b) (iblk m c 1 b) (iblk m c 2 b) (iblk m c 3 b) (iblk m c 4 b)) (iblk m c 5 b)
          (iblk m c 6 b) (iblk m c 7 b))
        (iblk m c 8 b) (iblk m c 9 b) (iblk m c 10 b) (iblk m c 11 b))
      (k0_pay9
        (k0_pay6 (k0_pay2 (iblk m c 0 b) (iblk m c 1 b) (iblk m c 2 b) (iblk m c 3 b)) (k0_pay3 (iblk m c 4 b))
          (k0_pay4 (iblk m c 0 b) (iblk m c 1 b) (iblk m c 2 b) (iblk m c 3 b) (iblk m c 4 b)) (iblk m c 5 b)
          (iblk m c 6 b) (iblk m c 7 b))
        (k0_pay7 (k0_pay2 (iblk m c 0 b) (iblk m c 1 b) (iblk m c 2 b) (iblk m c 3 b)) (k0_pay3 (iblk m c 4 b))
          (k0_pay4 (iblk m c 0 b) (iblk m c 1 b) (iblk m c 2 b) (iblk m c 3 b) (iblk m c 4 b)) (iblk m c 5 b)
          (iblk m c 6 b) (iblk m c 7 b))
        (iblk m c 8 b) (iblk m c 9 b) (iblk m c 10 b) (iblk m c 11 b))
      (iblk m c 13 b) (iblk m c 12 b) (ix3 0 0 t) = f (ix2 ⟨b, b.isLt⟩ t)) :
    (dats m 0 c).arrAt 14 cfg0.N = laidOut f := by
  refine (dats m 0 c).arrAt_eq_of_covers 14 _ (by decide +kernel) fun t _ y => ?_
  blk_simp
  rw [after0_14]
  frame_out
  unfold k0_pay14 k0_pay13 k0_pay12 k0_pay11 k0_pay10
  frame_out
  have hy : y = ix3 0 0 (y 2) := by
    blk_ext! []
  have hj : ((View.whole main_v95).slice (win0_14.rect t)).emb y = ix3 ⟨t, t.isLt⟩ 0 (y 2) := by
    blk_ext! [idx t]
  rw [hj]
  refine Eq.trans (congrArg _ hy) ((hf t (y 2)).trans ?_)
  exact (laidOut_at f ⟨t, t.isLt⟩ 0 (y 2)).symm

/-- The tokens of the arguments, by the reference. -/
def tokens : IVec ReferenceIdeal.S4x150 32 :=
  Stage.nearest (Stage.dist (Pre.rows Stage.cosTable Stage.sinTable (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11))) (m ((c : Thread nD τ).loc main_arg9)))

/-- The output array holds the reference's tokens, where the least distances are within the bound. -/
theorem final (hr : ∀ r : Fin 600, Finset.fold min (Ideal.ofBits FTy.f32 2139095040#32)
      (fun x => Stage.dist (Pre.rows Stage.cosTable Stage.sinTable (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11))) (m ((c : Thread nD τ).loc main_arg9)) (ix2 r x)) Finset.univ
      ≤ Ideal.ofBits FTy.f32 1482907561#32) : (dats m 0 c).arrAt 14 cfg0.N = laidOut (tokens m c) := by
  unfold tokens
  refine final_of m c _ fun b t => ?_
  exact core Stage.cosTable Stage.sinTable (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) ⟨b, b.isLt⟩
    (iblk m c 0 b) (iblk m c 1 b) (iblk m c 2 b) (iblk m c 3 b) (iblk m c 4 b) (iblk m c 5 b) (iblk m c 6 b) (iblk m c 7 b) (iblk m c 8 b)
    (iblk m c 9 b) (iblk m c 10 b) (iblk m c 11 b) (iblk m c 12 b) (iblk m c 13 b)
    (fun r n => (blk0 m c b r n).trans (congrFun (Host.frames_eq m c) _))
    ((blk1 m c b).trans (Host.cos_eq m c)) ((blk2 m c b).trans (Host.sin_eq m c)) ((blk3 m c b).trans (Host.melt_eq m c))
    (fun j i o => (congrFun (blk4 m c b) _).trans (Host.w1_at m c j i o)) (fun o => (congrFun (blk5 m c b) _).trans (Host.b1_at m c o))
    (fun j i o => (congrFun (blk6 m c b) _).trans (Host.w2_at m c j i o)) (fun o => (congrFun (blk7 m c b) _).trans (Host.b2_at m c o))
    (fun j i o => (congrFun (blk8 m c b) _).trans (Host.w3_at m c j i o)) (fun o => (congrFun (blk9 m c b) _).trans (Host.b3_at m c o))
    (fun j i o => (congrFun (blk10 m c b) _).trans (Host.w4_at m c j i o)) (fun o => (congrFun (blk11 m c b) _).trans (Host.b4_at m c o))
    ((blk12 m c b).trans (Host.codes_eq m c)) ((blk13 m c b).trans (Host.norms_eq m c)) hr t

end Cert.Value

end
-- ==== Proof.KerRun.lean ====
/- What the kernel leaves in its result buffers: the tokens, read off the region's output array, and the lengths. -/
module

public import proofs.«01_k».proof.Proof.Value
public import Idealize.ShloMosaic.Lib.StableHlo.Run

@[expose] public section

set_option maxRecDepth 16384

noncomputable section

namespace Cert.KerRun

open Cert.KernelIdeal Cert.KernelIdeal.Gen Idealize.ShloMosaic Idealize.ShloMosaic.TcCoe Idealize.SL.Sem Idealize.ShloMosaic.StableHlo

/-- An array without its middle axis of one, entry by entry. -/
theorem squeeze (X : IVec S4x1x150 32) (b : Fin 4) (t : Fin 150) :
    shapeCast S4x150 X shapeCasts_S4x1x150_S4x150 (ix2 b t) = X (ix3 b 0 t) := by
  pointwise

/-- The region's output without its middle axis of one. -/
theorem flat_laidOut (f : IVec ReferenceIdeal.S4x150 32) : shapeCast S4x150 (Value.laidOut f) shapeCasts_S4x1x150_S4x150 = f := by
  funext j
  idx_vars j
  exact (squeeze _ j0 j1).trans (Value.laidOut_at f j0 0 j1)

/-- The lengths the kernel leaves. -/
def lens : IVec S4 32 := broadcastInDim S4 ![] bcast_S_S4 (constantI S_ 32 150#32)

/-- After the region the first result is its output array without the middle axis. -/
theorem tail_tokens (V : Valuation τ sig (Elt Ideal)) :
    after ([hostOps1 (F := Ideal)] : List (List (HloOp τ sig (Elt Ideal)))).flatten V (Proc.devRef .tc main_v96)
      = shapeCast S4x150 (V (Proc.devRef .tc main_v95) : IVec S4x1x150 32) shapeCasts_S4x1x150_S4x150 := by
  simp only [hostOps1, List.flatten_cons, List.flatten_nil, List.append_nil, after_cons, after_nil]
  after_results_simp
  all_goals rfl

/-- After the region the second result is the constant length. -/
theorem tail_lens (V : Valuation τ sig (Elt Ideal)) :
    after ([hostOps1 (F := Ideal)] : List (List (HloOp τ sig (Elt Ideal)))).flatten V (Proc.devRef .tc main_v97) = lens := by
  simp only [hostOps1, List.flatten_cons, List.flatten_nil, List.append_nil, after_cons, after_nil]
  after_results_simp
  all_goals rfl

variable (m : (ℓ : Loc nD τ sig) → Buf (Elt Ideal) ℓ) (ρ : Dev nD → PrngReg)

/-- The tokens, from what the region leaves in its output array. -/
theorem tokens_of (c : Dev nD) (f : IVec ReferenceIdeal.S4x150 32) (hf : (dats m 0 c).arrAt 14 cfg0.N = Value.laidOut f) :
    Pipeline.afterTail₀ cfgs (dats m) 0 (V0 m) [hostOps1] c main_v96 = f := by
  unfold Pipeline.afterTail₀
  refine (tail_tokens _).trans ?_
  refine Eq.trans (congrArg (fun X : IVec S4x1x150 32 => shapeCast S4x150 X shapeCasts_S4x1x150_S4x150) ?_) (flat_laidOut f)
  exact (Pipeline.withArrays_arr spec0 (by decide) c (V0 m c) (fun w => (dats m 0 c).arrAt w cfg0.N) 14).trans hf

/-- The lengths the kernel leaves. -/
theorem lens_of (c : Dev nD) : Pipeline.afterTail₀ cfgs (dats m) 0 (V0 m) [hostOps1] c main_v97 = lens := by
  unfold Pipeline.afterTail₀
  exact tail_lens _

/-- On every device, from any memory with zero counters: every weakly fair execution of the kernel ends with the tokens
    in its first result, the lengths in its second, its arguments unchanged. -/
theorem run (f : Dev nD → IVec ReferenceIdeal.S4x150 32) (hf : ∀ c, (dats m 0 c).arrAt 14 cfg0.N = Value.laidOut (f c)) :
    θ_run defs (onTc (τ := τ) (main (F := Ideal))) ⟨m, fun _ => 0, ρ⟩ fun r => ∀ c : Dev nD,
      r.2.mem ((c.tc : Thread nD τ).loc main_v96) = f c
      ∧ r.2.mem ((c.tc : Thread nD τ).loc main_v97) = lens
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨((h c).2 main_v96 (Pipeline.mem_restRefs_of main_v96 (by decide) (by decide))).trans (tokens_of m c (f c) (hf c)),
      ((h c).2 main_v97 (Pipeline.mem_restRefs_of main_v97 (by decide) (by decide))).trans (lens_of m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩)
    (run_main m ρ)

end Cert.KerRun

end
-- ==== Proof.Equal.lean ====
/- Under the precondition the kernel and the reference leave the same results. -/
module

public import proofs.«01_k».proof.Defs
public import proofs.«01_k».proof.Proof.KerRun
public import proofs.«01_k».proof.Proof.RefRun
public import Idealize.ShloMosaic.Lib.Quiescent

@[expose] public section

set_option maxRecDepth 16384

noncomputable section

namespace Cert.Equal

open Idealize.ShloMosaic Idealize.SL.Sem

attribute [local instance] preFacts

/-- Both programs leave the length 150 for every clip. -/
theorem lens_same : Stage.lens = KerRun.lens := by
  funext j
  revert j
  decide +kernel

/-- The reference's distances are those of its rows. -/
theorem refDist_eq (V : RefRun.Val) : RefRun.refDist V = Stage.dist
    (Pre.rows Stage.cosTable Stage.sinTable (V (RefRun.d ReferenceIdeal.main_arg0)) (V (RefRun.d ReferenceIdeal.main_arg1)) (V (RefRun.d ReferenceIdeal.main_arg2)) (V (RefRun.d ReferenceIdeal.main_arg3)) (V (RefRun.d ReferenceIdeal.main_arg4)) (V (RefRun.d ReferenceIdeal.main_arg5)) (V (RefRun.d ReferenceIdeal.main_arg6)) (V (RefRun.d ReferenceIdeal.main_arg7)) (V (RefRun.d ReferenceIdeal.main_arg8)) (V (RefRun.d ReferenceIdeal.main_arg10)) (V (RefRun.d ReferenceIdeal.main_arg11)))
    (V (RefRun.d ReferenceIdeal.main_arg9)) := by
  unfold RefRun.refDist Pre.rows
  rfl

/-- From equal arguments the reference leaves the kernel's tokens. -/
theorem tokens_same (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Stage.nearest (RefRun.refDist (StableHlo.launchContents m' c)) = Value.tokens m c := by
  obtain ⟨h0, h1, h2, h3, h4, h5, h6, h7, h8, h9, h10, h11⟩ := h
  rw [refDist_eq, show StableHlo.launchContents m' c (RefRun.d ReferenceIdeal.main_arg0) = m ((c.tc : Thread Cert.KernelIdeal.nD Cert.KernelIdeal.τ).loc Cert.KernelIdeal.main_arg0) from h0, show StableHlo.launchContents m' c (RefRun.d ReferenceIdeal.main_arg1) = m ((c.tc : Thread Cert.KernelIdeal.nD Cert.KernelIdeal.τ).loc Cert.KernelIdeal.main_arg1) from h1, show StableHlo.launchContents m' c (RefRun.d ReferenceIdeal.main_arg2) = m ((c.tc : Thread Cert.KernelIdeal.nD Cert.KernelIdeal.τ).loc Cert.KernelIdeal.main_arg2) from h2, show StableHlo.launchContents m' c (RefRun.d ReferenceIdeal.main_arg3) = m ((c.tc : Thread Cert.KernelIdeal.nD Cert.KernelIdeal.τ).loc Cert.KernelIdeal.main_arg3) from h3, show StableHlo.launchContents m' c (RefRun.d ReferenceIdeal.main_arg4) = m ((c.tc : Thread Cert.KernelIdeal.nD Cert.KernelIdeal.τ).loc Cert.KernelIdeal.main_arg4) from h4, show StableHlo.launchContents m' c (RefRun.d ReferenceIdeal.main_arg5) = m ((c.tc : Thread Cert.KernelIdeal.nD Cert.KernelIdeal.τ).loc Cert.KernelIdeal.main_arg5) from h5, show StableHlo.launchContents m' c (RefRun.d ReferenceIdeal.main_arg6) = m ((c.tc : Thread Cert.KernelIdeal.nD Cert.KernelIdeal.τ).loc Cert.KernelIdeal.main_arg6) from h6, show StableHlo.launchContents m' c (RefRun.d ReferenceIdeal.main_arg7) = m ((c.tc : Thread Cert.KernelIdeal.nD Cert.KernelIdeal.τ).loc Cert.KernelIdeal.main_arg7) from h7, show StableHlo.launchContents m' c (RefRun.d ReferenceIdeal.main_arg8) = m ((c.tc : Thread Cert.KernelIdeal.nD Cert.KernelIdeal.τ).loc Cert.KernelIdeal.main_arg8) from h8, show StableHlo.launchContents m' c (RefRun.d ReferenceIdeal.main_arg9) = m ((c.tc : Thread Cert.KernelIdeal.nD Cert.KernelIdeal.τ).loc Cert.KernelIdeal.main_arg9) from h9, show StableHlo.launchContents m' c (RefRun.d ReferenceIdeal.main_arg10) = m ((c.tc : Thread Cert.KernelIdeal.nD Cert.KernelIdeal.τ).loc Cert.KernelIdeal.main_arg10) from h10, show StableHlo.launchContents m' c (RefRun.d ReferenceIdeal.main_arg11) = m ((c.tc : Thread Cert.KernelIdeal.nD Cert.KernelIdeal.τ).loc Cert.KernelIdeal.main_arg11) from h11]
  rfl

/-- The two programs leave the same tokens and the same lengths. -/
theorem algebraic : Cert.algebraic_KernelIdeal_ReferenceIdeal_pre_within_reach := fun m g m' g' hp h =>
  ⟨fun c => Value.tokens m c, fun _ => KerRun.lens,
    KerRun.run m g (fun c => Value.tokens m c) fun c => Value.final m c (Pre.reached _ _ _ _ _ _ _ _ _ _ _ _ (hp c)),
    (θ_run ReferenceIdeal.defs _ _).mono (fun _ hr c => ⟨(hr c).1.trans (tokens_same m m' c (h c)), (hr c).2.1.trans lens_same, (hr c).2.2⟩)
      (RefRun.run m' g')⟩

end Cert.Equal

end
-- ==== Proof.lean ====
/- The certificate's claims, assembled from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

/-- All the claims of the certificate. -/
theorem claim : Cert.Claim := ⟨Cert.Kernel.Gen.facts, Cert.KernelIdeal.Gen.facts, Cert.ReferenceIdeal.Gen.facts, preFacts,
  Frames.kernel, Frames.kernelIdeal, fun m ρ _ => Frames.kernelIdeal m ρ trivial, Frames.referenceIdeal,
  fun m ρ _ => Frames.referenceIdeal m ρ trivial, Frames.preserves, Equal.algebraic⟩

end Cert.Proof

end
